-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_DownX (m : (ℓ : Loc Cert.DownX.nD Cert.DownX.τ Cert.DownX.sig) → Buf (Elt Bits) ℓ) : Prop :=
  True

def Pre_DownXIdeal (m : (ℓ : Loc Cert.DownXIdeal.nD Cert.DownXIdeal.τ Cert.DownXIdeal.sig) → Buf (Elt Ideal) ℓ) : Prop :=
  True

def Pre_DownXReferenceIdeal (m : (ℓ : Loc Cert.DownXReferenceIdeal.nD Cert.DownXReferenceIdeal.τ Cert.DownXReferenceIdeal.sig) → Buf (Elt Ideal) ℓ) : Prop :=
  True

def Pre_DownW (m : (ℓ : Loc Cert.DownW.nD Cert.DownW.τ Cert.DownW.sig) → Buf (Elt Bits) ℓ) : Prop :=
  True

def Pre_DownWIdeal (m : (ℓ : Loc Cert.DownWIdeal.nD Cert.DownWIdeal.τ Cert.DownWIdeal.sig) → Buf (Elt Ideal) ℓ) : Prop :=
  True

def Pre_DownWReferenceIdeal (m : (ℓ : Loc Cert.DownWReferenceIdeal.nD Cert.DownWReferenceIdeal.τ Cert.DownWReferenceIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXReferenceIdeal (m : (ℓ : Loc Cert.UpXReferenceIdeal.nD Cert.UpXReferenceIdeal.τ Cert.UpXReferenceIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWReferenceIdeal (m : (ℓ : Loc Cert.UpWReferenceIdeal.nD Cert.UpWReferenceIdeal.τ Cert.UpWReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_InXQkv (m : (ℓ : Loc Cert.InXQkv.nD Cert.InXQkv.τ Cert.InXQkv.sig) → Buf (Elt Bits) ℓ) : Prop :=
  True

def Pre_InXQkvIdeal (m : (ℓ : Loc Cert.InXQkvIdeal.nD Cert.InXQkvIdeal.τ Cert.InXQkvIdeal.sig) → Buf (Elt Ideal) ℓ) : Prop :=
  True

def Pre_InXQkvReferenceIdeal (m : (ℓ : Loc Cert.InXQkvReferenceIdeal.nD Cert.InXQkvReferenceIdeal.τ Cert.InXQkvReferenceIdeal.sig) → Buf (Elt Ideal) ℓ) : Prop :=
  True

def Pre_InXZ (m : (ℓ : Loc Cert.InXZ.nD Cert.InXZ.τ Cert.InXZ.sig) → Buf (Elt Bits) ℓ) : Prop :=
  True

def Pre_InXZIdeal (m : (ℓ : Loc Cert.InXZIdeal.nD Cert.InXZIdeal.τ Cert.InXZIdeal.sig) → Buf (Elt Ideal) ℓ) : Prop :=
  True

def Pre_InXZReferenceIdeal (m : (ℓ : Loc Cert.InXZReferenceIdeal.nD Cert.InXZReferenceIdeal.τ Cert.InXZReferenceIdeal.sig) → Buf (Elt Ideal) ℓ) : Prop :=
  True

def Pre_InXXbc (m : (ℓ : Loc Cert.InXXbc.nD Cert.InXXbc.τ Cert.InXXbc.sig) → Buf (Elt Bits) ℓ) : Prop :=
  True

def Pre_InXXbcIdeal (m : (ℓ : Loc Cert.InXXbcIdeal.nD Cert.InXXbcIdeal.τ Cert.InXXbcIdeal.sig) → Buf (Elt Ideal) ℓ) : Prop :=
  True

def Pre_InXXbcReferenceIdeal (m : (ℓ : Loc Cert.InXXbcReferenceIdeal.nD Cert.InXXbcReferenceIdeal.τ Cert.InXXbcReferenceIdeal.sig) → Buf (Elt Ideal) ℓ) : Prop :=
  True

def Pre_InXMq (m : (ℓ : Loc Cert.InXMq.nD Cert.InXMq.τ Cert.InXMq.sig) → Buf (Elt Bits) ℓ) : Prop :=
  True

def Pre_InXMqIdeal (m : (ℓ : Loc Cert.InXMqIdeal.nD Cert.InXMqIdeal.τ Cert.InXMqIdeal.sig) → Buf (Elt Ideal) ℓ) : Prop :=
  True

def Pre_InXMqReferenceIdeal (m : (ℓ : Loc Cert.InXMqReferenceIdeal.nD Cert.InXMqReferenceIdeal.τ Cert.InXMqReferenceIdeal.sig) → Buf (Elt Ideal) ℓ) : Prop :=
  True

def Pre_InXGl (m : (ℓ : Loc Cert.InXGl.nD Cert.InXGl.τ Cert.InXGl.sig) → Buf (Elt Bits) ℓ) : Prop :=
  True

def Pre_InXGlIdeal (m : (ℓ : Loc Cert.InXGlIdeal.nD Cert.InXGlIdeal.τ Cert.InXGlIdeal.sig) → Buf (Elt Ideal) ℓ) : Prop :=
  True

def Pre_InXGlReferenceIdeal (m : (ℓ : Loc Cert.InXGlReferenceIdeal.nD Cert.InXGlReferenceIdeal.τ Cert.InXGlReferenceIdeal.sig) → Buf (Elt Ideal) ℓ) : Prop :=
  True

def Pre_InWQkv (m : (ℓ : Loc Cert.InWQkv.nD Cert.InWQkv.τ Cert.InWQkv.sig) → Buf (Elt Bits) ℓ) : Prop :=
  True

def Pre_InWQkvIdeal (m : (ℓ : Loc Cert.InWQkvIdeal.nD Cert.InWQkvIdeal.τ Cert.InWQkvIdeal.sig) → Buf (Elt Ideal) ℓ) : Prop :=
  True

def Pre_InWQkvReferenceIdeal (m : (ℓ : Loc Cert.InWQkvReferenceIdeal.nD Cert.InWQkvReferenceIdeal.τ Cert.InWQkvReferenceIdeal.sig) → Buf (Elt Ideal) ℓ) : Prop :=
  True

def Pre_InWZ (m : (ℓ : Loc Cert.InWZ.nD Cert.InWZ.τ Cert.InWZ.sig) → Buf (Elt Bits) ℓ) : Prop :=
  True

def Pre_InWZIdeal (m : (ℓ : Loc Cert.InWZIdeal.nD Cert.InWZIdeal.τ Cert.InWZIdeal.sig) → Buf (Elt Ideal) ℓ) : Prop :=
  True

def Pre_InWZReferenceIdeal (m : (ℓ : Loc Cert.InWZReferenceIdeal.nD Cert.InWZReferenceIdeal.τ Cert.InWZReferenceIdeal.sig) → Buf (Elt Ideal) ℓ) : Prop :=
  True

def Pre_InWXbc (m : (ℓ : Loc Cert.InWXbc.nD Cert.InWXbc.τ Cert.InWXbc.sig) → Buf (Elt Bits) ℓ) : Prop :=
  True

def Pre_InWXbcIdeal (m : (ℓ : Loc Cert.InWXbcIdeal.nD Cert.InWXbcIdeal.τ Cert.InWXbcIdeal.sig) → Buf (Elt Ideal) ℓ) : Prop :=
  True

def Pre_InWXbcReferenceIdeal (m : (ℓ : Loc Cert.InWXbcReferenceIdeal.nD Cert.InWXbcReferenceIdeal.τ Cert.InWXbcReferenceIdeal.sig) → Buf (Elt Ideal) ℓ) : Prop :=
  True

def Pre_InWMq (m : (ℓ : Loc Cert.InWMq.nD Cert.InWMq.τ Cert.InWMq.sig) → Buf (Elt Bits) ℓ) : Prop :=
  True

def Pre_InWMqIdeal (m : (ℓ : Loc Cert.InWMqIdeal.nD Cert.InWMqIdeal.τ Cert.InWMqIdeal.sig) → Buf (Elt Ideal) ℓ) : Prop :=
  True

def Pre_InWMqReferenceIdeal (m : (ℓ : Loc Cert.InWMqReferenceIdeal.nD Cert.InWMqReferenceIdeal.τ Cert.InWMqReferenceIdeal.sig) → Buf (Elt Ideal) ℓ) : Prop :=
  True

def Pre_InWGl (m : (ℓ : Loc Cert.InWGl.nD Cert.InWGl.τ Cert.InWGl.sig) → Buf (Elt Bits) ℓ) : Prop :=
  True

def Pre_InWGlIdeal (m : (ℓ : Loc Cert.InWGlIdeal.nD Cert.InWGlIdeal.τ Cert.InWGlIdeal.sig) → Buf (Elt Ideal) ℓ) : Prop :=
  True

def Pre_InWGlReferenceIdeal (m : (ℓ : Loc Cert.InWGlReferenceIdeal.nD Cert.InWGlReferenceIdeal.τ Cert.InWGlReferenceIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvReferenceIdeal (m : (ℓ : Loc Cert.InQkvReferenceIdeal.nD Cert.InQkvReferenceIdeal.τ Cert.InQkvReferenceIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZReferenceIdeal (m : (ℓ : Loc Cert.InZReferenceIdeal.nD Cert.InZReferenceIdeal.τ Cert.InZReferenceIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcReferenceIdeal (m : (ℓ : Loc Cert.InXbcReferenceIdeal.nD Cert.InXbcReferenceIdeal.τ Cert.InXbcReferenceIdeal.sig) → Buf (Elt Ideal) ℓ) : Prop :=
  True

def Pre_InMq (m : (ℓ : Loc Cert.InMq.nD Cert.InMq.τ Cert.InMq.sig) → Buf (Elt Bits) ℓ) : Prop :=
  True

def Pre_InMqIdeal (m : (ℓ : Loc Cert.InMqIdeal.nD Cert.InMqIdeal.τ Cert.InMqIdeal.sig) → Buf (Elt Ideal) ℓ) : Prop :=
  True

def Pre_InMqReferenceIdeal (m : (ℓ : Loc Cert.InMqReferenceIdeal.nD Cert.InMqReferenceIdeal.τ Cert.InMqReferenceIdeal.sig) → Buf (Elt Ideal) ℓ) : Prop :=
  True

def Pre_InGl (m : (ℓ : Loc Cert.InGl.nD Cert.InGl.τ Cert.InGl.sig) → Buf (Elt Bits) ℓ) : Prop :=
  True

def Pre_InGlIdeal (m : (ℓ : Loc Cert.InGlIdeal.nD Cert.InGlIdeal.τ Cert.InGlIdeal.sig) → Buf (Elt Ideal) ℓ) : Prop :=
  True

def Pre_InGlReferenceIdeal (m : (ℓ : Loc Cert.InGlReferenceIdeal.nD Cert.InGlReferenceIdeal.τ Cert.InGlReferenceIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXReferenceIdeal (m : (ℓ : Loc Cert.OutXReferenceIdeal.nD Cert.OutXReferenceIdeal.τ Cert.OutXReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_MemOutX (m : (ℓ : Loc Cert.MemOutX.nD Cert.MemOutX.τ Cert.MemOutX.sig) → Buf (Elt Bits) ℓ) : Prop :=
  True

def Pre_MemOutXIdeal (m : (ℓ : Loc Cert.MemOutXIdeal.nD Cert.MemOutXIdeal.τ Cert.MemOutXIdeal.sig) → Buf (Elt Ideal) ℓ) : Prop :=
  True

def Pre_MemOutXReferenceIdeal (m : (ℓ : Loc Cert.MemOutXReferenceIdeal.nD Cert.MemOutXReferenceIdeal.τ Cert.MemOutXReferenceIdeal.sig) → Buf (Elt Ideal) ℓ) : Prop :=
  True

def Pre_SsdOutX (m : (ℓ : Loc Cert.SsdOutX.nD Cert.SsdOutX.τ Cert.SsdOutX.sig) → Buf (Elt Bits) ℓ) : Prop :=
  True

def Pre_SsdOutXIdeal (m : (ℓ : Loc Cert.SsdOutXIdeal.nD Cert.SsdOutXIdeal.τ Cert.SsdOutXIdeal.sig) → Buf (Elt Ideal) ℓ) : Prop :=
  True

def Pre_SsdOutXReferenceIdeal (m : (ℓ : Loc Cert.SsdOutXReferenceIdeal.nD Cert.SsdOutXReferenceIdeal.τ Cert.SsdOutXReferenceIdeal.sig) → Buf (Elt Ideal) ℓ) : Prop :=
  True

def Pre_SsdOutW (m : (ℓ : Loc Cert.SsdOutW.nD Cert.SsdOutW.τ Cert.SsdOutW.sig) → Buf (Elt Bits) ℓ) : Prop :=
  True

def Pre_SsdOutWIdeal (m : (ℓ : Loc Cert.SsdOutWIdeal.nD Cert.SsdOutWIdeal.τ Cert.SsdOutWIdeal.sig) → Buf (Elt Ideal) ℓ) : Prop :=
  True

def Pre_SsdOutWReferenceIdeal (m : (ℓ : Loc Cert.SsdOutWReferenceIdeal.nD Cert.SsdOutWReferenceIdeal.τ Cert.SsdOutWReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_MemKvX (m : (ℓ : Loc Cert.MemKvX.nD Cert.MemKvX.τ Cert.MemKvX.sig) → Buf (Elt Bits) ℓ) : Prop :=
  True

def Pre_MemKvXIdeal (m : (ℓ : Loc Cert.MemKvXIdeal.nD Cert.MemKvXIdeal.τ Cert.MemKvXIdeal.sig) → Buf (Elt Ideal) ℓ) : Prop :=
  True

def Pre_MemKvXReferenceIdeal (m : (ℓ : Loc Cert.MemKvXReferenceIdeal.nD Cert.MemKvXReferenceIdeal.τ Cert.MemKvXReferenceIdeal.sig) → Buf (Elt Ideal) ℓ) : Prop :=
  True

def Pre_MemKvW (m : (ℓ : Loc Cert.MemKvW.nD Cert.MemKvW.τ Cert.MemKvW.sig) → Buf (Elt Bits) ℓ) : Prop :=
  True

def Pre_MemKvWIdeal (m : (ℓ : Loc Cert.MemKvWIdeal.nD Cert.MemKvWIdeal.τ Cert.MemKvWIdeal.sig) → Buf (Elt Ideal) ℓ) : Prop :=
  True

def Pre_MemKvWReferenceIdeal (m : (ℓ : Loc Cert.MemKvWReferenceIdeal.nD Cert.MemKvWReferenceIdeal.τ Cert.MemKvWReferenceIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvReferenceIdeal (m : (ℓ : Loc Cert.MemKvReferenceIdeal.nD Cert.MemKvReferenceIdeal.τ Cert.MemKvReferenceIdeal.sig) → Buf (Elt Ideal) ℓ) : Prop :=
  True

def Pre_InXDt (m : (ℓ : Loc Cert.InXDt.nD Cert.InXDt.τ Cert.InXDt.sig) → Buf (Elt Bits) ℓ) : Prop :=
  True

def Pre_InXDtIdeal (m : (ℓ : Loc Cert.InXDtIdeal.nD Cert.InXDtIdeal.τ Cert.InXDtIdeal.sig) → Buf (Elt Ideal) ℓ) : Prop :=
  True

def Pre_InXDtReferenceIdeal (m : (ℓ : Loc Cert.InXDtReferenceIdeal.nD Cert.InXDtReferenceIdeal.τ Cert.InXDtReferenceIdeal.sig) → Buf (Elt Ideal) ℓ) : Prop :=
  True

def Pre_InWDt (m : (ℓ : Loc Cert.InWDt.nD Cert.InWDt.τ Cert.InWDt.sig) → Buf (Elt Bits) ℓ) : Prop :=
  True

def Pre_InWDtIdeal (m : (ℓ : Loc Cert.InWDtIdeal.nD Cert.InWDtIdeal.τ Cert.InWDtIdeal.sig) → Buf (Elt Ideal) ℓ) : Prop :=
  True

def Pre_InWDtReferenceIdeal (m : (ℓ : Loc Cert.InWDtReferenceIdeal.nD Cert.InWDtReferenceIdeal.τ Cert.InWDtReferenceIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtReferenceIdeal (m : (ℓ : Loc Cert.InDtReferenceIdeal.nD Cert.InDtReferenceIdeal.τ Cert.InDtReferenceIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdReferenceIdeal (m : (ℓ : Loc Cert.MemFwdReferenceIdeal.nD Cert.MemFwdReferenceIdeal.τ Cert.MemFwdReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_forward_finite [hPre_forward_finite : Cert.Pre_forward_finite.Facts] (m : (ℓ : Loc Cert.FwdIdeal.nD Cert.FwdIdeal.τ Cert.FwdIdeal.sig) → Buf (Elt Ideal) ℓ) : Prop :=
  ∀ c : Dev Cert.FwdIdeal.nD,
    (Cert.Pre_forward_finite.fn (F := Ideal) (m ((c.tc : Thread Cert.FwdIdeal.nD Cert.FwdIdeal.τ).loc Cert.FwdIdeal.main_arg0))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_forward_finite [hPre_forward_finite : Cert.Pre_forward_finite.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_forward_finite.fn (F := Ideal) (m ((c.tc : Thread Cert.FwdReferenceIdeal.nD Cert.FwdReferenceIdeal.τ).loc Cert.FwdReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_DownX [hDownX : Cert.DownX.Facts] : Prop :=
  ∀ (m : (ℓ : Loc Cert.DownX.nD Cert.DownX.τ Cert.DownX.sig) → Buf (Elt Bits) ℓ) (g : Dev Cert.DownX.nD → PrngReg), Pre_DownX m →
    θ_run (Cert.DownX.defs (F := Bits)) (onTc (τ := Cert.DownX.τ) (Cert.DownX.main (F := Bits))) ⟨m, fun _ => 0, g⟩ (fun r => (∀ c : Dev Cert.DownX.nD,
      r.2.mem ((c.tc : Thread Cert.DownX.nD Cert.DownX.τ).loc Cert.DownX.main_arg0) = m ((c.tc : Thread Cert.DownX.nD Cert.DownX.τ).loc Cert.DownX.main_arg0)
      ∧ r.2.mem ((c.tc : Thread Cert.DownX.nD Cert.DownX.τ).loc Cert.DownX.main_arg1) = m ((c.tc : Thread Cert.DownX.nD Cert.DownX.τ).loc Cert.DownX.main_arg1)
      ∧ r.2.mem ((c.tc : Thread Cert.DownX.nD Cert.DownX.τ).loc Cert.DownX.main_arg2) = m ((c.tc : Thread Cert.DownX.nD Cert.DownX.τ).loc Cert.DownX.main_arg2))
      ∧ r.2.sem = fun _ => 0)

def quiescent_DownXIdeal [hDownXIdeal : Cert.DownXIdeal.Facts] : Prop :=
  ∀ (m : (ℓ : Loc Cert.DownXIdeal.nD Cert.DownXIdeal.τ Cert.DownXIdeal.sig) → Buf (Elt Ideal) ℓ) (g : Dev Cert.DownXIdeal.nD → PrngReg), Pre_DownXIdeal m →
    θ_run (Cert.DownXIdeal.defs (F := Ideal)) (onTc (τ := Cert.DownXIdeal.τ) (Cert.DownXIdeal.main (F := Ideal))) ⟨m, fun _ => 0, g⟩ (fun r => (∀ c : Dev Cert.DownXIdeal.nD,
      r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
      ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
      ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ r.2.sem = fun _ => 0)

def quiescent_DownXReferenceIdeal [hDownXReferenceIdeal : Cert.DownXReferenceIdeal.Facts] : Prop :=
  ∀ (m : (ℓ : Loc Cert.DownXReferenceIdeal.nD Cert.DownXReferenceIdeal.τ Cert.DownXReferenceIdeal.sig) → Buf (Elt Ideal) ℓ) (g : Dev Cert.DownXReferenceIdeal.nD → PrngReg), Pre_DownXReferenceIdeal m →
    θ_run (Cert.DownXReferenceIdeal.defs (F := Ideal)) (onTc (τ := Cert.DownXReferenceIdeal.τ) (Cert.DownXReferenceIdeal.main (F := Ideal))) ⟨m, fun _ => 0, g⟩ (fun r => (∀ c : Dev Cert.DownXReferenceIdeal.nD,
      r.2.mem ((c.tc : Thread Cert.DownXReferenceIdeal.nD Cert.DownXReferenceIdeal.τ).loc Cert.DownXReferenceIdeal.main_arg0) = m ((c.tc : Thread Cert.DownXReferenceIdeal.nD Cert.DownXReferenceIdeal.τ).loc Cert.DownXReferenceIdeal.main_arg0)
      ∧ r.2.mem ((c.tc : Thread Cert.DownXReferenceIdeal.nD Cert.DownXReferenceIdeal.τ).loc Cert.DownXReferenceIdeal.main_arg1) = m ((c.tc : Thread Cert.DownXReferenceIdeal.nD Cert.DownXReferenceIdeal.τ).loc Cert.DownXReferenceIdeal.main_arg1)
      ∧ r.2.mem ((c.tc : Thread Cert.DownXReferenceIdeal.nD Cert.DownXReferenceIdeal.τ).loc Cert.DownXReferenceIdeal.main_arg2) = m ((c.tc : Thread Cert.DownXReferenceIdeal.nD Cert.DownXReferenceIdeal.τ).loc Cert.DownXReferenceIdeal.main_arg2))
      ∧ r.2.sem = fun _ => 0)

def quiescent_DownW [hDownW : Cert.DownW.Facts] : Prop :=
  ∀ (m : (ℓ : Loc Cert.DownW.nD Cert.DownW.τ Cert.DownW.sig) → Buf (Elt Bits) ℓ) (g : Dev Cert.DownW.nD → PrngReg), Pre_DownW m →
    θ_run (Cert.DownW.defs (F := Bits)) (onTc (τ := Cert.DownW.τ) (Cert.DownW.main (F := Bits))) ⟨m, fun _ => 0, g⟩ (fun r => (∀ c : Dev Cert.DownW.nD,
      r.2.mem ((c.tc : Thread Cert.DownW.nD Cert.DownW.τ).loc Cert.DownW.main_arg0) = m ((c.tc : Thread Cert.DownW.nD Cert.DownW.τ).loc Cert.DownW.main_arg0)
      ∧ r.2.mem ((c.tc : Thread Cert.DownW.nD Cert.DownW.τ).loc Cert.DownW.main_arg1) = m ((c.tc : Thread Cert.DownW.nD Cert.DownW.τ).loc Cert.DownW.main_arg1))
      ∧ r.2.sem = fun _ => 0)

def quiescent_DownWIdeal [hDownWIdeal : Cert.DownWIdeal.Facts] : Prop :=
  ∀ (m : (ℓ : Loc Cert.DownWIdeal.nD Cert.DownWIdeal.τ Cert.DownWIdeal.sig) → Buf (Elt Ideal) ℓ) (g : Dev Cert.DownWIdeal.nD → PrngReg), Pre_DownWIdeal m →
    θ_run (Cert.DownWIdeal.defs (F := Ideal)) (onTc (τ := Cert.DownWIdeal.τ) (Cert.DownWIdeal.main (F := Ideal))) ⟨m, fun _ => 0, g⟩ (fun r => (∀ c : Dev Cert.DownWIdeal.nD,
      r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
      ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ r.2.sem = fun _ => 0)

def quiescent_DownWReferenceIdeal [hDownWReferenceIdeal : Cert.DownWReferenceIdeal.Facts] : Prop :=
  ∀ (m : (ℓ : Loc Cert.DownWReferenceIdeal.nD Cert.DownWReferenceIdeal.τ Cert.DownWReferenceIdeal.sig) → Buf (Elt Ideal) ℓ) (g : Dev Cert.DownWReferenceIdeal.nD → PrngReg), Pre_DownWReferenceIdeal m →
    θ_run (Cert.DownWReferenceIdeal.defs (F := Ideal)) (onTc (τ := Cert.DownWReferenceIdeal.τ) (Cert.DownWReferenceIdeal.main (F := Ideal))) ⟨m, fun _ => 0, g⟩ (fun r => (∀ c : Dev Cert.DownWReferenceIdeal.nD,
      r.2.mem ((c.tc : Thread Cert.DownWReferenceIdeal.nD Cert.DownWReferenceIdeal.τ).loc Cert.DownWReferenceIdeal.main_arg0) = m ((c.tc : Thread Cert.DownWReferenceIdeal.nD Cert.DownWReferenceIdeal.τ).loc Cert.DownWReferenceIdeal.main_arg0)
      ∧ r.2.mem ((c.tc : Thread Cert.DownWReferenceIdeal.nD Cert.DownWReferenceIdeal.τ).loc Cert.DownWReferenceIdeal.main_arg1) = m ((c.tc : Thread Cert.DownWReferenceIdeal.nD Cert.DownWReferenceIdeal.τ).loc Cert.DownWReferenceIdeal.main_arg1))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ r.2.sem = fun _ => 0)

def quiescent_UpXReferenceIdeal [hUpXReferenceIdeal : Cert.UpXReferenceIdeal.Facts] : Prop :=
  ∀ (m : (ℓ : Loc Cert.UpXReferenceIdeal.nD Cert.UpXReferenceIdeal.τ Cert.UpXReferenceIdeal.sig) → Buf (Elt Ideal) ℓ) (g : Dev Cert.UpXReferenceIdeal.nD → PrngReg), Pre_UpXReferenceIdeal m →
    θ_run (Cert.UpXReferenceIdeal.defs (F := Ideal)) (onTc (τ := Cert.UpXReferenceIdeal.τ) (Cert.UpXReferenceIdeal.main (F := Ideal))) ⟨m, fun _ => 0, g⟩ (fun r => (∀ c : Dev Cert.UpXReferenceIdeal.nD,
      r.2.mem ((c.tc : Thread Cert.UpXReferenceIdeal.nD Cert.UpXReferenceIdeal.τ).loc Cert.UpXReferenceIdeal.main_arg0) = m ((c.tc : Thread Cert.UpXReferenceIdeal.nD Cert.UpXReferenceIdeal.τ).loc Cert.UpXReferenceIdeal.main_arg0)
      ∧ r.2.mem ((c.tc : Thread Cert.UpXReferenceIdeal.nD Cert.UpXReferenceIdeal.τ).loc Cert.UpXReferenceIdeal.main_arg1) = m ((c.tc : Thread Cert.UpXReferenceIdeal.nD Cert.UpXReferenceIdeal.τ).loc Cert.UpXReferenceIdeal.main_arg1))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ r.2.sem = fun _ => 0)

def quiescent_UpWReferenceIdeal [hUpWReferenceIdeal : Cert.UpWReferenceIdeal.Facts] : Prop :=
  ∀ (m : (ℓ : Loc Cert.UpWReferenceIdeal.nD Cert.UpWReferenceIdeal.τ Cert.UpWReferenceIdeal.sig) → Buf (Elt Ideal) ℓ) (g : Dev Cert.UpWReferenceIdeal.nD → PrngReg), Pre_UpWReferenceIdeal m →
    θ_run (Cert.UpWReferenceIdeal.defs (F := Ideal)) (onTc (τ := Cert.UpWReferenceIdeal.τ) (Cert.UpWReferenceIdeal.main (F := Ideal))) ⟨m, fun _ => 0, g⟩ (fun r => (∀ c : Dev Cert.UpWReferenceIdeal.nD,
      r.2.mem ((c.tc : Thread Cert.UpWReferenceIdeal.nD Cert.UpWReferenceIdeal.τ).loc Cert.UpWReferenceIdeal.main_arg0) = m ((c.tc : Thread Cert.UpWReferenceIdeal.nD Cert.UpWReferenceIdeal.τ).loc Cert.UpWReferenceIdeal.main_arg0)
      ∧ r.2.mem ((c.tc : Thread Cert.UpWReferenceIdeal.nD Cert.UpWReferenceIdeal.τ).loc Cert.UpWReferenceIdeal.main_arg1) = m ((c.tc : Thread Cert.UpWReferenceIdeal.nD Cert.UpWReferenceIdeal.τ).loc Cert.UpWReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_InXQkv [hInXQkv : Cert.InXQkv.Facts] : Prop :=
  ∀ (m : (ℓ : Loc Cert.InXQkv.nD Cert.InXQkv.τ Cert.InXQkv.sig) → Buf (Elt Bits) ℓ) (g : Dev Cert.InXQkv.nD → PrngReg), Pre_InXQkv m →
    θ_run (Cert.InXQkv.defs (F := Bits)) (onTc (τ := Cert.InXQkv.τ) (Cert.InXQkv.main (F := Bits))) ⟨m, fun _ => 0, g⟩ (fun r => (∀ c : Dev Cert.InXQkv.nD,
      r.2.mem ((c.tc : Thread Cert.InXQkv.nD Cert.InXQkv.τ).loc Cert.InXQkv.main_arg0) = m ((c.tc : Thread Cert.InXQkv.nD Cert.InXQkv.τ).loc Cert.InXQkv.main_arg0)
      ∧ r.2.mem ((c.tc : Thread Cert.InXQkv.nD Cert.InXQkv.τ).loc Cert.InXQkv.main_arg1) = m ((c.tc : Thread Cert.InXQkv.nD Cert.InXQkv.τ).loc Cert.InXQkv.main_arg1))
      ∧ r.2.sem = fun _ => 0)

def quiescent_InXQkvIdeal [hInXQkvIdeal : Cert.InXQkvIdeal.Facts] : Prop :=
  ∀ (m : (ℓ : Loc Cert.InXQkvIdeal.nD Cert.InXQkvIdeal.τ Cert.InXQkvIdeal.sig) → Buf (Elt Ideal) ℓ) (g : Dev Cert.InXQkvIdeal.nD → PrngReg), Pre_InXQkvIdeal m →
    θ_run (Cert.InXQkvIdeal.defs (F := Ideal)) (onTc (τ := Cert.InXQkvIdeal.τ) (Cert.InXQkvIdeal.main (F := Ideal))) ⟨m, fun _ => 0, g⟩ (fun r => (∀ c : Dev Cert.InXQkvIdeal.nD,
      r.2.mem ((c.tc : Thread Cert.InXQkvIdeal.nD Cert.InXQkvIdeal.τ).loc Cert.InXQkvIdeal.main_arg0) = m ((c.tc : Thread Cert.InXQkvIdeal.nD Cert.InXQkvIdeal.τ).loc Cert.InXQkvIdeal.main_arg0)
      ∧ r.2.mem ((c.tc : Thread Cert.InXQkvIdeal.nD Cert.InXQkvIdeal.τ).loc Cert.InXQkvIdeal.main_arg1) = m ((c.tc : Thread Cert.InXQkvIdeal.nD Cert.InXQkvIdeal.τ).loc Cert.InXQkvIdeal.main_arg1))
      ∧ r.2.sem = fun _ => 0)

def quiescent_InXQkvReferenceIdeal [hInXQkvReferenceIdeal : Cert.InXQkvReferenceIdeal.Facts] : Prop :=
  ∀ (m : (ℓ : Loc Cert.InXQkvReferenceIdeal.nD Cert.InXQkvReferenceIdeal.τ Cert.InXQkvReferenceIdeal.sig) → Buf (Elt Ideal) ℓ) (g : Dev Cert.InXQkvReferenceIdeal.nD → PrngReg), Pre_InXQkvReferenceIdeal m →
    θ_run (Cert.InXQkvReferenceIdeal.defs (F := Ideal)) (onTc (τ := Cert.InXQkvReferenceIdeal.τ) (Cert.InXQkvReferenceIdeal.main (F := Ideal))) ⟨m, fun _ => 0, g⟩ (fun r => (∀ c : Dev Cert.InXQkvReferenceIdeal.nD,
      r.2.mem ((c.tc : Thread Cert.InXQkvReferenceIdeal.nD Cert.InXQkvReferenceIdeal.τ).loc Cert.InXQkvReferenceIdeal.main_arg0) = m ((c.tc : Thread Cert.InXQkvReferenceIdeal.nD Cert.InXQkvReferenceIdeal.τ).loc Cert.InXQkvReferenceIdeal.main_arg0)
      ∧ r.2.mem ((c.tc : Thread Cert.InXQkvReferenceIdeal.nD Cert.InXQkvReferenceIdeal.τ).loc Cert.InXQkvReferenceIdeal.main_arg1) = m ((c.tc : Thread Cert.InXQkvReferenceIdeal.nD Cert.InXQkvReferenceIdeal.τ).loc Cert.InXQkvReferenceIdeal.main_arg1))
      ∧ r.2.sem = fun _ => 0)

def quiescent_InXZ [hInXZ : Cert.InXZ.Facts] : Prop :=
  ∀ (m : (ℓ : Loc Cert.InXZ.nD Cert.InXZ.τ Cert.InXZ.sig) → Buf (Elt Bits) ℓ) (g : Dev Cert.InXZ.nD → PrngReg), Pre_InXZ m →
    θ_run (Cert.InXZ.defs (F := Bits)) (onTc (τ := Cert.InXZ.τ) (Cert.InXZ.main (F := Bits))) ⟨m, fun _ => 0, g⟩ (fun r => (∀ c : Dev Cert.InXZ.nD,
      r.2.mem ((c.tc : Thread Cert.InXZ.nD Cert.InXZ.τ).loc Cert.InXZ.main_arg0) = m ((c.tc : Thread Cert.InXZ.nD Cert.InXZ.τ).loc Cert.InXZ.main_arg0)
      ∧ r.2.mem ((c.tc : Thread Cert.InXZ.nD Cert.InXZ.τ).loc Cert.InXZ.main_arg1) = m ((c.tc : Thread Cert.InXZ.nD Cert.InXZ.τ).loc Cert.InXZ.main_arg1))
      ∧ r.2.sem = fun _ => 0)

def quiescent_InXZIdeal [hInXZIdeal : Cert.InXZIdeal.Facts] : Prop :=
  ∀ (m : (ℓ : Loc Cert.InXZIdeal.nD Cert.InXZIdeal.τ Cert.InXZIdeal.sig) → Buf (Elt Ideal) ℓ) (g : Dev Cert.InXZIdeal.nD → PrngReg), Pre_InXZIdeal m →
    θ_run (Cert.InXZIdeal.defs (F := Ideal)) (onTc (τ := Cert.InXZIdeal.τ) (Cert.InXZIdeal.main (F := Ideal))) ⟨m, fun _ => 0, g⟩ (fun r => (∀ c : Dev Cert.InXZIdeal.nD,
      r.2.mem ((c.tc : Thread Cert.InXZIdeal.nD Cert.InXZIdeal.τ).loc Cert.InXZIdeal.main_arg0) = m ((c.tc : Thread Cert.InXZIdeal.nD Cert.InXZIdeal.τ).loc Cert.InXZIdeal.main_arg0)
      ∧ r.2.mem ((c.tc : Thread Cert.InXZIdeal.nD Cert.InXZIdeal.τ).loc Cert.InXZIdeal.main_arg1) = m ((c.tc : Thread Cert.InXZIdeal.nD Cert.InXZIdeal.τ).loc Cert.InXZIdeal.main_arg1))
      ∧ r.2.sem = fun _ => 0)

def quiescent_InXZReferenceIdeal [hInXZReferenceIdeal : Cert.InXZReferenceIdeal.Facts] : Prop :=
  ∀ (m : (ℓ : Loc Cert.InXZReferenceIdeal.nD Cert.InXZReferenceIdeal.τ Cert.InXZReferenceIdeal.sig) → Buf (Elt Ideal) ℓ) (g : Dev Cert.InXZReferenceIdeal.nD → PrngReg), Pre_InXZReferenceIdeal m →
    θ_run (Cert.InXZReferenceIdeal.defs (F := Ideal)) (onTc (τ := Cert.InXZReferenceIdeal.τ) (Cert.InXZReferenceIdeal.main (F := Ideal))) ⟨m, fun _ => 0, g⟩ (fun r => (∀ c : Dev Cert.InXZReferenceIdeal.nD,
      r.2.mem ((c.tc : Thread Cert.InXZReferenceIdeal.nD Cert.InXZReferenceIdeal.τ).loc Cert.InXZReferenceIdeal.main_arg0) = m ((c.tc : Thread Cert.InXZReferenceIdeal.nD Cert.InXZReferenceIdeal.τ).loc Cert.InXZReferenceIdeal.main_arg0)
      ∧ r.2.mem ((c.tc : Thread Cert.InXZReferenceIdeal.nD Cert.InXZReferenceIdeal.τ).loc Cert.InXZReferenceIdeal.main_arg1) = m ((c.tc : Thread Cert.InXZReferenceIdeal.nD Cert.InXZReferenceIdeal.τ).loc Cert.InXZReferenceIdeal.main_arg1))
      ∧ r.2.sem = fun _ => 0)

def quiescent_InXXbc [hInXXbc : Cert.InXXbc.Facts] : Prop :=
  ∀ (m : (ℓ : Loc Cert.InXXbc.nD Cert.InXXbc.τ Cert.InXXbc.sig) → Buf (Elt Bits) ℓ) (g : Dev Cert.InXXbc.nD → PrngReg), Pre_InXXbc m →
    θ_run (Cert.InXXbc.defs (F := Bits)) (onTc (τ := Cert.InXXbc.τ) (Cert.InXXbc.main (F := Bits))) ⟨m, fun _ => 0, g⟩ (fun r => (∀ c : Dev Cert.InXXbc.nD,
      r.2.mem ((c.tc : Thread Cert.InXXbc.nD Cert.InXXbc.τ).loc Cert.InXXbc.main_arg0) = m ((c.tc : Thread Cert.InXXbc.nD Cert.InXXbc.τ).loc Cert.InXXbc.main_arg0)
      ∧ r.2.mem ((c.tc : Thread Cert.InXXbc.nD Cert.InXXbc.τ).loc Cert.InXXbc.main_arg1) = m ((c.tc : Thread Cert.InXXbc.nD Cert.InXXbc.τ).loc Cert.InXXbc.main_arg1))
      ∧ r.2.sem = fun _ => 0)

def quiescent_InXXbcIdeal [hInXXbcIdeal : Cert.InXXbcIdeal.Facts] : Prop :=
  ∀ (m : (ℓ : Loc Cert.InXXbcIdeal.nD Cert.InXXbcIdeal.τ Cert.InXXbcIdeal.sig) → Buf (Elt Ideal) ℓ) (g : Dev Cert.InXXbcIdeal.nD → PrngReg), Pre_InXXbcIdeal m →
    θ_run (Cert.InXXbcIdeal.defs (F := Ideal)) (onTc (τ := Cert.InXXbcIdeal.τ) (Cert.InXXbcIdeal.main (F := Ideal))) ⟨m, fun _ => 0, g⟩ (fun r => (∀ c : Dev Cert.InXXbcIdeal.nD,
      r.2.mem ((c.tc : Thread Cert.InXXbcIdeal.nD Cert.InXXbcIdeal.τ).loc Cert.InXXbcIdeal.main_arg0) = m ((c.tc : Thread Cert.InXXbcIdeal.nD Cert.InXXbcIdeal.τ).loc Cert.InXXbcIdeal.main_arg0)
      ∧ r.2.mem ((c.tc : Thread Cert.InXXbcIdeal.nD Cert.InXXbcIdeal.τ).loc Cert.InXXbcIdeal.main_arg1) = m ((c.tc : Thread Cert.InXXbcIdeal.nD Cert.InXXbcIdeal.τ).loc Cert.InXXbcIdeal.main_arg1))
      ∧ r.2.sem = fun _ => 0)

def quiescent_InXXbcReferenceIdeal [hInXXbcReferenceIdeal : Cert.InXXbcReferenceIdeal.Facts] : Prop :=
  ∀ (m : (ℓ : Loc Cert.InXXbcReferenceIdeal.nD Cert.InXXbcReferenceIdeal.τ Cert.InXXbcReferenceIdeal.sig) → Buf (Elt Ideal) ℓ) (g : Dev Cert.InXXbcReferenceIdeal.nD → PrngReg), Pre_InXXbcReferenceIdeal m →
    θ_run (Cert.InXXbcReferenceIdeal.defs (F := Ideal)) (onTc (τ := Cert.InXXbcReferenceIdeal.τ) (Cert.InXXbcReferenceIdeal.main (F := Ideal))) ⟨m, fun _ => 0, g⟩ (fun r => (∀ c : Dev Cert.InXXbcReferenceIdeal.nD,
      r.2.mem ((c.tc : Thread Cert.InXXbcReferenceIdeal.nD Cert.InXXbcReferenceIdeal.τ).loc Cert.InXXbcReferenceIdeal.main_arg0) = m ((c.tc : Thread Cert.InXXbcReferenceIdeal.nD Cert.InXXbcReferenceIdeal.τ).loc Cert.InXXbcReferenceIdeal.main_arg0)
      ∧ r.2.mem ((c.tc : Thread Cert.InXXbcReferenceIdeal.nD Cert.InXXbcReferenceIdeal.τ).loc Cert.InXXbcReferenceIdeal.main_arg1) = m ((c.tc : Thread Cert.InXXbcReferenceIdeal.nD Cert.InXXbcReferenceIdeal.τ).loc Cert.InXXbcReferenceIdeal.main_arg1))
      ∧ r.2.sem = fun _ => 0)

def quiescent_InXMq [hInXMq : Cert.InXMq.Facts] : Prop :=
  ∀ (m : (ℓ : Loc Cert.InXMq.nD Cert.InXMq.τ Cert.InXMq.sig) → Buf (Elt Bits) ℓ) (g : Dev Cert.InXMq.nD → PrngReg), Pre_InXMq m →
    θ_run (Cert.InXMq.defs (F := Bits)) (onTc (τ := Cert.InXMq.τ) (Cert.InXMq.main (F := Bits))) ⟨m, fun _ => 0, g⟩ (fun r => (∀ c : Dev Cert.InXMq.nD,
      r.2.mem ((c.tc : Thread Cert.InXMq.nD Cert.InXMq.τ).loc Cert.InXMq.main_arg0) = m ((c.tc : Thread Cert.InXMq.nD Cert.InXMq.τ).loc Cert.InXMq.main_arg0)
      ∧ r.2.mem ((c.tc : Thread Cert.InXMq.nD Cert.InXMq.τ).loc Cert.InXMq.main_arg1) = m ((c.tc : Thread Cert.InXMq.nD Cert.InXMq.τ).loc Cert.InXMq.main_arg1))
      ∧ r.2.sem = fun _ => 0)

def quiescent_InXMqIdeal [hInXMqIdeal : Cert.InXMqIdeal.Facts] : Prop :=
  ∀ (m : (ℓ : Loc Cert.InXMqIdeal.nD Cert.InXMqIdeal.τ Cert.InXMqIdeal.sig) → Buf (Elt Ideal) ℓ) (g : Dev Cert.InXMqIdeal.nD → PrngReg), Pre_InXMqIdeal m →
    θ_run (Cert.InXMqIdeal.defs (F := Ideal)) (onTc (τ := Cert.InXMqIdeal.τ) (Cert.InXMqIdeal.main (F := Ideal))) ⟨m, fun _ => 0, g⟩ (fun r => (∀ c : Dev Cert.InXMqIdeal.nD,
      r.2.mem ((c.tc : Thread Cert.InXMqIdeal.nD Cert.InXMqIdeal.τ).loc Cert.InXMqIdeal.main_arg0) = m ((c.tc : Thread Cert.InXMqIdeal.nD Cert.InXMqIdeal.τ).loc Cert.InXMqIdeal.main_arg0)
      ∧ r.2.mem ((c.tc : Thread Cert.InXMqIdeal.nD Cert.InXMqIdeal.τ).loc Cert.InXMqIdeal.main_arg1) = m ((c.tc : Thread Cert.InXMqIdeal.nD Cert.InXMqIdeal.τ).loc Cert.InXMqIdeal.main_arg1))
      ∧ r.2.sem = fun _ => 0)

def quiescent_InXMqReferenceIdeal [hInXMqReferenceIdeal : Cert.InXMqReferenceIdeal.Facts] : Prop :=
  ∀ (m : (ℓ : Loc Cert.InXMqReferenceIdeal.nD Cert.InXMqReferenceIdeal.τ Cert.InXMqReferenceIdeal.sig) → Buf (Elt Ideal) ℓ) (g : Dev Cert.InXMqReferenceIdeal.nD → PrngReg), Pre_InXMqReferenceIdeal m →
    θ_run (Cert.InXMqReferenceIdeal.defs (F := Ideal)) (onTc (τ := Cert.InXMqReferenceIdeal.τ) (Cert.InXMqReferenceIdeal.main (F := Ideal))) ⟨m, fun _ => 0, g⟩ (fun r => (∀ c : Dev Cert.InXMqReferenceIdeal.nD,
      r.2.mem ((c.tc : Thread Cert.InXMqReferenceIdeal.nD Cert.InXMqReferenceIdeal.τ).loc Cert.InXMqReferenceIdeal.main_arg0) = m ((c.tc : Thread Cert.InXMqReferenceIdeal.nD Cert.InXMqReferenceIdeal.τ).loc Cert.InXMqReferenceIdeal.main_arg0)
      ∧ r.2.mem ((c.tc : Thread Cert.InXMqReferenceIdeal.nD Cert.InXMqReferenceIdeal.τ).loc Cert.InXMqReferenceIdeal.main_arg1) = m ((c.tc : Thread Cert.InXMqReferenceIdeal.nD Cert.InXMqReferenceIdeal.τ).loc Cert.InXMqReferenceIdeal.main_arg1))
      ∧ r.2.sem = fun _ => 0)

def quiescent_InXGl [hInXGl : Cert.InXGl.Facts] : Prop :=
  ∀ (m : (ℓ : Loc Cert.InXGl.nD Cert.InXGl.τ Cert.InXGl.sig) → Buf (Elt Bits) ℓ) (g : Dev Cert.InXGl.nD → PrngReg), Pre_InXGl m →
    θ_run (Cert.InXGl.defs (F := Bits)) (onTc (τ := Cert.InXGl.τ) (Cert.InXGl.main (F := Bits))) ⟨m, fun _ => 0, g⟩ (fun r => (∀ c : Dev Cert.InXGl.nD,
      r.2.mem ((c.tc : Thread Cert.InXGl.nD Cert.InXGl.τ).loc Cert.InXGl.main_arg0) = m ((c.tc : Thread Cert.InXGl.nD Cert.InXGl.τ).loc Cert.InXGl.main_arg0)
      ∧ r.2.mem ((c.tc : Thread Cert.InXGl.nD Cert.InXGl.τ).loc Cert.InXGl.main_arg1) = m ((c.tc : Thread Cert.InXGl.nD Cert.InXGl.τ).loc Cert.InXGl.main_arg1))
      ∧ r.2.sem = fun _ => 0)

def quiescent_InXGlIdeal [hInXGlIdeal : Cert.InXGlIdeal.Facts] : Prop :=
  ∀ (m : (ℓ : Loc Cert.InXGlIdeal.nD Cert.InXGlIdeal.τ Cert.InXGlIdeal.sig) → Buf (Elt Ideal) ℓ) (g : Dev Cert.InXGlIdeal.nD → PrngReg), Pre_InXGlIdeal m →
    θ_run (Cert.InXGlIdeal.defs (F := Ideal)) (onTc (τ := Cert.InXGlIdeal.τ) (Cert.InXGlIdeal.main (F := Ideal))) ⟨m, fun _ => 0, g⟩ (fun r => (∀ c : Dev Cert.InXGlIdeal.nD,
      r.2.mem ((c.tc : Thread Cert.InXGlIdeal.nD Cert.InXGlIdeal.τ).loc Cert.InXGlIdeal.main_arg0) = m ((c.tc : Thread Cert.InXGlIdeal.nD Cert.InXGlIdeal.τ).loc Cert.InXGlIdeal.main_arg0)
      ∧ r.2.mem ((c.tc : Thread Cert.InXGlIdeal.nD Cert.InXGlIdeal.τ).loc Cert.InXGlIdeal.main_arg1) = m ((c.tc : Thread Cert.InXGlIdeal.nD Cert.InXGlIdeal.τ).loc Cert.InXGlIdeal.main_arg1))
      ∧ r.2.sem = fun _ => 0)

def quiescent_InXGlReferenceIdeal [hInXGlReferenceIdeal : Cert.InXGlReferenceIdeal.Facts] : Prop :=
  ∀ (m : (ℓ : Loc Cert.InXGlReferenceIdeal.nD Cert.InXGlReferenceIdeal.τ Cert.InXGlReferenceIdeal.sig) → Buf (Elt Ideal) ℓ) (g : Dev Cert.InXGlReferenceIdeal.nD → PrngReg), Pre_InXGlReferenceIdeal m →
    θ_run (Cert.InXGlReferenceIdeal.defs (F := Ideal)) (onTc (τ := Cert.InXGlReferenceIdeal.τ) (Cert.InXGlReferenceIdeal.main (F := Ideal))) ⟨m, fun _ => 0, g⟩ (fun r => (∀ c : Dev Cert.InXGlReferenceIdeal.nD,
      r.2.mem ((c.tc : Thread Cert.InXGlReferenceIdeal.nD Cert.InXGlReferenceIdeal.τ).loc Cert.InXGlReferenceIdeal.main_arg0) = m ((c.tc : Thread Cert.InXGlReferenceIdeal.nD Cert.InXGlReferenceIdeal.τ).loc Cert.InXGlReferenceIdeal.main_arg0)
      ∧ r.2.mem ((c.tc : Thread Cert.InXGlReferenceIdeal.nD Cert.InXGlReferenceIdeal.τ).loc Cert.InXGlReferenceIdeal.main_arg1) = m ((c.tc : Thread Cert.InXGlReferenceIdeal.nD Cert.InXGlReferenceIdeal.τ).loc Cert.InXGlReferenceIdeal.main_arg1))
      ∧ r.2.sem = fun _ => 0)

def quiescent_InWQkv [hInWQkv : Cert.InWQkv.Facts] : Prop :=
  ∀ (m : (ℓ : Loc Cert.InWQkv.nD Cert.InWQkv.τ Cert.InWQkv.sig) → Buf (Elt Bits) ℓ) (g : Dev Cert.InWQkv.nD → PrngReg), Pre_InWQkv m →
    θ_run (Cert.InWQkv.defs (F := Bits)) (onTc (τ := Cert.InWQkv.τ) (Cert.InWQkv.main (F := Bits))) ⟨m, fun _ => 0, g⟩ (fun r => (∀ c : Dev Cert.InWQkv.nD,
      r.2.mem ((c.tc : Thread Cert.InWQkv.nD Cert.InWQkv.τ).loc Cert.InWQkv.main_arg0) = m ((c.tc : Thread Cert.InWQkv.nD Cert.InWQkv.τ).loc Cert.InWQkv.main_arg0)
      ∧ r.2.mem ((c.tc : Thread Cert.InWQkv.nD Cert.InWQkv.τ).loc Cert.InWQkv.main_arg1) = m ((c.tc : Thread Cert.InWQkv.nD Cert.InWQkv.τ).loc Cert.InWQkv.main_arg1)
      ∧ r.2.mem ((c.tc : Thread Cert.InWQkv.nD Cert.InWQkv.τ).loc Cert.InWQkv.main_arg2) = m ((c.tc : Thread Cert.InWQkv.nD Cert.InWQkv.τ).loc Cert.InWQkv.main_arg2))
      ∧ r.2.sem = fun _ => 0)

def quiescent_InWQkvIdeal [hInWQkvIdeal : Cert.InWQkvIdeal.Facts] : Prop :=
  ∀ (m : (ℓ : Loc Cert.InWQkvIdeal.nD Cert.InWQkvIdeal.τ Cert.InWQkvIdeal.sig) → Buf (Elt Ideal) ℓ) (g : Dev Cert.InWQkvIdeal.nD → PrngReg), Pre_InWQkvIdeal m →
    θ_run (Cert.InWQkvIdeal.defs (F := Ideal)) (onTc (τ := Cert.InWQkvIdeal.τ) (Cert.InWQkvIdeal.main (F := Ideal))) ⟨m, fun _ => 0, g⟩ (fun r => (∀ c : Dev Cert.InWQkvIdeal.nD,
      r.2.mem ((c.tc : Thread Cert.InWQkvIdeal.nD Cert.InWQkvIdeal.τ).loc Cert.InWQkvIdeal.main_arg0) = m ((c.tc : Thread Cert.InWQkvIdeal.nD Cert.InWQkvIdeal.τ).loc Cert.InWQkvIdeal.main_arg0)
      ∧ r.2.mem ((c.tc : Thread Cert.InWQkvIdeal.nD Cert.InWQkvIdeal.τ).loc Cert.InWQkvIdeal.main_arg1) = m ((c.tc : Thread Cert.InWQkvIdeal.nD Cert.InWQkvIdeal.τ).loc Cert.InWQkvIdeal.main_arg1)
      ∧ r.2.mem ((c.tc : Thread Cert.InWQkvIdeal.nD Cert.InWQkvIdeal.τ).loc Cert.InWQkvIdeal.main_arg2) = m ((c.tc : Thread Cert.InWQkvIdeal.nD Cert.InWQkvIdeal.τ).loc Cert.InWQkvIdeal.main_arg2))
      ∧ r.2.sem = fun _ => 0)

def quiescent_InWQkvReferenceIdeal [hInWQkvReferenceIdeal : Cert.InWQkvReferenceIdeal.Facts] : Prop :=
  ∀ (m : (ℓ : Loc Cert.InWQkvReferenceIdeal.nD Cert.InWQkvReferenceIdeal.τ Cert.InWQkvReferenceIdeal.sig) → Buf (Elt Ideal) ℓ) (g : Dev Cert.InWQkvReferenceIdeal.nD → PrngReg), Pre_InWQkvReferenceIdeal m →
    θ_run (Cert.InWQkvReferenceIdeal.defs (F := Ideal)) (onTc (τ := Cert.InWQkvReferenceIdeal.τ) (Cert.InWQkvReferenceIdeal.main (F := Ideal))) ⟨m, fun _ => 0, g⟩ (fun r => (∀ c : Dev Cert.InWQkvReferenceIdeal.nD,
      r.2.mem ((c.tc : Thread Cert.InWQkvReferenceIdeal.nD Cert.InWQkvReferenceIdeal.τ).loc Cert.InWQkvReferenceIdeal.main_arg0) = m ((c.tc : Thread Cert.InWQkvReferenceIdeal.nD Cert.InWQkvReferenceIdeal.τ).loc Cert.InWQkvReferenceIdeal.main_arg0)
      ∧ r.2.mem ((c.tc : Thread Cert.InWQkvReferenceIdeal.nD Cert.InWQkvReferenceIdeal.τ).loc Cert.InWQkvReferenceIdeal.main_arg1) = m ((c.tc : Thread Cert.InWQkvReferenceIdeal.nD Cert.InWQkvReferenceIdeal.τ).loc Cert.InWQkvReferenceIdeal.main_arg1)
      ∧ r.2.mem ((c.tc : Thread Cert.InWQkvReferenceIdeal.nD Cert.InWQkvReferenceIdeal.τ).loc Cert.InWQkvReferenceIdeal.main_arg2) = m ((c.tc : Thread Cert.InWQkvReferenceIdeal.nD Cert.InWQkvReferenceIdeal.τ).loc Cert.InWQkvReferenceIdeal.main_arg2))
      ∧ r.2.sem = fun _ => 0)

def quiescent_InWZ [hInWZ : Cert.InWZ.Facts] : Prop :=
  ∀ (m : (ℓ : Loc Cert.InWZ.nD Cert.InWZ.τ Cert.InWZ.sig) → Buf (Elt Bits) ℓ) (g : Dev Cert.InWZ.nD → PrngReg), Pre_InWZ m →
    θ_run (Cert.InWZ.defs (F := Bits)) (onTc (τ := Cert.InWZ.τ) (Cert.InWZ.main (F := Bits))) ⟨m, fun _ => 0, g⟩ (fun r => (∀ c : Dev Cert.InWZ.nD,
      r.2.mem ((c.tc : Thread Cert.InWZ.nD Cert.InWZ.τ).loc Cert.InWZ.main_arg0) = m ((c.tc : Thread Cert.InWZ.nD Cert.InWZ.τ).loc Cert.InWZ.main_arg0)
      ∧ r.2.mem ((c.tc : Thread Cert.InWZ.nD Cert.InWZ.τ).loc Cert.InWZ.main_arg1) = m ((c.tc : Thread Cert.InWZ.nD Cert.InWZ.τ).loc Cert.InWZ.main_arg1)
      ∧ r.2.mem ((c.tc : Thread Cert.InWZ.nD Cert.InWZ.τ).loc Cert.InWZ.main_arg2) = m ((c.tc : Thread Cert.InWZ.nD Cert.InWZ.τ).loc Cert.InWZ.main_arg2))
      ∧ r.2.sem = fun _ => 0)

def quiescent_InWZIdeal [hInWZIdeal : Cert.InWZIdeal.Facts] : Prop :=
  ∀ (m : (ℓ : Loc Cert.InWZIdeal.nD Cert.InWZIdeal.τ Cert.InWZIdeal.sig) → Buf (Elt Ideal) ℓ) (g : Dev Cert.InWZIdeal.nD → PrngReg), Pre_InWZIdeal m →
    θ_run (Cert.InWZIdeal.defs (F := Ideal)) (onTc (τ := Cert.InWZIdeal.τ) (Cert.InWZIdeal.main (F := Ideal))) ⟨m, fun _ => 0, g⟩ (fun r => (∀ c : Dev Cert.InWZIdeal.nD,
      r.2.mem ((c.tc : Thread Cert.InWZIdeal.nD Cert.InWZIdeal.τ).loc Cert.InWZIdeal.main_arg0) = m ((c.tc : Thread Cert.InWZIdeal.nD Cert.InWZIdeal.τ).loc Cert.InWZIdeal.main_arg0)
      ∧ r.2.mem ((c.tc : Thread Cert.InWZIdeal.nD Cert.InWZIdeal.τ).loc Cert.InWZIdeal.main_arg1) = m ((c.tc : Thread Cert.InWZIdeal.nD Cert.InWZIdeal.τ).loc Cert.InWZIdeal.main_arg1)
      ∧ r.2.mem ((c.tc : Thread Cert.InWZIdeal.nD Cert.InWZIdeal.τ).loc Cert.InWZIdeal.main_arg2) = m ((c.tc : Thread Cert.InWZIdeal.nD Cert.InWZIdeal.τ).loc Cert.InWZIdeal.main_arg2))
      ∧ r.2.sem = fun _ => 0)

def quiescent_InWZReferenceIdeal [hInWZReferenceIdeal : Cert.InWZReferenceIdeal.Facts] : Prop :=
  ∀ (m : (ℓ : Loc Cert.InWZReferenceIdeal.nD Cert.InWZReferenceIdeal.τ Cert.InWZReferenceIdeal.sig) → Buf (Elt Ideal) ℓ) (g : Dev Cert.InWZReferenceIdeal.nD → PrngReg), Pre_InWZReferenceIdeal m →
    θ_run (Cert.InWZReferenceIdeal.defs (F := Ideal)) (onTc (τ := Cert.InWZReferenceIdeal.τ) (Cert.InWZReferenceIdeal.main (F := Ideal))) ⟨m, fun _ => 0, g⟩ (fun r => (∀ c : Dev Cert.InWZReferenceIdeal.nD,
      r.2.mem ((c.tc : Thread Cert.InWZReferenceIdeal.nD Cert.InWZReferenceIdeal.τ).loc Cert.InWZReferenceIdeal.main_arg0) = m ((c.tc : Thread Cert.InWZReferenceIdeal.nD Cert.InWZReferenceIdeal.τ).loc Cert.InWZReferenceIdeal.main_arg0)
      ∧ r.2.mem ((c.tc : Thread Cert.InWZReferenceIdeal.nD Cert.InWZReferenceIdeal.τ).loc Cert.InWZReferenceIdeal.main_arg1) = m ((c.tc : Thread Cert.InWZReferenceIdeal.nD Cert.InWZReferenceIdeal.τ).loc Cert.InWZReferenceIdeal.main_arg1)
      ∧ r.2.mem ((c.tc : Thread Cert.InWZReferenceIdeal.nD Cert.InWZReferenceIdeal.τ).loc Cert.InWZReferenceIdeal.main_arg2) = m ((c.tc : Thread Cert.InWZReferenceIdeal.nD Cert.InWZReferenceIdeal.τ).loc Cert.InWZReferenceIdeal.main_arg2))
      ∧ r.2.sem = fun _ => 0)

def quiescent_InWXbc [hInWXbc : Cert.InWXbc.Facts] : Prop :=
  ∀ (m : (ℓ : Loc Cert.InWXbc.nD Cert.InWXbc.τ Cert.InWXbc.sig) → Buf (Elt Bits) ℓ) (g : Dev Cert.InWXbc.nD → PrngReg), Pre_InWXbc m →
    θ_run (Cert.InWXbc.defs (F := Bits)) (onTc (τ := Cert.InWXbc.τ) (Cert.InWXbc.main (F := Bits))) ⟨m, fun _ => 0, g⟩ (fun r => (∀ c : Dev Cert.InWXbc.nD,
      r.2.mem ((c.tc : Thread Cert.InWXbc.nD Cert.InWXbc.τ).loc Cert.InWXbc.main_arg0) = m ((c.tc : Thread Cert.InWXbc.nD Cert.InWXbc.τ).loc Cert.InWXbc.main_arg0)
      ∧ r.2.mem ((c.tc : Thread Cert.InWXbc.nD Cert.InWXbc.τ).loc Cert.InWXbc.main_arg1) = m ((c.tc : Thread Cert.InWXbc.nD Cert.InWXbc.τ).loc Cert.InWXbc.main_arg1)
      ∧ r.2.mem ((c.tc : Thread Cert.InWXbc.nD Cert.InWXbc.τ).loc Cert.InWXbc.main_arg2) = m ((c.tc : Thread Cert.InWXbc.nD Cert.InWXbc.τ).loc Cert.InWXbc.main_arg2))
      ∧ r.2.sem = fun _ => 0)

def quiescent_InWXbcIdeal [hInWXbcIdeal : Cert.InWXbcIdeal.Facts] : Prop :=
  ∀ (m : (ℓ : Loc Cert.InWXbcIdeal.nD Cert.InWXbcIdeal.τ Cert.InWXbcIdeal.sig) → Buf (Elt Ideal) ℓ) (g : Dev Cert.InWXbcIdeal.nD → PrngReg), Pre_InWXbcIdeal m →
    θ_run (Cert.InWXbcIdeal.defs (F := Ideal)) (onTc (τ := Cert.InWXbcIdeal.τ) (Cert.InWXbcIdeal.main (F := Ideal))) ⟨m, fun _ => 0, g⟩ (fun r => (∀ c : Dev Cert.InWXbcIdeal.nD,
      r.2.mem ((c.tc : Thread Cert.InWXbcIdeal.nD Cert.InWXbcIdeal.τ).loc Cert.InWXbcIdeal.main_arg0) = m ((c.tc : Thread Cert.InWXbcIdeal.nD Cert.InWXbcIdeal.τ).loc Cert.InWXbcIdeal.main_arg0)
      ∧ r.2.mem ((c.tc : Thread Cert.InWXbcIdeal.nD Cert.InWXbcIdeal.τ).loc Cert.InWXbcIdeal.main_arg1) = m ((c.tc : Thread Cert.InWXbcIdeal.nD Cert.InWXbcIdeal.τ).loc Cert.InWXbcIdeal.main_arg1)
      ∧ r.2.mem ((c.tc : Thread Cert.InWXbcIdeal.nD Cert.InWXbcIdeal.τ).loc Cert.InWXbcIdeal.main_arg2) = m ((c.tc : Thread Cert.InWXbcIdeal.nD Cert.InWXbcIdeal.τ).loc Cert.InWXbcIdeal.main_arg2))
      ∧ r.2.sem = fun _ => 0)

def quiescent_InWXbcReferenceIdeal [hInWXbcReferenceIdeal : Cert.InWXbcReferenceIdeal.Facts] : Prop :=
  ∀ (m : (ℓ : Loc Cert.InWXbcReferenceIdeal.nD Cert.InWXbcReferenceIdeal.τ Cert.InWXbcReferenceIdeal.sig) → Buf (Elt Ideal) ℓ) (g : Dev Cert.InWXbcReferenceIdeal.nD → PrngReg), Pre_InWXbcReferenceIdeal m →
    θ_run (Cert.InWXbcReferenceIdeal.defs (F := Ideal)) (onTc (τ := Cert.InWXbcReferenceIdeal.τ) (Cert.InWXbcReferenceIdeal.main (F := Ideal))) ⟨m, fun _ => 0, g⟩ (fun r => (∀ c : Dev Cert.InWXbcReferenceIdeal.nD,
      r.2.mem ((c.tc : Thread Cert.InWXbcReferenceIdeal.nD Cert.InWXbcReferenceIdeal.τ).loc Cert.InWXbcReferenceIdeal.main_arg0) = m ((c.tc : Thread Cert.InWXbcReferenceIdeal.nD Cert.InWXbcReferenceIdeal.τ).loc Cert.InWXbcReferenceIdeal.main_arg0)
      ∧ r.2.mem ((c.tc : Thread Cert.InWXbcReferenceIdeal.nD Cert.InWXbcReferenceIdeal.τ).loc Cert.InWXbcReferenceIdeal.main_arg1) = m ((c.tc : Thread Cert.InWXbcReferenceIdeal.nD Cert.InWXbcReferenceIdeal.τ).loc Cert.InWXbcReferenceIdeal.main_arg1)
      ∧ r.2.mem ((c.tc : Thread Cert.InWXbcReferenceIdeal.nD Cert.InWXbcReferenceIdeal.τ).loc Cert.InWXbcReferenceIdeal.main_arg2) = m ((c.tc : Thread Cert.InWXbcReferenceIdeal.nD Cert.InWXbcReferenceIdeal.τ).loc Cert.InWXbcReferenceIdeal.main_arg2))
      ∧ r.2.sem = fun _ => 0)

def quiescent_InWMq [hInWMq : Cert.InWMq.Facts] : Prop :=
  ∀ (m : (ℓ : Loc Cert.InWMq.nD Cert.InWMq.τ Cert.InWMq.sig) → Buf (Elt Bits) ℓ) (g : Dev Cert.InWMq.nD → PrngReg), Pre_InWMq m →
    θ_run (Cert.InWMq.defs (F := Bits)) (onTc (τ := Cert.InWMq.τ) (Cert.InWMq.main (F := Bits))) ⟨m, fun _ => 0, g⟩ (fun r => (∀ c : Dev Cert.InWMq.nD,
      r.2.mem ((c.tc : Thread Cert.InWMq.nD Cert.InWMq.τ).loc Cert.InWMq.main_arg0) = m ((c.tc : Thread Cert.InWMq.nD Cert.InWMq.τ).loc Cert.InWMq.main_arg0)
      ∧ r.2.mem ((c.tc : Thread Cert.InWMq.nD Cert.InWMq.τ).loc Cert.InWMq.main_arg1) = m ((c.tc : Thread Cert.InWMq.nD Cert.InWMq.τ).loc Cert.InWMq.main_arg1)
      ∧ r.2.mem ((c.tc : Thread Cert.InWMq.nD Cert.InWMq.τ).loc Cert.InWMq.main_arg2) = m ((c.tc : Thread Cert.InWMq.nD Cert.InWMq.τ).loc Cert.InWMq.main_arg2))
      ∧ r.2.sem = fun _ => 0)

def quiescent_InWMqIdeal [hInWMqIdeal : Cert.InWMqIdeal.Facts] : Prop :=
  ∀ (m : (ℓ : Loc Cert.InWMqIdeal.nD Cert.InWMqIdeal.τ Cert.InWMqIdeal.sig) → Buf (Elt Ideal) ℓ) (g : Dev Cert.InWMqIdeal.nD → PrngReg), Pre_InWMqIdeal m →
    θ_run (Cert.InWMqIdeal.defs (F := Ideal)) (onTc (τ := Cert.InWMqIdeal.τ) (Cert.InWMqIdeal.main (F := Ideal))) ⟨m, fun _ => 0, g⟩ (fun r => (∀ c : Dev Cert.InWMqIdeal.nD,
      r.2.mem ((c.tc : Thread Cert.InWMqIdeal.nD Cert.InWMqIdeal.τ).loc Cert.InWMqIdeal.main_arg0) = m ((c.tc : Thread Cert.InWMqIdeal.nD Cert.InWMqIdeal.τ).loc Cert.InWMqIdeal.main_arg0)
      ∧ r.2.mem ((c.tc : Thread Cert.InWMqIdeal.nD Cert.InWMqIdeal.τ).loc Cert.InWMqIdeal.main_arg1) = m ((c.tc : Thread Cert.InWMqIdeal.nD Cert.InWMqIdeal.τ).loc Cert.InWMqIdeal.main_arg1)
      ∧ r.2.mem ((c.tc : Thread Cert.InWMqIdeal.nD Cert.InWMqIdeal.τ).loc Cert.InWMqIdeal.main_arg2) = m ((c.tc : Thread Cert.InWMqIdeal.nD Cert.InWMqIdeal.τ).loc Cert.InWMqIdeal.main_arg2))
      ∧ r.2.sem = fun _ => 0)

def quiescent_InWMqReferenceIdeal [hInWMqReferenceIdeal : Cert.InWMqReferenceIdeal.Facts] : Prop :=
  ∀ (m : (ℓ : Loc Cert.InWMqReferenceIdeal.nD Cert.InWMqReferenceIdeal.τ Cert.InWMqReferenceIdeal.sig) → Buf (Elt Ideal) ℓ) (g : Dev Cert.InWMqReferenceIdeal.nD → PrngReg), Pre_InWMqReferenceIdeal m →
    θ_run (Cert.InWMqReferenceIdeal.defs (F := Ideal)) (onTc (τ := Cert.InWMqReferenceIdeal.τ) (Cert.InWMqReferenceIdeal.main (F := Ideal))) ⟨m, fun _ => 0, g⟩ (fun r => (∀ c : Dev Cert.InWMqReferenceIdeal.nD,
      r.2.mem ((c.tc : Thread Cert.InWMqReferenceIdeal.nD Cert.InWMqReferenceIdeal.τ).loc Cert.InWMqReferenceIdeal.main_arg0) = m ((c.tc : Thread Cert.InWMqReferenceIdeal.nD Cert.InWMqReferenceIdeal.τ).loc Cert.InWMqReferenceIdeal.main_arg0)
      ∧ r.2.mem ((c.tc : Thread Cert.InWMqReferenceIdeal.nD Cert.InWMqReferenceIdeal.τ).loc Cert.InWMqReferenceIdeal.main_arg1) = m ((c.tc : Thread Cert.InWMqReferenceIdeal.nD Cert.InWMqReferenceIdeal.τ).loc Cert.InWMqReferenceIdeal.main_arg1)
      ∧ r.2.mem ((c.tc : Thread Cert.InWMqReferenceIdeal.nD Cert.InWMqReferenceIdeal.τ).loc Cert.InWMqReferenceIdeal.main_arg2) = m ((c.tc : Thread Cert.InWMqReferenceIdeal.nD Cert.InWMqReferenceIdeal.τ).loc Cert.InWMqReferenceIdeal.main_arg2))
      ∧ r.2.sem = fun _ => 0)

def quiescent_InWGl [hInWGl : Cert.InWGl.Facts] : Prop :=
  ∀ (m : (ℓ : Loc Cert.InWGl.nD Cert.InWGl.τ Cert.InWGl.sig) → Buf (Elt Bits) ℓ) (g : Dev Cert.InWGl.nD → PrngReg), Pre_InWGl m →
    θ_run (Cert.InWGl.defs (F := Bits)) (onTc (τ := Cert.InWGl.τ) (Cert.InWGl.main (F := Bits))) ⟨m, fun _ => 0, g⟩ (fun r => (∀ c : Dev Cert.InWGl.nD,
      r.2.mem ((c.tc : Thread Cert.InWGl.nD Cert.InWGl.τ).loc Cert.InWGl.main_arg0) = m ((c.tc : Thread Cert.InWGl.nD Cert.InWGl.τ).loc Cert.InWGl.main_arg0)
      ∧ r.2.mem ((c.tc : Thread Cert.InWGl.nD Cert.InWGl.τ).loc Cert.InWGl.main_arg1) = m ((c.tc : Thread Cert.InWGl.nD Cert.InWGl.τ).loc Cert.InWGl.main_arg1)
      ∧ r.2.mem ((c.tc : Thread Cert.InWGl.nD Cert.InWGl.τ).loc Cert.InWGl.main_arg2) = m ((c.tc : Thread Cert.InWGl.nD Cert.InWGl.τ).loc Cert.InWGl.main_arg2))
      ∧ r.2.sem = fun _ => 0)

def quiescent_InWGlIdeal [hInWGlIdeal : Cert.InWGlIdeal.Facts] : Prop :=
  ∀ (m : (ℓ : Loc Cert.InWGlIdeal.nD Cert.InWGlIdeal.τ Cert.InWGlIdeal.sig) → Buf (Elt Ideal) ℓ) (g : Dev Cert.InWGlIdeal.nD → PrngReg), Pre_InWGlIdeal m →
    θ_run (Cert.InWGlIdeal.defs (F := Ideal)) (onTc (τ := Cert.InWGlIdeal.τ) (Cert.InWGlIdeal.main (F := Ideal))) ⟨m, fun _ => 0, g⟩ (fun r => (∀ c : Dev Cert.InWGlIdeal.nD,
      r.2.mem ((c.tc : Thread Cert.InWGlIdeal.nD Cert.InWGlIdeal.τ).loc Cert.InWGlIdeal.main_arg0) = m ((c.tc : Thread Cert.InWGlIdeal.nD Cert.InWGlIdeal.τ).loc Cert.InWGlIdeal.main_arg0)
      ∧ r.2.mem ((c.tc : Thread Cert.InWGlIdeal.nD Cert.InWGlIdeal.τ).loc Cert.InWGlIdeal.main_arg1) = m ((c.tc : Thread Cert.InWGlIdeal.nD Cert.InWGlIdeal.τ).loc Cert.InWGlIdeal.main_arg1)
      ∧ r.2.mem ((c.tc : Thread Cert.InWGlIdeal.nD Cert.InWGlIdeal.τ).loc Cert.InWGlIdeal.main_arg2) = m ((c.tc : Thread Cert.InWGlIdeal.nD Cert.InWGlIdeal.τ).loc Cert.InWGlIdeal.main_arg2))
      ∧ r.2.sem = fun _ => 0)

def quiescent_InWGlReferenceIdeal [hInWGlReferenceIdeal : Cert.InWGlReferenceIdeal.Facts] : Prop :=
  ∀ (m : (ℓ : Loc Cert.InWGlReferenceIdeal.nD Cert.InWGlReferenceIdeal.τ Cert.InWGlReferenceIdeal.sig) → Buf (Elt Ideal) ℓ) (g : Dev Cert.InWGlReferenceIdeal.nD → PrngReg), Pre_InWGlReferenceIdeal m →
    θ_run (Cert.InWGlReferenceIdeal.defs (F := Ideal)) (onTc (τ := Cert.InWGlReferenceIdeal.τ) (Cert.InWGlReferenceIdeal.main (F := Ideal))) ⟨m, fun _ => 0, g⟩ (fun r => (∀ c : Dev Cert.InWGlReferenceIdeal.nD,
      r.2.mem ((c.tc : Thread Cert.InWGlReferenceIdeal.nD Cert.InWGlReferenceIdeal.τ).loc Cert.InWGlReferenceIdeal.main_arg0) = m ((c.tc : Thread Cert.InWGlReferenceIdeal.nD Cert.InWGlReferenceIdeal.τ).loc Cert.InWGlReferenceIdeal.main_arg0)
      ∧ r.2.mem ((c.tc : Thread Cert.InWGlReferenceIdeal.nD Cert.InWGlReferenceIdeal.τ).loc Cert.InWGlReferenceIdeal.main_arg1) = m ((c.tc : Thread Cert.InWGlReferenceIdeal.nD Cert.InWGlReferenceIdeal.τ).loc Cert.InWGlReferenceIdeal.main_arg1)
      ∧ r.2.mem ((c.tc : Thread Cert.InWGlReferenceIdeal.nD Cert.InWGlReferenceIdeal.τ).loc Cert.InWGlReferenceIdeal.main_arg2) = m ((c.tc : Thread Cert.InWGlReferenceIdeal.nD Cert.InWGlReferenceIdeal.τ).loc Cert.InWGlReferenceIdeal.main_arg2))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvReferenceIdeal [hInQkvReferenceIdeal : Cert.InQkvReferenceIdeal.Facts] : Prop :=
  ∀ (m : (ℓ : Loc Cert.InQkvReferenceIdeal.nD Cert.InQkvReferenceIdeal.τ Cert.InQkvReferenceIdeal.sig) → Buf (Elt Ideal) ℓ) (g : Dev Cert.InQkvReferenceIdeal.nD → PrngReg), Pre_InQkvReferenceIdeal m →
    θ_run (Cert.InQkvReferenceIdeal.defs (F := Ideal)) (onTc (τ := Cert.InQkvReferenceIdeal.τ) (Cert.InQkvReferenceIdeal.main (F := Ideal))) ⟨m, fun _ => 0, g⟩ (fun r => (∀ c : Dev Cert.InQkvReferenceIdeal.nD,
      r.2.mem ((c.tc : Thread Cert.InQkvReferenceIdeal.nD Cert.InQkvReferenceIdeal.τ).loc Cert.InQkvReferenceIdeal.main_arg0) = m ((c.tc : Thread Cert.InQkvReferenceIdeal.nD Cert.InQkvReferenceIdeal.τ).loc Cert.InQkvReferenceIdeal.main_arg0)
      ∧ r.2.mem ((c.tc : Thread Cert.InQkvReferenceIdeal.nD Cert.InQkvReferenceIdeal.τ).loc Cert.InQkvReferenceIdeal.main_arg1) = m ((c.tc : Thread Cert.InQkvReferenceIdeal.nD Cert.InQkvReferenceIdeal.τ).loc Cert.InQkvReferenceIdeal.main_arg1))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZReferenceIdeal [hInZReferenceIdeal : Cert.InZReferenceIdeal.Facts] : Prop :=
  ∀ (m : (ℓ : Loc Cert.InZReferenceIdeal.nD Cert.InZReferenceIdeal.τ Cert.InZReferenceIdeal.sig) → Buf (Elt Ideal) ℓ) (g : Dev Cert.InZReferenceIdeal.nD → PrngReg), Pre_InZReferenceIdeal m →
    θ_run (Cert.InZReferenceIdeal.defs (F := Ideal)) (onTc (τ := Cert.InZReferenceIdeal.τ) (Cert.InZReferenceIdeal.main (F := Ideal))) ⟨m, fun _ => 0, g⟩ (fun r => (∀ c : Dev Cert.InZReferenceIdeal.nD,
      r.2.mem ((c.tc : Thread Cert.InZReferenceIdeal.nD Cert.InZReferenceIdeal.τ).loc Cert.InZReferenceIdeal.main_arg0) = m ((c.tc : Thread Cert.InZReferenceIdeal.nD Cert.InZReferenceIdeal.τ).loc Cert.InZReferenceIdeal.main_arg0)
      ∧ r.2.mem ((c.tc : Thread Cert.InZReferenceIdeal.nD Cert.InZReferenceIdeal.τ).loc Cert.InZReferenceIdeal.main_arg1) = m ((c.tc : Thread Cert.InZReferenceIdeal.nD Cert.InZReferenceIdeal.τ).loc Cert.InZReferenceIdeal.main_arg1))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcReferenceIdeal [hInXbcReferenceIdeal : Cert.InXbcReferenceIdeal.Facts] : Prop :=
  ∀ (m : (ℓ : Loc Cert.InXbcReferenceIdeal.nD Cert.InXbcReferenceIdeal.τ Cert.InXbcReferenceIdeal.sig) → Buf (Elt Ideal) ℓ) (g : Dev Cert.InXbcReferenceIdeal.nD → PrngReg), Pre_InXbcReferenceIdeal m →
    θ_run (Cert.InXbcReferenceIdeal.defs (F := Ideal)) (onTc (τ := Cert.InXbcReferenceIdeal.τ) (Cert.InXbcReferenceIdeal.main (F := Ideal))) ⟨m, fun _ => 0, g⟩ (fun r => (∀ c : Dev Cert.InXbcReferenceIdeal.nD,
      r.2.mem ((c.tc : Thread Cert.InXbcReferenceIdeal.nD Cert.InXbcReferenceIdeal.τ).loc Cert.InXbcReferenceIdeal.main_arg0) = m ((c.tc : Thread Cert.InXbcReferenceIdeal.nD Cert.InXbcReferenceIdeal.τ).loc Cert.InXbcReferenceIdeal.main_arg0)
      ∧ r.2.mem ((c.tc : Thread Cert.InXbcReferenceIdeal.nD Cert.InXbcReferenceIdeal.τ).loc Cert.InXbcReferenceIdeal.main_arg1) = m ((c.tc : Thread Cert.InXbcReferenceIdeal.nD Cert.InXbcReferenceIdeal.τ).loc Cert.InXbcReferenceIdeal.main_arg1))
      ∧ r.2.sem = fun _ => 0)

def quiescent_InMq [hInMq : Cert.InMq.Facts] : Prop :=
  ∀ (m : (ℓ : Loc Cert.InMq.nD Cert.InMq.τ Cert.InMq.sig) → Buf (Elt Bits) ℓ) (g : Dev Cert.InMq.nD → PrngReg), Pre_InMq m →
    θ_run (Cert.InMq.defs (F := Bits)) (onTc (τ := Cert.InMq.τ) (Cert.InMq.main (F := Bits))) ⟨m, fun _ => 0, g⟩ (fun r => (∀ c : Dev Cert.InMq.nD,
      r.2.mem ((c.tc : Thread Cert.InMq.nD Cert.InMq.τ).loc Cert.InMq.main_arg0) = m ((c.tc : Thread Cert.InMq.nD Cert.InMq.τ).loc Cert.InMq.main_arg0)
      ∧ r.2.mem ((c.tc : Thread Cert.InMq.nD Cert.InMq.τ).loc Cert.InMq.main_arg1) = m ((c.tc : Thread Cert.InMq.nD Cert.InMq.τ).loc Cert.InMq.main_arg1))
      ∧ r.2.sem = fun _ => 0)

def quiescent_InMqIdeal [hInMqIdeal : Cert.InMqIdeal.Facts] : Prop :=
  ∀ (m : (ℓ : Loc Cert.InMqIdeal.nD Cert.InMqIdeal.τ Cert.InMqIdeal.sig) → Buf (Elt Ideal) ℓ) (g : Dev Cert.InMqIdeal.nD → PrngReg), Pre_InMqIdeal m →
    θ_run (Cert.InMqIdeal.defs (F := Ideal)) (onTc (τ := Cert.InMqIdeal.τ) (Cert.InMqIdeal.main (F := Ideal))) ⟨m, fun _ => 0, g⟩ (fun r => (∀ c : Dev Cert.InMqIdeal.nD,
      r.2.mem ((c.tc : Thread Cert.InMqIdeal.nD Cert.InMqIdeal.τ).loc Cert.InMqIdeal.main_arg0) = m ((c.tc : Thread Cert.InMqIdeal.nD Cert.InMqIdeal.τ).loc Cert.InMqIdeal.main_arg0)
      ∧ r.2.mem ((c.tc : Thread Cert.InMqIdeal.nD Cert.InMqIdeal.τ).loc Cert.InMqIdeal.main_arg1) = m ((c.tc : Thread Cert.InMqIdeal.nD Cert.InMqIdeal.τ).loc Cert.InMqIdeal.main_arg1))
      ∧ r.2.sem = fun _ => 0)

def quiescent_InMqReferenceIdeal [hInMqReferenceIdeal : Cert.InMqReferenceIdeal.Facts] : Prop :=
  ∀ (m : (ℓ : Loc Cert.InMqReferenceIdeal.nD Cert.InMqReferenceIdeal.τ Cert.InMqReferenceIdeal.sig) → Buf (Elt Ideal) ℓ) (g : Dev Cert.InMqReferenceIdeal.nD → PrngReg), Pre_InMqReferenceIdeal m →
    θ_run (Cert.InMqReferenceIdeal.defs (F := Ideal)) (onTc (τ := Cert.InMqReferenceIdeal.τ) (Cert.InMqReferenceIdeal.main (F := Ideal))) ⟨m, fun _ => 0, g⟩ (fun r => (∀ c : Dev Cert.InMqReferenceIdeal.nD,
      r.2.mem ((c.tc : Thread Cert.InMqReferenceIdeal.nD Cert.InMqReferenceIdeal.τ).loc Cert.InMqReferenceIdeal.main_arg0) = m ((c.tc : Thread Cert.InMqReferenceIdeal.nD Cert.InMqReferenceIdeal.τ).loc Cert.InMqReferenceIdeal.main_arg0)
      ∧ r.2.mem ((c.tc : Thread Cert.InMqReferenceIdeal.nD Cert.InMqReferenceIdeal.τ).loc Cert.InMqReferenceIdeal.main_arg1) = m ((c.tc : Thread Cert.InMqReferenceIdeal.nD Cert.InMqReferenceIdeal.τ).loc Cert.InMqReferenceIdeal.main_arg1))
      ∧ r.2.sem = fun _ => 0)

def quiescent_InGl [hInGl : Cert.InGl.Facts] : Prop :=
  ∀ (m : (ℓ : Loc Cert.InGl.nD Cert.InGl.τ Cert.InGl.sig) → Buf (Elt Bits) ℓ) (g : Dev Cert.InGl.nD → PrngReg), Pre_InGl m →
    θ_run (Cert.InGl.defs (F := Bits)) (onTc (τ := Cert.InGl.τ) (Cert.InGl.main (F := Bits))) ⟨m, fun _ => 0, g⟩ (fun r => (∀ c : Dev Cert.InGl.nD,
      r.2.mem ((c.tc : Thread Cert.InGl.nD Cert.InGl.τ).loc Cert.InGl.main_arg0) = m ((c.tc : Thread Cert.InGl.nD Cert.InGl.τ).loc Cert.InGl.main_arg0)
      ∧ r.2.mem ((c.tc : Thread Cert.InGl.nD Cert.InGl.τ).loc Cert.InGl.main_arg1) = m ((c.tc : Thread Cert.InGl.nD Cert.InGl.τ).loc Cert.InGl.main_arg1))
      ∧ r.2.sem = fun _ => 0)

def quiescent_InGlIdeal [hInGlIdeal : Cert.InGlIdeal.Facts] : Prop :=
  ∀ (m : (ℓ : Loc Cert.InGlIdeal.nD Cert.InGlIdeal.τ Cert.InGlIdeal.sig) → Buf (Elt Ideal) ℓ) (g : Dev Cert.InGlIdeal.nD → PrngReg), Pre_InGlIdeal m →
    θ_run (Cert.InGlIdeal.defs (F := Ideal)) (onTc (τ := Cert.InGlIdeal.τ) (Cert.InGlIdeal.main (F := Ideal))) ⟨m, fun _ => 0, g⟩ (fun r => (∀ c : Dev Cert.InGlIdeal.nD,
      r.2.mem ((c.tc : Thread Cert.InGlIdeal.nD Cert.InGlIdeal.τ).loc Cert.InGlIdeal.main_arg0) = m ((c.tc : Thread Cert.InGlIdeal.nD Cert.InGlIdeal.τ).loc Cert.InGlIdeal.main_arg0)
      ∧ r.2.mem ((c.tc : Thread Cert.InGlIdeal.nD Cert.InGlIdeal.τ).loc Cert.InGlIdeal.main_arg1) = m ((c.tc : Thread Cert.InGlIdeal.nD Cert.InGlIdeal.τ).loc Cert.InGlIdeal.main_arg1))
      ∧ r.2.sem = fun _ => 0)

def quiescent_InGlReferenceIdeal [hInGlReferenceIdeal : Cert.InGlReferenceIdeal.Facts] : Prop :=
  ∀ (m : (ℓ : Loc Cert.InGlReferenceIdeal.nD Cert.InGlReferenceIdeal.τ Cert.InGlReferenceIdeal.sig) → Buf (Elt Ideal) ℓ) (g : Dev Cert.InGlReferenceIdeal.nD → PrngReg), Pre_InGlReferenceIdeal m →
    θ_run (Cert.InGlReferenceIdeal.defs (F := Ideal)) (onTc (τ := Cert.InGlReferenceIdeal.τ) (Cert.InGlReferenceIdeal.main (F := Ideal))) ⟨m, fun _ => 0, g⟩ (fun r => (∀ c : Dev Cert.InGlReferenceIdeal.nD,
      r.2.mem ((c.tc : Thread Cert.InGlReferenceIdeal.nD Cert.InGlReferenceIdeal.τ).loc Cert.InGlReferenceIdeal.main_arg0) = m ((c.tc : Thread Cert.InGlReferenceIdeal.nD Cert.InGlReferenceIdeal.τ).loc Cert.InGlReferenceIdeal.main_arg0)
      ∧ r.2.mem ((c.tc : Thread Cert.InGlReferenceIdeal.nD Cert.InGlReferenceIdeal.τ).loc Cert.InGlReferenceIdeal.main_arg1) = m ((c.tc : Thread Cert.InGlReferenceIdeal.nD Cert.InGlReferenceIdeal.τ).loc Cert.InGlReferenceIdeal.main_arg1))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ r.2.sem = fun _ => 0)

def quiescent_OutXReferenceIdeal [hOutXReferenceIdeal : Cert.OutXReferenceIdeal.Facts] : Prop :=
  ∀ (m : (ℓ : Loc Cert.OutXReferenceIdeal.nD Cert.OutXReferenceIdeal.τ Cert.OutXReferenceIdeal.sig) → Buf (Elt Ideal) ℓ) (g : Dev Cert.OutXReferenceIdeal.nD → PrngReg), Pre_OutXReferenceIdeal m →
    θ_run (Cert.OutXReferenceIdeal.defs (F := Ideal)) (onTc (τ := Cert.OutXReferenceIdeal.τ) (Cert.OutXReferenceIdeal.main (F := Ideal))) ⟨m, fun _ => 0, g⟩ (fun r => (∀ c : Dev Cert.OutXReferenceIdeal.nD,
      r.2.mem ((c.tc : Thread Cert.OutXReferenceIdeal.nD Cert.OutXReferenceIdeal.τ).loc Cert.OutXReferenceIdeal.main_arg0) = m ((c.tc : Thread Cert.OutXReferenceIdeal.nD Cert.OutXReferenceIdeal.τ).loc Cert.OutXReferenceIdeal.main_arg0)
      ∧ r.2.mem ((c.tc : Thread Cert.OutXReferenceIdeal.nD Cert.OutXReferenceIdeal.τ).loc Cert.OutXReferenceIdeal.main_arg1) = m ((c.tc : Thread Cert.OutXReferenceIdeal.nD Cert.OutXReferenceIdeal.τ).loc Cert.OutXReferenceIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_MemOutX [hMemOutX : Cert.MemOutX.Facts] : Prop :=
  ∀ (m : (ℓ : Loc Cert.MemOutX.nD Cert.MemOutX.τ Cert.MemOutX.sig) → Buf (Elt Bits) ℓ) (g : Dev Cert.MemOutX.nD → PrngReg), Pre_MemOutX m →
    θ_run (Cert.MemOutX.defs (F := Bits)) (onTc (τ := Cert.MemOutX.τ) (Cert.MemOutX.main (F := Bits))) ⟨m, fun _ => 0, g⟩ (fun r => (∀ c : Dev Cert.MemOutX.nD,
      r.2.mem ((c.tc : Thread Cert.MemOutX.nD Cert.MemOutX.τ).loc Cert.MemOutX.main_arg0) = m ((c.tc : Thread Cert.MemOutX.nD Cert.MemOutX.τ).loc Cert.MemOutX.main_arg0)
      ∧ r.2.mem ((c.tc : Thread Cert.MemOutX.nD Cert.MemOutX.τ).loc Cert.MemOutX.main_arg1) = m ((c.tc : Thread Cert.MemOutX.nD Cert.MemOutX.τ).loc Cert.MemOutX.main_arg1))
      ∧ r.2.sem = fun _ => 0)

def quiescent_MemOutXIdeal [hMemOutXIdeal : Cert.MemOutXIdeal.Facts] : Prop :=
  ∀ (m : (ℓ : Loc Cert.MemOutXIdeal.nD Cert.MemOutXIdeal.τ Cert.MemOutXIdeal.sig) → Buf (Elt Ideal) ℓ) (g : Dev Cert.MemOutXIdeal.nD → PrngReg), Pre_MemOutXIdeal m →
    θ_run (Cert.MemOutXIdeal.defs (F := Ideal)) (onTc (τ := Cert.MemOutXIdeal.τ) (Cert.MemOutXIdeal.main (F := Ideal))) ⟨m, fun _ => 0, g⟩ (fun r => (∀ c : Dev Cert.MemOutXIdeal.nD,
      r.2.mem ((c.tc : Thread Cert.MemOutXIdeal.nD Cert.MemOutXIdeal.τ).loc Cert.MemOutXIdeal.main_arg0) = m ((c.tc : Thread Cert.MemOutXIdeal.nD Cert.MemOutXIdeal.τ).loc Cert.MemOutXIdeal.main_arg0)
      ∧ r.2.mem ((c.tc : Thread Cert.MemOutXIdeal.nD Cert.MemOutXIdeal.τ).loc Cert.MemOutXIdeal.main_arg1) = m ((c.tc : Thread Cert.MemOutXIdeal.nD Cert.MemOutXIdeal.τ).loc Cert.MemOutXIdeal.main_arg1))
      ∧ r.2.sem = fun _ => 0)

def quiescent_MemOutXReferenceIdeal [hMemOutXReferenceIdeal : Cert.MemOutXReferenceIdeal.Facts] : Prop :=
  ∀ (m : (ℓ : Loc Cert.MemOutXReferenceIdeal.nD Cert.MemOutXReferenceIdeal.τ Cert.MemOutXReferenceIdeal.sig) → Buf (Elt Ideal) ℓ) (g : Dev Cert.MemOutXReferenceIdeal.nD → PrngReg), Pre_MemOutXReferenceIdeal m →
    θ_run (Cert.MemOutXReferenceIdeal.defs (F := Ideal)) (onTc (τ := Cert.MemOutXReferenceIdeal.τ) (Cert.MemOutXReferenceIdeal.main (F := Ideal))) ⟨m, fun _ => 0, g⟩ (fun r => (∀ c : Dev Cert.MemOutXReferenceIdeal.nD,
      r.2.mem ((c.tc : Thread Cert.MemOutXReferenceIdeal.nD Cert.MemOutXReferenceIdeal.τ).loc Cert.MemOutXReferenceIdeal.main_arg0) = m ((c.tc : Thread Cert.MemOutXReferenceIdeal.nD Cert.MemOutXReferenceIdeal.τ).loc Cert.MemOutXReferenceIdeal.main_arg0)
      ∧ r.2.mem ((c.tc : Thread Cert.MemOutXReferenceIdeal.nD Cert.MemOutXReferenceIdeal.τ).loc Cert.MemOutXReferenceIdeal.main_arg1) = m ((c.tc : Thread Cert.MemOutXReferenceIdeal.nD Cert.MemOutXReferenceIdeal.τ).loc Cert.MemOutXReferenceIdeal.main_arg1))
      ∧ r.2.sem = fun _ => 0)

def quiescent_SsdOutX [hSsdOutX : Cert.SsdOutX.Facts] : Prop :=
  ∀ (m : (ℓ : Loc Cert.SsdOutX.nD Cert.SsdOutX.τ Cert.SsdOutX.sig) → Buf (Elt Bits) ℓ) (g : Dev Cert.SsdOutX.nD → PrngReg), Pre_SsdOutX m →
    θ_run (Cert.SsdOutX.defs (F := Bits)) (onTc (τ := Cert.SsdOutX.τ) (Cert.SsdOutX.main (F := Bits))) ⟨m, fun _ => 0, g⟩ (fun r => (∀ c : Dev Cert.SsdOutX.nD,
      r.2.mem ((c.tc : Thread Cert.SsdOutX.nD Cert.SsdOutX.τ).loc Cert.SsdOutX.main_arg0) = m ((c.tc : Thread Cert.SsdOutX.nD Cert.SsdOutX.τ).loc Cert.SsdOutX.main_arg0)
      ∧ r.2.mem ((c.tc : Thread Cert.SsdOutX.nD Cert.SsdOutX.τ).loc Cert.SsdOutX.main_arg1) = m ((c.tc : Thread Cert.SsdOutX.nD Cert.SsdOutX.τ).loc Cert.SsdOutX.main_arg1))
      ∧ r.2.sem = fun _ => 0)

def quiescent_SsdOutXIdeal [hSsdOutXIdeal : Cert.SsdOutXIdeal.Facts] : Prop :=
  ∀ (m : (ℓ : Loc Cert.SsdOutXIdeal.nD Cert.SsdOutXIdeal.τ Cert.SsdOutXIdeal.sig) → Buf (Elt Ideal) ℓ) (g : Dev Cert.SsdOutXIdeal.nD → PrngReg), Pre_SsdOutXIdeal m →
    θ_run (Cert.SsdOutXIdeal.defs (F := Ideal)) (onTc (τ := Cert.SsdOutXIdeal.τ) (Cert.SsdOutXIdeal.main (F := Ideal))) ⟨m, fun _ => 0, g⟩ (fun r => (∀ c : Dev Cert.SsdOutXIdeal.nD,
      r.2.mem ((c.tc : Thread Cert.SsdOutXIdeal.nD Cert.SsdOutXIdeal.τ).loc Cert.SsdOutXIdeal.main_arg0) = m ((c.tc : Thread Cert.SsdOutXIdeal.nD Cert.SsdOutXIdeal.τ).loc Cert.SsdOutXIdeal.main_arg0)
      ∧ r.2.mem ((c.tc : Thread Cert.SsdOutXIdeal.nD Cert.SsdOutXIdeal.τ).loc Cert.SsdOutXIdeal.main_arg1) = m ((c.tc : Thread Cert.SsdOutXIdeal.nD Cert.SsdOutXIdeal.τ).loc Cert.SsdOutXIdeal.main_arg1))
      ∧ r.2.sem = fun _ => 0)

def quiescent_SsdOutXReferenceIdeal [hSsdOutXReferenceIdeal : Cert.SsdOutXReferenceIdeal.Facts] : Prop :=
  ∀ (m : (ℓ : Loc Cert.SsdOutXReferenceIdeal.nD Cert.SsdOutXReferenceIdeal.τ Cert.SsdOutXReferenceIdeal.sig) → Buf (Elt Ideal) ℓ) (g : Dev Cert.SsdOutXReferenceIdeal.nD → PrngReg), Pre_SsdOutXReferenceIdeal m →
    θ_run (Cert.SsdOutXReferenceIdeal.defs (F := Ideal)) (onTc (τ := Cert.SsdOutXReferenceIdeal.τ) (Cert.SsdOutXReferenceIdeal.main (F := Ideal))) ⟨m, fun _ => 0, g⟩ (fun r => (∀ c : Dev Cert.SsdOutXReferenceIdeal.nD,
      r.2.mem ((c.tc : Thread Cert.SsdOutXReferenceIdeal.nD Cert.SsdOutXReferenceIdeal.τ).loc Cert.SsdOutXReferenceIdeal.main_arg0) = m ((c.tc : Thread Cert.SsdOutXReferenceIdeal.nD Cert.SsdOutXReferenceIdeal.τ).loc Cert.SsdOutXReferenceIdeal.main_arg0)
      ∧ r.2.mem ((c.tc : Thread Cert.SsdOutXReferenceIdeal.nD Cert.SsdOutXReferenceIdeal.τ).loc Cert.SsdOutXReferenceIdeal.main_arg1) = m ((c.tc : Thread Cert.SsdOutXReferenceIdeal.nD Cert.SsdOutXReferenceIdeal.τ).loc Cert.SsdOutXReferenceIdeal.main_arg1))
      ∧ r.2.sem = fun _ => 0)

def quiescent_SsdOutW [hSsdOutW : Cert.SsdOutW.Facts] : Prop :=
  ∀ (m : (ℓ : Loc Cert.SsdOutW.nD Cert.SsdOutW.τ Cert.SsdOutW.sig) → Buf (Elt Bits) ℓ) (g : Dev Cert.SsdOutW.nD → PrngReg), Pre_SsdOutW m →
    θ_run (Cert.SsdOutW.defs (F := Bits)) (onTc (τ := Cert.SsdOutW.τ) (Cert.SsdOutW.main (F := Bits))) ⟨m, fun _ => 0, g⟩ (fun r => (∀ c : Dev Cert.SsdOutW.nD,
      r.2.mem ((c.tc : Thread Cert.SsdOutW.nD Cert.SsdOutW.τ).loc Cert.SsdOutW.main_arg0) = m ((c.tc : Thread Cert.SsdOutW.nD Cert.SsdOutW.τ).loc Cert.SsdOutW.main_arg0)
      ∧ r.2.mem ((c.tc : Thread Cert.SsdOutW.nD Cert.SsdOutW.τ).loc Cert.SsdOutW.main_arg1) = m ((c.tc : Thread Cert.SsdOutW.nD Cert.SsdOutW.τ).loc Cert.SsdOutW.main_arg1))
      ∧ r.2.sem = fun _ => 0)

def quiescent_SsdOutWIdeal [hSsdOutWIdeal : Cert.SsdOutWIdeal.Facts] : Prop :=
  ∀ (m : (ℓ : Loc Cert.SsdOutWIdeal.nD Cert.SsdOutWIdeal.τ Cert.SsdOutWIdeal.sig) → Buf (Elt Ideal) ℓ) (g : Dev Cert.SsdOutWIdeal.nD → PrngReg), Pre_SsdOutWIdeal m →
    θ_run (Cert.SsdOutWIdeal.defs (F := Ideal)) (onTc (τ := Cert.SsdOutWIdeal.τ) (Cert.SsdOutWIdeal.main (F := Ideal))) ⟨m, fun _ => 0, g⟩ (fun r => (∀ c : Dev Cert.SsdOutWIdeal.nD,
      r.2.mem ((c.tc : Thread Cert.SsdOutWIdeal.nD Cert.SsdOutWIdeal.τ).loc Cert.SsdOutWIdeal.main_arg0) = m ((c.tc : Thread Cert.SsdOutWIdeal.nD Cert.SsdOutWIdeal.τ).loc Cert.SsdOutWIdeal.main_arg0)
      ∧ r.2.mem ((c.tc : Thread Cert.SsdOutWIdeal.nD Cert.SsdOutWIdeal.τ).loc Cert.SsdOutWIdeal.main_arg1) = m ((c.tc : Thread Cert.SsdOutWIdeal.nD Cert.SsdOutWIdeal.τ).loc Cert.SsdOutWIdeal.main_arg1))
      ∧ r.2.sem = fun _ => 0)

def quiescent_SsdOutWReferenceIdeal [hSsdOutWReferenceIdeal : Cert.SsdOutWReferenceIdeal.Facts] : Prop :=
  ∀ (m : (ℓ : Loc Cert.SsdOutWReferenceIdeal.nD Cert.SsdOutWReferenceIdeal.τ Cert.SsdOutWReferenceIdeal.sig) → Buf (Elt Ideal) ℓ) (g : Dev Cert.SsdOutWReferenceIdeal.nD → PrngReg), Pre_SsdOutWReferenceIdeal m →
    θ_run (Cert.SsdOutWReferenceIdeal.defs (F := Ideal)) (onTc (τ := Cert.SsdOutWReferenceIdeal.τ) (Cert.SsdOutWReferenceIdeal.main (F := Ideal))) ⟨m, fun _ => 0, g⟩ (fun r => (∀ c : Dev Cert.SsdOutWReferenceIdeal.nD,
      r.2.mem ((c.tc : Thread Cert.SsdOutWReferenceIdeal.nD Cert.SsdOutWReferenceIdeal.τ).loc Cert.SsdOutWReferenceIdeal.main_arg0) = m ((c.tc : Thread Cert.SsdOutWReferenceIdeal.nD Cert.SsdOutWReferenceIdeal.τ).loc Cert.SsdOutWReferenceIdeal.main_arg0)
      ∧ r.2.mem ((c.tc : Thread Cert.SsdOutWReferenceIdeal.nD Cert.SsdOutWReferenceIdeal.τ).loc Cert.SsdOutWReferenceIdeal.main_arg1) = m ((c.tc : Thread Cert.SsdOutWReferenceIdeal.nD Cert.SsdOutWReferenceIdeal.τ).loc Cert.SsdOutWReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1))
      ∧ r.2.sem = fun _ => 0)

def quiescent_MemKvX [hMemKvX : Cert.MemKvX.Facts] : Prop :=
  ∀ (m : (ℓ : Loc Cert.MemKvX.nD Cert.MemKvX.τ Cert.MemKvX.sig) → Buf (Elt Bits) ℓ) (g : Dev Cert.MemKvX.nD → PrngReg), Pre_MemKvX m →
    θ_run (Cert.MemKvX.defs (F := Bits)) (onTc (τ := Cert.MemKvX.τ) (Cert.MemKvX.main (F := Bits))) ⟨m, fun _ => 0, g⟩ (fun r => (∀ c : Dev Cert.MemKvX.nD,
      r.2.mem ((c.tc : Thread Cert.MemKvX.nD Cert.MemKvX.τ).loc Cert.MemKvX.main_arg0) = m ((c.tc : Thread Cert.MemKvX.nD Cert.MemKvX.τ).loc Cert.MemKvX.main_arg0)
      ∧ r.2.mem ((c.tc : Thread Cert.MemKvX.nD Cert.MemKvX.τ).loc Cert.MemKvX.main_arg1) = m ((c.tc : Thread Cert.MemKvX.nD Cert.MemKvX.τ).loc Cert.MemKvX.main_arg1))
      ∧ r.2.sem = fun _ => 0)

def quiescent_MemKvXIdeal [hMemKvXIdeal : Cert.MemKvXIdeal.Facts] : Prop :=
  ∀ (m : (ℓ : Loc Cert.MemKvXIdeal.nD Cert.MemKvXIdeal.τ Cert.MemKvXIdeal.sig) → Buf (Elt Ideal) ℓ) (g : Dev Cert.MemKvXIdeal.nD → PrngReg), Pre_MemKvXIdeal m →
    θ_run (Cert.MemKvXIdeal.defs (F := Ideal)) (onTc (τ := Cert.MemKvXIdeal.τ) (Cert.MemKvXIdeal.main (F := Ideal))) ⟨m, fun _ => 0, g⟩ (fun r => (∀ c : Dev Cert.MemKvXIdeal.nD,
      r.2.mem ((c.tc : Thread Cert.MemKvXIdeal.nD Cert.MemKvXIdeal.τ).loc Cert.MemKvXIdeal.main_arg0) = m ((c.tc : Thread Cert.MemKvXIdeal.nD Cert.MemKvXIdeal.τ).loc Cert.MemKvXIdeal.main_arg0)
      ∧ r.2.mem ((c.tc : Thread Cert.MemKvXIdeal.nD Cert.MemKvXIdeal.τ).loc Cert.MemKvXIdeal.main_arg1) = m ((c.tc : Thread Cert.MemKvXIdeal.nD Cert.MemKvXIdeal.τ).loc Cert.MemKvXIdeal.main_arg1))
      ∧ r.2.sem = fun _ => 0)

def quiescent_MemKvXReferenceIdeal [hMemKvXReferenceIdeal : Cert.MemKvXReferenceIdeal.Facts] : Prop :=
  ∀ (m : (ℓ : Loc Cert.MemKvXReferenceIdeal.nD Cert.MemKvXReferenceIdeal.τ Cert.MemKvXReferenceIdeal.sig) → Buf (Elt Ideal) ℓ) (g : Dev Cert.MemKvXReferenceIdeal.nD → PrngReg), Pre_MemKvXReferenceIdeal m →
    θ_run (Cert.MemKvXReferenceIdeal.defs (F := Ideal)) (onTc (τ := Cert.MemKvXReferenceIdeal.τ) (Cert.MemKvXReferenceIdeal.main (F := Ideal))) ⟨m, fun _ => 0, g⟩ (fun r => (∀ c : Dev Cert.MemKvXReferenceIdeal.nD,
      r.2.mem ((c.tc : Thread Cert.MemKvXReferenceIdeal.nD Cert.MemKvXReferenceIdeal.τ).loc Cert.MemKvXReferenceIdeal.main_arg0) = m ((c.tc : Thread Cert.MemKvXReferenceIdeal.nD Cert.MemKvXReferenceIdeal.τ).loc Cert.MemKvXReferenceIdeal.main_arg0)
      ∧ r.2.mem ((c.tc : Thread Cert.MemKvXReferenceIdeal.nD Cert.MemKvXReferenceIdeal.τ).loc Cert.MemKvXReferenceIdeal.main_arg1) = m ((c.tc : Thread Cert.MemKvXReferenceIdeal.nD Cert.MemKvXReferenceIdeal.τ).loc Cert.MemKvXReferenceIdeal.main_arg1))
      ∧ r.2.sem = fun _ => 0)

def quiescent_MemKvW [hMemKvW : Cert.MemKvW.Facts] : Prop :=
  ∀ (m : (ℓ : Loc Cert.MemKvW.nD Cert.MemKvW.τ Cert.MemKvW.sig) → Buf (Elt Bits) ℓ) (g : Dev Cert.MemKvW.nD → PrngReg), Pre_MemKvW m →
    θ_run (Cert.MemKvW.defs (F := Bits)) (onTc (τ := Cert.MemKvW.τ) (Cert.MemKvW.main (F := Bits))) ⟨m, fun _ => 0, g⟩ (fun r => (∀ c : Dev Cert.MemKvW.nD,
      r.2.mem ((c.tc : Thread Cert.MemKvW.nD Cert.MemKvW.τ).loc Cert.MemKvW.main_arg0) = m ((c.tc : Thread Cert.MemKvW.nD Cert.MemKvW.τ).loc Cert.MemKvW.main_arg0)
      ∧ r.2.mem ((c.tc : Thread Cert.MemKvW.nD Cert.MemKvW.τ).loc Cert.MemKvW.main_arg1) = m ((c.tc : Thread Cert.MemKvW.nD Cert.MemKvW.τ).loc Cert.MemKvW.main_arg1))
      ∧ r.2.sem = fun _ => 0)

def quiescent_MemKvWIdeal [hMemKvWIdeal : Cert.MemKvWIdeal.Facts] : Prop :=
  ∀ (m : (ℓ : Loc Cert.MemKvWIdeal.nD Cert.MemKvWIdeal.τ Cert.MemKvWIdeal.sig) → Buf (Elt Ideal) ℓ) (g : Dev Cert.MemKvWIdeal.nD → PrngReg), Pre_MemKvWIdeal m →
    θ_run (Cert.MemKvWIdeal.defs (F := Ideal)) (onTc (τ := Cert.MemKvWIdeal.τ) (Cert.MemKvWIdeal.main (F := Ideal))) ⟨m, fun _ => 0, g⟩ (fun r => (∀ c : Dev Cert.MemKvWIdeal.nD,
      r.2.mem ((c.tc : Thread Cert.MemKvWIdeal.nD Cert.MemKvWIdeal.τ).loc Cert.MemKvWIdeal.main_arg0) = m ((c.tc : Thread Cert.MemKvWIdeal.nD Cert.MemKvWIdeal.τ).loc Cert.MemKvWIdeal.main_arg0)
      ∧ r.2.mem ((c.tc : Thread Cert.MemKvWIdeal.nD Cert.MemKvWIdeal.τ).loc Cert.MemKvWIdeal.main_arg1) = m ((c.tc : Thread Cert.MemKvWIdeal.nD Cert.MemKvWIdeal.τ).loc Cert.MemKvWIdeal.main_arg1))
      ∧ r.2.sem = fun _ => 0)

def quiescent_MemKvWReferenceIdeal [hMemKvWReferenceIdeal : Cert.MemKvWReferenceIdeal.Facts] : Prop :=
  ∀ (m : (ℓ : Loc Cert.MemKvWReferenceIdeal.nD Cert.MemKvWReferenceIdeal.τ Cert.MemKvWReferenceIdeal.sig) → Buf (Elt Ideal) ℓ) (g : Dev Cert.MemKvWReferenceIdeal.nD → PrngReg), Pre_MemKvWReferenceIdeal m →
    θ_run (Cert.MemKvWReferenceIdeal.defs (F := Ideal)) (onTc (τ := Cert.MemKvWReferenceIdeal.τ) (Cert.MemKvWReferenceIdeal.main (F := Ideal))) ⟨m, fun _ => 0, g⟩ (fun r => (∀ c : Dev Cert.MemKvWReferenceIdeal.nD,
      r.2.mem ((c.tc : Thread Cert.MemKvWReferenceIdeal.nD Cert.MemKvWReferenceIdeal.τ).loc Cert.MemKvWReferenceIdeal.main_arg0) = m ((c.tc : Thread Cert.MemKvWReferenceIdeal.nD Cert.MemKvWReferenceIdeal.τ).loc Cert.MemKvWReferenceIdeal.main_arg0)
      ∧ r.2.mem ((c.tc : Thread Cert.MemKvWReferenceIdeal.nD Cert.MemKvWReferenceIdeal.τ).loc Cert.MemKvWReferenceIdeal.main_arg1) = m ((c.tc : Thread Cert.MemKvWReferenceIdeal.nD Cert.MemKvWReferenceIdeal.τ).loc Cert.MemKvWReferenceIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvReferenceIdeal [hMemKvReferenceIdeal : Cert.MemKvReferenceIdeal.Facts] : Prop :=
  ∀ (m : (ℓ : Loc Cert.MemKvReferenceIdeal.nD Cert.MemKvReferenceIdeal.τ Cert.MemKvReferenceIdeal.sig) → Buf (Elt Ideal) ℓ) (g : Dev Cert.MemKvReferenceIdeal.nD → PrngReg), Pre_MemKvReferenceIdeal m →
    θ_run (Cert.MemKvReferenceIdeal.defs (F := Ideal)) (onTc (τ := Cert.MemKvReferenceIdeal.τ) (Cert.MemKvReferenceIdeal.main (F := Ideal))) ⟨m, fun _ => 0, g⟩ (fun r => (∀ c : Dev Cert.MemKvReferenceIdeal.nD,
      r.2.mem ((c.tc : Thread Cert.MemKvReferenceIdeal.nD Cert.MemKvReferenceIdeal.τ).loc Cert.MemKvReferenceIdeal.main_arg0) = m ((c.tc : Thread Cert.MemKvReferenceIdeal.nD Cert.MemKvReferenceIdeal.τ).loc Cert.MemKvReferenceIdeal.main_arg0)
      ∧ r.2.mem ((c.tc : Thread Cert.MemKvReferenceIdeal.nD Cert.MemKvReferenceIdeal.τ).loc Cert.MemKvReferenceIdeal.main_arg1) = m ((c.tc : Thread Cert.MemKvReferenceIdeal.nD Cert.MemKvReferenceIdeal.τ).loc Cert.MemKvReferenceIdeal.main_arg1))
      ∧ r.2.sem = fun _ => 0)

def quiescent_InXDt [hInXDt : Cert.InXDt.Facts] : Prop :=
  ∀ (m : (ℓ : Loc Cert.InXDt.nD Cert.InXDt.τ Cert.InXDt.sig) → Buf (Elt Bits) ℓ) (g : Dev Cert.InXDt.nD → PrngReg), Pre_InXDt m →
    θ_run (Cert.InXDt.defs (F := Bits)) (onTc (τ := Cert.InXDt.τ) (Cert.InXDt.main (F := Bits))) ⟨m, fun _ => 0, g⟩ (fun r => (∀ c : Dev Cert.InXDt.nD,
      r.2.mem ((c.tc : Thread Cert.InXDt.nD Cert.InXDt.τ).loc Cert.InXDt.main_arg0) = m ((c.tc : Thread Cert.InXDt.nD Cert.InXDt.τ).loc Cert.InXDt.main_arg0)
      ∧ r.2.mem ((c.tc : Thread Cert.InXDt.nD Cert.InXDt.τ).loc Cert.InXDt.main_arg1) = m ((c.tc : Thread Cert.InXDt.nD Cert.InXDt.τ).loc Cert.InXDt.main_arg1))
      ∧ r.2.sem = fun _ => 0)

def quiescent_InXDtIdeal [hInXDtIdeal : Cert.InXDtIdeal.Facts] : Prop :=
  ∀ (m : (ℓ : Loc Cert.InXDtIdeal.nD Cert.InXDtIdeal.τ Cert.InXDtIdeal.sig) → Buf (Elt Ideal) ℓ) (g : Dev Cert.InXDtIdeal.nD → PrngReg), Pre_InXDtIdeal m →
    θ_run (Cert.InXDtIdeal.defs (F := Ideal)) (onTc (τ := Cert.InXDtIdeal.τ) (Cert.InXDtIdeal.main (F := Ideal))) ⟨m, fun _ => 0, g⟩ (fun r => (∀ c : Dev Cert.InXDtIdeal.nD,
      r.2.mem ((c.tc : Thread Cert.InXDtIdeal.nD Cert.InXDtIdeal.τ).loc Cert.InXDtIdeal.main_arg0) = m ((c.tc : Thread Cert.InXDtIdeal.nD Cert.InXDtIdeal.τ).loc Cert.InXDtIdeal.main_arg0)
      ∧ r.2.mem ((c.tc : Thread Cert.InXDtIdeal.nD Cert.InXDtIdeal.τ).loc Cert.InXDtIdeal.main_arg1) = m ((c.tc : Thread Cert.InXDtIdeal.nD Cert.InXDtIdeal.τ).loc Cert.InXDtIdeal.main_arg1))
      ∧ r.2.sem = fun _ => 0)

def quiescent_InXDtReferenceIdeal [hInXDtReferenceIdeal : Cert.InXDtReferenceIdeal.Facts] : Prop :=
  ∀ (m : (ℓ : Loc Cert.InXDtReferenceIdeal.nD Cert.InXDtReferenceIdeal.τ Cert.InXDtReferenceIdeal.sig) → Buf (Elt Ideal) ℓ) (g : Dev Cert.InXDtReferenceIdeal.nD → PrngReg), Pre_InXDtReferenceIdeal m →
    θ_run (Cert.InXDtReferenceIdeal.defs (F := Ideal)) (onTc (τ := Cert.InXDtReferenceIdeal.τ) (Cert.InXDtReferenceIdeal.main (F := Ideal))) ⟨m, fun _ => 0, g⟩ (fun r => (∀ c : Dev Cert.InXDtReferenceIdeal.nD,
      r.2.mem ((c.tc : Thread Cert.InXDtReferenceIdeal.nD Cert.InXDtReferenceIdeal.τ).loc Cert.InXDtReferenceIdeal.main_arg0) = m ((c.tc : Thread Cert.InXDtReferenceIdeal.nD Cert.InXDtReferenceIdeal.τ).loc Cert.InXDtReferenceIdeal.main_arg0)
      ∧ r.2.mem ((c.tc : Thread Cert.InXDtReferenceIdeal.nD Cert.InXDtReferenceIdeal.τ).loc Cert.InXDtReferenceIdeal.main_arg1) = m ((c.tc : Thread Cert.InXDtReferenceIdeal.nD Cert.InXDtReferenceIdeal.τ).loc Cert.InXDtReferenceIdeal.main_arg1))
      ∧ r.2.sem = fun _ => 0)

def quiescent_InWDt [hInWDt : Cert.InWDt.Facts] : Prop :=
  ∀ (m : (ℓ : Loc Cert.InWDt.nD Cert.InWDt.τ Cert.InWDt.sig) → Buf (Elt Bits) ℓ) (g : Dev Cert.InWDt.nD → PrngReg), Pre_InWDt m →
    θ_run (Cert.InWDt.defs (F := Bits)) (onTc (τ := Cert.InWDt.τ) (Cert.InWDt.main (F := Bits))) ⟨m, fun _ => 0, g⟩ (fun r => (∀ c : Dev Cert.InWDt.nD,
      r.2.mem ((c.tc : Thread Cert.InWDt.nD Cert.InWDt.τ).loc Cert.InWDt.main_arg0) = m ((c.tc : Thread Cert.InWDt.nD Cert.InWDt.τ).loc Cert.InWDt.main_arg0)
      ∧ r.2.mem ((c.tc : Thread Cert.InWDt.nD Cert.InWDt.τ).loc Cert.InWDt.main_arg1) = m ((c.tc : Thread Cert.InWDt.nD Cert.InWDt.τ).loc Cert.InWDt.main_arg1))
      ∧ r.2.sem = fun _ => 0)

def quiescent_InWDtIdeal [hInWDtIdeal : Cert.InWDtIdeal.Facts] : Prop :=
  ∀ (m : (ℓ : Loc Cert.InWDtIdeal.nD Cert.InWDtIdeal.τ Cert.InWDtIdeal.sig) → Buf (Elt Ideal) ℓ) (g : Dev Cert.InWDtIdeal.nD → PrngReg), Pre_InWDtIdeal m →
    θ_run (Cert.InWDtIdeal.defs (F := Ideal)) (onTc (τ := Cert.InWDtIdeal.τ) (Cert.InWDtIdeal.main (F := Ideal))) ⟨m, fun _ => 0, g⟩ (fun r => (∀ c : Dev Cert.InWDtIdeal.nD,
      r.2.mem ((c.tc : Thread Cert.InWDtIdeal.nD Cert.InWDtIdeal.τ).loc Cert.InWDtIdeal.main_arg0) = m ((c.tc : Thread Cert.InWDtIdeal.nD Cert.InWDtIdeal.τ).loc Cert.InWDtIdeal.main_arg0)
      ∧ r.2.mem ((c.tc : Thread Cert.InWDtIdeal.nD Cert.InWDtIdeal.τ).loc Cert.InWDtIdeal.main_arg1) = m ((c.tc : Thread Cert.InWDtIdeal.nD Cert.InWDtIdeal.τ).loc Cert.InWDtIdeal.main_arg1))
      ∧ r.2.sem = fun _ => 0)

def quiescent_InWDtReferenceIdeal [hInWDtReferenceIdeal : Cert.InWDtReferenceIdeal.Facts] : Prop :=
  ∀ (m : (ℓ : Loc Cert.InWDtReferenceIdeal.nD Cert.InWDtReferenceIdeal.τ Cert.InWDtReferenceIdeal.sig) → Buf (Elt Ideal) ℓ) (g : Dev Cert.InWDtReferenceIdeal.nD → PrngReg), Pre_InWDtReferenceIdeal m →
    θ_run (Cert.InWDtReferenceIdeal.defs (F := Ideal)) (onTc (τ := Cert.InWDtReferenceIdeal.τ) (Cert.InWDtReferenceIdeal.main (F := Ideal))) ⟨m, fun _ => 0, g⟩ (fun r => (∀ c : Dev Cert.InWDtReferenceIdeal.nD,
      r.2.mem ((c.tc : Thread Cert.InWDtReferenceIdeal.nD Cert.InWDtReferenceIdeal.τ).loc Cert.InWDtReferenceIdeal.main_arg0) = m ((c.tc : Thread Cert.InWDtReferenceIdeal.nD Cert.InWDtReferenceIdeal.τ).loc Cert.InWDtReferenceIdeal.main_arg0)
      ∧ r.2.mem ((c.tc : Thread Cert.InWDtReferenceIdeal.nD Cert.InWDtReferenceIdeal.τ).loc Cert.InWDtReferenceIdeal.main_arg1) = m ((c.tc : Thread Cert.InWDtReferenceIdeal.nD Cert.InWDtReferenceIdeal.τ).loc Cert.InWDtReferenceIdeal.main_arg1))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ r.2.sem = fun _ => 0)

def quiescent_InDtReferenceIdeal [hInDtReferenceIdeal : Cert.InDtReferenceIdeal.Facts] : Prop :=
  ∀ (m : (ℓ : Loc Cert.InDtReferenceIdeal.nD Cert.InDtReferenceIdeal.τ Cert.InDtReferenceIdeal.sig) → Buf (Elt Ideal) ℓ) (g : Dev Cert.InDtReferenceIdeal.nD → PrngReg), Pre_InDtReferenceIdeal m →
    θ_run (Cert.InDtReferenceIdeal.defs (F := Ideal)) (onTc (τ := Cert.InDtReferenceIdeal.τ) (Cert.InDtReferenceIdeal.main (F := Ideal))) ⟨m, fun _ => 0, g⟩ (fun r => (∀ c : Dev Cert.InDtReferenceIdeal.nD,
      r.2.mem ((c.tc : Thread Cert.InDtReferenceIdeal.nD Cert.InDtReferenceIdeal.τ).loc Cert.InDtReferenceIdeal.main_arg0) = m ((c.tc : Thread Cert.InDtReferenceIdeal.nD Cert.InDtReferenceIdeal.τ).loc Cert.InDtReferenceIdeal.main_arg0)
      ∧ r.2.mem ((c.tc : Thread Cert.InDtReferenceIdeal.nD Cert.InDtReferenceIdeal.τ).loc Cert.InDtReferenceIdeal.main_arg1) = m ((c.tc : Thread Cert.InDtReferenceIdeal.nD Cert.InDtReferenceIdeal.τ).loc Cert.InDtReferenceIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdReferenceIdeal [hMemFwdReferenceIdeal : Cert.MemFwdReferenceIdeal.Facts] : Prop :=
  ∀ (m : (ℓ : Loc Cert.MemFwdReferenceIdeal.nD Cert.MemFwdReferenceIdeal.τ Cert.MemFwdReferenceIdeal.sig) → Buf (Elt Ideal) ℓ) (g : Dev Cert.MemFwdReferenceIdeal.nD → PrngReg), Pre_MemFwdReferenceIdeal m →
    θ_run (Cert.MemFwdReferenceIdeal.defs (F := Ideal)) (onTc (τ := Cert.MemFwdReferenceIdeal.τ) (Cert.MemFwdReferenceIdeal.main (F := Ideal))) ⟨m, fun _ => 0, g⟩ (fun r => (∀ c : Dev Cert.MemFwdReferenceIdeal.nD,
      r.2.mem ((c.tc : Thread Cert.MemFwdReferenceIdeal.nD Cert.MemFwdReferenceIdeal.τ).loc Cert.MemFwdReferenceIdeal.main_arg0) = m ((c.tc : Thread Cert.MemFwdReferenceIdeal.nD Cert.MemFwdReferenceIdeal.τ).loc Cert.MemFwdReferenceIdeal.main_arg0)
      ∧ r.2.mem ((c.tc : Thread Cert.MemFwdReferenceIdeal.nD Cert.MemFwdReferenceIdeal.τ).loc Cert.MemFwdReferenceIdeal.main_arg1) = m ((c.tc : Thread Cert.MemFwdReferenceIdeal.nD Cert.MemFwdReferenceIdeal.τ).loc Cert.MemFwdReferenceIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0))
      ∧ r.2.sem = fun _ => 0)

def quiescent_FwdIdeal_pre_forward_finite [hFwdIdeal : Cert.FwdIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_forward_finite m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0))
      ∧ r.2.sem = fun _ => 0)

def quiescent_FwdReferenceIdeal_pre_forward_finite [hFwdReferenceIdeal : Cert.FwdReferenceIdeal.Facts] [hPre_forward_finite : Cert.Pre_forward_finite.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_forward_finite m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_DownX_DownXIdeal : Prop :=
  True

def algebraic_DownXIdeal_DownXReferenceIdeal [hDownXIdeal : Cert.DownXIdeal.Facts] [hDownXReferenceIdeal : Cert.DownXReferenceIdeal.Facts] : Prop :=
  ∀ (m : (ℓ : Loc Cert.DownXIdeal.nD Cert.DownXIdeal.τ Cert.DownXIdeal.sig) → Buf (Elt Ideal) ℓ) (g : Dev Cert.DownXIdeal.nD → PrngReg)
    (m' : (ℓ : Loc Cert.DownXReferenceIdeal.nD Cert.DownXReferenceIdeal.τ Cert.DownXReferenceIdeal.sig) → Buf (Elt Ideal) ℓ) (g' : Dev Cert.DownXReferenceIdeal.nD → PrngReg), Pre_DownXIdeal m →
    (∀ c : Dev Cert.DownXIdeal.nD,
      m' ((c.tc : Thread Cert.DownXReferenceIdeal.nD Cert.DownXReferenceIdeal.τ).loc Cert.DownXReferenceIdeal.main_arg0) = m ((c.tc : Thread Cert.DownXIdeal.nD Cert.DownXIdeal.τ).loc Cert.DownXIdeal.main_arg0)
      ∧ m' ((c.tc : Thread Cert.DownXReferenceIdeal.nD Cert.DownXReferenceIdeal.τ).loc Cert.DownXReferenceIdeal.main_arg1) = m ((c.tc : Thread Cert.DownXIdeal.nD Cert.DownXIdeal.τ).loc Cert.DownXIdeal.main_arg1)
      ∧ m' ((c.tc : Thread Cert.DownXReferenceIdeal.nD Cert.DownXReferenceIdeal.τ).loc Cert.DownXReferenceIdeal.main_arg2) = m ((c.tc : Thread Cert.DownXIdeal.nD Cert.DownXIdeal.τ).loc Cert.DownXIdeal.main_arg2)) →
    ∃ (v0 : (c : Dev Cert.DownXIdeal.nD) → Buf (Elt Ideal) ((c.tc : Thread Cert.DownXIdeal.nD Cert.DownXIdeal.τ).loc Cert.DownXIdeal.main_v0)),
      θ_run (Cert.DownXIdeal.defs (F := Ideal)) (onTc (τ := Cert.DownXIdeal.τ) (Cert.DownXIdeal.main (F := Ideal))) ⟨m, fun _ => 0, g⟩ (fun r => ∀ c : Dev Cert.DownXIdeal.nD,
          r.2.mem ((c.tc : Thread Cert.DownXIdeal.nD Cert.DownXIdeal.τ).loc Cert.DownXIdeal.main_v0) = v0 c
          ∧ r.2.mem ((c.tc : Thread Cert.DownXIdeal.nD Cert.DownXIdeal.τ).loc Cert.DownXIdeal.main_arg0) = m ((c.tc : Thread Cert.DownXIdeal.nD Cert.DownXIdeal.τ).loc Cert.DownXIdeal.main_arg0)
          ∧ r.2.mem ((c.tc : Thread Cert.DownXIdeal.nD Cert.DownXIdeal.τ).loc Cert.DownXIdeal.main_arg1) = m ((c.tc : Thread Cert.DownXIdeal.nD Cert.DownXIdeal.τ).loc Cert.DownXIdeal.main_arg1)
          ∧ r.2.mem ((c.tc : Thread Cert.DownXIdeal.nD Cert.DownXIdeal.τ).loc Cert.DownXIdeal.main_arg2) = m ((c.tc : Thread Cert.DownXIdeal.nD Cert.DownXIdeal.τ).loc Cert.DownXIdeal.main_arg2))
      ∧ θ_run (Cert.DownXReferenceIdeal.defs (F := Ideal)) (onTc (τ := Cert.DownXReferenceIdeal.τ) (Cert.DownXReferenceIdeal.main (F := Ideal))) ⟨m', fun _ => 0, g'⟩ (fun r => ∀ c : Dev Cert.DownXReferenceIdeal.nD,
          r.2.mem ((c.tc : Thread Cert.DownXReferenceIdeal.nD Cert.DownXReferenceIdeal.τ).loc Cert.DownXReferenceIdeal.main_v14) = v0 c
          ∧ r.2.mem ((c.tc : Thread Cert.DownXReferenceIdeal.nD Cert.DownXReferenceIdeal.τ).loc Cert.DownXReferenceIdeal.main_arg0) = m' ((c.tc : Thread Cert.DownXReferenceIdeal.nD Cert.DownXReferenceIdeal.τ).loc Cert.DownXReferenceIdeal.main_arg0)
          ∧ r.2.mem ((c.tc : Thread Cert.DownXReferenceIdeal.nD Cert.DownXReferenceIdeal.τ).loc Cert.DownXReferenceIdeal.main_arg1) = m' ((c.tc : Thread Cert.DownXReferenceIdeal.nD Cert.DownXReferenceIdeal.τ).loc Cert.DownXReferenceIdeal.main_arg1)
          ∧ r.2.mem ((c.tc : Thread Cert.DownXReferenceIdeal.nD Cert.DownXReferenceIdeal.τ).loc Cert.DownXReferenceIdeal.main_arg2) = m' ((c.tc : Thread Cert.DownXReferenceIdeal.nD Cert.DownXReferenceIdeal.τ).loc Cert.DownXReferenceIdeal.main_arg2))

def preserves_DownW_DownWIdeal : Prop :=
  True

def algebraic_DownWIdeal_DownWReferenceIdeal [hDownWIdeal : Cert.DownWIdeal.Facts] [hDownWReferenceIdeal : Cert.DownWReferenceIdeal.Facts] : Prop :=
  ∀ (m : (ℓ : Loc Cert.DownWIdeal.nD Cert.DownWIdeal.τ Cert.DownWIdeal.sig) → Buf (Elt Ideal) ℓ) (g : Dev Cert.DownWIdeal.nD → PrngReg)
    (m' : (ℓ : Loc Cert.DownWReferenceIdeal.nD Cert.DownWReferenceIdeal.τ Cert.DownWReferenceIdeal.sig) → Buf (Elt Ideal) ℓ) (g' : Dev Cert.DownWReferenceIdeal.nD → PrngReg), Pre_DownWIdeal m →
    (∀ c : Dev Cert.DownWIdeal.nD,
      m' ((c.tc : Thread Cert.DownWReferenceIdeal.nD Cert.DownWReferenceIdeal.τ).loc Cert.DownWReferenceIdeal.main_arg0) = m ((c.tc : Thread Cert.DownWIdeal.nD Cert.DownWIdeal.τ).loc Cert.DownWIdeal.main_arg0)
      ∧ m' ((c.tc : Thread Cert.DownWReferenceIdeal.nD Cert.DownWReferenceIdeal.τ).loc Cert.DownWReferenceIdeal.main_arg1) = m ((c.tc : Thread Cert.DownWIdeal.nD Cert.DownWIdeal.τ).loc Cert.DownWIdeal.main_arg1)) →
    ∃ (v0 : (c : Dev Cert.DownWIdeal.nD) → Buf (Elt Ideal) ((c.tc : Thread Cert.DownWIdeal.nD Cert.DownWIdeal.τ).loc Cert.DownWIdeal.main_v0)),
      θ_run (Cert.DownWIdeal.defs (F := Ideal)) (onTc (τ := Cert.DownWIdeal.τ) (Cert.DownWIdeal.main (F := Ideal))) ⟨m, fun _ => 0, g⟩ (fun r => ∀ c : Dev Cert.DownWIdeal.nD,
          r.2.mem ((c.tc : Thread Cert.DownWIdeal.nD Cert.DownWIdeal.τ).loc Cert.DownWIdeal.main_v0) = v0 c
          ∧ r.2.mem ((c.tc : Thread Cert.DownWIdeal.nD Cert.DownWIdeal.τ).loc Cert.DownWIdeal.main_arg0) = m ((c.tc : Thread Cert.DownWIdeal.nD Cert.DownWIdeal.τ).loc Cert.DownWIdeal.main_arg0)
          ∧ r.2.mem ((c.tc : Thread Cert.DownWIdeal.nD Cert.DownWIdeal.τ).loc Cert.DownWIdeal.main_arg1) = m ((c.tc : Thread Cert.DownWIdeal.nD Cert.DownWIdeal.τ).loc Cert.DownWIdeal.main_arg1))
      ∧ θ_run (Cert.DownWReferenceIdeal.defs (F := Ideal)) (onTc (τ := Cert.DownWReferenceIdeal.τ) (Cert.DownWReferenceIdeal.main (F := Ideal))) ⟨m', fun _ => 0, g'⟩ (fun r => ∀ c : Dev Cert.DownWReferenceIdeal.nD,
          r.2.mem ((c.tc : Thread Cert.DownWReferenceIdeal.nD Cert.DownWReferenceIdeal.τ).loc Cert.DownWReferenceIdeal.main_v5) = v0 c
          ∧ r.2.mem ((c.tc : Thread Cert.DownWReferenceIdeal.nD Cert.DownWReferenceIdeal.τ).loc Cert.DownWReferenceIdeal.main_arg0) = m' ((c.tc : Thread Cert.DownWReferenceIdeal.nD Cert.DownWReferenceIdeal.τ).loc Cert.DownWReferenceIdeal.main_arg0)
          ∧ r.2.mem ((c.tc : Thread Cert.DownWReferenceIdeal.nD Cert.DownWReferenceIdeal.τ).loc Cert.DownWReferenceIdeal.main_arg1) = m' ((c.tc : Thread Cert.DownWReferenceIdeal.nD Cert.DownWReferenceIdeal.τ).loc Cert.DownWReferenceIdeal.main_arg1))

def preserves_UpX_UpXIdeal : Prop :=
  True

def algebraic_UpXIdeal_UpXReferenceIdeal [hUpXIdeal : Cert.UpXIdeal.Facts] [hUpXReferenceIdeal : Cert.UpXReferenceIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXReferenceIdeal.nD Cert.UpXReferenceIdeal.τ Cert.UpXReferenceIdeal.sig) → Buf (Elt Ideal) ℓ) (g' : Dev Cert.UpXReferenceIdeal.nD → PrngReg), Pre_UpXIdeal m →
    (∀ c : Dev Cert.UpXIdeal.nD,
      m' ((c.tc : Thread Cert.UpXReferenceIdeal.nD Cert.UpXReferenceIdeal.τ).loc Cert.UpXReferenceIdeal.main_arg0) = m ((c.tc : Thread Cert.UpXIdeal.nD Cert.UpXIdeal.τ).loc Cert.UpXIdeal.main_arg0)
      ∧ m' ((c.tc : Thread Cert.UpXReferenceIdeal.nD Cert.UpXReferenceIdeal.τ).loc Cert.UpXReferenceIdeal.main_arg1) = m ((c.tc : Thread Cert.UpXIdeal.nD Cert.UpXIdeal.τ).loc Cert.UpXIdeal.main_arg1)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1))
      ∧ θ_run (Cert.UpXReferenceIdeal.defs (F := Ideal)) (onTc (τ := Cert.UpXReferenceIdeal.τ) (Cert.UpXReferenceIdeal.main (F := Ideal))) ⟨m', fun _ => 0, g'⟩ (fun r => ∀ c : Dev Cert.UpXReferenceIdeal.nD,
          r.2.mem ((c.tc : Thread Cert.UpXReferenceIdeal.nD Cert.UpXReferenceIdeal.τ).loc Cert.UpXReferenceIdeal.main_v4) = v0 c
          ∧ r.2.mem ((c.tc : Thread Cert.UpXReferenceIdeal.nD Cert.UpXReferenceIdeal.τ).loc Cert.UpXReferenceIdeal.main_arg0) = m' ((c.tc : Thread Cert.UpXReferenceIdeal.nD Cert.UpXReferenceIdeal.τ).loc Cert.UpXReferenceIdeal.main_arg0)
          ∧ r.2.mem ((c.tc : Thread Cert.UpXReferenceIdeal.nD Cert.UpXReferenceIdeal.τ).loc Cert.UpXReferenceIdeal.main_arg1) = m' ((c.tc : Thread Cert.UpXReferenceIdeal.nD Cert.UpXReferenceIdeal.τ).loc Cert.UpXReferenceIdeal.main_arg1))

def preserves_UpW_UpWIdeal : Prop :=
  True

def algebraic_UpWIdeal_UpWReferenceIdeal [hUpWIdeal : Cert.UpWIdeal.Facts] [hUpWReferenceIdeal : Cert.UpWReferenceIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWReferenceIdeal.nD Cert.UpWReferenceIdeal.τ Cert.UpWReferenceIdeal.sig) → Buf (Elt Ideal) ℓ) (g' : Dev Cert.UpWReferenceIdeal.nD → PrngReg), Pre_UpWIdeal m →
    (∀ c : Dev Cert.UpWIdeal.nD,
      m' ((c.tc : Thread Cert.UpWReferenceIdeal.nD Cert.UpWReferenceIdeal.τ).loc Cert.UpWReferenceIdeal.main_arg0) = m ((c.tc : Thread Cert.UpWIdeal.nD Cert.UpWIdeal.τ).loc Cert.UpWIdeal.main_arg0)
      ∧ m' ((c.tc : Thread Cert.UpWReferenceIdeal.nD Cert.UpWReferenceIdeal.τ).loc Cert.UpWReferenceIdeal.main_arg1) = m ((c.tc : Thread Cert.UpWIdeal.nD Cert.UpWIdeal.τ).loc Cert.UpWIdeal.main_arg1)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1))
      ∧ θ_run (Cert.UpWReferenceIdeal.defs (F := Ideal)) (onTc (τ := Cert.UpWReferenceIdeal.τ) (Cert.UpWReferenceIdeal.main (F := Ideal))) ⟨m', fun _ => 0, g'⟩ (fun r => ∀ c : Dev Cert.UpWReferenceIdeal.nD,
          r.2.mem ((c.tc : Thread Cert.UpWReferenceIdeal.nD Cert.UpWReferenceIdeal.τ).loc Cert.UpWReferenceIdeal.main_v5) = v0 c
          ∧ r.2.mem ((c.tc : Thread Cert.UpWReferenceIdeal.nD Cert.UpWReferenceIdeal.τ).loc Cert.UpWReferenceIdeal.main_arg0) = m' ((c.tc : Thread Cert.UpWReferenceIdeal.nD Cert.UpWReferenceIdeal.τ).loc Cert.UpWReferenceIdeal.main_arg0)
          ∧ r.2.mem ((c.tc : Thread Cert.UpWReferenceIdeal.nD Cert.UpWReferenceIdeal.τ).loc Cert.UpWReferenceIdeal.main_arg1) = m' ((c.tc : Thread Cert.UpWReferenceIdeal.nD Cert.UpWReferenceIdeal.τ).loc Cert.UpWReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_v5) = v1 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v2) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_InXQkv_InXQkvIdeal : Prop :=
  True

def algebraic_InXQkvIdeal_InXQkvReferenceIdeal [hInXQkvIdeal : Cert.InXQkvIdeal.Facts] [hInXQkvReferenceIdeal : Cert.InXQkvReferenceIdeal.Facts] : Prop :=
  ∀ (m : (ℓ : Loc Cert.InXQkvIdeal.nD Cert.InXQkvIdeal.τ Cert.InXQkvIdeal.sig) → Buf (Elt Ideal) ℓ) (g : Dev Cert.InXQkvIdeal.nD → PrngReg)
    (m' : (ℓ : Loc Cert.InXQkvReferenceIdeal.nD Cert.InXQkvReferenceIdeal.τ Cert.InXQkvReferenceIdeal.sig) → Buf (Elt Ideal) ℓ) (g' : Dev Cert.InXQkvReferenceIdeal.nD → PrngReg), Pre_InXQkvIdeal m →
    (∀ c : Dev Cert.InXQkvIdeal.nD,
      m' ((c.tc : Thread Cert.InXQkvReferenceIdeal.nD Cert.InXQkvReferenceIdeal.τ).loc Cert.InXQkvReferenceIdeal.main_arg0) = m ((c.tc : Thread Cert.InXQkvIdeal.nD Cert.InXQkvIdeal.τ).loc Cert.InXQkvIdeal.main_arg0)
      ∧ m' ((c.tc : Thread Cert.InXQkvReferenceIdeal.nD Cert.InXQkvReferenceIdeal.τ).loc Cert.InXQkvReferenceIdeal.main_arg1) = m ((c.tc : Thread Cert.InXQkvIdeal.nD Cert.InXQkvIdeal.τ).loc Cert.InXQkvIdeal.main_arg1)) →
    ∃ (v0 : (c : Dev Cert.InXQkvIdeal.nD) → Buf (Elt Ideal) ((c.tc : Thread Cert.InXQkvIdeal.nD Cert.InXQkvIdeal.τ).loc Cert.InXQkvIdeal.main_v0)),
      θ_run (Cert.InXQkvIdeal.defs (F := Ideal)) (onTc (τ := Cert.InXQkvIdeal.τ) (Cert.InXQkvIdeal.main (F := Ideal))) ⟨m, fun _ => 0, g⟩ (fun r => ∀ c : Dev Cert.InXQkvIdeal.nD,
          r.2.mem ((c.tc : Thread Cert.InXQkvIdeal.nD Cert.InXQkvIdeal.τ).loc Cert.InXQkvIdeal.main_v0) = v0 c
          ∧ r.2.mem ((c.tc : Thread Cert.InXQkvIdeal.nD Cert.InXQkvIdeal.τ).loc Cert.InXQkvIdeal.main_arg0) = m ((c.tc : Thread Cert.InXQkvIdeal.nD Cert.InXQkvIdeal.τ).loc Cert.InXQkvIdeal.main_arg0)
          ∧ r.2.mem ((c.tc : Thread Cert.InXQkvIdeal.nD Cert.InXQkvIdeal.τ).loc Cert.InXQkvIdeal.main_arg1) = m ((c.tc : Thread Cert.InXQkvIdeal.nD Cert.InXQkvIdeal.τ).loc Cert.InXQkvIdeal.main_arg1))
      ∧ θ_run (Cert.InXQkvReferenceIdeal.defs (F := Ideal)) (onTc (τ := Cert.InXQkvReferenceIdeal.τ) (Cert.InXQkvReferenceIdeal.main (F := Ideal))) ⟨m', fun _ => 0, g'⟩ (fun r => ∀ c : Dev Cert.InXQkvReferenceIdeal.nD,
          r.2.mem ((c.tc : Thread Cert.InXQkvReferenceIdeal.nD Cert.InXQkvReferenceIdeal.τ).loc Cert.InXQkvReferenceIdeal.main_v6) = v0 c
          ∧ r.2.mem ((c.tc : Thread Cert.InXQkvReferenceIdeal.nD Cert.InXQkvReferenceIdeal.τ).loc Cert.InXQkvReferenceIdeal.main_arg0) = m' ((c.tc : Thread Cert.InXQkvReferenceIdeal.nD Cert.InXQkvReferenceIdeal.τ).loc Cert.InXQkvReferenceIdeal.main_arg0)
          ∧ r.2.mem ((c.tc : Thread Cert.InXQkvReferenceIdeal.nD Cert.InXQkvReferenceIdeal.τ).loc Cert.InXQkvReferenceIdeal.main_arg1) = m' ((c.tc : Thread Cert.InXQkvReferenceIdeal.nD Cert.InXQkvReferenceIdeal.τ).loc Cert.InXQkvReferenceIdeal.main_arg1))

def preserves_InXZ_InXZIdeal : Prop :=
  True

def algebraic_InXZIdeal_InXZReferenceIdeal [hInXZIdeal : Cert.InXZIdeal.Facts] [hInXZReferenceIdeal : Cert.InXZReferenceIdeal.Facts] : Prop :=
  ∀ (m : (ℓ : Loc Cert.InXZIdeal.nD Cert.InXZIdeal.τ Cert.InXZIdeal.sig) → Buf (Elt Ideal) ℓ) (g : Dev Cert.InXZIdeal.nD → PrngReg)
    (m' : (ℓ : Loc Cert.InXZReferenceIdeal.nD Cert.InXZReferenceIdeal.τ Cert.InXZReferenceIdeal.sig) → Buf (Elt Ideal) ℓ) (g' : Dev Cert.InXZReferenceIdeal.nD → PrngReg), Pre_InXZIdeal m →
    (∀ c : Dev Cert.InXZIdeal.nD,
      m' ((c.tc : Thread Cert.InXZReferenceIdeal.nD Cert.InXZReferenceIdeal.τ).loc Cert.InXZReferenceIdeal.main_arg0) = m ((c.tc : Thread Cert.InXZIdeal.nD Cert.InXZIdeal.τ).loc Cert.InXZIdeal.main_arg0)
      ∧ m' ((c.tc : Thread Cert.InXZReferenceIdeal.nD Cert.InXZReferenceIdeal.τ).loc Cert.InXZReferenceIdeal.main_arg1) = m ((c.tc : Thread Cert.InXZIdeal.nD Cert.InXZIdeal.τ).loc Cert.InXZIdeal.main_arg1)) →
    ∃ (v0 : (c : Dev Cert.InXZIdeal.nD) → Buf (Elt Ideal) ((c.tc : Thread Cert.InXZIdeal.nD Cert.InXZIdeal.τ).loc Cert.InXZIdeal.main_v0)),
      θ_run (Cert.InXZIdeal.defs (F := Ideal)) (onTc (τ := Cert.InXZIdeal.τ) (Cert.InXZIdeal.main (F := Ideal))) ⟨m, fun _ => 0, g⟩ (fun r => ∀ c : Dev Cert.InXZIdeal.nD,
          r.2.mem ((c.tc : Thread Cert.InXZIdeal.nD Cert.InXZIdeal.τ).loc Cert.InXZIdeal.main_v0) = v0 c
          ∧ r.2.mem ((c.tc : Thread Cert.InXZIdeal.nD Cert.InXZIdeal.τ).loc Cert.InXZIdeal.main_arg0) = m ((c.tc : Thread Cert.InXZIdeal.nD Cert.InXZIdeal.τ).loc Cert.InXZIdeal.main_arg0)
          ∧ r.2.mem ((c.tc : Thread Cert.InXZIdeal.nD Cert.InXZIdeal.τ).loc Cert.InXZIdeal.main_arg1) = m ((c.tc : Thread Cert.InXZIdeal.nD Cert.InXZIdeal.τ).loc Cert.InXZIdeal.main_arg1))
      ∧ θ_run (Cert.InXZReferenceIdeal.defs (F := Ideal)) (onTc (τ := Cert.InXZReferenceIdeal.τ) (Cert.InXZReferenceIdeal.main (F := Ideal))) ⟨m', fun _ => 0, g'⟩ (fun r => ∀ c : Dev Cert.InXZReferenceIdeal.nD,
          r.2.mem ((c.tc : Thread Cert.InXZReferenceIdeal.nD Cert.InXZReferenceIdeal.τ).loc Cert.InXZReferenceIdeal.main_v6) = v0 c
          ∧ r.2.mem ((c.tc : Thread Cert.InXZReferenceIdeal.nD Cert.InXZReferenceIdeal.τ).loc Cert.InXZReferenceIdeal.main_arg0) = m' ((c.tc : Thread Cert.InXZReferenceIdeal.nD Cert.InXZReferenceIdeal.τ).loc Cert.InXZReferenceIdeal.main_arg0)
          ∧ r.2.mem ((c.tc : Thread Cert.InXZReferenceIdeal.nD Cert.InXZReferenceIdeal.τ).loc Cert.InXZReferenceIdeal.main_arg1) = m' ((c.tc : Thread Cert.InXZReferenceIdeal.nD Cert.InXZReferenceIdeal.τ).loc Cert.InXZReferenceIdeal.main_arg1))

def preserves_InXXbc_InXXbcIdeal : Prop :=
  True

def algebraic_InXXbcIdeal_InXXbcReferenceIdeal [hInXXbcIdeal : Cert.InXXbcIdeal.Facts] [hInXXbcReferenceIdeal : Cert.InXXbcReferenceIdeal.Facts] : Prop :=
  ∀ (m : (ℓ : Loc Cert.InXXbcIdeal.nD Cert.InXXbcIdeal.τ Cert.InXXbcIdeal.sig) → Buf (Elt Ideal) ℓ) (g : Dev Cert.InXXbcIdeal.nD → PrngReg)
    (m' : (ℓ : Loc Cert.InXXbcReferenceIdeal.nD Cert.InXXbcReferenceIdeal.τ Cert.InXXbcReferenceIdeal.sig) → Buf (Elt Ideal) ℓ) (g' : Dev Cert.InXXbcReferenceIdeal.nD → PrngReg), Pre_InXXbcIdeal m →
    (∀ c : Dev Cert.InXXbcIdeal.nD,
      m' ((c.tc : Thread Cert.InXXbcReferenceIdeal.nD Cert.InXXbcReferenceIdeal.τ).loc Cert.InXXbcReferenceIdeal.main_arg0) = m ((c.tc : Thread Cert.InXXbcIdeal.nD Cert.InXXbcIdeal.τ).loc Cert.InXXbcIdeal.main_arg0)
      ∧ m' ((c.tc : Thread Cert.InXXbcReferenceIdeal.nD Cert.InXXbcReferenceIdeal.τ).loc Cert.InXXbcReferenceIdeal.main_arg1) = m ((c.tc : Thread Cert.InXXbcIdeal.nD Cert.InXXbcIdeal.τ).loc Cert.InXXbcIdeal.main_arg1)) →
    ∃ (v0 : (c : Dev Cert.InXXbcIdeal.nD) → Buf (Elt Ideal) ((c.tc : Thread Cert.InXXbcIdeal.nD Cert.InXXbcIdeal.τ).loc Cert.InXXbcIdeal.main_v0)),
      θ_run (Cert.InXXbcIdeal.defs (F := Ideal)) (onTc (τ := Cert.InXXbcIdeal.τ) (Cert.InXXbcIdeal.main (F := Ideal))) ⟨m, fun _ => 0, g⟩ (fun r => ∀ c : Dev Cert.InXXbcIdeal.nD,
          r.2.mem ((c.tc : Thread Cert.InXXbcIdeal.nD Cert.InXXbcIdeal.τ).loc Cert.InXXbcIdeal.main_v0) = v0 c
          ∧ r.2.mem ((c.tc : Thread Cert.InXXbcIdeal.nD Cert.InXXbcIdeal.τ).loc Cert.InXXbcIdeal.main_arg0) = m ((c.tc : Thread Cert.InXXbcIdeal.nD Cert.InXXbcIdeal.τ).loc Cert.InXXbcIdeal.main_arg0)
          ∧ r.2.mem ((c.tc : Thread Cert.InXXbcIdeal.nD Cert.InXXbcIdeal.τ).loc Cert.InXXbcIdeal.main_arg1) = m ((c.tc : Thread Cert.InXXbcIdeal.nD Cert.InXXbcIdeal.τ).loc Cert.InXXbcIdeal.main_arg1))
      ∧ θ_run (Cert.InXXbcReferenceIdeal.defs (F := Ideal)) (onTc (τ := Cert.InXXbcReferenceIdeal.τ) (Cert.InXXbcReferenceIdeal.main (F := Ideal))) ⟨m', fun _ => 0, g'⟩ (fun r => ∀ c : Dev Cert.InXXbcReferenceIdeal.nD,
          r.2.mem ((c.tc : Thread Cert.InXXbcReferenceIdeal.nD Cert.InXXbcReferenceIdeal.τ).loc Cert.InXXbcReferenceIdeal.main_v6) = v0 c
          ∧ r.2.mem ((c.tc : Thread Cert.InXXbcReferenceIdeal.nD Cert.InXXbcReferenceIdeal.τ).loc Cert.InXXbcReferenceIdeal.main_arg0) = m' ((c.tc : Thread Cert.InXXbcReferenceIdeal.nD Cert.InXXbcReferenceIdeal.τ).loc Cert.InXXbcReferenceIdeal.main_arg0)
          ∧ r.2.mem ((c.tc : Thread Cert.InXXbcReferenceIdeal.nD Cert.InXXbcReferenceIdeal.τ).loc Cert.InXXbcReferenceIdeal.main_arg1) = m' ((c.tc : Thread Cert.InXXbcReferenceIdeal.nD Cert.InXXbcReferenceIdeal.τ).loc Cert.InXXbcReferenceIdeal.main_arg1))

def preserves_InXMq_InXMqIdeal : Prop :=
  True

def algebraic_InXMqIdeal_InXMqReferenceIdeal [hInXMqIdeal : Cert.InXMqIdeal.Facts] [hInXMqReferenceIdeal : Cert.InXMqReferenceIdeal.Facts] : Prop :=
  ∀ (m : (ℓ : Loc Cert.InXMqIdeal.nD Cert.InXMqIdeal.τ Cert.InXMqIdeal.sig) → Buf (Elt Ideal) ℓ) (g : Dev Cert.InXMqIdeal.nD → PrngReg)
    (m' : (ℓ : Loc Cert.InXMqReferenceIdeal.nD Cert.InXMqReferenceIdeal.τ Cert.InXMqReferenceIdeal.sig) → Buf (Elt Ideal) ℓ) (g' : Dev Cert.InXMqReferenceIdeal.nD → PrngReg), Pre_InXMqIdeal m →
    (∀ c : Dev Cert.InXMqIdeal.nD,
      m' ((c.tc : Thread Cert.InXMqReferenceIdeal.nD Cert.InXMqReferenceIdeal.τ).loc Cert.InXMqReferenceIdeal.main_arg0) = m ((c.tc : Thread Cert.InXMqIdeal.nD Cert.InXMqIdeal.τ).loc Cert.InXMqIdeal.main_arg0)
      ∧ m' ((c.tc : Thread Cert.InXMqReferenceIdeal.nD Cert.InXMqReferenceIdeal.τ).loc Cert.InXMqReferenceIdeal.main_arg1) = m ((c.tc : Thread Cert.InXMqIdeal.nD Cert.InXMqIdeal.τ).loc Cert.InXMqIdeal.main_arg1)) →
    ∃ (v0 : (c : Dev Cert.InXMqIdeal.nD) → Buf (Elt Ideal) ((c.tc : Thread Cert.InXMqIdeal.nD Cert.InXMqIdeal.τ).loc Cert.InXMqIdeal.main_v0)),
      θ_run (Cert.InXMqIdeal.defs (F := Ideal)) (onTc (τ := Cert.InXMqIdeal.τ) (Cert.InXMqIdeal.main (F := Ideal))) ⟨m, fun _ => 0, g⟩ (fun r => ∀ c : Dev Cert.InXMqIdeal.nD,
          r.2.mem ((c.tc : Thread Cert.InXMqIdeal.nD Cert.InXMqIdeal.τ).loc Cert.InXMqIdeal.main_v0) = v0 c
          ∧ r.2.mem ((c.tc : Thread Cert.InXMqIdeal.nD Cert.InXMqIdeal.τ).loc Cert.InXMqIdeal.main_arg0) = m ((c.tc : Thread Cert.InXMqIdeal.nD Cert.InXMqIdeal.τ).loc Cert.InXMqIdeal.main_arg0)
          ∧ r.2.mem ((c.tc : Thread Cert.InXMqIdeal.nD Cert.InXMqIdeal.τ).loc Cert.InXMqIdeal.main_arg1) = m ((c.tc : Thread Cert.InXMqIdeal.nD Cert.InXMqIdeal.τ).loc Cert.InXMqIdeal.main_arg1))
      ∧ θ_run (Cert.InXMqReferenceIdeal.defs (F := Ideal)) (onTc (τ := Cert.InXMqReferenceIdeal.τ) (Cert.InXMqReferenceIdeal.main (F := Ideal))) ⟨m', fun _ => 0, g'⟩ (fun r => ∀ c : Dev Cert.InXMqReferenceIdeal.nD,
          r.2.mem ((c.tc : Thread Cert.InXMqReferenceIdeal.nD Cert.InXMqReferenceIdeal.τ).loc Cert.InXMqReferenceIdeal.main_v6) = v0 c
          ∧ r.2.mem ((c.tc : Thread Cert.InXMqReferenceIdeal.nD Cert.InXMqReferenceIdeal.τ).loc Cert.InXMqReferenceIdeal.main_arg0) = m' ((c.tc : Thread Cert.InXMqReferenceIdeal.nD Cert.InXMqReferenceIdeal.τ).loc Cert.InXMqReferenceIdeal.main_arg0)
          ∧ r.2.mem ((c.tc : Thread Cert.InXMqReferenceIdeal.nD Cert.InXMqReferenceIdeal.τ).loc Cert.InXMqReferenceIdeal.main_arg1) = m' ((c.tc : Thread Cert.InXMqReferenceIdeal.nD Cert.InXMqReferenceIdeal.τ).loc Cert.InXMqReferenceIdeal.main_arg1))

def preserves_InXGl_InXGlIdeal : Prop :=
  True

def algebraic_InXGlIdeal_InXGlReferenceIdeal [hInXGlIdeal : Cert.InXGlIdeal.Facts] [hInXGlReferenceIdeal : Cert.InXGlReferenceIdeal.Facts] : Prop :=
  ∀ (m : (ℓ : Loc Cert.InXGlIdeal.nD Cert.InXGlIdeal.τ Cert.InXGlIdeal.sig) → Buf (Elt Ideal) ℓ) (g : Dev Cert.InXGlIdeal.nD → PrngReg)
    (m' : (ℓ : Loc Cert.InXGlReferenceIdeal.nD Cert.InXGlReferenceIdeal.τ Cert.InXGlReferenceIdeal.sig) → Buf (Elt Ideal) ℓ) (g' : Dev Cert.InXGlReferenceIdeal.nD → PrngReg), Pre_InXGlIdeal m →
    (∀ c : Dev Cert.InXGlIdeal.nD,
      m' ((c.tc : Thread Cert.InXGlReferenceIdeal.nD Cert.InXGlReferenceIdeal.τ).loc Cert.InXGlReferenceIdeal.main_arg0) = m ((c.tc : Thread Cert.InXGlIdeal.nD Cert.InXGlIdeal.τ).loc Cert.InXGlIdeal.main_arg0)
      ∧ m' ((c.tc : Thread Cert.InXGlReferenceIdeal.nD Cert.InXGlReferenceIdeal.τ).loc Cert.InXGlReferenceIdeal.main_arg1) = m ((c.tc : Thread Cert.InXGlIdeal.nD Cert.InXGlIdeal.τ).loc Cert.InXGlIdeal.main_arg1)) →
    ∃ (v0 : (c : Dev Cert.InXGlIdeal.nD) → Buf (Elt Ideal) ((c.tc : Thread Cert.InXGlIdeal.nD Cert.InXGlIdeal.τ).loc Cert.InXGlIdeal.main_v0)),
      θ_run (Cert.InXGlIdeal.defs (F := Ideal)) (onTc (τ := Cert.InXGlIdeal.τ) (Cert.InXGlIdeal.main (F := Ideal))) ⟨m, fun _ => 0, g⟩ (fun r => ∀ c : Dev Cert.InXGlIdeal.nD,
          r.2.mem ((c.tc : Thread Cert.InXGlIdeal.nD Cert.InXGlIdeal.τ).loc Cert.InXGlIdeal.main_v0) = v0 c
          ∧ r.2.mem ((c.tc : Thread Cert.InXGlIdeal.nD Cert.InXGlIdeal.τ).loc Cert.InXGlIdeal.main_arg0) = m ((c.tc : Thread Cert.InXGlIdeal.nD Cert.InXGlIdeal.τ).loc Cert.InXGlIdeal.main_arg0)
          ∧ r.2.mem ((c.tc : Thread Cert.InXGlIdeal.nD Cert.InXGlIdeal.τ).loc Cert.InXGlIdeal.main_arg1) = m ((c.tc : Thread Cert.InXGlIdeal.nD Cert.InXGlIdeal.τ).loc Cert.InXGlIdeal.main_arg1))
      ∧ θ_run (Cert.InXGlReferenceIdeal.defs (F := Ideal)) (onTc (τ := Cert.InXGlReferenceIdeal.τ) (Cert.InXGlReferenceIdeal.main (F := Ideal))) ⟨m', fun _ => 0, g'⟩ (fun r => ∀ c : Dev Cert.InXGlReferenceIdeal.nD,
          r.2.mem ((c.tc : Thread Cert.InXGlReferenceIdeal.nD Cert.InXGlReferenceIdeal.τ).loc Cert.InXGlReferenceIdeal.main_v6) = v0 c
          ∧ r.2.mem ((c.tc : Thread Cert.InXGlReferenceIdeal.nD Cert.InXGlReferenceIdeal.τ).loc Cert.InXGlReferenceIdeal.main_arg0) = m' ((c.tc : Thread Cert.InXGlReferenceIdeal.nD Cert.InXGlReferenceIdeal.τ).loc Cert.InXGlReferenceIdeal.main_arg0)
          ∧ r.2.mem ((c.tc : Thread Cert.InXGlReferenceIdeal.nD Cert.InXGlReferenceIdeal.τ).loc Cert.InXGlReferenceIdeal.main_arg1) = m' ((c.tc : Thread Cert.InXGlReferenceIdeal.nD Cert.InXGlReferenceIdeal.τ).loc Cert.InXGlReferenceIdeal.main_arg1))

def preserves_InWQkv_InWQkvIdeal : Prop :=
  True

def algebraic_InWQkvIdeal_InWQkvReferenceIdeal [hInWQkvIdeal : Cert.InWQkvIdeal.Facts] [hInWQkvReferenceIdeal : Cert.InWQkvReferenceIdeal.Facts] : Prop :=
  ∀ (m : (ℓ : Loc Cert.InWQkvIdeal.nD Cert.InWQkvIdeal.τ Cert.InWQkvIdeal.sig) → Buf (Elt Ideal) ℓ) (g : Dev Cert.InWQkvIdeal.nD → PrngReg)
    (m' : (ℓ : Loc Cert.InWQkvReferenceIdeal.nD Cert.InWQkvReferenceIdeal.τ Cert.InWQkvReferenceIdeal.sig) → Buf (Elt Ideal) ℓ) (g' : Dev Cert.InWQkvReferenceIdeal.nD → PrngReg), Pre_InWQkvIdeal m →
    (∀ c : Dev Cert.InWQkvIdeal.nD,
      m' ((c.tc : Thread Cert.InWQkvReferenceIdeal.nD Cert.InWQkvReferenceIdeal.τ).loc Cert.InWQkvReferenceIdeal.main_arg0) = m ((c.tc : Thread Cert.InWQkvIdeal.nD Cert.InWQkvIdeal.τ).loc Cert.InWQkvIdeal.main_arg0)
      ∧ m' ((c.tc : Thread Cert.InWQkvReferenceIdeal.nD Cert.InWQkvReferenceIdeal.τ).loc Cert.InWQkvReferenceIdeal.main_arg1) = m ((c.tc : Thread Cert.InWQkvIdeal.nD Cert.InWQkvIdeal.τ).loc Cert.InWQkvIdeal.main_arg1)
      ∧ m' ((c.tc : Thread Cert.InWQkvReferenceIdeal.nD Cert.InWQkvReferenceIdeal.τ).loc Cert.InWQkvReferenceIdeal.main_arg2) = m ((c.tc : Thread Cert.InWQkvIdeal.nD Cert.InWQkvIdeal.τ).loc Cert.InWQkvIdeal.main_arg2)) →
    ∃ (v0 : (c : Dev Cert.InWQkvIdeal.nD) → Buf (Elt Ideal) ((c.tc : Thread Cert.InWQkvIdeal.nD Cert.InWQkvIdeal.τ).loc Cert.InWQkvIdeal.main_v0)),
      θ_run (Cert.InWQkvIdeal.defs (F := Ideal)) (onTc (τ := Cert.InWQkvIdeal.τ) (Cert.InWQkvIdeal.main (F := Ideal))) ⟨m, fun _ => 0, g⟩ (fun r => ∀ c : Dev Cert.InWQkvIdeal.nD,
          r.2.mem ((c.tc : Thread Cert.InWQkvIdeal.nD Cert.InWQkvIdeal.τ).loc Cert.InWQkvIdeal.main_v0) = v0 c
          ∧ r.2.mem ((c.tc : Thread Cert.InWQkvIdeal.nD Cert.InWQkvIdeal.τ).loc Cert.InWQkvIdeal.main_arg0) = m ((c.tc : Thread Cert.InWQkvIdeal.nD Cert.InWQkvIdeal.τ).loc Cert.InWQkvIdeal.main_arg0)
          ∧ r.2.mem ((c.tc : Thread Cert.InWQkvIdeal.nD Cert.InWQkvIdeal.τ).loc Cert.InWQkvIdeal.main_arg1) = m ((c.tc : Thread Cert.InWQkvIdeal.nD Cert.InWQkvIdeal.τ).loc Cert.InWQkvIdeal.main_arg1)
          ∧ r.2.mem ((c.tc : Thread Cert.InWQkvIdeal.nD Cert.InWQkvIdeal.τ).loc Cert.InWQkvIdeal.main_arg2) = m ((c.tc : Thread Cert.InWQkvIdeal.nD Cert.InWQkvIdeal.τ).loc Cert.InWQkvIdeal.main_arg2))
      ∧ θ_run (Cert.InWQkvReferenceIdeal.defs (F := Ideal)) (onTc (τ := Cert.InWQkvReferenceIdeal.τ) (Cert.InWQkvReferenceIdeal.main (F := Ideal))) ⟨m', fun _ => 0, g'⟩ (fun r => ∀ c : Dev Cert.InWQkvReferenceIdeal.nD,
          r.2.mem ((c.tc : Thread Cert.InWQkvReferenceIdeal.nD Cert.InWQkvReferenceIdeal.τ).loc Cert.InWQkvReferenceIdeal.main_v9) = v0 c
          ∧ r.2.mem ((c.tc : Thread Cert.InWQkvReferenceIdeal.nD Cert.InWQkvReferenceIdeal.τ).loc Cert.InWQkvReferenceIdeal.main_arg0) = m' ((c.tc : Thread Cert.InWQkvReferenceIdeal.nD Cert.InWQkvReferenceIdeal.τ).loc Cert.InWQkvReferenceIdeal.main_arg0)
          ∧ r.2.mem ((c.tc : Thread Cert.InWQkvReferenceIdeal.nD Cert.InWQkvReferenceIdeal.τ).loc Cert.InWQkvReferenceIdeal.main_arg1) = m' ((c.tc : Thread Cert.InWQkvReferenceIdeal.nD Cert.InWQkvReferenceIdeal.τ).loc Cert.InWQkvReferenceIdeal.main_arg1)
          ∧ r.2.mem ((c.tc : Thread Cert.InWQkvReferenceIdeal.nD Cert.InWQkvReferenceIdeal.τ).loc Cert.InWQkvReferenceIdeal.main_arg2) = m' ((c.tc : Thread Cert.InWQkvReferenceIdeal.nD Cert.InWQkvReferenceIdeal.τ).loc Cert.InWQkvReferenceIdeal.main_arg2))

def preserves_InWZ_InWZIdeal : Prop :=
  True

def algebraic_InWZIdeal_InWZReferenceIdeal [hInWZIdeal : Cert.InWZIdeal.Facts] [hInWZReferenceIdeal : Cert.InWZReferenceIdeal.Facts] : Prop :=
  ∀ (m : (ℓ : Loc Cert.InWZIdeal.nD Cert.InWZIdeal.τ Cert.InWZIdeal.sig) → Buf (Elt Ideal) ℓ) (g : Dev Cert.InWZIdeal.nD → PrngReg)
    (m' : (ℓ : Loc Cert.InWZReferenceIdeal.nD Cert.InWZReferenceIdeal.τ Cert.InWZReferenceIdeal.sig) → Buf (Elt Ideal) ℓ) (g' : Dev Cert.InWZReferenceIdeal.nD → PrngReg), Pre_InWZIdeal m →
    (∀ c : Dev Cert.InWZIdeal.nD,
      m' ((c.tc : Thread Cert.InWZReferenceIdeal.nD Cert.InWZReferenceIdeal.τ).loc Cert.InWZReferenceIdeal.main_arg0) = m ((c.tc : Thread Cert.InWZIdeal.nD Cert.InWZIdeal.τ).loc Cert.InWZIdeal.main_arg0)
      ∧ m' ((c.tc : Thread Cert.InWZReferenceIdeal.nD Cert.InWZReferenceIdeal.τ).loc Cert.InWZReferenceIdeal.main_arg1) = m ((c.tc : Thread Cert.InWZIdeal.nD Cert.InWZIdeal.τ).loc Cert.InWZIdeal.main_arg1)
      ∧ m' ((c.tc : Thread Cert.InWZReferenceIdeal.nD Cert.InWZReferenceIdeal.τ).loc Cert.InWZReferenceIdeal.main_arg2) = m ((c.tc : Thread Cert.InWZIdeal.nD Cert.InWZIdeal.τ).loc Cert.InWZIdeal.main_arg2)) →
    ∃ (v0 : (c : Dev Cert.InWZIdeal.nD) → Buf (Elt Ideal) ((c.tc : Thread Cert.InWZIdeal.nD Cert.InWZIdeal.τ).loc Cert.InWZIdeal.main_v0)),
      θ_run (Cert.InWZIdeal.defs (F := Ideal)) (onTc (τ := Cert.InWZIdeal.τ) (Cert.InWZIdeal.main (F := Ideal))) ⟨m, fun _ => 0, g⟩ (fun r => ∀ c : Dev Cert.InWZIdeal.nD,
          r.2.mem ((c.tc : Thread Cert.InWZIdeal.nD Cert.InWZIdeal.τ).loc Cert.InWZIdeal.main_v0) = v0 c
          ∧ r.2.mem ((c.tc : Thread Cert.InWZIdeal.nD Cert.InWZIdeal.τ).loc Cert.InWZIdeal.main_arg0) = m ((c.tc : Thread Cert.InWZIdeal.nD Cert.InWZIdeal.τ).loc Cert.InWZIdeal.main_arg0)
          ∧ r.2.mem ((c.tc : Thread Cert.InWZIdeal.nD Cert.InWZIdeal.τ).loc Cert.InWZIdeal.main_arg1) = m ((c.tc : Thread Cert.InWZIdeal.nD Cert.InWZIdeal.τ).loc Cert.InWZIdeal.main_arg1)
          ∧ r.2.mem ((c.tc : Thread Cert.InWZIdeal.nD Cert.InWZIdeal.τ).loc Cert.InWZIdeal.main_arg2) = m ((c.tc : Thread Cert.InWZIdeal.nD Cert.InWZIdeal.τ).loc Cert.InWZIdeal.main_arg2))
      ∧ θ_run (Cert.InWZReferenceIdeal.defs (F := Ideal)) (onTc (τ := Cert.InWZReferenceIdeal.τ) (Cert.InWZReferenceIdeal.main (F := Ideal))) ⟨m', fun _ => 0, g'⟩ (fun r => ∀ c : Dev Cert.InWZReferenceIdeal.nD,
          r.2.mem ((c.tc : Thread Cert.InWZReferenceIdeal.nD Cert.InWZReferenceIdeal.τ).loc Cert.InWZReferenceIdeal.main_v10) = v0 c
          ∧ r.2.mem ((c.tc : Thread Cert.InWZReferenceIdeal.nD Cert.InWZReferenceIdeal.τ).loc Cert.InWZReferenceIdeal.main_arg0) = m' ((c.tc : Thread Cert.InWZReferenceIdeal.nD Cert.InWZReferenceIdeal.τ).loc Cert.InWZReferenceIdeal.main_arg0)
          ∧ r.2.mem ((c.tc : Thread Cert.InWZReferenceIdeal.nD Cert.InWZReferenceIdeal.τ).loc Cert.InWZReferenceIdeal.main_arg1) = m' ((c.tc : Thread Cert.InWZReferenceIdeal.nD Cert.InWZReferenceIdeal.τ).loc Cert.InWZReferenceIdeal.main_arg1)
          ∧ r.2.mem ((c.tc : Thread Cert.InWZReferenceIdeal.nD Cert.InWZReferenceIdeal.τ).loc Cert.InWZReferenceIdeal.main_arg2) = m' ((c.tc : Thread Cert.InWZReferenceIdeal.nD Cert.InWZReferenceIdeal.τ).loc Cert.InWZReferenceIdeal.main_arg2))

def preserves_InWXbc_InWXbcIdeal : Prop :=
  True

def algebraic_InWXbcIdeal_InWXbcReferenceIdeal [hInWXbcIdeal : Cert.InWXbcIdeal.Facts] [hInWXbcReferenceIdeal : Cert.InWXbcReferenceIdeal.Facts] : Prop :=
  ∀ (m : (ℓ : Loc Cert.InWXbcIdeal.nD Cert.InWXbcIdeal.τ Cert.InWXbcIdeal.sig) → Buf (Elt Ideal) ℓ) (g : Dev Cert.InWXbcIdeal.nD → PrngReg)
    (m' : (ℓ : Loc Cert.InWXbcReferenceIdeal.nD Cert.InWXbcReferenceIdeal.τ Cert.InWXbcReferenceIdeal.sig) → Buf (Elt Ideal) ℓ) (g' : Dev Cert.InWXbcReferenceIdeal.nD → PrngReg), Pre_InWXbcIdeal m →
    (∀ c : Dev Cert.InWXbcIdeal.nD,
      m' ((c.tc : Thread Cert.InWXbcReferenceIdeal.nD Cert.InWXbcReferenceIdeal.τ).loc Cert.InWXbcReferenceIdeal.main_arg0) = m ((c.tc : Thread Cert.InWXbcIdeal.nD Cert.InWXbcIdeal.τ).loc Cert.InWXbcIdeal.main_arg0)
      ∧ m' ((c.tc : Thread Cert.InWXbcReferenceIdeal.nD Cert.InWXbcReferenceIdeal.τ).loc Cert.InWXbcReferenceIdeal.main_arg1) = m ((c.tc : Thread Cert.InWXbcIdeal.nD Cert.InWXbcIdeal.τ).loc Cert.InWXbcIdeal.main_arg1)
      ∧ m' ((c.tc : Thread Cert.InWXbcReferenceIdeal.nD Cert.InWXbcReferenceIdeal.τ).loc Cert.InWXbcReferenceIdeal.main_arg2) = m ((c.tc : Thread Cert.InWXbcIdeal.nD Cert.InWXbcIdeal.τ).loc Cert.InWXbcIdeal.main_arg2)) →
    ∃ (v0 : (c : Dev Cert.InWXbcIdeal.nD) → Buf (Elt Ideal) ((c.tc : Thread Cert.InWXbcIdeal.nD Cert.InWXbcIdeal.τ).loc Cert.InWXbcIdeal.main_v0)),
      θ_run (Cert.InWXbcIdeal.defs (F := Ideal)) (onTc (τ := Cert.InWXbcIdeal.τ) (Cert.InWXbcIdeal.main (F := Ideal))) ⟨m, fun _ => 0, g⟩ (fun r => ∀ c : Dev Cert.InWXbcIdeal.nD,
          r.2.mem ((c.tc : Thread Cert.InWXbcIdeal.nD Cert.InWXbcIdeal.τ).loc Cert.InWXbcIdeal.main_v0) = v0 c
          ∧ r.2.mem ((c.tc : Thread Cert.InWXbcIdeal.nD Cert.InWXbcIdeal.τ).loc Cert.InWXbcIdeal.main_arg0) = m ((c.tc : Thread Cert.InWXbcIdeal.nD Cert.InWXbcIdeal.τ).loc Cert.InWXbcIdeal.main_arg0)
          ∧ r.2.mem ((c.tc : Thread Cert.InWXbcIdeal.nD Cert.InWXbcIdeal.τ).loc Cert.InWXbcIdeal.main_arg1) = m ((c.tc : Thread Cert.InWXbcIdeal.nD Cert.InWXbcIdeal.τ).loc Cert.InWXbcIdeal.main_arg1)
          ∧ r.2.mem ((c.tc : Thread Cert.InWXbcIdeal.nD Cert.InWXbcIdeal.τ).loc Cert.InWXbcIdeal.main_arg2) = m ((c.tc : Thread Cert.InWXbcIdeal.nD Cert.InWXbcIdeal.τ).loc Cert.InWXbcIdeal.main_arg2))
      ∧ θ_run (Cert.InWXbcReferenceIdeal.defs (F := Ideal)) (onTc (τ := Cert.InWXbcReferenceIdeal.τ) (Cert.InWXbcReferenceIdeal.main (F := Ideal))) ⟨m', fun _ => 0, g'⟩ (fun r => ∀ c : Dev Cert.InWXbcReferenceIdeal.nD,
          r.2.mem ((c.tc : Thread Cert.InWXbcReferenceIdeal.nD Cert.InWXbcReferenceIdeal.τ).loc Cert.InWXbcReferenceIdeal.main_v9) = v0 c
          ∧ r.2.mem ((c.tc : Thread Cert.InWXbcReferenceIdeal.nD Cert.InWXbcReferenceIdeal.τ).loc Cert.InWXbcReferenceIdeal.main_arg0) = m' ((c.tc : Thread Cert.InWXbcReferenceIdeal.nD Cert.InWXbcReferenceIdeal.τ).loc Cert.InWXbcReferenceIdeal.main_arg0)
          ∧ r.2.mem ((c.tc : Thread Cert.InWXbcReferenceIdeal.nD Cert.InWXbcReferenceIdeal.τ).loc Cert.InWXbcReferenceIdeal.main_arg1) = m' ((c.tc : Thread Cert.InWXbcReferenceIdeal.nD Cert.InWXbcReferenceIdeal.τ).loc Cert.InWXbcReferenceIdeal.main_arg1)
          ∧ r.2.mem ((c.tc : Thread Cert.InWXbcReferenceIdeal.nD Cert.InWXbcReferenceIdeal.τ).loc Cert.InWXbcReferenceIdeal.main_arg2) = m' ((c.tc : Thread Cert.InWXbcReferenceIdeal.nD Cert.InWXbcReferenceIdeal.τ).loc Cert.InWXbcReferenceIdeal.main_arg2))

def preserves_InWMq_InWMqIdeal : Prop :=
  True

def algebraic_InWMqIdeal_InWMqReferenceIdeal [hInWMqIdeal : Cert.InWMqIdeal.Facts] [hInWMqReferenceIdeal : Cert.InWMqReferenceIdeal.Facts] : Prop :=
  ∀ (m : (ℓ : Loc Cert.InWMqIdeal.nD Cert.InWMqIdeal.τ Cert.InWMqIdeal.sig) → Buf (Elt Ideal) ℓ) (g : Dev Cert.InWMqIdeal.nD → PrngReg)
    (m' : (ℓ : Loc Cert.InWMqReferenceIdeal.nD Cert.InWMqReferenceIdeal.τ Cert.InWMqReferenceIdeal.sig) → Buf (Elt Ideal) ℓ) (g' : Dev Cert.InWMqReferenceIdeal.nD → PrngReg), Pre_InWMqIdeal m →
    (∀ c : Dev Cert.InWMqIdeal.nD,
      m' ((c.tc : Thread Cert.InWMqReferenceIdeal.nD Cert.InWMqReferenceIdeal.τ).loc Cert.InWMqReferenceIdeal.main_arg0) = m ((c.tc : Thread Cert.InWMqIdeal.nD Cert.InWMqIdeal.τ).loc Cert.InWMqIdeal.main_arg0)
      ∧ m' ((c.tc : Thread Cert.InWMqReferenceIdeal.nD Cert.InWMqReferenceIdeal.τ).loc Cert.InWMqReferenceIdeal.main_arg1) = m ((c.tc : Thread Cert.InWMqIdeal.nD Cert.InWMqIdeal.τ).loc Cert.InWMqIdeal.main_arg1)
      ∧ m' ((c.tc : Thread Cert.InWMqReferenceIdeal.nD Cert.InWMqReferenceIdeal.τ).loc Cert.InWMqReferenceIdeal.main_arg2) = m ((c.tc : Thread Cert.InWMqIdeal.nD Cert.InWMqIdeal.τ).loc Cert.InWMqIdeal.main_arg2)) →
    ∃ (v0 : (c : Dev Cert.InWMqIdeal.nD) → Buf (Elt Ideal) ((c.tc : Thread Cert.InWMqIdeal.nD Cert.InWMqIdeal.τ).loc Cert.InWMqIdeal.main_v0)),
      θ_run (Cert.InWMqIdeal.defs (F := Ideal)) (onTc (τ := Cert.InWMqIdeal.τ) (Cert.InWMqIdeal.main (F := Ideal))) ⟨m, fun _ => 0, g⟩ (fun r => ∀ c : Dev Cert.InWMqIdeal.nD,
          r.2.mem ((c.tc : Thread Cert.InWMqIdeal.nD Cert.InWMqIdeal.τ).loc Cert.InWMqIdeal.main_v0) = v0 c
          ∧ r.2.mem ((c.tc : Thread Cert.InWMqIdeal.nD Cert.InWMqIdeal.τ).loc Cert.InWMqIdeal.main_arg0) = m ((c.tc : Thread Cert.InWMqIdeal.nD Cert.InWMqIdeal.τ).loc Cert.InWMqIdeal.main_arg0)
          ∧ r.2.mem ((c.tc : Thread Cert.InWMqIdeal.nD Cert.InWMqIdeal.τ).loc Cert.InWMqIdeal.main_arg1) = m ((c.tc : Thread Cert.InWMqIdeal.nD Cert.InWMqIdeal.τ).loc Cert.InWMqIdeal.main_arg1)
          ∧ r.2.mem ((c.tc : Thread Cert.InWMqIdeal.nD Cert.InWMqIdeal.τ).loc Cert.InWMqIdeal.main_arg2) = m ((c.tc : Thread Cert.InWMqIdeal.nD Cert.InWMqIdeal.τ).loc Cert.InWMqIdeal.main_arg2))
      ∧ θ_run (Cert.InWMqReferenceIdeal.defs (F := Ideal)) (onTc (τ := Cert.InWMqReferenceIdeal.τ) (Cert.InWMqReferenceIdeal.main (F := Ideal))) ⟨m', fun _ => 0, g'⟩ (fun r => ∀ c : Dev Cert.InWMqReferenceIdeal.nD,
          r.2.mem ((c.tc : Thread Cert.InWMqReferenceIdeal.nD Cert.InWMqReferenceIdeal.τ).loc Cert.InWMqReferenceIdeal.main_v9) = v0 c
          ∧ r.2.mem ((c.tc : Thread Cert.InWMqReferenceIdeal.nD Cert.InWMqReferenceIdeal.τ).loc Cert.InWMqReferenceIdeal.main_arg0) = m' ((c.tc : Thread Cert.InWMqReferenceIdeal.nD Cert.InWMqReferenceIdeal.τ).loc Cert.InWMqReferenceIdeal.main_arg0)
          ∧ r.2.mem ((c.tc : Thread Cert.InWMqReferenceIdeal.nD Cert.InWMqReferenceIdeal.τ).loc Cert.InWMqReferenceIdeal.main_arg1) = m' ((c.tc : Thread Cert.InWMqReferenceIdeal.nD Cert.InWMqReferenceIdeal.τ).loc Cert.InWMqReferenceIdeal.main_arg1)
          ∧ r.2.mem ((c.tc : Thread Cert.InWMqReferenceIdeal.nD Cert.InWMqReferenceIdeal.τ).loc Cert.InWMqReferenceIdeal.main_arg2) = m' ((c.tc : Thread Cert.InWMqReferenceIdeal.nD Cert.InWMqReferenceIdeal.τ).loc Cert.InWMqReferenceIdeal.main_arg2))

def preserves_InWGl_InWGlIdeal : Prop :=
  True

def algebraic_InWGlIdeal_InWGlReferenceIdeal [hInWGlIdeal : Cert.InWGlIdeal.Facts] [hInWGlReferenceIdeal : Cert.InWGlReferenceIdeal.Facts] : Prop :=
  ∀ (m : (ℓ : Loc Cert.InWGlIdeal.nD Cert.InWGlIdeal.τ Cert.InWGlIdeal.sig) → Buf (Elt Ideal) ℓ) (g : Dev Cert.InWGlIdeal.nD → PrngReg)
    (m' : (ℓ : Loc Cert.InWGlReferenceIdeal.nD Cert.InWGlReferenceIdeal.τ Cert.InWGlReferenceIdeal.sig) → Buf (Elt Ideal) ℓ) (g' : Dev Cert.InWGlReferenceIdeal.nD → PrngReg), Pre_InWGlIdeal m →
    (∀ c : Dev Cert.InWGlIdeal.nD,
      m' ((c.tc : Thread Cert.InWGlReferenceIdeal.nD Cert.InWGlReferenceIdeal.τ).loc Cert.InWGlReferenceIdeal.main_arg0) = m ((c.tc : Thread Cert.InWGlIdeal.nD Cert.InWGlIdeal.τ).loc Cert.InWGlIdeal.main_arg0)
      ∧ m' ((c.tc : Thread Cert.InWGlReferenceIdeal.nD Cert.InWGlReferenceIdeal.τ).loc Cert.InWGlReferenceIdeal.main_arg1) = m ((c.tc : Thread Cert.InWGlIdeal.nD Cert.InWGlIdeal.τ).loc Cert.InWGlIdeal.main_arg1)
      ∧ m' ((c.tc : Thread Cert.InWGlReferenceIdeal.nD Cert.InWGlReferenceIdeal.τ).loc Cert.InWGlReferenceIdeal.main_arg2) = m ((c.tc : Thread Cert.InWGlIdeal.nD Cert.InWGlIdeal.τ).loc Cert.InWGlIdeal.main_arg2)) →
    ∃ (v0 : (c : Dev Cert.InWGlIdeal.nD) → Buf (Elt Ideal) ((c.tc : Thread Cert.InWGlIdeal.nD Cert.InWGlIdeal.τ).loc Cert.InWGlIdeal.main_v0)),
      θ_run (Cert.InWGlIdeal.defs (F := Ideal)) (onTc (τ := Cert.InWGlIdeal.τ) (Cert.InWGlIdeal.main (F := Ideal))) ⟨m, fun _ => 0, g⟩ (fun r => ∀ c : Dev Cert.InWGlIdeal.nD,
          r.2.mem ((c.tc : Thread Cert.InWGlIdeal.nD Cert.InWGlIdeal.τ).loc Cert.InWGlIdeal.main_v0) = v0 c
          ∧ r.2.mem ((c.tc : Thread Cert.InWGlIdeal.nD Cert.InWGlIdeal.τ).loc Cert.InWGlIdeal.main_arg0) = m ((c.tc : Thread Cert.InWGlIdeal.nD Cert.InWGlIdeal.τ).loc Cert.InWGlIdeal.main_arg0)
          ∧ r.2.mem ((c.tc : Thread Cert.InWGlIdeal.nD Cert.InWGlIdeal.τ).loc Cert.InWGlIdeal.main_arg1) = m ((c.tc : Thread Cert.InWGlIdeal.nD Cert.InWGlIdeal.τ).loc Cert.InWGlIdeal.main_arg1)
          ∧ r.2.mem ((c.tc : Thread Cert.InWGlIdeal.nD Cert.InWGlIdeal.τ).loc Cert.InWGlIdeal.main_arg2) = m ((c.tc : Thread Cert.InWGlIdeal.nD Cert.InWGlIdeal.τ).loc Cert.InWGlIdeal.main_arg2))
      ∧ θ_run (Cert.InWGlReferenceIdeal.defs (F := Ideal)) (onTc (τ := Cert.InWGlReferenceIdeal.τ) (Cert.InWGlReferenceIdeal.main (F := Ideal))) ⟨m', fun _ => 0, g'⟩ (fun r => ∀ c : Dev Cert.InWGlReferenceIdeal.nD,
          r.2.mem ((c.tc : Thread Cert.InWGlReferenceIdeal.nD Cert.InWGlReferenceIdeal.τ).loc Cert.InWGlReferenceIdeal.main_v9) = v0 c
          ∧ r.2.mem ((c.tc : Thread Cert.InWGlReferenceIdeal.nD Cert.InWGlReferenceIdeal.τ).loc Cert.InWGlReferenceIdeal.main_arg0) = m' ((c.tc : Thread Cert.InWGlReferenceIdeal.nD Cert.InWGlReferenceIdeal.τ).loc Cert.InWGlReferenceIdeal.main_arg0)
          ∧ r.2.mem ((c.tc : Thread Cert.InWGlReferenceIdeal.nD Cert.InWGlReferenceIdeal.τ).loc Cert.InWGlReferenceIdeal.main_arg1) = m' ((c.tc : Thread Cert.InWGlReferenceIdeal.nD Cert.InWGlReferenceIdeal.τ).loc Cert.InWGlReferenceIdeal.main_arg1)
          ∧ r.2.mem ((c.tc : Thread Cert.InWGlReferenceIdeal.nD Cert.InWGlReferenceIdeal.τ).loc Cert.InWGlReferenceIdeal.main_arg2) = m' ((c.tc : Thread Cert.InWGlReferenceIdeal.nD Cert.InWGlReferenceIdeal.τ).loc Cert.InWGlReferenceIdeal.main_arg2))

def preserves_InQkv_InQkvIdeal : Prop :=
  True

def algebraic_InQkvIdeal_InQkvReferenceIdeal [hInQkvIdeal : Cert.InQkvIdeal.Facts] [hInQkvReferenceIdeal : Cert.InQkvReferenceIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvReferenceIdeal.nD Cert.InQkvReferenceIdeal.τ Cert.InQkvReferenceIdeal.sig) → Buf (Elt Ideal) ℓ) (g' : Dev Cert.InQkvReferenceIdeal.nD → PrngReg), Pre_InQkvIdeal m →
    (∀ c : Dev Cert.InQkvIdeal.nD,
      m' ((c.tc : Thread Cert.InQkvReferenceIdeal.nD Cert.InQkvReferenceIdeal.τ).loc Cert.InQkvReferenceIdeal.main_arg0) = m ((c.tc : Thread Cert.InQkvIdeal.nD Cert.InQkvIdeal.τ).loc Cert.InQkvIdeal.main_arg0)
      ∧ m' ((c.tc : Thread Cert.InQkvReferenceIdeal.nD Cert.InQkvReferenceIdeal.τ).loc Cert.InQkvReferenceIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v0)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v0) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvReferenceIdeal.defs (F := Ideal)) (onTc (τ := Cert.InQkvReferenceIdeal.τ) (Cert.InQkvReferenceIdeal.main (F := Ideal))) ⟨m', fun _ => 0, g'⟩ (fun r => ∀ c : Dev Cert.InQkvReferenceIdeal.nD,
          r.2.mem ((c.tc : Thread Cert.InQkvReferenceIdeal.nD Cert.InQkvReferenceIdeal.τ).loc Cert.InQkvReferenceIdeal.main_v5) = v0 c
          ∧ r.2.mem ((c.tc : Thread Cert.InQkvReferenceIdeal.nD Cert.InQkvReferenceIdeal.τ).loc Cert.InQkvReferenceIdeal.main_arg0) = m' ((c.tc : Thread Cert.InQkvReferenceIdeal.nD Cert.InQkvReferenceIdeal.τ).loc Cert.InQkvReferenceIdeal.main_arg0)
          ∧ r.2.mem ((c.tc : Thread Cert.InQkvReferenceIdeal.nD Cert.InQkvReferenceIdeal.τ).loc Cert.InQkvReferenceIdeal.main_arg1) = m' ((c.tc : Thread Cert.InQkvReferenceIdeal.nD Cert.InQkvReferenceIdeal.τ).loc Cert.InQkvReferenceIdeal.main_arg1))

def preserves_InZ_InZIdeal : Prop :=
  True

def algebraic_InZIdeal_InZReferenceIdeal [hInZIdeal : Cert.InZIdeal.Facts] [hInZReferenceIdeal : Cert.InZReferenceIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZReferenceIdeal.nD Cert.InZReferenceIdeal.τ Cert.InZReferenceIdeal.sig) → Buf (Elt Ideal) ℓ) (g' : Dev Cert.InZReferenceIdeal.nD → PrngReg), Pre_InZIdeal m →
    (∀ c : Dev Cert.InZIdeal.nD,
      m' ((c.tc : Thread Cert.InZReferenceIdeal.nD Cert.InZReferenceIdeal.τ).loc Cert.InZReferenceIdeal.main_arg0) = m ((c.tc : Thread Cert.InZIdeal.nD Cert.InZIdeal.τ).loc Cert.InZIdeal.main_arg0)
      ∧ m' ((c.tc : Thread Cert.InZReferenceIdeal.nD Cert.InZReferenceIdeal.τ).loc Cert.InZReferenceIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZReferenceIdeal.defs (F := Ideal)) (onTc (τ := Cert.InZReferenceIdeal.τ) (Cert.InZReferenceIdeal.main (F := Ideal))) ⟨m', fun _ => 0, g'⟩ (fun r => ∀ c : Dev Cert.InZReferenceIdeal.nD,
          r.2.mem ((c.tc : Thread Cert.InZReferenceIdeal.nD Cert.InZReferenceIdeal.τ).loc Cert.InZReferenceIdeal.main_v4) = v0 c
          ∧ r.2.mem ((c.tc : Thread Cert.InZReferenceIdeal.nD Cert.InZReferenceIdeal.τ).loc Cert.InZReferenceIdeal.main_arg0) = m' ((c.tc : Thread Cert.InZReferenceIdeal.nD Cert.InZReferenceIdeal.τ).loc Cert.InZReferenceIdeal.main_arg0)
          ∧ r.2.mem ((c.tc : Thread Cert.InZReferenceIdeal.nD Cert.InZReferenceIdeal.τ).loc Cert.InZReferenceIdeal.main_arg1) = m' ((c.tc : Thread Cert.InZReferenceIdeal.nD Cert.InZReferenceIdeal.τ).loc Cert.InZReferenceIdeal.main_arg1))

def preserves_InXbc_InXbcIdeal : Prop :=
  True

def algebraic_InXbcIdeal_InXbcReferenceIdeal [hInXbcIdeal : Cert.InXbcIdeal.Facts] [hInXbcReferenceIdeal : Cert.InXbcReferenceIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcReferenceIdeal.nD Cert.InXbcReferenceIdeal.τ Cert.InXbcReferenceIdeal.sig) → Buf (Elt Ideal) ℓ) (g' : Dev Cert.InXbcReferenceIdeal.nD → PrngReg), Pre_InXbcIdeal m →
    (∀ c : Dev Cert.InXbcIdeal.nD,
      m' ((c.tc : Thread Cert.InXbcReferenceIdeal.nD Cert.InXbcReferenceIdeal.τ).loc Cert.InXbcReferenceIdeal.main_arg0) = m ((c.tc : Thread Cert.InXbcIdeal.nD Cert.InXbcIdeal.τ).loc Cert.InXbcIdeal.main_arg0)
      ∧ m' ((c.tc : Thread Cert.InXbcReferenceIdeal.nD Cert.InXbcReferenceIdeal.τ).loc Cert.InXbcReferenceIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v0)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v0) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcReferenceIdeal.defs (F := Ideal)) (onTc (τ := Cert.InXbcReferenceIdeal.τ) (Cert.InXbcReferenceIdeal.main (F := Ideal))) ⟨m', fun _ => 0, g'⟩ (fun r => ∀ c : Dev Cert.InXbcReferenceIdeal.nD,
          r.2.mem ((c.tc : Thread Cert.InXbcReferenceIdeal.nD Cert.InXbcReferenceIdeal.τ).loc Cert.InXbcReferenceIdeal.main_v4) = v0 c
          ∧ r.2.mem ((c.tc : Thread Cert.InXbcReferenceIdeal.nD Cert.InXbcReferenceIdeal.τ).loc Cert.InXbcReferenceIdeal.main_arg0) = m' ((c.tc : Thread Cert.InXbcReferenceIdeal.nD Cert.InXbcReferenceIdeal.τ).loc Cert.InXbcReferenceIdeal.main_arg0)
          ∧ r.2.mem ((c.tc : Thread Cert.InXbcReferenceIdeal.nD Cert.InXbcReferenceIdeal.τ).loc Cert.InXbcReferenceIdeal.main_arg1) = m' ((c.tc : Thread Cert.InXbcReferenceIdeal.nD Cert.InXbcReferenceIdeal.τ).loc Cert.InXbcReferenceIdeal.main_arg1))

def preserves_InMq_InMqIdeal : Prop :=
  True

def algebraic_InMqIdeal_InMqReferenceIdeal [hInMqIdeal : Cert.InMqIdeal.Facts] [hInMqReferenceIdeal : Cert.InMqReferenceIdeal.Facts] : Prop :=
  ∀ (m : (ℓ : Loc Cert.InMqIdeal.nD Cert.InMqIdeal.τ Cert.InMqIdeal.sig) → Buf (Elt Ideal) ℓ) (g : Dev Cert.InMqIdeal.nD → PrngReg)
    (m' : (ℓ : Loc Cert.InMqReferenceIdeal.nD Cert.InMqReferenceIdeal.τ Cert.InMqReferenceIdeal.sig) → Buf (Elt Ideal) ℓ) (g' : Dev Cert.InMqReferenceIdeal.nD → PrngReg), Pre_InMqIdeal m →
    (∀ c : Dev Cert.InMqIdeal.nD,
      m' ((c.tc : Thread Cert.InMqReferenceIdeal.nD Cert.InMqReferenceIdeal.τ).loc Cert.InMqReferenceIdeal.main_arg0) = m ((c.tc : Thread Cert.InMqIdeal.nD Cert.InMqIdeal.τ).loc Cert.InMqIdeal.main_arg0)
      ∧ m' ((c.tc : Thread Cert.InMqReferenceIdeal.nD Cert.InMqReferenceIdeal.τ).loc Cert.InMqReferenceIdeal.main_arg1) = m ((c.tc : Thread Cert.InMqIdeal.nD Cert.InMqIdeal.τ).loc Cert.InMqIdeal.main_arg1)) →
    ∃ (v0 : (c : Dev Cert.InMqIdeal.nD) → Buf (Elt Ideal) ((c.tc : Thread Cert.InMqIdeal.nD Cert.InMqIdeal.τ).loc Cert.InMqIdeal.main_v0)),
      θ_run (Cert.InMqIdeal.defs (F := Ideal)) (onTc (τ := Cert.InMqIdeal.τ) (Cert.InMqIdeal.main (F := Ideal))) ⟨m, fun _ => 0, g⟩ (fun r => ∀ c : Dev Cert.InMqIdeal.nD,
          r.2.mem ((c.tc : Thread Cert.InMqIdeal.nD Cert.InMqIdeal.τ).loc Cert.InMqIdeal.main_v0) = v0 c
          ∧ r.2.mem ((c.tc : Thread Cert.InMqIdeal.nD Cert.InMqIdeal.τ).loc Cert.InMqIdeal.main_arg0) = m ((c.tc : Thread Cert.InMqIdeal.nD Cert.InMqIdeal.τ).loc Cert.InMqIdeal.main_arg0)
          ∧ r.2.mem ((c.tc : Thread Cert.InMqIdeal.nD Cert.InMqIdeal.τ).loc Cert.InMqIdeal.main_arg1) = m ((c.tc : Thread Cert.InMqIdeal.nD Cert.InMqIdeal.τ).loc Cert.InMqIdeal.main_arg1))
      ∧ θ_run (Cert.InMqReferenceIdeal.defs (F := Ideal)) (onTc (τ := Cert.InMqReferenceIdeal.τ) (Cert.InMqReferenceIdeal.main (F := Ideal))) ⟨m', fun _ => 0, g'⟩ (fun r => ∀ c : Dev Cert.InMqReferenceIdeal.nD,
          r.2.mem ((c.tc : Thread Cert.InMqReferenceIdeal.nD Cert.InMqReferenceIdeal.τ).loc Cert.InMqReferenceIdeal.main_v5) = v0 c
          ∧ r.2.mem ((c.tc : Thread Cert.InMqReferenceIdeal.nD Cert.InMqReferenceIdeal.τ).loc Cert.InMqReferenceIdeal.main_arg0) = m' ((c.tc : Thread Cert.InMqReferenceIdeal.nD Cert.InMqReferenceIdeal.τ).loc Cert.InMqReferenceIdeal.main_arg0)
          ∧ r.2.mem ((c.tc : Thread Cert.InMqReferenceIdeal.nD Cert.InMqReferenceIdeal.τ).loc Cert.InMqReferenceIdeal.main_arg1) = m' ((c.tc : Thread Cert.InMqReferenceIdeal.nD Cert.InMqReferenceIdeal.τ).loc Cert.InMqReferenceIdeal.main_arg1))

def preserves_InGl_InGlIdeal : Prop :=
  True

def algebraic_InGlIdeal_InGlReferenceIdeal [hInGlIdeal : Cert.InGlIdeal.Facts] [hInGlReferenceIdeal : Cert.InGlReferenceIdeal.Facts] : Prop :=
  ∀ (m : (ℓ : Loc Cert.InGlIdeal.nD Cert.InGlIdeal.τ Cert.InGlIdeal.sig) → Buf (Elt Ideal) ℓ) (g : Dev Cert.InGlIdeal.nD → PrngReg)
    (m' : (ℓ : Loc Cert.InGlReferenceIdeal.nD Cert.InGlReferenceIdeal.τ Cert.InGlReferenceIdeal.sig) → Buf (Elt Ideal) ℓ) (g' : Dev Cert.InGlReferenceIdeal.nD → PrngReg), Pre_InGlIdeal m →
    (∀ c : Dev Cert.InGlIdeal.nD,
      m' ((c.tc : Thread Cert.InGlReferenceIdeal.nD Cert.InGlReferenceIdeal.τ).loc Cert.InGlReferenceIdeal.main_arg0) = m ((c.tc : Thread Cert.InGlIdeal.nD Cert.InGlIdeal.τ).loc Cert.InGlIdeal.main_arg0)
      ∧ m' ((c.tc : Thread Cert.InGlReferenceIdeal.nD Cert.InGlReferenceIdeal.τ).loc Cert.InGlReferenceIdeal.main_arg1) = m ((c.tc : Thread Cert.InGlIdeal.nD Cert.InGlIdeal.τ).loc Cert.InGlIdeal.main_arg1)) →
    ∃ (v0 : (c : Dev Cert.InGlIdeal.nD) → Buf (Elt Ideal) ((c.tc : Thread Cert.InGlIdeal.nD Cert.InGlIdeal.τ).loc Cert.InGlIdeal.main_v0)),
      θ_run (Cert.InGlIdeal.defs (F := Ideal)) (onTc (τ := Cert.InGlIdeal.τ) (Cert.InGlIdeal.main (F := Ideal))) ⟨m, fun _ => 0, g⟩ (fun r => ∀ c : Dev Cert.InGlIdeal.nD,
          r.2.mem ((c.tc : Thread Cert.InGlIdeal.nD Cert.InGlIdeal.τ).loc Cert.InGlIdeal.main_v0) = v0 c
          ∧ r.2.mem ((c.tc : Thread Cert.InGlIdeal.nD Cert.InGlIdeal.τ).loc Cert.InGlIdeal.main_arg0) = m ((c.tc : Thread Cert.InGlIdeal.nD Cert.InGlIdeal.τ).loc Cert.InGlIdeal.main_arg0)
          ∧ r.2.mem ((c.tc : Thread Cert.InGlIdeal.nD Cert.InGlIdeal.τ).loc Cert.InGlIdeal.main_arg1) = m ((c.tc : Thread Cert.InGlIdeal.nD Cert.InGlIdeal.τ).loc Cert.InGlIdeal.main_arg1))
      ∧ θ_run (Cert.InGlReferenceIdeal.defs (F := Ideal)) (onTc (τ := Cert.InGlReferenceIdeal.τ) (Cert.InGlReferenceIdeal.main (F := Ideal))) ⟨m', fun _ => 0, g'⟩ (fun r => ∀ c : Dev Cert.InGlReferenceIdeal.nD,
          r.2.mem ((c.tc : Thread Cert.InGlReferenceIdeal.nD Cert.InGlReferenceIdeal.τ).loc Cert.InGlReferenceIdeal.main_v4) = v0 c
          ∧ r.2.mem ((c.tc : Thread Cert.InGlReferenceIdeal.nD Cert.InGlReferenceIdeal.τ).loc Cert.InGlReferenceIdeal.main_arg0) = m' ((c.tc : Thread Cert.InGlReferenceIdeal.nD Cert.InGlReferenceIdeal.τ).loc Cert.InGlReferenceIdeal.main_arg0)
          ∧ r.2.mem ((c.tc : Thread Cert.InGlReferenceIdeal.nD Cert.InGlReferenceIdeal.τ).loc Cert.InGlReferenceIdeal.main_arg1) = m' ((c.tc : Thread Cert.InGlReferenceIdeal.nD Cert.InGlReferenceIdeal.τ).loc Cert.InGlReferenceIdeal.main_arg1))

def preserves_OutX_OutXIdeal : Prop :=
  True

def algebraic_OutXIdeal_OutXReferenceIdeal [hOutXIdeal : Cert.OutXIdeal.Facts] [hOutXReferenceIdeal : Cert.OutXReferenceIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXReferenceIdeal.nD Cert.OutXReferenceIdeal.τ Cert.OutXReferenceIdeal.sig) → Buf (Elt Ideal) ℓ) (g' : Dev Cert.OutXReferenceIdeal.nD → PrngReg), Pre_OutXIdeal m →
    (∀ c : Dev Cert.OutXIdeal.nD,
      m' ((c.tc : Thread Cert.OutXReferenceIdeal.nD Cert.OutXReferenceIdeal.τ).loc Cert.OutXReferenceIdeal.main_arg0) = m ((c.tc : Thread Cert.OutXIdeal.nD Cert.OutXIdeal.τ).loc Cert.OutXIdeal.main_arg0)
      ∧ m' ((c.tc : Thread Cert.OutXReferenceIdeal.nD Cert.OutXReferenceIdeal.τ).loc Cert.OutXReferenceIdeal.main_arg1) = m ((c.tc : Thread Cert.OutXIdeal.nD Cert.OutXIdeal.τ).loc Cert.OutXIdeal.main_arg1)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1))
      ∧ θ_run (Cert.OutXReferenceIdeal.defs (F := Ideal)) (onTc (τ := Cert.OutXReferenceIdeal.τ) (Cert.OutXReferenceIdeal.main (F := Ideal))) ⟨m', fun _ => 0, g'⟩ (fun r => ∀ c : Dev Cert.OutXReferenceIdeal.nD,
          r.2.mem ((c.tc : Thread Cert.OutXReferenceIdeal.nD Cert.OutXReferenceIdeal.τ).loc Cert.OutXReferenceIdeal.main_v4) = v0 c
          ∧ r.2.mem ((c.tc : Thread Cert.OutXReferenceIdeal.nD Cert.OutXReferenceIdeal.τ).loc Cert.OutXReferenceIdeal.main_arg0) = m' ((c.tc : Thread Cert.OutXReferenceIdeal.nD Cert.OutXReferenceIdeal.τ).loc Cert.OutXReferenceIdeal.main_arg0)
          ∧ r.2.mem ((c.tc : Thread Cert.OutXReferenceIdeal.nD Cert.OutXReferenceIdeal.τ).loc Cert.OutXReferenceIdeal.main_arg1) = m' ((c.tc : Thread Cert.OutXReferenceIdeal.nD Cert.OutXReferenceIdeal.τ).loc Cert.OutXReferenceIdeal.main_arg1))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v5) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_MemOutX_MemOutXIdeal : Prop :=
  True

def algebraic_MemOutXIdeal_MemOutXReferenceIdeal [hMemOutXIdeal : Cert.MemOutXIdeal.Facts] [hMemOutXReferenceIdeal : Cert.MemOutXReferenceIdeal.Facts] : Prop :=
  ∀ (m : (ℓ : Loc Cert.MemOutXIdeal.nD Cert.MemOutXIdeal.τ Cert.MemOutXIdeal.sig) → Buf (Elt Ideal) ℓ) (g : Dev Cert.MemOutXIdeal.nD → PrngReg)
    (m' : (ℓ : Loc Cert.MemOutXReferenceIdeal.nD Cert.MemOutXReferenceIdeal.τ Cert.MemOutXReferenceIdeal.sig) → Buf (Elt Ideal) ℓ) (g' : Dev Cert.MemOutXReferenceIdeal.nD → PrngReg), Pre_MemOutXIdeal m →
    (∀ c : Dev Cert.MemOutXIdeal.nD,
      m' ((c.tc : Thread Cert.MemOutXReferenceIdeal.nD Cert.MemOutXReferenceIdeal.τ).loc Cert.MemOutXReferenceIdeal.main_arg0) = m ((c.tc : Thread Cert.MemOutXIdeal.nD Cert.MemOutXIdeal.τ).loc Cert.MemOutXIdeal.main_arg0)
      ∧ m' ((c.tc : Thread Cert.MemOutXReferenceIdeal.nD Cert.MemOutXReferenceIdeal.τ).loc Cert.MemOutXReferenceIdeal.main_arg1) = m ((c.tc : Thread Cert.MemOutXIdeal.nD Cert.MemOutXIdeal.τ).loc Cert.MemOutXIdeal.main_arg1)) →
    ∃ (v0 : (c : Dev Cert.MemOutXIdeal.nD) → Buf (Elt Ideal) ((c.tc : Thread Cert.MemOutXIdeal.nD Cert.MemOutXIdeal.τ).loc Cert.MemOutXIdeal.main_v0)),
      θ_run (Cert.MemOutXIdeal.defs (F := Ideal)) (onTc (τ := Cert.MemOutXIdeal.τ) (Cert.MemOutXIdeal.main (F := Ideal))) ⟨m, fun _ => 0, g⟩ (fun r => ∀ c : Dev Cert.MemOutXIdeal.nD,
          r.2.mem ((c.tc : Thread Cert.MemOutXIdeal.nD Cert.MemOutXIdeal.τ).loc Cert.MemOutXIdeal.main_v0) = v0 c
          ∧ r.2.mem ((c.tc : Thread Cert.MemOutXIdeal.nD Cert.MemOutXIdeal.τ).loc Cert.MemOutXIdeal.main_arg0) = m ((c.tc : Thread Cert.MemOutXIdeal.nD Cert.MemOutXIdeal.τ).loc Cert.MemOutXIdeal.main_arg0)
          ∧ r.2.mem ((c.tc : Thread Cert.MemOutXIdeal.nD Cert.MemOutXIdeal.τ).loc Cert.MemOutXIdeal.main_arg1) = m ((c.tc : Thread Cert.MemOutXIdeal.nD Cert.MemOutXIdeal.τ).loc Cert.MemOutXIdeal.main_arg1))
      ∧ θ_run (Cert.MemOutXReferenceIdeal.defs (F := Ideal)) (onTc (τ := Cert.MemOutXReferenceIdeal.τ) (Cert.MemOutXReferenceIdeal.main (F := Ideal))) ⟨m', fun _ => 0, g'⟩ (fun r => ∀ c : Dev Cert.MemOutXReferenceIdeal.nD,
          r.2.mem ((c.tc : Thread Cert.MemOutXReferenceIdeal.nD Cert.MemOutXReferenceIdeal.τ).loc Cert.MemOutXReferenceIdeal.main_v5) = v0 c
          ∧ r.2.mem ((c.tc : Thread Cert.MemOutXReferenceIdeal.nD Cert.MemOutXReferenceIdeal.τ).loc Cert.MemOutXReferenceIdeal.main_arg0) = m' ((c.tc : Thread Cert.MemOutXReferenceIdeal.nD Cert.MemOutXReferenceIdeal.τ).loc Cert.MemOutXReferenceIdeal.main_arg0)
          ∧ r.2.mem ((c.tc : Thread Cert.MemOutXReferenceIdeal.nD Cert.MemOutXReferenceIdeal.τ).loc Cert.MemOutXReferenceIdeal.main_arg1) = m' ((c.tc : Thread Cert.MemOutXReferenceIdeal.nD Cert.MemOutXReferenceIdeal.τ).loc Cert.MemOutXReferenceIdeal.main_arg1))

def preserves_SsdOutX_SsdOutXIdeal : Prop :=
  True

def algebraic_SsdOutXIdeal_SsdOutXReferenceIdeal [hSsdOutXIdeal : Cert.SsdOutXIdeal.Facts] [hSsdOutXReferenceIdeal : Cert.SsdOutXReferenceIdeal.Facts] : Prop :=
  ∀ (m : (ℓ : Loc Cert.SsdOutXIdeal.nD Cert.SsdOutXIdeal.τ Cert.SsdOutXIdeal.sig) → Buf (Elt Ideal) ℓ) (g : Dev Cert.SsdOutXIdeal.nD → PrngReg)
    (m' : (ℓ : Loc Cert.SsdOutXReferenceIdeal.nD Cert.SsdOutXReferenceIdeal.τ Cert.SsdOutXReferenceIdeal.sig) → Buf (Elt Ideal) ℓ) (g' : Dev Cert.SsdOutXReferenceIdeal.nD → PrngReg), Pre_SsdOutXIdeal m →
    (∀ c : Dev Cert.SsdOutXIdeal.nD,
      m' ((c.tc : Thread Cert.SsdOutXReferenceIdeal.nD Cert.SsdOutXReferenceIdeal.τ).loc Cert.SsdOutXReferenceIdeal.main_arg0) = m ((c.tc : Thread Cert.SsdOutXIdeal.nD Cert.SsdOutXIdeal.τ).loc Cert.SsdOutXIdeal.main_arg0)
      ∧ m' ((c.tc : Thread Cert.SsdOutXReferenceIdeal.nD Cert.SsdOutXReferenceIdeal.τ).loc Cert.SsdOutXReferenceIdeal.main_arg1) = m ((c.tc : Thread Cert.SsdOutXIdeal.nD Cert.SsdOutXIdeal.τ).loc Cert.SsdOutXIdeal.main_arg1)) →
    ∃ (v0 : (c : Dev Cert.SsdOutXIdeal.nD) → Buf (Elt Ideal) ((c.tc : Thread Cert.SsdOutXIdeal.nD Cert.SsdOutXIdeal.τ).loc Cert.SsdOutXIdeal.main_v0)),
      θ_run (Cert.SsdOutXIdeal.defs (F := Ideal)) (onTc (τ := Cert.SsdOutXIdeal.τ) (Cert.SsdOutXIdeal.main (F := Ideal))) ⟨m, fun _ => 0, g⟩ (fun r => ∀ c : Dev Cert.SsdOutXIdeal.nD,
          r.2.mem ((c.tc : Thread Cert.SsdOutXIdeal.nD Cert.SsdOutXIdeal.τ).loc Cert.SsdOutXIdeal.main_v0) = v0 c
          ∧ r.2.mem ((c.tc : Thread Cert.SsdOutXIdeal.nD Cert.SsdOutXIdeal.τ).loc Cert.SsdOutXIdeal.main_arg0) = m ((c.tc : Thread Cert.SsdOutXIdeal.nD Cert.SsdOutXIdeal.τ).loc Cert.SsdOutXIdeal.main_arg0)
          ∧ r.2.mem ((c.tc : Thread Cert.SsdOutXIdeal.nD Cert.SsdOutXIdeal.τ).loc Cert.SsdOutXIdeal.main_arg1) = m ((c.tc : Thread Cert.SsdOutXIdeal.nD Cert.SsdOutXIdeal.τ).loc Cert.SsdOutXIdeal.main_arg1))
      ∧ θ_run (Cert.SsdOutXReferenceIdeal.defs (F := Ideal)) (onTc (τ := Cert.SsdOutXReferenceIdeal.τ) (Cert.SsdOutXReferenceIdeal.main (F := Ideal))) ⟨m', fun _ => 0, g'⟩ (fun r => ∀ c : Dev Cert.SsdOutXReferenceIdeal.nD,
          r.2.mem ((c.tc : Thread Cert.SsdOutXReferenceIdeal.nD Cert.SsdOutXReferenceIdeal.τ).loc Cert.SsdOutXReferenceIdeal.main_v4) = v0 c
          ∧ r.2.mem ((c.tc : Thread Cert.SsdOutXReferenceIdeal.nD Cert.SsdOutXReferenceIdeal.τ).loc Cert.SsdOutXReferenceIdeal.main_arg0) = m' ((c.tc : Thread Cert.SsdOutXReferenceIdeal.nD Cert.SsdOutXReferenceIdeal.τ).loc Cert.SsdOutXReferenceIdeal.main_arg0)
          ∧ r.2.mem ((c.tc : Thread Cert.SsdOutXReferenceIdeal.nD Cert.SsdOutXReferenceIdeal.τ).loc Cert.SsdOutXReferenceIdeal.main_arg1) = m' ((c.tc : Thread Cert.SsdOutXReferenceIdeal.nD Cert.SsdOutXReferenceIdeal.τ).loc Cert.SsdOutXReferenceIdeal.main_arg1))

def preserves_SsdOutW_SsdOutWIdeal : Prop :=
  True

def algebraic_SsdOutWIdeal_SsdOutWReferenceIdeal [hSsdOutWIdeal : Cert.SsdOutWIdeal.Facts] [hSsdOutWReferenceIdeal : Cert.SsdOutWReferenceIdeal.Facts] : Prop :=
  ∀ (m : (ℓ : Loc Cert.SsdOutWIdeal.nD Cert.SsdOutWIdeal.τ Cert.SsdOutWIdeal.sig) → Buf (Elt Ideal) ℓ) (g : Dev Cert.SsdOutWIdeal.nD → PrngReg)
    (m' : (ℓ : Loc Cert.SsdOutWReferenceIdeal.nD Cert.SsdOutWReferenceIdeal.τ Cert.SsdOutWReferenceIdeal.sig) → Buf (Elt Ideal) ℓ) (g' : Dev Cert.SsdOutWReferenceIdeal.nD → PrngReg), Pre_SsdOutWIdeal m →
    (∀ c : Dev Cert.SsdOutWIdeal.nD,
      m' ((c.tc : Thread Cert.SsdOutWReferenceIdeal.nD Cert.SsdOutWReferenceIdeal.τ).loc Cert.SsdOutWReferenceIdeal.main_arg0) = m ((c.tc : Thread Cert.SsdOutWIdeal.nD Cert.SsdOutWIdeal.τ).loc Cert.SsdOutWIdeal.main_arg0)
      ∧ m' ((c.tc : Thread Cert.SsdOutWReferenceIdeal.nD Cert.SsdOutWReferenceIdeal.τ).loc Cert.SsdOutWReferenceIdeal.main_arg1) = m ((c.tc : Thread Cert.SsdOutWIdeal.nD Cert.SsdOutWIdeal.τ).loc Cert.SsdOutWIdeal.main_arg1)) →
    ∃ (v0 : (c : Dev Cert.SsdOutWIdeal.nD) → Buf (Elt Ideal) ((c.tc : Thread Cert.SsdOutWIdeal.nD Cert.SsdOutWIdeal.τ).loc Cert.SsdOutWIdeal.main_v0)),
      θ_run (Cert.SsdOutWIdeal.defs (F := Ideal)) (onTc (τ := Cert.SsdOutWIdeal.τ) (Cert.SsdOutWIdeal.main (F := Ideal))) ⟨m, fun _ => 0, g⟩ (fun r => ∀ c : Dev Cert.SsdOutWIdeal.nD,
          r.2.mem ((c.tc : Thread Cert.SsdOutWIdeal.nD Cert.SsdOutWIdeal.τ).loc Cert.SsdOutWIdeal.main_v0) = v0 c
          ∧ r.2.mem ((c.tc : Thread Cert.SsdOutWIdeal.nD Cert.SsdOutWIdeal.τ).loc Cert.SsdOutWIdeal.main_arg0) = m ((c.tc : Thread Cert.SsdOutWIdeal.nD Cert.SsdOutWIdeal.τ).loc Cert.SsdOutWIdeal.main_arg0)
          ∧ r.2.mem ((c.tc : Thread Cert.SsdOutWIdeal.nD Cert.SsdOutWIdeal.τ).loc Cert.SsdOutWIdeal.main_arg1) = m ((c.tc : Thread Cert.SsdOutWIdeal.nD Cert.SsdOutWIdeal.τ).loc Cert.SsdOutWIdeal.main_arg1))
      ∧ θ_run (Cert.SsdOutWReferenceIdeal.defs (F := Ideal)) (onTc (τ := Cert.SsdOutWReferenceIdeal.τ) (Cert.SsdOutWReferenceIdeal.main (F := Ideal))) ⟨m', fun _ => 0, g'⟩ (fun r => ∀ c : Dev Cert.SsdOutWReferenceIdeal.nD,
          r.2.mem ((c.tc : Thread Cert.SsdOutWReferenceIdeal.nD Cert.SsdOutWReferenceIdeal.τ).loc Cert.SsdOutWReferenceIdeal.main_v5) = v0 c
          ∧ r.2.mem ((c.tc : Thread Cert.SsdOutWReferenceIdeal.nD Cert.SsdOutWReferenceIdeal.τ).loc Cert.SsdOutWReferenceIdeal.main_arg0) = m' ((c.tc : Thread Cert.SsdOutWReferenceIdeal.nD Cert.SsdOutWReferenceIdeal.τ).loc Cert.SsdOutWReferenceIdeal.main_arg0)
          ∧ r.2.mem ((c.tc : Thread Cert.SsdOutWReferenceIdeal.nD Cert.SsdOutWReferenceIdeal.τ).loc Cert.SsdOutWReferenceIdeal.main_arg1) = m' ((c.tc : Thread Cert.SsdOutWReferenceIdeal.nD Cert.SsdOutWReferenceIdeal.τ).loc Cert.SsdOutWReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)) →
    ∃ (v0 : (c : Dev Cert.SsdOutIdeal.nD) → Buf (Elt Ideal) ((c.tc : Thread Cert.SsdOutIdeal.nD Cert.SsdOutIdeal.τ).loc Cert.SsdOutIdeal.main_v0)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v0) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v2) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1))

def preserves_MemKvX_MemKvXIdeal : Prop :=
  True

def algebraic_MemKvXIdeal_MemKvXReferenceIdeal [hMemKvXIdeal : Cert.MemKvXIdeal.Facts] [hMemKvXReferenceIdeal : Cert.MemKvXReferenceIdeal.Facts] : Prop :=
  ∀ (m : (ℓ : Loc Cert.MemKvXIdeal.nD Cert.MemKvXIdeal.τ Cert.MemKvXIdeal.sig) → Buf (Elt Ideal) ℓ) (g : Dev Cert.MemKvXIdeal.nD → PrngReg)
    (m' : (ℓ : Loc Cert.MemKvXReferenceIdeal.nD Cert.MemKvXReferenceIdeal.τ Cert.MemKvXReferenceIdeal.sig) → Buf (Elt Ideal) ℓ) (g' : Dev Cert.MemKvXReferenceIdeal.nD → PrngReg), Pre_MemKvXIdeal m →
    (∀ c : Dev Cert.MemKvXIdeal.nD,
      m' ((c.tc : Thread Cert.MemKvXReferenceIdeal.nD Cert.MemKvXReferenceIdeal.τ).loc Cert.MemKvXReferenceIdeal.main_arg0) = m ((c.tc : Thread Cert.MemKvXIdeal.nD Cert.MemKvXIdeal.τ).loc Cert.MemKvXIdeal.main_arg0)
      ∧ m' ((c.tc : Thread Cert.MemKvXReferenceIdeal.nD Cert.MemKvXReferenceIdeal.τ).loc Cert.MemKvXReferenceIdeal.main_arg1) = m ((c.tc : Thread Cert.MemKvXIdeal.nD Cert.MemKvXIdeal.τ).loc Cert.MemKvXIdeal.main_arg1)) →
    ∃ (v0 : (c : Dev Cert.MemKvXIdeal.nD) → Buf (Elt Ideal) ((c.tc : Thread Cert.MemKvXIdeal.nD Cert.MemKvXIdeal.τ).loc Cert.MemKvXIdeal.main_v0)),
      θ_run (Cert.MemKvXIdeal.defs (F := Ideal)) (onTc (τ := Cert.MemKvXIdeal.τ) (Cert.MemKvXIdeal.main (F := Ideal))) ⟨m, fun _ => 0, g⟩ (fun r => ∀ c : Dev Cert.MemKvXIdeal.nD,
          r.2.mem ((c.tc : Thread Cert.MemKvXIdeal.nD Cert.MemKvXIdeal.τ).loc Cert.MemKvXIdeal.main_v0) = v0 c
          ∧ r.2.mem ((c.tc : Thread Cert.MemKvXIdeal.nD Cert.MemKvXIdeal.τ).loc Cert.MemKvXIdeal.main_arg0) = m ((c.tc : Thread Cert.MemKvXIdeal.nD Cert.MemKvXIdeal.τ).loc Cert.MemKvXIdeal.main_arg0)
          ∧ r.2.mem ((c.tc : Thread Cert.MemKvXIdeal.nD Cert.MemKvXIdeal.τ).loc Cert.MemKvXIdeal.main_arg1) = m ((c.tc : Thread Cert.MemKvXIdeal.nD Cert.MemKvXIdeal.τ).loc Cert.MemKvXIdeal.main_arg1))
      ∧ θ_run (Cert.MemKvXReferenceIdeal.defs (F := Ideal)) (onTc (τ := Cert.MemKvXReferenceIdeal.τ) (Cert.MemKvXReferenceIdeal.main (F := Ideal))) ⟨m', fun _ => 0, g'⟩ (fun r => ∀ c : Dev Cert.MemKvXReferenceIdeal.nD,
          r.2.mem ((c.tc : Thread Cert.MemKvXReferenceIdeal.nD Cert.MemKvXReferenceIdeal.τ).loc Cert.MemKvXReferenceIdeal.main_v4) = v0 c
          ∧ r.2.mem ((c.tc : Thread Cert.MemKvXReferenceIdeal.nD Cert.MemKvXReferenceIdeal.τ).loc Cert.MemKvXReferenceIdeal.main_arg0) = m' ((c.tc : Thread Cert.MemKvXReferenceIdeal.nD Cert.MemKvXReferenceIdeal.τ).loc Cert.MemKvXReferenceIdeal.main_arg0)
          ∧ r.2.mem ((c.tc : Thread Cert.MemKvXReferenceIdeal.nD Cert.MemKvXReferenceIdeal.τ).loc Cert.MemKvXReferenceIdeal.main_arg1) = m' ((c.tc : Thread Cert.MemKvXReferenceIdeal.nD Cert.MemKvXReferenceIdeal.τ).loc Cert.MemKvXReferenceIdeal.main_arg1))

def preserves_MemKvW_MemKvWIdeal : Prop :=
  True

def algebraic_MemKvWIdeal_MemKvWReferenceIdeal [hMemKvWIdeal : Cert.MemKvWIdeal.Facts] [hMemKvWReferenceIdeal : Cert.MemKvWReferenceIdeal.Facts] : Prop :=
  ∀ (m : (ℓ : Loc Cert.MemKvWIdeal.nD Cert.MemKvWIdeal.τ Cert.MemKvWIdeal.sig) → Buf (Elt Ideal) ℓ) (g : Dev Cert.MemKvWIdeal.nD → PrngReg)
    (m' : (ℓ : Loc Cert.MemKvWReferenceIdeal.nD Cert.MemKvWReferenceIdeal.τ Cert.MemKvWReferenceIdeal.sig) → Buf (Elt Ideal) ℓ) (g' : Dev Cert.MemKvWReferenceIdeal.nD → PrngReg), Pre_MemKvWIdeal m →
    (∀ c : Dev Cert.MemKvWIdeal.nD,
      m' ((c.tc : Thread Cert.MemKvWReferenceIdeal.nD Cert.MemKvWReferenceIdeal.τ).loc Cert.MemKvWReferenceIdeal.main_arg0) = m ((c.tc : Thread Cert.MemKvWIdeal.nD Cert.MemKvWIdeal.τ).loc Cert.MemKvWIdeal.main_arg0)
      ∧ m' ((c.tc : Thread Cert.MemKvWReferenceIdeal.nD Cert.MemKvWReferenceIdeal.τ).loc Cert.MemKvWReferenceIdeal.main_arg1) = m ((c.tc : Thread Cert.MemKvWIdeal.nD Cert.MemKvWIdeal.τ).loc Cert.MemKvWIdeal.main_arg1)) →
    ∃ (v0 : (c : Dev Cert.MemKvWIdeal.nD) → Buf (Elt Ideal) ((c.tc : Thread Cert.MemKvWIdeal.nD Cert.MemKvWIdeal.τ).loc Cert.MemKvWIdeal.main_v0)),
      θ_run (Cert.MemKvWIdeal.defs (F := Ideal)) (onTc (τ := Cert.MemKvWIdeal.τ) (Cert.MemKvWIdeal.main (F := Ideal))) ⟨m, fun _ => 0, g⟩ (fun r => ∀ c : Dev Cert.MemKvWIdeal.nD,
          r.2.mem ((c.tc : Thread Cert.MemKvWIdeal.nD Cert.MemKvWIdeal.τ).loc Cert.MemKvWIdeal.main_v0) = v0 c
          ∧ r.2.mem ((c.tc : Thread Cert.MemKvWIdeal.nD Cert.MemKvWIdeal.τ).loc Cert.MemKvWIdeal.main_arg0) = m ((c.tc : Thread Cert.MemKvWIdeal.nD Cert.MemKvWIdeal.τ).loc Cert.MemKvWIdeal.main_arg0)
          ∧ r.2.mem ((c.tc : Thread Cert.MemKvWIdeal.nD Cert.MemKvWIdeal.τ).loc Cert.MemKvWIdeal.main_arg1) = m ((c.tc : Thread Cert.MemKvWIdeal.nD Cert.MemKvWIdeal.τ).loc Cert.MemKvWIdeal.main_arg1))
      ∧ θ_run (Cert.MemKvWReferenceIdeal.defs (F := Ideal)) (onTc (τ := Cert.MemKvWReferenceIdeal.τ) (Cert.MemKvWReferenceIdeal.main (F := Ideal))) ⟨m', fun _ => 0, g'⟩ (fun r => ∀ c : Dev Cert.MemKvWReferenceIdeal.nD,
          r.2.mem ((c.tc : Thread Cert.MemKvWReferenceIdeal.nD Cert.MemKvWReferenceIdeal.τ).loc Cert.MemKvWReferenceIdeal.main_v5) = v0 c
          ∧ r.2.mem ((c.tc : Thread Cert.MemKvWReferenceIdeal.nD Cert.MemKvWReferenceIdeal.τ).loc Cert.MemKvWReferenceIdeal.main_arg0) = m' ((c.tc : Thread Cert.MemKvWReferenceIdeal.nD Cert.MemKvWReferenceIdeal.τ).loc Cert.MemKvWReferenceIdeal.main_arg0)
          ∧ r.2.mem ((c.tc : Thread Cert.MemKvWReferenceIdeal.nD Cert.MemKvWReferenceIdeal.τ).loc Cert.MemKvWReferenceIdeal.main_arg1) = m' ((c.tc : Thread Cert.MemKvWReferenceIdeal.nD Cert.MemKvWReferenceIdeal.τ).loc Cert.MemKvWReferenceIdeal.main_arg1))

def preserves_MemKv_MemKvIdeal : Prop :=
  True

def algebraic_MemKvIdeal_MemKvReferenceIdeal [hMemKvIdeal : Cert.MemKvIdeal.Facts] [hMemKvReferenceIdeal : Cert.MemKvReferenceIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvReferenceIdeal.nD Cert.MemKvReferenceIdeal.τ Cert.MemKvReferenceIdeal.sig) → Buf (Elt Ideal) ℓ) (g' : Dev Cert.MemKvReferenceIdeal.nD → PrngReg), Pre_MemKvIdeal m →
    (∀ c : Dev Cert.MemKvIdeal.nD,
      m' ((c.tc : Thread Cert.MemKvReferenceIdeal.nD Cert.MemKvReferenceIdeal.τ).loc Cert.MemKvReferenceIdeal.main_arg0) = m ((c.tc : Thread Cert.MemKvIdeal.nD Cert.MemKvIdeal.τ).loc Cert.MemKvIdeal.main_arg0)
      ∧ m' ((c.tc : Thread Cert.MemKvReferenceIdeal.nD Cert.MemKvReferenceIdeal.τ).loc Cert.MemKvReferenceIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvReferenceIdeal.defs (F := Ideal)) (onTc (τ := Cert.MemKvReferenceIdeal.τ) (Cert.MemKvReferenceIdeal.main (F := Ideal))) ⟨m', fun _ => 0, g'⟩ (fun r => ∀ c : Dev Cert.MemKvReferenceIdeal.nD,
          r.2.mem ((c.tc : Thread Cert.MemKvReferenceIdeal.nD Cert.MemKvReferenceIdeal.τ).loc Cert.MemKvReferenceIdeal.main_v3) = v0 c
          ∧ r.2.mem ((c.tc : Thread Cert.MemKvReferenceIdeal.nD Cert.MemKvReferenceIdeal.τ).loc Cert.MemKvReferenceIdeal.main_arg0) = m' ((c.tc : Thread Cert.MemKvReferenceIdeal.nD Cert.MemKvReferenceIdeal.τ).loc Cert.MemKvReferenceIdeal.main_arg0)
          ∧ r.2.mem ((c.tc : Thread Cert.MemKvReferenceIdeal.nD Cert.MemKvReferenceIdeal.τ).loc Cert.MemKvReferenceIdeal.main_arg1) = m' ((c.tc : Thread Cert.MemKvReferenceIdeal.nD Cert.MemKvReferenceIdeal.τ).loc Cert.MemKvReferenceIdeal.main_arg1))

def preserves_InXDt_InXDtIdeal : Prop :=
  True

def algebraic_InXDtIdeal_InXDtReferenceIdeal [hInXDtIdeal : Cert.InXDtIdeal.Facts] [hInXDtReferenceIdeal : Cert.InXDtReferenceIdeal.Facts] : Prop :=
  ∀ (m : (ℓ : Loc Cert.InXDtIdeal.nD Cert.InXDtIdeal.τ Cert.InXDtIdeal.sig) → Buf (Elt Ideal) ℓ) (g : Dev Cert.InXDtIdeal.nD → PrngReg)
    (m' : (ℓ : Loc Cert.InXDtReferenceIdeal.nD Cert.InXDtReferenceIdeal.τ Cert.InXDtReferenceIdeal.sig) → Buf (Elt Ideal) ℓ) (g' : Dev Cert.InXDtReferenceIdeal.nD → PrngReg), Pre_InXDtIdeal m →
    (∀ c : Dev Cert.InXDtIdeal.nD,
      m' ((c.tc : Thread Cert.InXDtReferenceIdeal.nD Cert.InXDtReferenceIdeal.τ).loc Cert.InXDtReferenceIdeal.main_arg0) = m ((c.tc : Thread Cert.InXDtIdeal.nD Cert.InXDtIdeal.τ).loc Cert.InXDtIdeal.main_arg0)
      ∧ m' ((c.tc : Thread Cert.InXDtReferenceIdeal.nD Cert.InXDtReferenceIdeal.τ).loc Cert.InXDtReferenceIdeal.main_arg1) = m ((c.tc : Thread Cert.InXDtIdeal.nD Cert.InXDtIdeal.τ).loc Cert.InXDtIdeal.main_arg1)) →
    ∃ (v0 : (c : Dev Cert.InXDtIdeal.nD) → Buf (Elt Ideal) ((c.tc : Thread Cert.InXDtIdeal.nD Cert.InXDtIdeal.τ).loc Cert.InXDtIdeal.main_v0)),
      θ_run (Cert.InXDtIdeal.defs (F := Ideal)) (onTc (τ := Cert.InXDtIdeal.τ) (Cert.InXDtIdeal.main (F := Ideal))) ⟨m, fun _ => 0, g⟩ (fun r => ∀ c : Dev Cert.InXDtIdeal.nD,
          r.2.mem ((c.tc : Thread Cert.InXDtIdeal.nD Cert.InXDtIdeal.τ).loc Cert.InXDtIdeal.main_v0) = v0 c
          ∧ r.2.mem ((c.tc : Thread Cert.InXDtIdeal.nD Cert.InXDtIdeal.τ).loc Cert.InXDtIdeal.main_arg0) = m ((c.tc : Thread Cert.InXDtIdeal.nD Cert.InXDtIdeal.τ).loc Cert.InXDtIdeal.main_arg0)
          ∧ r.2.mem ((c.tc : Thread Cert.InXDtIdeal.nD Cert.InXDtIdeal.τ).loc Cert.InXDtIdeal.main_arg1) = m ((c.tc : Thread Cert.InXDtIdeal.nD Cert.InXDtIdeal.τ).loc Cert.InXDtIdeal.main_arg1))
      ∧ θ_run (Cert.InXDtReferenceIdeal.defs (F := Ideal)) (onTc (τ := Cert.InXDtReferenceIdeal.τ) (Cert.InXDtReferenceIdeal.main (F := Ideal))) ⟨m', fun _ => 0, g'⟩ (fun r => ∀ c : Dev Cert.InXDtReferenceIdeal.nD,
          r.2.mem ((c.tc : Thread Cert.InXDtReferenceIdeal.nD Cert.InXDtReferenceIdeal.τ).loc Cert.InXDtReferenceIdeal.main_v5) = v0 c
          ∧ r.2.mem ((c.tc : Thread Cert.InXDtReferenceIdeal.nD Cert.InXDtReferenceIdeal.τ).loc Cert.InXDtReferenceIdeal.main_arg0) = m' ((c.tc : Thread Cert.InXDtReferenceIdeal.nD Cert.InXDtReferenceIdeal.τ).loc Cert.InXDtReferenceIdeal.main_arg0)
          ∧ r.2.mem ((c.tc : Thread Cert.InXDtReferenceIdeal.nD Cert.InXDtReferenceIdeal.τ).loc Cert.InXDtReferenceIdeal.main_arg1) = m' ((c.tc : Thread Cert.InXDtReferenceIdeal.nD Cert.InXDtReferenceIdeal.τ).loc Cert.InXDtReferenceIdeal.main_arg1))

def preserves_InWDt_InWDtIdeal : Prop :=
  True

def algebraic_InWDtIdeal_InWDtReferenceIdeal [hInWDtIdeal : Cert.InWDtIdeal.Facts] [hInWDtReferenceIdeal : Cert.InWDtReferenceIdeal.Facts] : Prop :=
  ∀ (m : (ℓ : Loc Cert.InWDtIdeal.nD Cert.InWDtIdeal.τ Cert.InWDtIdeal.sig) → Buf (Elt Ideal) ℓ) (g : Dev Cert.InWDtIdeal.nD → PrngReg)
    (m' : (ℓ : Loc Cert.InWDtReferenceIdeal.nD Cert.InWDtReferenceIdeal.τ Cert.InWDtReferenceIdeal.sig) → Buf (Elt Ideal) ℓ) (g' : Dev Cert.InWDtReferenceIdeal.nD → PrngReg), Pre_InWDtIdeal m →
    (∀ c : Dev Cert.InWDtIdeal.nD,
      m' ((c.tc : Thread Cert.InWDtReferenceIdeal.nD Cert.InWDtReferenceIdeal.τ).loc Cert.InWDtReferenceIdeal.main_arg0) = m ((c.tc : Thread Cert.InWDtIdeal.nD Cert.InWDtIdeal.τ).loc Cert.InWDtIdeal.main_arg0)
      ∧ m' ((c.tc : Thread Cert.InWDtReferenceIdeal.nD Cert.InWDtReferenceIdeal.τ).loc Cert.InWDtReferenceIdeal.main_arg1) = m ((c.tc : Thread Cert.InWDtIdeal.nD Cert.InWDtIdeal.τ).loc Cert.InWDtIdeal.main_arg1)) →
    ∃ (v0 : (c : Dev Cert.InWDtIdeal.nD) → Buf (Elt Ideal) ((c.tc : Thread Cert.InWDtIdeal.nD Cert.InWDtIdeal.τ).loc Cert.InWDtIdeal.main_v0)),
      θ_run (Cert.InWDtIdeal.defs (F := Ideal)) (onTc (τ := Cert.InWDtIdeal.τ) (Cert.InWDtIdeal.main (F := Ideal))) ⟨m, fun _ => 0, g⟩ (fun r => ∀ c : Dev Cert.InWDtIdeal.nD,
          r.2.mem ((c.tc : Thread Cert.InWDtIdeal.nD Cert.InWDtIdeal.τ).loc Cert.InWDtIdeal.main_v0) = v0 c
          ∧ r.2.mem ((c.tc : Thread Cert.InWDtIdeal.nD Cert.InWDtIdeal.τ).loc Cert.InWDtIdeal.main_arg0) = m ((c.tc : Thread Cert.InWDtIdeal.nD Cert.InWDtIdeal.τ).loc Cert.InWDtIdeal.main_arg0)
          ∧ r.2.mem ((c.tc : Thread Cert.InWDtIdeal.nD Cert.InWDtIdeal.τ).loc Cert.InWDtIdeal.main_arg1) = m ((c.tc : Thread Cert.InWDtIdeal.nD Cert.InWDtIdeal.τ).loc Cert.InWDtIdeal.main_arg1))
      ∧ θ_run (Cert.InWDtReferenceIdeal.defs (F := Ideal)) (onTc (τ := Cert.InWDtReferenceIdeal.τ) (Cert.InWDtReferenceIdeal.main (F := Ideal))) ⟨m', fun _ => 0, g'⟩ (fun r => ∀ c : Dev Cert.InWDtReferenceIdeal.nD,
          r.2.mem ((c.tc : Thread Cert.InWDtReferenceIdeal.nD Cert.InWDtReferenceIdeal.τ).loc Cert.InWDtReferenceIdeal.main_v7) = v0 c
          ∧ r.2.mem ((c.tc : Thread Cert.InWDtReferenceIdeal.nD Cert.InWDtReferenceIdeal.τ).loc Cert.InWDtReferenceIdeal.main_arg0) = m' ((c.tc : Thread Cert.InWDtReferenceIdeal.nD Cert.InWDtReferenceIdeal.τ).loc Cert.InWDtReferenceIdeal.main_arg0)
          ∧ r.2.mem ((c.tc : Thread Cert.InWDtReferenceIdeal.nD Cert.InWDtReferenceIdeal.τ).loc Cert.InWDtReferenceIdeal.main_arg1) = m' ((c.tc : Thread Cert.InWDtReferenceIdeal.nD Cert.InWDtReferenceIdeal.τ).loc Cert.InWDtReferenceIdeal.main_arg1))

def preserves_InDt_InDtIdeal : Prop :=
  True

def algebraic_InDtIdeal_InDtReferenceIdeal [hInDtIdeal : Cert.InDtIdeal.Facts] [hInDtReferenceIdeal : Cert.InDtReferenceIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtReferenceIdeal.nD Cert.InDtReferenceIdeal.τ Cert.InDtReferenceIdeal.sig) → Buf (Elt Ideal) ℓ) (g' : Dev Cert.InDtReferenceIdeal.nD → PrngReg), Pre_InDtIdeal m →
    (∀ c : Dev Cert.InDtIdeal.nD,
      m' ((c.tc : Thread Cert.InDtReferenceIdeal.nD Cert.InDtReferenceIdeal.τ).loc Cert.InDtReferenceIdeal.main_arg0) = m ((c.tc : Thread Cert.InDtIdeal.nD Cert.InDtIdeal.τ).loc Cert.InDtIdeal.main_arg0)
      ∧ m' ((c.tc : Thread Cert.InDtReferenceIdeal.nD Cert.InDtReferenceIdeal.τ).loc Cert.InDtReferenceIdeal.main_arg1) = m ((c.tc : Thread Cert.InDtIdeal.nD Cert.InDtIdeal.τ).loc Cert.InDtIdeal.main_arg1)) →
    ∃ (v0 : (c : Dev Cert.InDtIdeal.nD) → Buf (Elt Ideal) ((c.tc : Thread Cert.InDtIdeal.nD Cert.InDtIdeal.τ).loc Cert.InDtIdeal.main_v0)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v0) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ θ_run (Cert.InDtReferenceIdeal.defs (F := Ideal)) (onTc (τ := Cert.InDtReferenceIdeal.τ) (Cert.InDtReferenceIdeal.main (F := Ideal))) ⟨m', fun _ => 0, g'⟩ (fun r => ∀ c : Dev Cert.InDtReferenceIdeal.nD,
          r.2.mem ((c.tc : Thread Cert.InDtReferenceIdeal.nD Cert.InDtReferenceIdeal.τ).loc Cert.InDtReferenceIdeal.main_v3) = v0 c
          ∧ r.2.mem ((c.tc : Thread Cert.InDtReferenceIdeal.nD Cert.InDtReferenceIdeal.τ).loc Cert.InDtReferenceIdeal.main_arg0) = m' ((c.tc : Thread Cert.InDtReferenceIdeal.nD Cert.InDtReferenceIdeal.τ).loc Cert.InDtReferenceIdeal.main_arg0)
          ∧ r.2.mem ((c.tc : Thread Cert.InDtReferenceIdeal.nD Cert.InDtReferenceIdeal.τ).loc Cert.InDtReferenceIdeal.main_arg1) = m' ((c.tc : Thread Cert.InDtReferenceIdeal.nD Cert.InDtReferenceIdeal.τ).loc Cert.InDtReferenceIdeal.main_arg1))

def preserves_MemFwd_MemFwdIdeal : Prop :=
  True

def algebraic_MemFwdIdeal_MemFwdReferenceIdeal [hMemFwdIdeal : Cert.MemFwdIdeal.Facts] [hMemFwdReferenceIdeal : Cert.MemFwdReferenceIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdReferenceIdeal.nD Cert.MemFwdReferenceIdeal.τ Cert.MemFwdReferenceIdeal.sig) → Buf (Elt Ideal) ℓ) (g' : Dev Cert.MemFwdReferenceIdeal.nD → PrngReg), Pre_MemFwdIdeal m →
    (∀ c : Dev Cert.MemFwdIdeal.nD,
      m' ((c.tc : Thread Cert.MemFwdReferenceIdeal.nD Cert.MemFwdReferenceIdeal.τ).loc Cert.MemFwdReferenceIdeal.main_arg0) = m ((c.tc : Thread Cert.MemFwdIdeal.nD Cert.MemFwdIdeal.τ).loc Cert.MemFwdIdeal.main_arg0)
      ∧ m' ((c.tc : Thread Cert.MemFwdReferenceIdeal.nD Cert.MemFwdReferenceIdeal.τ).loc Cert.MemFwdReferenceIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdReferenceIdeal.defs (F := Ideal)) (onTc (τ := Cert.MemFwdReferenceIdeal.τ) (Cert.MemFwdReferenceIdeal.main (F := Ideal))) ⟨m', fun _ => 0, g'⟩ (fun r => ∀ c : Dev Cert.MemFwdReferenceIdeal.nD,
          r.2.mem ((c.tc : Thread Cert.MemFwdReferenceIdeal.nD Cert.MemFwdReferenceIdeal.τ).loc Cert.MemFwdReferenceIdeal.main_v24) = v0 c
          ∧ r.2.mem ((c.tc : Thread Cert.MemFwdReferenceIdeal.nD Cert.MemFwdReferenceIdeal.τ).loc Cert.MemFwdReferenceIdeal.main_arg0) = m' ((c.tc : Thread Cert.MemFwdReferenceIdeal.nD Cert.MemFwdReferenceIdeal.τ).loc Cert.MemFwdReferenceIdeal.main_arg0)
          ∧ r.2.mem ((c.tc : Thread Cert.MemFwdReferenceIdeal.nD Cert.MemFwdReferenceIdeal.τ).loc Cert.MemFwdReferenceIdeal.main_arg1) = m' ((c.tc : Thread Cert.MemFwdReferenceIdeal.nD Cert.MemFwdReferenceIdeal.τ).loc Cert.MemFwdReferenceIdeal.main_arg1))

def preserves_Fwd_FwdIdeal : Prop :=
  True

def algebraic_FwdIdeal_FwdReferenceIdeal_pre_forward_finite [hFwdIdeal : Cert.FwdIdeal.Facts] [hFwdReferenceIdeal : Cert.FwdReferenceIdeal.Facts] [hPre_forward_finite : Cert.Pre_forward_finite.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_forward_finite m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v32) = v0 c
          ∧ r.2.mem ((c.tc : Thread Cert.FwdReferenceIdeal.nD Cert.FwdReferenceIdeal.τ).loc Cert.FwdReferenceIdeal.main_v51) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0))

def Claim : Prop :=
  ∃ (hKernel : Cert.Kernel.Facts) (hKernelIdeal : Cert.KernelIdeal.Facts) (hReferenceIdeal : Cert.ReferenceIdeal.Facts) (hDownX : Cert.DownX.Facts) (hDownXIdeal : Cert.DownXIdeal.Facts) (hDownXReferenceIdeal : Cert.DownXReferenceIdeal.Facts) (hDownW : Cert.DownW.Facts) (hDownWIdeal : Cert.DownWIdeal.Facts) (hDownWReferenceIdeal : Cert.DownWReferenceIdeal.Facts) (hUpX : Cert.UpX.Facts) (hUpXIdeal : Cert.UpXIdeal.Facts) (hUpXReferenceIdeal : Cert.UpXReferenceIdeal.Facts) (hUpW : Cert.UpW.Facts) (hUpWIdeal : Cert.UpWIdeal.Facts) (hUpWReferenceIdeal : Cert.UpWReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hInXQkv : Cert.InXQkv.Facts) (hInXQkvIdeal : Cert.InXQkvIdeal.Facts) (hInXQkvReferenceIdeal : Cert.InXQkvReferenceIdeal.Facts) (hInXZ : Cert.InXZ.Facts) (hInXZIdeal : Cert.InXZIdeal.Facts) (hInXZReferenceIdeal : Cert.InXZReferenceIdeal.Facts) (hInXXbc : Cert.InXXbc.Facts) (hInXXbcIdeal : Cert.InXXbcIdeal.Facts) (hInXXbcReferenceIdeal : Cert.InXXbcReferenceIdeal.Facts) (hInXMq : Cert.InXMq.Facts) (hInXMqIdeal : Cert.InXMqIdeal.Facts) (hInXMqReferenceIdeal : Cert.InXMqReferenceIdeal.Facts) (hInXGl : Cert.InXGl.Facts) (hInXGlIdeal : Cert.InXGlIdeal.Facts) (hInXGlReferenceIdeal : Cert.InXGlReferenceIdeal.Facts) (hInWQkv : Cert.InWQkv.Facts) (hInWQkvIdeal : Cert.InWQkvIdeal.Facts) (hInWQkvReferenceIdeal : Cert.InWQkvReferenceIdeal.Facts) (hInWZ : Cert.InWZ.Facts) (hInWZIdeal : Cert.InWZIdeal.Facts) (hInWZReferenceIdeal : Cert.InWZReferenceIdeal.Facts) (hInWXbc : Cert.InWXbc.Facts) (hInWXbcIdeal : Cert.InWXbcIdeal.Facts) (hInWXbcReferenceIdeal : Cert.InWXbcReferenceIdeal.Facts) (hInWMq : Cert.InWMq.Facts) (hInWMqIdeal : Cert.InWMqIdeal.Facts) (hInWMqReferenceIdeal : Cert.InWMqReferenceIdeal.Facts) (hInWGl : Cert.InWGl.Facts) (hInWGlIdeal : Cert.InWGlIdeal.Facts) (hInWGlReferenceIdeal : Cert.InWGlReferenceIdeal.Facts) (hInQkv : Cert.InQkv.Facts) (hInQkvIdeal : Cert.InQkvIdeal.Facts) (hInQkvReferenceIdeal : Cert.InQkvReferenceIdeal.Facts) (hInZ : Cert.InZ.Facts) (hInZIdeal : Cert.InZIdeal.Facts) (hInZReferenceIdeal : Cert.InZReferenceIdeal.Facts) (hInXbc : Cert.InXbc.Facts) (hInXbcIdeal : Cert.InXbcIdeal.Facts) (hInXbcReferenceIdeal : Cert.InXbcReferenceIdeal.Facts) (hInMq : Cert.InMq.Facts) (hInMqIdeal : Cert.InMqIdeal.Facts) (hInMqReferenceIdeal : Cert.InMqReferenceIdeal.Facts) (hInGl : Cert.InGl.Facts) (hInGlIdeal : Cert.InGlIdeal.Facts) (hInGlReferenceIdeal : Cert.InGlReferenceIdeal.Facts) (hOutX : Cert.OutX.Facts) (hOutXIdeal : Cert.OutXIdeal.Facts) (hOutXReferenceIdeal : Cert.OutXReferenceIdeal.Facts) (hOutW : Cert.OutW.Facts) (hOutWIdeal : Cert.OutWIdeal.Facts) (hOutWReferenceIdeal : Cert.OutWReferenceIdeal.Facts) (hMemOutX : Cert.MemOutX.Facts) (hMemOutXIdeal : Cert.MemOutXIdeal.Facts) (hMemOutXReferenceIdeal : Cert.MemOutXReferenceIdeal.Facts) (hSsdOutX : Cert.SsdOutX.Facts) (hSsdOutXIdeal : Cert.SsdOutXIdeal.Facts) (hSsdOutXReferenceIdeal : Cert.SsdOutXReferenceIdeal.Facts) (hSsdOutW : Cert.SsdOutW.Facts) (hSsdOutWIdeal : Cert.SsdOutWIdeal.Facts) (hSsdOutWReferenceIdeal : Cert.SsdOutWReferenceIdeal.Facts) (hOut : Cert.Out.Facts) (hOutIdeal : Cert.OutIdeal.Facts) (hOutReferenceIdeal : Cert.OutReferenceIdeal.Facts) (hSsdOut : Cert.SsdOut.Facts) (hSsdOutIdeal : Cert.SsdOutIdeal.Facts) (hSsdOutReferenceIdeal : Cert.SsdOutReferenceIdeal.Facts) (hMemKvX : Cert.MemKvX.Facts) (hMemKvXIdeal : Cert.MemKvXIdeal.Facts) (hMemKvXReferenceIdeal : Cert.MemKvXReferenceIdeal.Facts) (hMemKvW : Cert.MemKvW.Facts) (hMemKvWIdeal : Cert.MemKvWIdeal.Facts) (hMemKvWReferenceIdeal : Cert.MemKvWReferenceIdeal.Facts) (hMemKv : Cert.MemKv.Facts) (hMemKvIdeal : Cert.MemKvIdeal.Facts) (hMemKvReferenceIdeal : Cert.MemKvReferenceIdeal.Facts) (hInXDt : Cert.InXDt.Facts) (hInXDtIdeal : Cert.InXDtIdeal.Facts) (hInXDtReferenceIdeal : Cert.InXDtReferenceIdeal.Facts) (hInWDt : Cert.InWDt.Facts) (hInWDtIdeal : Cert.InWDtIdeal.Facts) (hInWDtReferenceIdeal : Cert.InWDtReferenceIdeal.Facts) (hInDt : Cert.InDt.Facts) (hInDtIdeal : Cert.InDtIdeal.Facts) (hInDtReferenceIdeal : Cert.InDtReferenceIdeal.Facts) (hMemFwd : Cert.MemFwd.Facts) (hMemFwdIdeal : Cert.MemFwdIdeal.Facts) (hMemFwdReferenceIdeal : Cert.MemFwdReferenceIdeal.Facts) (hFwd : Cert.Fwd.Facts) (hFwdIdeal : Cert.FwdIdeal.Facts) (hFwdReferenceIdeal : Cert.FwdReferenceIdeal.Facts) (hPre_finite : Cert.Pre_finite.Facts) (hPre_forward_finite : Cert.Pre_forward_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownX (hDownX := hDownX)
    ∧ quiescent_DownXIdeal (hDownXIdeal := hDownXIdeal)
    ∧ quiescent_DownXReferenceIdeal (hDownXReferenceIdeal := hDownXReferenceIdeal)
    ∧ quiescent_DownW (hDownW := hDownW)
    ∧ quiescent_DownWIdeal (hDownWIdeal := hDownWIdeal)
    ∧ quiescent_DownWReferenceIdeal (hDownWReferenceIdeal := hDownWReferenceIdeal)
    ∧ quiescent_UpX (hUpX := hUpX)
    ∧ quiescent_UpXIdeal (hUpXIdeal := hUpXIdeal)
    ∧ quiescent_UpXReferenceIdeal (hUpXReferenceIdeal := hUpXReferenceIdeal)
    ∧ quiescent_UpW (hUpW := hUpW)
    ∧ quiescent_UpWIdeal (hUpWIdeal := hUpWIdeal)
    ∧ quiescent_UpWReferenceIdeal (hUpWReferenceIdeal := hUpWReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_InXQkv (hInXQkv := hInXQkv)
    ∧ quiescent_InXQkvIdeal (hInXQkvIdeal := hInXQkvIdeal)
    ∧ quiescent_InXQkvReferenceIdeal (hInXQkvReferenceIdeal := hInXQkvReferenceIdeal)
    ∧ quiescent_InXZ (hInXZ := hInXZ)
    ∧ quiescent_InXZIdeal (hInXZIdeal := hInXZIdeal)
    ∧ quiescent_InXZReferenceIdeal (hInXZReferenceIdeal := hInXZReferenceIdeal)
    ∧ quiescent_InXXbc (hInXXbc := hInXXbc)
    ∧ quiescent_InXXbcIdeal (hInXXbcIdeal := hInXXbcIdeal)
    ∧ quiescent_InXXbcReferenceIdeal (hInXXbcReferenceIdeal := hInXXbcReferenceIdeal)
    ∧ quiescent_InXMq (hInXMq := hInXMq)
    ∧ quiescent_InXMqIdeal (hInXMqIdeal := hInXMqIdeal)
    ∧ quiescent_InXMqReferenceIdeal (hInXMqReferenceIdeal := hInXMqReferenceIdeal)
    ∧ quiescent_InXGl (hInXGl := hInXGl)
    ∧ quiescent_InXGlIdeal (hInXGlIdeal := hInXGlIdeal)
    ∧ quiescent_InXGlReferenceIdeal (hInXGlReferenceIdeal := hInXGlReferenceIdeal)
    ∧ quiescent_InWQkv (hInWQkv := hInWQkv)
    ∧ quiescent_InWQkvIdeal (hInWQkvIdeal := hInWQkvIdeal)
    ∧ quiescent_InWQkvReferenceIdeal (hInWQkvReferenceIdeal := hInWQkvReferenceIdeal)
    ∧ quiescent_InWZ (hInWZ := hInWZ)
    ∧ quiescent_InWZIdeal (hInWZIdeal := hInWZIdeal)
    ∧ quiescent_InWZReferenceIdeal (hInWZReferenceIdeal := hInWZReferenceIdeal)
    ∧ quiescent_InWXbc (hInWXbc := hInWXbc)
    ∧ quiescent_InWXbcIdeal (hInWXbcIdeal := hInWXbcIdeal)
    ∧ quiescent_InWXbcReferenceIdeal (hInWXbcReferenceIdeal := hInWXbcReferenceIdeal)
    ∧ quiescent_InWMq (hInWMq := hInWMq)
    ∧ quiescent_InWMqIdeal (hInWMqIdeal := hInWMqIdeal)
    ∧ quiescent_InWMqReferenceIdeal (hInWMqReferenceIdeal := hInWMqReferenceIdeal)
    ∧ quiescent_InWGl (hInWGl := hInWGl)
    ∧ quiescent_InWGlIdeal (hInWGlIdeal := hInWGlIdeal)
    ∧ quiescent_InWGlReferenceIdeal (hInWGlReferenceIdeal := hInWGlReferenceIdeal)
    ∧ quiescent_InQkv (hInQkv := hInQkv)
    ∧ quiescent_InQkvIdeal (hInQkvIdeal := hInQkvIdeal)
    ∧ quiescent_InQkvReferenceIdeal (hInQkvReferenceIdeal := hInQkvReferenceIdeal)
    ∧ quiescent_InZ (hInZ := hInZ)
    ∧ quiescent_InZIdeal (hInZIdeal := hInZIdeal)
    ∧ quiescent_InZReferenceIdeal (hInZReferenceIdeal := hInZReferenceIdeal)
    ∧ quiescent_InXbc (hInXbc := hInXbc)
    ∧ quiescent_InXbcIdeal (hInXbcIdeal := hInXbcIdeal)
    ∧ quiescent_InXbcReferenceIdeal (hInXbcReferenceIdeal := hInXbcReferenceIdeal)
    ∧ quiescent_InMq (hInMq := hInMq)
    ∧ quiescent_InMqIdeal (hInMqIdeal := hInMqIdeal)
    ∧ quiescent_InMqReferenceIdeal (hInMqReferenceIdeal := hInMqReferenceIdeal)
    ∧ quiescent_InGl (hInGl := hInGl)
    ∧ quiescent_InGlIdeal (hInGlIdeal := hInGlIdeal)
    ∧ quiescent_InGlReferenceIdeal (hInGlReferenceIdeal := hInGlReferenceIdeal)
    ∧ quiescent_OutX (hOutX := hOutX)
    ∧ quiescent_OutXIdeal (hOutXIdeal := hOutXIdeal)
    ∧ quiescent_OutXReferenceIdeal (hOutXReferenceIdeal := hOutXReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_MemOutX (hMemOutX := hMemOutX)
    ∧ quiescent_MemOutXIdeal (hMemOutXIdeal := hMemOutXIdeal)
    ∧ quiescent_MemOutXReferenceIdeal (hMemOutXReferenceIdeal := hMemOutXReferenceIdeal)
    ∧ quiescent_SsdOutX (hSsdOutX := hSsdOutX)
    ∧ quiescent_SsdOutXIdeal (hSsdOutXIdeal := hSsdOutXIdeal)
    ∧ quiescent_SsdOutXReferenceIdeal (hSsdOutXReferenceIdeal := hSsdOutXReferenceIdeal)
    ∧ quiescent_SsdOutW (hSsdOutW := hSsdOutW)
    ∧ quiescent_SsdOutWIdeal (hSsdOutWIdeal := hSsdOutWIdeal)
    ∧ quiescent_SsdOutWReferenceIdeal (hSsdOutWReferenceIdeal := hSsdOutWReferenceIdeal)
    ∧ quiescent_Out (hOut := hOut)
    ∧ quiescent_OutIdeal (hOutIdeal := hOutIdeal)
    ∧ quiescent_OutReferenceIdeal (hOutReferenceIdeal := hOutReferenceIdeal)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_MemKvX (hMemKvX := hMemKvX)
    ∧ quiescent_MemKvXIdeal (hMemKvXIdeal := hMemKvXIdeal)
    ∧ quiescent_MemKvXReferenceIdeal (hMemKvXReferenceIdeal := hMemKvXReferenceIdeal)
    ∧ quiescent_MemKvW (hMemKvW := hMemKvW)
    ∧ quiescent_MemKvWIdeal (hMemKvWIdeal := hMemKvWIdeal)
    ∧ quiescent_MemKvWReferenceIdeal (hMemKvWReferenceIdeal := hMemKvWReferenceIdeal)
    ∧ quiescent_MemKv (hMemKv := hMemKv)
    ∧ quiescent_MemKvIdeal (hMemKvIdeal := hMemKvIdeal)
    ∧ quiescent_MemKvReferenceIdeal (hMemKvReferenceIdeal := hMemKvReferenceIdeal)
    ∧ quiescent_InXDt (hInXDt := hInXDt)
    ∧ quiescent_InXDtIdeal (hInXDtIdeal := hInXDtIdeal)
    ∧ quiescent_InXDtReferenceIdeal (hInXDtReferenceIdeal := hInXDtReferenceIdeal)
    ∧ quiescent_InWDt (hInWDt := hInWDt)
    ∧ quiescent_InWDtIdeal (hInWDtIdeal := hInWDtIdeal)
    ∧ quiescent_InWDtReferenceIdeal (hInWDtReferenceIdeal := hInWDtReferenceIdeal)
    ∧ quiescent_InDt (hInDt := hInDt)
    ∧ quiescent_InDtIdeal (hInDtIdeal := hInDtIdeal)
    ∧ quiescent_InDtReferenceIdeal (hInDtReferenceIdeal := hInDtReferenceIdeal)
    ∧ quiescent_MemFwd (hMemFwd := hMemFwd)
    ∧ quiescent_MemFwdIdeal (hMemFwdIdeal := hMemFwdIdeal)
    ∧ quiescent_MemFwdReferenceIdeal (hMemFwdReferenceIdeal := hMemFwdReferenceIdeal)
    ∧ quiescent_Fwd (hFwd := hFwd)
    ∧ quiescent_FwdIdeal (hFwdIdeal := hFwdIdeal)
    ∧ quiescent_FwdIdeal_pre_forward_finite (hFwdIdeal := hFwdIdeal) (hPre_forward_finite := hPre_forward_finite)
    ∧ quiescent_FwdReferenceIdeal (hFwdReferenceIdeal := hFwdReferenceIdeal)
    ∧ quiescent_FwdReferenceIdeal_pre_forward_finite (hFwdReferenceIdeal := hFwdReferenceIdeal) (hPre_forward_finite := hPre_forward_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_DownX_DownXIdeal
    ∧ algebraic_DownXIdeal_DownXReferenceIdeal (hDownXIdeal := hDownXIdeal) (hDownXReferenceIdeal := hDownXReferenceIdeal)
    ∧ preserves_DownW_DownWIdeal
    ∧ algebraic_DownWIdeal_DownWReferenceIdeal (hDownWIdeal := hDownWIdeal) (hDownWReferenceIdeal := hDownWReferenceIdeal)
    ∧ preserves_UpX_UpXIdeal
    ∧ algebraic_UpXIdeal_UpXReferenceIdeal (hUpXIdeal := hUpXIdeal) (hUpXReferenceIdeal := hUpXReferenceIdeal)
    ∧ preserves_UpW_UpWIdeal
    ∧ algebraic_UpWIdeal_UpWReferenceIdeal (hUpWIdeal := hUpWIdeal) (hUpWReferenceIdeal := hUpWReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_InXQkv_InXQkvIdeal
    ∧ algebraic_InXQkvIdeal_InXQkvReferenceIdeal (hInXQkvIdeal := hInXQkvIdeal) (hInXQkvReferenceIdeal := hInXQkvReferenceIdeal)
    ∧ preserves_InXZ_InXZIdeal
    ∧ algebraic_InXZIdeal_InXZReferenceIdeal (hInXZIdeal := hInXZIdeal) (hInXZReferenceIdeal := hInXZReferenceIdeal)
    ∧ preserves_InXXbc_InXXbcIdeal
    ∧ algebraic_InXXbcIdeal_InXXbcReferenceIdeal (hInXXbcIdeal := hInXXbcIdeal) (hInXXbcReferenceIdeal := hInXXbcReferenceIdeal)
    ∧ preserves_InXMq_InXMqIdeal
    ∧ algebraic_InXMqIdeal_InXMqReferenceIdeal (hInXMqIdeal := hInXMqIdeal) (hInXMqReferenceIdeal := hInXMqReferenceIdeal)
    ∧ preserves_InXGl_InXGlIdeal
    ∧ algebraic_InXGlIdeal_InXGlReferenceIdeal (hInXGlIdeal := hInXGlIdeal) (hInXGlReferenceIdeal := hInXGlReferenceIdeal)
    ∧ preserves_InWQkv_InWQkvIdeal
    ∧ algebraic_InWQkvIdeal_InWQkvReferenceIdeal (hInWQkvIdeal := hInWQkvIdeal) (hInWQkvReferenceIdeal := hInWQkvReferenceIdeal)
    ∧ preserves_InWZ_InWZIdeal
    ∧ algebraic_InWZIdeal_InWZReferenceIdeal (hInWZIdeal := hInWZIdeal) (hInWZReferenceIdeal := hInWZReferenceIdeal)
    ∧ preserves_InWXbc_InWXbcIdeal
    ∧ algebraic_InWXbcIdeal_InWXbcReferenceIdeal (hInWXbcIdeal := hInWXbcIdeal) (hInWXbcReferenceIdeal := hInWXbcReferenceIdeal)
    ∧ preserves_InWMq_InWMqIdeal
    ∧ algebraic_InWMqIdeal_InWMqReferenceIdeal (hInWMqIdeal := hInWMqIdeal) (hInWMqReferenceIdeal := hInWMqReferenceIdeal)
    ∧ preserves_InWGl_InWGlIdeal
    ∧ algebraic_InWGlIdeal_InWGlReferenceIdeal (hInWGlIdeal := hInWGlIdeal) (hInWGlReferenceIdeal := hInWGlReferenceIdeal)
    ∧ preserves_InQkv_InQkvIdeal
    ∧ algebraic_InQkvIdeal_InQkvReferenceIdeal (hInQkvIdeal := hInQkvIdeal) (hInQkvReferenceIdeal := hInQkvReferenceIdeal)
    ∧ preserves_InZ_InZIdeal
    ∧ algebraic_InZIdeal_InZReferenceIdeal (hInZIdeal := hInZIdeal) (hInZReferenceIdeal := hInZReferenceIdeal)
    ∧ preserves_InXbc_InXbcIdeal
    ∧ algebraic_InXbcIdeal_InXbcReferenceIdeal (hInXbcIdeal := hInXbcIdeal) (hInXbcReferenceIdeal := hInXbcReferenceIdeal)
    ∧ preserves_InMq_InMqIdeal
    ∧ algebraic_InMqIdeal_InMqReferenceIdeal (hInMqIdeal := hInMqIdeal) (hInMqReferenceIdeal := hInMqReferenceIdeal)
    ∧ preserves_InGl_InGlIdeal
    ∧ algebraic_InGlIdeal_InGlReferenceIdeal (hInGlIdeal := hInGlIdeal) (hInGlReferenceIdeal := hInGlReferenceIdeal)
    ∧ preserves_OutX_OutXIdeal
    ∧ algebraic_OutXIdeal_OutXReferenceIdeal (hOutXIdeal := hOutXIdeal) (hOutXReferenceIdeal := hOutXReferenceIdeal)
    ∧ preserves_OutW_OutWIdeal
    ∧ algebraic_OutWIdeal_OutWReferenceIdeal (hOutWIdeal := hOutWIdeal) (hOutWReferenceIdeal := hOutWReferenceIdeal)
    ∧ preserves_MemOutX_MemOutXIdeal
    ∧ algebraic_MemOutXIdeal_MemOutXReferenceIdeal (hMemOutXIdeal := hMemOutXIdeal) (hMemOutXReferenceIdeal := hMemOutXReferenceIdeal)
    ∧ preserves_SsdOutX_SsdOutXIdeal
    ∧ algebraic_SsdOutXIdeal_SsdOutXReferenceIdeal (hSsdOutXIdeal := hSsdOutXIdeal) (hSsdOutXReferenceIdeal := hSsdOutXReferenceIdeal)
    ∧ preserves_SsdOutW_SsdOutWIdeal
    ∧ algebraic_SsdOutWIdeal_SsdOutWReferenceIdeal (hSsdOutWIdeal := hSsdOutWIdeal) (hSsdOutWReferenceIdeal := hSsdOutWReferenceIdeal)
    ∧ preserves_Out_OutIdeal
    ∧ algebraic_OutIdeal_OutReferenceIdeal (hOutIdeal := hOutIdeal) (hOutReferenceIdeal := hOutReferenceIdeal)
    ∧ preserves_SsdOut_SsdOutIdeal
    ∧ algebraic_SsdOutIdeal_SsdOutReferenceIdeal (hSsdOutIdeal := hSsdOutIdeal) (hSsdOutReferenceIdeal := hSsdOutReferenceIdeal)
    ∧ preserves_MemKvX_MemKvXIdeal
    ∧ algebraic_MemKvXIdeal_MemKvXReferenceIdeal (hMemKvXIdeal := hMemKvXIdeal) (hMemKvXReferenceIdeal := hMemKvXReferenceIdeal)
    ∧ preserves_MemKvW_MemKvWIdeal
    ∧ algebraic_MemKvWIdeal_MemKvWReferenceIdeal (hMemKvWIdeal := hMemKvWIdeal) (hMemKvWReferenceIdeal := hMemKvWReferenceIdeal)
    ∧ preserves_MemKv_MemKvIdeal
    ∧ algebraic_MemKvIdeal_MemKvReferenceIdeal (hMemKvIdeal := hMemKvIdeal) (hMemKvReferenceIdeal := hMemKvReferenceIdeal)
    ∧ preserves_InXDt_InXDtIdeal
    ∧ algebraic_InXDtIdeal_InXDtReferenceIdeal (hInXDtIdeal := hInXDtIdeal) (hInXDtReferenceIdeal := hInXDtReferenceIdeal)
    ∧ preserves_InWDt_InWDtIdeal
    ∧ algebraic_InWDtIdeal_InWDtReferenceIdeal (hInWDtIdeal := hInWDtIdeal) (hInWDtReferenceIdeal := hInWDtReferenceIdeal)
    ∧ preserves_InDt_InDtIdeal
    ∧ algebraic_InDtIdeal_InDtReferenceIdeal (hInDtIdeal := hInDtIdeal) (hInDtReferenceIdeal := hInDtReferenceIdeal)
    ∧ preserves_MemFwd_MemFwdIdeal
    ∧ algebraic_MemFwdIdeal_MemFwdReferenceIdeal (hMemFwdIdeal := hMemFwdIdeal) (hMemFwdReferenceIdeal := hMemFwdReferenceIdeal)
    ∧ preserves_Fwd_FwdIdeal
    ∧ algebraic_FwdIdeal_FwdReferenceIdeal_pre_forward_finite (hFwdIdeal := hFwdIdeal) (hFwdReferenceIdeal := hFwdReferenceIdeal) (hPre_forward_finite := hPre_forward_finite)
-- ==== Pre_finite.lean ====
abbrev S4096x3072 : Shape := ⟨2, ![4096, 3072]⟩
abbrev S4096x1024 : Shape := ⟨2, ![4096, 1024]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .bf16) (main_arg1 : FVec F S4096x1024 .f32) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v4 main_v8
  main_v9
-- ==== Pre_forward_finite.lean ====
abbrev S4096x3072 : Shape := ⟨2, ![4096, 3072]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  reducesTo_S4096x3072_S_d0_1 : S4096x3072.ReducesTo [0, 1] S_
  h_S_ : 0 < S_.numel

variable [Facts]

def fn {F : FTy → Type} [FloatOps F] (main_arg0 : FVec F S4096x3072 .bf16) : IVec S_ 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_c : IVec S_ 1 := constantI S_ 1 1#1
  let main_v4 : IVec S_ 1 := (fun x v => Host.reduce IntOp.andi x v reducesTo_S4096x3072_S_d0_1 h_S_) main_v3 main_c
  main_v4
-- ==== Kernel.lean ====
abbrev S4096x3072 : Shape := ⟨2, ![4096, 3072]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S2048x128 : Shape := ⟨2, ![2048, 128]⟩
abbrev S4096x128 : Shape := ⟨2, ![4096, 128]⟩
abbrev S2x2048x1 : Shape := ⟨3, ![2, 2048, 1]⟩
abbrev S1x128 : Shape := ⟨2, ![1, 128]⟩
abbrev S256x256 : Shape := ⟨2, ![256, 256]⟩
abbrev S1x2048x1 : Shape := ⟨3, ![1, 2048, 1]⟩
abbrev S2048x1 : Shape := ⟨2, ![2048, 1]⟩
abbrev S256x128 : Shape := ⟨2, ![256, 128]⟩
abbrev S2048x256 : Shape := ⟨2, ![2048, 256]⟩
abbrev S2048 : Shape := ⟨1, ![2048]⟩
abbrev S1792x1 : Shape := ⟨2, ![1792, 1]⟩
abbrev S1792x128 : Shape := ⟨2, ![1792, 128]⟩
abbrev S1792x256 : Shape := ⟨2, ![1792, 256]⟩
abbrev S1792 : Shape := ⟨1, ![1792]⟩
abbrev S256x1 : Shape := ⟨2, ![256, 1]⟩
abbrev S1536x1 : Shape := ⟨2, ![1536, 1]⟩
abbrev S1536x128 : Shape := ⟨2, ![1536, 128]⟩
abbrev S1536x256 : Shape := ⟨2, ![1536, 256]⟩
abbrev S1536 : Shape := ⟨1, ![1536]⟩
abbrev S512x1 : Shape := ⟨2, ![512, 1]⟩
abbrev S512x128 : Shape := ⟨2, ![512, 128]⟩
abbrev S1280x1 : Shape := ⟨2, ![1280, 1]⟩
abbrev S1280x128 : Shape := ⟨2, ![1280, 128]⟩
abbrev S1280x256 : Shape := ⟨2, ![1280, 256]⟩
abbrev S1280 : Shape := ⟨1, ![1280]⟩
abbrev S768x1 : Shape := ⟨2, ![768, 1]⟩
abbrev S768x128 : Shape := ⟨2, ![768, 128]⟩
abbrev S1024x1 : Shape := ⟨2, ![1024, 1]⟩
abbrev S1024x128 : Shape := ⟨2, ![1024, 128]⟩
abbrev S1024x256 : Shape := ⟨2, ![1024, 256]⟩
abbrev S1024 : Shape := ⟨1, ![1024]⟩
abbrev S768x256 : Shape := ⟨2, ![768, 256]⟩
abbrev S768 : Shape := ⟨1, ![768]⟩
abbrev S512x256 : Shape := ⟨2, ![512, 256]⟩
abbrev S512 : Shape := ⟨1, ![512]⟩

abbrev nBuf : Space → Nat
  | .hbm => 49
  | .vmem => 16
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .f32⟩
  | .hbm, ⟨2, _⟩ => ⟨S4096x3072, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x16x64, .f32⟩
  | .hbm, ⟨7, _⟩ => ⟨S16x4096x64, .f32⟩
  | .hbm, ⟨8, _⟩ => ⟨S4096x16x64, .f32⟩
  | .hbm, ⟨9, _⟩ => ⟨S16x4096x64, .f32⟩
  | .hbm, ⟨10, _⟩ => ⟨S16x4096x4096, .f32⟩
  | .hbm, ⟨11, _⟩ => ⟨S_, .f32⟩
  | .hbm, ⟨12, _⟩ => ⟨S16x4096x4096, .f32⟩
  | .hbm, ⟨13, _⟩ => ⟨S16x4096x4096, .f32⟩
  | .hbm, ⟨14, _⟩ => ⟨S4096, .i32⟩
  | .hbm, ⟨15, _⟩ => ⟨S1x4096, .i32⟩
  | .hbm, ⟨16, _⟩ => ⟨S4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S16x4096x4096, .f32⟩
  | .hbm, ⟨22, _⟩ => ⟨S16x4096x4096, .f32⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S_, .f32⟩
  | .hbm, ⟨40, _⟩ => ⟨S16x4096x4096, .i1⟩
  | .hbm, ⟨41, _⟩ => ⟨S16x4096x4096, .f32⟩
  | .hbm, ⟨42, _⟩ => ⟨S16x4096x4096, .f32⟩
  | .hbm, ⟨43, _⟩ => ⟨S_, .f32⟩
  | .hbm, ⟨44, _⟩ => ⟨S16x4096, .f32⟩
  | .hbm, ⟨45, _⟩ => ⟨S16x4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2x2048x1, .f32⟩
  | .local _ .vmem, ⟨7, _⟩ => ⟨S2x2048x1, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v19 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_cst_1 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_5 : BitVec 32 := 0#32
  let c2_i32 : BitVec 32 := 2#32
  let v26 : BitVec 32 := Scalar.addi c0_i32_5 c2_i32
  let c1_i32 : BitVec 32 := 1#32
  ⟨c0_i32_5, v26, c1_i32⟩
def k0_off1 (k0_t1 : Fin k0_t1_loop.trips) : Fin 3 → Nat :=
  let c0_i32_5 : BitVec 32 := 0#32
  let c1_i32 : BitVec 32 := 1#32
  let arg10 : BitVec 32 := Scf.iv c0_i32_5 c1_i32 k0_t1
  let v41 : Index := Scalar.indexCast arg10
  let c0_12 : Index := 0#32
  let c0_13 : Index := 0#32
  ![v41.toNat, 0, 0]
@[reducible] def k0_t2_loop (i : grid0.Coords) : Scf.Loop 32 :=
  let c0_i32_23 : BitVec 32 := 0#32
  let arg1 : BitVec 32 := BitVec.ofNat 32 (i 1).val
  let c2048_i32 : BitVec 32 := 2048#32
  let v3 : BitVec 32 := Scalar.muli arg1 c2048_i32
  let c0_i32_17 : BitVec 32 := 0#32
  let v48 : BitVec 1 := Scalar.cmpi .sgt v3 c0_i32_17
  let v49 : BitVec 32 := Scalar.extui v48
  let c0_i32_18 : BitVec 32 := 0#32
  let v50 : BitVec 1 := Scalar.cmpi .slt v3 c0_i32_18
  let v51 : BitVec 32 := Scalar.extui v50
  let v52 : BitVec 32 := Scalar.subi v49 v51
  let c256_i32 : BitVec 32 := 256#32
  let c0_i32_19 : BitVec 32 := 0#32
  let v53 : BitVec 1 := Scalar.cmpi .sgt c256_i32 c0_i32_19
  let v54 : BitVec 32 := Scalar.extui v53
  let c0_i32_20 : BitVec 32 := 0#32
  let v55 : BitVec 1 := Scalar.cmpi .slt c256_i32 c0_i32_20
  let v56 : BitVec 32 := Scalar.extui v55
  let v57 : BitVec 32 := Scalar.subi v54 v56
  let v58 : BitVec 1 := Scalar.cmpi .ne v52 v57
  let v59 : BitVec 32 := Scalar.remsi v3 c256_i32
  let c0_i32_21 : BitVec 32 := 0#32
  let v60 : BitVec 1 := Scalar.cmpi .ne v59 c0_i32_21
  let v61 : BitVec 1 := Scalar.andi v58 v60
  let v47 : BitVec 32 := Scalar.divsi v3 c256_i32
  let c1_i32_22 : BitVec 32 := 1#32
  let v62 : BitVec 32 := Scalar.subi v47 c1_i32_22
  let v63 : BitVec 32 := Scalar.select v61 v62 v47
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_25 : BitVec 32 := 1#32
  ⟨c0_i32_23, v68, c1_i32_25⟩
def k0_mult1 (i : grid0.Coords) (k0_t2 : Fin (k0_t2_loop i).trips) : BitVec 32 :=
  let c0_i32_23 : BitVec 32 := 0#32
  let c1_i32_25 : BitVec 32 := 1#32
  let arg12 : BitVec 32 := Scf.iv c0_i32_23 c1_i32_25 k0_t2
  let c256_i32_227 : BitVec 32 := 256#32
  let v840 : BitVec 32 := Scalar.muli arg12 c256_i32_227
  v840
def k0_off2 (i : grid0.Coords) (k0_t2 : Fin (k0_t2_loop i).trips) : Fin 2 → Nat :=
  let c0_i32_23 : BitVec 32 := 0#32
  let c1_i32_25 : BitVec 32 := 1#32
  let arg12 : BitVec 32 := Scf.iv c0_i32_23 c1_i32_25 k0_t2
  let c256_i32_227 : BitVec 32 := 256#32
  let v840 : BitVec 32 := Scalar.muli arg12 c256_i32_227
  let v841 : BitVec 32 := v840
  let v842 : Index := Scalar.indexCast v841
  let c0_228 : Index := 0#32
  ![v842.toNat, 0]
@[reducible] def k0_t3_loop (i : grid0.Coords) : Scf.Loop 32 :=
  let c0_i32_23 : BitVec 32 := 0#32
  let arg1 : BitVec 32 := BitVec.ofNat 32 (i 1).val
  let c2048_i32 : BitVec 32 := 2048#32
  let v3 : BitVec 32 := Scalar.muli arg1 c2048_i32
  let c0_i32_17 : BitVec 32 := 0#32
  let v48 : BitVec 1 := Scalar.cmpi .sgt v3 c0_i32_17
  let v49 : BitVec 32 := Scalar.extui v48
  let c0_i32_18 : BitVec 32 := 0#32
  let v50 : BitVec 1 := Scalar.cmpi .slt v3 c0_i32_18
  let v51 : BitVec 32 := Scalar.extui v50
  let v52 : BitVec 32 := Scalar.subi v49 v51
  let c256_i32 : BitVec 32 := 256#32
  let c0_i32_19 : BitVec 32 := 0#32
  let v53 : BitVec 1 := Scalar.cmpi .sgt c256_i32 c0_i32_19
  let v54 : BitVec 32 := Scalar.extui v53
  let c0_i32_20 : BitVec 32 := 0#32
  let v55 : BitVec 1 := Scalar.cmpi .slt c256_i32 c0_i32_20
  let v56 : BitVec 32 := Scalar.extui v55
  let v57 : BitVec 32 := Scalar.subi v54 v56
  let v58 : BitVec 1 := Scalar.cmpi .ne v52 v57
  let v59 : BitVec 32 := Scalar.remsi v3 c256_i32
  let c0_i32_21 : BitVec 32 := 0#32
  let v60 : BitVec 1 := Scalar.cmpi .ne v59 c0_i32_21
  let v61 : BitVec 1 := Scalar.andi v58 v60
  let v47 : BitVec 32 := Scalar.divsi v3 c256_i32
  let c1_i32_22 : BitVec 32 := 1#32
  let v62 : BitVec 32 := Scalar.subi v47 c1_i32_22
  let v63 : BitVec 32 := Scalar.select v61 v62 v47
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let v65 : BitVec 32 := Scalar.addi c0_i32_23 v64
  let c1_i32_26 : BitVec 32 := 1#32
  ⟨v68, v65, c1_i32_26⟩
def k0_mult2 (i : grid0.Coords) (k0_t3 : Fin (k0_t3_loop i).trips) : BitVec 32 :=
  let c0_i32_23 : BitVec 32 := 0#32
  let arg1 : BitVec 32 := BitVec.ofNat 32 (i 1).val
  let c2048_i32 : BitVec 32 := 2048#32
  let v3 : BitVec 32 := Scalar.muli arg1 c2048_i32
  let c0_i32_17 : BitVec 32 := 0#32
  let v48 : BitVec 1 := Scalar.cmpi .sgt v3 c0_i32_17
  let v49 : BitVec 32 := Scalar.extui v48
  let c0_i32_18 : BitVec 32 := 0#32
  let v50 : BitVec 1 := Scalar.cmpi .slt v3 c0_i32_18
  let v51 : BitVec 32 := Scalar.extui v50
  let v52 : BitVec 32 := Scalar.subi v49 v51
  let c256_i32 : BitVec 32 := 256#32
  let c0_i32_19 : BitVec 32 := 0#32
  let v53 : BitVec 1 := Scalar.cmpi .sgt c256_i32 c0_i32_19
  let v54 : BitVec 32 := Scalar.extui v53
  let c0_i32_20 : BitVec 32 := 0#32
  let v55 : BitVec 1 := Scalar.cmpi .slt c256_i32 c0_i32_20
  let v56 : BitVec 32 := Scalar.extui v55
  let v57 : BitVec 32 := Scalar.subi v54 v56
  let v58 : BitVec 1 := Scalar.cmpi .ne v52 v57
  let v59 : BitVec 32 := Scalar.remsi v3 c256_i32
  let c0_i32_21 : BitVec 32 := 0#32
  let v60 : BitVec 1 := Scalar.cmpi .ne v59 c0_i32_21
  let v61 : BitVec 1 := Scalar.andi v58 v60
  let v47 : BitVec 32 := Scalar.divsi v3 c256_i32
  let c1_i32_22 : BitVec 32 := 1#32
  let v62 : BitVec 32 := Scalar.subi v47 c1_i32_22
  let v63 : BitVec 32 := Scalar.select v61 v62 v47
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg12 : BitVec 32 := Scf.iv v68 c1_i32_26 k0_t3
  let c256_i32_227 : BitVec 32 := 256#32
  let v840 : BitVec 32 := Scalar.muli arg12 c256_i32_227
  v840
def k0_off3 (i : grid0.Coords) (k0_t3 : Fin (k0_t3_loop i).trips) : Fin 2 → Nat :=
  let c0_i32_23 : BitVec 32 := 0#32
  let arg1 : BitVec 32 := BitVec.ofNat 32 (i 1).val
  let c2048_i32 : BitVec 32 := 2048#32
  let v3 : BitVec 32 := Scalar.muli arg1 c2048_i32
  let c0_i32_17 : BitVec 32 := 0#32
  let v48 : BitVec 1 := Scalar.cmpi .sgt v3 c0_i32_17
  let v49 : BitVec 32 := Scalar.extui v48
  let c0_i32_18 : BitVec 32 := 0#32
  let v50 : BitVec 1 := Scalar.cmpi .slt v3 c0_i32_18
  let v51 : BitVec 32 := Scalar.extui v50
  let v52 : BitVec 32 := Scalar.subi v49 v51
  let c256_i32 : BitVec 32 := 256#32
  let c0_i32_19 : BitVec 32 := 0#32
  let v53 : BitVec 1 := Scalar.cmpi .sgt c256_i32 c0_i32_19
  let v54 : BitVec 32 := Scalar.extui v53
  let c0_i32_20 : BitVec 32 := 0#32
  let v55 : BitVec 1 := Scalar.cmpi .slt c256_i32 c0_i32_20
  let v56 : BitVec 32 := Scalar.extui v55
  let v57 : BitVec 32 := Scalar.subi v54 v56
  let v58 : BitVec 1 := Scalar.cmpi .ne v52 v57
  let v59 : BitVec 32 := Scalar.remsi v3 c256_i32
  let c0_i32_21 : BitVec 32 := 0#32
  let v60 : BitVec 1 := Scalar.cmpi .ne v59 c0_i32_21
  let v61 : BitVec 1 := Scalar.andi v58 v60
  let v47 : BitVec 32 := Scalar.divsi v3 c256_i32
  let c1_i32_22 : BitVec 32 := 1#32
  let v62 : BitVec 32 := Scalar.subi v47 c1_i32_22
  let v63 : BitVec 32 := Scalar.select v61 v62 v47
  let v64 : BitVec 32 := Scalar.subi v63 c0_i32_23
  let c1_i32_24 : BitVec 32 := 1#32
  let v66 : BitVec 32 := Scalar.divsi v64 c1_i32_24
  let v67 : BitVec 32 := Scalar.muli v66 c1_i32_24
  let v68 : BitVec 32 := Scalar.addi c0_i32_23 v67
  let c1_i32_26 : BitVec 32 := 1#32
  let arg12 : BitVec 32 := Scf.iv v68 c1_i32_26 k0_t3
  let c256_i32_227 : BitVec 32 := 256#32
  let v840 : BitVec 32 := Scalar.muli arg12 c256_i32_227
  let v841 : BitVec 32 := v840
  let v842 : Index := Scalar.indexCast v841
  let c0_228 : Index := 0#32
  ![v842.toNat, 0]
def k0_mult3 (i : grid0.Coords) : BitVec 32 :=
  let arg1 : BitVec 32 := BitVec.ofNat 32 (i 1).val
  let c2048_i32 : BitVec 32 := 2048#32
  let v3 : BitVec 32 := Scalar.muli arg1 c2048_i32
  let c0_i32_27 : BitVec 32 := 0#32
  let v71 : BitVec 32 := Scalar.addi v3 c0_i32_27
  v71
def k0_off4 (i : grid0.Coords) (c0_i32_27 : BitVec 32) : Fin 2 → Nat :=
  let arg1 : BitVec 32 := BitVec.ofNat 32 (i 1).val
  let c2048_i32 : BitVec 32 := 2048#32
  let v3 : BitVec 32 := Scalar.muli arg1 c2048_i32
  let v71 : BitVec 32 := Scalar.addi v3 c0_i32_27
  let v72 : BitVec 32 := v71
  let v73 : Index := Scalar.indexCast v72
  let c0_28 : Index := 0#32
  ![v73.toNat, 0]
def k0_mult4 (i : grid0.Coords) : BitVec 32 :=
  let arg1 : BitVec 32 := BitVec.ofNat 32 (i 1).val
  let c2048_i32 : BitVec 32 := 2048#32
  let v3 : BitVec 32 := Scalar.muli arg1 c2048_i32
  let c256_i32_53 : BitVec 32 := 256#32
  let v156 : BitVec 32 := Scalar.addi v3 c256_i32_53
  v156
def k0_mult5 (i : grid0.Coords) : BitVec 32 :=
  let arg1 : BitVec 32 := BitVec.ofNat 32 (i 1).val
  let c2048_i32 : BitVec 32 := 2048#32
  let v3 : BitVec 32 := Scalar.muli arg1 c2048_i32
  let c512_i32 : BitVec 32 := 512#32
  let v255 : BitVec 32 := Scalar.addi v3 c512_i32
  v255
def k0_mult6 (i : grid0.Coords) : BitVec 32 :=
  let arg1 : BitVec 32 := BitVec.ofNat 32 (i 1).val
  let c2048_i32 : BitVec 32 := 2048#32
  let v3 : BitVec 32 := Scalar.muli arg1 c2048_i32
  let c768_i32 : BitVec 32 := 768#32
  let v354 : BitVec 32 := Scalar.addi v3 c768_i32
  v354
def k0_mult7 (i : grid0.Coords) : BitVec 32 :=
  let arg1 : BitVec 32 := BitVec.ofNat 32 (i 1).val
  let c2048_i32 : BitVec 32 := 2048#32
  let v3 : BitVec 32 := Scalar.muli arg1 c2048_i32
  let c1024_i32 : BitVec 32 := 1024#32
  let v453 : BitVec 32 := Scalar.addi v3 c1024_i32
  v453
def k0_mult8 (i : grid0.Coords) : BitVec 32 :=
  let arg1 : BitVec 32 := BitVec.ofNat 32 (i 1).val
  let c2048_i32 : BitVec 32 := 2048#32
  let v3 : BitVec 32 := Scalar.muli arg1 c2048_i32
  let c1280_i32 : BitVec 32 := 1280#32
  let v552 : BitVec 32 := Scalar.addi v3 c1280_i32
  v552
def k0_mult9 (i : grid0.Coords) : BitVec 32 :=
  let arg1 : BitVec 32 := BitVec.ofNat 32 (i 1).val
  let c2048_i32 : BitVec 32 := 2048#32
  let v3 : BitVec 32 := Scalar.muli arg1 c2048_i32
  let c1536_i32 : BitVec 32 := 1536#32
  let v651 : BitVec 32 := Scalar.addi v3 c1536_i32
  v651
def k0_mult10 (i : grid0.Coords) : BitVec 32 :=
  let arg1 : BitVec 32 := BitVec.ofNat 32 (i 1).val
  let c2048_i32 : BitVec 32 := 2048#32
  let v3 : BitVec 32 := Scalar.muli arg1 c2048_i32
  let c1792_i32 : BitVec 32 := 1792#32
  let v750 : BitVec 32 := Scalar.addi v3 c1792_i32
  v750
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x3072 : Shape := ⟨2, ![4096, 3072]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 179
  | .vmem => 0
  | .smem => 0
  | _ => 0

abbrev hbmTy0_0 (i : Nat) : BufTy := match i % 128 with
  | 0 => ⟨S4096x3072, .bf16⟩
  | 1 => ⟨S4096x1024, .f32⟩
  | 2 => ⟨S4096x3072, .f32⟩
  | 3 => ⟨S4096x1024, .f32⟩
  | 4 => ⟨S4096x1024, .f32⟩
  | 5 => ⟨S4096x1024, .f32⟩
  | 6 => ⟨S4096x16x64, .f32⟩
  | 7 => ⟨S16x4096x64, .f32⟩
  | 8 => ⟨S4096x16x64, .f32⟩
  | 9 => ⟨S16x4096x64, .f32⟩
  | 10 => ⟨S4096x16x64, .f32⟩
  | 11 => ⟨S16x4096x64, .f32⟩
  | 12 => ⟨S16x4096x4096, .f32⟩
  | 13 => ⟨S_, .f32⟩
  | 14 => ⟨S16x4096x4096, .f32⟩
  | 15 => ⟨S16x4096x4096, .f32⟩
  | 16 => ⟨S4096, .i32⟩
  | 17 => ⟨S1x4096, .i32⟩
  | 18 => ⟨S4096, .i32⟩
  | 19 => ⟨S4096x1, .i32⟩
  | 20 => ⟨S4096x4096, .i32⟩
  | 21 => ⟨S4096x4096, .i32⟩
  | 22 => ⟨S4096x4096, .i1⟩
  | 23 => ⟨S16x4096x4096, .f32⟩
  | 24 => ⟨S_, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .i1⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .i1⟩
  | 41 => ⟨S_, .f32⟩
  | 42 => ⟨S16x4096x4096, .f32⟩
  | 43 => ⟨S16x4096x4096, .f32⟩
  | 44 => ⟨S_, .f32⟩
  | 45 => ⟨S16x4096x4096, .f32⟩
  | 46 => ⟨S16x4096x4096, .i1⟩
  | 47 => ⟨S_, .f32⟩
  | 48 => ⟨S16x4096x4096, .f32⟩
  | 49 => ⟨S16x4096x4096, .f32⟩
  | 50 => ⟨S16x4096x4096, .f32⟩
  | 51 => ⟨S16x4096x4096, .f32⟩
  | 52 => ⟨S_, .f32⟩
  | 53 => ⟨S_, .f32⟩
  | 54 => ⟨S_, .i1⟩
  | 55 => ⟨S_, .f32⟩
  | 56 => ⟨S_, .f32⟩
  | 57 => ⟨S_, .f32⟩
  | 58 => ⟨S_, .f32⟩
  | 59 => ⟨S16x4096x4096, .f32⟩
  | 60 => ⟨S16x4096x4096, .i1⟩
  | 61 => ⟨S_, .f32⟩
  | 62 => ⟨S16x4096x4096, .f32⟩
  | 63 => ⟨S16x4096x4096, .f32⟩
  | 64 => ⟨S16x4096x4096, .f32⟩
  | 65 => ⟨S16x4096x4096, .f32⟩
  | 66 => ⟨S16x4096x4096, .f32⟩
  | 67 => ⟨S_, .f32⟩
  | 68 => ⟨S16x4096x4096, .f32⟩
  | 69 => ⟨S16x4096x4096, .f32⟩
  | 70 => ⟨S16x4096x4096, .f32⟩
  | 71 => ⟨S16x4096x4096, .f32⟩
  | 72 => ⟨S16x4096x4096, .f32⟩
  | 73 => ⟨S_, .f32⟩
  | 74 => ⟨S16x4096x4096, .f32⟩
  | 75 => ⟨S16x4096x4096, .f32⟩
  | 76 => ⟨S16x4096x4096, .f32⟩
  | 77 => ⟨S16x4096x4096, .f32⟩
  | 78 => ⟨S16x4096x4096, .i1⟩
  | 79 => ⟨S16x4096x4096, .f32⟩
  | 80 => ⟨S16x4096x4096, .f32⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .f32⟩
  | 86 => ⟨S16x4096x4096, .f32⟩
  | 87 => ⟨S_, .f32⟩
  | 88 => ⟨S16x4096x4096, .f32⟩
  | 89 => ⟨S16x4096x4096, .i1⟩
  | 90 => ⟨S_, .f32⟩
  | 91 => ⟨S16x4096x4096, .f32⟩
  | 92 => ⟨S16x4096x4096, .f32⟩
  | 93 => ⟨S_, .f32⟩
  | 94 => ⟨S16x4096x4096, .f32⟩
  | 95 => ⟨S16x4096x4096, .i1⟩
  | 96 => ⟨S_, .f32⟩
  | 97 => ⟨S16x4096x4096, .f32⟩
  | 98 => ⟨S16x4096x4096, .f32⟩
  | 99 => ⟨S16x4096x4096, .f32⟩
  | 100 => ⟨S16x4096x4096, .f32⟩
  | 101 => ⟨S_, .f32⟩
  | 102 => ⟨S_, .f32⟩
  | 103 => ⟨S_, .i1⟩
  | 104 => ⟨S_, .f32⟩
  | 105 => ⟨S_, .f32⟩
  | 106 => ⟨S_, .f32⟩
  | 107 => ⟨S_, .f32⟩
  | 108 => ⟨S16x4096x4096, .f32⟩
  | 109 => ⟨S16x4096x4096, .i1⟩
  | 110 => ⟨S_, .f32⟩
  | 111 => ⟨S16x4096x4096, .f32⟩
  | 112 => ⟨S16x4096x4096, .f32⟩
  | 113 => ⟨S16x4096x4096, .f32⟩
  | 114 => ⟨S16x4096x4096, .f32⟩
  | 115 => ⟨S16x4096x4096, .f32⟩
  | 116 => ⟨S_, .f32⟩
  | 117 => ⟨S16x4096x4096, .f32⟩
  | 118 => ⟨S16x4096x4096, .f32⟩
  | 119 => ⟨S16x4096x4096, .f32⟩
  | 120 => ⟨S_, .f32⟩
  | 121 => ⟨S_, .f32⟩
  | 122 => ⟨S16x4096x4096, .i1⟩
  | 123 => ⟨S16x4096x4096, .f32⟩
  | 124 => ⟨S16x4096x4096, .f32⟩
  | 125 => ⟨S_, .f32⟩
  | 126 => ⟨S16x4096x4096, .f32⟩
  | 127 => ⟨S_, .f32⟩
  | _ => ⟨S4096x3072, .bf16⟩

abbrev hbmTy0_1 (i : Nat) : BufTy := match i % 128 with
  | 0 => ⟨S_, .f32⟩
  | 1 => ⟨S16x4096x4096, .f32⟩
  | 2 => ⟨S16x4096x4096, .f32⟩
  | 3 => ⟨S16x4096x4096, .f32⟩
  | 4 => ⟨S16x4096x4096, .f32⟩
  | 5 => ⟨S_, .f32⟩
  | 6 => ⟨S_, .f32⟩
  | 7 => ⟨S16x4096x4096, .i1⟩
  | 8 => ⟨S16x4096x4096, .f32⟩
  | 9 => ⟨S16x4096x4096, .f32⟩
  | 10 => ⟨S_, .f32⟩
  | 11 => ⟨S16x4096x4096, .f32⟩
  | 12 => ⟨S16x4096x64, .f32⟩
  | 13 => ⟨S4096x16x64, .f32⟩
  | 14 => ⟨S4096x1024, .f32⟩
  | 15 => ⟨S4096x16x64, .f32⟩
  | 16 => ⟨S16x4096x64, .f32⟩
  | 17 => ⟨S16x64x4096, .f32⟩
  | 18 => ⟨S16x4096x64, .f32⟩
  | 19 => ⟨S16x4096x4096, .f32⟩
  | 20 => ⟨S_, .f32⟩
  | 21 => ⟨S16x4096x4096, .f32⟩
  | 22 => ⟨S16x4096x4096, .f32⟩
  | 23 => ⟨S16x4096x4096, .f32⟩
  | 24 => ⟨S16x4096x4096, .f32⟩
  | 25 => ⟨S_, .f32⟩
  | 26 => ⟨S_, .f32⟩
  | 27 => ⟨S16x4096x4096, .f32⟩
  | 28 => ⟨S16x4096x4096, .f32⟩
  | 29 => ⟨S_, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S16x4096x4096, .f32⟩
  | 40 => ⟨S_, .f32⟩
  | 41 => ⟨S16x4096x4096, .f32⟩
  | 42 => ⟨S16x4096x4096, .f32⟩
  | 43 => ⟨S16x4096x64, .f32⟩
  | 44 => ⟨S16x4096x64, .f32⟩
  | 45 => ⟨S4096x16x64, .f32⟩
  | 46 => ⟨S4096x1024, .f32⟩
  | 47 => ⟨S4096x16x64, .f32⟩
  | 48 => ⟨S4096x1024, .f32⟩
  | 49 => ⟨S4096x16x64, .f32⟩
  | 50 => ⟨S4096x1024, .f32⟩
  | _ => ⟨S4096x3072, .bf16⟩

abbrev hbmTy (i : Nat) : BufTy := match i / 128 with
  | 0 => hbmTy0_0 i
  | 1 => hbmTy0_1 i
  | _ => ⟨S4096x3072, .bf16⟩

abbrev bufTy : (tb : Table) → Fin (tcTables nBuf tb) → BufTy
  | .hbm, ⟨i, _⟩ => hbmTy i
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1_0 : Ref sig .tc := ⟨.hbm, 37, rfl⟩
abbrev main_call0_call0_cst_0 : Ref sig .tc := ⟨.hbm, 38, rfl⟩
abbrev main_call0_call0_v13 : Ref sig .tc := ⟨.hbm, 39, rfl⟩
abbrev main_call0_call0_v14 : Ref sig .tc := ⟨.hbm, 40, rfl⟩
abbrev main_call0_call0_cst_1 : Ref sig .tc := ⟨.hbm, 41, rfl⟩
abbrev main_call0_call0_v15 : Ref sig .tc := ⟨.hbm, 42, rfl⟩
abbrev main_call0_call0_v16 : Ref sig .tc := ⟨.hbm, 43, rfl⟩
abbrev main_call0_call0_cst_2 : Ref sig .tc := ⟨.hbm, 44, rfl⟩
abbrev main_call0_call0_v17 : Ref sig .tc := ⟨.hbm, 45, rfl⟩
abbrev main_call0_call0_v18 : Ref sig .tc := ⟨.hbm, 46, rfl⟩
abbrev main_call0_call0_cst_3 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_v21 : Ref sig .tc := ⟨.hbm, 50, rfl⟩
abbrev main_v20_1 : Ref sig .tc := ⟨.hbm, 51, rfl⟩
abbrev main_call0_call0_cst_4 : Ref sig .tc := ⟨.hbm, 52, rfl⟩
abbrev main_call0_call0_cst_5 : Ref sig .tc := ⟨.hbm, 53, rfl⟩
abbrev main_call0_call0_v23 : Ref sig .tc := ⟨.hbm, 54, rfl⟩
abbrev main_call0_call0_cst_6 : Ref sig .tc := ⟨.hbm, 55, rfl⟩
abbrev main_call0_call0_cst_7 : Ref sig .tc := ⟨.hbm, 56, rfl⟩
abbrev main_call0_call0_v24 : Ref sig .tc := ⟨.hbm, 57, rfl⟩
abbrev main_call0_call0_cst_8 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_cst_9 : Ref sig .tc := ⟨.hbm, 61, rfl⟩
abbrev main_call0_call0_v27 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_v30 : Ref sig .tc := ⟨.hbm, 65, rfl⟩
abbrev main_call0_call0_v31 : Ref sig .tc := ⟨.hbm, 66, rfl⟩
abbrev main_call0_call0_cst_10 : Ref sig .tc := ⟨.hbm, 67, rfl⟩
abbrev main_call0_call0_v32 : Ref sig .tc := ⟨.hbm, 68, rfl⟩
abbrev main_v20_2 : Ref sig .tc := ⟨.hbm, 69, rfl⟩
abbrev main_v20_0 : Ref sig .tc := ⟨.hbm, 70, rfl⟩
abbrev main_v21 : Ref sig .tc := ⟨.hbm, 71, rfl⟩
abbrev main_call1_v0 : Ref sig .tc := ⟨.hbm, 72, rfl⟩
abbrev main_call1_call0_cst : Ref sig .tc := ⟨.hbm, 73, rfl⟩
abbrev main_call1_call0_v0 : Ref sig .tc := ⟨.hbm, 74, rfl⟩
abbrev main_call1_call0_v1 : Ref sig .tc := ⟨.hbm, 75, rfl⟩
abbrev main_call1_call0_v2 : Ref sig .tc := ⟨.hbm, 76, rfl⟩
abbrev main_call1_call0_v3 : Ref sig .tc := ⟨.hbm, 77, rfl⟩
abbrev main_call1_call0_v4 : Ref sig .tc := ⟨.hbm, 78, rfl⟩
abbrev main_call1_call0_v5 : Ref sig .tc := ⟨.hbm, 79, rfl⟩
abbrev main_call1_call0_v6 : Ref sig .tc := ⟨.hbm, 80, rfl⟩
abbrev main_call1_call0_v7 : Ref sig .tc := ⟨.hbm, 81, rfl⟩
abbrev main_call1_call0_v8 : Ref sig .tc := ⟨.hbm, 82, rfl⟩
abbrev main_call1_call0_v9 : Ref sig .tc := ⟨.hbm, 83, rfl⟩
abbrev main_call1_call0_v10 : Ref sig .tc := ⟨.hbm, 84, rfl⟩
abbrev main_call1_call0_v11 : Ref sig .tc := ⟨.hbm, 85, rfl⟩
abbrev main_call1_v1_0 : Ref sig .tc := ⟨.hbm, 86, rfl⟩
abbrev main_call1_call0_cst_0 : Ref sig .tc := ⟨.hbm, 87, rfl⟩
abbrev main_call1_call0_v13 : Ref sig .tc := ⟨.hbm, 88, rfl⟩
abbrev main_call1_call0_v14 : Ref sig .tc := ⟨.hbm, 89, rfl⟩
abbrev main_call1_call0_cst_1 : Ref sig .tc := ⟨.hbm, 90, rfl⟩
abbrev main_call1_call0_v15 : Ref sig .tc := ⟨.hbm, 91, rfl⟩
abbrev main_call1_call0_v16 : Ref sig .tc := ⟨.hbm, 92, rfl⟩
abbrev main_call1_call0_cst_2 : Ref sig .tc := ⟨.hbm, 93, rfl⟩
abbrev main_call1_call0_v17 : Ref sig .tc := ⟨.hbm, 94, rfl⟩
abbrev main_call1_call0_v18 : Ref sig .tc := ⟨.hbm, 95, rfl⟩
abbrev main_call1_call0_cst_3 : Ref sig .tc := ⟨.hbm, 96, rfl⟩
abbrev main_call1_call0_v19 : Ref sig .tc := ⟨.hbm, 97, rfl⟩
abbrev main_call1_call0_v20 : Ref sig .tc := ⟨.hbm, 98, rfl⟩
abbrev main_call1_call0_v21 : Ref sig .tc := ⟨.hbm, 99, rfl⟩
abbrev main_v22_1 : Ref sig .tc := ⟨.hbm, 100, rfl⟩
abbrev main_call1_call0_cst_4 : Ref sig .tc := ⟨.hbm, 101, rfl⟩
abbrev main_call1_call0_cst_5 : Ref sig .tc := ⟨.hbm, 102, rfl⟩
abbrev main_call1_call0_v23 : Ref sig .tc := ⟨.hbm, 103, rfl⟩
abbrev main_call1_call0_cst_6 : Ref sig .tc := ⟨.hbm, 104, rfl⟩
abbrev main_call1_call0_cst_7 : Ref sig .tc := ⟨.hbm, 105, rfl⟩
abbrev main_call1_call0_v24 : Ref sig .tc := ⟨.hbm, 106, rfl⟩
abbrev main_call1_call0_cst_8 : Ref sig .tc := ⟨.hbm, 107, rfl⟩
abbrev main_call1_call0_v25 : Ref sig .tc := ⟨.hbm, 108, rfl⟩
abbrev main_call1_call0_v26 : Ref sig .tc := ⟨.hbm, 109, rfl⟩
abbrev main_call1_call0_cst_9 : Ref sig .tc := ⟨.hbm, 110, rfl⟩
abbrev main_call1_call0_v27 : Ref sig .tc := ⟨.hbm, 111, rfl⟩
abbrev main_call1_call0_v28 : Ref sig .tc := ⟨.hbm, 112, rfl⟩
abbrev main_call1_call0_v29 : Ref sig .tc := ⟨.hbm, 113, rfl⟩
abbrev main_call1_call0_v30 : Ref sig .tc := ⟨.hbm, 114, rfl⟩
abbrev main_call1_call0_v31 : Ref sig .tc := ⟨.hbm, 115, rfl⟩
abbrev main_call1_call0_cst_10 : Ref sig .tc := ⟨.hbm, 116, rfl⟩
abbrev main_call1_call0_v32 : Ref sig .tc := ⟨.hbm, 117, rfl⟩
abbrev main_v22_2 : Ref sig .tc := ⟨.hbm, 118, rfl⟩
abbrev main_v22_0 : Ref sig .tc := ⟨.hbm, 119, rfl⟩
abbrev main_cst_0 : Ref sig .tc := ⟨.hbm, 120, rfl⟩
abbrev main_call2_v0 : Ref sig .tc := ⟨.hbm, 121, rfl⟩
abbrev main_v23_1 : Ref sig .tc := ⟨.hbm, 122, rfl⟩
abbrev main_call2_v2 : Ref sig .tc := ⟨.hbm, 123, rfl⟩
abbrev main_v23_0 : Ref sig .tc := ⟨.hbm, 124, rfl⟩
abbrev main_call2_cst : Ref sig .tc := ⟨.hbm, 125, rfl⟩
abbrev main_v23_2 : Ref sig .tc := ⟨.hbm, 126, rfl⟩
abbrev main_call3_cst : Ref sig .tc := ⟨.hbm, 127, rfl⟩
abbrev main_call3_v0 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_v27 : Ref sig .tc := ⟨.hbm, 132, rfl⟩
abbrev main_cst_1 : Ref sig .tc := ⟨.hbm, 133, rfl⟩
abbrev main_call4_v0 : Ref sig .tc := ⟨.hbm, 134, rfl⟩
abbrev main_v28_1 : Ref sig .tc := ⟨.hbm, 135, rfl⟩
abbrev main_call4_v2 : Ref sig .tc := ⟨.hbm, 136, rfl⟩
abbrev main_v28_0 : Ref sig .tc := ⟨.hbm, 137, rfl⟩
abbrev main_call4_cst : Ref sig .tc := ⟨.hbm, 138, rfl⟩
abbrev main_v28_2 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call6_cst : Ref sig .tc := ⟨.hbm, 153, rfl⟩
abbrev main_call6_v0 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_call8_v0 : Ref sig .tc := ⟨.hbm, 160, rfl⟩
abbrev main_call8_v1 : Ref sig .tc := ⟨.hbm, 161, rfl⟩
abbrev main_v43 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== DownX.lean ====
abbrev S4096x1024 : Shape := ⟨2, ![4096, 1024]⟩
abbrev S4096x4096 : Shape := ⟨2, ![4096, 4096]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownXReferenceIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== DownW.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpX.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpXReferenceIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x4096, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpW.lean ====
abbrev S4096x1024 : Shape := ⟨2, ![4096, 1024]⟩
abbrev S4096x4096 : Shape := ⟨2, ![4096, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWReferenceIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S4096x4096 : Shape := ⟨2, ![4096, 4096]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InXQkv.lean ====
abbrev S4096x3072 : Shape := ⟨2, ![4096, 3072]⟩
abbrev S12320x1024 : Shape := ⟨2, ![12320, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S12320x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXQkvReferenceIdeal.lean ====
abbrev S4096x3072 : Shape := ⟨2, ![4096, 3072]⟩
abbrev S12320x1024 : Shape := ⟨2, ![12320, 1024]⟩
abbrev S3072x1024 : Shape := ⟨2, ![3072, 1024]⟩
abbrev S1024x3072 : Shape := ⟨2, ![1024, 3072]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S12320x1024, .bf16⟩
  | .hbm, ⟨2, _⟩ => ⟨S3072x1024, .bf16⟩
  | .hbm, ⟨3, _⟩ => ⟨S1024x3072, .bf16⟩
  | .hbm, ⟨4, _⟩ => ⟨S4096x3072, .f32⟩
  | .hbm, ⟨5, _⟩ => ⟨S1024x3072, .f32⟩
  | .hbm, ⟨6, _⟩ => ⟨S_, .f32⟩
  | .hbm, ⟨7, _⟩ => ⟨S4096x1024, .f32⟩
  | .hbm, ⟨8, _⟩ => ⟨S4096x3072, .f32⟩
  | .hbm, ⟨9, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InXZ.lean ====
abbrev S4096x2048 : Shape := ⟨2, ![4096, 2048]⟩
abbrev S12320x1024 : Shape := ⟨2, ![12320, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S12320x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg2 c3_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXZReferenceIdeal.lean ====
abbrev S4096x2048 : Shape := ⟨2, ![4096, 2048]⟩
abbrev S12320x1024 : Shape := ⟨2, ![12320, 1024]⟩
abbrev S2048x1024 : Shape := ⟨2, ![2048, 1024]⟩
abbrev S1024x2048 : Shape := ⟨2, ![1024, 2048]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S12320x1024, .bf16⟩
  | .hbm, ⟨2, _⟩ => ⟨S2048x1024, .bf16⟩
  | .hbm, ⟨3, _⟩ => ⟨S1024x2048, .bf16⟩
  | .hbm, ⟨4, _⟩ => ⟨S4096x2048, .f32⟩
  | .hbm, ⟨5, _⟩ => ⟨S1024x2048, .f32⟩
  | .hbm, ⟨6, _⟩ => ⟨S_, .f32⟩
  | .hbm, ⟨7, _⟩ => ⟨S4096x1024, .f32⟩
  | .hbm, ⟨8, _⟩ => ⟨S4096x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InXXbc.lean ====
abbrev S4096x3072 : Shape := ⟨2, ![4096, 3072]⟩
abbrev S12320x1024 : Shape := ⟨2, ![12320, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S12320x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXXbcReferenceIdeal.lean ====
abbrev S4096x3072 : Shape := ⟨2, ![4096, 3072]⟩
abbrev S12320x1024 : Shape := ⟨2, ![12320, 1024]⟩
abbrev S3072x1024 : Shape := ⟨2, ![3072, 1024]⟩
abbrev S1024x3072 : Shape := ⟨2, ![1024, 3072]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S12320x1024, .bf16⟩
  | .hbm, ⟨2, _⟩ => ⟨S3072x1024, .bf16⟩
  | .hbm, ⟨3, _⟩ => ⟨S1024x3072, .bf16⟩
  | .hbm, ⟨4, _⟩ => ⟨S4096x3072, .f32⟩
  | .hbm, ⟨5, _⟩ => ⟨S1024x3072, .f32⟩
  | .hbm, ⟨6, _⟩ => ⟨S_, .f32⟩
  | .hbm, ⟨7, _⟩ => ⟨S4096x1024, .f32⟩
  | .hbm, ⟨8, _⟩ => ⟨S4096x3072, .f32⟩
  | .hbm, ⟨9, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InXMq.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXMqReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S1024x1024, .bf16⟩
  | .hbm, ⟨4, _⟩ => ⟨S4096x1024, .f32⟩
  | .hbm, ⟨5, _⟩ => ⟨S1024x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InXGl.lean ====
abbrev S4096x3072 : Shape := ⟨2, ![4096, 3072]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  let v1 : BitVec 32 := Scalar.addi arg1 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXGlReferenceIdeal.lean ====
abbrev S4096x3072 : Shape := ⟨2, ![4096, 3072]⟩
abbrev S4096x1024 : Shape := ⟨2, ![4096, 1024]⟩
abbrev S3072x1024 : Shape := ⟨2, ![3072, 1024]⟩
abbrev S1024x3072 : Shape := ⟨2, ![1024, 3072]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .hbm, ⟨3, _⟩ => ⟨S1024x3072, .bf16⟩
  | .hbm, ⟨4, _⟩ => ⟨S4096x3072, .f32⟩
  | .hbm, ⟨5, _⟩ => ⟨S1024x3072, .f32⟩
  | .hbm, ⟨6, _⟩ => ⟨S_, .f32⟩
  | .hbm, ⟨7, _⟩ => ⟨S4096x1024, .f32⟩
  | .hbm, ⟨8, _⟩ => ⟨S4096x3072, .f32⟩
  | .hbm, ⟨9, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWQkv.lean ====
abbrev S4096x3072 : Shape := ⟨2, ![4096, 3072]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWQkvReferenceIdeal.lean ====
abbrev S4096x3072 : Shape := ⟨2, ![4096, 3072]⟩
abbrev S4096x1024 : Shape := ⟨2, ![4096, 1024]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩
abbrev S5120x1024 : Shape := ⟨2, ![5120, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8192x1024, .f32⟩
  | .hbm, ⟨3, _⟩ => ⟨S4096x1024, .f32⟩
  | .hbm, ⟨4, _⟩ => ⟨S4096x3072, .f32⟩
  | .hbm, ⟨5, _⟩ => ⟨S_, .f32⟩
  | .hbm, ⟨6, _⟩ => ⟨S3072x1024, .f32⟩
  | .hbm, ⟨7, _⟩ => ⟨S1024x3072, .f32⟩
  | .hbm, ⟨8, _⟩ => ⟨S4096x3072, .f32⟩
  | .hbm, ⟨9, _⟩ => ⟨S3072x1024, .f32⟩
  | .hbm, ⟨10, _⟩ => ⟨S1024x3072, .f32⟩
  | .hbm, ⟨11, _⟩ => ⟨S3072x1024, .f32⟩
  | .hbm, ⟨12, _⟩ => ⟨S5120x1024, .f32⟩
  | .hbm, ⟨13, _⟩ => ⟨S8192x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InWZ.lean ====
abbrev S4096x2048 : Shape := ⟨2, ![4096, 2048]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg0 c3_i32
  let c0_i32 : BitVec 32 := 0#32
  let v1 : BitVec 32 := Scalar.addi arg1 c0_i32
  let c0_i32_0 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWZReferenceIdeal.lean ====
abbrev S4096x2048 : Shape := ⟨2, ![4096, 2048]⟩
abbrev S4096x1024 : Shape := ⟨2, ![4096, 1024]⟩
abbrev S8192x1024 : Shape := ⟨2, ![8192, 1024]⟩
abbrev S3072x1024 : Shape := ⟨2, ![3072, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S8192x1024, .f32⟩
  | .hbm, ⟨3, _⟩ => ⟨S3072x1024, .f32⟩
  | .hbm, ⟨4, _⟩ => ⟨S4096x1024, .f32⟩
  | .hbm, ⟨5, _⟩ => ⟨S4096x2048, .f32⟩
  | .hbm, ⟨6, _⟩ => ⟨S_, .f32⟩
  | .hbm, ⟨7, _⟩ => ⟨S2048x1024, .f32⟩
  | .hbm, ⟨8, _⟩ => ⟨S1024x2048, .f32⟩
  | .hbm, ⟨9, _⟩ => ⟨S4096x2048, .f32⟩
  | .hbm, ⟨10, _⟩ => ⟨S2048x1024, .f32⟩
  | .hbm, ⟨11, _⟩ => ⟨S1024x2048, .f32⟩
  | .hbm, ⟨12, _⟩ => ⟨S2048x1024, .f32⟩
  | .hbm, ⟨13, _⟩ => ⟨S3072x1024, .f32⟩
  | .hbm, ⟨14, _⟩ => ⟨S8192x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== InWXbc.lean ====
abbrev S4096x3072 : Shape := ⟨2, ![4096, 3072]⟩
abbrev S4096x1024 : Shape := ⟨2, ![4096, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8192x1024, .f32⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg0 c5_i32
  let c0_i32 : BitVec 32 := 0#32
  let v1 : BitVec 32 := Scalar.addi arg1 c0_i32
  let c0_i32_0 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWXbcReferenceIdeal.lean ====
abbrev S4096x3072 : Shape := ⟨2, ![4096, 3072]⟩
abbrev S4096x1024 : Shape := ⟨2, ![4096, 1024]⟩
abbrev S8192x1024 : Shape := ⟨2, ![8192, 1024]⟩
abbrev S5120x1024 : Shape := ⟨2, ![5120, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 14
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S8192x1024, .f32⟩
  | .hbm, ⟨3, _⟩ => ⟨S5120x1024, .f32⟩
  | .hbm, ⟨4, _⟩ => ⟨S4096x1024, .f32⟩
  | .hbm, ⟨5, _⟩ => ⟨S4096x3072, .f32⟩
  | .hbm, ⟨6, _⟩ => ⟨S_, .f32⟩
  | .hbm, ⟨7, _⟩ => ⟨S3072x1024, .f32⟩
  | .hbm, ⟨8, _⟩ => ⟨S1024x3072, .f32⟩
  | .hbm, ⟨9, _⟩ => ⟨S4096x3072, .f32⟩
  | .hbm, ⟨10, _⟩ => ⟨S3072x1024, .f32⟩
  | .hbm, ⟨11, _⟩ => ⟨S1024x3072, .f32⟩
  | .hbm, ⟨12, _⟩ => ⟨S3072x1024, .f32⟩
  | .hbm, ⟨13, _⟩ => ⟨S8192x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InWMq.lean ====
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWMqReferenceIdeal.lean ====
abbrev S4096x1024 : Shape := ⟨2, ![4096, 1024]⟩
abbrev S_ : Shape := ⟨0, ![]⟩
abbrev S1024x1024 : Shape := ⟨2, ![1024, 1024]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S3072x1024, .f32⟩
  | .hbm, ⟨13, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InWGl.lean ====
abbrev S4096x3072 : Shape := ⟨2, ![4096, 3072]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  let v1 : BitVec 32 := Scalar.addi arg1 c0_i32
  let c0_i32_0 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWGlReferenceIdeal.lean ====
abbrev S4096x3072 : Shape := ⟨2, ![4096, 3072]⟩
abbrev S4096x1024 : Shape := ⟨2, ![4096, 1024]⟩
abbrev S1024x1024 : Shape := ⟨2, ![1024, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 14
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x3072, .f32⟩
  | .hbm, ⟨6, _⟩ => ⟨S_, .f32⟩
  | .hbm, ⟨7, _⟩ => ⟨S3072x1024, .f32⟩
  | .hbm, ⟨8, _⟩ => ⟨S1024x3072, .f32⟩
  | .hbm, ⟨9, _⟩ => ⟨S4096x3072, .f32⟩
  | .hbm, ⟨10, _⟩ => ⟨S3072x1024, .f32⟩
  | .hbm, ⟨11, _⟩ => ⟨S1024x3072, .f32⟩
  | .hbm, ⟨12, _⟩ => ⟨S3072x1024, .f32⟩
  | .hbm, ⟨13, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== InQkv.lean ====
abbrev S4096x1024 : Shape := ⟨2, ![4096, 1024]⟩
abbrev S12320x1024 : Shape := ⟨2, ![12320, 1024]⟩
abbrev S4096x3072 : Shape := ⟨2, ![4096, 3072]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvReferenceIdeal.lean ====
abbrev S4096x1024 : Shape := ⟨2, ![4096, 1024]⟩
abbrev S12320x1024 : Shape := ⟨2, ![12320, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S3072x1024, .bf16⟩
  | .hbm, ⟨3, _⟩ => ⟨S4096x1024, .f32⟩
  | .hbm, ⟨4, _⟩ => ⟨S3072x1024, .f32⟩
  | .hbm, ⟨5, _⟩ => ⟨S1024x3072, .f32⟩
  | .hbm, ⟨6, _⟩ => ⟨S4096x3072, .f32⟩
  | .hbm, ⟨7, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InZ.lean ====
abbrev S4096x1024 : Shape := ⟨2, ![4096, 1024]⟩
abbrev S12320x1024 : Shape := ⟨2, ![12320, 1024]⟩
abbrev S4096x2048 : Shape := ⟨2, ![4096, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InZReferenceIdeal.lean ====
abbrev S4096x1024 : Shape := ⟨2, ![4096, 1024]⟩
abbrev S12320x1024 : Shape := ⟨2, ![12320, 1024]⟩
abbrev S2048x1024 : Shape := ⟨2, ![2048, 1024]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S2048x1024, .bf16⟩
  | .hbm, ⟨3, _⟩ => ⟨S4096x1024, .f32⟩
  | .hbm, ⟨4, _⟩ => ⟨S2048x1024, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InXbc.lean ====
abbrev S4096x1024 : Shape := ⟨2, ![4096, 1024]⟩
abbrev S12320x1024 : Shape := ⟨2, ![12320, 1024]⟩
abbrev S4096x3072 : Shape := ⟨2, ![4096, 3072]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXbcReferenceIdeal.lean ====
abbrev S4096x1024 : Shape := ⟨2, ![4096, 1024]⟩
abbrev S12320x1024 : Shape := ⟨2, ![12320, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S12320x1024, .bf16⟩
  | .hbm, ⟨2, _⟩ => ⟨S3072x1024, .bf16⟩
  | .hbm, ⟨3, _⟩ => ⟨S4096x1024, .f32⟩
  | .hbm, ⟨4, _⟩ => ⟨S3072x1024, .f32⟩
  | .hbm, ⟨5, _⟩ => ⟨S1024x3072, .f32⟩
  | .hbm, ⟨6, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InMq.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InMqReferenceIdeal.lean ====
abbrev S4096x1024 : Shape := ⟨2, ![4096, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InGl.lean ====
abbrev S4096x1024 : Shape := ⟨2, ![4096, 1024]⟩
abbrev S4096x3072 : Shape := ⟨2, ![4096, 3072]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg2 c0_i32
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGlReferenceIdeal.lean ====
abbrev S4096x1024 : Shape := ⟨2, ![4096, 1024]⟩
abbrev S3072x1024 : Shape := ⟨2, ![3072, 1024]⟩
abbrev S1024x3072 : Shape := ⟨2, ![1024, 3072]⟩
abbrev S4096x3072 : Shape := ⟨2, ![4096, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S3072x1024, .bf16⟩
  | .hbm, ⟨3, _⟩ => ⟨S4096x1024, .f32⟩
  | .hbm, ⟨4, _⟩ => ⟨S3072x1024, .f32⟩
  | .hbm, ⟨5, _⟩ => ⟨S1024x3072, .f32⟩
  | .hbm, ⟨6, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutX.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutXReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWReferenceIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemOutX.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemOutXReferenceIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdOutX.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutXReferenceIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S4096x1024, .f32⟩
  | .hbm, ⟨3, _⟩ => ⟨S2048x1024, .f32⟩
  | .hbm, ⟨4, _⟩ => ⟨S_, .f32⟩
  | .hbm, ⟨5, _⟩ => ⟨S4096x2048, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SsdOutW.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutWReferenceIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SsdOut.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutReferenceIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x2048, .f32⟩
  | .hbm, ⟨3, _⟩ => ⟨S2048x1024, .f32⟩
  | .hbm, ⟨4, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKvX.lean ====
abbrev S256x2048 : Shape := ⟨2, ![256, 2048]⟩
abbrev S1024x2048 : Shape := ⟨2, ![1024, 2048]⟩
abbrev S256x1024 : Shape := ⟨2, ![256, 1024]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S1024x2048, .bf16⟩
  | .hbm, ⟨2, _⟩ => ⟨S256x1024, .f32⟩
  | .local _ .vmem, ⟨0, _⟩ => ⟨S256x2048, .bf16⟩
  | .local _ .vmem, ⟨1, _⟩ => ⟨S1024x2048, .bf16⟩
  | .local _ .vmem, ⟨2, _⟩ => ⟨S256x1024, .f32⟩
  | .local _ .vmem, ⟨3, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MemKvXReferenceIdeal.lean ====
abbrev S256x2048 : Shape := ⟨2, ![256, 2048]⟩
abbrev S1024x2048 : Shape := ⟨2, ![1024, 2048]⟩
abbrev S_ : Shape := ⟨0, ![]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S1024x2048, .bf16⟩
  | .hbm, ⟨2, _⟩ => ⟨S256x2048, .f32⟩
  | .hbm, ⟨3, _⟩ => ⟨S1024x2048, .f32⟩
  | .hbm, ⟨4, _⟩ => ⟨S_, .f32⟩
  | .hbm, ⟨5, _⟩ => ⟨S256x1024, .f32⟩
  | .hbm, ⟨6, _⟩ => ⟨S256x2048, .f32⟩
  | .hbm, ⟨7, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MemKvW.lean ====
abbrev S256x1024 : Shape := ⟨2, ![256, 1024]⟩
abbrev S256x2048 : Shape := ⟨2, ![256, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S1024x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvWReferenceIdeal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S256x1024, .f32⟩
  | .hbm, ⟨3, _⟩ => ⟨S256x2048, .f32⟩
  | .hbm, ⟨4, _⟩ => ⟨S_, .f32⟩
  | .hbm, ⟨5, _⟩ => ⟨S1024x2048, .f32⟩
  | .hbm, ⟨6, _⟩ => ⟨S256x2048, .f32⟩
  | .hbm, ⟨7, _⟩ => ⟨S2048x1024, .f32⟩
  | .hbm, ⟨8, _⟩ => ⟨S1024x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKv.lean ====
abbrev S256x1024 : Shape := ⟨2, ![256, 1024]⟩
abbrev S1024x2048 : Shape := ⟨2, ![1024, 2048]⟩
abbrev S256x2048 : Shape := ⟨2, ![256, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x2048, .bf16⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MemKvReferenceIdeal.lean ====
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x2048, .bf16⟩
  | .hbm, ⟨2, _⟩ => ⟨S256x1024, .f32⟩
  | .hbm, ⟨3, _⟩ => ⟨S1024x2048, .f32⟩
  | .hbm, ⟨4, _⟩ => ⟨S256x2048, .f32⟩
  | .hbm, ⟨5, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InXDt.lean ====
abbrev S4096x128 : Shape := ⟨2, ![4096, 128]⟩
abbrev S128x1024 : Shape := ⟨2, ![128, 1024]⟩
abbrev S4096x1024 : Shape := ⟨2, ![4096, 1024]⟩
abbrev S1024x128 : Shape := ⟨2, ![1024, 128]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InXDtReferenceIdeal.lean ====
abbrev S4096x128 : Shape := ⟨2, ![4096, 128]⟩
abbrev S128x1024 : Shape := ⟨2, ![128, 1024]⟩
abbrev S1024x128 : Shape := ⟨2, ![1024, 128]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S1024x128, .bf16⟩
  | .hbm, ⟨3, _⟩ => ⟨S4096x128, .f32⟩
  | .hbm, ⟨4, _⟩ => ⟨S1024x128, .f32⟩
  | .hbm, ⟨5, _⟩ => ⟨S_, .f32⟩
  | .hbm, ⟨6, _⟩ => ⟨S4096x1024, .f32⟩
  | .hbm, ⟨7, _⟩ => ⟨S4096x128, .f32⟩
  | .hbm, ⟨8, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InWDt.lean ====
abbrev S4096x128 : Shape := ⟨2, ![4096, 128]⟩
abbrev S4096x1024 : Shape := ⟨2, ![4096, 1024]⟩
abbrev S128x1024 : Shape := ⟨2, ![128, 1024]⟩
abbrev S2048x128 : Shape := ⟨2, ![2048, 128]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .f32⟩
  | .local _ .vmem, ⟨0, _⟩ => ⟨S2048x128, .bf16⟩
  | .local _ .vmem, ⟨1, _⟩ => ⟨S2048x128, .bf16⟩
  | .local _ .vmem, ⟨2, _⟩ => ⟨S2048x1024, .bf16⟩
  | .local _ .vmem, ⟨3, _⟩ => ⟨S2048x1024, .bf16⟩
  | .local _ .vmem, ⟨4, _⟩ => ⟨S128x1024, .f32⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  let v1 : BitVec 32 := Scalar.addi arg1 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWDtReferenceIdeal.lean ====
abbrev S4096x128 : Shape := ⟨2, ![4096, 128]⟩
abbrev S4096x1024 : Shape := ⟨2, ![4096, 1024]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S4096x1024, .f32⟩
  | .hbm, ⟨3, _⟩ => ⟨S4096x128, .f32⟩
  | .hbm, ⟨4, _⟩ => ⟨S_, .f32⟩
  | .hbm, ⟨5, _⟩ => ⟨S128x1024, .f32⟩
  | .hbm, ⟨6, _⟩ => ⟨S1024x128, .f32⟩
  | .hbm, ⟨7, _⟩ => ⟨S4096x128, .f32⟩
  | .hbm, ⟨8, _⟩ => ⟨S128x1024, .f32⟩
  | .hbm, ⟨9, _⟩ => ⟨S1024x128, .f32⟩
  | .hbm, ⟨10, _⟩ => ⟨S128x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InDt.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg2 c0_i32_0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let v1 : BitVec 32 := Scalar.addi arg1 c0_i32_0
  let c0_i32_1 : BitVec 32 := 0#32
  ![v0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDtReferenceIdeal.lean ====
abbrev S4096x1024 : Shape := ⟨2, ![4096, 1024]⟩
abbrev S128x1024 : Shape := ⟨2, ![128, 1024]⟩
abbrev S1024x128 : Shape := ⟨2, ![1024, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S128x1024, .f32⟩
  | .hbm, ⟨4, _⟩ => ⟨S1024x128, .f32⟩
  | .hbm, ⟨5, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MemFwd.lean ====
abbrev S4096x1024 : Shape := ⟨2, ![4096, 1024]⟩
abbrev S256x2048 : Shape := ⟨2, ![256, 2048]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S512x256, .bf16⟩
  | .local _ .vmem, ⟨7, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemFwdReferenceIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Fwd.lean ====
abbrev S4096x3072 : Shape := ⟨2, ![4096, 3072]⟩
abbrev S4096x1024 : Shape := ⟨2, ![4096, 1024]⟩
abbrev S16x4096x1 : Shape := ⟨3, ![16, 4096, 1]⟩
abbrev S2048x128 : Shape := ⟨2, ![2048, 128]⟩
abbrev S4096x128 : Shape := ⟨2, ![4096, 128]⟩
abbrev S2x2048x1 : Shape := ⟨3, ![2, 2048, 1]⟩
abbrev S1x128 : Shape := ⟨2, ![1, 128]⟩
abbrev S256x256 : Shape := ⟨2, ![256, 256]⟩
abbrev S2048x1 : Shape := ⟨2, ![2048, 1]⟩
abbrev S256x1 : Shape := ⟨2, ![256, 1]⟩
abbrev S256x128 : Shape := ⟨2, ![256, 128]⟩
abbrev S256 : Shape := ⟨1, ![256]⟩
abbrev S1792x1 : Shape := ⟨2, ![1792, 1]⟩
abbrev S1792x128 : Shape := ⟨2, ![1792, 128]⟩
abbrev S512x1 : Shape := ⟨2, ![512, 1]⟩
abbrev S512x128 : Shape := ⟨2, ![512, 128]⟩
abbrev S512x256 : Shape := ⟨2, ![512, 256]⟩
abbrev S512 : Shape := ⟨1, ![512]⟩
abbrev S1536x1 : Shape := ⟨2, ![1536, 1]⟩
abbrev S1536x128 : Shape := ⟨2, ![1536, 128]⟩
abbrev S768x1 : Shape := ⟨2, ![768, 1]⟩
abbrev S768x128 : Shape := ⟨2, ![768, 128]⟩
abbrev S768x256 : Shape := ⟨2, ![768, 256]⟩
abbrev S768 : Shape := ⟨1, ![768]⟩
abbrev S1280x1 : Shape := ⟨2, ![1280, 1]⟩
abbrev S1280x128 : Shape := ⟨2, ![1280, 128]⟩
abbrev S1024x1 : Shape := ⟨2, ![1024, 1]⟩
abbrev S1024x128 : Shape := ⟨2, ![1024, 128]⟩
abbrev S1024x256 : Shape := ⟨2, ![1024, 256]⟩
abbrev S1024 : Shape := ⟨1, ![1024]⟩
abbrev S1280x256 : Shape := ⟨2, ![1280, 256]⟩
abbrev S1280 : Shape := ⟨1, ![1280]⟩
abbrev S1536x256 : Shape := ⟨2, ![1536, 256]⟩
abbrev S1536 : Shape := ⟨1, ![1536]⟩
abbrev S1792x256 : Shape := ⟨2, ![1792, 256]⟩
abbrev S1792 : Shape := ⟨1, ![1792]⟩
abbrev S2048x256 : Shape := ⟨2, ![2048, 256]⟩
abbrev S2048 : Shape := ⟨1, ![2048]⟩
abbrev S1x2048x1 : Shape := ⟨3, ![1, 2048, 1]⟩

abbrev nBuf : Space → Nat
  | .hbm => 3
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S16x4096x1, .f32⟩
  | .local _ .vmem, ⟨0, _⟩ => ⟨S2048x128, .bf16⟩
  | .local _ .vmem, ⟨1, _⟩ => ⟨S2048x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2048x128, .bf16⟩
  | .local _ .vmem, ⟨7, _⟩ => ⟨S2048x128, .bf16⟩
  | .local _ .vmem, ⟨8, _⟩ => ⟨S2x2048x1, .f32⟩
  | .local _ .vmem, ⟨9, _⟩ => ⟨S2x2048x1, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c2_i32 : BitVec 32 := 2#32
  let v15 : BitVec 32 := Scalar.addi c0_i32 c2_i32
  let c1_i32 : BitVec 32 := 1#32
  ⟨c0_i32, v15, c1_i32⟩
def k0_mult1 (i : grid0.Coords) : BitVec 32 :=
  let arg1 : BitVec 32 := BitVec.ofNat 32 (i 1).val
  let c2048_i32 : BitVec 32 := 2048#32
  let v0 : BitVec 32 := Scalar.muli arg1 c2048_i32
  let c1792_i32 : BitVec 32 := 1792#32
  let v27 : BitVec 32 := Scalar.addi v0 c1792_i32
  v27
def k0_off1 (i : grid0.Coords) (c1792_i32 : BitVec 32) : Fin 2 → Nat :=
  let arg1 : BitVec 32 := BitVec.ofNat 32 (i 1).val
  let c2048_i32 : BitVec 32 := 2048#32
  let v0 : BitVec 32 := Scalar.muli arg1 c2048_i32
  let v27 : BitVec 32 := Scalar.addi v0 c1792_i32
  let v28 : BitVec 32 := v27
  let v31 : Index := Scalar.indexCast v28
  let c0_8 : Index := 0#32
  ![v31.toNat, 0]
def k0_mult2 (i : grid0.Coords) : BitVec 32 :=
  let arg1 : BitVec 32 := BitVec.ofNat 32 (i 1).val
  let c2048_i32 : BitVec 32 := 2048#32
  let v0 : BitVec 32 := Scalar.muli arg1 c2048_i32
  let c1536_i32 : BitVec 32 := 1536#32
  let v78 : BitVec 32 := Scalar.addi v0 c1536_i32
  v78
def k0_mult3 (i : grid0.Coords) : BitVec 32 :=
  let arg1 : BitVec 32 := BitVec.ofNat 32 (i 1).val
  let c2048_i32 : BitVec 32 := 2048#32
  let v0 : BitVec 32 := Scalar.muli arg1 c2048_i32
  let c1280_i32 : BitVec 32 := 1280#32
  let v129 : BitVec 32 := Scalar.addi v0 c1280_i32
  v129
def k0_mult4 (i : grid0.Coords) : BitVec 32 :=
  let arg1 : BitVec 32 := BitVec.ofNat 32 (i 1).val
  let c2048_i32 : BitVec 32 := 2048#32
  let v0 : BitVec 32 := Scalar.muli arg1 c2048_i32
  let c1024_i32 : BitVec 32 := 1024#32
  let v180 : BitVec 32 := Scalar.addi v0 c1024_i32
  v180
def k0_mult5 (i : grid0.Coords) : BitVec 32 :=
  let arg1 : BitVec 32 := BitVec.ofNat 32 (i 1).val
  let c2048_i32 : BitVec 32 := 2048#32
  let v0 : BitVec 32 := Scalar.muli arg1 c2048_i32
  let c768_i32 : BitVec 32 := 768#32
  let v231 : BitVec 32 := Scalar.addi v0 c768_i32
  v231
def k0_mult6 (i : grid0.Coords) : BitVec 32 :=
  let arg1 : BitVec 32 := BitVec.ofNat 32 (i 1).val
  let c2048_i32 : BitVec 32 := 2048#32
  let v0 : BitVec 32 := Scalar.muli arg1 c2048_i32
  let c512_i32 : BitVec 32 := 512#32
  let v282 : BitVec 32 := Scalar.addi v0 c512_i32
  v282
def k0_mult7 (i : grid0.Coords) : BitVec 32 :=
  let arg1 : BitVec 32 := BitVec.ofNat 32 (i 1).val
  let c2048_i32 : BitVec 32 := 2048#32
  let v0 : BitVec 32 := Scalar.muli arg1 c2048_i32
  let c256_i32 : BitVec 32 := 256#32
  let v333 : BitVec 32 := Scalar.addi v0 c256_i32
  v333
def k0_mult8 (i : grid0.Coords) : BitVec 32 :=
  let arg1 : BitVec 32 := BitVec.ofNat 32 (i 1).val
  let c2048_i32 : BitVec 32 := 2048#32
  let v0 : BitVec 32 := Scalar.muli arg1 c2048_i32
  let c0_i32_99 : BitVec 32 := 0#32
  let v384 : BitVec 32 := Scalar.addi v0 c0_i32_99
  v384
@[reducible] def k0_t2_loop (i : grid0.Coords) : Scf.Loop 32 :=
  let c0_i32_120 : BitVec 32 := 0#32
  let arg1 : BitVec 32 := BitVec.ofNat 32 (i 1).val
  let c2048_i32 : BitVec 32 := 2048#32
  let v0 : BitVec 32 := Scalar.muli arg1 c2048_i32
  let c0_i32_114 : BitVec 32 := 0#32
  let v429 : BitVec 1 := Scalar.cmpi .sgt v0 c0_i32_114
  let v430 : BitVec 32 := Scalar.extui v429
  let c0_i32_115 : BitVec 32 := 0#32
  let v431 : BitVec 1 := Scalar.cmpi .slt v0 c0_i32_115
  let v432 : BitVec 32 := Scalar.extui v431
  let v433 : BitVec 32 := Scalar.subi v430 v432
  let c256_i32_113 : BitVec 32 := 256#32
  let c0_i32_116 : BitVec 32 := 0#32
  let v434 : BitVec 1 := Scalar.cmpi .sgt c256_i32_113 c0_i32_116
  let v435 : BitVec 32 := Scalar.extui v434
  let c0_i32_117 : BitVec 32 := 0#32
  let v436 : BitVec 1 := Scalar.cmpi .slt c256_i32_113 c0_i32_117
  let v437 : BitVec 32 := Scalar.extui v436
  let v438 : BitVec 32 := Scalar.subi v435 v437
  let v439 : BitVec 1 := Scalar.cmpi .ne v433 v438
  let v440 : BitVec 32 := Scalar.remsi v0 c256_i32_113
  let c0_i32_118 : BitVec 32 := 0#32
  let v441 : BitVec 1 := Scalar.cmpi .ne v440 c0_i32_118
  let v442 : BitVec 1 := Scalar.andi v439 v441
  let v428 : BitVec 32 := Scalar.divsi v0 c256_i32_113
  let c1_i32_119 : BitVec 32 := 1#32
  let v443 : BitVec 32 := Scalar.subi v428 c1_i32_119
  let v444 : BitVec 32 := Scalar.select v442 v443 v428
  let v445 : BitVec 32 := Scalar.subi v444 c0_i32_120
  let c1_i32_121 : BitVec 32 := 1#32
  let v447 : BitVec 32 := Scalar.divsi v445 c1_i32_121
  let v448 : BitVec 32 := Scalar.muli v447 c1_i32_121
  let v449 : BitVec 32 := Scalar.addi c0_i32_120 v448
  let c1_i32_122 : BitVec 32 := 1#32
  ⟨c0_i32_120, v449, c1_i32_122⟩
def k0_mult9 (i : grid0.Coords) (k0_t2 : Fin (k0_t2_loop i).trips) : BitVec 32 :=
  let arg1 : BitVec 32 := BitVec.ofNat 32 (i 1).val
  let c2048_i32 : BitVec 32 := 2048#32
  let v0 : BitVec 32 := Scalar.muli arg1 c2048_i32
  let c0_i32_114 : BitVec 32 := 0#32
  let v429 : BitVec 1 := Scalar.cmpi .sgt v0 c0_i32_114
  let v430 : BitVec 32 := Scalar.extui v429
  let c0_i32_115 : BitVec 32 := 0#32
  let v431 : BitVec 1 := Scalar.cmpi .slt v0 c0_i32_115
  let v432 : BitVec 32 := Scalar.extui v431
  let v433 : BitVec 32 := Scalar.subi v430 v432
  let c256_i32_113 : BitVec 32 := 256#32
  let c0_i32_116 : BitVec 32 := 0#32
  let v434 : BitVec 1 := Scalar.cmpi .sgt c256_i32_113 c0_i32_116
  let v435 : BitVec 32 := Scalar.extui v434
  let c0_i32_117 : BitVec 32 := 0#32
  let v436 : BitVec 1 := Scalar.cmpi .slt c256_i32_113 c0_i32_117
  let v437 : BitVec 32 := Scalar.extui v436
  let v438 : BitVec 32 := Scalar.subi v435 v437
  let v439 : BitVec 1 := Scalar.cmpi .ne v433 v438
  let v440 : BitVec 32 := Scalar.remsi v0 c256_i32_113
  let c0_i32_118 : BitVec 32 := 0#32
  let v441 : BitVec 1 := Scalar.cmpi .ne v440 c0_i32_118
  let v442 : BitVec 1 := Scalar.andi v439 v441
  let v428 : BitVec 32 := Scalar.divsi v0 c256_i32_113
  let c1_i32_119 : BitVec 32 := 1#32
  let v443 : BitVec 32 := Scalar.subi v428 c1_i32_119
  let v444 : BitVec 32 := Scalar.select v442 v443 v428
  let c1_i32_126 : BitVec 32 := 1#32
  let v459 : BitVec 32 := Scalar.subi v444 c1_i32_126
  let c0_i32_120 : BitVec 32 := 0#32
  let c1_i32_122 : BitVec 32 := 1#32
  let arg9 : BitVec 32 := Scf.iv c0_i32_120 c1_i32_122 k0_t2
  let v460 : BitVec 32 := Scalar.subi v459 arg9
  let c256_i32_127 : BitVec 32 := 256#32
  let v461 : BitVec 32 := Scalar.muli v460 c256_i32_127
  v461
def k0_off2 (i : grid0.Coords) (k0_t2 : Fin (k0_t2_loop i).trips) : Fin 2 → Nat :=
  let arg1 : BitVec 32 := BitVec.ofNat 32 (i 1).val
  let c2048_i32 : BitVec 32 := 2048#32
  let v0 : BitVec 32 := Scalar.muli arg1 c2048_i32
  let c0_i32_114 : BitVec 32 := 0#32
  let v429 : BitVec 1 := Scalar.cmpi .sgt v0 c0_i32_114
  let v430 : BitVec 32 := Scalar.extui v429
  let c0_i32_115 : BitVec 32 := 0#32
  let v431 : BitVec 1 := Scalar.cmpi .slt v0 c0_i32_115
  let v432 : BitVec 32 := Scalar.extui v431
  let v433 : BitVec 32 := Scalar.subi v430 v432
  let c256_i32_113 : BitVec 32 := 256#32
  let c0_i32_116 : BitVec 32 := 0#32
  let v434 : BitVec 1 := Scalar.cmpi .sgt c256_i32_113 c0_i32_116
  let v435 : BitVec 32 := Scalar.extui v434
  let c0_i32_117 : BitVec 32 := 0#32
  let v436 : BitVec 1 := Scalar.cmpi .slt c256_i32_113 c0_i32_117
  let v437 : BitVec 32 := Scalar.extui v436
  let v438 : BitVec 32 := Scalar.subi v435 v437
  let v439 : BitVec 1 := Scalar.cmpi .ne v433 v438
  let v440 : BitVec 32 := Scalar.remsi v0 c256_i32_113
  let c0_i32_118 : BitVec 32 := 0#32
  let v441 : BitVec 1 := Scalar.cmpi .ne v440 c0_i32_118
  let v442 : BitVec 1 := Scalar.andi v439 v441
  let v428 : BitVec 32 := Scalar.divsi v0 c256_i32_113
  let c1_i32_119 : BitVec 32 := 1#32
  let v443 : BitVec 32 := Scalar.subi v428 c1_i32_119
  let v444 : BitVec 32 := Scalar.select v442 v443 v428
  let c1_i32_126 : BitVec 32 := 1#32
  let v459 : BitVec 32 := Scalar.subi v444 c1_i32_126
  let c0_i32_120 : BitVec 32 := 0#32
  let c1_i32_122 : BitVec 32 := 1#32
  let arg9 : BitVec 32 := Scf.iv c0_i32_120 c1_i32_122 k0_t2
  let v460 : BitVec 32 := Scalar.subi v459 arg9
  let c256_i32_127 : BitVec 32 := 256#32
  let v461 : BitVec 32 := Scalar.muli v460 c256_i32_127
  let v462 : BitVec 32 := v461
  let v463 : Index := Scalar.indexCast v462
  let c0_128 : Index := 0#32
  ![v463.toNat, 0]
@[reducible] def k0_t3_loop (i : grid0.Coords) : Scf.Loop 32 :=
  let c0_i32_120 : BitVec 32 := 0#32
  let arg1 : BitVec 32 := BitVec.ofNat 32 (i 1).val
  let c2048_i32 : BitVec 32 := 2048#32
  let v0 : BitVec 32 := Scalar.muli arg1 c2048_i32
  let c0_i32_114 : BitVec 32 := 0#32
  let v429 : BitVec 1 := Scalar.cmpi .sgt v0 c0_i32_114
  let v430 : BitVec 32 := Scalar.extui v429
  let c0_i32_115 : BitVec 32 := 0#32
  let v431 : BitVec 1 := Scalar.cmpi .slt v0 c0_i32_115
  let v432 : BitVec 32 := Scalar.extui v431
  let v433 : BitVec 32 := Scalar.subi v430 v432
  let c256_i32_113 : BitVec 32 := 256#32
  let c0_i32_116 : BitVec 32 := 0#32
  let v434 : BitVec 1 := Scalar.cmpi .sgt c256_i32_113 c0_i32_116
  let v435 : BitVec 32 := Scalar.extui v434
  let c0_i32_117 : BitVec 32 := 0#32
  let v436 : BitVec 1 := Scalar.cmpi .slt c256_i32_113 c0_i32_117
  let v437 : BitVec 32 := Scalar.extui v436
  let v438 : BitVec 32 := Scalar.subi v435 v437
  let v439 : BitVec 1 := Scalar.cmpi .ne v433 v438
  let v440 : BitVec 32 := Scalar.remsi v0 c256_i32_113
  let c0_i32_118 : BitVec 32 := 0#32
  let v441 : BitVec 1 := Scalar.cmpi .ne v440 c0_i32_118
  let v442 : BitVec 1 := Scalar.andi v439 v441
  let v428 : BitVec 32 := Scalar.divsi v0 c256_i32_113
  let c1_i32_119 : BitVec 32 := 1#32
  let v443 : BitVec 32 := Scalar.subi v428 c1_i32_119
  let v444 : BitVec 32 := Scalar.select v442 v443 v428
  let v445 : BitVec 32 := Scalar.subi v444 c0_i32_120
  let c1_i32_121 : BitVec 32 := 1#32
  let v447 : BitVec 32 := Scalar.divsi v445 c1_i32_121
  let v448 : BitVec 32 := Scalar.muli v447 c1_i32_121
  let v449 : BitVec 32 := Scalar.addi c0_i32_120 v448
  let v446 : BitVec 32 := Scalar.addi c0_i32_120 v445
  let c1_i32_123 : BitVec 32 := 1#32
  ⟨v449, v446, c1_i32_123⟩
def k0_mult10 (i : grid0.Coords) (k0_t3 : Fin (k0_t3_loop i).trips) : BitVec 32 :=
  let arg1 : BitVec 32 := BitVec.ofNat 32 (i 1).val
  let c2048_i32 : BitVec 32 := 2048#32
  let v0 : BitVec 32 := Scalar.muli arg1 c2048_i32
  let c0_i32_114 : BitVec 32 := 0#32
  let v429 : BitVec 1 := Scalar.cmpi .sgt v0 c0_i32_114
  let v430 : BitVec 32 := Scalar.extui v429
  let c0_i32_115 : BitVec 32 := 0#32
  let v431 : BitVec 1 := Scalar.cmpi .slt v0 c0_i32_115
  let v432 : BitVec 32 := Scalar.extui v431
  let v433 : BitVec 32 := Scalar.subi v430 v432
  let c256_i32_113 : BitVec 32 := 256#32
  let c0_i32_116 : BitVec 32 := 0#32
  let v434 : BitVec 1 := Scalar.cmpi .sgt c256_i32_113 c0_i32_116
  let v435 : BitVec 32 := Scalar.extui v434
  let c0_i32_117 : BitVec 32 := 0#32
  let v436 : BitVec 1 := Scalar.cmpi .slt c256_i32_113 c0_i32_117
  let v437 : BitVec 32 := Scalar.extui v436
  let v438 : BitVec 32 := Scalar.subi v435 v437
  let v439 : BitVec 1 := Scalar.cmpi .ne v433 v438
  let v440 : BitVec 32 := Scalar.remsi v0 c256_i32_113
  let c0_i32_118 : BitVec 32 := 0#32
  let v441 : BitVec 1 := Scalar.cmpi .ne v440 c0_i32_118
  let v442 : BitVec 1 := Scalar.andi v439 v441
  let v428 : BitVec 32 := Scalar.divsi v0 c256_i32_113
  let c1_i32_119 : BitVec 32 := 1#32
  let v443 : BitVec 32 := Scalar.subi v428 c1_i32_119
  let v444 : BitVec 32 := Scalar.select v442 v443 v428
  let c1_i32_126 : BitVec 32 := 1#32
  let v459 : BitVec 32 := Scalar.subi v444 c1_i32_126
  let c0_i32_120 : BitVec 32 := 0#32
  let v445 : BitVec 32 := Scalar.subi v444 c0_i32_120
  let c1_i32_121 : BitVec 32 := 1#32
  let v447 : BitVec 32 := Scalar.divsi v445 c1_i32_121
  let v448 : BitVec 32 := Scalar.muli v447 c1_i32_121
  let v449 : BitVec 32 := Scalar.addi c0_i32_120 v448
  let c1_i32_123 : BitVec 32 := 1#32
  let arg9 : BitVec 32 := Scf.iv v449 c1_i32_123 k0_t3
  let v460 : BitVec 32 := Scalar.subi v459 arg9
  let c256_i32_127 : BitVec 32 := 256#32
  let v461 : BitVec 32 := Scalar.muli v460 c256_i32_127
  v461
def k0_off3 (i : grid0.Coords) (k0_t3 : Fin (k0_t3_loop i).trips) : Fin 2 → Nat :=
  let arg1 : BitVec 32 := BitVec.ofNat 32 (i 1).val
  let c2048_i32 : BitVec 32 := 2048#32
  let v0 : BitVec 32 := Scalar.muli arg1 c2048_i32
  let c0_i32_114 : BitVec 32 := 0#32
  let v429 : BitVec 1 := Scalar.cmpi .sgt v0 c0_i32_114
  let v430 : BitVec 32 := Scalar.extui v429
  let c0_i32_115 : BitVec 32 := 0#32
  let v431 : BitVec 1 := Scalar.cmpi .slt v0 c0_i32_115
  let v432 : BitVec 32 := Scalar.extui v431
  let v433 : BitVec 32 := Scalar.subi v430 v432
  let c256_i32_113 : BitVec 32 := 256#32
  let c0_i32_116 : BitVec 32 := 0#32
  let v434 : BitVec 1 := Scalar.cmpi .sgt c256_i32_113 c0_i32_116
  let v435 : BitVec 32 := Scalar.extui v434
  let c0_i32_117 : BitVec 32 := 0#32
  let v436 : BitVec 1 := Scalar.cmpi .slt c256_i32_113 c0_i32_117
  let v437 : BitVec 32 := Scalar.extui v436
  let v438 : BitVec 32 := Scalar.subi v435 v437
  let v439 : BitVec 1 := Scalar.cmpi .ne v433 v438
  let v440 : BitVec 32 := Scalar.remsi v0 c256_i32_113
  let c0_i32_118 : BitVec 32 := 0#32
  let v441 : BitVec 1 := Scalar.cmpi .ne v440 c0_i32_118
  let v442 : BitVec 1 := Scalar.andi v439 v441
  let v428 : BitVec 32 := Scalar.divsi v0 c256_i32_113
  let c1_i32_119 : BitVec 32 := 1#32
  let v443 : BitVec 32 := Scalar.subi v428 c1_i32_119
  let v444 : BitVec 32 := Scalar.select v442 v443 v428
  let c1_i32_126 : BitVec 32 := 1#32
  let v459 : BitVec 32 := Scalar.subi v444 c1_i32_126
  let c0_i32_120 : BitVec 32 := 0#32
  let v445 : BitVec 32 := Scalar.subi v444 c0_i32_120
  let c1_i32_121 : BitVec 32 := 1#32
  let v447 : BitVec 32 := Scalar.divsi v445 c1_i32_121
  let v448 : BitVec 32 := Scalar.muli v447 c1_i32_121
  let v449 : BitVec 32 := Scalar.addi c0_i32_120 v448
  let c1_i32_123 : BitVec 32 := 1#32
  let arg9 : BitVec 32 := Scf.iv v449 c1_i32_123 k0_t3
  let v460 : BitVec 32 := Scalar.subi v459 arg9
  let c256_i32_127 : BitVec 32 := 256#32
  let v461 : BitVec 32 := Scalar.muli v460 c256_i32_127
  let v462 : BitVec 32 := v461
  let v463 : Index := Scalar.indexCast v462
  let c0_128 : Index := 0#32
  ![v463.toNat, 0]
def k0_off4 (k0_t1 : Fin k0_t1_loop.trips) : Fin 3 → Nat :=
  let c0_i32 : BitVec 32 := 0#32
  let c1_i32 : BitVec 32 := 1#32
  let arg7 : BitVec 32 := Scf.iv c0_i32 c1_i32 k0_t1
  let v452 : Index := Scalar.indexCast arg7
  let c0_124 : Index := 0#32
  let c0_125 : Index := 0#32
  ![v452.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdReferenceIdeal.lean ====
abbrev S4096x3072 : Shape := ⟨2, ![4096, 3072]⟩
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩

abbrev nBuf : Space → Nat
  | .hbm => 115
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x3072, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x16x64, .f32⟩
  | .hbm, ⟨6, _⟩ => ⟨S16x4096x64, .f32⟩
  | .hbm, ⟨7, _⟩ => ⟨S4096x16x64, .f32⟩
  | .hbm, ⟨8, _⟩ => ⟨S16x4096x64, .f32⟩
  | .hbm, ⟨9, _⟩ => ⟨S4096x16x64, .f32⟩
  | .hbm, ⟨10, _⟩ => ⟨S16x4096x64, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S4096, .i32⟩
  | .hbm, ⟨16, _⟩ => ⟨S1x4096, .i32⟩
  | .hbm, ⟨17, _⟩ => ⟨S4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S16x4096x4096, .f32⟩
  | .hbm, ⟨23, _⟩ => ⟨S_, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096x4096, .f32⟩
  | .hbm, ⟨42, _⟩ => ⟨S16x4096x4096, .f32⟩
  | .hbm, ⟨43, _⟩ => ⟨S16x4096x4096, .f32⟩
  | .hbm, ⟨44, _⟩ => ⟨S16x4096x4096, .f32⟩
  | .hbm, ⟨45, _⟩ => ⟨S16x4096x4096, .i1⟩
  | .hbm, ⟨46, _⟩ => ⟨S16x4096x4096, .f32⟩
  | .hbm, ⟨47, _⟩ => ⟨S16x4096x4096, .f32⟩
  | .hbm, ⟨48, _⟩ => ⟨S16x4096x4096, .f32⟩
  | .hbm, ⟨49, _⟩ => ⟨S16x4096x4096, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S16x4096x4096, .f32⟩
  | .hbm, ⟨54, _⟩ => ⟨S16x4096x4096, .f32⟩
  | .hbm, ⟨55, _⟩ => ⟨S_, .f32⟩
  | .hbm, ⟨56, _⟩ => ⟨S_, .f32⟩
  | .hbm, ⟨57, _⟩ => ⟨S16x4096x4096, .i1⟩
  | .hbm, ⟨58, _⟩ => ⟨S16x4096x4096, .f32⟩
  | .hbm, ⟨59, _⟩ => ⟨S16x4096x4096, .f32⟩
  | .hbm, ⟨60, _⟩ => ⟨S_, .f32⟩
  | .hbm, ⟨61, _⟩ => ⟨S_, .f32⟩
  | .hbm, ⟨62, _⟩ => ⟨S16x4096x4096, .f32⟩
  | .hbm, ⟨63, _⟩ => ⟨S16x4096x4096, .f32⟩
  | .hbm, ⟨64, _⟩ => ⟨S16x4096x4096, .f32⟩
  | .hbm, ⟨65, _⟩ => ⟨S16x4096x4096, .f32⟩
  | .hbm, ⟨66, _⟩ => ⟨S_, .f32⟩
  | .hbm, ⟨67, _⟩ => ⟨S_, .f32⟩
  | .hbm, ⟨68, _⟩ => ⟨S16x4096x4096, .i1⟩
  | .hbm, ⟨69, _⟩ => ⟨S16x4096x4096, .f32⟩
  | .hbm, ⟨70, _⟩ => ⟨S16x4096x4096, .f32⟩
  | .hbm, ⟨71, _⟩ => ⟨S16x4096x64, .f32⟩
  | .hbm, ⟨72, _⟩ => ⟨S4096x16x64, .f32⟩
  | .hbm, ⟨73, _⟩ => ⟨S4096x1024, .f32⟩
  | .hbm, ⟨74, _⟩ => ⟨S4096x1024, .bf16⟩
  | .hbm, ⟨75, _⟩ => ⟨S4096x16x64, .f32⟩
  | .hbm, ⟨76, _⟩ => ⟨S16x4096x64, .f32⟩
  | .hbm, ⟨77, _⟩ => ⟨S4096x16x64, .f32⟩
  | .hbm, ⟨78, _⟩ => ⟨S16x4096x64, .f32⟩
  | .hbm, ⟨79, _⟩ => ⟨S16x4096x4096, .f32⟩
  | .hbm, ⟨80, _⟩ => ⟨S_, .f32⟩
  | .hbm, ⟨81, _⟩ => ⟨S16x4096x4096, .f32⟩
  | .hbm, ⟨82, _⟩ => ⟨S16x4096x4096, .f32⟩
  | .hbm, ⟨83, _⟩ => ⟨S4096, .i32⟩
  | .hbm, ⟨84, _⟩ => ⟨S1x4096, .i32⟩
  | .hbm, ⟨85, _⟩ => ⟨S4096, .i32⟩
  | .hbm, ⟨86, _⟩ => ⟨S4096x1, .i32⟩
  | .hbm, ⟨87, _⟩ => ⟨S4096x4096, .i32⟩
  | .hbm, ⟨88, _⟩ => ⟨S4096x4096, .i32⟩
  | .hbm, ⟨89, _⟩ => ⟨S4096x4096, .i1⟩
  | .hbm, ⟨90, _⟩ => ⟨S16x4096x4096, .f32⟩
  | .hbm, ⟨91, _⟩ => ⟨S16x4096x4096, .f32⟩
  | .hbm, ⟨92, _⟩ => ⟨S_, .f32⟩
  | .hbm, ⟨93, _⟩ => ⟨S16x4096x4096, .f32⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S16x4096x4096, .i1⟩
  | .hbm, ⟨98, _⟩ => ⟨S16x4096x4096, .f32⟩
  | .hbm, ⟨99, _⟩ => ⟨S16x4096x4096, .f32⟩
  | .hbm, ⟨100, _⟩ => ⟨S16x4096x4096, .f32⟩
  | .hbm, ⟨101, _⟩ => ⟨S16x4096x4096, .f32⟩
  | .hbm, ⟨102, _⟩ => ⟨S16x4096x4096, .f32⟩
  | .hbm, ⟨103, _⟩ => ⟨S16x4096x4096, .f32⟩
  | .hbm, ⟨104, _⟩ => ⟨S16x4096x4096, .f32⟩
  | .hbm, ⟨105, _⟩ => ⟨S16x4096x4096, .f32⟩
  | .hbm, ⟨106, _⟩ => ⟨S16x4096x4096, .f32⟩
  | .hbm, ⟨107, _⟩ => ⟨S_, .f32⟩
  | .hbm, ⟨108, _⟩ => ⟨S_, .f32⟩
  | .hbm, ⟨109, _⟩ => ⟨S16x4096x4096, .i1⟩
  | .hbm, ⟨110, _⟩ => ⟨S16x4096x4096, .f32⟩
  | .hbm, ⟨111, _⟩ => ⟨S16x4096x4096, .f32⟩
  | .hbm, ⟨112, _⟩ => ⟨S_, .f32⟩
  | .hbm, ⟨113, _⟩ => ⟨S16x4096, .f32⟩
  | .hbm, ⟨114, _⟩ => ⟨S16x4096x1, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v20 : Ref sig .tc := ⟨.hbm, 37, rfl⟩
abbrev main_v21 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v22 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v23 : Ref sig .tc := ⟨.hbm, 59, rfl⟩
abbrev main_call3_cst : Ref sig .tc := ⟨.hbm, 60, rfl⟩
abbrev main_call3_v0 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_cst_2 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_call5_v0 : Ref sig .tc := ⟨.hbm, 91, rfl⟩
abbrev main_call5_call0_cst : Ref sig .tc := ⟨.hbm, 92, rfl⟩
abbrev main_call5_call0_v0 : Ref sig .tc := ⟨.hbm, 93, rfl⟩
abbrev main_call5_call0_v1 : Ref sig .tc := ⟨.hbm, 94, rfl⟩
abbrev main_call5_call0_v2 : Ref sig .tc := ⟨.hbm, 95, rfl⟩
abbrev main_call5_call0_v3 : Ref sig .tc := ⟨.hbm, 96, rfl⟩
abbrev main_call5_call0_v4 : Ref sig .tc := ⟨.hbm, 97, rfl⟩
abbrev main_call5_call0_v5 : Ref sig .tc := ⟨.hbm, 98, rfl⟩
abbrev main_call5_call0_v6 : Ref sig .tc := ⟨.hbm, 99, rfl⟩
abbrev main_call5_call0_v7 : Ref sig .tc := ⟨.hbm, 100, rfl⟩
abbrev main_call5_call0_v8 : Ref sig .tc := ⟨.hbm, 101, rfl⟩
abbrev main_call5_call0_v9 : Ref sig .tc := ⟨.hbm, 102, rfl⟩
abbrev main_call5_call0_v10 : Ref sig .tc := ⟨.hbm, 103, rfl⟩
abbrev main_call5_call0_v11 : Ref sig .tc := ⟨.hbm, 104, rfl⟩
abbrev main_call5_v1 : Ref sig .tc := ⟨.hbm, 105, rfl⟩
abbrev main_v48 : Ref sig .tc := ⟨.hbm, 106, rfl⟩
abbrev main_cst_3 : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_v49 : Ref sig .tc := ⟨.hbm, 111, rfl⟩
abbrev main_cst_4 : Ref sig .tc := ⟨.hbm, 112, rfl⟩
abbrev main_v50 : Ref sig .tc := ⟨.hbm, 113, rfl⟩
abbrev main_v51 : Ref sig .tc := ⟨.hbm, 114, rfl⟩

abbrev nD : Nat := 1
abbrev τ : Topo := Topo.v7x

variable {F : FTy → Type} [FloatOps F]
-- ==== Proof.Run.lean ====
module

public import proofs.«01_k».proof.Proof.Gen.KernelIdeal.Loops
public import proofs.«01_k».proof.Proof.Gen.KernelIdeal.Frame
public import Idealize.ShloMosaic.Lib.LoopRemainder
public import Idealize.ShloMosaic.Lib.VecWindow

@[expose] public section

set_option maxRecDepth 16384

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄K" => MT nD τ sig Unit (Elt F) ℕ (UR sig nD τ) ℕ

/-- What one head's pass touches: the key, value and row-sum blocks it reads, the two gradient blocks it adds to. -/
abbrev HeadRes (c : Dev nD) (arg3 : Memref sig .tc .vmem S4096x128 .bf16) (arg4 : Memref sig .tc .vmem S4096x128 .bf16)
    (arg5 : Memref sig .tc .vmem S2x2048x1 .f32) (arg8 : Memref sig .tc .vmem S4096x128 .f32) (arg9 : Memref sig .tc .vmem S4096x128 .f32)
    (X3 : BufTy.Contents (Elt F) arg3.view.ty) (X4 : BufTy.Contents (Elt F) arg4.view.ty) (X5 : BufTy.Contents (Elt F) arg5.view.ty)
    (f8 : BufTy.Contents (Elt F) arg8.view.ty) (f9 : BufTy.Contents (Elt F) arg9.view.ty) : sProp 𝕄K :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (arg8.view.loc (c : Thread nD τ) ↦[arg8.view.set]{fullShare} f8) ∗ (arg9.view.loc (c : Thread nD τ) ↦[arg9.view.set]{fullShare} f9))

section Body

variable (c : Dev nD) (i : grid0.Coords)
  (arg2 : Memref sig .tc .vmem S2048x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S2x2048x1 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S4096x128 .f32) (harg8 : arg8.IsWhole) (arg9 : Memref sig .tc .vmem S4096x128 .f32) (harg9 : arg9.IsWhole)
  (v3 : BitVec 32) (v4 : Vec F S2048x128 .bf16) (v7 : Vec F S2048x128 .f32)
  (X3 : BufTy.Contents (Elt F) arg3.view.ty) (X4 : BufTy.Contents (Elt F) arg4.view.ty) (X5 : BufTy.Contents (Elt F) arg5.view.ty)

set_option maxHeartbeats 4000000 in
/-- One head's pass, run once at a symbolic head: what it yields and what it writes into the two gradient blocks. -/
@[irreducible] def headTrip (k : Fin k0_t1_loop.trips) :
    Σ' (R : FVec F S2048x128 .f32 → BufTy.Contents (Elt F) arg8.view.ty → BufTy.Contents (Elt F) arg9.view.ty → FVec F S2048x128 .f32)
      (L8 : FVec F S2048x128 .f32 → BufTy.Contents (Elt F) arg8.view.ty → BufTy.Contents (Elt F) arg9.view.ty → List (View.Piece (Elt F) S4096x128 .f32)),
      { L9 : FVec F S2048x128 .f32 → BufTy.Contents (Elt F) arg8.view.ty → BufTy.Contents (Elt F) arg9.view.ty → List (View.Piece (Elt F) S4096x128 .f32) //
        ∀ (E : Set ℕ) (acc : FVec F S2048x128 .f32) (f8 : BufTy.Contents (Elt F) arg8.view.ty) (f9 : BufTy.Contents (Elt F) arg9.view.ty),
          HeadRes (F := F) c arg3 arg4 arg5 arg8 arg9 X3 X4 X5 f8 f9
          ⊢ wp frame (wpE (defs₀ (F := F)) Variants.none (c : Thread nD τ) none) E (k0_t1_body (F := F) i arg2 harg2 arg3 harg3 arg4 harg4 arg5 harg5 arg6 harg6 arg7 harg7 arg8 harg8 arg9 harg9 v3 v4 v7 k acc)
            (fun yld => iprop(⌜yld = R acc f8 f9⌝ ∗ HeadRes (F := F) c arg3 arg4 arg5 arg8 arg9 X3 X4 X5
              (arg8.view.writes (Elt F) f8 (L8 acc f8 f9)) (arg9.view.writes (Elt F) f9 (L9 acc f8 f9)))) } := by
  refine ⟨?_, ?_, ?_, fun E acc f8 f9 => ?run⟩
  case run =>
    unfold k0_t1_body
    iintro ⟨H3, H4, H5, H8, H9⟩
    sl_exec_parts
    sl_step
    sl_close

variable (G8 : BufTy.Contents (Elt F) arg8.view.ty) (G9 : BufTy.Contents (Elt F) arg9.view.ty)

/-- One head's contribution to the state: the new accumulator and the pieces written into the two gradient blocks. -/
@[irreducible] def headStep (k : ℕ)
    (prev : FVec F S2048x128 .f32 × List (View.Piece (Elt F) S4096x128 .f32) × List (View.Piece (Elt F) S4096x128 .f32)) :
    FVec F S2048x128 .f32 × List (View.Piece (Elt F) S4096x128 .f32) × List (View.Piece (Elt F) S4096x128 .f32) :=
  if h : k < k0_t1_loop.trips then
    ((headTrip c i arg2 harg2 arg3 harg3 arg4 harg4 arg5 harg5 arg6 harg6 arg7 harg7 arg8 harg8 arg9 harg9 v3 v4 v7 X3 X4 X5 ⟨k, h⟩).1 prev.1
      (arg8.view.writes (Elt F) G8 prev.2.1) (arg9.view.writes (Elt F) G9 prev.2.2),
     (headTrip c i arg2 harg2 arg3 harg3 arg4 harg4 arg5 harg5 arg6 harg6 arg7 harg7 arg8 harg8 arg9 harg9 v3 v4 v7 X3 X4 X5 ⟨k, h⟩).2.1 prev.1
      (arg8.view.writes (Elt F) G8 prev.2.1) (arg9.view.writes (Elt F) G9 prev.2.2) ++ prev.2.1,
     (headTrip c i arg2 harg2 arg3 harg3 arg4 harg4 arg5 harg5 arg6 harg6 arg7 harg7 arg8 harg8 arg9 harg9 v3 v4 v7 X3 X4 X5 ⟨k, h⟩).2.2.1 prev.1
      (arg8.view.writes (Elt F) G8 prev.2.1) (arg9.view.writes (Elt F) G9 prev.2.2) ++ prev.2.2)
  else prev

/-- The state before head `k`: the accumulator, and the pieces the earlier heads wrote. -/
def headSt (init : FVec F S2048x128 .f32) : ℕ → FVec F S2048x128 .f32 × List (View.Piece (Elt F) S4096x128 .f32) × List (View.Piece (Elt F) S4096x128 .f32)
  | 0 => (init, [], [])
  | k + 1 => headStep c i arg2 harg2 arg3 harg3 arg4 harg4 arg5 harg5 arg6 harg6 arg7 harg7 arg8 harg8 arg9 harg9 v3 v4 v7 X3 X4 X5 G8 G9 k (headSt init k)

theorem headSt_succ (init : FVec F S2048x128 .f32) (k : Fin k0_t1_loop.trips) :
    headSt c i arg2 harg2 arg3 harg3 arg4 harg4 arg5 harg5 arg6 harg6 arg7 harg7 arg8 harg8 arg9 harg9 v3 v4 v7 X3 X4 X5 G8 G9 init (k.val + 1) =
      ((headTrip c i arg2 harg2 arg3 harg3 arg4 harg4 arg5 harg5 arg6 harg6 arg7 harg7 arg8 harg8 arg9 harg9 v3 v4 v7 X3 X4 X5 k).1 (headSt c i arg2 harg2 arg3 harg3 arg4 harg4 arg5 harg5 arg6 harg6 arg7 harg7 arg8 harg8 arg9 harg9 v3 v4 v7 X3 X4 X5 G8 G9 init k.val).1 (arg8.view.writes (Elt F) G8 (headSt c i arg2 harg2 arg3 harg3 arg4 harg4 arg5 harg5 arg6 harg6 arg7 harg7 arg8 harg8 arg9 harg9 v3 v4 v7 X3 X4 X5 G8 G9 init k.val).2.1) (arg9.view.writes (Elt F) G9 (headSt c i arg2 harg2 arg3 harg3 arg4 harg4 arg5 harg5 arg6 harg6 arg7 harg7 arg8 harg8 arg9 harg9 v3 v4 v7 X3 X4 X5 G8 G9 init k.val).2.2),
       (headTrip c i arg2 harg2 arg3 harg3 arg4 harg4 arg5 harg5 arg6 harg6 arg7 harg7 arg8 harg8 arg9 harg9 v3 v4 v7 X3 X4 X5 k).2.1 (headSt c i arg2 harg2 arg3 harg3 arg4 harg4 arg5 harg5 arg6 harg6 arg7 harg7 arg8 harg8 arg9 harg9 v3 v4 v7 X3 X4 X5 G8 G9 init k.val).1 (arg8.view.writes (Elt F) G8 (headSt c i arg2 harg2 arg3 harg3 arg4 harg4 arg5 harg5 arg6 harg6 arg7 harg7 arg8 harg8 arg9 harg9 v3 v4 v7 X3 X4 X5 G8 G9 init k.val).2.1) (arg9.view.writes (Elt F) G9 (headSt c i arg2 harg2 arg3 harg3 arg4 harg4 arg5 harg5 arg6 harg6 arg7 harg7 arg8 harg8 arg9 harg9 v3 v4 v7 X3 X4 X5 G8 G9 init k.val).2.2) ++ (headSt c i arg2 harg2 arg3 harg3 arg4 harg4 arg5 harg5 arg6 harg6 arg7 harg7 arg8 harg8 arg9 harg9 v3 v4 v7 X3 X4 X5 G8 G9 init k.val).2.1,
       (headTrip c i arg2 harg2 arg3 harg3 arg4 harg4 arg5 harg5 arg6 harg6 arg7 harg7 arg8 harg8 arg9 harg9 v3 v4 v7 X3 X4 X5 k).2.2.1 (headSt c i arg2 harg2 arg3 harg3 arg4 harg4 arg5 harg5 arg6 harg6 arg7 harg7 arg8 harg8 arg9 harg9 v3 v4 v7 X3 X4 X5 G8 G9 init k.val).1 (arg8.view.writes (Elt F) G8 (headSt c i arg2 harg2 arg3 harg3 arg4 harg4 arg5 harg5 arg6 harg6 arg7 harg7 arg8 harg8 arg9 harg9 v3 v4 v7 X3 X4 X5 G8 G9 init k.val).2.1) (arg9.view.writes (Elt F) G9 (headSt c i arg2 harg2 arg3 harg3 arg4 harg4 arg5 harg5 arg6 harg6 arg7 harg7 arg8 harg8 arg9 harg9 v3 v4 v7 X3 X4 X5 G8 G9 init k.val).2.2) ++ (headSt c i arg2 harg2 arg3 harg3 arg4 harg4 arg5 harg5 arg6 harg6 arg7 harg7 arg8 harg8 arg9 harg9 v3 v4 v7 X3 X4 X5 G8 G9 init k.val).2.2) := by
  rw [headSt.eq_2]; unfold headStep; exact dif_pos k.isLt

/-- Before the first head the accumulator is the initial one. -/
theorem headSt_zero (init : FVec F S2048x128 .f32) :
    init = (headSt c i arg2 harg2 arg3 harg3 arg4 harg4 arg5 harg5 arg6 harg6 arg7 harg7 arg8 harg8 arg9 harg9 v3 v4 v7 X3 X4 X5 G8 G9 init 0).1 := rfl

set_option warn.classDefReducibility false in
/-- The loop over the two heads: before head `k` the gradient blocks hold what the earlier heads wrote. -/
@[sl_loop] def loopInv_heads (init : FVec F S2048x128 .f32) :
    LoopInvTy_k0_t1 (F := F) Unit ℕ (UR sig nD τ) ℕ Variants.none c none Set.univ i arg2 harg2 arg3 harg3 arg4 harg4 arg5 harg5 arg6 harg6 arg7 harg7 arg8 harg8 arg9 harg9 v3 v4 v7 init where
  inv k acc := iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5)
    ∗ (∃ f, (arg8.view.loc (c : Thread nD τ) ↦[arg8.view.set]{fullShare} f) ∗ ⌜f = arg8.view.writes (Elt F) G8 (headSt c i arg2 harg2 arg3 harg3 arg4 harg4 arg5 harg5 arg6 harg6 arg7 harg7 arg8 harg8 arg9 harg9 v3 v4 v7 X3 X4 X5 G8 G9 init k).2.1⌝)
    ∗ (∃ f, (arg9.view.loc (c : Thread nD τ) ↦[arg9.view.set]{fullShare} f) ∗ ⌜f = arg9.view.writes (Elt F) G9 (headSt c i arg2 harg2 arg3 harg3 arg4 harg4 arg5 harg5 arg6 harg6 arg7 harg7 arg8 harg8 arg9 harg9 v3 v4 v7 X3 X4 X5 G8 G9 init k).2.2⌝)
    ∗ ⌜acc = (headSt c i arg2 harg2 arg3 harg3 arg4 harg4 arg5 harg5 arg6 harg6 arg7 harg7 arg8 harg8 arg9 harg9 v3 v4 v7 X3 X4 X5 G8 G9 init k).1⌝)
  step k acc := by
    iintro ⟨H3, H4, H5, ⟨%f8, H8, %h8⟩, ⟨%f9, H9, %h9⟩, %hacc⟩
    subst hacc
    iapply (wp_wand_r Idealize.ShloMosaic.frame (wpE (defs₀ (F := F)) Variants.none (c : Thread nD τ) none) Set.univ)
    isplitl [H3 H4 H5 H8 H9]
    · iapply ((headTrip c i arg2 harg2 arg3 harg3 arg4 harg4 arg5 harg5 arg6 harg6 arg7 harg7 arg8 harg8 arg9 harg9 v3 v4 v7 X3 X4 X5 k).2.2.2 Set.univ (headSt c i arg2 harg2 arg3 harg3 arg4 harg4 arg5 harg5 arg6 harg6 arg7 harg7 arg8 harg8 arg9 harg9 v3 v4 v7 X3 X4 X5 G8 G9 init k.val).1 f8 f9)
      isplitl [H3]; · iexact H3
      isplitl [H4]; · iexact H4
      isplitl [H5]; · iexact H5
      isplitl [H8]; · iexact H8
      iexact H9
    · iintro %yld ⟨%hres, H3, H4, H5, H8, H9⟩
      isplitl [H3]; · iexact H3
      isplitl [H4]; · iexact H4
      isplitl [H5]; · iexact H5
      simp only [headSt_succ]
      isplitl [H8]
      · iexists _; isplitl [H8]; · iexact H8
        ipureintro; rw [h8, h9, ← View.writes_append]
      isplitl [H9]
      · iexists _; isplitl [H9]; · iexact H9
        ipureintro; rw [h8, h9, ← View.writes_append]
      ipureintro; rw [hres, h8, h9]

end Body

/-! ## The body at a grid point -/

section BodyRun

variable (c : Dev nD) (i : grid0.Coords)
  (arg2 : Memref sig .tc .vmem S2048x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S2x2048x1 .f32) (harg5 : arg5.IsWhole)
  (arg6 : Memref sig .tc .vmem S2048x128 .f32) (harg6 : arg6.IsWhole) (arg7 : Memref sig .tc .vmem S2048x128 .f32) (harg7 : arg7.IsWhole)
  (arg8 : Memref sig .tc .vmem S4096x128 .f32) (harg8 : arg8.IsWhole) (arg9 : Memref sig .tc .vmem S4096x128 .f32) (harg9 : arg9.IsWhole)
  (x2 : Vec F S2048x128 .bf16) (x3 : Vec F S4096x128 .bf16) (x4 : Vec F S4096x128 .bf16) (x5 : Vec F S2x2048x1 .f32) (x6 : Vec F S2048x128 .f32)

/-- The three results' buffers, and the inputs' at their blocks. -/
abbrev BodyRes (f7 : BufTy.Contents (Elt F) arg7.view.ty) (f8 : BufTy.Contents (Elt F) arg8.view.ty) (f9 : BufTy.Contents (Elt F) arg9.view.ty) : sProp 𝕄K :=
  iprop((arg2.view.loc (c : Thread nD τ) ↦[arg2.view.set]{fullShare} harg2.unread x2) ∗ (arg3.view.loc (c : Thread nD τ) ↦[arg3.view.set]{fullShare} harg3.unread x3)
    ∗ (arg4.view.loc (c : Thread nD τ) ↦[arg4.view.set]{fullShare} harg4.unread x4) ∗ (arg5.view.loc (c : Thread nD τ) ↦[arg5.view.set]{fullShare} harg5.unread x5)
    ∗ (arg6.view.loc (c : Thread nD τ) ↦[arg6.view.set]{fullShare} harg6.unread x6) ∗ (arg7.view.loc (c : Thread nD τ) ↦[arg7.view.set]{fullShare} f7)
    ∗ (arg8.view.loc (c : Thread nD τ) ↦[arg8.view.set]{fullShare} f8) ∗ (arg9.view.loc (c : Thread nD τ) ↦[arg9.view.set]{fullShare} f9))

/-- The state after both heads, from gradient blocks holding `x8` and `x9`. -/
def heads (x8 x9 : Vec F S4096x128 .f32) :=
  headSt c i arg2 harg2 arg3 harg3 arg4 harg4 arg5 harg5 arg6 harg6 arg7 harg7 arg8 harg8 arg9 harg9 (Scalar.muli (BitVec.ofNat 32 (i 1).val) 2048#32) x2 x6
    (harg3.unread x3) (harg4.unread x4) (harg5.unread x5) (harg8.unread x8) (harg9.unread x9) (k0_pay8 (F := F)) k0_t1_loop.trips

/-- The query gradient the body leaves. -/
def out7 (x8 x9 : Vec F S4096x128 .f32) : Vec F S2048x128 .f32 := k0_pay12 (heads c i arg2 harg2 arg3 harg3 arg4 harg4 arg5 harg5 arg6 harg6 arg7 harg7 arg8 harg8 arg9 harg9 x2 x3 x4 x5 x6 x8 x9).1

/-- The key gradient the body leaves. -/
def out8 (x8 x9 : Vec F S4096x128 .f32) : Vec F S4096x128 .f32 :=
  arg8.view.read (Elt F) (arg8.view.writes (Elt F) (harg8.unread x8) (heads c i arg2 harg2 arg3 harg3 arg4 harg4 arg5 harg5 arg6 harg6 arg7 harg7 arg8 harg8 arg9 harg9 x2 x3 x4 x5 x6 x8 x9).2.1)

/-- The value gradient the body leaves. -/
def out9 (x8 x9 : Vec F S4096x128 .f32) : Vec F S4096x128 .f32 :=
  arg9.view.read (Elt F) (arg9.view.writes (Elt F) (harg9.unread x9) (heads c i arg2 harg2 arg3 harg3 arg4 harg4 arg5 harg5 arg6 harg6 arg7 harg7 arg8 harg8 arg9 harg9 x2 x3 x4 x5 x6 x8 x9).2.2)

set_option maxHeartbeats 4000000 in
/-- The body where the gradient blocks are first cleared. -/
theorem body_first (hi : Scalar.cmpi .ne (Scalar.extui (Scalar.cmpi .eq (BitVec.ofNat 32 (i 1).val) 0#32)) 0#32 = 1#1)
    (f7 : BufTy.Contents (Elt F) arg7.view.ty) (f8 : BufTy.Contents (Elt F) arg8.view.ty) (f9 : BufTy.Contents (Elt F) arg9.view.ty) :
    BodyRes c arg2 harg2 arg3 harg3 arg4 harg4 arg5 harg5 arg6 harg6 arg7 arg8 arg9 x2 x3 x4 x5 x6 f7 f8 f9
    ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9)
      (fun _ => BodyRes c arg2 harg2 arg3 harg3 arg4 harg4 arg5 harg5 arg6 harg6 arg7 arg8 arg9 x2 x3 x4 x5 x6
        (harg7.unread (out7 c i arg2 harg2 arg3 harg3 arg4 harg4 arg5 harg5 arg6 harg6 arg7 harg7 arg8 harg8 arg9 harg9 x2 x3 x4 x5 x6 k0_pay1 k0_pay2)) (harg8.unread (out8 c i arg2 harg2 arg3 harg3 arg4 harg4 arg5 harg5 arg6 harg6 arg7 harg7 arg8 harg8 arg9 harg9 x2 x3 x4 x5 x6 k0_pay1 k0_pay2)) (harg9.unread (out9 c i arg2 harg2 arg3 harg3 arg4 harg4 arg5 harg5 arg6 harg6 arg7 harg7 arg8 harg8 arg9 harg9 x2 x3 x4 x5 x6 k0_pay1 k0_pay2))) := by
  have e2 : View.readAt (Elt F) arg2.view (Rect.unit ![0, 0] S2048x128.size inb_S2048x128_S2048x128_0_0).toLoadRect (harg2.unread x2) = x2 := by
    rw [View.readAt_full, harg2.read_unread]
  have e6 : View.readAt (Elt F) arg6.view (Rect.unit ![0, 0] S2048x128.size inb_S2048x128_S2048x128_0_0).toLoadRect (harg6.unread x6) = x6 := by
    rw [View.readAt_full, harg6.read_unread]
  simp only [cc0_sb_bwd_eq_skeleton]; unfold cc0_sb_bwd_skel
  iintro ⟨H2, H3, H4, H5, H6, H7, H8, H9⟩
  sl_exec
  sl_step
  rw [View.writes_append, View.writes_append,
    show arg8.view.writes (Elt F) arg8.view.junk body_first.sl.H8_1 = harg8.unread k0_pay1 from harg8.eq_unread (View.read_writes_full _ _ _ _ _),
    show arg9.view.writes (Elt F) arg9.view.junk body_first.sl.H9_1 = harg9.unread k0_pay2 from harg9.eq_unread (View.read_writes_full _ _ _ _ _)]
  isplitl [H2]; · iexact H2
  isplitl [H3]; · iexact H3
  isplitl [H4]; · iexact H4
  isplitl [H5]; · iexact H5
  isplitl [H6]; · iexact H6
  isplitl [H7]
  · rw [← harg7.eq_unread (View.read_writes_full arg7.view f7 inb_S2048x128_S2048x128_0_0 (out7 c i arg2 harg2 arg3 harg3 arg4 harg4 arg5 harg5 arg6 harg6 arg7 harg7 arg8 harg8 arg9 harg9 x2 x3 x4 x5 x6 k0_pay1 k0_pay2) [])]
    iexact H7
  isplitl [H8]
  · unfold out8; rw [harg8.unread_read]; iexact H8
  · unfold out9; rw [harg9.unread_read]; iexact H9

set_option maxHeartbeats 4000000 in
/-- The body where the gradient blocks are added to. -/
theorem body_next (hi : ¬ Scalar.cmpi .ne (Scalar.extui (Scalar.cmpi .eq (BitVec.ofNat 32 (i 1).val) 0#32)) 0#32 = 1#1)
    (f7 : BufTy.Contents (Elt F) arg7.view.ty) (x8 x9 : Vec F S4096x128 .f32) :
    BodyRes c arg2 harg2 arg3 harg3 arg4 harg4 arg5 harg5 arg6 harg6 arg7 arg8 arg9 x2 x3 x4 x5 x6 f7 (harg8.unread x8) (harg9.unread x9)
    ⊢ wp frame (wpE (defs₀ (F := F)) Variants.none (c : Thread nD τ) none) Set.univ (cc0_sb_bwd (F := F) i arg2 harg2 arg3 harg3 arg4 harg4 arg5 harg5 arg6 harg6 arg7 harg7 arg8 harg8 arg9 harg9)
      (fun _ => BodyRes c arg2 harg2 arg3 harg3 arg4 harg4 arg5 harg5 arg6 harg6 arg7 arg8 arg9 x2 x3 x4 x5 x6
        (harg7.unread (out7 c i arg2 harg2 arg3 harg3 arg4 harg4 arg5 harg5 arg6 harg6 arg7 harg7 arg8 harg8 arg9 harg9 x2 x3 x4 x5 x6 x8 x9)) (harg8.unread (out8 c i arg2 harg2 arg3 harg3 arg4 harg4 arg5 harg5 arg6 harg6 arg7 harg7 arg8 harg8 arg9 harg9 x2 x3 x4 x5 x6 x8 x9)) (harg9.unread (out9 c i arg2 harg2 arg3 harg3 arg4 harg4 arg5 harg5 arg6 harg6 arg7 harg7 arg8 harg8 arg9 harg9 x2 x3 x4 x5 x6 x8 x9))) := by
  have e2 : View.readAt (Elt F) arg2.view (Rect.unit ![0, 0] S2048x128.size inb_S2048x128_S2048x128_0_0).toLoadRect (harg2.unread x2) = x2 := by
    rw [View.readAt_full, harg2.read_unread]
  have e6 : View.readAt (Elt F) arg6.view (Rect.unit ![0, 0] S2048x128.size inb_S2048x128_S2048x128_0_0).toLoadRect (harg6.unread x6) = x6 := by
    rw [View.readAt_full, harg6.read_unread]
  simp only [cc0_sb_bwd_eq_skeleton]; unfold cc0_sb_bwd_skel
  iintro ⟨H2, H3, H4, H5, H6, H7, H8, H9⟩
  sl_exec
  sl_step
  isplitl [H2]; · iexact H2
  isplitl [H3]; · iexact H3
  isplitl [H4]; · iexact H4
  isplitl [H5]; · iexact H5
  isplitl [H6]; · iexact H6
  isplitl [H7]
  · rw [← harg7.eq_unread (View.read_writes_full arg7.view f7 inb_S2048x128_S2048x128_0_0 (out7 c i arg2 harg2 arg3 harg3 arg4 harg4 arg5 harg5 arg6 harg6 arg7 harg7 arg8 harg8 arg9 harg9 x2 x3 x4 x5 x6 x8 x9) [])]
    iexact H7
  isplitl [H8]
  · unfold out8; rw [harg8.unread_read]; iexact H8
  · unfold out9; rw [harg9.unread_read]; iexact H9

end BodyRun

end Cert.SbBwd

end
-- ==== Proof.FrameRun.lean ====
module

public import proofs.«01_k».proof.Proof.Run
public import Idealize.ShloMosaic.Lib.Claim

@[expose] public section

set_option maxRecDepth 16384

noncomputable section

namespace Cert.SbBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄K" => MT nD τ sig Unit (Elt F) ℕ (UR sig nD τ) ℕ

variable (m : (ℓ : Loc nD τ sig) → Buf (Elt F) ℓ) (ρ : Dev nD → PrngReg)

/-- The query gradient point `t` leaves, from gradient blocks holding `x8` and `x9`. -/
def o7 (c : Dev nD) (t : Fin cfg0.N) (x8 x9 : Vec F S4096x128 .f32) : Vec F S2048x128 .f32 :=
  out7 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) x8 x9
/-- The key gradient point `t` leaves. -/
def o8 (c : Dev nD) (t : Fin cfg0.N) (x8 x9 : Vec F S4096x128 .f32) : Vec F S4096x128 .f32 :=
  out8 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) x8 x9
/-- The value gradient point `t` leaves. -/
def o9 (c : Dev nD) (t : Fin cfg0.N) (x8 x9 : Vec F S4096x128 .f32) : Vec F S4096x128 .f32 :=
  out9 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) x8 x9

/-- The point before. -/
abbrev prv (t : Fin cfg0.N) : Fin cfg0.N := ⟨t.val - 1, Nat.lt_of_le_of_lt (Nat.sub_le _ _) t.isLt⟩

/-- What the key gradient's buffer holds when point `t` adds to it: zeros where it is cleared, else what the point before left. -/
def p8 (c : Dev nD) (t : Fin cfg0.N) : Vec F S4096x128 .f32 := if t.val % 2 = 0 then k0_pay1 else o8 m c (prv t) k0_pay1 k0_pay2
/-- The same of the value gradient. -/
def p9 (c : Dev nD) (t : Fin cfg0.N) : Vec F S4096x128 .f32 := if t.val % 2 = 0 then k0_pay2 else o9 m c (prv t) k0_pay1 k0_pay2

/-- The pipeline's proof data: inputs at their blocks, the three results at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o7 m c t (p8 m c t) (p9 m c t)
    | ⟨6, _⟩ => o8 m c t (p8 m c t) (p9 m c t)
    | ⟨7, _⟩ => o9 m c t (p8 m c t) (p9 m c t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = o7 m c t (p8 m c t) (p9 m c t) := by dsimp only [dats]
theorem after0_6 (c : Dev nD) (t : Fin cfg0.N) : (dats m 0 c).after 6 t = o8 m c t (p8 m c t) (p9 m c t) := by dsimp only [dats]
theorem after0_7 (c : Dev nD) (t : Fin cfg0.N) : (dats m 0 c).after 7 t = o9 m c t (p8 m c t) (p9 m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body clears the gradient blocks exactly at the even points. -/
theorem clears_iff : ∀ t : Fin cfg0.N, Scalar.cmpi .ne (Scalar.extui (Scalar.cmpi .eq (BitVec.ofNat 32 (grid0.coords t 1).val) 0#32)) 0#32 = 1#1 ↔ t.val % 2 = 0 :=
  (by decide +kernel : ∀ t : Fin grid0.N, Scalar.cmpi .ne (Scalar.extui (Scalar.cmpi .eq (BitVec.ofNat 32 (grid0.coords t 1).val) 0#32)) 0#32 = 1#1 ↔ t.val % 2 = 0)

theorem before0_6 (c : Dev nD) (t : Fin cfg0.N) (h : ¬ t.val % 2 = 0) (d) : (dats m 0 c).before 6 t d = p8 m c t := by
  have h' : (prv t).val % 2 = 0 := by show (t.val - 1) % 2 = 0; omega
  rw [(dats m 0 c).before_out_kept 6 rfl t (by omega)
    (by rw [Bool.eq_false_iff, ne_eq, flush0_6]; show ¬ (t.val - 1) % 2 = 1; omega) (fun _ => rfl) (fun _ _ => rfl) d, after0_6]
  unfold p8 p9; rw [if_neg h, if_pos h', if_pos h']
theorem before0_7 (c : Dev nD) (t : Fin cfg0.N) (h : ¬ t.val % 2 = 0) (d) : (dats m 0 c).before 7 t d = p9 m c t := by
  have h' : (prv t).val % 2 = 0 := by show (t.val - 1) % 2 = 0; omega
  rw [(dats m 0 c).before_out_kept 7 rfl t (by omega)
    (by rw [Bool.eq_false_iff, ne_eq, flush0_7]; show ¬ (t.val - 1) % 2 = 1; omega) (fun _ => rfl) (fun _ _ => rfl) d, after0_7]
  unfold p8 p9; rw [if_neg h, if_pos h', if_pos h']

/-- A whole memref owned at `X` is its buffer held at the contents that read `X`. -/
theorem owns_elim {c : Dev nD} {sp : Space} {s : Shape} {e : EltTy} {M : Memref sig .tc sp s e} (h : M.IsWhole) (X : Vec F s e) :
    (owns (c : Thread nD τ) M fullShare X : sProp 𝕄K) ⊢ (M.view.loc (c : Thread nD τ) ↦[M.view.set]{fullShare} h.unread X) := by
  unfold owns
  iintro ⟨%f, %hf, H⟩
  rw [h.eq_unread hf]
  iexact H

/-- and conversely. -/
theorem owns_intro {c : Dev nD} {sp : Space} {s : Shape} {e : EltTy} {M : Memref sig .tc sp s e} (h : M.IsWhole) (X : Vec F s e) :
    (M.view.loc (c : Thread nD τ) ↦[M.view.set]{fullShare} h.unread X : sProp 𝕄K) ⊢ owns (c : Thread nD τ) M fullShare X := by
  unfold owns
  iintro H
  iexists _; isplitr; swap; · iexact H
  ipureintro; exact h.read_unread _

/-- What the body is called with at point `t`, -/
def bodyPre (c : Dev nD) (t : Fin cfg0.N) : sProp 𝕄K :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄K :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  by_cases h : t.val % 2 = 0
  · simp only [before0_0, before0_1, before0_2, before0_3, before0_4]
    unfold p8 p9; rw [if_pos h, if_pos h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_wand_r Idealize.ShloMosaic.frame (wpE (defs₀ (F := F)) Variants.none (c : Thread nD τ) none) Set.univ)
    isplitl [H0 H1 H2 H3 H4 H5 H6 H7]
    · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) ((clears_iff t).mpr h) _ _ _)
      isplitl [H0]; · iapply (owns_elim (hstage0_0 ((cfg0.slots t 0).cast nbuf0_0)) _); iexact H0
      isplitl [H1]; · iapply (owns_elim (hstage0_1 ((cfg0.slots t 1).cast nbuf0_1)) _); iexact H1
      isplitl [H2]; · iapply (owns_elim (hstage0_2 ((cfg0.slots t 2).cast nbuf0_2)) _); iexact H2
      isplitl [H3]; · iapply (owns_elim (hstage0_3 ((cfg0.slots t 3).cast nbuf0_3)) _); iexact H3
      isplitl [H4]; · iapply (owns_elim (hstage0_4 ((cfg0.slots t 4).cast nbuf0_4)) _); iexact H4
      isplitl [H5]; · iapply (owns_elim (hstage0_5 ((cfg0.slots t 5).cast nbuf0_5)) _); iexact H5
      isplitl [H6]; · iapply (owns_elim (hstage0_6 ((cfg0.slots t 6).cast nbuf0_6)) _); iexact H6
      iapply (owns_elim (hstage0_7 ((cfg0.slots t 7).cast nbuf0_7)) _); iexact H7
    · iintro %_ ⟨H0, H1, H2, H3, H4, H5, H6, H7⟩
      isplitl [HΦ]; · iexact HΦ
      isplitl [Ho]; · iexact Ho
      isplitl [H0]; · iapply (owns_intro (hstage0_0 ((cfg0.slots t 0).cast nbuf0_0)) _); iexact H0
      isplitl [H1]; · iapply (owns_intro (hstage0_1 ((cfg0.slots t 1).cast nbuf0_1)) _); iexact H1
      isplitl [H2]; · iapply (owns_intro (hstage0_2 ((cfg0.slots t 2).cast nbuf0_2)) _); iexact H2
      isplitl [H3]; · iapply (owns_intro (hstage0_3 ((cfg0.slots t 3).cast nbuf0_3)) _); iexact H3
      isplitl [H4]; · iapply (owns_intro (hstage0_4 ((cfg0.slots t 4).cast nbuf0_4)) _); iexact H4
      isplitl [H5]; · iapply (owns_intro (hstage0_5 ((cfg0.slots t 5).cast nbuf0_5)) _); iexact H5
      isplitl [H6]; · iapply (owns_intro (hstage0_6 ((cfg0.slots t 6).cast nbuf0_6)) _); iexact H6
      iapply (owns_intro (hstage0_7 ((cfg0.slots t 7).cast nbuf0_7)) _); iexact H7
  · simp only [before0_0, before0_1, before0_2, before0_3, before0_4, before0_6 m c t h, before0_7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_wand_r Idealize.ShloMosaic.frame (wpE (defs₀ (F := F)) Variants.none (c : Thread nD τ) none) Set.univ)
    isplitl [H0 H1 H2 H3 H4 H5 H6 H7]
    · iapply (body_next c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (iblk m c 0 t) (iblk m c 1 t) (iblk m c 2 t) (iblk m c 3 t) (iblk m c 4 t) (fun hc => h ((clears_iff t).mp hc)) _ (p8 m c t) (p9 m c t))
      isplitl [H0]; · iapply (owns_elim (hstage0_0 ((cfg0.slots t 0).cast nbuf0_0)) _); iexact H0
      isplitl [H1]; · iapply (owns_elim (hstage0_1 ((cfg0.slots t 1).cast nbuf0_1)) _); iexact H1
      isplitl [H2]; · iapply (owns_elim (hstage0_2 ((cfg0.slots t 2).cast nbuf0_2)) _); iexact H2
      isplitl [H3]; · iapply (owns_elim (hstage0_3 ((cfg0.slots t 3).cast nbuf0_3)) _); iexact H3
      isplitl [H4]; · iapply (owns_elim (hstage0_4 ((cfg0.slots t 4).cast nbuf0_4)) _); iexact H4
      isplitl [H5]; · iapply (owns_elim (hstage0_5 ((cfg0.slots t 5).cast nbuf0_5)) _); iexact H5
      isplitl [H6]; · iapply (owns_elim (hstage0_6 ((cfg0.slots t 6).cast nbuf0_6)) _); iexact H6
      iapply (owns_elim (hstage0_7 ((cfg0.slots t 7).cast nbuf0_7)) _); iexact H7
    · iintro %_ ⟨H0, H1, H2, H3, H4, H5, H6, H7⟩
      isplitl [HΦ]; · iexact HΦ
      isplitl [Ho]; · iexact Ho
      isplitl [H0]; · iapply (owns_intro (hstage0_0 ((cfg0.slots t 0).cast nbuf0_0)) _); iexact H0
      isplitl [H1]; · iapply (owns_intro (hstage0_1 ((cfg0.slots t 1).cast nbuf0_1)) _); iexact H1
      isplitl [H2]; · iapply (owns_intro (hstage0_2 ((cfg0.slots t 2).cast nbuf0_2)) _); iexact H2
      isplitl [H3]; · iapply (owns_intro (hstage0_3 ((cfg0.slots t 3).cast nbuf0_3)) _); iexact H3
      isplitl [H4]; · iapply (owns_intro (hstage0_4 ((cfg0.slots t 4).cast nbuf0_4)) _); iexact H4
      isplitl [H5]; · iapply (owns_intro (hstage0_5 ((cfg0.slots t 5).cast nbuf0_5)) _); iexact H5
      isplitl [H6]; · iapply (owns_intro (hstage0_6 ((cfg0.slots t 6).cast nbuf0_6)) _); iexact H6
      iapply (owns_intro (hstage0_7 ((cfg0.slots t 7).cast nbuf0_7)) _); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found by unifying the conclusion with this one, which takes unfolding plain definitions
-- in a metavariable's type
set_option backward.isDefEq.respectTransparency.types false in
/-- Every execution of the program ends, with every array at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.SbBwd

end
-- ==== Proof.Lift.lean ====
module

public import Idealize.ShloMosaic.Lib.MatmulPlain
public import Idealize.ShloMosaic.Lib.ValueIdx
public import Idealize.ShloMosaic.Lib.Pipeline.Value
public import Idealize.ShloMosaic.Lib.Pointwise.Contract
public import Idealize.ShloMosaic.PureOps.Ideal.Laws

@[expose] public section

noncomputable section

/-! Matrices of real numbers as vectors of the ideal instance, and what each operation of the kernel does to them. -/

namespace Cert.SbBwd

open Idealize.ShloMosaic Idealize.ShloMosaic.ValueIdx
open Finset (range)

/-- The shape of a matrix. -/
abbrev M (a b : ℕ) : Shape := ⟨2, ![a, b]⟩

/-- The matrix of real numbers `f`, as a vector. -/
def up2 (n m : ℕ) (f : ℕ → ℕ → ℝ) : (M n m).Idx → EReal := fun i => ((f (i 0).val (i 1).val : ℝ) : EReal)

/-- The matrix of truth values `p`, as a vector of bits. -/
def bits2 (n m : ℕ) (p : ℕ → ℕ → Bool) : IVec (M n m) 1 := fun i => BitVec.ofBool (p (i 0).val (i 1).val)

theorem up2_apply (n m : ℕ) (f : ℕ → ℕ → ℝ) (i : (M n m).Idx) : up2 n m f i = ((f (i 0).val (i 1).val : ℝ) : EReal) := rfl

theorem up2_congr {n m : ℕ} {f g : ℕ → ℕ → ℝ} (h : ∀ r < n, ∀ c < m, f r c = g r c) : up2 n m f = up2 n m g := by
  funext i
  rw [up2_apply, up2_apply, h _ (idx2_lt0 i) _ (idx2_lt1 i)]

/-- A finite sum of real numbers, in the extended reals. -/
theorem coe_sum_range (n : ℕ) (f : ℕ → ℝ) : ((∑ k ∈ range n, f k : ℝ) : EReal) = ∑ k : Fin n, ((f k.val : ℝ) : EReal) := by
  rw [Finset.sum_range]
  induction n with
  | zero => simp
  | succ n ih =>
    rw [Fin.sum_univ_castSucc, Fin.sum_univ_castSucc, EReal.coe_add]
    exact congrArg (· + _) (ih)

section Pointwise
variable {n m : ℕ} {φ ψ : FTy} (f g : ℕ → ℕ → ℝ)

theorem addf_up2 : addf (F := Ideal) (φ := φ) (up2 n m f) (up2 n m g) = up2 n m fun r c => f r c + g r c := by
  funext i; exact (EReal.coe_add _ _).symm
theorem subf_up2 : subf (F := Ideal) (φ := φ) (up2 n m f) (up2 n m g) = up2 n m fun r c => f r c - g r c := by
  funext i; exact (EReal.coe_sub _ _).symm
theorem mulf_up2 : mulf (F := Ideal) (φ := φ) (up2 n m f) (up2 n m g) = up2 n m fun r c => f r c * g r c := by
  funext i; exact (EReal.coe_mul _ _).symm
theorem minimumf_up2 : minimumf (F := Ideal) (φ := φ) (up2 n m f) (up2 n m g) = up2 n m fun r c => min (f r c) (g r c) := by
  funext i; exact (EReal.coe_strictMono.monotone.map_min (a := f (i 0).val (i 1).val) (b := g (i 0).val (i 1).val)).symm
theorem absf_up2 : absf (F := Ideal) (φ := φ) (up2 n m f) = up2 n m fun r c => |f r c| := by
  funext i
  show max (_ : EReal) (-_) = _
  rw [up2_apply, up2_apply, ← EReal.coe_neg, ← EReal.coe_strictMono.monotone.map_max]
  rfl
theorem exp_up2 : exp (F := Ideal) (φ := φ) (up2 n m f) = up2 n m fun r c => Real.exp (f r c) := rfl
theorem log_up2 (h : ∀ r c, 0 < f r c) : log (F := Ideal) (φ := φ) (up2 n m f) = up2 n m fun r c => Real.log (f r c) := by
  funext i
  exact if_neg (not_le.2 (h _ _))
theorem truncf_up2 (h : ψ.bits < φ.bits) : truncf (F := Ideal) (φ := φ) ψ (up2 n m f) h = up2 n m f := rfl
theorem extf_up2 (h : φ.bits < ψ.bits) : extf (F := Ideal) (φ := φ) ψ (up2 n m f) h = up2 n m f := rfl
theorem select_up2 (p : ℕ → ℕ → Bool) : select (bits2 n m p) (up2 n m f) (up2 n m g) = up2 n m fun r c => if p r c then f r c else g r c := by
  funext i
  rw [select_apply, up2_apply, up2_apply, up2_apply]
  show Scalar.select (BitVec.ofBool (p (i 0).val (i 1).val)) _ _ = _
  cases p (i 0).val (i 1).val <;> rfl

theorem zero_up2 : constant (F := Ideal) (M n m) .f32 0x00000000#32 = up2 n m fun _ _ => 0 := by
  funext i; exact Ideal.ofBits_zero_f32
theorem bzero_up2 : broadcast (M n m) (Scalar.ofBits (F := Ideal) .f32 0x00000000#32) = up2 n m fun _ _ => 0 := by
  funext i; exact Ideal.ofBits_zero_f32
theorem bone_up2 : broadcast (M n m) (Scalar.ofBits (F := Ideal) .f32 0x3F800000#32) = up2 n m fun _ _ => 1 := by
  funext i
  show Ideal.ofBits .f32 0x3F800000#32 = _
  simp [Ideal.ofBits, Ideal.ieee, up2_apply, -EReal.coe_mul]; norm_num
theorem bzero16_up2 : broadcast (M n m) (Scalar.ofBits (F := Ideal) .bf16 0x0000#16) = up2 n m fun _ _ => 0 := by
  funext i
  show Ideal.ofBits .bf16 0x0000#16 = _
  simp [Ideal.ofBits, Ideal.ieee, up2_apply, -EReal.coe_mul]
theorem beighth_up2 : broadcast (M n m) (Scalar.ofBits (F := Ideal) .f32 0x3E000000#32) = up2 n m fun _ _ => 1 / 8 := by
  funext i
  show Ideal.ofBits .f32 0x3E000000#32 = _
  simp [Ideal.ofBits, Ideal.ieee, up2_apply, -EReal.coe_mul]; norm_num
theorem beighth16_up2 : broadcast (M n m) (Scalar.ofBits (F := Ideal) .bf16 0x3E00#16) = up2 n m fun _ _ => 1 / 8 := by
  funext i
  show Ideal.ofBits .bf16 0x3E00#16 = _
  simp [Ideal.ofBits, Ideal.ieee, up2_apply, -EReal.coe_mul]; norm_num
end Pointwise

section Layout
variable {n m : ℕ} {φ : FTy} (f g : ℕ → ℕ → ℝ)

theorem slice_up2 (k o : ℕ) (h : (M k m).Slices ![o, 0] (M n m)) :
    extractStridedSlice (M n m) ![o, 0] (up2 k m f) h = up2 n m fun r c => f (r + o) c := by
  funext j
  have h0 : o + n ≤ k := h.2 0
  have hj := idx2_lt0 j
  rw [extractStridedSlice_apply _ _ h j (ValueIdx.ix2 ⟨(j 0).val + o, by omega⟩ (j 1))]
  · rfl
  · intro a
    match a with
    | ⟨0, _⟩ => exact Nat.add_comm _ _
    | ⟨1, _⟩ => exact (Nat.zero_add _).symm

theorem concat_up2 (o k : ℕ) (h : Shape.Concatenates [M o m, M n m] (M k m) 0) :
    concatenate (M k m) 0 [⟨M o m, up2 o m f⟩, ⟨M n m, up2 n m g⟩] h
      = up2 k m fun r c => if r < o then f r c else g (r - o) c := by
  funext j
  have hs : o + (n + 0) = k := h.2.2
  have hj : (j 0).val < k := idx2_lt0 j
  rw [up2_apply]
  by_cases hr : (j 0).val < o
  · rw [concatenate_pair_apply_left 0 (up2 o m f) (up2 n m g) h j rfl (ValueIdx.ix2 ⟨(j 0).val, hr⟩ (j 1))
      (fun b => match b with | ⟨0, _⟩ => rfl | ⟨1, _⟩ => rfl), if_pos hr]
    rfl
  · rw [concatenate_pair_apply_right 0 (up2 o m f) (up2 n m g) h j rfl rfl (ValueIdx.ix2 ⟨(j 0).val - o, by omega⟩ (j 1))
      (fun b hb => match b with | ⟨0, _⟩ => absurd rfl hb | ⟨1, _⟩ => rfl) (Nat.sub_add_cancel (not_lt.1 hr)), if_neg hr]
    rfl

theorem spread_up2 (h : (M n 1).Broadcasts (M n m)) :
    broadcastTo (M n m) (up2 n 1 f) h = up2 n m fun r _ => f r 0 := by
  funext j
  rw [broadcastTo_apply _ h j (ValueIdx.ix2 (j 0) 0)]
  · rfl
  · intro a
    match a with
    | ⟨0, _⟩ =>
      show (j 0).val = if n = 1 then 0 else (j 0).val
      have := idx2_lt0 j
      split <;> omega
    | ⟨1, _⟩ => rfl

theorem spreadRow_bits2 (p : ℕ → ℕ → Bool) (h : (M 1 m).Broadcasts (M n m)) :
    broadcastTo (M n m) (bits2 1 m p) h = bits2 n m fun _ c => p 0 c := by
  funext j
  rw [broadcastTo_apply _ h j (ValueIdx.ix2 0 (j 1))]
  · rfl
  · intro a
    match a with
    | ⟨0, _⟩ => rfl
    | ⟨1, _⟩ =>
      show (j 1).val = if m = 1 then 0 else (j 1).val
      have := idx2_lt1 j
      split <;> omega

theorem shapeCast_self {s : Shape} {α : Type} (x : s.Idx → α) (h : s.ShapeCasts s) : shapeCast s x h = x := by
  funext j; exact shapeCast_apply x h j j rfl

/-- The sum of each row, as a column. -/
theorem rowSum_up2 (h : (M n m).Reduces [1] ⟨1, ![n]⟩) (hc : Shape.ShapeCasts ⟨1, ![n]⟩ (M n 1)) (hφ : FKind.Formats .f32)
    (ha : 0x00000000#32 = FKind.add.neutral .f32 hφ) :
    shapeCast (M n 1) (multiReduction (F := Ideal) (φ := .f32) .add [1] ⟨1, ![n]⟩ (up2 n m f) 0x00000000#32 h hφ ha) hc
      = up2 n 1 fun r _ => ∑ c ∈ range m, f r c := by
  funext j
  have h1 : (j 1).val = 0 := by have := idx2_lt1 j; omega
  rw [shapeCast_apply _ hc j (ValueIdx.ix1 (j 0))]
  · rw [Ideal.multiReduction_add_single, up2_apply, coe_sum_range]
    refine Finset.sum_congr rfl fun k _ => ?_
    rfl
  · rw [Shape.rowMajor_val_one, Shape.rowMajor_val_two]
    show (j 0).val = (j 0).val * 1 + (j 1).val
    omega

end Layout

section Products
variable {n m k : ℕ} {φ ψ : FTy} (f g : ℕ → ℕ → ℝ)

theorem plain_up2 (prec : Option ContractPrecision) :
    matmul (F := Ideal) (φ₁ := φ) (φ₂ := ψ) (DotDims.plain n k m) prec (up2 n k f) (up2 k m g) (constant (M n m) .f32 0x00000000#32)
      = up2 n m fun r c => ∑ d ∈ range k, f r d * g d c := by
  funext j
  rw [ValueIdx.eq_ix2 j]
  refine (Ideal.matmul_plain_apply prec _ _ _ _ _).trans ?_
  rw [zero_up2, up2_apply]
  show _ = ((∑ d ∈ range k, f (j 0).val d * g d (j 1).val : ℝ) : EReal)
  rw [EReal.coe_zero, zero_add, coe_sum_range]
  exact Finset.sum_congr rfl fun d _ => (EReal.coe_mul _ _).symm

theorem transposedRhs_up2 (prec : Option ContractPrecision) :
    matmul (F := Ideal) (φ₁ := φ) (φ₂ := ψ) (DotDims.transposedRhs n k m) prec (up2 n k f) (up2 m k g) (constant (M n m) .f32 0x00000000#32)
      = up2 n m fun r c => ∑ d ∈ range k, f r d * g c d := by
  funext j
  rw [ValueIdx.eq_ix2 j]
  refine (Ideal.matmul_transposedRhs_apply prec _ _ _ _ _).trans ?_
  rw [zero_up2, up2_apply]
  show _ = ((∑ d ∈ range k, f (j 0).val d * g (j 1).val d : ℝ) : EReal)
  rw [EReal.coe_zero, zero_add, coe_sum_range]
  exact Finset.sum_congr rfl fun d _ => (EReal.coe_mul _ _).symm

/-- The product that sums over the rows of both operands. -/
def rowsDot (n k m : ℕ) (wf : DotDims.WF (M n k) (M n m) (M k m) [0] [0] [1] [1] [] []) : DotDims (M n k) (M n m) (M k m) where
  lhsContracting := [0]
  rhsContracting := [0]
  lhsNonContracting := [1]
  rhsNonContracting := [1]
  lhsBatch := []
  rhsBatch := []
  wf := wf

theorem rows_up2 (wf : DotDims.WF (M n k) (M n m) (M k m) [0] [0] [1] [1] [] []) (prec : Option ContractPrecision) :
    matmul (F := Ideal) (φ₁ := φ) (φ₂ := ψ) (rowsDot n k m wf) prec (up2 n k f) (up2 n m g) (constant (M k m) .f32 0x00000000#32)
      = up2 k m fun r c => ∑ t ∈ range n, f t r * g t c := by
  funext j
  refine (Ideal.matmul_apply₁ (rowsDot n k m wf) (a := 0) rfl (K := n) rfl _ _ _ _).trans ?_
  rw [zero_up2, up2_apply, up2_apply, EReal.coe_zero, zero_add, coe_sum_range]
  refine Finset.sum_congr rfl fun t _ => ?_
  rw [up2_apply, up2_apply, ← EReal.coe_mul]
  rfl

end Products

end Cert.SbBwd
-- ==== Proof.Step.lean ====
module

public import proofs.«01_k».proof.Proof.Lift

@[expose] public section

noncomputable section

/-! One block of keys of the backward pass, for a block of `n` query rows: the operations in the kernel's order, and their
    values on matrices of real numbers. -/

namespace Cert.SbBwd

open Idealize.ShloMosaic Idealize.ShloMosaic.ValueIdx
open Finset (range)

/-- What the operations on `n` query rows ask of their shapes. -/
structure Geo (n : ℕ) : Prop where
  bc : (M n 1).Broadcasts (M n 256)
  red : (M n 256).Reduces [1] ⟨1, ![n]⟩
  sc : Shape.ShapeCasts ⟨1, ![n]⟩ (M n 1)
  i0 : (M n 256).Iotas .tc 32 [0]
  i1 : (M n 256).Iotas .tc 32 [1]
  wf : DotDims.WF (M n 256) (M n 128) (M 256 128) [0] [0] [1] [1] [] []

section Model
variable {F : FTy → Type} [FloatOps F] {n : ℕ}

/-- Zeros. -/
abbrev zeros (n m : ℕ) : FVec F (M n m) .f32 := broadcast (M n m) (Scalar.ofBits .f32 0x00000000#32)

/-- Scores, and likewise the products of the results' gradient with the values. -/
def mZ (qs : FVec F (M n 128) .bf16) (kb : FVec F (M 256 128) .bf16) : FVec F (M n 256) .f32 :=
  matmul (DotDims.transposedRhs n 128 256) none qs kb (constant (M n 256) .f32 0x00000000#32)

/-- The logarithm of the sigmoid. -/
def mLb (z : FVec F (M n 256) .f32) : FVec F (M n 256) .f32 :=
  subf (minimumf z (zeros n 256))
    (log (addf (broadcast (M n 256) (Scalar.ofBits .f32 0x3F800000#32)) (exp (subf (zeros n 256) (absf z)))))

/-- A product with a triangle of ones, the left operand in two pieces. -/
def mSplit (x : FVec F (M n 256) .f32) (tri : FVec F (M 256 256) .bf16) : FVec F (M n 256) .f32 :=
  addf (matmul (DotDims.plain n 256 256) none (truncf .bf16 x (by decide) : FVec F (M n 256) .bf16) tri (constant (M n 256) .f32 0x00000000#32))
    (matmul (DotDims.plain n 256 256) none
      (truncf .bf16 (subf x (extf .f32 (truncf .bf16 x (by decide) : FVec F (M n 256) .bf16) (by decide))) (by decide) : FVec F (M n 256) .bf16) tri
      (constant (M n 256) .f32 0x00000000#32))

/-- The weights before the mask. -/
def mW (hg : Geo n) (tri : FVec F (M 256 256) .bf16) (lb lk : FVec F (M n 256) .f32) (lt cf : FVec F (M n 1) .f32) : FVec F (M n 256) .f32 :=
  exp (subf (addf lb (broadcastTo (M n 256) lt hg.bc)) (addf (broadcastTo (M n 256) cf hg.bc) (mSplit lk tri)))

/-- The gradient of a score before the mask. -/
def mDz (hg : Geo n) (tri : FVec F (M 256 256) .bf16) (lb g : FVec F (M n 256) .f32) (cg : FVec F (M n 1) .f32) : FVec F (M n 256) .f32 :=
  subf g (mulf (addf g (addf (broadcastTo (M n 256) cg hg.bc) (mSplit g tri))) (exp lb))

/-- Which keys of the block come before the query row, when the block starts at the first row. -/
def mMask (hg : Geo n) : IVec (M n 256) 1 :=
  cmpi .slt (addi (broadcast (M n 256) 0#32) (iota .tc (M n 256) 32 [1] hg.i1)) (iota .tc (M n 256) 32 [0] hg.i0)

/-- What the mask keeps. -/
def mKeep (hg : Geo n) (x : FVec F (M n 256) .f32) : FVec F (M n 256) .f32 := select (mMask hg) x (zeros n 256)

/-- What the rows add to the gradient of a key block. -/
def mRows (hg : Geo n) (x : FVec F (M n 256) .bf16) (y : FVec F (M n 128) .bf16) : FVec F (M 256 128) .f32 :=
  matmul (rowsDot n 256 128 hg.wf) none x y (constant (M 256 128) .f32 0x00000000#32)

/-- A carried column plus the sums of the rows. -/
def mSum (hg : Geo n) (c : FVec F (M n 1) .f32) (x : FVec F (M n 256) .f32) : FVec F (M n 1) .f32 :=
  addf c (shapeCast (M n 1) (multiReduction .add [1] ⟨1, ![n]⟩ x 0x00000000#32 hg.red (.inl rfl) rfl) hg.sc)

/-- The keys' columns of the current head. -/
def mKb (hb : (M 1 128).Broadcasts (M 256 128)) (hc : (M 1 128).ShapeCasts (M 1 128)) (lane : IVec (M 1 128) 1)
    (kb : FVec F (M 256 128) .bf16) : FVec F (M 256 128) .bf16 :=
  select (broadcastTo (M 256 128) (shapeCast (M 1 128) lane hc) hb) kb (broadcast (M 256 128) (Scalar.ofBits .bf16 0x0000#16))

/-- The carried gradient of the queries plus what the block adds. -/
def mDq (dq : FVec F (M n 128) .f32) (dz : FVec F (M n 256) .bf16) (kb : FVec F (M 256 128) .bf16) : FVec F (M n 128) .f32 :=
  addf dq (matmul (DotDims.plain n 256 128) none dz kb (constant (M n 128) .f32 0x00000000#32))

/-! The pieces of a block that lies before every query row … -/

def iW (hg : Geo n) (le : FVec F (M 256 256) .bf16) (qs : FVec F (M n 128) .bf16) (lt cf : FVec F (M n 1) .f32)
    (kb : FVec F (M 256 128) .bf16) : FVec F (M n 256) .f32 :=
  mW hg le (mLb (mZ qs kb)) (subf (mLb (mZ qs kb)) (mZ qs kb)) lt cf
def iG (hg : Geo n) (le : FVec F (M 256 256) .bf16) (qs dov : FVec F (M n 128) .bf16) (lt cf : FVec F (M n 1) .f32)
    (kb vb : FVec F (M 256 128) .bf16) : FVec F (M n 256) .f32 := mulf (iW hg le qs lt cf kb) (mZ dov vb)
def iDz (hg : Geo n) (le lt' : FVec F (M 256 256) .bf16) (qs dov : FVec F (M n 128) .bf16) (lt cf cg : FVec F (M n 1) .f32)
    (kb vb : FVec F (M 256 128) .bf16) : FVec F (M n 256) .bf16 :=
  truncf .bf16 (mDz hg lt' (mLb (mZ qs kb)) (iG hg le qs dov lt cf kb vb) cg) (by decide)

/-! … and of the block that starts at the first of the query rows. -/

def dLk (hg : Geo n) (qs : FVec F (M n 128) .bf16) (kb : FVec F (M 256 128) .bf16) : FVec F (M n 256) .f32 :=
  mKeep hg (subf (mLb (mZ qs kb)) (mZ qs kb))
def dW (hg : Geo n) (le : FVec F (M 256 256) .bf16) (qs : FVec F (M n 128) .bf16) (lt cf : FVec F (M n 1) .f32)
    (kb : FVec F (M 256 128) .bf16) : FVec F (M n 256) .f32 :=
  mKeep hg (mW hg le (mLb (mZ qs kb)) (dLk hg qs kb) lt cf)
def dG (hg : Geo n) (le : FVec F (M 256 256) .bf16) (qs dov : FVec F (M n 128) .bf16) (lt cf : FVec F (M n 1) .f32)
    (kb vb : FVec F (M 256 128) .bf16) : FVec F (M n 256) .f32 := mulf (dW hg le qs lt cf kb) (mZ dov vb)
def dDz (hg : Geo n) (le lt' : FVec F (M 256 256) .bf16) (qs dov : FVec F (M n 128) .bf16) (lt cf cg : FVec F (M n 1) .f32)
    (kb vb : FVec F (M 256 128) .bf16) : FVec F (M n 256) .bf16 :=
  truncf .bf16 (mKeep hg (mDz hg lt' (mLb (mZ qs kb)) (dG hg le qs dov lt cf kb vb) cg)) (by decide)

end Model

/-! ## Over the real numbers -/

/-- `log (1 + exp u)`. -/
def SP (u : ℝ) : ℝ := Real.log (1 + Real.exp u)

theorem SP_neg (u : ℝ) : SP (-u) = SP u - u := by
  unfold SP
  have h : 1 + Real.exp (-u) = (1 + Real.exp u) * Real.exp (-u) := by
    rw [add_mul, one_mul, ← Real.exp_add, add_neg_cancel, Real.exp_zero, add_comm]
  rw [h, Real.log_mul (by positivity) (Real.exp_pos _).ne', Real.log_exp]; ring

theorem lb_eq (z : ℝ) : min z 0 - Real.log (1 + Real.exp (0 - |z|)) = -SP (-z) := by
  rcases le_total 0 z with h | h
  · rw [min_eq_right h, abs_of_nonneg h, zero_sub, zero_sub]; rfl
  · rw [min_eq_left h, abs_of_nonpos h, zero_sub, neg_neg, SP_neg]; unfold SP; ring

/-- Scores of two matrices of rows. -/
def rZ (Q K : ℕ → ℕ → ℝ) (r c : ℕ) : ℝ := ∑ d ∈ range 128, Q r d * K c d
/-- The logarithms of one minus the sigmoid, masked. -/
def rLk (P : ℕ → ℕ → Bool) (Z : ℕ → ℕ → ℝ) (r c : ℕ) : ℝ := if P r c then -SP (Z r c) else 0
/-- The weights. -/
def rW (P : ℕ → ℕ → Bool) (Z : ℕ → ℕ → ℝ) (L CF : ℕ → ℝ) (r c : ℕ) : ℝ :=
  if P r c then Real.exp (-SP (-Z r c) + L r - (CF r + ∑ c' ∈ range (c + 1), rLk P Z r c')) else 0
/-- The weights times their gradients. -/
def rG (P : ℕ → ℕ → Bool) (Z A : ℕ → ℕ → ℝ) (L CF : ℕ → ℝ) (r c : ℕ) : ℝ := rW P Z L CF r c * A r c
/-- The gradients of the scores. -/
def rDz (P : ℕ → ℕ → Bool) (Z A : ℕ → ℕ → ℝ) (L CF CG : ℕ → ℝ) (r c : ℕ) : ℝ :=
  if P r c then rG P Z A L CF r c - (rG P Z A L CF r c + (CG r + ∑ c' ∈ range c, rG P Z A L CF r c')) * Real.exp (-SP (-Z r c)) else 0

/-- The two triangles of ones. -/
def triLe : (M 256 256).Idx → EReal := up2 256 256 fun r c => if r ≤ c then 1 else 0
def triLt : (M 256 256).Idx → EReal := up2 256 256 fun r c => if r < c then 1 else 0

theorem sum_le (x : ℕ → ℝ) {c : ℕ} (h : c < 256) : ∑ d ∈ range 256, x d * (if d ≤ c then 1 else 0) = ∑ d ∈ range (c + 1), x d := by
  simp only [mul_ite, mul_one, mul_zero, ← Finset.sum_filter]
  congr 1; ext d; simp only [Finset.mem_filter, Finset.mem_range]; omega
theorem sum_lt (x : ℕ → ℝ) {c : ℕ} (h : c < 256) : ∑ d ∈ range 256, x d * (if d < c then 1 else 0) = ∑ d ∈ range c, x d := by
  simp only [mul_ite, mul_one, mul_zero, ← Finset.sum_filter]
  congr 1; ext d; simp only [Finset.mem_filter, Finset.mem_range]; omega

section Values
variable {n : ℕ} (hg : Geo n)

theorem mZ_up2 (Q K : ℕ → ℕ → ℝ) : mZ (F := Ideal) (n := n) (up2 n 128 Q) (up2 256 128 K) = up2 n 256 (rZ Q K) :=
  transposedRhs_up2 _ _ _

theorem mLb_up2 (Z : ℕ → ℕ → ℝ) : mLb (F := Ideal) (n := n) (up2 n 256 Z) = up2 n 256 fun r c => -SP (-Z r c) := by
  unfold mLb zeros
  rw [bzero_up2, bone_up2, minimumf_up2, absf_up2, subf_up2, exp_up2, addf_up2, log_up2 _ (fun _ _ => by positivity), subf_up2]
  exact up2_congr fun r _ c _ => lb_eq _

theorem lk_up2 (Z : ℕ → ℕ → ℝ) : subf (F := Ideal) (φ := .f32) (up2 n 256 fun r c => -SP (-Z r c)) (up2 n 256 Z) = up2 n 256 fun r c => -SP (Z r c) := by
  rw [subf_up2]
  exact up2_congr fun r _ c _ => by rw [SP_neg]; ring

theorem mSplit_up2 (f T : ℕ → ℕ → ℝ) : mSplit (F := Ideal) (n := n) (up2 n 256 f) (up2 256 256 T) = up2 n 256 fun r c => ∑ d ∈ range 256, f r d * T d c := by
  unfold mSplit
  rw [truncf_up2, extf_up2, subf_up2, truncf_up2, plain_up2, plain_up2, addf_up2]
  exact up2_congr fun r _ c _ => by simp

theorem mSplit_le (f : ℕ → ℕ → ℝ) : mSplit (F := Ideal) (n := n) (up2 n 256 f) triLe = up2 n 256 fun r c => ∑ d ∈ range (c + 1), f r d := by
  unfold triLe
  rw [mSplit_up2]
  exact up2_congr fun r _ c hc => sum_le _ hc
theorem mSplit_lt (f : ℕ → ℕ → ℝ) : mSplit (F := Ideal) (n := n) (up2 n 256 f) triLt = up2 n 256 fun r c => ∑ d ∈ range c, f r d := by
  unfold triLt
  rw [mSplit_up2]
  exact up2_congr fun r _ c hc => sum_lt _ hc

theorem mW_up2 (lb lk : ℕ → ℕ → ℝ) (L CF : ℕ → ℝ) :
    mW (F := Ideal) hg triLe (up2 n 256 lb) (up2 n 256 lk) (up2 n 1 fun r _ => L r) (up2 n 1 fun r _ => CF r)
      = up2 n 256 fun r c => Real.exp (lb r c + L r - (CF r + ∑ d ∈ range (c + 1), lk r d)) := by
  unfold mW
  rw [mSplit_le, spread_up2, spread_up2, addf_up2, addf_up2, subf_up2, exp_up2]

theorem mDz_up2 (lb g : ℕ → ℕ → ℝ) (CG : ℕ → ℝ) :
    mDz (F := Ideal) hg triLt (up2 n 256 lb) (up2 n 256 g) (up2 n 1 fun r _ => CG r)
      = up2 n 256 fun r c => g r c - (g r c + (CG r + ∑ d ∈ range c, g r d)) * Real.exp (lb r c) := by
  unfold mDz
  rw [mSplit_lt, spread_up2, exp_up2, addf_up2, addf_up2, mulf_up2, subf_up2]

theorem slt_small {a b : ℕ} (ha : a < 2 ^ 31) (hb : b < 2 ^ 31) : (BitVec.ofNat 32 a).slt (BitVec.ofNat 32 b) = decide (a < b) := by
  have e : ∀ x < 2 ^ 31, (BitVec.ofNat 32 x).toInt = x := fun x hx => by
    have h : (BitVec.ofNat 32 x).toNat = x := by rw [BitVec.toNat_ofNat]; omega
    rw [BitVec.toInt_eq_toNat_of_lt (by omega), h]
  simp only [BitVec.slt, e a ha, e b hb, Nat.cast_lt]

/-- Keys before the row, of a block that starts at the first row. -/
def before : ℕ → ℕ → Bool := fun r c => decide (c < r)

theorem mMask_eq (hn : n < 2 ^ 31) : mMask hg = bits2 n 256 before := by
  funext i
  have h0 := idx2_lt0 i
  have h1 := idx2_lt1 i
  show BitVec.ofBool (BitVec.slt (IntOp.addi 0#32 (iota .tc (M n 256) 32 [1] hg.i1 i)) (iota .tc (M n 256) 32 [0] hg.i0 i)) = _
  rw [iota_single_apply, iota_single_apply]
  show BitVec.ofBool (BitVec.slt (0#32 + BitVec.ofNat 32 (i 1).val) (BitVec.ofNat 32 (i 0).val)) = _
  rw [BitVec.zero_add, slt_small (by omega) (by omega)]
  rfl

theorem mKeep_up2 (hn : n < 2 ^ 31) (f : ℕ → ℕ → ℝ) :
    mKeep (F := Ideal) hg (up2 n 256 f) = up2 n 256 fun r c => if before r c then f r c else 0 := by
  unfold mKeep zeros
  rw [mMask_eq hg hn, bzero_up2, select_up2]

theorem mRows_up2 (f g : ℕ → ℕ → ℝ) : mRows (F := Ideal) hg (up2 n 256 f) (up2 n 128 g) = up2 256 128 fun c d => ∑ r ∈ range n, f r c * g r d :=
  rows_up2 _ _ _ _

theorem mSum_up2 (C : ℕ → ℝ) (f : ℕ → ℕ → ℝ) :
    mSum (F := Ideal) hg (up2 n 1 fun r _ => C r) (up2 n 256 f) = up2 n 1 fun r _ => C r + ∑ c ∈ range 256, f r c := by
  unfold mSum
  refine (congrArg _ (rowSum_up2 f hg.red hg.sc (.inl rfl) rfl)).trans ?_
  rw [addf_up2]

theorem mDq_up2 (D f K : ℕ → ℕ → ℝ) :
    mDq (F := Ideal) (n := n) (up2 n 128 D) (up2 n 256 f) (up2 256 128 K) = up2 n 128 fun r d => D r d + ∑ c ∈ range 256, f r c * K c d := by
  unfold mDq
  rw [plain_up2, addf_up2]

theorem mKb_up2 (hb : (M 1 128).Broadcasts (M 256 128)) (hc : (M 1 128).ShapeCasts (M 1 128)) (p : ℕ → ℕ → Bool) (K : ℕ → ℕ → ℝ) :
    mKb (F := Ideal) hb hc (bits2 1 128 p) (up2 256 128 K) = up2 256 128 fun r d => if p 0 d then K r d else 0 := by
  unfold mKb
  rw [shapeCast_self, spreadRow_bits2, bzero16_up2, select_up2]

/-- Every key comes before the row. -/
def always : ℕ → ℕ → Bool := fun _ _ => true

variable (Q D K V : ℕ → ℕ → ℝ) (L CF CG : ℕ → ℝ)

theorem iLk_up2 : subf (mLb (F := Ideal) (mZ (up2 n 128 Q) (up2 256 128 K))) (mZ (up2 n 128 Q) (up2 256 128 K))
    = up2 n 256 (rLk always (rZ Q K)) := by
  rw [mZ_up2, mLb_up2, lk_up2]; rfl
theorem iW_up2 : iW (F := Ideal) hg triLe (up2 n 128 Q) (up2 n 1 fun r _ => L r) (up2 n 1 fun r _ => CF r) (up2 256 128 K)
    = up2 n 256 (rW always (rZ Q K) L CF) := by
  unfold iW
  rw [iLk_up2, mZ_up2, mLb_up2, mW_up2]; rfl
theorem iG_up2 : iG (F := Ideal) hg triLe (up2 n 128 Q) (up2 n 128 D) (up2 n 1 fun r _ => L r) (up2 n 1 fun r _ => CF r) (up2 256 128 K) (up2 256 128 V)
    = up2 n 256 (rG always (rZ Q K) (rZ D V) L CF) := by
  unfold iG
  rw [iW_up2, mZ_up2, mulf_up2]; rfl
theorem iDz_up2 : iDz (F := Ideal) hg triLe triLt (up2 n 128 Q) (up2 n 128 D) (up2 n 1 fun r _ => L r) (up2 n 1 fun r _ => CF r) (up2 n 1 fun r _ => CG r)
      (up2 256 128 K) (up2 256 128 V)
    = up2 n 256 (rDz always (rZ Q K) (rZ D V) L CF CG) := by
  unfold iDz
  rw [iG_up2, mZ_up2, mLb_up2, mDz_up2]; rfl

theorem dLk_up2 (hn : n < 2 ^ 31) : dLk (F := Ideal) hg (up2 n 128 Q) (up2 256 128 K) = up2 n 256 (rLk before (rZ Q K)) := by
  unfold dLk
  rw [mZ_up2, mLb_up2, lk_up2, mKeep_up2 hg hn]; rfl
theorem dW_up2 (hn : n < 2 ^ 31) : dW (F := Ideal) hg triLe (up2 n 128 Q) (up2 n 1 fun r _ => L r) (up2 n 1 fun r _ => CF r) (up2 256 128 K)
    = up2 n 256 (rW before (rZ Q K) L CF) := by
  unfold dW
  rw [dLk_up2 hg Q K hn, mZ_up2, mLb_up2, mW_up2, mKeep_up2 hg hn]; rfl
theorem dG_up2 (hn : n < 2 ^ 31) : dG (F := Ideal) hg triLe (up2 n 128 Q) (up2 n 128 D) (up2 n 1 fun r _ => L r) (up2 n 1 fun r _ => CF r) (up2 256 128 K) (up2 256 128 V)
    = up2 n 256 (rG before (rZ Q K) (rZ D V) L CF) := by
  unfold dG
  rw [dW_up2 hg Q K L CF hn, mZ_up2, mulf_up2]; rfl
theorem dDz_up2 (hn : n < 2 ^ 31) : dDz (F := Ideal) hg triLe triLt (up2 n 128 Q) (up2 n 128 D) (up2 n 1 fun r _ => L r) (up2 n 1 fun r _ => CF r) (up2 n 1 fun r _ => CG r)
      (up2 256 128 K) (up2 256 128 V)
    = up2 n 256 (rDz before (rZ Q K) (rZ D V) L CF CG) := by
  unfold dDz
  rw [dG_up2 hg Q D K V L CF hn, mZ_up2, mLb_up2, mDz_up2, mKeep_up2 hg hn]; rfl

end Values

end Cert.SbBwd
-- ==== Proof.Spec.lean ====
module

public import proofs.«01_k».proof.Proof.Step

@[expose] public section

noncomputable section

/-! The backward pass of stick-breaking attention over the real numbers, for one head: `Z t j` the scores, `A t j` the
    products of the results' gradient at row `t` with the value at row `j`. -/

namespace Cert.SbBwd

open Idealize.ShloMosaic
open Finset (range)

/-- The logarithm of what row `t` keeps at key `j`. -/
def gLK (Z : ℕ → ℕ → ℝ) (t j : ℕ) : ℝ := if j < t then -SP (Z t j) else 0
/-- The weight of key `j` in row `t`. -/
def gW (Z : ℕ → ℕ → ℝ) (t j : ℕ) : ℝ :=
  if j < t then Real.exp (-SP (-Z t j) + ∑ j' ∈ range 4096, gLK Z t j' - ∑ j' ∈ range (j + 1), gLK Z t j') else 0
/-- The weight times its gradient. -/
def gG (Z A : ℕ → ℕ → ℝ) (t j : ℕ) : ℝ := gW Z t j * A t j
/-- The gradient of the score. -/
def gDZ (Z A : ℕ → ℕ → ℝ) (t j : ℕ) : ℝ :=
  if j < t then gG Z A t j - (gG Z A t j + ∑ j' ∈ range j, gG Z A t j') * Real.exp (-SP (-Z t j)) else 0

theorem gLK_of_le {Z : ℕ → ℕ → ℝ} {t j : ℕ} (h : t ≤ j) : gLK Z t j = 0 := if_neg (not_lt.2 h)
theorem gW_of_le {Z : ℕ → ℕ → ℝ} {t j : ℕ} (h : t ≤ j) : gW Z t j = 0 := if_neg (not_lt.2 h)
theorem gG_of_le {Z A : ℕ → ℕ → ℝ} {t j : ℕ} (h : t ≤ j) : gG Z A t j = 0 := by rw [gG, gW_of_le h, zero_mul]
theorem gDZ_of_le {Z A : ℕ → ℕ → ℝ} {t j : ℕ} (h : t ≤ j) : gDZ Z A t j = 0 := if_neg (not_lt.2 h)

theorem sum_add_range (f : ℕ → ℝ) (k n : ℕ) : ∑ j ∈ range (k + n), f j = ∑ j ∈ range k, f j + ∑ c ∈ range n, f (k + c) :=
  Finset.sum_range_add f k n

section Block
variable {P : ℕ → ℕ → Bool} {Z A z a : ℕ → ℕ → ℝ} {L CF CG : ℕ → ℝ} {t k r : ℕ}

/-! A block of keys from `k` on, of which the local row `r` is the row `t`: what the kernel forms from the sums over the
    earlier keys are the entries of the whole matrices. -/

theorem rLk_eq (hP : ∀ c < 256, P r c = decide (k + c < t)) (hz : ∀ c < 256, z r c = Z t (k + c)) {c : ℕ} (hc : c < 256) :
    rLk P z r c = gLK Z t (k + c) := by
  unfold rLk gLK
  rw [hP c hc, hz c hc]; simp only [decide_eq_true_eq]

theorem rW_eq (hP : ∀ c < 256, P r c = decide (k + c < t)) (hz : ∀ c < 256, z r c = Z t (k + c)) (hL : L r = ∑ j ∈ range 4096, gLK Z t j)
    (hCF : CF r = ∑ j ∈ range k, gLK Z t j) {c : ℕ} (hc : c < 256) : rW P z L CF r c = gW Z t (k + c) := by
  unfold rW gW
  have h : ∑ c' ∈ range (c + 1), rLk P z r c' = ∑ c' ∈ range (c + 1), gLK Z t (k + c') :=
    Finset.sum_congr rfl fun c' h => rLk_eq hP hz (by have := Finset.mem_range.1 h; omega)
  rw [h, hCF, hL, ← sum_add_range, hP c hc, hz c hc, add_assoc]; simp only [decide_eq_true_eq]

theorem rG_eq (hP : ∀ c < 256, P r c = decide (k + c < t)) (hz : ∀ c < 256, z r c = Z t (k + c)) (ha : ∀ c < 256, a r c = A t (k + c))
    (hL : L r = ∑ j ∈ range 4096, gLK Z t j) (hCF : CF r = ∑ j ∈ range k, gLK Z t j) {c : ℕ} (hc : c < 256) :
    rG P z a L CF r c = gG Z A t (k + c) := by
  unfold rG gG
  rw [rW_eq hP hz hL hCF hc, ha c hc]

theorem rDz_eq (hP : ∀ c < 256, P r c = decide (k + c < t)) (hz : ∀ c < 256, z r c = Z t (k + c)) (ha : ∀ c < 256, a r c = A t (k + c))
    (hL : L r = ∑ j ∈ range 4096, gLK Z t j) (hCF : CF r = ∑ j ∈ range k, gLK Z t j) (hCG : CG r = ∑ j ∈ range k, gG Z A t j)
    {c : ℕ} (hc : c < 256) : rDz P z a L CF CG r c = gDZ Z A t (k + c) := by
  unfold rDz gDZ
  have h : ∑ c' ∈ range c, rG P z a L CF r c' = ∑ c' ∈ range c, gG Z A t (k + c') :=
    Finset.sum_congr rfl fun c' h => rG_eq hP hz ha hL hCF (by have := Finset.mem_range.1 h; omega)
  rw [h, hCG, rG_eq hP hz ha hL hCF hc, ← sum_add_range, hP c hc, hz c hc]; simp only [decide_eq_true_eq]

end Block

end Cert.SbBwd
-- ==== Proof.Full.lean ====
module

public import proofs.«01_k».proof.Proof.Spec

@[expose] public section

noncomputable section

/-! One block of keys for the 2048 query rows of a block: the later rows are cut out, updated and put back. Each value is
    the same matrix with the sums taken one block of keys further. -/

namespace Cert.SbBwd

open Idealize.ShloMosaic
open Finset (range)

/-- What cutting the last `n` of the rows asks of the shapes. -/
structure Cut (n o : ℕ) : Prop where
  on : o + n = 2048
  s1 : (M 2048 1).Slices ![o, 0] (M n 1)
  s128 : (M 2048 128).Slices ![o, 0] (M n 128)
  t1 : (M 2048 1).Slices ![0, 0] (M o 1)
  t128 : (M 2048 128).Slices ![0, 0] (M o 128)
  c1 : Shape.Concatenates [M o 1, M n 1] (M 2048 1) 0
  c128 : Shape.Concatenates [M o 128, M n 128] (M 2048 128) 0

section Model
variable {F : FTy → Type} [FloatOps F] {n o : ℕ} (hc : Cut n o)

/-- The last `n` entries of a column, or rows of a matrix. -/
def low1 (x : FVec F (M 2048 1) .f32) : FVec F (M n 1) .f32 := extractStridedSlice (M n 1) ![o, 0] x hc.s1
def low {φ : FTy} (x : FVec F (M 2048 128) φ) : FVec F (M n 128) φ := extractStridedSlice (M n 128) ![o, 0] x hc.s128
/-- The first rows of one, then the rows of the other. -/
def put1 (x : FVec F (M 2048 1) .f32) (y : FVec F (M n 1) .f32) : FVec F (M 2048 1) .f32 :=
  concatenate (M 2048 1) 0 [⟨M o 1, extractStridedSlice (M o 1) ![0, 0] x hc.t1⟩, ⟨M n 1, y⟩] hc.c1
def put (x : FVec F (M 2048 128) .f32) (y : FVec F (M n 128) .f32) : FVec F (M 2048 128) .f32 :=
  concatenate (M 2048 128) 0 [⟨M o 128, extractStridedSlice (M o 128) ![0, 0] x hc.t128⟩, ⟨M n 128, y⟩] hc.c128
end Model

/-- `n` rows of a matrix from row `t` on. -/
def from2 (n m t : ℕ) (f : ℕ → ℕ → ℝ) : (M n m).Idx → EReal := up2 n m fun r c => f (t + r) c
/-- `n` entries of a column from entry `t` on. -/
def from1 (n t : ℕ) (f : ℕ → ℝ) : (M n 1).Idx → EReal := up2 n 1 fun r _ => f (t + r)

section Cutting
variable {n o : ℕ} (hc : Cut n o) (T : ℕ)

theorem low1_from (f : ℕ → ℝ) : low1 (F := Ideal) hc (from1 2048 T f) = from1 n (T + o) f := by
  unfold low1 from1
  rw [slice_up2]
  exact up2_congr fun r _ c _ => by rw [Nat.add_assoc, Nat.add_comm o r]
theorem low_from {φ : FTy} (f : ℕ → ℕ → ℝ) : low (F := Ideal) (φ := φ) hc (from2 2048 128 T f) = from2 n 128 (T + o) f := by
  unfold low from2
  rw [slice_up2]
  exact up2_congr fun r _ c _ => by rw [Nat.add_assoc, Nat.add_comm o r]
theorem put1_from (f g : ℕ → ℝ) (h : ∀ t < T + o, f t = g t) : put1 (F := Ideal) hc (from1 2048 T f) (from1 n (T + o) g) = from1 2048 T g := by
  unfold put1 from1
  rw [slice_up2, concat_up2]
  refine up2_congr fun r _ c _ => ?_
  split
  · exact h _ (by omega)
  · exact congrArg g (by omega)
theorem put_from (f g : ℕ → ℕ → ℝ) (h : ∀ t < T + o, ∀ d, f t d = g t d) :
    put (F := Ideal) hc (from2 2048 128 T f) (from2 n 128 (T + o) g) = from2 2048 128 T g := by
  unfold put from2
  rw [slice_up2, concat_up2]
  refine up2_congr fun r _ c _ => ?_
  split
  · exact h _ (by omega) c
  · exact congrArg (g · c) (by omega)
end Cutting

/-! ## The blocks -/

/-- The scores, and the products of the gradient with the values, of a head. -/
abbrev hZ (Q K : ℕ → ℕ → ℝ) : ℕ → ℕ → ℝ := rZ Q K

section Head
variable (Q D K V KM : ℕ → ℕ → ℝ)

/-- The three carried sums over the keys before `k`. -/
def sCF (k t : ℕ) : ℝ := ∑ j ∈ range k, gLK (hZ Q K) t j
def sCG (k t : ℕ) : ℝ := ∑ j ∈ range k, gG (hZ Q K) (hZ D V) t j
def sDQ (k t d : ℕ) : ℝ := ∑ j ∈ range k, gDZ (hZ Q K) (hZ D V) t j * KM j d
/-- The sums over all keys. -/
def sLT (t : ℕ) : ℝ := ∑ j ∈ range 4096, gLK (hZ Q K) t j

theorem sCF_stop {k k' t : ℕ} (h : k ≤ k') (ht : t ≤ k) : sCF Q K k t = sCF Q K k' t := by
  obtain ⟨m, rfl⟩ := Nat.exists_eq_add_of_le h
  unfold sCF
  rw [sum_add_range, Finset.sum_eq_zero (s := range m) (fun c _ => gLK_of_le (by omega)), add_zero]
theorem sCG_stop {k k' t : ℕ} (h : k ≤ k') (ht : t ≤ k) : sCG Q D K V k t = sCG Q D K V k' t := by
  obtain ⟨m, rfl⟩ := Nat.exists_eq_add_of_le h
  unfold sCG
  rw [sum_add_range, Finset.sum_eq_zero (s := range m) (fun c _ => gG_of_le (by omega)), add_zero]
theorem sDQ_stop {k k' t d : ℕ} (h : k ≤ k') (ht : t ≤ k) : sDQ Q D K V KM k t d = sDQ Q D K V KM k' t d := by
  obtain ⟨m, rfl⟩ := Nat.exists_eq_add_of_le h
  unfold sDQ
  rw [sum_add_range, Finset.sum_eq_zero (s := range m) (fun c _ => by rw [gDZ_of_le (by omega), zero_mul]), add_zero]

variable {n : ℕ} (hg : Geo n) (t k : ℕ)

theorem sum_from_CF : mSum (F := Ideal) hg (from1 n t (sCF Q K k)) (up2 n 256 fun r c => gLK (hZ Q K) (t + r) (k + c)) = from1 n t (sCF Q K (k + 256)) := by
  unfold from1
  rw [mSum_up2 hg (fun r => sCF Q K k (t + r))]
  exact up2_congr fun r _ c _ => (sum_add_range _ _ _).symm
theorem sum_from_CG : mSum (F := Ideal) hg (from1 n t (sCG Q D K V k)) (up2 n 256 fun r c => gG (hZ Q K) (hZ D V) (t + r) (k + c))
    = from1 n t (sCG Q D K V (k + 256)) := by
  unfold from1
  rw [mSum_up2 hg (fun r => sCG Q D K V k (t + r))]
  exact up2_congr fun r _ c _ => (sum_add_range _ _ _).symm
theorem dq_from : mDq (F := Ideal) (n := n) (from2 n 128 t (sDQ Q D K V KM k)) (up2 n 256 fun r c => gDZ (hZ Q K) (hZ D V) (t + r) (k + c)) (from2 256 128 k KM)
    = from2 n 128 t (sDQ Q D K V KM (k + 256)) := by
  unfold from2
  rw [mDq_up2]
  exact up2_congr fun r _ c _ => (sum_add_range _ _ _).symm

/-- What rows `t, …` add to the gradient of the keys, or values, from `k` on. -/
def sRows (n t k : ℕ) (X Y : ℕ → ℕ → ℝ) (c d : ℕ) : ℝ := ∑ r ∈ range n, X (t + r) (k + c) * Y (t + r) d

theorem rows_from (X Y : ℕ → ℕ → ℝ) : mRows (F := Ideal) hg (up2 n 256 fun r c => X (t + r) (k + c)) (from2 n 128 t Y) = up2 256 128 (sRows n t k X Y) := by
  unfold from2
  rw [mRows_up2]; rfl

/-- Rows that add nothing may be left out. -/
theorem sRows_cut {X Y : ℕ → ℕ → ℝ} {o n T k : ℕ} (hX : ∀ t j, t ≤ j → X t j = 0) (ho : o + n = 2048) (hk : T + o ≤ k) (c d : ℕ) :
    sRows n (T + o) k X Y c d = sRows 2048 T k X Y c d := by
  unfold sRows
  rw [← ho, sum_add_range (fun r => X (T + r) (k + c) * Y (T + r) d), Finset.sum_eq_zero (s := range o)
    (fun r hr => by rw [hX _ _ (by have := Finset.mem_range.1 hr; omega), zero_mul]), zero_add]
  exact Finset.sum_congr rfl fun r _ => by rw [Nat.add_assoc]

/-! The pieces, for rows from `t` on and keys from `k` on: a block before all the rows, and a block that starts at the first. -/

section Pieces
variable {t k}

section Before
variable (hk : k + 256 ≤ t)
include hk

theorem always_iff {r c : ℕ} (hc : c < 256) : always r c = decide (k + c < t + r) := by
  unfold always; symm; rw [decide_eq_true_eq]; omega

theorem iLk_from : subf (mLb (F := Ideal) (mZ (from2 n 128 t Q) (from2 256 128 k K))) (mZ (from2 n 128 t Q) (from2 256 128 k K))
    = up2 n 256 fun r c => gLK (hZ Q K) (t + r) (k + c) := by
  unfold from2
  rw [iLk_up2]
  exact up2_congr fun r _ c hc => rLk_eq (fun c hc => always_iff hk hc) (fun c _ => rfl) hc
theorem iW_from : iW (F := Ideal) hg triLe (from2 n 128 t Q) (from1 n t (sLT Q K)) (from1 n t (sCF Q K k)) (from2 256 128 k K)
    = up2 n 256 fun r c => gW (hZ Q K) (t + r) (k + c) := by
  unfold from2 from1
  rw [iW_up2 hg _ _ (fun r => sLT Q K (t + r)) (fun r => sCF Q K k (t + r))]
  exact up2_congr fun r _ c hc => rW_eq (fun c hc => always_iff hk hc) (fun c _ => rfl) rfl rfl hc
theorem iG_from : iG (F := Ideal) hg triLe (from2 n 128 t Q) (from2 n 128 t D) (from1 n t (sLT Q K)) (from1 n t (sCF Q K k))
      (from2 256 128 k K) (from2 256 128 k V)
    = up2 n 256 fun r c => gG (hZ Q K) (hZ D V) (t + r) (k + c) := by
  unfold from2 from1
  rw [iG_up2 hg _ _ _ _ (fun r => sLT Q K (t + r)) (fun r => sCF Q K k (t + r))]
  exact up2_congr fun r _ c hc => rG_eq (fun c hc => always_iff hk hc) (fun c _ => rfl) (fun c _ => rfl) rfl rfl hc
theorem iDz_from : iDz (F := Ideal) hg triLe triLt (from2 n 128 t Q) (from2 n 128 t D) (from1 n t (sLT Q K)) (from1 n t (sCF Q K k))
      (from1 n t (sCG Q D K V k)) (from2 256 128 k K) (from2 256 128 k V)
    = up2 n 256 fun r c => gDZ (hZ Q K) (hZ D V) (t + r) (k + c) := by
  unfold from2 from1
  rw [iDz_up2 hg _ _ _ _ (fun r => sLT Q K (t + r)) (fun r => sCF Q K k (t + r)) (fun r => sCG Q D K V k (t + r))]
  exact up2_congr fun r _ c hc => rDz_eq (fun c hc => always_iff hk hc) (fun c _ => rfl) (fun c _ => rfl) rfl rfl rfl hc
end Before

section Diagonal
variable (hn : n ≤ 2048)
include hn

omit hn in
theorem before_iff {r c : ℕ} : before r c = decide (t + c < t + r) := by
  unfold before; exact decide_eq_decide.2 (by omega)

theorem dLk_from : dLk (F := Ideal) hg (from2 n 128 t Q) (from2 256 128 t K) = up2 n 256 fun r c => gLK (hZ Q K) (t + r) (t + c) := by
  unfold from2
  rw [dLk_up2 hg _ _ (by omega)]
  exact up2_congr fun r _ c hc => rLk_eq (fun c _ => before_iff) (fun c _ => rfl) hc
theorem dW_from : dW (F := Ideal) hg triLe (from2 n 128 t Q) (from1 n t (sLT Q K)) (from1 n t (sCF Q K t)) (from2 256 128 t K)
    = up2 n 256 fun r c => gW (hZ Q K) (t + r) (t + c) := by
  unfold from2 from1
  rw [dW_up2 hg _ _ (fun r => sLT Q K (t + r)) (fun r => sCF Q K t (t + r)) (by omega)]
  exact up2_congr fun r _ c hc => rW_eq (fun c _ => before_iff) (fun c _ => rfl) rfl rfl hc
theorem dG_from : dG (F := Ideal) hg triLe (from2 n 128 t Q) (from2 n 128 t D) (from1 n t (sLT Q K)) (from1 n t (sCF Q K t))
      (from2 256 128 t K) (from2 256 128 t V)
    = up2 n 256 fun r c => gG (hZ Q K) (hZ D V) (t + r) (t + c) := by
  unfold from2 from1
  rw [dG_up2 hg _ _ _ _ (fun r => sLT Q K (t + r)) (fun r => sCF Q K t (t + r)) (by omega)]
  exact up2_congr fun r _ c hc => rG_eq (fun c _ => before_iff) (fun c _ => rfl) (fun c _ => rfl) rfl rfl hc
theorem dDz_from : dDz (F := Ideal) hg triLe triLt (from2 n 128 t Q) (from2 n 128 t D) (from1 n t (sLT Q K)) (from1 n t (sCF Q K t))
      (from1 n t (sCG Q D K V t)) (from2 256 128 t K) (from2 256 128 t V)
    = up2 n 256 fun r c => gDZ (hZ Q K) (hZ D V) (t + r) (t + c) := by
  unfold from2 from1
  rw [dDz_up2 hg _ _ _ _ (fun r => sLT Q K (t + r)) (fun r => sCF Q K t (t + r)) (fun r => sCG Q D K V t (t + r)) (by omega)]
  exact up2_congr fun r _ c hc => rDz_eq (fun c _ => before_iff) (fun c _ => rfl) (fun c _ => rfl) rfl rfl rfl hc
end Diagonal

end Pieces

/-! The block that starts at row `T + o`, for all 2048 rows from `T` on. -/

section Cut
variable {o : ℕ} (hc : Cut n o) (T : ℕ)

/-- The updates of the three carried sums and of the two gradients, in the kernel's operations. -/
def fCF {F : FTy → Type} [FloatOps F] (qs : FVec F (M 2048 128) .bf16) (cf : FVec F (M 2048 1) .f32) (kb : FVec F (M 256 128) .bf16) :
    FVec F (M 2048 1) .f32 := put1 hc cf (mSum hg (low1 hc cf) (dLk hg (low hc qs) kb))
def fCG {F : FTy → Type} [FloatOps F] (le : FVec F (M 256 256) .bf16) (qs dov : FVec F (M 2048 128) .bf16) (lt cf cg : FVec F (M 2048 1) .f32)
    (kb vb : FVec F (M 256 128) .bf16) : FVec F (M 2048 1) .f32 :=
  put1 hc cg (mSum hg (low1 hc cg) (dG hg le (low hc qs) (low hc dov) (low1 hc lt) (low1 hc cf) kb vb))
def fDz {F : FTy → Type} [FloatOps F] (le lt' : FVec F (M 256 256) .bf16) (qs dov : FVec F (M 2048 128) .bf16) (lt cf cg : FVec F (M 2048 1) .f32)
    (kb vb : FVec F (M 256 128) .bf16) : FVec F (M n 256) .bf16 :=
  dDz hg le lt' (low hc qs) (low hc dov) (low1 hc lt) (low1 hc cf) (low1 hc cg) kb vb
def fDQ {F : FTy → Type} [FloatOps F] (le lt' : FVec F (M 256 256) .bf16) (qs dov : FVec F (M 2048 128) .bf16) (lt cf cg : FVec F (M 2048 1) .f32)
    (dq : FVec F (M 2048 128) .f32) (kb vb kbm : FVec F (M 256 128) .bf16) : FVec F (M 2048 128) .f32 :=
  put hc dq (mDq (low hc dq) (fDz hg hc le lt' qs dov lt cf cg kb vb) kbm)
def fW {F : FTy → Type} [FloatOps F] (le : FVec F (M 256 256) .bf16) (qs : FVec F (M 2048 128) .bf16) (lt cf : FVec F (M 2048 1) .f32)
    (kb : FVec F (M 256 128) .bf16) : FVec F (M n 256) .bf16 :=
  truncf .bf16 (dW hg le (low hc qs) (low1 hc lt) (low1 hc cf) kb) (by decide)

theorem fCF_from : fCF (F := Ideal) hg hc (from2 2048 128 T Q) (from1 2048 T (sCF Q K (T + o))) (from2 256 128 (T + o) K)
    = from1 2048 T (sCF Q K (T + o + 256)) := by
  unfold fCF
  rw [low1_from, low_from, dLk_from Q K hg (by have := hc.on; omega), sum_from_CF, put1_from hc T _ _ fun t ht => sCF_stop Q K (by omega) (by omega)]
theorem fCG_from : fCG (F := Ideal) hg hc triLe (from2 2048 128 T Q) (from2 2048 128 T D) (from1 2048 T (sLT Q K)) (from1 2048 T (sCF Q K (T + o)))
      (from1 2048 T (sCG Q D K V (T + o))) (from2 256 128 (T + o) K) (from2 256 128 (T + o) V)
    = from1 2048 T (sCG Q D K V (T + o + 256)) := by
  unfold fCG
  rw [low1_from, low1_from, low1_from, low_from, low_from, dG_from Q D K V hg (by have := hc.on; omega), sum_from_CG,
    put1_from hc T _ _ fun t ht => sCG_stop Q D K V (by omega) (by omega)]
theorem fDz_from : fDz (F := Ideal) hg hc triLe triLt (from2 2048 128 T Q) (from2 2048 128 T D) (from1 2048 T (sLT Q K))
      (from1 2048 T (sCF Q K (T + o))) (from1 2048 T (sCG Q D K V (T + o))) (from2 256 128 (T + o) K) (from2 256 128 (T + o) V)
    = up2 n 256 fun r c => gDZ (hZ Q K) (hZ D V) (T + o + r) (T + o + c) := by
  unfold fDz
  rw [low1_from, low1_from, low1_from, low_from, low_from, dDz_from Q D K V hg (by have := hc.on; omega)]
theorem fDQ_from : fDQ (F := Ideal) hg hc triLe triLt (from2 2048 128 T Q) (from2 2048 128 T D) (from1 2048 T (sLT Q K))
      (from1 2048 T (sCF Q K (T + o))) (from1 2048 T (sCG Q D K V (T + o))) (from2 2048 128 T (sDQ Q D K V KM (T + o)))
      (from2 256 128 (T + o) K) (from2 256 128 (T + o) V) (from2 256 128 (T + o) KM)
    = from2 2048 128 T (sDQ Q D K V KM (T + o + 256)) := by
  unfold fDQ
  rw [fDz_from, low_from, dq_from, put_from hc T _ _ fun t ht d => sDQ_stop Q D K V KM (by omega) (by omega)]
theorem fDK_from : mRows (F := Ideal) hg (fDz hg hc triLe triLt (from2 2048 128 T Q) (from2 2048 128 T D) (from1 2048 T (sLT Q K))
      (from1 2048 T (sCF Q K (T + o))) (from1 2048 T (sCG Q D K V (T + o))) (from2 256 128 (T + o) K) (from2 256 128 (T + o) V))
      (low hc (from2 2048 128 T Q))
    = up2 256 128 (sRows 2048 T (T + o) (gDZ (hZ Q K) (hZ D V)) Q) := by
  rw [fDz_from, low_from, rows_from hg (T + o) (T + o) (gDZ (hZ Q K) (hZ D V)) Q]
  exact up2_congr fun c _ d _ => sRows_cut (fun t j h => gDZ_of_le h) hc.on le_rfl c d
theorem fDV_from : mRows (F := Ideal) hg (fW hg hc triLe (from2 2048 128 T Q) (from1 2048 T (sLT Q K))
      (from1 2048 T (sCF Q K (T + o))) (from2 256 128 (T + o) K)) (low hc (from2 2048 128 T D))
    = up2 256 128 (sRows 2048 T (T + o) (gW (hZ Q K)) D) := by
  unfold fW
  rw [low1_from, low1_from, low_from, low_from, dW_from Q K hg (by have := hc.on; omega), truncf_up2,
    rows_from hg (T + o) (T + o) (gW (hZ Q K)) D]
  exact up2_congr fun c _ d _ => sRows_cut (fun t j h => gW_of_le h) hc.on le_rfl c d
end Cut

end Head

end Cert.SbBwd
-- ==== Proof.Rows.lean ====
module

public import proofs.«01_k».proof.Proof.Full
public import Idealize.ShloMosaic.Lib.WritesUnit
public import Idealize.ShloMosaic.Lib.VecWindow

@[expose] public section

noncomputable section

/-! Loading 256 rows of a matrix from a view of 4096, and storing them back with something added. -/

namespace Cert.SbBwd

open Idealize.ShloMosaic
open Finset (range)

/-- The gradient block: `B`, and for the keys before `k` what the rows from `T` on add. -/
def gAcc (T : ℕ) (X Y B : ℕ → ℕ → ℝ) (k j d : ℕ) : ℝ := B j d + if j < k then ∑ r ∈ range 2048, X (T + r) j * Y (T + r) d else 0

section
variable {sig : RefSig} {κ : Kind} {sp : Space} {e : EltTy}

/-- The 256 rows from `k` on, of a matrix of any element type. -/
theorem load_any (v : View sig κ sp (M 4096 128) e) (f : v.ty.Contents (Elt Ideal)) {off : Fin 2 → ℕ} {k : ℕ} (ho : off = ![k, 0])
    (inb : ∀ a : Fin 2, off a + (M 256 128).size a ≤ (M 4096 128).size a) (u : ℕ → ℕ → Elt Ideal e)
    (h : ∀ j : (M 4096 128).Idx, v.read (Elt Ideal) f j = u (j 0).val (j 1).val) (x : (M 256 128).Idx) :
    v.readAt (Elt Ideal) (Rect.unit (s := M 4096 128) off (M 256 128).size inb).toLoadRect f x = u (k + (x 0).val) (x 1).val := by
  subst ho
  rw [View.readAt_apply, h]
  congr 1
  · show k + 1 * (x 0).val = k + (x 0).val
    rw [Nat.one_mul]
  · show 0 + 1 * (x 1).val = (x 1).val
    rw [Nat.one_mul, Nat.zero_add]

/-- The same of a matrix of `f32`. -/
theorem load_rows (v : View sig κ sp (M 4096 128) .f32) (f : v.ty.Contents (Elt Ideal)) {off : Fin 2 → ℕ} {k : ℕ} (ho : off = ![k, 0])
    (inb : ∀ a : Fin 2, off a + (M 256 128).size a ≤ (M 4096 128).size a) (B : ℕ → ℕ → ℝ) (h : v.read (Elt Ideal) f = up2 4096 128 B) :
    v.readAt (Elt Ideal) (Rect.unit (s := M 4096 128) off (M 256 128).size inb).toLoadRect f = from2 256 128 k B :=
  funext (load_any v f ho inb (fun r c => ((B r c : ℝ) : EReal)) (fun j => congrFun h j))

/-- The same of a matrix of `bf16`. -/
theorem load_rows16 (v : View sig κ sp (M 4096 128) .bf16) (f : v.ty.Contents (Elt Ideal)) {off : Fin 2 → ℕ} {k : ℕ} (ho : off = ![k, 0])
    (inb : ∀ a : Fin 2, off a + (M 256 128).size a ≤ (M 4096 128).size a) (B : ℕ → ℕ → ℝ) (h : v.read (Elt Ideal) f = up2 4096 128 B) :
    v.readAt (Elt Ideal) (Rect.unit (s := M 4096 128) off (M 256 128).size inb).toLoadRect f = from2 256 128 k B :=
  funext (load_any v f ho inb (fun r c => ((B r c : ℝ) : EReal)) (fun j => congrFun h j))

/-- Storing the loaded rows plus what the query rows add takes the sums 256 keys further. -/
theorem store_rows (v : View sig κ sp (M 4096 128) .f32) (f : v.ty.Contents (Elt Ideal)) (L : List (View.Piece (Elt Ideal) (M 4096 128) .f32))
    {off off' : Fin 2 → ℕ} {T k : ℕ} (ho : off = ![k, 0]) (ho' : off' = ![k, 0])
    (inb : ∀ a : Fin 2, off a + (M 256 128).size a ≤ (M 4096 128).size a)
    (inb' : ∀ a : Fin 2, off' a + (M 256 128).size a ≤ (M 4096 128).size a) (X Y B : ℕ → ℕ → ℝ) (hs : (M 256 128).ShapeCasts (M 256 128))
    (h : v.read (Elt Ideal) (v.writes (Elt Ideal) f L) = up2 4096 128 (gAcc T X Y B k)) {y : FVec Ideal (M 256 128) .f32}
    (hy : y = up2 256 128 (sRows 2048 T k X Y)) :
    v.read (Elt Ideal) (v.writes (Elt Ideal) f ((⟨Rect.unit (s := M 4096 128) off (M 256 128).size inb,
        addf (F := Ideal) (φ := .f32) (shapeCast (M 256 128)
          (v.readAt (Elt Ideal) (Rect.unit (s := M 4096 128) off' (M 256 128).size inb').toLoadRect (v.writes (Elt Ideal) f L)) hs) y⟩
          : View.Piece (Elt Ideal) (M 4096 128) .f32) :: L))
      = up2 4096 128 (gAcc T X Y B (k + 256)) := by
  have hw : addf (F := Ideal) (φ := .f32) (shapeCast (M 256 128)
      (v.readAt (Elt Ideal) (Rect.unit (s := M 4096 128) off' (M 256 128).size inb').toLoadRect (v.writes (Elt Ideal) f L)) hs) y
        = up2 256 128 fun r c => gAcc T X Y B k (k + r) c + sRows 2048 T k X Y r c :=
    (congrArg₂ (addf (F := Ideal) (φ := .f32)) ((shapeCast_self _ _).trans (load_rows v _ ho' inb' _ h)) hy).trans (addf_up2 _ _)
  rw [hw]
  funext j
  have hk : k + 256 ≤ 4096 := by subst ho; exact inb 0
  by_cases hj : k ≤ (j 0).val ∧ (j 0).val < k + 256
  · rw [View.read_writes_cons_rows_of_mem (v := v) (f := f) inb _ L j
      (ValueIdx.ix2 (⟨(j 0).val - k, by omega⟩ : Fin 256) (j 1)) ho (by show (j 0).val = k + ((j 0).val - k); omega) rfl]
    rw [up2_apply, up2_apply]
    congr 1
    show gAcc T X Y B k (k + ((j 0).val - k)) (j 1).val + sRows 2048 T k X Y ((j 0).val - k) (j 1).val = _
    unfold gAcc sRows
    rw [Nat.add_sub_cancel' hj.1, if_neg (by omega), if_pos hj.2, add_zero]
  · rw [View.read_writes_cons_rows_of_not_mem (v := v) (f := f) (W := 256) inb _ L j ho rfl (by omega), h]
    rw [up2_apply, up2_apply]
    congr 1
    unfold gAcc
    congr 1
    by_cases hj' : (j 0).val < k
    · rw [if_pos hj', if_pos (by omega)]
    · rw [if_neg hj', if_neg (by omega)]
end

end Cert.SbBwd
-- ==== Proof.Places.lean ====
module

public import proofs.«01_k».proof.Proof.Rows
public import proofs.«01_k».proof.Proof.Run

@[expose] public section

noncomputable section

/-! Where the kernel loads and stores, how often its loop over key blocks runs, and what its fixed matrices hold. -/

namespace Cert.SbBwd

open Cert.KernelIdeal Cert.KernelIdeal.Gen
open Idealize.ShloMosaic
open Finset (range)

theorem qb_cases (i : grid0.Coords) : (i 1).val = 0 ∨ (i 1).val = 1 := by
  have h : (i 1).val < 2 := (i 1).isLt
  omega

/-- The blocks before the query block. -/
theorem t2_trips (i : grid0.Coords) : (k0_t2_loop i).trips = 8 * (i 1).val := by
  unfold k0_t2_loop
  rcases qb_cases i with h | h <;> rw [h] <;> decide

/-- Block `dd` of the diagonal starts at row `2048 a + 256 dd`. -/
theorem off4_eq (i : grid0.Coords) {dd : ℕ} (h : dd < 8) : k0_off4 i (BitVec.ofNat 32 (256 * dd)) = ![2048 * (i 1).val + 256 * dd, 0] := by
  unfold k0_off4
  rcases qb_cases i with h' | h' <;> rw [h'] <;> interval_cases dd <;> rfl

/-- Block `k` of the earlier ones starts at row `256 k`. -/
theorem off2_eq (i : grid0.Coords) (k : Fin (k0_t2_loop i).trips) : k0_off2 i k = ![256 * k.val, 0] := by
  obtain ⟨k, hk⟩ := k
  have hk' := hk
  rw [t2_trips] at hk'
  have h8 : k < 8 := by have := qb_cases i; omega
  unfold k0_off2
  show ![(Scalar.indexCast (Scalar.muli (Scf.iv (0#32) (1#32) k) 256#32)).toNat, 0] = ![256 * k, 0]
  clear hk hk'
  interval_cases k <;> rfl

theorem off4_inb (i : grid0.Coords) (dd : ℕ) (h : dd < 8) : ∀ a, k0_off4 i (BitVec.ofNat 32 (256 * dd)) a + S256x128.size a ≤ S4096x128.size a := by
  have := qb_cases i
  rw [off4_eq i h]
  intro a
  fin_cases a
  · show 2048 * (i 1).val + 256 * dd + 256 ≤ 4096
    omega
  · show 0 + 128 ≤ 128
    omega

/-- The shapes of the operations on the rows from `256 dd` on. -/
theorem geo : ∀ dd, dd < 8 → Geo (2048 - 256 * dd)
  | 0, _ | 1, _ | 2, _ | 3, _ | 4, _ | 5, _ | 6, _ | 7, _ => ⟨by decide, by decide, by decide, by decide, by decide, by decide⟩

theorem cut : ∀ dd, 1 ≤ dd ∧ dd < 8 → Cut (2048 - 256 * dd) (256 * dd)
  | 1, _ | 2, _ | 3, _ | 4, _ | 5, _ | 6, _ | 7, _ => ⟨by decide, by decide, by decide, by decide, by decide, by decide, by decide⟩

end Cert.SbBwd
-- ==== Proof.Blocks.lean ====
module

public import proofs.«01_k».proof.Proof.Places

@[expose] public section

set_option maxRecDepth 16384

noncomputable section

/-! One head's pass over the blocks of the diagonal, each step in the terms of the model. -/

namespace Cert.SbBwd

open Cert.KernelIdeal Cert.KernelIdeal.Gen
open Idealize.ShloMosaic
open Finset (range)

/-- What one head's pass is run at: the point of the grid, the kernel's arguments, the values it has read, the head and what the two
    gradient blocks hold. -/
structure Env (F : FTy → Type) [FloatOps F] where
  c : Dev nD
  i : grid0.Coords
  arg2 : Memref sig .tc .vmem S2048x128 .bf16
  harg2 : arg2.IsWhole
  arg3 : Memref sig .tc .vmem S4096x128 .bf16
  harg3 : arg3.IsWhole
  arg4 : Memref sig .tc .vmem S4096x128 .bf16
  harg4 : arg4.IsWhole
  arg5 : Memref sig .tc .vmem S2x2048x1 .f32
  harg5 : arg5.IsWhole
  arg6 : Memref sig .tc .vmem S2048x128 .f32
  harg6 : arg6.IsWhole
  arg7 : Memref sig .tc .vmem S2048x128 .f32
  harg7 : arg7.IsWhole
  arg8 : Memref sig .tc .vmem S4096x128 .f32
  harg8 : arg8.IsWhole
  arg9 : Memref sig .tc .vmem S4096x128 .f32
  harg9 : arg9.IsWhole
  v3 : BitVec 32
  v4 : Vec F S2048x128 .bf16
  v7 : Vec F S2048x128 .f32
  X3 : BufTy.Contents (Elt F) arg3.view.ty
  X4 : BufTy.Contents (Elt F) arg4.view.ty
  X5 : BufTy.Contents (Elt F) arg5.view.ty
  k : Fin k0_t1_loop.trips
  f8 : BufTy.Contents (Elt F) arg8.view.ty
  f9 : BufTy.Contents (Elt F) arg9.view.ty

namespace Env
variable {F : FTy → Type} [FloatOps F] (e : Env F)

/-- The pass itself. -/
abbrev trip := headTrip e.c e.i e.arg2 e.harg2 e.arg3 e.harg3 e.arg4 e.harg4 e.arg5 e.harg5 e.arg6 e.harg6 e.arg7 e.harg7 e.arg8 e.harg8 e.arg9 e.harg9
  e.v3 e.v4 e.v7 e.X3 e.X4 e.X5 e.k

/-- The head's lanes, its queries, its results' gradient and its rows' sums. -/
def lane : IVec S1x128 1 := k0_pay25 k0_pay5 0#32 1#32 e.k
def qs : FVec F S2048x128 .bf16 := k0_pay26 (k0_pay3 e.v4) k0_pay5 0#32 1#32 e.k
def dov : FVec F S2048x128 .bf16 := k0_pay27 (k0_pay4 e.v7) k0_pay5 0#32 1#32 e.k
def ltv : Vec F S1x2048x1 .f32 :=
  View.readAt (Elt F) e.arg5.view (Rect.unit (s := S2x2048x1) (k0_off1 e.k) S1x2048x1.size (k0_off1_inb e.k)).toLoadRect e.X5
def lt : FVec F S2048x1 .f32 := k0_pay28 e.ltv

/-- Keys and values of block `dd` of the diagonal. -/
def kb (dd : ℕ) (h : dd < 8) : FVec F S256x128 .bf16 :=
  View.readAt (Elt F) e.arg3.view (Rect.unit (s := S4096x128) (k0_off4 e.i (BitVec.ofNat 32 (256 * dd))) S256x128.size (off4_inb e.i dd h)).toLoadRect e.X3
def vb (dd : ℕ) (h : dd < 8) : FVec F S256x128 .bf16 :=
  View.readAt (Elt F) e.arg4.view (Rect.unit (s := S4096x128) (k0_off4 e.i (BitVec.ofNat 32 (256 * dd))) S256x128.size (off4_inb e.i dd h)).toLoadRect e.X4

/-- The keys' columns of the head. -/
def kbm (dd : ℕ) (h : dd < 8) : FVec F S256x128 .bf16 := mKb (by decide) (by decide) e.lane (e.kb dd h)

/-- The loop over the blocks before the diagonal, after `n` of them. -/
def st (n : ℕ) := st_k0_t2 Variants.none e.c none e.i e.arg2 e.harg2 e.arg3 e.harg3 e.arg4 e.harg4 e.arg5 e.harg5 e.arg6 e.harg6 e.arg7 e.harg7
  e.arg8 e.harg8 e.arg9 e.harg9 e.v3 (k0_pay3 e.v4) (k0_pay4 e.v7) k0_pay5 k0_pay6 k0_pay7 0#32 1#32 e.k e.ltv e.X3 e.X4 e.f8 e.f9
  (k0_pay29, k0_pay30, k0_pay31) n

/-- A value the pass has found, at this run. -/
def on {α : Type} (f : (c : Dev nD) → (i : grid0.Coords) → (arg2 : Memref sig .tc .vmem S2048x128 .bf16) → arg2.IsWhole
    → (arg3 : Memref sig .tc .vmem S4096x128 .bf16) → arg3.IsWhole → (arg4 : Memref sig .tc .vmem S4096x128 .bf16) → arg4.IsWhole
    → (arg5 : Memref sig .tc .vmem S2x2048x1 .f32) → arg5.IsWhole → (arg6 : Memref sig .tc .vmem S2048x128 .f32) → arg6.IsWhole
    → (arg7 : Memref sig .tc .vmem S2048x128 .f32) → arg7.IsWhole → (arg8 : Memref sig .tc .vmem S4096x128 .f32) → arg8.IsWhole
    → (arg9 : Memref sig .tc .vmem S4096x128 .f32) → arg9.IsWhole → (v3 : BitVec 32) → (v4 : Vec F S2048x128 .bf16) → (v7 : Vec F S2048x128 .f32)
    → (X3 : BufTy.Contents (Elt F) arg3.view.ty) → (X4 : BufTy.Contents (Elt F) arg4.view.ty) → (X5 : BufTy.Contents (Elt F) arg5.view.ty)
    → (k : Fin k0_t1_loop.trips) → (f8 : BufTy.Contents (Elt F) arg8.view.ty) → (f9 : BufTy.Contents (Elt F) arg9.view.ty) → α) : α :=
  f e.c e.i e.arg2 e.harg2 e.arg3 e.harg3 e.arg4 e.harg4 e.arg5 e.harg5 e.arg6 e.harg6 e.arg7 e.harg7 e.arg8 e.harg8 e.arg9 e.harg9
    e.v3 e.v4 e.v7 e.X3 e.X4 e.X5 e.k e.f8 e.f9

/-- The state after the blocks before the diagonal. -/
abbrev st0 := e.st (Scf.trips (k0_t2_loop e.i).lb (k0_t2_loop e.i).ub (k0_t2_loop e.i).st)

/-- The three carried sums before block `dd` of the diagonal. -/
def cf : ℕ → FVec F S2048x1 .f32
  | 0 => e.on headTrip.sl.r_4
  | 1 => e.on headTrip.sl.r_14
  | 2 => e.on headTrip.sl.r_27
  | 3 => e.on headTrip.sl.r_41
  | 4 => e.on headTrip.sl.r_56
  | 5 => e.on headTrip.sl.r_71
  | 6 => e.on headTrip.sl.r_86
  | _ => fCF (geo 6 (by decide)) (cut 6 (by decide)) e.qs (e.on headTrip.sl.r_86) (e.kb 6 (by decide))
def cg : ℕ → FVec F S2048x1 .f32
  | 0 => e.on headTrip.sl.r_5
  | 1 => e.on headTrip.sl.r_15
  | 2 => e.on headTrip.sl.r_28
  | 3 => e.on headTrip.sl.r_42
  | 4 => e.on headTrip.sl.r_57
  | 5 => e.on headTrip.sl.r_72
  | 6 => e.on headTrip.sl.r_87
  | _ => fCG (geo 6 (by decide)) (cut 6 (by decide)) k0_pay6 e.qs e.dov e.lt (e.cf 6) (e.on headTrip.sl.r_87) (e.kb 6 (by decide)) (e.vb 6 (by decide))
def dq : ℕ → FVec F S2048x128 .f32
  | 0 => e.on headTrip.sl.r_6
  | 1 => e.on headTrip.sl.r_16
  | 2 => e.on headTrip.sl.r_29
  | 3 => e.on headTrip.sl.r_43
  | 4 => e.on headTrip.sl.r_58
  | 5 => e.on headTrip.sl.r_73
  | 6 => e.on headTrip.sl.r_88
  | _ => e.on headTrip.sl.r_100

/-- What the pass has written into the two gradient blocks before block `dd` of the diagonal. -/
def d8 : ℕ → List (View.Piece (Elt F) S4096x128 .f32)
  | 0 => e.st0.2.1
  | 1 => e.on headTrip.sl.H8_1
  | 2 => e.on headTrip.sl.H8_2
  | 3 => e.on headTrip.sl.H8_3
  | 4 => e.on headTrip.sl.H8_4
  | 5 => e.on headTrip.sl.H8_5
  | 6 => e.on headTrip.sl.H8_6
  | _ => e.on headTrip.sl.H8_7
def d9 : ℕ → List (View.Piece (Elt F) S4096x128 .f32)
  | 0 => e.st0.2.2
  | 1 => e.on headTrip.sl.H9_1
  | 2 => e.on headTrip.sl.H9_2
  | 3 => e.on headTrip.sl.H9_3
  | 4 => e.on headTrip.sl.H9_4
  | 5 => e.on headTrip.sl.H9_5
  | 6 => e.on headTrip.sl.H9_6
  | _ => e.on headTrip.sl.H9_7

/-- The gradient of block `dd`'s scores and its weights. -/
def dz (dd : ℕ) (h : 1 ≤ dd ∧ dd < 8) : FVec F (M (2048 - 256 * dd) 256) .bf16 :=
  fDz (geo dd h.2) (cut dd h) k0_pay6 k0_pay7 e.qs e.dov e.lt (e.cf dd) (e.cg dd) (e.kb dd h.2) (e.vb dd h.2)
def w (dd : ℕ) (h : 1 ≤ dd ∧ dd < 8) : FVec F (M (2048 - 256 * dd) 256) .bf16 :=
  fW (geo dd h.2) (cut dd h) k0_pay6 e.qs e.lt (e.cf dd) (e.kb dd h.2)

/-- Block `dd` stored back into one of the gradient blocks with `y` added. -/
def piece (m : Memref sig .tc .vmem S4096x128 .f32) (f : BufTy.Contents (Elt F) m.view.ty) (L : List (View.Piece (Elt F) S4096x128 .f32))
    (dd : ℕ) (h : dd < 8) (y : FVec F S256x128 .f32) : View.Piece (Elt F) S4096x128 .f32 :=
  ⟨Rect.unit (s := S4096x128) (k0_off4 e.i (BitVec.ofNat 32 (256 * dd))) S256x128.size (off4_inb e.i dd h),
    addf (shapeCast S256x128 (m.view.readAt (Elt F)
      (Rect.unit (s := S4096x128) (k0_off4 e.i (BitVec.ofNat 32 (256 * dd))) S256x128.size (off4_inb e.i dd h)).toLoadRect
      (m.view.writes (Elt F) f L)) shapeCasts_S256x128_S256x128) y⟩

/-- The shapes for all 2048 rows. -/
theorem geo0 : Geo 2048 := geo 0 (by decide)

/-! The first block of the diagonal, which every query row sees. -/

theorem cf_one : e.cf 1 = mSum geo0 (e.cf 0) (dLk geo0 e.qs (e.kb 0 (by decide))) := rfl
theorem cg_one : e.cg 1 = mSum geo0 (e.cg 0)
    (dG geo0 k0_pay6 e.qs e.dov e.lt (e.cf 0) (e.kb 0 (by decide)) (e.vb 0 (by decide))) := rfl

/-- The gradient of its scores and its weights. -/
def dz0 : FVec F (M 2048 256) .bf16 :=
  dDz geo0 k0_pay6 k0_pay7 e.qs e.dov e.lt (e.cf 0) (e.cg 0) (e.kb 0 (by decide)) (e.vb 0 (by decide))
def w0 : FVec F (M 2048 256) .bf16 :=
  truncf .bf16 (dW geo0 k0_pay6 e.qs e.lt (e.cf 0) (e.kb 0 (by decide)) : FVec F (M 2048 256) .f32) (by decide)

theorem dq_one : e.dq 1 = mDq (e.dq 0) e.dz0 (e.kbm 0 (by decide)) := rfl
theorem d8_one : e.d8 1 = e.piece e.arg8 e.f8 (e.d8 0) 0 (by decide) (mRows geo0 e.dz0 e.qs) :: e.d8 0 := rfl
theorem d9_one : e.d9 1 = e.piece e.arg9 e.f9 (e.d9 0) 0 (by decide) (mRows geo0 e.w0 e.dov) :: e.d9 0 := rfl

/-! The later ones, which the rows from `256 dd` on see. -/

theorem cf_succ : ∀ (dd : ℕ) (h : 1 ≤ dd ∧ dd < 7), e.cf (dd + 1)
    = fCF (geo dd (by omega)) (cut dd (by omega)) e.qs (e.cf dd) (e.kb dd (by omega))
  | 1, _ => rfl
  | 2, _ => rfl
  | 3, _ => rfl
  | 4, _ => rfl
  | 5, _ => rfl
  | 6, _ => rfl
theorem cg_succ : ∀ (dd : ℕ) (h : 1 ≤ dd ∧ dd < 7), e.cg (dd + 1)
    = fCG (geo dd (by omega)) (cut dd (by omega)) k0_pay6 e.qs e.dov e.lt (e.cf dd) (e.cg dd) (e.kb dd (by omega)) (e.vb dd (by omega))
  | 1, _ => rfl
  | 2, _ => rfl
  | 3, _ => rfl
  | 4, _ => rfl
  | 5, _ => rfl
  | 6, _ => rfl
theorem dq_succ : ∀ (dd : ℕ) (h : 1 ≤ dd ∧ dd < 7), e.dq (dd + 1)
    = fDQ (geo dd (by omega)) (cut dd (by omega)) k0_pay6 k0_pay7 e.qs e.dov e.lt (e.cf dd) (e.cg dd) (e.dq dd) (e.kb dd (by omega)) (e.vb dd (by omega))
      (e.kbm dd (by omega))
  | 1, _ => rfl
  | 2, _ => rfl
  | 3, _ => rfl
  | 4, _ => rfl
  | 5, _ => rfl
  | 6, _ => rfl
theorem d8_succ : ∀ (dd : ℕ) (h : 1 ≤ dd ∧ dd < 7), e.d8 (dd + 1)
    = e.piece e.arg8 e.f8 (e.d8 dd) dd (by omega) (mRows (geo dd (by omega)) (e.dz dd (by omega)) (low (cut dd (by omega)) e.qs)) :: e.d8 dd
  | 1, _ => rfl
  | 2, _ => rfl
  | 3, _ => rfl
  | 4, _ => rfl
  | 5, _ => rfl
  | 6, _ => rfl
theorem d9_succ : ∀ (dd : ℕ) (h : 1 ≤ dd ∧ dd < 7), e.d9 (dd + 1)
    = e.piece e.arg9 e.f9 (e.d9 dd) dd (by omega) (mRows (geo dd (by omega)) (e.w dd (by omega)) (low (cut dd (by omega)) e.dov)) :: e.d9 dd
  | 1, _ => rfl
  | 2, _ => rfl
  | 3, _ => rfl
  | 4, _ => rfl
  | 5, _ => rfl
  | 6, _ => rfl

/-! The last one, and what the pass as a whole finds. -/

theorem trip_d8 (acc : FVec F S2048x128 .f32) : e.trip.2.1 acc e.f8 e.f9
    = e.piece e.arg8 e.f8 (e.d8 7) 7 (by decide) (mRows (geo 7 (by decide)) (e.dz 7 (by decide)) (low (cut 7 (by decide)) e.qs)) :: e.d8 7 := by
  unfold trip headTrip; rfl
theorem trip_d9 (acc : FVec F S2048x128 .f32) : e.trip.2.2.1 acc e.f8 e.f9
    = e.piece e.arg9 e.f9 (e.d9 7) 7 (by decide) (mRows (geo 7 (by decide)) (e.w 7 (by decide)) (low (cut 7 (by decide)) e.dov)) :: e.d9 7 := by
  unfold trip headTrip; rfl
theorem trip_dq (acc : FVec F S2048x128 .f32) : e.trip.1 acc e.f8 e.f9
    = addf acc (fDQ (geo 7 (by decide)) (cut 7 (by decide)) k0_pay6 k0_pay7 e.qs e.dov e.lt (e.cf 7) (e.cg 7) (e.dq 7) (e.kb 7 (by decide)) (e.vb 7 (by decide))
      (e.kbm 7 (by decide))) := by
  unfold trip headTrip; rfl

/-- The sums before the diagonal are the loop's. -/
theorem cf_zero : e.cf 0 = (e.st (k0_t2_loop e.i).trips).1.1 := rfl
theorem cg_zero : e.cg 0 = (e.st (k0_t2_loop e.i).trips).1.2.1 := rfl
theorem dq_zero : e.dq 0 = (e.st (k0_t2_loop e.i).trips).1.2.2 := rfl
theorem d8_zero : e.d8 0 = (e.st (k0_t2_loop e.i).trips).2.1 := rfl
theorem d9_zero : e.d9 0 = (e.st (k0_t2_loop e.i).trips).2.2 := rfl

end Env
end Cert.SbBwd
-- ==== Proof.Before.lean ====
module

public import proofs.«01_k».proof.Proof.Blocks

@[expose] public section

set_option maxRecDepth 16384

noncomputable section

/-! One pass over a key block before the diagonal, in the terms of the model. -/

namespace Cert.SbBwd

open Cert.KernelIdeal Cert.KernelIdeal.Gen
open Idealize.ShloMosaic
open Finset (range)

namespace Env
variable {F : FTy → Type} [FloatOps F] (e : Env F) (n : Fin (k0_t2_loop e.i).trips)

/-- Keys and values of block `n`, and the keys' columns of the head. -/
def kbi : FVec F S256x128 .bf16 :=
  View.readAt (Elt F) e.arg3.view (Rect.unit (s := S4096x128) (k0_off2 e.i n) S256x128.size (k0_off2_inb e.i n)).toLoadRect e.X3
def vbi : FVec F S256x128 .bf16 :=
  View.readAt (Elt F) e.arg4.view (Rect.unit (s := S4096x128) (k0_off2 e.i n) S256x128.size (k0_off2_inb e.i n)).toLoadRect e.X4
def kbmi : FVec F S256x128 .bf16 := mKb (by decide) (by decide) e.lane (e.kbi n)

/-- The pass itself. -/
abbrev trip2 := trip_k0_t2 Variants.none e.c none e.i e.arg2 e.harg2 e.arg3 e.harg3 e.arg4 e.harg4 e.arg5 e.harg5 e.arg6 e.harg6 e.arg7 e.harg7
  e.arg8 e.harg8 e.arg9 e.harg9 e.v3 (k0_pay3 e.v4) (k0_pay4 e.v7) k0_pay5 k0_pay6 k0_pay7 0#32 1#32 e.k e.ltv e.X3 e.X4 n

variable (acc : FVec F S2048x1 .f32 × FVec F S2048x1 .f32 × FVec F S2048x128 .f32)
  (g8 : BufTy.Contents (Elt F) e.arg8.view.ty) (g9 : BufTy.Contents (Elt F) e.arg9.view.ty)

/-- The gradient of the block's scores and its weights. -/
def dzi : FVec F (M 2048 256) .bf16 := iDz geo0 k0_pay6 k0_pay7 e.qs e.dov e.lt acc.1 acc.2.1 (e.kbi n) (e.vbi n)
def wi : FVec F (M 2048 256) .bf16 := truncf .bf16 (iW geo0 k0_pay6 e.qs e.lt acc.1 (e.kbi n) : FVec F (M 2048 256) .f32) (by decide)

/-- The block stored back into one of the gradient blocks with `y` added. -/
def piecei (m : Memref sig .tc .vmem S4096x128 .f32) (g : BufTy.Contents (Elt F) m.view.ty) (y : FVec F S256x128 .f32) : View.Piece (Elt F) S4096x128 .f32 :=
  ⟨Rect.unit (s := S4096x128) (k0_off2 e.i n) S256x128.size (k0_off2_inb e.i n),
    addf (shapeCast S256x128 (m.view.readAt (Elt F) (Rect.unit (s := S4096x128) (k0_off2 e.i n) S256x128.size (k0_off2_inb e.i n)).toLoadRect g)
      shapeCasts_S256x128_S256x128) y⟩

theorem trip2_acc : (e.trip2 n).1 acc g8 g9
    = (mSum geo0 acc.1 (subf (mLb (mZ e.qs (e.kbi n))) (mZ e.qs (e.kbi n))),
       mSum geo0 acc.2.1 (iG geo0 k0_pay6 e.qs e.dov e.lt acc.1 (e.kbi n) (e.vbi n)),
       mDq acc.2.2 (e.dzi n acc) (e.kbmi n)) := by
  unfold trip2 trip_k0_t2; rfl
theorem trip2_d8 : (e.trip2 n).2.1 acc g8 g9 = [e.piecei n e.arg8 g8 (mRows geo0 (e.dzi n acc) e.qs)] := by
  unfold trip2 trip_k0_t2; rfl
theorem trip2_d9 : (e.trip2 n).2.2.1 acc g8 g9 = [e.piecei n e.arg9 g9 (mRows geo0 (e.wi n acc) e.dov)] := by
  unfold trip2 trip_k0_t2; rfl

/-- One more block of the loop. -/
theorem st_succ : e.st (n.val + 1)
    = ((e.trip2 n).1 (e.st n).1 (e.arg8.view.writes (Elt F) e.f8 (e.st n).2.1) (e.arg9.view.writes (Elt F) e.f9 (e.st n).2.2),
       e.piecei n e.arg8 (e.arg8.view.writes (Elt F) e.f8 (e.st n).2.1) (mRows geo0 (e.dzi n (e.st n).1) e.qs) :: (e.st n).2.1,
       e.piecei n e.arg9 (e.arg9.view.writes (Elt F) e.f9 (e.st n).2.2) (mRows geo0 (e.wi n (e.st n).1) e.dov) :: (e.st n).2.2) := by
  unfold st
  rw [st_k0_t2_succ]
  exact congrArg₂ (fun a b => (_, a ++ _, b ++ _)) (e.trip2_d8 n _ _ _) (e.trip2_d9 n _ _ _)

end Env
end Cert.SbBwd
-- ==== Proof.Consts.lean ====
module

public import proofs.«01_k».proof.Proof.Before

@[expose] public section

set_option maxRecDepth 16384

noncomputable section

/-! The kernel's fixed matrices and its lanes. -/

namespace Cert.SbBwd

open Cert.KernelIdeal Cert.KernelIdeal.Gen
open Idealize.ShloMosaic Idealize.ShloMosaic.ValueIdx
open Finset (range)

theorem toInt_small {x : ℕ} (hx : x < 2 ^ 31) : (BitVec.ofNat 32 x).toInt = x := by
  have h : (BitVec.ofNat 32 x).toNat = x := by rw [BitVec.toNat_ofNat]; omega
  rw [BitVec.toInt_eq_toNat_of_lt (by omega), h]

theorem sle_small {a b : ℕ} (ha : a < 2 ^ 31) (hb : b < 2 ^ 31) : (BitVec.ofNat 32 a).sle (BitVec.ofNat 32 b) = decide (a ≤ b) := by
  simp only [BitVec.sle, toInt_small ha, toInt_small hb, Nat.cast_le]

/-- A bit widened and converted is one or zero. -/
theorem bit_value (p : Prop) [Decidable p] : (((BitVec.setWidth 32 (BitVec.ofBool (decide p))).toInt : ℝ) : EReal) = ((if p then (1 : ℝ) else 0 : ℝ) : EReal) := by
  by_cases h : p
  · rw [if_pos h, decide_eq_true h]
    have e : (BitVec.setWidth 32 (BitVec.ofBool true)).toInt = 1 := by decide
    rw [e, Int.cast_one]
  · rw [if_neg h, decide_eq_false h]
    have e : (BitVec.setWidth 32 (BitVec.ofBool false)).toInt = 0 := by decide
    rw [e, Int.cast_zero]

theorem pay6_eq : k0_pay6 (F := Ideal) = triLe := by
  funext i
  have h0 := idx2_lt0 i
  have h1 := idx2_lt1 i
  show (((BitVec.setWidth 32 (BitVec.ofBool (BitVec.sle (iota .tc S256x256 32 [0] iota_S256x256_d0_w32 i)
    (iota .tc S256x256 32 [1] iota_S256x256_d1_w32 i)))).toInt : ℝ) : EReal) = _
  rw [iota_single_apply, iota_single_apply]
  show (((BitVec.setWidth 32 (BitVec.ofBool (BitVec.sle (BitVec.ofNat 32 (i 0).val) (BitVec.ofNat 32 (i 1).val)))).toInt : ℝ) : EReal) = _
  rw [sle_small (by omega) (by omega), bit_value]
  rfl

theorem pay7_eq : k0_pay7 (F := Ideal) = triLt := by
  funext i
  have h0 := idx2_lt0 i
  have h1 := idx2_lt1 i
  show (((BitVec.setWidth 32 (BitVec.ofBool (BitVec.slt (iota .tc S256x256 32 [0] iota_S256x256_d0_w32 i)
    (iota .tc S256x256 32 [1] iota_S256x256_d1_w32 i)))).toInt : ℝ) : EReal) = _
  rw [iota_single_apply, iota_single_apply]
  show (((BitVec.setWidth 32 (BitVec.ofBool (BitVec.slt (BitVec.ofNat 32 (i 0).val) (BitVec.ofNat 32 (i 1).val)))).toInt : ℝ) : EReal) = _
  rw [slt_small (by omega) (by omega), bit_value]
  rfl

/-- Head `h` of the pair has the lanes `64 h` to `64 h + 63`. -/
def laneOf (h : ℕ) : ℕ → ℕ → Bool := fun _ d => decide (d / 64 = h)

theorem lane_eq (k : Fin k0_t1_loop.trips) : k0_pay25 k0_pay5 0#32 1#32 k = bits2 1 128 (laneOf k.val) := by
  have hk : k.val = 0 ∨ k.val = 1 := by have h : k.val < 2 := k.isLt; omega
  funext i
  have h1 := idx2_lt1 i
  show BitVec.ofBool (BitVec.setWidth 32 (BitVec.ofBool (BitVec.sle 64#32 (iota .tc S1x128 32 [1] iota_S1x128_d1_w32 i)))
    == (0#32 + BitVec.ofNat 32 k.val * 1#32)) = _
  rw [iota_single_apply]
  show BitVec.ofBool (BitVec.setWidth 32 (BitVec.ofBool (BitVec.sle (BitVec.ofNat 32 64) (BitVec.ofNat 32 (i 1).val)))
    == (0#32 + BitVec.ofNat 32 k.val * 1#32)) = BitVec.ofBool (decide ((i 1).val / 64 = k.val))
  rw [sle_small (by omega) (by omega)]
  generalize (i 1).val = d at h1
  generalize k.val = x at hk
  by_cases h : 64 ≤ d
  · rw [decide_eq_true h, show d / 64 = 1 by omega]
    rcases hk with rfl | rfl <;> decide
  · rw [decide_eq_false h, show d / 64 = 0 by omega]
    rcases hk with rfl | rfl <;> decide

end Cert.SbBwd
-- ==== Proof.Head.lean ====
module

public import proofs.«01_k».proof.Proof.Consts

@[expose] public section

set_option maxRecDepth 16384

noncomputable section

/-! What one head's pass computes, over the real numbers: the loop over the earlier blocks, then the blocks of the diagonal. -/

namespace Cert.SbBwd

open Cert.KernelIdeal Cert.KernelIdeal.Gen
open Idealize.ShloMosaic
open Finset (range)

/-- The keys' columns of the head. -/
theorem kbm_from (k : ℕ) (K KM : ℕ → ℕ → ℝ) (p : ℕ → ℕ → Bool) (h : ∀ j d, KM j d = if p 0 d then K j d else 0)
    (hb : (M 1 128).Broadcasts (M 256 128)) (hc : (M 1 128).ShapeCasts (M 1 128)) :
    mKb (F := Ideal) hb hc (bits2 1 128 p) (from2 256 128 k K) = from2 256 128 k KM := by
  unfold from2
  rw [mKb_up2]
  exact up2_congr fun r _ c _ => (h _ _).symm

namespace Env

/-- What the pass starts from, as matrices of real numbers. -/
structure Holds (e : Env Ideal) (T : ℕ) (Q D K V KM B8 B9 : ℕ → ℕ → ℝ) : Prop where
  t : T = 2048 * (e.i 1).val
  qs : e.qs = from2 2048 128 T Q
  dov : e.dov = from2 2048 128 T D
  lt : e.lt = from1 2048 T (sLT Q K)
  k : e.arg3.view.read (Elt Ideal) e.X3 = up2 4096 128 K
  v : e.arg4.view.read (Elt Ideal) e.X4 = up2 4096 128 V
  km : ∀ j d, KM j d = if laneOf e.k.val 0 d then K j d else 0
  f8 : e.arg8.view.read (Elt Ideal) e.f8 = up2 4096 128 B8
  f9 : e.arg9.view.read (Elt Ideal) e.f9 = up2 4096 128 B9

section
variable {e : Env Ideal} {T : ℕ} {Q D K V KM B8 B9 : ℕ → ℕ → ℝ} (h : Holds e T Q D K V KM B8 B9)
include h

theorem lane_val : e.lane = bits2 1 128 (laneOf e.k.val) := lane_eq e.k

/-! The blocks before the diagonal. -/

theorem kbi_val (n : Fin (k0_t2_loop e.i).trips) : e.kbi n = from2 256 128 (256 * n.val) K := load_rows16 _ _ (off2_eq e.i n) _ _ h.k
theorem vbi_val (n : Fin (k0_t2_loop e.i).trips) : e.vbi n = from2 256 128 (256 * n.val) V := load_rows16 _ _ (off2_eq e.i n) _ _ h.v
theorem kbmi_val (n : Fin (k0_t2_loop e.i).trips) : e.kbmi n = from2 256 128 (256 * n.val) KM := by
  unfold kbmi
  rw [kbi_val h, lane_val h]
  exact kbm_from _ _ _ _ h.km _ _

/-- What is known before key `k`. -/
structure At (e : Env Ideal) (T : ℕ) (Q D K V KM B8 B9 : ℕ → ℕ → ℝ) (k : ℕ) (cf cg : FVec Ideal (M 2048 1) .f32) (dq : FVec Ideal (M 2048 128) .f32)
    (d8 d9 : List (View.Piece (Elt Ideal) S4096x128 .f32)) : Prop where
  cf : cf = from1 2048 T (sCF Q K k)
  cg : cg = from1 2048 T (sCG Q D K V k)
  dq : dq = from2 2048 128 T (sDQ Q D K V KM k)
  d8 : e.arg8.view.read (Elt Ideal) (e.arg8.view.writes (Elt Ideal) e.f8 d8) = up2 4096 128 (gAcc T (gDZ (hZ Q K) (hZ D V)) Q B8 k)
  d9 : e.arg9.view.read (Elt Ideal) (e.arg9.view.writes (Elt Ideal) e.f9 d9) = up2 4096 128 (gAcc T (gW (hZ Q K)) D B9 k)

omit h in
theorem gAcc_zero (T : ℕ) (X Y B : ℕ → ℕ → ℝ) : gAcc T X Y B 0 = B := by
  funext j d
  unfold gAcc
  rw [if_neg (Nat.not_lt_zero j), add_zero]

theorem at_start : At e T Q D K V KM B8 B9 0 (e.st 0).1.1 (e.st 0).1.2.1 (e.st 0).1.2.2 (e.st 0).2.1 (e.st 0).2.2 where
  cf := bzero_up2
  cg := bzero_up2
  dq := bzero_up2
  d8 := by rw [gAcc_zero]; exact h.f8
  d9 := by rw [gAcc_zero]; exact h.f9

theorem at_before (n : ℕ) (hn : n ≤ (k0_t2_loop e.i).trips) :
    At e T Q D K V KM B8 B9 (256 * n) (e.st n).1.1 (e.st n).1.2.1 (e.st n).1.2.2 (e.st n).2.1 (e.st n).2.2 := by
  induction n with
  | zero => exact at_start h
  | succ n ih =>
    have hn' := hn
    rw [t2_trips] at hn'
    have hk : 256 * n + 256 ≤ T := by rw [h.t]; omega
    obtain ⟨hcf, hcg, hdq, h8, h9⟩ := ih (by omega)
    have hs := e.st_succ ⟨n, hn⟩
    have hdz : e.dzi ⟨n, hn⟩ (e.st n).1 = up2 2048 256 fun r c => gDZ (hZ Q K) (hZ D V) (T + r) (256 * n + c) := by
      unfold dzi
      rw [kbi_val h, vbi_val h, hcf, hcg, h.qs, h.dov, h.lt, pay6_eq, pay7_eq]
      exact iDz_from Q D K V geo0 hk
    have hw : e.wi ⟨n, hn⟩ (e.st n).1 = up2 2048 256 fun r c => gW (hZ Q K) (T + r) (256 * n + c) := by
      unfold wi
      rw [kbi_val h, hcf, h.qs, h.lt, pay6_eq, iW_from Q K geo0 hk, truncf_up2]
    refine ⟨?_, ?_, ?_, ?_, ?_⟩
    · rw [hs, trip2_acc, kbi_val h, hcf, h.qs]
      show mSum geo0 _ (subf _ _) = _
      rw [iLk_from Q K hk]
      exact sum_from_CF Q K geo0 T (256 * n)
    · rw [hs, trip2_acc, kbi_val h, vbi_val h, hcf, hcg, h.qs, h.dov, h.lt, pay6_eq]
      show mSum geo0 _ (iG geo0 _ _ _ _ _ _ _) = _
      rw [iG_from Q D K V geo0 hk]
      exact sum_from_CG Q D K V geo0 T (256 * n)
    · rw [hs, trip2_acc]
      show mDq _ _ _ = _
      rw [hdz, kbmi_val h, hdq]
      exact dq_from Q D K V KM T (256 * n)
    · rw [hs]
      refine store_rows _ _ _ (off2_eq e.i _) (off2_eq e.i _) _ _ _ _ _ _ h8 ?_
      rw [hdz, h.qs]
      exact rows_from geo0 T (256 * n) _ _
    · rw [hs]
      refine store_rows _ _ _ (off2_eq e.i _) (off2_eq e.i _) _ _ _ _ _ _ h9 ?_
      rw [hw, h.dov]
      exact rows_from geo0 T (256 * n) _ _

/-! The blocks of the diagonal. -/

theorem off4_val (dd : ℕ) (hd : dd < 8) : k0_off4 e.i (BitVec.ofNat 32 (256 * dd)) = ![T + 256 * dd, 0] :=
  (off4_eq e.i hd).trans (by rw [h.t])
theorem kb_val (dd : ℕ) (hd : dd < 8) : e.kb dd hd = from2 256 128 (T + 256 * dd) K :=
  load_rows16 _ _ (off4_val h dd hd) _ _ h.k
theorem vb_val (dd : ℕ) (hd : dd < 8) : e.vb dd hd = from2 256 128 (T + 256 * dd) V :=
  load_rows16 _ _ (off4_val h dd hd) _ _ h.v
theorem kbm_val (dd : ℕ) (hd : dd < 8) : e.kbm dd hd = from2 256 128 (T + 256 * dd) KM := by
  unfold kbm
  rw [kb_val h, lane_val h]
  exact kbm_from _ _ _ _ h.km _ _

theorem at_zero : At e T Q D K V KM B8 B9 T (e.cf 0) (e.cg 0) (e.dq 0) (e.d8 0) (e.d9 0) := by
  have := at_before h _ le_rfl
  rw [← cf_zero, ← cg_zero, ← dq_zero, ← d8_zero, ← d9_zero, t2_trips, ← Nat.mul_assoc, show 256 * 8 = 2048 by rfl, ← h.t] at this
  exact this

theorem at_one : At e T Q D K V KM B8 B9 (T + 256) (e.cf 1) (e.cg 1) (e.dq 1) (e.d8 1) (e.d9 1) := by
  obtain ⟨hcf, hcg, hdq, h8, h9⟩ := at_zero h
  have hdz : e.dz0 = up2 2048 256 fun r c => gDZ (hZ Q K) (hZ D V) (T + r) (T + c) := by
    unfold dz0
    rw [kb_val h, vb_val h, hcf, hcg, h.qs, h.dov, h.lt, pay6_eq, pay7_eq]
    exact dDz_from Q D K V geo0 le_rfl
  have hw : e.w0 = up2 2048 256 fun r c => gW (hZ Q K) (T + r) (T + c) := by
    unfold w0
    rw [kb_val h, hcf, h.qs, h.lt, pay6_eq]
    refine (congrArg (fun x => truncf .bf16 x _) (dW_from Q K geo0 le_rfl)).trans ?_
    rw [truncf_up2]
  refine ⟨?_, ?_, ?_, ?_, ?_⟩
  · rw [cf_one, kb_val h, hcf, h.qs]
    refine (congrArg (mSum geo0 _) (dLk_from Q K geo0 le_rfl)).trans ?_
    exact sum_from_CF Q K geo0 T T
  · rw [cg_one, kb_val h, vb_val h, hcf, hcg, h.qs, h.dov, h.lt, pay6_eq]
    refine (congrArg (mSum geo0 _) (dG_from Q D K V geo0 le_rfl)).trans ?_
    exact sum_from_CG Q D K V geo0 T T
  · rw [dq_one, hdz, kbm_val h, hdq]
    exact dq_from Q D K V KM T T
  · rw [d8_one]
    refine store_rows _ _ _ (off4_val h 0 (by decide)) (off4_val h 0 (by decide)) _ _ _ _ _ _ h8 ?_
    rw [hdz, h.qs]
    exact rows_from geo0 T T _ _
  · rw [d9_one]
    refine store_rows _ _ _ (off4_val h 0 (by decide)) (off4_val h 0 (by decide)) _ _ _ _ _ _ h9 ?_
    rw [hw, h.dov]
    exact rows_from geo0 T T _ _

/-- What a later block adds to the gradient of the keys and of the values. -/
theorem dk_val {dd : ℕ} (hd : 1 ≤ dd ∧ dd < 8) (hcf : e.cf dd = from1 2048 T (sCF Q K (T + 256 * dd)))
    (hcg : e.cg dd = from1 2048 T (sCG Q D K V (T + 256 * dd))) :
    mRows (geo dd hd.2) (e.dz dd hd) (low (cut dd hd) e.qs) = up2 256 128 (sRows 2048 T (T + 256 * dd) (gDZ (hZ Q K) (hZ D V)) Q) := by
  unfold dz
  rw [kb_val h, vb_val h, hcf, hcg, h.qs, h.dov, h.lt, pay6_eq, pay7_eq]
  exact fDK_from Q D K V _ (cut dd hd) T
theorem dv_val {dd : ℕ} (hd : 1 ≤ dd ∧ dd < 8) (hcf : e.cf dd = from1 2048 T (sCF Q K (T + 256 * dd))) :
    mRows (geo dd hd.2) (e.w dd hd) (low (cut dd hd) e.dov) = up2 256 128 (sRows 2048 T (T + 256 * dd) (gW (hZ Q K)) D) := by
  unfold w
  rw [kb_val h, hcf, h.qs, h.dov, h.lt, pay6_eq]
  exact fDV_from Q D K _ (cut dd hd) T
theorem dq_val {dd : ℕ} (hd : 1 ≤ dd ∧ dd < 8) (hcf : e.cf dd = from1 2048 T (sCF Q K (T + 256 * dd)))
    (hcg : e.cg dd = from1 2048 T (sCG Q D K V (T + 256 * dd))) (hdq : e.dq dd = from2 2048 128 T (sDQ Q D K V KM (T + 256 * dd))) :
    fDQ (geo dd hd.2) (cut dd hd) k0_pay6 k0_pay7 e.qs e.dov e.lt (e.cf dd) (e.cg dd) (e.dq dd) (e.kb dd hd.2) (e.vb dd hd.2) (e.kbm dd hd.2)
      = from2 2048 128 T (sDQ Q D K V KM (T + 256 * dd + 256)) := by
  rw [kb_val h, vb_val h, kbm_val h, hcf, hcg, hdq, h.qs, h.dov, h.lt, pay6_eq, pay7_eq]
  exact fDQ_from Q D K V KM _ (cut dd hd) T

theorem at_later (dd : ℕ) (hd : 1 ≤ dd ∧ dd < 8) : At e T Q D K V KM B8 B9 (T + 256 * dd) (e.cf dd) (e.cg dd) (e.dq dd) (e.d8 dd) (e.d9 dd) := by
  induction dd with
  | zero => omega
  | succ dd ih =>
    by_cases h0 : dd = 0
    · subst h0; exact at_one h
    have hd' : 1 ≤ dd ∧ dd < 7 := by omega
    obtain ⟨hcf, hcg, hdq, h8, h9⟩ := ih (by omega)
    refine ⟨?_, ?_, ?_, ?_, ?_⟩
    · rw [cf_succ e dd hd', kb_val h, hcf, h.qs]
      exact fCF_from Q K _ (cut dd (by omega)) T
    · rw [cg_succ e dd hd', kb_val h, vb_val h, hcf, hcg, h.qs, h.dov, h.lt, pay6_eq]
      exact fCG_from Q D K V _ (cut dd (by omega)) T
    · rw [dq_succ e dd hd']
      exact dq_val h (by omega) hcf hcg hdq
    · rw [d8_succ e dd hd']
      exact store_rows _ _ _ (off4_val h dd (by omega)) (off4_val h dd (by omega)) _ _ _ _ _ _ h8 (dk_val h (by omega) hcf hcg)
    · rw [d9_succ e dd hd']
      exact store_rows _ _ _ (off4_val h dd (by omega)) (off4_val h dd (by omega)) _ _ _ _ _ _ h9 (dv_val h (by omega) hcf)

/-! The pass as a whole. -/

theorem trip_dq_val (A : ℕ → ℕ → ℝ) {acc : FVec Ideal (M 2048 128) .f32} (ha : acc = up2 2048 128 A) :
    e.trip.1 acc e.f8 e.f9 = up2 2048 128 fun r d => A r d + sDQ Q D K V KM (T + 2048) (T + r) d := by
  obtain ⟨hcf, hcg, hdq, h8, h9⟩ := at_later h 7 (by decide)
  rw [trip_dq, dq_val h (by decide) hcf hcg hdq, ha]
  exact addf_up2 _ _
theorem trip_d8_val (acc : FVec Ideal (M 2048 128) .f32) :
    e.arg8.view.read (Elt Ideal) (e.arg8.view.writes (Elt Ideal) e.f8 (e.trip.2.1 acc e.f8 e.f9))
      = up2 4096 128 (gAcc T (gDZ (hZ Q K) (hZ D V)) Q B8 (T + 2048)) := by
  obtain ⟨hcf, hcg, hdq, h8, h9⟩ := at_later h 7 (by decide)
  rw [trip_d8]
  exact store_rows _ _ _ (off4_val h 7 (by decide)) (off4_val h 7 (by decide)) _ _ _ _ _ _ h8 (dk_val h (by decide) hcf hcg)
theorem trip_d9_val (acc : FVec Ideal (M 2048 128) .f32) :
    e.arg9.view.read (Elt Ideal) (e.arg9.view.writes (Elt Ideal) e.f9 (e.trip.2.2.1 acc e.f8 e.f9))
      = up2 4096 128 (gAcc T (gW (hZ Q K)) D B9 (T + 2048)) := by
  obtain ⟨hcf, hcg, hdq, h8, h9⟩ := at_later h 7 (by decide)
  rw [trip_d9]
  exact store_rows _ _ _ (off4_val h 7 (by decide)) (off4_val h 7 (by decide)) _ _ _ _ _ _ h9 (dv_val h (by decide) hcf)

end
end Env
end Cert.SbBwd
-- ==== Proof.Pair.lean ====
module

public import proofs.«01_k».proof.Proof.Head
public import Idealize.ShloMosaic.Lib.ValueLayout

@[expose] public section

set_option maxRecDepth 16384

noncomputable section

/-! The passes of the two heads of a pair, one after the other, at one point of the grid. -/

namespace Cert.SbBwd

open Cert.KernelIdeal Cert.KernelIdeal.Gen
open Idealize.ShloMosaic Idealize.ShloMosaic.ValueIdx
open Finset (range)

/-- The lanes of head `h`, the others zero. -/
def lanes (h : ℕ) (X : ℕ → ℕ → ℝ) (t d : ℕ) : ℝ := if d / 64 = h then X t d else 0
/-- The scaled queries of head `h`. -/
def qh (h : ℕ) (X : ℕ → ℕ → ℝ) : ℕ → ℕ → ℝ := lanes h fun t d => X t d * (1 / 8)

/-- A gradient block after the passes of the first `n` heads. -/
def accH (T : ℕ) (X Y : ℕ → ℕ → ℕ → ℝ) (B : ℕ → ℕ → ℝ) : ℕ → ℕ → ℕ → ℝ
  | 0 => B
  | n + 1 => gAcc T (X n) (Y n) (accH T X Y B n) (T + 2048)

/-- The matrices of head `h` that multiply the queries and the results' gradient. -/
abbrev dzH (Q D K V : ℕ → ℕ → ℝ) (h : ℕ) : ℕ → ℕ → ℝ := gDZ (hZ (qh h Q) K) (hZ (lanes h D) V)
abbrev wH (Q K : ℕ → ℕ → ℝ) (h : ℕ) : ℕ → ℕ → ℝ := gW (hZ (qh h Q) K)
/-- What head `h` adds to the queries' gradient, before it is scaled. -/
abbrev dqH (Q D K V : ℕ → ℕ → ℝ) (T h t d : ℕ) : ℝ := sDQ (qh h Q) (lanes h D) K V (lanes h K) (T + 2048) t d

/-- Lanes kept by their bits. -/
theorem select_lanes (k : ℕ) (t : ℕ) (X : ℕ → ℕ → ℝ) (hb : (M 1 128).Broadcasts (M 2048 128)) (hc : (M 1 128).ShapeCasts (M 1 128)) :
    select (broadcastTo (M 2048 128) (shapeCast (M 1 128) (bits2 1 128 (laneOf k)) hc) hb) (from2 2048 128 t X)
      (broadcast (M 2048 128) (Scalar.ofBits (F := Ideal) .bf16 0x0000#16)) = from2 2048 128 t (lanes k X) := by
  rw [shapeCast_self]
  refine (congrArg₂ (fun p z => select p (from2 2048 128 t X) z) (spreadRow_bits2 _ hb) bzero16_up2).trans ?_
  refine (select_up2 _ _ _).trans ?_
  refine up2_congr fun r _ c _ => ?_
  unfold laneOf lanes
  simp only [decide_eq_true_eq]

namespace Env

/-- The same point at head `k`, the gradient blocks holding `g8` and `g9`. -/
@[reducible] def at_ (e : Env Ideal) (k : Fin k0_t1_loop.trips) (g8 : BufTy.Contents (Elt Ideal) e.arg8.view.ty) (g9 : BufTy.Contents (Elt Ideal) e.arg9.view.ty) : Env Ideal :=
  { e with k := k, f8 := g8, f9 := g9 }

/-- The state before head `n`. -/
def hst (e : Env Ideal) (n : ℕ) := headSt e.c e.i e.arg2 e.harg2 e.arg3 e.harg3 e.arg4 e.harg4 e.arg5 e.harg5 e.arg6 e.harg6 e.arg7 e.harg7 e.arg8 e.harg8
  e.arg9 e.harg9 e.v3 e.v4 e.v7 e.X3 e.X4 e.X5 e.f8 e.f9 (k0_pay8 (F := Ideal)) n

/-- What a point of the grid starts from, as matrices of real numbers. -/
structure Point (e : Env Ideal) (T : ℕ) (Q D K V B8 B9 : ℕ → ℕ → ℝ) : Prop where
  t : T = 2048 * (e.i 1).val
  v4 : e.v4 = from2 2048 128 T Q
  v7 : e.v7 = from2 2048 128 T D
  k : e.arg3.view.read (Elt Ideal) e.X3 = up2 4096 128 K
  v : e.arg4.view.read (Elt Ideal) e.X4 = up2 4096 128 V
  lt : ∀ x : S2x2048x1.Idx, e.arg5.view.read (Elt Ideal) e.X5 x = ((sLT (qh (x 0).val Q) K (T + (x 1).val) : ℝ) : EReal)
  f8 : e.arg8.view.read (Elt Ideal) e.f8 = up2 4096 128 B8
  f9 : e.arg9.view.read (Elt Ideal) e.f9 = up2 4096 128 B9

section
variable {e : Env Ideal} {T : ℕ} {Q D K V B8 B9 : ℕ → ℕ → ℝ} (h : Point e T Q D K V B8 B9)
include h

theorem off1_eq (k : Fin k0_t1_loop.trips) : k0_off1 k = ![k.val, 0, 0] := by
  have hk : k.val = 0 ∨ k.val = 1 := by have h : k.val < 2 := k.isLt; omega
  obtain ⟨k, hk'⟩ := k
  rcases hk with rfl | rfl <;> rfl

theorem ltv_val (k : Fin k0_t1_loop.trips) (g8 g9) (x : S1x2048x1.Idx) :
    (e.at_ k g8 g9).ltv x = ((sLT (qh k.val Q) K (T + (x 1).val) : ℝ) : EReal) := by
  unfold ltv
  rw [View.readAt_apply, h.lt]
  have h0 : (x 0).val = 0 := by have : (x 0).val < 1 := (x 0).isLt; omega
  have e0 : k0_off1 k 0 + 1 * (x 0).val = k.val := by rw [off1_eq h, h0]; rfl
  have e1 : k0_off1 k 1 + 1 * (x 1).val = (x 1).val := by rw [off1_eq h]; show 0 + 1 * (x 1).val = _; omega
  show ((sLT (qh (k0_off1 k 0 + 1 * (x 0).val) Q) K (T + (k0_off1 k 1 + 1 * (x 1).val)) : ℝ) : EReal) = _
  rw [e0, e1]

theorem lt_val (k : Fin k0_t1_loop.trips) (g8 g9) : (e.at_ k g8 g9).lt = from1 2048 T (sLT (qh k.val Q) K) := by
  funext i
  have h1 : (i 1).val = 0 := by have : (i 1).val < 1 := (i 1).isLt; omega
  have h0 : (i 0).val < 2048 := (i 0).isLt
  show shapeCast S2048x1 (e.at_ k g8 g9).ltv shapeCasts_S1x2048x1_S2048x1 i = _
  have hx := shapeCast_1ab_ab_apply (e.at_ k g8 g9).ltv shapeCasts_S1x2048x1_S2048x1 (⟨(i 0).val, h0⟩ : Fin 2048) (⟨(i 1).val, by omega⟩ : Fin 1)
  refine (Eq.trans ?_ hx).trans (ltv_val h k g8 g9 _)
  exact congrArg (shapeCast S2048x1 (e.at_ k g8 g9).ltv shapeCasts_S1x2048x1_S2048x1) (ValueIdx.eq_ix2 i)

theorem holds_at (k : Fin k0_t1_loop.trips) {g8 g9} {C8 C9 : ℕ → ℕ → ℝ} (h8 : e.arg8.view.read (Elt Ideal) g8 = up2 4096 128 C8)
    (h9 : e.arg9.view.read (Elt Ideal) g9 = up2 4096 128 C9) :
    Holds (e.at_ k g8 g9) T (qh k.val Q) (lanes k.val D) K V (lanes k.val K) C8 C9 where
  t := h.t
  qs := by
    show k0_pay26 (k0_pay3 e.v4) k0_pay5 0#32 1#32 k = _
    unfold k0_pay26
    rw [lane_eq]
    have e3 : k0_pay3 e.v4 = from2 2048 128 T fun t d => Q t d * (1 / 8) := by
      refine (congrArg₂ (mulf (F := Ideal) (φ := .bf16)) h.v4 beighth16_up2).trans ?_
      exact mulf_up2 _ _
    rw [e3]
    exact select_lanes _ _ _ _ _
  dov := by
    show k0_pay27 (k0_pay4 e.v7) k0_pay5 0#32 1#32 k = _
    unfold k0_pay27
    rw [lane_eq]
    have e3 : k0_pay4 e.v7 = from2 2048 128 T D := by
      unfold k0_pay4
      rw [h.v7]
      rfl
    rw [e3]
    exact select_lanes _ _ _ _ _
  lt := lt_val h k g8 g9
  k := h.k
  v := h.v
  km j d := by unfold lanes laneOf; simp only [decide_eq_true_eq]
  f8 := h8
  f9 := h9

/-- The state before head `n` of the two. -/
theorem hst_val (n : ℕ) (hn : n ≤ 2) :
    (e.hst n).1 = from2 2048 128 T (fun t d => ∑ h ∈ range n, dqH Q D K V T h t d)
    ∧ e.arg8.view.read (Elt Ideal) (e.arg8.view.writes (Elt Ideal) e.f8 (e.hst n).2.1) = up2 4096 128 (accH T (dzH Q D K V) (fun h => qh h Q) B8 n)
    ∧ e.arg9.view.read (Elt Ideal) (e.arg9.view.writes (Elt Ideal) e.f9 (e.hst n).2.2) = up2 4096 128 (accH T (wH Q K) (fun h => lanes h D) B9 n) := by
  induction n with
  | zero => exact ⟨bzero_up2, h.f8, h.f9⟩
  | succ n ih =>
    obtain ⟨hq, h8, h9⟩ := ih (by omega)
    have hk := holds_at h ⟨n, hn⟩ h8 h9
    have hs : e.hst (n + 1) = _ := headSt_succ e.c e.i e.arg2 e.harg2 e.arg3 e.harg3 e.arg4 e.harg4 e.arg5 e.harg5 e.arg6 e.harg6 e.arg7 e.harg7 e.arg8 e.harg8
      e.arg9 e.harg9 e.v3 e.v4 e.v7 e.X3 e.X4 e.X5 e.f8 e.f9 (k0_pay8 (F := Ideal)) ⟨n, hn⟩
    rw [hs]
    refine ⟨?_, ?_, ?_⟩
    · refine (trip_dq_val hk _ hq).trans ?_
      refine up2_congr fun r _ d _ => ?_
      exact (Finset.sum_range_succ (fun h => dqH Q D K V T h (T + r) d) n).symm
    · show e.arg8.view.read _ (e.arg8.view.writes _ _ (_ ++ (e.hst n).2.1)) = _
      rw [View.writes_append]
      exact trip_d8_val hk _
    · show e.arg9.view.read _ (e.arg9.view.writes _ _ (_ ++ (e.hst n).2.2)) = _
      rw [View.writes_append]
      exact trip_d9_val hk _

end
end Env
end Cert.SbBwd
-- ==== Proof.Whole.lean ====
module

public import proofs.«01_k».proof.Proof.Pair

@[expose] public section

noncomputable section

/-! The three gradients over the real numbers, of the whole arrays: `x` the queries, keys and values side by side, `y` the results'
    gradient; and what the kernel's blocks of 128 lanes come to. -/

namespace Cert.SbBwd

open Idealize.ShloMosaic
open Finset (range)

/-- The scores of head `h`. -/
def ZZ (x : ℕ → ℕ → ℝ) (h t j : ℕ) : ℝ := ∑ d ∈ range 64, x t (64 * h + d) * (1 / 8) * x j (1024 + (64 * h + d))
/-- The products of the results' gradient with the values, of head `h`. -/
def AA (x y : ℕ → ℕ → ℝ) (h t j : ℕ) : ℝ := ∑ d ∈ range 64, y t (64 * h + d) * x j (2048 + (64 * h + d))

/-- The queries' gradient, -/
def DQ (x y : ℕ → ℕ → ℝ) (t c : ℕ) : ℝ := (∑ j ∈ range 4096, gDZ (ZZ x (c / 64)) (AA x y (c / 64)) t j * x j (1024 + c)) * (1 / 8)
/-- the keys', -/
def DK (x y : ℕ → ℕ → ℝ) (j c : ℕ) : ℝ := ∑ t ∈ range 4096, gDZ (ZZ x (c / 64)) (AA x y (c / 64)) t j * (x t c * (1 / 8))
/-- and the values'. -/
def DV (x y : ℕ → ℕ → ℝ) (j c : ℕ) : ℝ := ∑ t ∈ range 4096, gW (ZZ x (c / 64)) t j * y t c
/-- Each row's sum of the logarithms of what it keeps. -/
def LT (x : ℕ → ℕ → ℝ) (h t : ℕ) : ℝ := ∑ j ∈ range 4096, gLK (ZZ x h) t j

/-- Columns `o` on, as a block. -/
def cols (o : ℕ) (x : ℕ → ℕ → ℝ) (t d : ℕ) : ℝ := x t (o + d)

/-- A product over the lanes of one head. -/
theorem sum_lanes {h : ℕ} (hh : h < 2) (f g : ℕ → ℝ) :
    ∑ d ∈ range 128, (if d / 64 = h then f d else 0) * g d = ∑ d ∈ range 64, f (64 * h + d) * g (64 * h + d) := by
  rw [show 128 = 64 + 64 by rfl, Finset.sum_range_add]
  rcases (by omega : h = 0 ∨ h = 1) with rfl | rfl
  · rw [Finset.sum_eq_zero (s := range 64) (f := fun d => (if (64 + d) / 64 = 0 then f (64 + d) else 0) * g (64 + d))
      (fun d hd => by have := Finset.mem_range.1 hd; rw [if_neg (by omega), zero_mul]), add_zero]
    refine Finset.sum_congr rfl fun d hd => ?_
    have := Finset.mem_range.1 hd
    rw [if_pos (by omega), Nat.mul_zero, Nat.zero_add]
  · rw [Finset.sum_eq_zero (s := range 64) (f := fun d => (if d / 64 = 1 then f d else 0) * g d)
      (fun d hd => by have := Finset.mem_range.1 hd; rw [if_neg (by omega), zero_mul]), zero_add]
    refine Finset.sum_congr rfl fun d hd => ?_
    have := Finset.mem_range.1 hd
    rw [if_pos (by omega)]

section
variable (x y : ℕ → ℕ → ℝ) (a : ℕ)

theorem scores {h : ℕ} (hh : h < 2) : hZ (qh h (cols (128 * a) x)) (cols (1024 + 128 * a) x) = ZZ x (2 * a + h) := by
  funext t j
  unfold hZ qh lanes ZZ cols
  refine (sum_lanes hh (fun d => x t (128 * a + d) * (1 / 8)) (fun d => x j (1024 + 128 * a + d))).trans ?_
  refine Finset.sum_congr rfl fun d _ => ?_
  rw [show 128 * a + (64 * h + d) = 64 * (2 * a + h) + d by ring, show 1024 + 128 * a + (64 * h + d) = 1024 + (64 * (2 * a + h) + d) by ring]

theorem prods {h : ℕ} (hh : h < 2) : hZ (lanes h (cols (128 * a) y)) (cols (2048 + 128 * a) x) = AA x y (2 * a + h) := by
  funext t j
  unfold hZ lanes AA cols
  refine (sum_lanes hh (fun d => y t (128 * a + d)) (fun d => x j (2048 + 128 * a + d))).trans ?_
  refine Finset.sum_congr rfl fun d _ => ?_
  rw [show 128 * a + (64 * h + d) = 64 * (2 * a + h) + d by ring, show 2048 + 128 * a + (64 * h + d) = 2048 + (64 * (2 * a + h) + d) by ring]

theorem row_sums {h : ℕ} (hh : h < 2) (t : ℕ) : sLT (qh h (cols (128 * a) x)) (cols (1024 + 128 * a) x) t = LT x (2 * a + h) t := by
  unfold sLT LT
  rw [scores x a hh]

/-- A gradient block over one query block and both heads. -/
theorem accH_two (T : ℕ) (X : ℕ → ℕ → ℕ → ℝ) (hX : ∀ h t j, t ≤ j → X h t j = 0) (Y B : ℕ → ℕ → ℝ) (j : ℕ) {d : ℕ} (hd : d < 128) :
    accH T X (fun h => lanes h Y) B 2 j d = B j d + ∑ r ∈ range 2048, X (d / 64) (T + r) j * Y (T + r) d := by
  have e : ∀ h, (if j < T + 2048 then ∑ r ∈ range 2048, X h (T + r) j * lanes h Y (T + r) d else 0)
      = if d / 64 = h then ∑ r ∈ range 2048, X (d / 64) (T + r) j * Y (T + r) d else 0 := fun h => by
    by_cases hh : d / 64 = h
    · subst hh
      rw [if_pos rfl]
      by_cases hj : j < T + 2048
      · rw [if_pos hj]
        refine Finset.sum_congr rfl fun r _ => ?_
        unfold lanes; rw [if_pos rfl]
      · rw [if_neg hj]
        refine (Finset.sum_eq_zero fun r hr => ?_).symm
        have := Finset.mem_range.1 hr
        rw [hX _ _ _ (by omega), zero_mul]
    · rw [if_neg hh, Finset.sum_eq_zero (s := range 2048) (fun r _ => by unfold lanes; rw [if_neg hh, mul_zero]), ite_self]
  show gAcc T (X 1) (lanes 1 Y) (gAcc T (X 0) (lanes 0 Y) B (T + 2048)) (T + 2048) j d = _
  unfold gAcc
  rw [e, e, add_assoc]
  congr 1
  rcases (by omega : d / 64 = 0 ∨ d / 64 = 1) with h | h
  · rw [h, if_pos rfl, if_neg (by decide), add_zero]
  · rw [h, if_pos rfl, if_neg (by decide), zero_add]

/-- Both query blocks. -/
theorem two_blocks (f : ℕ → ℝ) : ∑ r ∈ range 2048, f (0 + r) + ∑ r ∈ range 2048, f (2048 + r) = ∑ t ∈ range 4096, f t := by
  rw [show 4096 = 2048 + 2048 by rfl, Finset.sum_range_add]
  simp only [Nat.zero_add]

/-- The keys' gradient block after both query blocks. -/
theorem dk_block (j : ℕ) {d : ℕ} (hd : d < 128) :
    accH 2048 (dzH (cols (128 * a) x) (cols (128 * a) y) (cols (1024 + 128 * a) x) (cols (2048 + 128 * a) x)) (fun h => qh h (cols (128 * a) x))
      (accH 0 (dzH (cols (128 * a) x) (cols (128 * a) y) (cols (1024 + 128 * a) x) (cols (2048 + 128 * a) x)) (fun h => qh h (cols (128 * a) x)) (fun _ _ => 0) 2) 2 j d
      = DK x y j (128 * a + d) := by
  unfold qh
  rw [accH_two _ _ (fun h t j hj => gDZ_of_le hj) _ _ _ hd, accH_two _ _ (fun h t j hj => gDZ_of_le hj) _ _ _ hd, zero_add]
  rw [two_blocks (fun t => dzH (cols (128 * a) x) (cols (128 * a) y) (cols (1024 + 128 * a) x) (cols (2048 + 128 * a) x) (d / 64) t j * (cols (128 * a) x t d * (1 / 8)))]
  unfold DK dzH
  rw [scores x a (by omega), prods x y a (by omega), show (128 * a + d) / 64 = 2 * a + d / 64 by omega]
  rfl

/-- The values' gradient block after both query blocks. -/
theorem dv_block (j : ℕ) {d : ℕ} (hd : d < 128) :
    accH 2048 (wH (cols (128 * a) x) (cols (1024 + 128 * a) x)) (fun h => lanes h (cols (128 * a) y))
      (accH 0 (wH (cols (128 * a) x) (cols (1024 + 128 * a) x)) (fun h => lanes h (cols (128 * a) y)) (fun _ _ => 0) 2) 2 j d
      = DV x y j (128 * a + d) := by
  rw [accH_two _ _ (fun h t j hj => gW_of_le hj) _ _ _ hd, accH_two _ _ (fun h t j hj => gW_of_le hj) _ _ _ hd, zero_add]
  rw [two_blocks (fun t => wH (cols (128 * a) x) (cols (1024 + 128 * a) x) (d / 64) t j * cols (128 * a) y t d)]
  unfold DV wH
  rw [scores x a (by omega), show (128 * a + d) / 64 = 2 * a + d / 64 by omega]
  rfl

/-- The queries' gradient block. -/
theorem dq_block {T t : ℕ} (hT : T + 2048 ≤ 4096) (ht : t ≤ T + 2048) {d : ℕ} (hd : d < 128) :
    (∑ h ∈ range 2, dqH (cols (128 * a) x) (cols (128 * a) y) (cols (1024 + 128 * a) x) (cols (2048 + 128 * a) x) T h t d) * (1 / 8)
      = DQ x y t (128 * a + d) := by
  have e : ∀ h < 2, dqH (cols (128 * a) x) (cols (128 * a) y) (cols (1024 + 128 * a) x) (cols (2048 + 128 * a) x) T h t d
      = if d / 64 = h then ∑ j ∈ range 4096, gDZ (ZZ x (2 * a + d / 64)) (AA x y (2 * a + d / 64)) t j * x j (1024 + (128 * a + d)) else 0 := fun h hh => by
    unfold dqH
    rw [sDQ_stop _ _ _ _ _ hT ht]
    unfold sDQ
    rw [scores x a hh, prods x y a hh]
    by_cases hdh : d / 64 = h
    · subst hdh
      rw [if_pos rfl]
      refine Finset.sum_congr rfl fun j _ => ?_
      unfold lanes cols
      rw [if_pos rfl, Nat.add_assoc]
    · rw [if_neg hdh]
      exact Finset.sum_eq_zero fun j _ => by unfold lanes; rw [if_neg hdh, mul_zero]
  rw [Finset.sum_range_succ, Finset.sum_range_one, e 0 (by decide), e 1 (by decide)]
  unfold DQ
  rw [show (128 * a + d) / 64 = 2 * a + d / 64 by omega]
  congr 1
  rcases (by omega : d / 64 = 0 ∨ d / 64 = 1) with h | h
  · rw [if_pos h, if_neg (by omega), add_zero]
  · rw [if_pos h, if_neg (by omega), zero_add]
end

end Cert.SbBwd
-- ==== Proof.Grid.lean ====
module

public import proofs.«01_k».proof.Proof.Whole
public import proofs.«01_k».proof.Proof.FrameRun
public import Idealize.ShloMosaic.Lib.Pipeline.ValueKit

@[expose] public section

set_option maxRecDepth 16384

noncomputable section

/-! The three results of the kernel over its grid: what every point leaves, and the arrays after the last. -/

namespace Cert.SbBwd

open Cert.KernelIdeal Cert.KernelIdeal.Gen
open Idealize.ShloMosaic Idealize.ShloMosaic.TcCoe
open Idealize.ShloMosaic.Pipeline (Dat Cfg Window)
open Finset (range)

theorem idx_val : ∀ t : Fin cfg0.N, win0_0.index t = ![t.val % 2, t.val / 2] ∧ win0_1.index t = ![0, 8 + t.val / 2] ∧ win0_2.index t = ![0, 16 + t.val / 2]
    ∧ win0_3.index t = ![t.val / 2, t.val % 2, 0] ∧ win0_4.index t = ![t.val % 2, t.val / 2] ∧ win0_5.index t = ![t.val % 2, t.val / 2]
    ∧ win0_6.index t = ![0, t.val / 2] ∧ win0_7.index t = ![0, t.val / 2] :=
  (by decide +kernel : ∀ t : Fin grid0.N, _)

theorem coord_val : ∀ t : Fin cfg0.N, (grid0.coords t 1).val = t.val % 2 := (by decide +kernel : ∀ t : Fin grid0.N, _)

/-- The three arrays the region reads, as real numbers. -/
structure Reads (m : (ℓ : Loc nD τ sig) → Buf (Elt Ideal) ℓ) (c : Dev nD) (x y : ℕ → ℕ → ℝ) : Prop where
  hx : ∀ j : S4096x3072.Idx, V m c main_arg0 j = ((x (j 0).val (j 1).val : ℝ) : EReal)
  hy : ∀ j : S4096x1024.Idx, V m c main_arg1 j = ((y (j 0).val (j 1).val : ℝ) : EReal)
  hl : ∀ j : S16x4096x1.Idx, V m c main_v22 j = ((LT x (j 0).val (j 1).val : ℝ) : EReal)

section
variable {m : (ℓ : Loc nD τ sig) → Buf (Elt Ideal) ℓ} {c : Dev nD} {x y : ℕ → ℕ → ℝ} (h : Reads m c x y) (t : Fin cfg0.N)
include h

theorem iblk0 : iblk m c 0 t = from2 2048 128 (2048 * (t.val % 2)) (cols (128 * (t.val / 2)) x) := by
  funext j
  refine (h.hx _).trans (congrArg (fun r : ℝ => (r : EReal)) (congrArg₂ x ?_ ?_))
  · refine (Window.rect_emb_val win0_0 t j 0).trans ?_
    rw [(idx_val t).1]
    show t.val % 2 * 2048 + (j 0).val = _
    rw [Nat.mul_comm]
  · refine (Window.rect_emb_val win0_0 t j 1).trans ?_
    rw [(idx_val t).1]
    show t.val / 2 * 128 + (j 1).val = _
    rw [Nat.mul_comm]
theorem iblk1 : iblk m c 1 t = up2 4096 128 (cols (1024 + 128 * (t.val / 2)) x) := by
  funext j
  refine (h.hx _).trans (congrArg (fun r : ℝ => (r : EReal)) (congrArg₂ x ?_ ?_))
  · refine (Window.rect_emb_val win0_1 t j 0).trans ?_
    rw [(idx_val t).2.1]
    show 0 * 4096 + (j 0).val = _
    rw [Nat.zero_mul, Nat.zero_add]
  · refine (Window.rect_emb_val win0_1 t j 1).trans ?_
    rw [(idx_val t).2.1]
    show (8 + t.val / 2) * 128 + (j 1).val = 1024 + 128 * (t.val / 2) + (j 1).val
    ring
theorem iblk2 : iblk m c 2 t = up2 4096 128 (cols (2048 + 128 * (t.val / 2)) x) := by
  funext j
  refine (h.hx _).trans (congrArg (fun r : ℝ => (r : EReal)) (congrArg₂ x ?_ ?_))
  · refine (Window.rect_emb_val win0_2 t j 0).trans ?_
    rw [(idx_val t).2.2.1]
    show 0 * 4096 + (j 0).val = _
    rw [Nat.zero_mul, Nat.zero_add]
  · refine (Window.rect_emb_val win0_2 t j 1).trans ?_
    rw [(idx_val t).2.2.1]
    show (16 + t.val / 2) * 128 + (j 1).val = 2048 + 128 * (t.val / 2) + (j 1).val
    ring
theorem iblk3 (j : S2x2048x1.Idx) : iblk m c 3 t j = ((LT x (2 * (t.val / 2) + (j 0).val) (2048 * (t.val % 2) + (j 1).val) : ℝ) : EReal) := by
  refine (h.hl _).trans (congrArg (fun r : ℝ => (r : EReal)) (congrArg₂ (LT x) ?_ ?_))
  · refine (Window.rect_emb_val win0_3 t j 0).trans ?_
    rw [(idx_val t).2.2.2.1]
    show t.val / 2 * 2 + (j 0).val = _
    rw [Nat.mul_comm]
  · refine (Window.rect_emb_val win0_3 t j 1).trans ?_
    rw [(idx_val t).2.2.2.1]
    show t.val % 2 * 2048 + (j 1).val = _
    rw [Nat.mul_comm]
theorem iblk4 : iblk m c 4 t = from2 2048 128 (2048 * (t.val % 2)) (cols (128 * (t.val / 2)) y) := by
  funext j
  refine (h.hy _).trans (congrArg (fun r : ℝ => (r : EReal)) (congrArg₂ y ?_ ?_))
  · refine (Window.rect_emb_val win0_4 t j 0).trans ?_
    rw [(idx_val t).2.2.2.2.1]
    show t.val % 2 * 2048 + (j 0).val = _
    rw [Nat.mul_comm]
  · refine (Window.rect_emb_val win0_4 t j 1).trans ?_
    rw [(idx_val t).2.2.2.2.1]
    show t.val / 2 * 128 + (j 1).val = _
    rw [Nat.mul_comm]
end

/-- The two heads' passes at point `t`, from gradient blocks holding `x8` and `x9`. -/
def envAt (m : (ℓ : Loc nD τ sig) → Buf (Elt Ideal) ℓ) (c : Dev nD) (t : Fin cfg0.N) (x8 x9 : Vec Ideal S4096x128 .f32) : Env Ideal where
  c := c
  i := grid0.coords t
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  arg7 := win0_5.stage (cfg0.slots t 5)
  harg7 := hstage0_5 ((cfg0.slots t 5).cast nbuf0_5)
  arg8 := win0_6.stage (cfg0.slots t 6)
  harg8 := hstage0_6 ((cfg0.slots t 6).cast nbuf0_6)
  arg9 := win0_7.stage (cfg0.slots t 7)
  harg9 := hstage0_7 ((cfg0.slots t 7).cast nbuf0_7)
  v3 := Scalar.muli (BitVec.ofNat 32 (grid0.coords t 1).val) 2048#32
  v4 := iblk m c 0 t
  v7 := iblk m c 4 t
  X3 := (hstage0_1 ((cfg0.slots t 1).cast nbuf0_1)).unread (iblk m c 1 t)
  X4 := (hstage0_2 ((cfg0.slots t 2).cast nbuf0_2)).unread (iblk m c 2 t)
  X5 := (hstage0_3 ((cfg0.slots t 3).cast nbuf0_3)).unread (iblk m c 3 t)
  k := ⟨0, by decide⟩
  f8 := (hstage0_6 ((cfg0.slots t 6).cast nbuf0_6)).unread x8
  f9 := (hstage0_7 ((cfg0.slots t 7).cast nbuf0_7)).unread x9

theorem o7_eq (m : (ℓ : Loc nD τ sig) → Buf (Elt Ideal) ℓ) (c : Dev nD) (t : Fin cfg0.N) (x8 x9) :
    o7 m c t x8 x9 = k0_pay12 ((envAt m c t x8 x9).hst k0_t1_loop.trips).1 := rfl
theorem o8_eq (m : (ℓ : Loc nD τ sig) → Buf (Elt Ideal) ℓ) (c : Dev nD) (t : Fin cfg0.N) (x8 x9) :
    o8 m c t x8 x9 = (envAt m c t x8 x9).arg8.view.read (Elt Ideal) ((envAt m c t x8 x9).arg8.view.writes (Elt Ideal) (envAt m c t x8 x9).f8
      ((envAt m c t x8 x9).hst k0_t1_loop.trips).2.1) := rfl
theorem o9_eq (m : (ℓ : Loc nD τ sig) → Buf (Elt Ideal) ℓ) (c : Dev nD) (t : Fin cfg0.N) (x8 x9) :
    o9 m c t x8 x9 = (envAt m c t x8 x9).arg9.view.read (Elt Ideal) ((envAt m c t x8 x9).arg9.view.writes (Elt Ideal) (envAt m c t x8 x9).f9
      ((envAt m c t x8 x9).hst k0_t1_loop.trips).2.2) := rfl

theorem heads_two : k0_t1_loop.trips = 2 := by decide

section
variable {m : (ℓ : Loc nD τ sig) → Buf (Elt Ideal) ℓ} {c : Dev nD} {x y : ℕ → ℕ → ℝ} (h : Reads m c x y) (t : Fin cfg0.N)
include h

/-- The matrices of point `t`. -/
theorem point_at {x8 x9 : Vec Ideal S4096x128 .f32} {B8 B9 : ℕ → ℕ → ℝ} (h8 : x8 = up2 4096 128 B8) (h9 : x9 = up2 4096 128 B9) :
    Env.Point (envAt m c t x8 x9) (2048 * (t.val % 2)) (cols (128 * (t.val / 2)) x) (cols (128 * (t.val / 2)) y)
      (cols (1024 + 128 * (t.val / 2)) x) (cols (2048 + 128 * (t.val / 2)) x) B8 B9 where
  t := by rw [← coord_val t]; rfl
  v4 := iblk0 h t
  v7 := iblk4 h t
  k := ((hstage0_1 ((cfg0.slots t 1).cast nbuf0_1)).read_unread _).trans (iblk1 h t)
  v := ((hstage0_2 ((cfg0.slots t 2).cast nbuf0_2)).read_unread _).trans (iblk2 h t)
  lt j := by
    have hj : (j 0).val < 2 := (j 0).isLt
    rw [row_sums x _ hj]
    exact (congrFun ((hstage0_3 ((cfg0.slots t 3).cast nbuf0_3)).read_unread _) j).trans (iblk3 h t j)
  f8 := ((hstage0_6 ((cfg0.slots t 6).cast nbuf0_6)).read_unread _).trans h8
  f9 := ((hstage0_7 ((cfg0.slots t 7).cast nbuf0_7)).read_unread _).trans h9

/-- The gradient blocks after the passes of both heads at point `t`. -/
abbrev dkB (x y : ℕ → ℕ → ℝ) (t : ℕ) (B : ℕ → ℕ → ℝ) : ℕ → ℕ → ℝ :=
  accH (2048 * (t % 2)) (dzH (cols (128 * (t / 2)) x) (cols (128 * (t / 2)) y) (cols (1024 + 128 * (t / 2)) x) (cols (2048 + 128 * (t / 2)) x))
    (fun h => qh h (cols (128 * (t / 2)) x)) B 2
abbrev dvB (x y : ℕ → ℕ → ℝ) (t : ℕ) (B : ℕ → ℕ → ℝ) : ℕ → ℕ → ℝ :=
  accH (2048 * (t % 2)) (wH (cols (128 * (t / 2)) x) (cols (1024 + 128 * (t / 2)) x)) (fun h => lanes h (cols (128 * (t / 2)) y)) B 2

theorem o8_val {x8 x9 : Vec Ideal S4096x128 .f32} {B8 B9 : ℕ → ℕ → ℝ} (h8 : x8 = up2 4096 128 B8) (h9 : x9 = up2 4096 128 B9) :
    o8 m c t x8 x9 = up2 4096 128 (dkB x y t.val B8) := by
  rw [o8_eq, heads_two]
  exact (Env.hst_val (point_at h t h8 h9) 2 le_rfl).2.1
theorem o9_val {x8 x9 : Vec Ideal S4096x128 .f32} {B8 B9 : ℕ → ℕ → ℝ} (h8 : x8 = up2 4096 128 B8) (h9 : x9 = up2 4096 128 B9) :
    o9 m c t x8 x9 = up2 4096 128 (dvB x y t.val B9) := by
  rw [o9_eq, heads_two]
  exact (Env.hst_val (point_at h t h8 h9) 2 le_rfl).2.2
theorem o7_val {x8 x9 : Vec Ideal S4096x128 .f32} {B8 B9 : ℕ → ℕ → ℝ} (h8 : x8 = up2 4096 128 B8) (h9 : x9 = up2 4096 128 B9) :
    o7 m c t x8 x9 = up2 2048 128 fun r d => DQ x y (2048 * (t.val % 2) + r) (128 * (t.val / 2) + d) := by
  rw [o7_eq, heads_two]
  have e := (Env.hst_val (point_at h t h8 h9) 2 le_rfl).1
  have e' : k0_pay12 ((envAt m c t x8 x9).hst 2).1 = _ := (congrArg₂ (mulf (F := Ideal) (φ := .f32)) e beighth_up2).trans (mulf_up2 _ _)
  refine e'.trans (up2_congr fun r hr d hd => ?_)
  exact dq_block x y _ (by omega) (by omega) hd

theorem p8_val : ∃ B, p8 m c t = up2 4096 128 B ∧ (t.val % 2 = 0 → B = fun _ _ => 0) ∧ (t.val % 2 = 1 → B = dkB x y (t.val - 1) fun _ _ => 0) := by
  unfold p8
  by_cases ht : t.val % 2 = 0
  · rw [if_pos ht]
    exact ⟨_, bzero_up2, fun _ => rfl, fun _ => by omega⟩
  · rw [if_neg ht]
    exact ⟨_, o8_val h (prv t) bzero_up2 bzero_up2, fun _ => by omega, fun _ => rfl⟩
theorem p9_val : ∃ B, p9 m c t = up2 4096 128 B ∧ (t.val % 2 = 0 → B = fun _ _ => 0) ∧ (t.val % 2 = 1 → B = dvB x y (t.val - 1) fun _ _ => 0) := by
  unfold p9
  by_cases ht : t.val % 2 = 0
  · rw [if_pos ht]
    exact ⟨_, bzero_up2, fun _ => rfl, fun _ => by omega⟩
  · rw [if_neg ht]
    exact ⟨_, o9_val h (prv t) bzero_up2 bzero_up2, fun _ => by omega, fun _ => rfl⟩

omit h in
/-- Two query blocks make the gradient of a head pair's keys, and of its values. -/
theorem dkB_odd (x y : ℕ → ℕ → ℝ) {t j d : ℕ} (ht : t % 2 = 1) (hd : d < 128) :
    dkB x y t (dkB x y (t - 1) fun _ _ => 0) j d = DK x y j (128 * (t / 2) + d) := by
  unfold dkB
  rw [ht, show (t - 1) % 2 = 0 by omega, show (t - 1) / 2 = t / 2 by omega]
  exact dk_block x y (t / 2) j hd
omit h in
theorem dvB_odd (x y : ℕ → ℕ → ℝ) {t j d : ℕ} (ht : t % 2 = 1) (hd : d < 128) :
    dvB x y t (dvB x y (t - 1) fun _ _ => 0) j d = DV x y j (128 * (t / 2) + d) := by
  unfold dvB
  rw [ht, show (t - 1) % 2 = 0 by omega, show (t - 1) / 2 = t / 2 by omega]
  exact dv_block x y (t / 2) j hd

omit h in
theorem emb6 (j : S4096x128.Idx) : win0_6.index t 0 * 4096 + (j 0).val = (j 0).val ∧ win0_6.index t 1 * 128 + (j 1).val = 128 * (t.val / 2) + (j 1).val := by
  rw [(idx_val t).2.2.2.2.2.2.1]
  refine ⟨?_, ?_⟩
  · show 0 * 4096 + (j 0).val = _
    rw [Nat.zero_mul, Nat.zero_add]
  · show t.val / 2 * 128 + (j 1).val = _
    rw [Nat.mul_comm]
omit h in
theorem emb7 (j : S4096x128.Idx) : win0_7.index t 0 * 4096 + (j 0).val = (j 0).val ∧ win0_7.index t 1 * 128 + (j 1).val = 128 * (t.val / 2) + (j 1).val := by
  rw [(idx_val t).2.2.2.2.2.2.2]
  refine ⟨?_, ?_⟩
  · show 0 * 4096 + (j 0).val = _
    rw [Nat.zero_mul, Nat.zero_add]
  · show t.val / 2 * 128 + (j 1).val = _
    rw [Nat.mul_comm]

/-! The arrays after the last point. -/

theorem final5 : (dats m 0 c).arrAt 5 (cfgs 0).N = fun j => ((DQ x y (j 0).val (j 1).val : ℝ) : EReal) := by
  refine (dats m 0 c).arrAt_eq_of_covers 5 _ (by decide +kernel) fun t hf j => ?_
  blk_simp
  rw [after0_5]
  obtain ⟨B8, h8, -⟩ := p8_val h t
  obtain ⟨B9, h9, -⟩ := p9_val h t
  rw [o7_val h t h8 h9]
  refine congrArg (fun r : ℝ => (r : EReal)) (congrArg₂ (DQ x y) (Eq.symm ?_) (Eq.symm ?_)) <;> rw [(idx_val t).2.2.2.2.2.1]
  · show t.val % 2 * 2048 + (j 0).val = _
    rw [Nat.mul_comm]
  · show t.val / 2 * 128 + (j 1).val = _
    rw [Nat.mul_comm]
theorem final6 : (dats m 0 c).arrAt 6 (cfgs 0).N = fun j => ((DK x y (j 0).val (j 1).val : ℝ) : EReal) := by
  refine (dats m 0 c).arrAt_eq_of_covers 6 _ (by decide +kernel) fun t hf j => ?_
  have ht := (flush0_6 t).1 hf
  blk_simp
  rw [after0_6]
  obtain ⟨B8, h8, -, h8'⟩ := p8_val h t
  obtain ⟨B9, h9, -⟩ := p9_val h t
  rw [o8_val h t h8 h9, h8' ht]
  exact (congrArg (fun r : ℝ => (r : EReal)) (dkB_odd x y ht (Idealize.ShloMosaic.ValueIdx.idx2_lt1 j))).trans
    (congrArg (fun r : ℝ => (r : EReal)) (congrArg₂ (DK x y) (emb6 t j).1.symm (emb6 t j).2.symm))
theorem final7 : (dats m 0 c).arrAt 7 (cfgs 0).N = fun j => ((DV x y (j 0).val (j 1).val : ℝ) : EReal) := by
  refine (dats m 0 c).arrAt_eq_of_covers 7 _ (by decide +kernel) fun t hf j => ?_
  have ht := (flush0_7 t).1 hf
  blk_simp
  rw [after0_7]
  obtain ⟨B8, h8, -⟩ := p8_val h t
  obtain ⟨B9, h9, -, h9'⟩ := p9_val h t
  rw [o9_val h t h8 h9, h9' ht]
  exact (congrArg (fun r : ℝ => (r : EReal)) (dvB_odd x y ht (Idealize.ShloMosaic.ValueIdx.idx2_lt1 j))).trans
    (congrArg (fun r : ℝ => (r : EReal)) (congrArg₂ (DV x y) (emb7 t j).1.symm (emb7 t j).2.symm))
end

end Cert.SbBwd
-- ==== Proof.Cube.lean ====
module

public import proofs.«01_k».proof.Proof.Whole
public import Idealize.ShloMosaic.Lib.StackMember
public import Idealize.ShloMosaic.Lib.IdealHost
public import Idealize.ShloMosaic.Lib.ValueLayout

@[expose] public section

noncomputable section

/-! Stacks of matrices of real numbers as vectors of the ideal instance, and what each host operation does to them. -/

namespace Cert.SbBwd

open Idealize.ShloMosaic Idealize.ShloMosaic.ValueIdx
open Finset (range)

/-- The shape of a stack of matrices. -/
abbrev C (a b c : ℕ) : Shape := ⟨3, ![a, b, c]⟩
/-- The shape of one number. -/
abbrev O : Shape := ⟨0, ![]⟩

/-- The stack of matrices of real numbers `f`, as a vector. -/
def up3 (a b c : ℕ) (f : ℕ → ℕ → ℕ → ℝ) : (C a b c).Idx → EReal := fun i => ((f (i 0).val (i 1).val (i 2).val : ℝ) : EReal)
/-- The truth values `p`, the same in each matrix of the stack. -/
def bits3 (a b c : ℕ) (p : ℕ → ℕ → Bool) : IVec (C a b c) 1 := fun i => BitVec.ofBool (p (i 1).val (i 2).val)

section
variable {a b c : ℕ}

theorem up3_ix3 (f : ℕ → ℕ → ℕ → ℝ) (h : Fin a) (t : Fin b) (j : Fin c) : up3 a b c f (ValueIdx.ix3 h t j) = ((f h.val t.val j.val : ℝ) : EReal) := rfl
theorem up2_ix2 (f : ℕ → ℕ → ℝ) (t : Fin b) (j : Fin c) : up2 b c f (ValueIdx.ix2 t j) = ((f t.val j.val : ℝ) : EReal) := rfl

theorem up3_congr {f g : ℕ → ℕ → ℕ → ℝ} (h : ∀ x < a, ∀ r < b, ∀ s < c, f x r s = g x r s) : up3 a b c f = up3 a b c g := by
  funext i
  unfold up3
  rw [h _ (i 0).isLt _ (i 1).isLt _ (i 2).isLt]

section Pointwise
variable {φ : FTy} (f g : ℕ → ℕ → ℕ → ℝ)

theorem addf_up3 : addf (F := Ideal) (φ := φ) (up3 a b c f) (up3 a b c g) = up3 a b c fun h t j => f h t j + g h t j := by
  funext i; exact (EReal.coe_add _ _).symm
theorem subf_up3 : subf (F := Ideal) (φ := φ) (up3 a b c f) (up3 a b c g) = up3 a b c fun h t j => f h t j - g h t j := by
  funext i; exact (EReal.coe_sub _ _).symm
theorem mulf_up3 : mulf (F := Ideal) (φ := φ) (up3 a b c f) (up3 a b c g) = up3 a b c fun h t j => f h t j * g h t j := by
  funext i; exact (EReal.coe_mul _ _).symm
theorem negf_up3 : Host.negf (F := Ideal) (φ := φ) (up3 a b c f) = up3 a b c fun h t j => -f h t j := by
  funext i; exact (EReal.coe_neg _).symm
theorem maximumf_up3 : maximumf (F := Ideal) (φ := φ) (up3 a b c f) (up3 a b c g) = up3 a b c fun h t j => max (f h t j) (g h t j) := by
  funext i; exact (EReal.coe_strictMono.monotone.map_max).symm
theorem absf_up3 : Host.absf (F := Ideal) (φ := φ) (up3 a b c f) = up3 a b c fun h t j => |f h t j| := by
  funext i
  show max (_ : EReal) (-_) = _
  unfold up3
  rw [← EReal.coe_neg, ← EReal.coe_strictMono.monotone.map_max]; rfl
theorem exp_up3 : Host.exp (F := Ideal) (φ := φ) (up3 a b c f) = up3 a b c fun h t j => Real.exp (f h t j) := rfl
theorem log1p_up3 (hf : ∀ h t j, 0 < f h t j) : Host.log1p (F := Ideal) (φ := φ) (up3 a b c f) = up3 a b c fun h t j => Real.log (1 + f h t j) := by
  funext i
  show Ideal.log (1 + ((f (i 0).val (i 1).val (i 2).val : ℝ) : EReal)) = ((Real.log (1 + f (i 0).val (i 1).val (i 2).val) : ℝ) : EReal)
  rw [← EReal.coe_one, ← EReal.coe_add, Ideal.log_coe, if_neg (not_le.2 (by have := hf (i 0).val (i 1).val (i 2).val; linarith))]
theorem select_up3 (p : ℕ → ℕ → Bool) : select (bits3 a b c p) (up3 a b c f) (up3 a b c g) = up3 a b c fun h t j => if p t j then f h t j else g h t j := by
  funext i
  rw [select_apply]
  show Scalar.select (BitVec.ofBool (p (i 1).val (i 2).val)) ((f (i 0).val (i 1).val (i 2).val : ℝ) : EReal) ((g (i 0).val (i 1).val (i 2).val : ℝ) : EReal)
    = ((if p (i 1).val (i 2).val then f (i 0).val (i 1).val (i 2).val else g (i 0).val (i 1).val (i 2).val : ℝ) : EReal)
  cases p (i 1).val (i 2).val <;> rfl
/-- No number differs from itself. -/
theorem select_une {s : Shape} (x : FVec Ideal s φ) (y z : s.Idx → EReal) : select (cmpf (F := Ideal) .une x x) y z = z := by
  funext i
  rw [select_apply]
  show Scalar.select (BitVec.ofBool (decide (x i ≠ x i))) _ _ = _
  rw [decide_eq_false (fun h => h rfl)]; rfl
/-- No real number is infinite. -/
theorem select_inf (w : (C a b c).Idx → EReal) (hw : ∀ i, w i = ⊤) (y z : (C a b c).Idx → EReal) :
    select (cmpf (F := Ideal) (φ := φ) .oeq (up3 a b c f) w) y z = z := by
  funext i
  rw [select_apply]
  show Scalar.select (BitVec.ofBool (decide (up3 a b c f i = w i))) _ _ = _
  rw [hw, decide_eq_false (show ¬ up3 a b c f i = ⊤ from EReal.coe_ne_top _)]; rfl
end Pointwise

/-! One number everywhere. -/
section
variable (h : O.BroadcastsInDim (C a b c) (![] : Fin 0 → Fin 3))
theorem zero_up3 : broadcastInDim (C a b c) ![] h (constant (F := Ideal) O .f32 0x00000000#32) = up3 a b c fun _ _ _ => 0 := by
  funext i; rw [broadcastInDim_scalar_apply]; exact Ideal.ofBits_zero_f32
theorem eighth_up3 : broadcastInDim (C a b c) ![] h (constant (F := Ideal) O .f32 0x3E000000#32) = up3 a b c fun _ _ _ => 1 / 8 := by
  funext i; rw [broadcastInDim_scalar_apply]
  show Ideal.ofBits .f32 0x3E000000#32 = ((_ : ℝ) : EReal)
  simp [Ideal.ofBits, Ideal.ieee, -EReal.coe_mul]; norm_num
theorem inf_eq : Ideal.ofBits .f32 0x7F800000#32 = ⊤ := by
  simp [Ideal.ofBits, Ideal.ieee]
theorem inf_apply (i) : broadcastInDim (C a b c) ![] h (constant (F := Ideal) O .f32 0x7F800000#32) i = (⊤ : EReal) := by
  rw [broadcastInDim_scalar_apply]; exact inf_eq
end

/-- The soft plus of each entry, as the host forms it, from a stack of zeros and one of infinities. -/
def softplus (h : O.BroadcastsInDim (C a b c) (![] : Fin 0 → Fin 3)) (u : FVec Ideal (C a b c) .f32) : FVec Ideal (C a b c) .f32 :=
  let z : FVec Ideal (C a b c) .f32 := broadcastInDim (C a b c) ![] h (constant (F := Ideal) O .f32 0x00000000#32)
  select (cmpf .une (subf u z) (subf u z)) (addf u z) (addf (maximumf u z) (Host.log1p (Host.exp (Host.negf (Host.absf (subf u z))))))

theorem sp_eq (u : ℝ) : max u 0 + Real.log (1 + Real.exp (-|u|)) = SP u := by
  have h := lb_eq (-u)
  rw [neg_neg, abs_neg, zero_sub] at h
  have h' : max u 0 = -min (-u) 0 := by rcases le_total u 0 with h | h <;> simp [h]
  rw [h']; linarith

theorem softplus_up3 (h : O.BroadcastsInDim (C a b c) (![] : Fin 0 → Fin 3)) (f : ℕ → ℕ → ℕ → ℝ) :
    softplus h (up3 a b c f) = up3 a b c fun x t j => SP (f x t j) := by
  unfold softplus
  dsimp only
  rw [select_une, zero_up3, subf_up3, maximumf_up3, absf_up3, negf_up3, exp_up3, log1p_up3 _ (fun _ _ _ => Real.exp_pos _), addf_up3]
  refine up3_congr fun x _ t _ j _ => ?_
  rw [sub_zero]; exact sp_eq _

/-- The slope of the soft plus, as the host forms it. -/
def slope (h : O.BroadcastsInDim (C a b c) (![] : Fin 0 → Fin 3)) (u : FVec Ideal (C a b c) .f32) : FVec Ideal (C a b c) .f32 :=
  let z : FVec Ideal (C a b c) .f32 := broadcastInDim (C a b c) ![] h (constant (F := Ideal) O .f32 0x00000000#32)
  let i : FVec Ideal (C a b c) .f32 := broadcastInDim (C a b c) ![] h (constant (F := Ideal) O .f32 0x7F800000#32)
  Host.exp (subf (select (cmpf .oeq u i) z u) (select (cmpf .oeq (softplus h u) i) z (softplus h u)))

theorem slope_up3 (h : O.BroadcastsInDim (C a b c) (![] : Fin 0 → Fin 3)) (f : ℕ → ℕ → ℕ → ℝ) :
    slope h (up3 a b c f) = up3 a b c fun x t j => Real.exp (f x t j - SP (f x t j)) := by
  unfold slope
  dsimp only
  rw [softplus_up3, select_inf _ _ (inf_apply h), select_inf _ _ (inf_apply h), subf_up3, exp_up3]

/-! Products of the members of two stacks. -/
section
variable {k : ℕ} {φ : FTy} (prec : Option ContractPrecision) (f g : ℕ → ℕ → ℕ → ℝ)

theorem sum_coe_mul (f g : ℕ → ℝ) : ∑ d : Fin k, ((f d.val : ℝ) : EReal) * ((g d.val : ℝ) : EReal) = ((∑ d ∈ range k, f d * g d : ℝ) : EReal) := by
  rw [coe_sum_range]
  exact Finset.sum_congr rfl fun d _ => (EReal.coe_mul _ _).symm

theorem dot_up3 (w : DotDims.WF (C a b k) (C a k c) (C a b c) [2] [1] [1] [2] [0] [0]) :
    Host.dotGeneral (F := Ideal) (⟨[2], [1], [1], [2], [0], [0], w⟩ : DotDims (C a b k) (C a k c) (C a b c)) (φ₁ := .f32) (φ₂ := .f32) prec (up3 a b k f) (up3 a k c g)
      = up3 a b c fun x t j => ∑ d ∈ range k, f x t d * g x d j := by
  funext i
  rw [ValueIdx.eq_ix3 i]
  refine (StackMember.dotGeneral_stack_apply w prec _ _ _ _ _).trans ?_
  exact sum_coe_mul (fun d => f (i 0).val (i 1).val d) (fun d => g (i 0).val d (i 2).val)

/-- … of the first with the second transposed, -/
theorem dotT_up3 (w : DotDims.WF (C a b k) (C a c k) (C a b c) [2] [2] [1] [1] [0] [0]) :
    Host.dotGeneral (F := Ideal) (⟨[2], [2], [1], [1], [0], [0], w⟩ : DotDims (C a b k) (C a c k) (C a b c)) (φ₁ := .f32) (φ₂ := .f32) prec (up3 a b k f) (up3 a c k g)
      = up3 a b c fun x t j => ∑ d ∈ range k, f x t d * g x j d := by
  funext i
  rw [ValueIdx.eq_ix3 i]
  refine (Ideal.dotGeneral_apply _ _ _ _ _ _).trans ?_
  rw [← Equiv.sum_comp (contrEquiv1 (⟨[2], [2], [1], [1], [0], [0], w⟩ : DotDims (C a b k) (C a c k) (C a b c)) k rfl rfl).symm]
  refine Eq.trans (Finset.sum_congr rfl fun d _ => ?_) (sum_coe_mul (k := k) (fun d => f (i 0).val (i 1).val d) (fun d => g (i 0).val (i 2).val d))
  have c3 := contrEquiv1_symm_val (⟨[2], [2], [1], [1], [0], [0], w⟩ : DotDims (C a b k) (C a c k) (C a b c)) k rfl rfl d
  have l3 : (⟨[2], [2], [1], [1], [0], [0], w⟩ : DotDims (C a b k) (C a c k) (C a b c)).lhsIdx (ValueIdx.ix3 (i 0) (i 1) (i 2))
      ((contrEquiv1 _ k rfl rfl).symm d) = ValueIdx.ix3 (i 0) (i 1) d := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims (C a b k) (C a c k) (C a b c)).rhsIdx (ValueIdx.ix3 (i 0) (i 1) (i 2))
      ((contrEquiv1 _ k rfl rfl).symm d) = ValueIdx.ix3 (i 0) (i 2) d := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  exact congrArg₂ (fun (u : (C a b k).Idx) (v : (C a c k).Idx) => up3 a b k f u * up3 a c k g v) l3 r3

/-- … and of the first transposed with the second. -/
theorem Tdot_up3 (w : DotDims.WF (C a k b) (C a k c) (C a b c) [1] [1] [2] [2] [0] [0]) :
    Host.dotGeneral (F := Ideal) (⟨[1], [1], [2], [2], [0], [0], w⟩ : DotDims (C a k b) (C a k c) (C a b c)) (φ₁ := .f32) (φ₂ := .f32) prec (up3 a k b f) (up3 a k c g)
      = up3 a b c fun x t j => ∑ d ∈ range k, f x d t * g x d j := by
  funext i
  rw [ValueIdx.eq_ix3 i]
  refine (Ideal.dotGeneral_apply _ _ _ _ _ _).trans ?_
  rw [← Equiv.sum_comp (contrEquiv1 (⟨[1], [1], [2], [2], [0], [0], w⟩ : DotDims (C a k b) (C a k c) (C a b c)) k rfl rfl).symm]
  refine Eq.trans (Finset.sum_congr rfl fun d _ => ?_) (sum_coe_mul (k := k) (fun d => f (i 0).val d (i 1).val) (fun d => g (i 0).val d (i 2).val))
  have c3 := contrEquiv1_symm_val (⟨[1], [1], [2], [2], [0], [0], w⟩ : DotDims (C a k b) (C a k c) (C a b c)) k rfl rfl d
  have l3 : (⟨[1], [1], [2], [2], [0], [0], w⟩ : DotDims (C a k b) (C a k c) (C a b c)).lhsIdx (ValueIdx.ix3 (i 0) (i 1) (i 2))
      ((contrEquiv1 _ k rfl rfl).symm d) = ValueIdx.ix3 (i 0) d (i 1) := by
    funext ax; apply Fin.ext
    match ax with
    | ⟨0, _⟩ => simp [DotDims.lhsIdx]; rfl
    | ⟨1, _⟩ => simp [DotDims.lhsIdx]; exact c3
    | ⟨2, _⟩ => simp [DotDims.lhsIdx]; rfl
  have r3 : (⟨[1], [1], [2], [2], [0], [0], w⟩ : DotDims (C a k b) (C a k c) (C a b c)).rhsIdx (ValueIdx.ix3 (i 0) (i 1) (i 2))
      ((contrEquiv1 _ k rfl rfl).symm d) = ValueIdx.ix3 (i 0) d (i 2) := by
    funext ax; apply Fin.ext
    match ax with
    | ⟨0, _⟩ => simp [DotDims.rhsIdx]; rfl
    | ⟨1, _⟩ => simp [DotDims.rhsIdx]; exact c3
    | ⟨2, _⟩ => simp [DotDims.rhsIdx]; rfl
  exact congrArg₂ (fun (u : (C a k b).Idx) (v : (C a k c).Idx) => up3 a k b f u * up3 a k c g v) l3 r3
end

/-! The heads side by side, and one under the other. -/

theorem heads_up3 {m d : ℕ} (f : ℕ → ℕ → ℝ) (hc : (M b m).ShapeCasts (C b a d)) (ht : (C b a d).Transposes [1, 0, 2] (C a b d)) (hm : m = a * d) :
    transpose (C a b d) [1, 0, 2] (shapeCast (C b a d) (up2 b m f) hc) ht = up3 a b d fun h t e => f t (d * h + e) := by
  subst hm
  funext i
  have h0 : (i 0).val < a := (i 0).isLt
  have h2 : (i 2).val < d := (i 2).isLt
  have hl : d * (i 0).val + (i 2).val < a * d := by nlinarith
  refine (transpose_apply _ _ ht i (ValueIdx.ix3 (i 1) (i 0) (i 2)) fun x => match x with | ⟨0, _⟩ => rfl | ⟨1, _⟩ => rfl | ⟨2, _⟩ => rfl).trans ?_
  refine (shapeCast_apply _ hc _ (ValueIdx.ix2 (i 1) ⟨d * (i 0).val + (i 2).val, hl⟩) (by
    rw [Shape.rowMajor_val_three, Shape.rowMajor_val_two]
    show (i 1).val * (a * d) + (d * (i 0).val + (i 2).val) = ((i 1).val * a + (i 0).val) * d + (i 2).val
    ring)).trans rfl

theorem unheads_up3 {m d : ℕ} (hd : 0 < d) (f : ℕ → ℕ → ℕ → ℝ) (ht : (C a b d).Transposes [1, 0, 2] (C b a d)) (hc : (C b a d).ShapeCasts (M b m)) (hm : m = a * d) :
    shapeCast (M b m) (transpose (C b a d) [1, 0, 2] (up3 a b d f) ht) hc = up2 b m fun t e => f (e / d) t (e % d) := by
  subst hm
  funext i
  have h1 : (i 1).val < a * d := (i 1).isLt
  have hq : (i 1).val / d < a := (Nat.div_lt_iff_lt_mul hd).2 h1
  have hr : (i 1).val % d < d := Nat.mod_lt _ hd
  refine (shapeCast_apply _ hc _ (ValueIdx.ix3 (i 0) ⟨(i 1).val / d, hq⟩ ⟨(i 1).val % d, hr⟩) (by
    rw [Shape.rowMajor_val_three, Shape.rowMajor_val_two]
    show ((i 0).val * a + (i 1).val / d) * d + (i 1).val % d = (i 0).val * (a * d) + (i 1).val
    have := Nat.div_add_mod (i 1).val d
    nlinarith)).trans ?_
  exact (transpose_apply _ _ ht _ (ValueIdx.ix3 ⟨(i 1).val / d, hq⟩ (i 0) ⟨(i 1).val % d, hr⟩) fun x => match x with | ⟨0, _⟩ => rfl | ⟨1, _⟩ => rfl | ⟨2, _⟩ => rfl).trans rfl

theorem swap_up3 (f : ℕ → ℕ → ℕ → ℝ) (ht : (C a b c).Transposes [0, 2, 1] (C a c b)) :
    transpose (C a c b) [0, 2, 1] (up3 a b c f) ht = up3 a c b fun h t j => f h j t := by
  funext i
  rw [ValueIdx.eq_ix3 i]
  exact transpose_ix3_021_apply _ ht _ _ _

/-- Columns of a matrix. -/
theorem slice_cols_up2 {n m o k : ℕ} (f : ℕ → ℕ → ℝ) (h : (M n m).Slices ![0, o] (M n k)) :
    extractStridedSlice (M n k) ![0, o] (up2 n m f) h = up2 n k fun t d => f t (o + d) := by
  funext j
  rw [ValueIdx.eq_ix2 j]
  exact slice2_axis1_eq o _ h _ _

end
end Cert.SbBwd
-- ==== Proof.Sums.lean ====
module

public import proofs.«01_k».proof.Proof.Cube
public import Idealize.ShloMosaic.Lib.Decide

@[expose] public section

noncomputable section

/-! The host's running sums along a row, its sums of rows, and the mask of the earlier keys. -/

namespace Cert.SbBwd

open Idealize.ShloMosaic Idealize.ShloMosaic.ValueIdx
open Finset (range)

theorem foldl_add {ι : Type} (g : ι → EReal) (l : List ι) (v : EReal) : l.foldl (fun r n => r + g n) v = v + (l.map g).sum := by
  induction l generalizing v with
  | nil => simp
  | cons i l ih => rw [List.foldl_cons, ih, List.map_cons, List.sum_cons, add_assoc]

/-- A sum over the positions of a window of one row is the sum over the row's positions. -/
theorem sum_window_row (N : ℕ) (g : (C 1 1 N).Idx → EReal) :
    ((List.finRange (C 1 1 N).numel).map fun n => g ((C 1 1 N).rowMajor.symm n)).sum = ∑ k : Fin N, g (ValueIdx.ix3 0 0 k) := by
  rw [← List.ofFn_eq_map, List.sum_ofFn]
  rw [Equiv.sum_comp (C 1 1 N).rowMajor.symm g]
  refine (Fintype.sum_equiv ⟨fun k => ValueIdx.ix3 0 0 k, fun i => i 2, fun k => rfl, fun i => ?_⟩ _ _ fun k => rfl).symm
  refine Eq.trans ?_ (ValueIdx.eq_ix3 i).symm
  have e0 : i 0 = (0 : Fin 1) := Fin.ext (by have h : (i 0).val < 1 := (i 0).isLt; show (i 0).val = 0; omega)
  have e1 : i 1 = (0 : Fin 1) := Fin.ext (by have h : (i 1).val < 1 := (i 1).isLt; show (i 1).val = 0; omega)
  rw [e0, e1]; rfl

section
variable {a b N : ℕ} (f : ℕ → ℕ → ℕ → ℝ) (lo hi : ℕ)

/-- A window sum along the rows: where it starts `lo` before each entry. -/
theorem window_up3 (h : (C a b N).ReduceWindows (![1, 1, N] : Fin 3 → ℕ) ![1, 1, 1] ![0, 0, lo] ![0, 0, hi] (C a b N)) (hu : 0 < O.numel)
    (init : O.Idx → EReal) (h0 : ∀ i, init i = 0) :
    Host.reduceWindowAdd (F := Ideal) (φ := .f32) ![1, 1, N] ![1, 1, 1] ![0, 0, lo] ![0, 0, hi] (up3 a b N f) init h hu
      = up3 a b N fun x t j => ∑ k ∈ range N, if lo ≤ j + k ∧ j + k - lo < N then f x t (j + k - lo) else 0 := by
  funext i
  show Host.reduceWindow (· + ·) ![1, 1, N] ![1, 1, 1] ![0, 0, lo] ![0, 0, hi] (up3 a b N f) (fun _ : O.Idx => init (Shape.Idx.first hu)) h (by decide) i = _
  unfold Host.reduceWindow
  dsimp only
  refine (foldl_add _ _ _).trans ?_
  rw [h0, zero_add]
  have i0 : (i 0).val < a := (i 0).isLt
  have i1 : (i 1).val < b := (i 1).isLt
  refine (congrArg List.sum (List.map_congr_left fun n hn => ?_)).trans ((sum_window_row N (fun w => (((if lo ≤ (i 2).val + (w 2).val
    ∧ (i 2).val + (w 2).val - lo < N then f (i 0).val (i 1).val ((i 2).val + (w 2).val - lo) else 0) : ℝ) : EReal))).trans ?_)
  · let w : (C 1 1 N).Idx := (C 1 1 N).rowMajor.symm n
    have w0 : (w 0).val < 1 := (w 0).isLt
    have w1 : (w 1).val < 1 := (w 1).isLt
    split
    · next hin =>
      have h2 := hin 2
      change lo ≤ (i 2).val * 1 + (w 2).val ∧ (i 2).val * 1 + (w 2).val - lo < N at h2
      rw [Nat.mul_one] at h2
      show ((f ((i 0).val * 1 + (w 0).val - 0) ((i 1).val * 1 + (w 1).val - 0) ((i 2).val * 1 + (w 2).val - lo) : ℝ) : EReal)
        = (((if lo ≤ (i 2).val + (w 2).val ∧ (i 2).val + (w 2).val - lo < N then f (i 0).val (i 1).val ((i 2).val + (w 2).val - lo) else 0) : ℝ) : EReal)
      rw [if_pos h2, Nat.mul_one, Nat.mul_one, Nat.mul_one, show (w 0).val = 0 by omega, show (w 1).val = 0 by omega]; rfl
    · next hin =>
      refine EReal.coe_zero.symm.trans (congrArg Real.toEReal (if_neg fun hle => hin fun x => ?_).symm)
      · match x with
        | ⟨0, _⟩ => show 0 ≤ (i 0).val * 1 + (w 0).val ∧ (i 0).val * 1 + (w 0).val - 0 < a; omega
        | ⟨1, _⟩ => show 0 ≤ (i 1).val * 1 + (w 1).val ∧ (i 1).val * 1 + (w 1).val - 0 < b; omega
        | ⟨2, _⟩ => show lo ≤ (i 2).val * 1 + (w 2).val ∧ (i 2).val * 1 + (w 2).val - lo < N; rw [Nat.mul_one]; exact hle
  · unfold up3
    rw [coe_sum_range]
    exact Finset.sum_congr rfl fun k _ => rfl

end

/-- From the entry on: the whole sum less the sum of what comes before. -/
theorem later_sum (N j : ℕ) (hj : j ≤ N) (f : ℕ → ℝ) :
    ∑ k ∈ range N, (if 0 ≤ j + k ∧ j + k - 0 < N then f (j + k - 0) else 0) = ∑ k ∈ range N, f k - ∑ k ∈ range j, f k := by
  obtain ⟨n, rfl⟩ := Nat.exists_eq_add_of_le hj
  rw [Finset.sum_range_add f j n, add_sub_cancel_left, Nat.add_comm j n, Finset.sum_range_add _ n j]
  rw [Finset.sum_eq_zero (s := range j) (fun k _ => if_neg (by omega)), add_zero]
  exact Finset.sum_congr rfl fun k hk => if_pos (by have := Finset.mem_range.1 hk; omega)

/-- Up to the entry. -/
theorem earlier_sum (N j : ℕ) (hj : j < N + 1) (f : ℕ → ℝ) :
    ∑ k ∈ range (N + 1), (if N ≤ j + k ∧ j + k - N < N + 1 then f (j + k - N) else 0) = ∑ k ∈ range (j + 1), f k := by
  rw [show N + 1 = (N - j) + (j + 1) by omega, Finset.sum_range_add]
  rw [Finset.sum_eq_zero (s := range (N - j)) (fun k hk => if_neg (by have := Finset.mem_range.1 hk; omega)), zero_add]
  refine Finset.sum_congr rfl fun k hk => ?_
  have := Finset.mem_range.1 hk
  rw [if_pos (by omega)]
  exact congrArg f (by omega)

/-- The sum of each row. -/
theorem rows_up3 {a b N : ℕ} (f : ℕ → ℕ → ℕ → ℝ) (h : (C a b N).ReducesTo [2] (M a b)) (h' : (C a b N).Reduces [2] (M a b)) (hu : 0 < O.numel)
    (init : O.Idx → EReal) (h0 : ∀ i, init i = 0) :
    Host.reduceAdd (F := Ideal) (φ := .f32) (up3 a b N f) init h hu = up2 a b fun x t => ∑ k ∈ range N, f x t k := by
  funext i
  refine (Ideal.hostReduceAdd_single h h' (up3 a b N f) _ i).trans ?_
  rw [h0, zero_add, up2_apply, coe_sum_range]
  exact Finset.sum_congr rfl fun k _ => rfl

theorem column_up2 {a b : ℕ} (f : ℕ → ℕ → ℝ) (h : (M a b).BroadcastsInDim (C a b 1) (![0, 1] : Fin 2 → Fin 3)) :
    broadcastInDim (C a b 1) ![0, 1] h (up2 a b f) = up3 a b 1 fun x t _ => f x t := by
  funext i
  have i0 : (i 0).val < a := (i 0).isLt
  have i1 : (i 1).val < b := (i 1).isLt
  refine (broadcastInDim_apply _ h _ i (ValueIdx.ix2 (i 0) (i 1)) fun c => ?_).trans rfl
  match c with
  | ⟨0, _⟩ => show (i 0).val = if a = 1 then 0 else (i 0).val; split <;> omega
  | ⟨1, _⟩ => show (i 1).val = if b = 1 then 0 else (i 1).val; split <;> omega

/-- The keys before each row, as the host marks them. -/
def marks (N : ℕ) (h1 : (⟨1, ![N]⟩ : Shape).BroadcastsInDim (M 1 N) (![1] : Fin 1 → Fin 2)) (h2 : (M 1 N).BroadcastsInDim (M N N) (![0, 1] : Fin 2 → Fin 2))
    (h3 : (⟨1, ![N]⟩ : Shape).BroadcastsInDim (M N 1) (![0] : Fin 1 → Fin 2)) (h4 : (M N 1).BroadcastsInDim (M N N) (![0, 1] : Fin 2 → Fin 2)) : IVec (M N N) 1 :=
  cmpi .slt (broadcastInDim (M N N) ![0, 1] h2 (broadcastInDim (M 1 N) ![1] h1 (iotaInDim ⟨1, ![N]⟩ 32 0)))
    (broadcastInDim (M N N) ![0, 1] h4 (broadcastInDim (M N 1) ![0] h3 (iotaInDim ⟨1, ![N]⟩ 32 0)))

section
variable {a N : ℕ} (hN : N < 2 ^ 31) (h1 : (⟨1, ![N]⟩ : Shape).BroadcastsInDim (M 1 N) (![1] : Fin 1 → Fin 2))
  (h2 : (M 1 N).BroadcastsInDim (M N N) (![0, 1] : Fin 2 → Fin 2)) (h3 : (⟨1, ![N]⟩ : Shape).BroadcastsInDim (M N 1) (![0] : Fin 1 → Fin 2))
  (h4 : (M N 1).BroadcastsInDim (M N N) (![0, 1] : Fin 2 → Fin 2)) (h5 : (M N N).BroadcastsInDim (C a N N) (![1, 2] : Fin 2 → Fin 3))

include hN in
/-- They are the keys that stand before the row, in every head. -/
theorem marks_bits : broadcastInDim (C a N N) ![1, 2] h5 (marks N h1 h2 h3 h4) = bits3 a N N fun t j => decide (j < t) := by
  funext i
  have i1 : (i 1).val < N := (i 1).isLt
  have i2 : (i 2).val < N := (i 2).isLt
  refine (broadcastInDim_apply _ h5 _ i (ValueIdx.ix2 (i 1) (i 2)) fun c => ?_).trans ?_
  · match c with
    | ⟨0, _⟩ => show (i 1).val = if N = 1 then 0 else (i 1).val; split <;> omega
    | ⟨1, _⟩ => show (i 2).val = if N = 1 then 0 else (i 2).val; split <;> omega
  have l : broadcastInDim (M N N) ![0, 1] h2 (broadcastInDim (M 1 N) ![1] h1 (iotaInDim ⟨1, ![N]⟩ 32 0)) (ValueIdx.ix2 (i 1) (i 2)) = BitVec.ofNat 32 (i 2).val := by
    refine (broadcastInDim_apply _ h2 _ _ (ValueIdx.ix2 0 (i 2)) fun c => ?_).trans
      ((broadcastInDim_apply _ h1 _ _ (ValueIdx.ix1 (i 2)) fun c => ?_).trans rfl)
    · match c with
      | ⟨0, _⟩ => rfl
      | ⟨1, _⟩ => show (i 2).val = if N = 1 then 0 else (i 2).val; split <;> omega
    · match c with
      | ⟨0, _⟩ => show (i 2).val = if N = 1 then 0 else (i 2).val; split <;> omega
  have r : broadcastInDim (M N N) ![0, 1] h4 (broadcastInDim (M N 1) ![0] h3 (iotaInDim ⟨1, ![N]⟩ 32 0)) (ValueIdx.ix2 (i 1) (i 2)) = BitVec.ofNat 32 (i 1).val := by
    refine (broadcastInDim_apply _ h4 _ _ (ValueIdx.ix2 (i 1) 0) fun c => ?_).trans
      ((broadcastInDim_apply _ h3 _ _ (ValueIdx.ix1 (i 1)) fun c => ?_).trans rfl)
    · match c with
      | ⟨0, _⟩ => show (i 1).val = if N = 1 then 0 else (i 1).val; split <;> omega
      | ⟨1, _⟩ => rfl
    · match c with
      | ⟨0, _⟩ => show (i 1).val = if N = 1 then 0 else (i 1).val; split <;> omega
  exact (congrArg₂ (fun u v : BitVec 32 => BitVec.ofBool (u.slt v)) l r).trans
    (congrArg BitVec.ofBool (slt_small (by omega) (by omega)))

end

end Cert.SbBwd
-- ==== Proof.Ref.lean ====
module

public import proofs.«01_k».proof.Proof.Sums
public import proofs.«01_k».proof.Proof.Gen.ReferenceIdeal.Run

@[expose] public section

noncomputable section

/-! The reference's stages, named, and each read over the real numbers. -/

namespace Cert.SbBwd.Ref

open Cert.ReferenceIdeal Cert.ReferenceIdeal.Gen Idealize.ShloMosaic Idealize.ShloMosaic.ValueIdx Idealize.ShloMosaic.TcCoe
open Finset (range)

/-- What one head's matrices, stacked, are: [16, 4096, 4096]. -/
abbrev Sq := FVec Ideal S16x4096x4096 .f32
/-- What the heads' rows, stacked, are: [16, 4096, 64]. -/
abbrev Hd := FVec Ideal S16x4096x64 .f32

/-- Columns of 1024 as heads. -/
def heads (u : FVec Ideal S4096x1024 .f32) : Hd :=
  transpose S16x4096x64 [1, 0, 2] (shapeCast _ u shapeCasts_S4096x1024_S4096x16x64) transposes_S4096x16x64_S16x4096x64_1_0_2
/-- … and back. -/
def unheads (u : Hd) : FVec Ideal S4096x1024 .f32 :=
  shapeCast _ (transpose S4096x16x64 [1, 0, 2] u transposes_S16x4096x64_S4096x16x64_1_0_2) shapeCasts_S4096x16x64_S4096x1024
def qs (a : FVec Ideal S4096x3072 .bf16) : Hd := heads (extractStridedSlice S4096x1024 ![0, 0] (extf .f32 a bitsLt_bf16_f32) slices_S4096x3072_S4096x1024_0_0)
def ks (a : FVec Ideal S4096x3072 .bf16) : Hd := heads (extractStridedSlice S4096x1024 ![0, 1024] (extf .f32 a bitsLt_bf16_f32) slices_S4096x3072_S4096x1024_0_1024)
def vs (a : FVec Ideal S4096x3072 .bf16) : Hd := heads (extractStridedSlice S4096x1024 ![0, 2048] (extf .f32 a bitsLt_bf16_f32) slices_S4096x3072_S4096x1024_0_2048)
def zero3 : Sq := broadcastInDim S16x4096x4096 ![] bcast_S_S16x4096x4096 (constant S_ .f32 0x00000000#32)
def eighth3 : Sq := broadcastInDim S16x4096x4096 ![] bcast_S_S16x4096x4096 (constant S_ .f32 0x3E000000#32)
/-- The pairwise products of two stacks of rows. -/
def pairs (u v : Hd) : Sq := Host.dotGeneral dot_S16x4096x64_S16x4096x64_S16x4096x4096_2_2_1_1_0_0 none u v
/-- The earlier keys. -/
def mask : IVec S16x4096x4096 1 :=
  broadcastInDim S16x4096x4096 ![1, 2] bcast_S4096x4096_S16x4096x4096_1_2 (marks 4096 bcast_S4096_S1x4096_1 bcast_S1x4096_S4096x4096_0_1 bcast_S4096_S4096x1_0 bcast_S4096x1_S4096x4096_0_1)
/-- The negated scores. -/
def nz (a : FVec Ideal S4096x3072 .bf16) : Sq := Host.negf (mulf (pairs (qs a) (ks a)) eighth3)
/-- The soft plus of the negated scores, and of the scores. -/
def spn (a : FVec Ideal S4096x3072 .bf16) : Sq := softplus bcast_S_S16x4096x4096 (nz a)
def spp (a : FVec Ideal S4096x3072 .bf16) : Sq := softplus bcast_S_S16x4096x4096 (Host.negf (nz a))
/-- The logarithms of what each row keeps. -/
def lk (a : FVec Ideal S4096x3072 .bf16) : Sq := select mask (Host.negf (spp a)) zero3
def init0 : FVec Ideal S_ .f32 := broadcastInDim S_ ![] bcast_S_S_ (constant S_ .f32 0x00000000#32)
def fromHere (u : Sq) : Sq := Host.reduceWindowAdd ![1, 1, 4096] ![1, 1, 1] ![0, 0, 0] ![0, 0, 4095] u init0
  reduceWindows_S16x4096x4096_S16x4096x4096_w1s1p0_0_w1s1p0_0_w4096s1p0_4095 h_S_
def upToHere (u : Sq) : Sq := Host.reduceWindowAdd ![1, 1, 4096] ![1, 1, 1] ![0, 0, 4095] ![0, 0, 0] u init0
  reduceWindows_S16x4096x4096_S16x4096x4096_w1s1p0_0_w1s1p0_0_w4096s1p4095_0 h_S_
/-- The exponentials of which the weights are the earlier keys', -/
def wx (a : FVec Ideal S4096x3072 .bf16) : Sq := Host.exp (addf (Host.negf (spn a)) (subf (fromHere (lk a)) (lk a)))
/-- and the weights. -/
def ws (a : FVec Ideal S4096x3072 .bf16) : Sq := select mask (wx a) zero3
/-- The weights times their gradients. -/
def gs (a : FVec Ideal S4096x3072 .bf16) (b : FVec Ideal S4096x1024 .f32) : Sq := mulf (select mask (pairs (heads b) (vs a)) zero3) (wx a)
/-- Of the scores, what comes through what the row keeps, -/
def viaKept (a : FVec Ideal S4096x3072 .bf16) (b : FVec Ideal S4096x1024 .f32) : Sq :=
  mulf (Host.negf (select mask (addf (Host.negf (gs a b)) (upToHere (gs a b))) zero3)) (slope bcast_S_S16x4096x4096 (Host.negf (nz a)))
/-- and what comes through what it takes. -/
def viaTaken (a : FVec Ideal S4096x3072 .bf16) (b : FVec Ideal S4096x1024 .f32) : Sq :=
  mulf (Host.negf (gs a b)) (slope bcast_S_S16x4096x4096 (nz a))
/-- The gradient of the products of queries and keys. -/
def dz (a : FVec Ideal S4096x3072 .bf16) (b : FVec Ideal S4096x1024 .f32) : Sq :=
  mulf (addf (Host.negf (Host.negf (viaKept a b))) (Host.negf (viaTaken a b))) eighth3
def dqs (a : FVec Ideal S4096x3072 .bf16) (b : FVec Ideal S4096x1024 .f32) : FVec Ideal S4096x1024 .f32 :=
  unheads (Host.dotGeneral dot_S16x4096x4096_S16x4096x64_S16x4096x64_2_1_1_2_0_0 none (dz a b) (ks a))
def dks (a : FVec Ideal S4096x3072 .bf16) (b : FVec Ideal S4096x1024 .f32) : FVec Ideal S4096x1024 .f32 :=
  unheads (Host.dotGeneral dot_S16x4096x4096_S16x4096x64_S16x4096x64_1_1_2_2_0_0 none (dz a b) (qs a))
def dvs (a : FVec Ideal S4096x3072 .bf16) (b : FVec Ideal S4096x1024 .f32) : FVec Ideal S4096x1024 .f32 :=
  unheads (transpose S16x4096x64 [0, 2, 1] (Host.dotGeneral dot_S16x4096x64_S16x4096x4096_S16x64x4096_1_1_2_2_0_0 none (heads b) (ws a)) transposes_S16x64x4096_S16x4096x64_0_2_1)

/-! The reference's results are these. -/
section
variable (m : (ℓ : Loc nD τ sig) → Buf (Elt Ideal) ℓ) (c : Dev nD)

set_option maxRecDepth 8192 in
theorem res0_eq : Value.res_main_v56 m c = dqs (m ((c.tc : Thread nD τ).loc main_arg0)) (m ((c.tc : Thread nD τ).loc main_arg1)) := rfl
set_option maxRecDepth 8192 in
theorem res1_eq : Value.res_main_v54 m c = dks (m ((c.tc : Thread nD τ).loc main_arg0)) (m ((c.tc : Thread nD τ).loc main_arg1)) := rfl
set_option maxRecDepth 8192 in
theorem res2_eq : Value.res_main_v52 m c = dvs (m ((c.tc : Thread nD τ).loc main_arg0)) (m ((c.tc : Thread nD τ).loc main_arg1)) := rfl
end

/-! Over the real numbers. -/

theorem sp_slope (u : ℝ) : Real.exp (-u - SP (-u)) = 1 - Real.exp (-SP (-u)) := by
  have h : 0 < 1 + Real.exp (-u) := by positivity
  unfold SP
  rw [Real.exp_sub, Real.exp_neg (Real.log _), Real.exp_log h]
  field_simp; ring

theorem heads_up (f : ℕ → ℕ → ℝ) : heads (up2 4096 1024 f) = up3 16 4096 64 fun h t d => f t (64 * h + d) := heads_up3 f _ _ (by norm_num)
theorem unheads_up (f : ℕ → ℕ → ℕ → ℝ) : unheads (up3 16 4096 64 f) = up2 4096 1024 fun t e => f (e / 64) t (e % 64) := unheads_up3 (by norm_num) f _ _ (by norm_num)
theorem pairs_up (f g : ℕ → ℕ → ℕ → ℝ) : pairs (up3 16 4096 64 f) (up3 16 4096 64 g) = up3 16 4096 4096 fun x t j => ∑ d ∈ range 64, f x t d * g x j d := dotT_up3 _ f g _
theorem mask_eq : mask = bits3 16 4096 4096 fun t j => decide (j < t) := marks_bits (by norm_num) _ _ _ _ _
theorem zero3_eq : zero3 = up3 16 4096 4096 fun _ _ _ => 0 := zero_up3 _
theorem eighth3_eq : eighth3 = up3 16 4096 4096 fun _ _ _ => 1 / 8 := eighth_up3 _
theorem init0_apply (i) : init0 i = (0 : EReal) := by
  unfold init0; rw [broadcastInDim_scalar_apply]; exact Ideal.ofBits_zero_f32
theorem masked_up (f : ℕ → ℕ → ℕ → ℝ) : select mask (up3 16 4096 4096 f) zero3 = up3 16 4096 4096 fun x t j => if j < t then f x t j else 0 := by
  rw [mask_eq, zero3_eq]
  refine (select_up3 _ _ _).trans (up3_congr fun x _ t _ j _ => ?_)
  simp only [decide_eq_true_eq]
theorem fromHere_up (f : ℕ → ℕ → ℕ → ℝ) : fromHere (up3 16 4096 4096 f) = up3 16 4096 4096 fun x t j => ∑ k ∈ range 4096, f x t k - ∑ k ∈ range j, f x t k := by
  refine (window_up3 f 0 4095 _ _ _ init0_apply).trans (up3_congr fun x _ t _ j hj => ?_)
  exact later_sum 4096 j hj.le (f x t)
theorem upToHere_up (f : ℕ → ℕ → ℕ → ℝ) : upToHere (up3 16 4096 4096 f) = up3 16 4096 4096 fun x t j => ∑ k ∈ range (j + 1), f x t k := by
  refine (window_up3 f 4095 0 _ _ _ init0_apply).trans (up3_congr fun x _ t _ j hj => ?_)
  exact earlier_sum 4095 j hj (f x t)

section
variable (x y : ℕ → ℕ → ℝ)
local notation "X" => (up2 4096 3072 x : FVec Ideal S4096x3072 FTy.bf16)
local notation "Y" => (up2 4096 1024 y : FVec Ideal S4096x1024 FTy.f32)

theorem qs_up : qs X = up3 16 4096 64 fun h t d => x t (64 * h + d) := by
  refine (congrArg heads (slice_cols_up2 x _)).trans ((heads_up _).trans (up3_congr fun h _ t _ d _ => ?_))
  rw [zero_add]
theorem ks_up : ks X = up3 16 4096 64 fun h t d => x t (1024 + (64 * h + d)) := (congrArg heads (slice_cols_up2 x _)).trans (heads_up _)
theorem vs_up : vs X = up3 16 4096 64 fun h t d => x t (2048 + (64 * h + d)) := (congrArg heads (slice_cols_up2 x _)).trans (heads_up _)

theorem nz_up : nz X = up3 16 4096 4096 fun h t j => -ZZ x h t j := by
  unfold nz
  rw [qs_up, ks_up, pairs_up, eighth3_eq]
  refine (congrArg Host.negf (mulf_up3 _ _)).trans ((negf_up3 _).trans (up3_congr fun h _ t _ j _ => ?_))
  rw [Finset.sum_mul]
  exact congrArg _ (Finset.sum_congr rfl fun d _ => by ring)
theorem nnz_up : Host.negf (nz X) = up3 16 4096 4096 fun h t j => ZZ x h t j := by
  rw [nz_up]
  exact (negf_up3 _).trans (up3_congr fun h _ t _ j _ => neg_neg _)
theorem spn_up : spn X = up3 16 4096 4096 fun h t j => SP (-ZZ x h t j) := by
  unfold spn; rw [nz_up]; exact softplus_up3 _ _
theorem spp_up : spp X = up3 16 4096 4096 fun h t j => SP (ZZ x h t j) := by
  unfold spp; rw [nnz_up]; exact softplus_up3 _ _
theorem lk_up : lk X = up3 16 4096 4096 fun h t j => gLK (ZZ x h) t j := by
  unfold lk; rw [spp_up]
  refine (congrArg (fun u => select mask u zero3) (negf_up3 _)).trans ?_
  exact masked_up _

/-- The exponent of a weight. -/
def wE (h t j : ℕ) : ℝ := -SP (-ZZ x h t j) + ∑ j' ∈ range 4096, gLK (ZZ x h) t j' - ∑ j' ∈ range (j + 1), gLK (ZZ x h) t j'

theorem wx_up : wx X = up3 16 4096 4096 fun h t j => Real.exp (wE x h t j) := by
  unfold wx; rw [spn_up, lk_up, fromHere_up]
  refine (congrArg Host.exp ((congrArg₂ addf (negf_up3 _) (subf_up3 _ _)).trans (addf_up3 _ _))).trans ((exp_up3 _).trans (up3_congr fun h _ t _ j _ => ?_))
  unfold wE; rw [Finset.sum_range_succ (fun k => gLK (ZZ x h) t k) j]
  exact congrArg Real.exp (by ring)
theorem ws_up : ws X = up3 16 4096 4096 fun h t j => gW (ZZ x h) t j := by
  unfold ws; rw [wx_up]; exact masked_up _
theorem gs_up : gs X Y = up3 16 4096 4096 fun h t j => gG (ZZ x h) (AA x y h) t j := by
  unfold gs; rw [heads_up, vs_up, pairs_up, masked_up, wx_up]
  refine (mulf_up3 _ _).trans (up3_congr fun h _ t _ j _ => ?_)
  unfold gG gW AA wE
  split
  · rw [mul_comm]
  · rw [zero_mul, zero_mul]
theorem viaKept_up : viaKept X Y = up3 16 4096 4096 fun h t j =>
    -(if j < t then ∑ j' ∈ range j, gG (ZZ x h) (AA x y h) t j' else 0) * Real.exp (-SP (-ZZ x h t j)) := by
  unfold viaKept; rw [gs_up, nnz_up, upToHere_up]
  refine (congrArg₂ mulf (congrArg Host.negf ((congrArg (fun u => select mask u zero3) ((congrArg₂ addf (negf_up3 _) rfl).trans (addf_up3 _ _))).trans (masked_up _)))
    (slope_up3 _ _)).trans ?_
  refine (congrArg₂ mulf (negf_up3 _) rfl).trans ((mulf_up3 _ _).trans (up3_congr fun h _ t _ j _ => ?_))
  rw [SP_neg, Finset.sum_range_succ, show ZZ x h t j - SP (ZZ x h t j) = -(SP (ZZ x h t j) - ZZ x h t j) by ring]
  congr 2
  split
  · ring
  · rfl
theorem viaTaken_up : viaTaken X Y = up3 16 4096 4096 fun h t j =>
    -gG (ZZ x h) (AA x y h) t j * (1 - Real.exp (-SP (-ZZ x h t j))) := by
  unfold viaTaken; rw [gs_up, nz_up]
  refine (congrArg₂ mulf (negf_up3 _) (slope_up3 _ _)).trans ((mulf_up3 _ _).trans (up3_congr fun h _ t _ j _ => ?_))
  rw [sp_slope]
theorem dz_up : dz X Y = up3 16 4096 4096 fun h t j => gDZ (ZZ x h) (AA x y h) t j * (1 / 8) := by
  unfold dz; rw [viaKept_up, viaTaken_up, eighth3_eq]
  refine (congrArg₂ mulf ((congrArg₂ addf ((congrArg Host.negf (negf_up3 _)).trans (negf_up3 _)) (negf_up3 _)).trans (addf_up3 _ _)) rfl).trans
    ((mulf_up3 _ _).trans (up3_congr fun h _ t _ j _ => ?_))
  rcases lt_or_ge j t with hj | hj
  · unfold gDZ; rw [if_pos hj, if_pos hj]; ring
  · rw [gDZ_of_le hj, gG_of_le hj, if_neg (not_lt.2 hj)]; ring

theorem lane (e : ℕ) : 64 * (e / 64) + e % 64 = e := Nat.div_add_mod e 64

theorem dqs_up : dqs X Y = up2 4096 1024 (DQ x y) := by
  unfold dqs; rw [dz_up, ks_up]
  refine (congrArg unheads (dot_up3 _ _ _ _)).trans ((unheads_up _).trans (up2_congr fun t _ e _ => ?_))
  unfold DQ
  rw [lane, Finset.sum_mul]
  exact Finset.sum_congr rfl fun j _ => by ring
theorem dks_up : dks X Y = up2 4096 1024 (DK x y) := by
  unfold dks; rw [dz_up, qs_up]
  refine (congrArg unheads (Tdot_up3 _ _ _ _)).trans ((unheads_up _).trans (up2_congr fun t _ e _ => ?_))
  unfold DK
  rw [lane]
  exact Finset.sum_congr rfl fun j _ => by ring
theorem dvs_up : dvs X Y = up2 4096 1024 (DV x y) := by
  unfold dvs; rw [ws_up, heads_up]
  refine (congrArg unheads ((congrArg (fun u => transpose S16x4096x64 [0, 2, 1] u transposes_S16x64x4096_S16x4096x64_0_2_1) (Tdot_up3 _ _ _ _)).trans (swap_up3 _ _))).trans
    ((unheads_up _).trans (up2_congr fun t _ e _ => ?_))
  unfold DV
  rw [lane]
  exact Finset.sum_congr rfl fun j _ => by ring

end

end Cert.SbBwd.Ref
-- ==== Proof.Host.lean ====
module

public import proofs.«01_k».proof.Proof.Grid
public import proofs.«01_k».proof.Proof.Ref
public import proofs.«01_k».proof.Defs
public import proofs.«01_k».proof.Proof.Gen.Pre_finite
public import Idealize.ShloMosaic.Lib.ReduceAll
public import Idealize.ShloMosaic.Lib.StableHlo.Run

@[expose] public section

set_option maxRecDepth 16384

noncomputable section

/-! What the precondition says of the arguments, and what the region finds in its arrays. -/

namespace Cert.SbBwd

open Cert.KernelIdeal Cert.KernelIdeal.Gen
open Idealize.ShloMosaic Idealize.ShloMosaic.TcCoe
open Finset (range)

/-- The entries of a matrix, as real numbers. -/
def entries {n m : ℕ} (a : (M n m).Idx → EReal) (t j : ℕ) : ℝ :=
  if h : t < n ∧ j < m then (a (ValueIdx.ix2 ⟨t, h.1⟩ ⟨j, h.2⟩)).toReal else 0

theorem up2_entries {n m : ℕ} (a : (M n m).Idx → EReal) (h : ∀ i, max (a i) (-a i) < ⊤) : a = up2 n m (entries a) := by
  funext i
  have h0 : (i 0).val < n := (i 0).isLt
  have h1 : (i 1).val < m := (i 1).isLt
  unfold up2 entries
  rw [dif_pos ⟨h0, h1⟩]
  refine (congrArg a (ValueIdx.eq_ix2 i)).trans (EReal.coe_toReal ?_ ?_).symm
  · intro e
    have := h (ValueIdx.ix2 (i 0) (i 1))
    rw [show a (ValueIdx.ix2 (i 0) (i 1)) = ⊤ from e] at this
    exact absurd this (by simp)
  · intro e
    have := h (ValueIdx.ix2 (i 0) (i 1))
    rw [show a (ValueIdx.ix2 (i 0) (i 1)) = ⊥ from e] at this
    exact absurd this (by simp)

instance : Subsingleton (⟨0, ![]⟩ : Shape).Idx := ⟨fun i j => funext fun a => a.elim0⟩

/-- Where the comparison with infinity holds, the entry is finite. -/
theorem lt_top_of_bit {s : Shape} {φ : FTy} (a : s.Idx → EReal) (h : O.BroadcastsInDim s (![] : Fin 0 → Fin s.rank)) (i : s.Idx)
    (e : cmpf (F := Ideal) .olt (Host.absf (F := Ideal) (φ := .f32) a) (broadcastInDim s ![] h (constant (F := Ideal) O .f32 0x7F800000#32)) i = 1#1) :
    max (a i) (-a i) < ⊤ := by
  have b : broadcastInDim s ![] h (constant (F := Ideal) O .f32 0x7F800000#32) i = (⊤ : EReal) := by
    rw [ValueIdx.broadcastInDim_scalar_apply]; exact inf_eq
  by_contra hn
  have e' : BitVec.ofBool (decide (max (a i) (-a i) < broadcastInDim s ![] h (constant (F := Ideal) O .f32 0x7F800000#32) i)) = 1#1 := e
  rw [b, decide_eq_false hn] at e'
  exact absurd e' (by decide)

section
variable (m : (ℓ : Loc nD τ sig) → Buf (Elt Ideal) ℓ)

/-- The arguments of device `c` as real numbers. -/
def xs (c : Dev nD) : ℕ → ℕ → ℝ := entries (n := 4096) (m := 3072) (m ((c.tc : Thread nD τ).loc main_arg0))
def ys (c : Dev nD) : ℕ → ℕ → ℝ := entries (n := 4096) (m := 1024) (m ((c.tc : Thread nD τ).loc main_arg1))

variable {m}

theorem args_real (h : Cert.Pre_KernelIdeal_finite (hPre_finite := Cert.Pre_finite.Gen.facts) m) (c : Dev nD) :
    m ((c.tc : Thread nD τ).loc main_arg0) = up2 4096 3072 (xs m c) ∧ m ((c.tc : Thread nD τ).loc main_arg1) = up2 4096 1024 (ys m c) := by
  have e := congrFun (h c) (fun a => a.elim0)
  unfold Cert.Pre_finite.fn at e
  dsimp only at e
  obtain ⟨e0, e1⟩ := IntOp.andi_eq_one.1 e
  constructor
  · refine up2_entries _ fun i => ?_
    exact lt_top_of_bit (φ := .f32) _ _ i (Host.reduce_andi_all _ _ _ _ _ e0 i)
  · refine up2_entries _ fun i => ?_
    exact lt_top_of_bit (φ := .f32) _ _ i (Host.reduce_andi_all _ _ _ _ _ e1 i)

variable (m)

/-- The kernel's host lines leave in `main_v22` the rows' sums of the reference's own stage. -/
theorem V_main_v22 (c : Dev nD) : V m c main_v22 = broadcastInDim S16x4096x1 ![0, 1] bcast_S16x4096_S16x4096x1_0_1
    (Host.reduceAdd (F := Ideal) (φ := .f32) (Ref.lk (m ((c.tc : Thread nD τ).loc main_arg0))) (constant (F := Ideal) S_ .f32 0x00000000#32) reducesTo_S16x4096x4096_S16x4096_d2 h_S_) := by
  show StableHlo.after _ (fun b => m (c, b)) (Proc.devRef .tc main_v22) = _
  simp only [hostOps0, hostOps0_1, hostOps0_2, hostOps0_3, hostOps0_4, List.flatten_cons, List.flatten_nil, List.append_nil, List.cons_append, List.nil_append]
  after_results_simp
  rfl

theorem lk_real (h : Cert.Pre_KernelIdeal_finite (hPre_finite := Cert.Pre_finite.Gen.facts) m) (c : Dev nD) :
    Ref.lk (m ((c.tc : Thread nD τ).loc main_arg0)) = up3 16 4096 4096 fun h t j => gLK (ZZ (xs m c) h) t j :=
  (congrArg Ref.lk (args_real h c).1).trans (Ref.lk_up _)

/-- The rows' sums, one column. -/
def rowSums (u : FVec Ideal S16x4096x4096 .f32) : FVec Ideal S16x4096x1 .f32 :=
  broadcastInDim S16x4096x1 ![0, 1] bcast_S16x4096_S16x4096x1_0_1
    (Host.reduceAdd (F := Ideal) (φ := .f32) u (constant (F := Ideal) S_ .f32 0x00000000#32) reducesTo_S16x4096x4096_S16x4096_d2 h_S_)

theorem const_zero (i) : (constant (F := Ideal) S_ .f32 0x00000000#32) i = (0 : EReal) := Ideal.ofBits_zero_f32

theorem rowSums_up (f : ℕ → ℕ → ℕ → ℝ) : rowSums (up3 16 4096 4096 f) = up3 16 4096 1 fun h t _ => ∑ k ∈ range 4096, f h t k := by
  have r : S16x4096x4096.Reduces [2] S16x4096 := by decide
  have e := rows_up3 f reducesTo_S16x4096x4096_S16x4096_d2 r h_S_ _ const_zero
  unfold rowSums
  rw [e]
  exact column_up2 _ _

theorem V_main_v22_real (h : Cert.Pre_KernelIdeal_finite (hPre_finite := Cert.Pre_finite.Gen.facts) m) (c : Dev nD) :
    V m c main_v22 = up3 16 4096 1 fun h t _ => LT (xs m c) h t :=
  (V_main_v22 m c).trans ((congrArg rowSums (lk_real m h c)).trans (rowSums_up _))

theorem reads (h : Cert.Pre_KernelIdeal_finite (hPre_finite := Cert.Pre_finite.Gen.facts) m) (c : Dev nD) : Reads m c (xs m c) (ys m c) where
  hx j := congrFun ((V_main_arg0 m c).trans (args_real h c).1) j
  hy j := congrFun ((V_main_arg1 m c).trans (args_real h c).2) j
  hl j := congrFun (V_main_v22_real m h c) j

end

end Cert.SbBwd
-- ==== Proof.Products.lean ====
module

public import proofs.«01_k».proof.Proof.Lift

@[expose] public section

noncomputable section

/-! Products of whole matrices of extended reals, and the sum of the products of their blocks. No element need be
finite: the extended reals are a commutative monoid under addition. -/

namespace Cert.Products

open Idealize.ShloMosaic
open Cert.SbBwd (M rowsDot)

/-- A matrix of extended reals. -/
abbrev Mat (n m : ℕ) : Type := (M n m).Idx → EReal

/-- Rows times columns. -/
def mul (n k m : ℕ) (a : Mat n k) (b : Mat k m) : Mat n m := fun i => ∑ d : Fin k, a (ValueIdx.ix2 (i 0) d) * b (ValueIdx.ix2 d (i 1))

/-- Rows times rows: the right operand transposed. -/
def mulT (n k m : ℕ) (a : Mat n k) (b : Mat m k) : Mat n m := fun i => ∑ d : Fin k, a (ValueIdx.ix2 (i 0) d) * b (ValueIdx.ix2 (i 1) d)

/-- Columns times columns: the left operand transposed. -/
def tmul (n k m : ℕ) (a : Mat k n) (b : Mat k m) : Mat n m := fun i => ∑ d : Fin k, a (ValueIdx.ix2 d (i 0)) * b (ValueIdx.ix2 d (i 1))

section Unit
variable {φ ψ : FTy} (n k m : ℕ) (prec : Option ContractPrecision)

/-- The matrix unit's product into a zero accumulator. -/
theorem plain_eq (a : Mat n k) (b : Mat k m) :
    matmul (F := Ideal) (φ₁ := φ) (φ₂ := ψ) (DotDims.plain n k m) prec a b (constant (M n m) .f32 0x00000000#32) = mul n k m a b := by
  funext j
  rw [ValueIdx.eq_ix2 j]
  refine (Ideal.matmul_plain_apply prec _ _ _ _ _).trans ?_
  exact (congrArg (· + _) Ideal.ofBits_zero_f32).trans (zero_add _)

/-- … of rows with rows … -/
theorem transposedRhs_eq (a : Mat n k) (b : Mat m k) :
    matmul (F := Ideal) (φ₁ := φ) (φ₂ := ψ) (DotDims.transposedRhs n k m) prec a b (constant (M n m) .f32 0x00000000#32) = mulT n k m a b := by
  funext j
  rw [ValueIdx.eq_ix2 j]
  refine (Ideal.matmul_transposedRhs_apply prec _ _ _ _ _).trans ?_
  exact (congrArg (· + _) Ideal.ofBits_zero_f32).trans (zero_add _)

/-- … and of columns with columns. -/
theorem rows_eq (wf : DotDims.WF (M k n) (M k m) (M n m) [0] [0] [1] [1] [] []) (a : Mat k n) (b : Mat k m) :
    matmul (F := Ideal) (φ₁ := φ) (φ₂ := ψ) (rowsDot k n m wf) prec a b (constant (M n m) .f32 0x00000000#32) = tmul n k m a b := by
  funext j
  refine (Ideal.matmul_apply₁ (rowsDot k n m wf) (a := 0) rfl (K := k) rfl _ _ _ _).trans ?_
  refine ((congrArg (· + _) Ideal.ofBits_zero_f32).trans (zero_add _)).trans (Finset.sum_congr rfl fun d _ => ?_)
  refine congrArg₂ (fun x y => a x * b y) ?_ ?_ <;>
  · funext c
    apply Fin.ext
    match c with
    | ⟨0, _⟩ => rfl
    | ⟨1, _⟩ => rfl

end Unit

/-- A block of a matrix: its rows from `r`, its columns from `c`. -/
def IsBlock {N L n l : ℕ} (a : Mat N L) (r c : ℕ) (x : Mat n l) : Prop :=
  ∀ (i : (M n l).Idx) (j : (M N L).Idx), (j 0).val = r + (i 0).val → (j 1).val = c + (i 1).val → x i = a j

/-- A block read through a map of its places. -/
theorem isBlock_of {N L n l k0 k1 : ℕ} {a : Mat N L} {x : Mat n l} (e : (M n l).Idx → (M N L).Idx) (hx : ∀ i, x i = a (e i))
    (h0 : ∀ i, (e i 0).val = k0 * n + (i 0).val) (h1 : ∀ i, (e i 1).val = k1 * l + (i 1).val) : IsBlock a (n * k0) (l * k1) x := by
  intro i j hr hc
  refine (hx i).trans (congrArg a (funext fun b => Fin.ext ?_))
  match b with
  | ⟨0, _⟩ => exact (h0 i).trans ((congrArg (· + (i 0).val) (Nat.mul_comm k0 n)).trans hr.symm)
  | ⟨1, _⟩ => exact (h1 i).trans ((congrArg (· + (i 1).val) (Nat.mul_comm k1 l)).trans hc.symm)

/-- A sum over 4096 places is the sum over the first half and the sum over the second. -/
theorem halves (f : Fin 4096 → EReal) :
    (∑ d : Fin 2048, f ⟨d.val, by omega⟩) + (∑ d : Fin 2048, f ⟨2048 + d.val, by omega⟩) = ∑ d : Fin 4096, f d :=
  (Fin.sum_univ_add (a := 2048) (b := 2048) f).symm

section Halves
variable {N L n m : ℕ} {r c : ℕ}

/-- The two half products of a block's rows and columns add up to that block of the whole product … -/
theorem mul_halves {a : Mat N 4096} {b : Mat 4096 L} {x x' : Mat n 2048} {y y' : Mat 2048 m} (hx : IsBlock a r 0 x) (hx' : IsBlock a r 2048 x')
    (hy : IsBlock b 0 c y) (hy' : IsBlock b 2048 c y') (i : (M n m).Idx) (j : (M N L).Idx) (h0 : (j 0).val = r + (i 0).val)
    (h1 : (j 1).val = c + (i 1).val) : mul n 2048 m x y i + mul n 2048 m x' y' i = mul N 4096 L a b j := by
  refine Eq.trans ?_ (halves _)
  refine congrArg₂ (· + ·) (Finset.sum_congr rfl fun d _ => ?_) (Finset.sum_congr rfl fun d _ => ?_)
  · exact congrArg₂ (· * ·) (hx _ _ h0 (Nat.zero_add _).symm) (hy _ _ (Nat.zero_add _).symm h1)
  · exact congrArg₂ (· * ·) (hx' _ _ h0 rfl) (hy' _ _ rfl h1)

/-- … of rows with rows … -/
theorem mulT_halves {a : Mat N 4096} {b : Mat L 4096} {x x' : Mat n 2048} {y y' : Mat m 2048} (hx : IsBlock a r 0 x) (hx' : IsBlock a r 2048 x')
    (hy : IsBlock b c 0 y) (hy' : IsBlock b c 2048 y') (i : (M n m).Idx) (j : (M N L).Idx) (h0 : (j 0).val = r + (i 0).val)
    (h1 : (j 1).val = c + (i 1).val) : mulT n 2048 m x y i + mulT n 2048 m x' y' i = mulT N 4096 L a b j := by
  refine Eq.trans ?_ (halves _)
  refine congrArg₂ (· + ·) (Finset.sum_congr rfl fun d _ => ?_) (Finset.sum_congr rfl fun d _ => ?_)
  · exact congrArg₂ (· * ·) (hx _ _ h0 (Nat.zero_add _).symm) (hy _ _ h1 (Nat.zero_add _).symm)
  · exact congrArg₂ (· * ·) (hx' _ _ h0 rfl) (hy' _ _ h1 rfl)

/-- … and of columns with columns. -/
theorem tmul_halves {a : Mat 4096 N} {b : Mat 4096 L} {x x' : Mat 2048 n} {y y' : Mat 2048 m} (hx : IsBlock a 0 r x) (hx' : IsBlock a 2048 r x')
    (hy : IsBlock b 0 c y) (hy' : IsBlock b 2048 c y') (i : (M n m).Idx) (j : (M N L).Idx) (h0 : (j 0).val = r + (i 0).val)
    (h1 : (j 1).val = c + (i 1).val) : tmul n 2048 m x y i + tmul n 2048 m x' y' i = tmul N 4096 L a b j := by
  refine Eq.trans ?_ (halves _)
  refine congrArg₂ (· + ·) (Finset.sum_congr rfl fun d _ => ?_) (Finset.sum_congr rfl fun d _ => ?_)
  · exact congrArg₂ (· * ·) (hx _ _ (Nat.zero_add _).symm h0) (hy _ _ (Nat.zero_add _).symm h1)
  · exact congrArg₂ (· * ·) (hx' _ _ rfl h0) (hy' _ _ rfl h1)

end Halves

section Whole
variable {N L K n m : ℕ} {r c : ℕ}

/-- A block of whole rows and columns gives that block of the product. -/
theorem mul_block {a : Mat N K} {b : Mat K L} {x : Mat n K} {y : Mat K m} (hx : IsBlock a r 0 x) (hy : IsBlock b 0 c y) :
    IsBlock (mul N K L a b) r c (mul n K m x y) := fun i j h0 h1 =>
  Finset.sum_congr rfl fun d _ => congrArg₂ (· * ·) (hx _ _ h0 (Nat.zero_add _).symm) (hy _ _ (Nat.zero_add _).symm h1)

theorem mulT_block {a : Mat N K} {b : Mat L K} {x : Mat n K} {y : Mat m K} (hx : IsBlock a r 0 x) (hy : IsBlock b c 0 y) :
    IsBlock (mulT N K L a b) r c (mulT n K m x y) := fun i j h0 h1 =>
  Finset.sum_congr rfl fun d _ => congrArg₂ (· * ·) (hx _ _ h0 (Nat.zero_add _).symm) (hy _ _ h1 (Nat.zero_add _).symm)

end Whole

/-- The square of the positive part. -/
def sqrelu (x : EReal) : EReal := max x (Ideal.ofBits .f32 0x00000000#32) * max x (Ideal.ofBits .f32 0x00000000#32)

/-- Its derivative at `x`, times `p`: zero where `x` is not positive. -/
def sqreluGrad (p x : EReal) : EReal := p * Ideal.ofBits .f32 0x40000000#32 * max x (Ideal.ofBits .f32 0x00000000#32)

/-- The derivative as automatic differentiation writes it, with a choice by the sign of `x`. -/
theorem select_grad (p x : EReal) :
    Scalar.select (Ideal.cmp .ogt x (Ideal.ofBits .f32 0x00000000#32))
      (p * (Ideal.ofBits .f32 0x40000000#32 * max x (Ideal.ofBits .f32 0x00000000#32))) (Ideal.ofBits .f32 0x00000000#32) = sqreluGrad p x := by
  unfold sqreluGrad
  rw [Ideal.ofBits_zero_f32, mul_assoc]
  by_cases h : 0 < x
  · simp [Scalar.select, Ideal.cmp, h]
  · simp [Scalar.select, Ideal.cmp, h, max_eq_right (not_lt.1 h)]

/-- The tile of 1024 × 1024 that holds a place of a 4096 × 4096 matrix, the tiles counted along the rows. -/
def tile (i : (M 4096 4096).Idx) : ℕ := 4 * ((i 0).val / 1024) + (i 1).val / 1024

theorem tile_lt (i : (M 4096 4096).Idx) : tile i < 16 := by
  have h0 : (i 0).val < 4096 := (i 0).isLt
  have h1 : (i 1).val < 4096 := (i 1).isLt
  unfold tile
  omega

theorem mem_tile (i : (M 4096 4096).Idx) (a : Fin 2) : (![tile i / 4, tile i % 4] : Fin 2 → ℕ) a * 1024 ≤ (i a).val
    ∧ (i a).val < (![tile i / 4, tile i % 4] : Fin 2 → ℕ) a * 1024 + 1024 := by
  have h1 : (i 1).val < 4096 := (i 1).isLt
  match a with
  | ⟨0, _⟩ =>
    show tile i / 4 * 1024 ≤ (i 0).val ∧ (i 0).val < tile i / 4 * 1024 + 1024
    unfold tile
    omega
  | ⟨1, _⟩ =>
    show tile i % 4 * 1024 ≤ (i 1).val ∧ (i 1).val < tile i % 4 * 1024 + 1024
    unfold tile
    omega

theorem hz : (![0, 0] : Fin 2 → Nat) = fun _ => 0 := funext fun a => by fin_cases a <;> rfl

end Cert.Products
-- ==== Proof.DownX.lean ====
module

public import proofs.«01_k».proof.Defs
public import proofs.«01_k».proof.Proof.Products
public import proofs.«01_k».proof.Proof.Gen.DownXIdeal
public import proofs.«01_k».proof.Proof.Gen.DownXIdeal.Frame
public import proofs.«01_k».proof.Proof.Gen.DownXIdeal.Value
public import proofs.«01_k».proof.Proof.Gen.DownXReferenceIdeal
public import proofs.«01_k».proof.Proof.Gen.DownXReferenceIdeal.Run
public import proofs.«01_k».proof.Proof.Gen.DownXReferenceIdeal.Read

@[expose] public section

set_option maxRecDepth 16384

noncomputable section

/-! The gradient of the feed-forward layer's activation: the input gradient of the second product, through the squared
positive part. -/

namespace Cert.Products.DownX

open Cert.DownXIdeal Cert.DownXIdeal.Gen
open Idealize.ShloMosaic Idealize.ShloMosaic.TcCoe
open Idealize.ShloMosaic.Pipeline (Window)

/-- The result. -/
def G (d w : Mat 4096 1024) (x : Mat 4096 4096) : Mat 4096 4096 := fun j => sqreluGrad (mulT 4096 1024 4096 d w j) (x j)

/-- Which block of each array a point of the grid holds. -/
theorem idx_val : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

/-- One point's result. -/
theorem point (c : Dev nD) (i : grid0.Coords) (a : Memref sig .tc .vmem S1024x1024 .bf16) (ha : a.IsWhole) (b : Memref sig .tc .vmem S1024x1024 .bf16) (hb : b.IsWhole)
    (e : Memref sig .tc .vmem S1024x1024 .f32) (he : e.IsWhole) (o : Memref sig .tc .vmem S1024x1024 .bf16) (ho : o.IsWhole) (s : Memref sig .tc .vmem S8x128 .f32) (hs : s.IsWhole)
    (x y : Vec Ideal S1024x1024 .bf16) (z : Vec Ideal S1024x1024 .f32) (j : S1024x1024.Idx) :
    out0_A_3 c i a ha b hb e he o ho s hs x y z j = sqreluGrad (mulT 1024 1024 1024 x y j) (z j) := by
  unfold out0_A_3
  rw [View.read_writes_eq_canon _ _ _ (cover0_A_3 c i a ha b hb e he o ho s hs x y z)]
  unfold kernelRun0_A
  dsimp only
  rw [View.canon_unit_zero hz]
  unfold k0_pay1
  simp only [View.readAt_eq_ld, ha.read_unread, hb.read_unread, he.read_unread, View.ld_unit_zero (S := S1024x1024) hz, shapeCast_self]
  exact congrArg (fun p : Mat 1024 1024 => sqreluGrad (p j) (z j)) (transposedRhs_eq 1024 1024 1024 none x y)

section
variable (m : (ℓ : Loc nD τ sig) → Buf (Elt Ideal) ℓ) (c : Dev nD)

theorem blk0 (t : Fin cfg0.N) : IsBlock (V m c main_arg0 : Mat 4096 1024) (1024 * (t.val / 4)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (1024 * (t.val % 4)) (1024 * 0) (iblk m c 1 t : Mat 1024 1024) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 1024) (congrFun (idx_val t).2.1 1))))

theorem blk2 (t : Fin cfg0.N) : IsBlock (V m c main_arg2 : Mat 4096 4096) (1024 * (t.val / 4)) (1024 * (t.val % 4)) (iblk m c 2 t : Mat 1024 1024) :=
  isBlock_of _ (fun _ => rfl) (fun i => (Window.rect_emb_val win0_2 t i 0).trans (congrArg (· + (i 0).val) (congrArg (· * 1024) (congrFun (idx_val t).2.2.1 0))))
    (fun i => (Window.rect_emb_val win0_2 t i 1).trans (congrArg (· + (i 1).val) (congrArg (· * 1024) (congrFun (idx_val t).2.2.1 1))))

/-- What a point writes back: a block of the result. -/
theorem flushed (t : Fin cfg0.N) (hf : (cfg0.win 3).flush t = true) :
    (dats m 0 c).flushed 3 t = ((cfg0.win 3).blk t).view.read (Elt Ideal) (G (V m c main_arg0) (V m c main_arg1) (V m c main_arg2)) := by
  refine (Value.flushed3_A m c t).trans (funext fun y => ?_)
  refine (point c _ _ _ _ _ _ _ _ _ _ _ _ _ _ ((cfg0.win 3).xinj (grid0.coords t) y)).trans ?_
  have p0 : (((cfg0.win 3).blk t).view.emb y 0).val = 1024 * (t.val / 4) + (y 0).val := by
    refine (Window.rect_emb_val win0_3 t y 0).trans ?_
    rw [(idx_val t).2.2.2]
    exact congrArg (· + (y 0).val) (Nat.mul_comm _ 1024)
  have p1 : (((cfg0.win 3).blk t).view.emb y 1).val = 1024 * (t.val % 4) + (y 1).val := by
    refine (Window.rect_emb_val win0_3 t y 1).trans ?_
    rw [(idx_val t).2.2.2]
    exact congrArg (· + (y 1).val) (Nat.mul_comm _ 1024)
  exact congrArg₂ sqreluGrad (mulT_block (blk0 m c t) (blk1 m c t) _ _ p0 p1) (blk2 m c t _ _ p0 p1)

theorem cover (i : S4096x4096.Idx) : ∃ t : Fin cfg0.N, (cfg0.win 3).flush t = true ∧ i ∈ ((cfg0.win 3).blk t).view.set := by
  have ht : tile i < cfg0.N := lt_of_lt_of_eq (tile_lt i) N_0.symm
  refine ⟨⟨tile i, ht⟩, flush0_3 _, ?_⟩
  show i ∈ ((View.whole main_v0).slice (win0_3.rect ⟨tile i, ht⟩)).set
  rw [View.set_slice_whole, Rect.mem_set_unit]
  intro a
  show win0_3.index ⟨tile i, ht⟩ a * S1024x1024.size a ≤ (i a).val ∧ (i a).val < win0_3.index ⟨tile i, ht⟩ a * S1024x1024.size a + S1024x1024.size a
  rw [(idx_val ⟨tile i, ht⟩).2.2.2]
  match a with
  | ⟨0, _⟩ => exact mem_tile i 0
  | ⟨1, _⟩ => exact mem_tile i 1

/-- The array after the run. -/
theorem final : (dats m 0 c).arrAt 3 cfg0.N = G (V m c main_arg0) (V m c main_arg1) (V m c main_arg2) :=
  (dats m 0 c).arrAt_eq_of_cover 3 _ (flushed m c) cover

end

/-- The reference's product. -/
theorem ref_dot (d w : Mat 4096 1024) : Cert.DownXReferenceIdeal.Read.val_main_v10 (F := Ideal) d w = mulT 4096 1024 4096 d w := by
  funext i
  refine (Cert.DownXReferenceIdeal.Read.val_main_v10_apply d w i).trans (Finset.sum_congr rfl fun k _ => ?_)
  refine (congrArg₂ (· * ·) (Cert.DownXReferenceIdeal.Read.val_main_v9_apply (F := Ideal) d _) (Cert.DownXReferenceIdeal.Read.val_main_v7_apply (F := Ideal) w _)).trans ?_
  refine congrArg₂ (· * ·) (congrArg d ?_) (congrArg w ?_) <;>
  · funext r
    match r with
    | ⟨0, _⟩ => rfl
    | ⟨1, _⟩ => rfl

open Cert.DownXReferenceIdeal.Read in
theorem ref_eq (d w : Mat 4096 1024) (x : Mat 4096 4096) : val_main_v14 (F := Ideal) d w x = G d w x := by
  funext i
  refine (val_main_v14_apply (F := Ideal) d w x i).trans ?_
  rw [val_main_v13_apply, val_main_v2_apply, val_main_v11_apply, val_main_v6_apply, val_main_v0_apply, val_main_v12_apply, val_main_v5_apply, val_main_v1_apply,
    val_main_call0_v0_apply, ref_dot]
  exact select_grad _ _

/-- The kernel's result is the reference's. -/
theorem values : Cert.algebraic_DownXIdeal_DownXReferenceIdeal := by
  intro m ρ m' ρ' _ hm
  refine ⟨fun c => G (V m c main_arg0) (V m c main_arg1) (V m c main_arg2), ?_, ?_⟩
  · exact (θ_run defs _ _).mono (fun r h c => ⟨(h c).1.trans (final m c), (h c).2⟩) (Value.run_blocks m ρ)
  · refine (θ_run Cert.DownXReferenceIdeal.defs _ _).mono (fun r h c => ⟨(h c).1.trans ?_, (h c).2⟩) (Cert.DownXReferenceIdeal.Value.run m' ρ')
    refine (Cert.DownXReferenceIdeal.Read.val_main_v14_eq (F := Ideal) _ _ _).trans ((ref_eq _ _ _).trans ?_)
    exact congr (congrArg₂ G (hm c).1 (hm c).2.1) (hm c).2.2

theorem frame_ref : Cert.quiescent_DownXReferenceIdeal := fun m ρ _ =>
  (θ_run Cert.DownXReferenceIdeal.defs _ _).mono (fun r h => ⟨fun c => (h c).2, sem_eq_zero_of_no_sems (by decide) r.2⟩) (Cert.DownXReferenceIdeal.Value.run m ρ)

end Cert.Products.DownX
-- ==== Proof.DownW.lean ====
module

public import proofs.«01_k».proof.Defs
public import proofs.«01_k».proof.Proof.Products
public import proofs.«01_k».proof.Proof.Gen.DownWIdeal
public import proofs.«01_k».proof.Proof.Gen.DownWIdeal.Frame
public import proofs.«01_k».proof.Proof.Gen.DownWIdeal.Value
public import proofs.«01_k».proof.Proof.Gen.DownWReferenceIdeal
public import proofs.«01_k».proof.Proof.Gen.DownWReferenceIdeal.Run
public import proofs.«01_k».proof.Proof.Gen.DownWReferenceIdeal.Read

@[expose] public section

set_option maxRecDepth 16384

noncomputable section

/-! The weight gradient of the second product of the feed-forward layer. -/

namespace Cert.Products.DownW

open Cert.DownWIdeal Cert.DownWIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 4096) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What an even point leaves to the next. -/
theorem kept (u : Fin cfg0.N) (hu : u.val % 2 = 0) : (outsAt0 m c u.val u.isLt).2 = tmul 1024 2048 1024 (iblk m c 0 u) (iblk m c 1 u) := by
  rw [outsAt0_A m c u hu (by omega)]
  dsimp only
  rw [first]

/-- What a point writes back: a block of the product. -/
theorem flushed (t : Fin cfg0.N) (hf : (cfg0.win 2).flush t = true) :
    (dats m 0 c).flushed 2 t = ((cfg0.win 2).blk t).view.read (Elt Ideal) (tmul 4096 4096 1024 (V m c main_arg0) (V m c main_arg1) : Mat 4096 1024) := by
  have ht : t.val % 2 = 1 := (flush0_2 t).mp hf
  have hp : t.val - 1 < cfg0.N := Nat.lt_of_le_of_lt (Nat.sub_le _ _) t.isLt
  have e1 : (t.val - 1) % 2 = 0 := by omega
  have e2 : (t.val - 1) / 2 = t.val / 2 := by omega
  have x0 := blk0 m c ⟨t.val - 1, hp⟩
  have y0 := blk1 m c ⟨t.val - 1, hp⟩
  have x1 := blk0 m c t
  have y1 := blk1 m c t
  simp only [e1, e2] at x0 y0
  rw [ht] at x1 y1
  refine (Value.flushed2_B m c t (by omega) ht).trans (funext fun y => ?_)
  refine (second c _ _ _ _ _ _ _ _ _ _ _ _ _ _ _ ((cfg0.win 2).xinj (grid0.coords t) y)).trans ?_
  refine (congrArg (· + _) (congrFun (kept m c ⟨t.val - 1, hp⟩ e1) _)).trans ?_
  refine tmul_halves x0 x1 y0 y1 _ _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

/-- The array after the run. -/
theorem final : (dats m 0 c).arrAt 2 cfg0.N = (tmul 4096 4096 1024 (V m c main_arg0) (V m c main_arg1) : Mat 4096 1024) :=
  (dats m 0 c).arrAt_eq_of_cover 2 _ (flushed m c) fun i => (Value.covered_iff2 i).2 ⟨Nat.zero_le _, (i 0).isLt, Nat.zero_le _, (i 1).isLt⟩

end

/-- The reference's product, with its factors in the other order. -/
theorem ref_eq (a : Mat 4096 4096) (d : Mat 4096 1024) : Cert.DownWReferenceIdeal.Read.val_main_v5 (F := Ideal) a d = tmul 4096 4096 1024 a d := by
  funext i
  refine (Cert.DownWReferenceIdeal.Read.val_main_v5_apply (F := Ideal) a d i).trans ((Cert.DownWReferenceIdeal.Read.val_main_v4_apply a d _).trans ?_)
  refine Finset.sum_congr rfl fun k _ => ?_
  refine (congrArg₂ (· * ·) (Cert.DownWReferenceIdeal.Read.val_main_v1_apply (F := Ideal) d _) (Cert.DownWReferenceIdeal.Read.val_main_v0_apply (F := Ideal) a _)).trans ?_
  refine (mul_comm _ _).trans (congrArg₂ (· * ·) (congrArg a ?_) (congrArg d ?_)) <;>
  · funext r
    match r with
    | ⟨0, _⟩ => rfl
    | ⟨1, _⟩ => rfl

/-- The kernel's result is the reference's. -/
theorem values : Cert.algebraic_DownWIdeal_DownWReferenceIdeal := by
  intro m ρ m' ρ' _ hm
  refine ⟨fun c => tmul 4096 4096 1024 (V m c main_arg0) (V m c main_arg1), ?_, ?_⟩
  · exact (θ_run defs _ _).mono (fun r h c => ⟨(h c).1.trans (final m c), (h c).2⟩) (Value.run_blocks m ρ)
  · refine (θ_run Cert.DownWReferenceIdeal.defs _ _).mono (fun r h c => ⟨(h c).1.trans ?_, (h c).2⟩) (Cert.DownWReferenceIdeal.Value.run m' ρ')
    refine (Cert.DownWReferenceIdeal.Read.val_main_v5_eq (F := Ideal) _ _).symm.trans ((congrArg₂ _ (hm c).1 (hm c).2).trans ((ref_eq _ _).trans ?_))
    rfl

theorem frame_ref : Cert.quiescent_DownWReferenceIdeal := fun m ρ _ =>
  (θ_run Cert.DownWReferenceIdeal.defs _ _).mono (fun r h => ⟨fun c => (h c).2, sem_eq_zero_of_no_sems (by decide) r.2⟩) (Cert.DownWReferenceIdeal.Value.run m ρ)

end Cert.Products.DownW
-- ==== Proof.UpX.lean ====
module

public import proofs.«01_k».proof.Defs
public import proofs.«01_k».proof.Proof.Products
public import proofs.«01_k».proof.Proof.Gen.UpXIdeal
public import proofs.«01_k».proof.Proof.Gen.UpXIdeal.Frame
public import proofs.«01_k».proof.Proof.Gen.UpXIdeal.Value
public import proofs.«01_k».proof.Proof.Gen.UpXReferenceIdeal
public import proofs.«01_k».proof.Proof.Gen.UpXReferenceIdeal.Run
public import proofs.«01_k».proof.Proof.Gen.UpXReferenceIdeal.Read

@[expose] public section

set_option maxRecDepth 16384

noncomputable section

/-! The input gradient of the first product of the feed-forward layer. -/

namespace Cert.Products.UpX

open Cert.UpXIdeal Cert.UpXIdeal.Gen
open Idealize.ShloMosaic Idealize.ShloMosaic.TcCoe
open Idealize.ShloMosaic.Pipeline (Window)

/-- Which block of each array a point of the grid holds. -/
theorem idx_val : ∀ t : Fin cfg0.N, win0_0.index t = ![t.val / 2, t.val % 2] ∧ win0_1.index t = ![0, t.val % 2] ∧ win0_2.index t = ![t.val / 2, 0] :=
  (by decide +kernel : ∀ t : Fin grid0.N, _)

/-- The first half of the sum is put by. -/
theorem first (c : Dev nD) (i : grid0.Coords) (a : Memref sig .tc .vmem S1024x2048 .bf16) (ha : a.IsWhole) (b : Memref sig .tc .vmem S1024x2048 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S1024x2048 .bf16) :
    sout0_A_0 c i a ha b hb o ho s hs h0 h1 h2 x y = mulT 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S1024x2048) hz, shapeCast_self]
  exact transposedRhs_eq 1024 2048 1024 none x y

/-- The second half is added to it. -/
theorem second (c : Dev nD) (i : grid0.Coords) (a : Memref sig .tc .vmem S1024x2048 .bf16) (ha : a.IsWhole) (b : Memref sig .tc .vmem S1024x2048 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S1024x2048 .bf16) (acc : Vec Ideal S1024x1024 .f32) (j : S1024x1024.Idx) :
    out0_B_2 c i a ha b hb o ho s hs h0 h1 h2 x y acc j = (acc j : EReal) + mulT 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S1024x2048) hz, View.ld_unit_zero (S := S1024x1024) hz, shapeCast_self]
  exact congrArg (fun p : Mat 1024 1024 => (acc j : EReal) + p j) (transposedRhs_eq 1024 2048 1024 none x y)

section
variable (m : (ℓ : Loc nD τ sig) → Buf (Elt Ideal) ℓ) (c : Dev nD)

theorem blk0 (t : Fin cfg0.N) : IsBlock (V m c main_arg0 : Mat 4096 4096) (1024 * (t.val / 2)) (2048 * (t.val % 2)) (iblk m c 0 t : Mat 1024 2048) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 2048) (congrFun (idx_val t).1 1))))

theorem blk1 (t : Fin cfg0.N) : IsBlock (V m c main_arg1 : Mat 1024 4096) (1024 * 0) (2048 * (t.val % 2)) (iblk m c 1 t : Mat 1024 2048) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 2048) (congrFun (idx_val t).2.1 1))))

/-- What an even point leaves to the next. -/
theorem kept (u : Fin cfg0.N) (hu : u.val % 2 = 0) : (outsAt0 m c u.val u.isLt).2 = mulT 1024 2048 1024 (iblk m c 0 u) (iblk m c 1 u) := by
  rw [outsAt0_A m c u hu (by omega)]
  dsimp only
  rw [first]

/-- What a point writes back: a block of the product. -/
theorem flushed (t : Fin cfg0.N) (hf : (cfg0.win 2).flush t = true) :
    (dats m 0 c).flushed 2 t = ((cfg0.win 2).blk t).view.read (Elt Ideal) (mulT 4096 4096 1024 (V m c main_arg0) (V m c main_arg1) : Mat 4096 1024) := by
  have ht : t.val % 2 = 1 := (flush0_2 t).mp hf
  have hp : t.val - 1 < cfg0.N := Nat.lt_of_le_of_lt (Nat.sub_le _ _) t.isLt
  have e1 : (t.val - 1) % 2 = 0 := by omega
  have e2 : (t.val - 1) / 2 = t.val / 2 := by omega
  have x0 := blk0 m c ⟨t.val - 1, hp⟩
  have y0 := blk1 m c ⟨t.val - 1, hp⟩
  have x1 := blk0 m c t
  have y1 := blk1 m c t
  simp only [e1, e2] at x0 y0
  rw [ht] at x1 y1
  refine (Value.flushed2_B m c t (by omega) ht).trans (funext fun y => ?_)
  refine (second c _ _ _ _ _ _ _ _ _ _ _ _ _ _ _ ((cfg0.win 2).xinj (grid0.coords t) y)).trans ?_
  refine (congrArg (· + _) (congrFun (kept m c ⟨t.val - 1, hp⟩ e1) _)).trans ?_
  refine mulT_halves x0 x1 y0 y1 _ _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

/-- The array after the run. -/
theorem final : (dats m 0 c).arrAt 2 cfg0.N = (mulT 4096 4096 1024 (V m c main_arg0) (V m c main_arg1) : Mat 4096 1024) :=
  (dats m 0 c).arrAt_eq_of_cover 2 _ (flushed m c) fun i => (Value.covered_iff2 i).2 ⟨Nat.zero_le _, (i 0).isLt, Nat.zero_le _, (i 1).isLt⟩

end

/-- The reference's product. -/
theorem ref_eq (d : Mat 4096 4096) (w : Mat 1024 4096) : Cert.UpXReferenceIdeal.Read.val_main_v4 (F := Ideal) d w = mulT 4096 4096 1024 d w := by
  funext i
  refine (Cert.UpXReferenceIdeal.Read.val_main_v4_apply d w i).trans (Finset.sum_congr rfl fun k _ => ?_)
  refine (congrArg₂ (· * ·) (Cert.UpXReferenceIdeal.Read.val_main_v0_apply (F := Ideal) d _) (Cert.UpXReferenceIdeal.Read.val_main_v1_apply (F := Ideal) w _)).trans ?_
  refine congrArg₂ (· * ·) (congrArg d ?_) (congrArg w ?_) <;>
  · funext r
    match r with
    | ⟨0, _⟩ => rfl
    | ⟨1, _⟩ => rfl

/-- The kernel's result is the reference's. -/
theorem values : Cert.algebraic_UpXIdeal_UpXReferenceIdeal := by
  intro m ρ m' ρ' _ hm
  refine ⟨fun c => mulT 4096 4096 1024 (V m c main_arg0) (V m c main_arg1), ?_, ?_⟩
  · exact (θ_run defs _ _).mono (fun r h c => ⟨(h c).1.trans (final m c), (h c).2⟩) (Value.run_blocks m ρ)
  · refine (θ_run Cert.UpXReferenceIdeal.defs _ _).mono (fun r h c => ⟨(h c).1.trans ?_, (h c).2⟩) (Cert.UpXReferenceIdeal.Value.run m' ρ')
    refine (Cert.UpXReferenceIdeal.Read.val_main_v4_eq (F := Ideal) _ _).symm.trans ((congrArg₂ _ (hm c).1 (hm c).2).trans ((ref_eq _ _).trans ?_))
    rfl

theorem frame_ref : Cert.quiescent_UpXReferenceIdeal := fun m ρ _ =>
  (θ_run Cert.UpXReferenceIdeal.defs _ _).mono (fun r h => ⟨fun c => (h c).2, sem_eq_zero_of_no_sems (by decide) r.2⟩) (Cert.UpXReferenceIdeal.Value.run m ρ)

end Cert.Products.UpX
-- ==== Proof.UpW.lean ====
module

public import proofs.«01_k».proof.Defs
public import proofs.«01_k».proof.Proof.Products
public import proofs.«01_k».proof.Proof.Gen.UpWIdeal
public import proofs.«01_k».proof.Proof.Gen.UpWIdeal.Frame
public import proofs.«01_k».proof.Proof.Gen.UpWIdeal.Value
public import proofs.«01_k».proof.Proof.Gen.UpWReferenceIdeal
public import proofs.«01_k».proof.Proof.Gen.UpWReferenceIdeal.Run
public import proofs.«01_k».proof.Proof.Gen.UpWReferenceIdeal.Read

@[expose] public section

set_option maxRecDepth 16384

noncomputable section

/-! The weight gradient of the first product of the feed-forward layer. -/

namespace Cert.Products.UpW

open Cert.UpWIdeal Cert.UpWIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, 0] ∧ win0_1.index t = ![t.val % 2, t.val / 2] ∧ win0_2.index t = ![0, t.val / 2] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 1024) (2048 * (t.val % 2)) (1024 * 0) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 4096) (2048 * (t.val % 2)) (1024 * (t.val / 2)) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What an even point leaves to the next. -/
theorem kept (u : Fin cfg0.N) (hu : u.val % 2 = 0) : (outsAt0 m c u.val u.isLt).2 = tmul 1024 2048 1024 (iblk m c 0 u) (iblk m c 1 u) := by
  rw [outsAt0_A m c u hu (by omega)]
  dsimp only
  rw [first]

/-- What a point writes back: a block of the product. -/
theorem flushed (t : Fin cfg0.N) (hf : (cfg0.win 2).flush t = true) :
    (dats m 0 c).flushed 2 t = ((cfg0.win 2).blk t).view.read (Elt Ideal) (tmul 1024 4096 4096 (V m c main_arg0) (V m c main_arg1) : Mat 1024 4096) := by
  have ht : t.val % 2 = 1 := (flush0_2 t).mp hf
  have hp : t.val - 1 < cfg0.N := Nat.lt_of_le_of_lt (Nat.sub_le _ _) t.isLt
  have e1 : (t.val - 1) % 2 = 0 := by omega
  have e2 : (t.val - 1) / 2 = t.val / 2 := by omega
  have x0 := blk0 m c ⟨t.val - 1, hp⟩
  have y0 := blk1 m c ⟨t.val - 1, hp⟩
  have x1 := blk0 m c t
  have y1 := blk1 m c t
  simp only [e1, e2] at x0 y0
  rw [ht] at x1 y1
  refine (Value.flushed2_B m c t (by omega) ht).trans (funext fun y => ?_)
  refine (second c _ _ _ _ _ _ _ _ _ _ _ _ _ _ _ ((cfg0.win 2).xinj (grid0.coords t) y)).trans ?_
  refine (congrArg (· + _) (congrFun (kept m c ⟨t.val - 1, hp⟩ e1) _)).trans ?_
  refine tmul_halves x0 x1 y0 y1 _ _ ?_ ?_
  · refine (Window.rect_emb_val win0_2 t y 0).trans ?_
    rw [(idx_val t).2.2]
    exact congrArg (· + (y 0).val) (Nat.zero_mul 1024)
  · refine (Window.rect_emb_val win0_2 t y 1).trans ?_
    rw [(idx_val t).2.2]
    exact congrArg (· + (y 1).val) (Nat.mul_comm _ 1024)

/-- The array after the run. -/
theorem final : (dats m 0 c).arrAt 2 cfg0.N = (tmul 1024 4096 4096 (V m c main_arg0) (V m c main_arg1) : Mat 1024 4096) :=
  (dats m 0 c).arrAt_eq_of_cover 2 _ (flushed m c) fun i => (Value.covered_iff2 i).2 ⟨Nat.zero_le _, (i 0).isLt, Nat.zero_le _, (i 1).isLt⟩

end

/-- The reference's product, with its factors in the other order. -/
theorem ref_eq (a : Mat 4096 1024) (d : Mat 4096 4096) : Cert.UpWReferenceIdeal.Read.val_main_v5 (F := Ideal) a d = tmul 1024 4096 4096 a d := by
  funext i
  refine (Cert.UpWReferenceIdeal.Read.val_main_v5_apply (F := Ideal) a d i).trans ((Cert.UpWReferenceIdeal.Read.val_main_v4_apply a d _).trans ?_)
  refine Finset.sum_congr rfl fun k _ => ?_
  refine (congrArg₂ (· * ·) (Cert.UpWReferenceIdeal.Read.val_main_v1_apply (F := Ideal) d _) (Cert.UpWReferenceIdeal.Read.val_main_v0_apply (F := Ideal) a _)).trans ?_
  refine (mul_comm _ _).trans (congrArg₂ (· * ·) (congrArg a ?_) (congrArg d ?_)) <;>
  · funext r
    match r with
    | ⟨0, _⟩ => rfl
    | ⟨1, _⟩ => rfl

/-- The kernel's result is the reference's. -/
theorem values : Cert.algebraic_UpWIdeal_UpWReferenceIdeal := by
  intro m ρ m' ρ' _ hm
  refine ⟨fun c => tmul 1024 4096 4096 (V m c main_arg0) (V m c main_arg1), ?_, ?_⟩
  · exact (θ_run defs _ _).mono (fun r h c => ⟨(h c).1.trans (final m c), (h c).2⟩) (Value.run_blocks m ρ)
  · refine (θ_run Cert.UpWReferenceIdeal.defs _ _).mono (fun r h c => ⟨(h c).1.trans ?_, (h c).2⟩) (Cert.UpWReferenceIdeal.Value.run m' ρ')
    refine (Cert.UpWReferenceIdeal.Read.val_main_v5_eq (F := Ideal) _ _).symm.trans ((congrArg₂ _ (hm c).1 (hm c).2).trans ((ref_eq _ _).trans ?_))
    rfl

theorem frame_ref : Cert.quiescent_UpWReferenceIdeal := fun m ρ _ =>
  (θ_run Cert.UpWReferenceIdeal.defs _ _).mono (fun r h => ⟨fun c => (h c).2, sem_eq_zero_of_no_sems (by decide) r.2⟩) (Cert.UpWReferenceIdeal.Value.run m ρ)

end Cert.Products.UpW
-- ==== Proof.Up.lean ====
module

public import proofs.«01_k».proof.Defs
public import proofs.«01_k».proof.Proof.Products
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read

@[expose] public section

set_option maxRecDepth 16384

noncomputable section

/-! The first product of the feed-forward layer, and the square of its positive part. -/

namespace Cert.Products.Up

open Cert.UpIdeal Cert.UpIdeal.Gen
open Idealize.ShloMosaic Idealize.ShloMosaic.TcCoe
open Idealize.ShloMosaic.Pipeline (Window)

/-- The activation. -/
def act (x : Mat 4096 1024) (w : Mat 1024 4096) : Mat 4096 4096 := fun j => sqrelu (mul 4096 1024 4096 x w j)

/-- Which block of each array a point of the grid holds. -/
theorem idx_val : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)

section
variable (c : Dev nD) (i : grid0.Coords) (a : Memref sig .tc .vmem S1024x1024 .bf16) (ha : a.IsWhole) (b : Memref sig .tc .vmem S1024x1024 .bf16) (hb : b.IsWhole)
  (e : Memref sig .tc .vmem S1024x1024 .f32) (he : e.IsWhole) (o : Memref sig .tc .vmem S1024x1024 .bf16) (ho : o.IsWhole) (s : Memref sig .tc .vmem S8x128 .f32) (hs : s.IsWhole)
  (x y : Vec Ideal S1024x1024 .bf16)

/-- One point's product … -/
theorem point_mul : out0_A_2 c i a ha b hb e he o ho s hs x y = mul 1024 1024 1024 x y := by
  unfold out0_A_2
  rw [View.read_writes_eq_canon _ _ _ (cover0_A_2 c i a ha b hb e he o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact plain_eq 1024 1024 1024 none x y

/-- … and its activation. -/
theorem point_act (j : S1024x1024.Idx) : out0_A_3 c i a ha b hb e he o ho s hs x y j = sqrelu (mul 1024 1024 1024 x y j) := by
  unfold out0_A_3
  rw [View.read_writes_eq_canon _ _ _ (cover0_A_3 c i a ha b hb e he o ho s hs x y)]
  unfold kernelRun0_A
  dsimp only
  rw [View.canon_unit_zero hz]
  unfold k0_pay2 k0_pay1
  simp only [View.readAt_eq_ld, ha.read_unread, hb.read_unread, View.ld_unit_zero (S := S1024x1024) hz, shapeCast_self]
  exact congrArg (fun p : Mat 1024 1024 => sqrelu (p j)) (plain_eq 1024 1024 1024 none x y)

end

section
variable (m : (ℓ : Loc nD τ sig) → Buf (Elt Ideal) ℓ) (c : Dev nD)

theorem blk0 (t : Fin cfg0.N) : IsBlock (V m c main_arg0 : Mat 4096 1024) (1024 * (t.val / 4)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 1024 4096) (1024 * 0) (1024 * (t.val % 4)) (iblk m c 1 t : Mat 1024 1024) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 1024) (congrFun (idx_val t).2.1 1))))

/-- A point's product is a block of the whole one. -/
theorem prod (t : Fin cfg0.N) : IsBlock (mul 4096 1024 4096 (V m c main_arg0) (V m c main_arg1)) (1024 * (t.val / 4)) (1024 * (t.val % 4))
    (mul 1024 1024 1024 (iblk m c 0 t) (iblk m c 1 t)) := mul_block (blk0 m c t) (blk1 m c t)

/-- What a point writes back: a block of the product … -/
theorem flushed_mul (t : Fin cfg0.N) (hf : (cfg0.win 2).flush t = true) :
    (dats m 0 c).flushed 2 t = ((cfg0.win 2).blk t).view.read (Elt Ideal) (mul 4096 1024 4096 (V m c main_arg0) (V m c main_arg1) : Mat 4096 4096) := by
  refine (Value.flushed2_A m c t).trans (funext fun y => ?_)
  refine (congrFun (point_mul c _ _ _ _ _ _ _ _ _ _ _ _ _) ((cfg0.win 2).xinj (grid0.coords t) y)).trans (prod m c t _ _ ?_ ?_)
  · refine (Window.rect_emb_val win0_2 t y 0).trans ?_
    rw [(idx_val t).2.2.1]
    exact congrArg (· + (y 0).val) (Nat.mul_comm _ 1024)
  · refine (Window.rect_emb_val win0_2 t y 1).trans ?_
    rw [(idx_val t).2.2.1]
    exact congrArg (· + (y 1).val) (Nat.mul_comm _ 1024)

/-- … and of the activation. -/
theorem flushed_act (t : Fin cfg0.N) (hf : (cfg0.win 3).flush t = true) :
    (dats m 0 c).flushed 3 t = ((cfg0.win 3).blk t).view.read (Elt Ideal) (act (V m c main_arg0) (V m c main_arg1)) := by
  refine (Value.flushed3_A m c t).trans (funext fun y => ?_)
  refine (point_act c _ _ _ _ _ _ _ _ _ _ _ _ _ ((cfg0.win 3).xinj (grid0.coords t) y)).trans (congrArg sqrelu (prod m c t _ _ ?_ ?_))
  · refine (Window.rect_emb_val win0_3 t y 0).trans ?_
    rw [(idx_val t).2.2.2]
    exact congrArg (· + (y 0).val) (Nat.mul_comm _ 1024)
  · refine (Window.rect_emb_val win0_3 t y 1).trans ?_
    rw [(idx_val t).2.2.2]
    exact congrArg (· + (y 1).val) (Nat.mul_comm _ 1024)

theorem cover_mul (i : S4096x4096.Idx) : ∃ t : Fin cfg0.N, (cfg0.win 2).flush t = true ∧ i ∈ ((cfg0.win 2).blk t).view.set := by
  have ht : tile i < cfg0.N := lt_of_lt_of_eq (tile_lt i) N_0.symm
  refine ⟨⟨tile i, ht⟩, flush0_2 _, ?_⟩
  show i ∈ ((View.whole main_v0_0).slice (win0_2.rect ⟨tile i, ht⟩)).set
  rw [View.set_slice_whole, Rect.mem_set_unit]
  intro a
  show win0_2.index ⟨tile i, ht⟩ a * S1024x1024.size a ≤ (i a).val ∧ (i a).val < win0_2.index ⟨tile i, ht⟩ a * S1024x1024.size a + S1024x1024.size a
  rw [(idx_val ⟨tile i, ht⟩).2.2.1]
  match a with
  | ⟨0, _⟩ => exact mem_tile i 0
  | ⟨1, _⟩ => exact mem_tile i 1

theorem cover_act (i : S4096x4096.Idx) : ∃ t : Fin cfg0.N, (cfg0.win 3).flush t = true ∧ i ∈ ((cfg0.win 3).blk t).view.set := by
  have ht : tile i < cfg0.N := lt_of_lt_of_eq (tile_lt i) N_0.symm
  refine ⟨⟨tile i, ht⟩, flush0_3 _, ?_⟩
  show i ∈ ((View.whole main_v0_1).slice (win0_3.rect ⟨tile i, ht⟩)).set
  rw [View.set_slice_whole, Rect.mem_set_unit]
  intro a
  show win0_3.index ⟨tile i, ht⟩ a * S1024x1024.size a ≤ (i a).val ∧ (i a).val < win0_3.index ⟨tile i, ht⟩ a * S1024x1024.size a + S1024x1024.size a
  rw [(idx_val ⟨tile i, ht⟩).2.2.2]
  match a with
  | ⟨0, _⟩ => exact mem_tile i 0
  | ⟨1, _⟩ => exact mem_tile i 1

/-- The arrays after the run. -/
theorem final_mul : (dats m 0 c).arrAt 2 cfg0.N = (mul 4096 1024 4096 (V m c main_arg0) (V m c main_arg1) : Mat 4096 4096) :=
  (dats m 0 c).arrAt_eq_of_cover 2 _ (flushed_mul m c) cover_mul
theorem final_act : (dats m 0 c).arrAt 3 cfg0.N = act (V m c main_arg0) (V m c main_arg1) :=
  (dats m 0 c).arrAt_eq_of_cover 3 _ (flushed_act m c) cover_act

end

/-- The reference's product. -/
theorem ref_mul (x : Mat 4096 1024) (w : Mat 1024 4096) : Cert.UpReferenceIdeal.Read.val_main_v2 (F := Ideal) x w = mul 4096 1024 4096 x w := by
  funext i
  refine (Cert.UpReferenceIdeal.Read.val_main_v2_apply x w i).trans (Finset.sum_congr rfl fun k _ => ?_)
  refine (congrArg₂ (· * ·) (Cert.UpReferenceIdeal.Read.val_main_v0_apply (F := Ideal) x _) (Cert.UpReferenceIdeal.Read.val_main_v1_apply (F := Ideal) w _)).trans ?_
  refine congrArg₂ (· * ·) (congrArg x ?_) (congrArg w ?_) <;>
  · funext r
    match r with
    | ⟨0, _⟩ => rfl
    | ⟨1, _⟩ => rfl

open Cert.UpReferenceIdeal.Read in
theorem ref_act (x : Mat 4096 1024) (w : Mat 1024 4096) : val_main_v5 (F := Ideal) x w = act x w := by
  funext i
  refine (val_main_v5_apply (F := Ideal) x w i).trans ?_
  rw [val_main_v4_apply, val_main_v3_apply, val_main_call0_v0_apply, ref_mul]
  rfl

/-- The kernel's results are the reference's. -/
theorem values : Cert.algebraic_UpIdeal_UpReferenceIdeal := by
  intro m ρ m' ρ' _ hm
  refine ⟨fun c => mul 4096 1024 4096 (V m c main_arg0) (V m c main_arg1), fun c => act (V m c main_arg0) (V m c main_arg1), ?_, ?_⟩
  · exact (θ_run defs _ _).mono (fun r h c => ⟨(h c).1.trans (final_mul m c), (h c).2.1.trans (final_act m c), (h c).2.2⟩) (Value.run_blocks m ρ)
  · refine (θ_run Cert.UpReferenceIdeal.defs _ _).mono (fun r h c => ⟨(h c).1.trans ?_, (h c).2.1.trans ?_, (h c).2.2⟩) (Cert.UpReferenceIdeal.Value.run m' ρ')
    · refine (Cert.UpReferenceIdeal.Read.val_main_v2_eq (F := Ideal) _ _).trans ((ref_mul _ _).trans ?_)
      exact congrArg₂ (mul 4096 1024 4096) (hm c).1 (hm c).2
    · refine (Cert.UpReferenceIdeal.Read.val_main_v5_eq (F := Ideal) _ _).trans ((ref_act _ _).trans ?_)
      exact congrArg₂ act (hm c).1 (hm c).2

theorem frame_ref : Cert.quiescent_UpReferenceIdeal := fun m ρ _ =>
  (θ_run Cert.UpReferenceIdeal.defs _ _).mono (fun r h => ⟨fun c => (h c).2.2, sem_eq_zero_of_no_sems (by decide) r.2⟩) (Cert.UpReferenceIdeal.Value.run m ρ)

end Cert.Products.Up
-- ==== Proof.Down.lean ====
module

public import proofs.«01_k».proof.Defs
public import proofs.«01_k».proof.Proof.Products
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read

@[expose] public section

set_option maxRecDepth 16384

noncomputable section

/-! The second product of the feed-forward layer. -/

namespace Cert.Products.Down

open Cert.DownIdeal Cert.DownIdeal.Gen
open Idealize.ShloMosaic Idealize.ShloMosaic.TcCoe
open Idealize.ShloMosaic.Pipeline (Window)

/-- Which block of each array a point of the grid holds. -/
theorem idx_val : ∀ t : Fin cfg0.N, win0_0.index t = ![t.val / 2, t.val % 2] ∧ win0_1.index t = ![t.val % 2, 0] ∧ win0_2.index t = ![t.val / 2, 0] :=
  (by decide +kernel : ∀ t : Fin grid0.N, _)

/-- The first half of the sum is put by. -/
theorem first (c : Dev nD) (i : grid0.Coords) (a : Memref sig .tc .vmem S1024x2048 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x : Vec Ideal S1024x2048 .bf16) (y : Vec Ideal S2048x1024 .bf16) :
    sout0_A_0 c i a ha b hb o ho s hs h0 h1 h2 x y = mul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S1024x2048) hz, View.ld_unit_zero (S := S2048x1024) hz, shapeCast_self]
  exact plain_eq 1024 2048 1024 none x y

/-- The second half is added to it. -/
theorem second (c : Dev nD) (i : grid0.Coords) (a : Memref sig .tc .vmem S1024x2048 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x : Vec Ideal S1024x2048 .bf16) (y : Vec Ideal S2048x1024 .bf16) (acc : Vec Ideal S1024x1024 .f32) (j : S1024x1024.Idx) :
    out0_B_2 c i a ha b hb o ho s hs h0 h1 h2 x y acc j = (acc j : EReal) + mul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S1024x2048) hz, View.ld_unit_zero (S := S2048x1024) hz, View.ld_unit_zero (S := S1024x1024) hz, shapeCast_self]
  exact congrArg (fun p : Mat 1024 1024 => (acc j : EReal) + p j) (plain_eq 1024 2048 1024 none x y)

section
variable (m : (ℓ : Loc nD τ sig) → Buf (Elt Ideal) ℓ) (c : Dev nD)

theorem blk0 (t : Fin cfg0.N) : IsBlock (V m c main_arg0 : Mat 4096 4096) (1024 * (t.val / 2)) (2048 * (t.val % 2)) (iblk m c 0 t : Mat 1024 2048) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 2048) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What an even point leaves to the next. -/
theorem kept (u : Fin cfg0.N) (hu : u.val % 2 = 0) : (outsAt0 m c u.val u.isLt).2 = mul 1024 2048 1024 (iblk m c 0 u) (iblk m c 1 u) := by
  rw [outsAt0_A m c u hu (by omega)]
  dsimp only
  rw [first]

/-- What a point writes back: a block of the product. -/
theorem flushed (t : Fin cfg0.N) (hf : (cfg0.win 2).flush t = true) :
    (dats m 0 c).flushed 2 t = ((cfg0.win 2).blk t).view.read (Elt Ideal) (mul 4096 4096 1024 (V m c main_arg0) (V m c main_arg1) : Mat 4096 1024) := by
  have ht : t.val % 2 = 1 := (flush0_2 t).mp hf
  have hp : t.val - 1 < cfg0.N := Nat.lt_of_le_of_lt (Nat.sub_le _ _) t.isLt
  have e1 : (t.val - 1) % 2 = 0 := by omega
  have e2 : (t.val - 1) / 2 = t.val / 2 := by omega
  have x0 := blk0 m c ⟨t.val - 1, hp⟩
  have y0 := blk1 m c ⟨t.val - 1, hp⟩
  have x1 := blk0 m c t
  have y1 := blk1 m c t
  simp only [e1, e2] at x0 y0
  rw [ht] at x1 y1
  refine (Value.flushed2_B m c t (by omega) ht).trans (funext fun y => ?_)
  refine (second c _ _ _ _ _ _ _ _ _ _ _ _ _ _ _ ((cfg0.win 2).xinj (grid0.coords t) y)).trans ?_
  refine (congrArg (· + _) (congrFun (kept m c ⟨t.val - 1, hp⟩ e1) _)).trans ?_
  refine mul_halves x0 x1 y0 y1 _ _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

/-- The array after the run. -/
theorem final : (dats m 0 c).arrAt 2 cfg0.N = (mul 4096 4096 1024 (V m c main_arg0) (V m c main_arg1) : Mat 4096 1024) :=
  (dats m 0 c).arrAt_eq_of_cover 2 _ (flushed m c) fun i => (Value.covered_iff2 i).2 ⟨Nat.zero_le _, (i 0).isLt, Nat.zero_le _, (i 1).isLt⟩

end

/-- The reference's product. -/
theorem ref_eq (d : Mat 4096 4096) (w : Mat 4096 1024) : Cert.DownReferenceIdeal.Read.val_main_v2 (F := Ideal) d w = mul 4096 4096 1024 d w := by
  funext i
  refine (Cert.DownReferenceIdeal.Read.val_main_v2_apply d w i).trans (Finset.sum_congr rfl fun k _ => ?_)
  refine (congrArg₂ (· * ·) (Cert.DownReferenceIdeal.Read.val_main_v0_apply (F := Ideal) d _) (Cert.DownReferenceIdeal.Read.val_main_v1_apply (F := Ideal) w _)).trans ?_
  refine congrArg₂ (· * ·) (congrArg d ?_) (congrArg w ?_) <;>
  · funext r
    match r with
    | ⟨0, _⟩ => rfl
    | ⟨1, _⟩ => rfl

/-- The kernel's result is the reference's. -/
theorem values : Cert.algebraic_DownIdeal_DownReferenceIdeal := by
  intro m ρ m' ρ' _ hm
  refine ⟨fun c => mul 4096 4096 1024 (V m c main_arg0) (V m c main_arg1), ?_, ?_⟩
  · exact (θ_run defs _ _).mono (fun r h c => ⟨(h c).1.trans (final m c), (h c).2⟩) (Value.run_blocks m ρ)
  · refine (θ_run Cert.DownReferenceIdeal.defs _ _).mono (fun r h c => ⟨(h c).1.trans ?_, (h c).2⟩) (Cert.DownReferenceIdeal.Value.run m' ρ')
    refine (Cert.DownReferenceIdeal.Read.val_main_v2_eq (F := Ideal) _ _).symm.trans ((congrArg₂ _ (hm c).1 (hm c).2).trans ((ref_eq _ _).trans ?_))
    rfl

theorem frame_ref : Cert.quiescent_DownReferenceIdeal := fun m ρ _ =>
  (θ_run Cert.DownReferenceIdeal.defs _ _).mono (fun r h => ⟨fun c => (h c).2, sem_eq_zero_of_no_sems (by decide) r.2⟩) (Cert.DownReferenceIdeal.Value.run m ρ)

end Cert.Products.Down
-- ==== Proof.Segment.lean ====
module

public import proofs.«01_k».proof.Proof.Products

@[expose] public section

noncomputable section

/-! Products with a run of rows of a larger matrix, and a matrix a run of whose rows is replaced: what the input
projection's calls compute, each of which works on its segment of the projection's columns. -/

namespace Cert.Products

open Idealize.ShloMosaic
open Cert.SbBwd (M)

/-- The `k` rows of a matrix from row `o`. -/
def cutRows (o k : ℕ) {K m : ℕ} (h : o + k ≤ K) (b : Mat K m) : Mat k m :=
  fun i => b (ValueIdx.ix2 ⟨o + (i 0).val, lt_of_lt_of_le (Nat.add_lt_add_left (show (i 0).val < k from (i 0).isLt) o) h⟩ (i 1))

theorem isBlock_cutRows {o k K m n l r c : ℕ} (h : o + k ≤ K) {b : Mat K m} {y : Mat n l} (hy : IsBlock b (o + r) c y) : IsBlock (cutRows o k h b) r c y :=
  fun i j h0 h1 => hy i _ ((congrArg (o + ·) h0).trans (Nat.add_assoc o r _).symm) h1

/-- A part of a matrix, given by where each place of it lies. -/
theorem isBlock_at {K L n l r c : ℕ} {b : Mat K L} {x : Mat n l} (e : (M n l).Idx → (M K L).Idx) (hx : ∀ j, x j = b (e j))
    (h0 : ∀ j, (e j 0).val = r + (j 0).val) (h1 : ∀ j, (e j 1).val = c + (j 1).val) : IsBlock b r c x := by
  intro i j k0 k1
  refine (hx i).trans (congrArg b (funext fun a => Fin.ext ?_))
  match a with
  | ⟨0, _⟩ => exact (h0 i).trans k0.symm
  | ⟨1, _⟩ => exact (h1 i).trans k1.symm

section Sums
variable {N L K h n m r c : ℕ}

/-- Two products of blocks of rows and columns add up to that block of the whole product … -/
theorem mul_two (hK : K = h + h) {a : Mat N K} {b : Mat K L} {x x' : Mat n h} {y y' : Mat h m} (hx : IsBlock a r 0 x) (hx' : IsBlock a r h x')
    (hy : IsBlock b 0 c y) (hy' : IsBlock b h c y') (i : (M n m).Idx) (j : (M N L).Idx) (h0 : (j 0).val = r + (i 0).val)
    (h1 : (j 1).val = c + (i 1).val) : mul n h m x y i + mul n h m x' y' i = mul N K L a b j := by
  subst hK
  refine Eq.trans ?_ (Fin.sum_univ_add (a := h) (b := h) _).symm
  refine congrArg₂ (· + ·) (Finset.sum_congr rfl fun d _ => ?_) (Finset.sum_congr rfl fun d _ => ?_)
  · exact congrArg₂ (· * ·) (hx _ _ h0 (Nat.zero_add _).symm) (hy _ _ (Nat.zero_add _).symm h1)
  · exact congrArg₂ (· * ·) (hx' _ _ h0 rfl) (hy' _ _ rfl h1)

/-- … and three. -/
theorem mul_three (hK : K = h + h + h) {a : Mat N K} {b : Mat K L} {x x' x'' : Mat n h} {y y' y'' : Mat h m} (hx : IsBlock a r 0 x)
    (hx' : IsBlock a r h x') (hx'' : IsBlock a r (h + h) x'') (hy : IsBlock b 0 c y) (hy' : IsBlock b h c y') (hy'' : IsBlock b (h + h) c y'')
    (i : (M n m).Idx) (j : (M N L).Idx) (h0 : (j 0).val = r + (i 0).val) (h1 : (j 1).val = c + (i 1).val) :
    mul n h m x y i + mul n h m x' y' i + mul n h m x'' y'' i = mul N K L a b j := by
  subst hK
  refine Eq.trans ?_ (Fin.sum_univ_add (a := h + h) (b := h) _).symm
  refine congrArg₂ (· + ·) (Eq.trans (congrArg₂ (· + ·) ?_ ?_) (Fin.sum_univ_add (a := h) (b := h) _).symm) ?_ <;>
  refine Finset.sum_congr rfl fun d _ => ?_
  · exact congrArg₂ (· * ·) (hx _ _ h0 (Nat.zero_add _).symm) (hy _ _ (Nat.zero_add _).symm h1)
  · exact congrArg₂ (· * ·) (hx' _ _ h0 rfl) (hy' _ _ rfl h1)
  · exact congrArg₂ (· * ·) (hx'' _ _ h0 rfl) (hy'' _ _ rfl h1)

end Sums

/-- A sum of three products, built up over three points of a grid and put out at the third: a block of rows of the whole product. -/
theorem threes {T : ℕ} {a : Mat 4096 3072} {b : Mat 3072 1024} (x y acc out : Fin T → Mat 1024 1024)
    (hx : ∀ t, IsBlock a (1024 * (t.val / 3)) (1024 * (t.val % 3)) (x t)) (hy : ∀ t, IsBlock b (1024 * (t.val % 3)) (1024 * 0) (y t))
    (first : ∀ t, t.val % 3 = 0 → acc t = mul 1024 1024 1024 (x t) (y t))
    (mid : ∀ t, t.val % 3 = 1 → ∀ (hp : t.val - 1 < T) (j), acc t j = acc ⟨t.val - 1, hp⟩ j + mul 1024 1024 1024 (x t) (y t) j)
    (last : ∀ t, t.val % 3 = 2 → ∀ (hp : t.val - 1 < T) (j), out t j = acc ⟨t.val - 1, hp⟩ j + mul 1024 1024 1024 (x t) (y t) j)
    (t : Fin T) (ht : t.val % 3 = 2) : IsBlock (mul 4096 3072 1024 a b) (1024 * (t.val / 3)) (1024 * 0) (out t) := by
  intro i j h0 h1
  have hp : t.val - 1 < T := by omega
  have hq : t.val - 1 - 1 < T := by omega
  have m1 : (t.val - 1) % 3 = 1 := by omega
  have m0 : (t.val - 1 - 1) % 3 = 0 := by omega
  have d1 : (t.val - 1) / 3 = t.val / 3 := by omega
  have d0 : (t.val - 1 - 1) / 3 = t.val / 3 := by omega
  have x0 := hx ⟨t.val - 1 - 1, hq⟩
  have x1 := hx ⟨t.val - 1, hp⟩
  have x2 := hx t
  have y0 := hy ⟨t.val - 1 - 1, hq⟩
  have y1 := hy ⟨t.val - 1, hp⟩
  have y2 := hy t
  simp only [m0, m1, d0, d1] at x0 x1 y0 y1
  rw [ht] at x2 y2
  rw [last t ht hp, mid ⟨t.val - 1, hp⟩ m1 hq, first ⟨t.val - 1 - 1, hq⟩ m0]
  exact mul_three rfl x0 x1 x2 y0 y1 y2 i j h0 h1

/-- The same with two points. -/
theorem twos {T : ℕ} {a : Mat 4096 2048} {b : Mat 2048 1024} (x y acc out : Fin T → Mat 1024 1024)
    (hx : ∀ t, IsBlock a (1024 * (t.val / 2)) (1024 * (t.val % 2)) (x t)) (hy : ∀ t, IsBlock b (1024 * (t.val % 2)) (1024 * 0) (y t))
    (first : ∀ t, t.val % 2 = 0 → acc t = mul 1024 1024 1024 (x t) (y t))
    (last : ∀ t, t.val % 2 = 1 → ∀ (hp : t.val - 1 < T) (j), out t j = acc ⟨t.val - 1, hp⟩ j + mul 1024 1024 1024 (x t) (y t) j)
    (t : Fin T) (ht : t.val % 2 = 1) : IsBlock (mul 4096 2048 1024 a b) (1024 * (t.val / 2)) (1024 * 0) (out t) := by
  intro i j h0 h1
  have hp : t.val - 1 < T := by omega
  have m0 : (t.val - 1) % 2 = 0 := by omega
  have d0 : (t.val - 1) / 2 = t.val / 2 := by omega
  have x0 := hx ⟨t.val - 1, hp⟩
  have x1 := hx t
  have y0 := hy ⟨t.val - 1, hp⟩
  have y1 := hy t
  simp only [m0, d0] at x0 y0
  rw [ht] at x1 y1
  rw [last t ht hp, first ⟨t.val - 1, hp⟩ m0]
  exact mul_two rfl x0 x1 y0 y1 i j h0 h1

/-- Two points over halves of the rows, for a product of columns with columns. -/
theorem columns {T n : ℕ} {a : Mat 4096 n} {b : Mat 4096 1024} (x y : Fin T → Mat 2048 1024) (acc out : Fin T → Mat 1024 1024)
    (hx : ∀ t, IsBlock a (2048 * (t.val % 2)) (1024 * (t.val / 2)) (x t)) (hy : ∀ t, IsBlock b (2048 * (t.val % 2)) (1024 * 0) (y t))
    (first : ∀ t, t.val % 2 = 0 → acc t = tmul 1024 2048 1024 (x t) (y t))
    (last : ∀ t, t.val % 2 = 1 → ∀ (hp : t.val - 1 < T) (j), out t j = acc ⟨t.val - 1, hp⟩ j + tmul 1024 2048 1024 (x t) (y t) j)
    (t : Fin T) (ht : t.val % 2 = 1) : IsBlock (tmul n 4096 1024 a b) (1024 * (t.val / 2)) (1024 * 0) (out t) := by
  intro i j h0 h1
  have hp : t.val - 1 < T := by omega
  have m0 : (t.val - 1) % 2 = 0 := by omega
  have d0 : (t.val - 1) / 2 = t.val / 2 := by omega
  have x0 := hx ⟨t.val - 1, hp⟩
  have x1 := hx t
  have y0 := hy ⟨t.val - 1, hp⟩
  have y1 := hy t
  simp only [m0, d0] at x0 y0
  rw [ht] at x1 y1
  rw [last t ht hp, first ⟨t.val - 1, hp⟩ m0]
  exact tmul_halves x0 x1 y0 y1 i j h0 h1

/-- A place of a matrix lies in the tile of 1024 × 1024 that its coordinates say. -/
theorem mem_block {n m k0 k1 : ℕ} (i : (M n m).Idx) (h0 : (i 0).val / 1024 = k0) (h1 : (i 1).val / 1024 = k1) (a : Fin 2) :
    (![k0, k1] : Fin 2 → ℕ) a * 1024 ≤ (i a).val ∧ (i a).val < (![k0, k1] : Fin 2 → ℕ) a * 1024 + 1024 := by
  match a with
  | ⟨0, _⟩ =>
    show k0 * 1024 ≤ (i 0).val ∧ (i 0).val < k0 * 1024 + 1024
    omega
  | ⟨1, _⟩ =>
    show k1 * 1024 ≤ (i 1).val ∧ (i 1).val < k1 * 1024 + 1024
    omega

/-- A matrix with its `k` rows from row `o` replaced by those of `g`. -/
def putRows (o k : ℕ) {K m : ℕ} (b : Mat K m) (g : Mat k m) : Mat K m :=
  fun i => if h : o ≤ (i 0).val ∧ (i 0).val < o + k then g (ValueIdx.ix2 ⟨(i 0).val - o, by omega⟩ (i 1)) else b i

theorem putRows_of_mem {o k K m : ℕ} (b : Mat K m) (g : Mat k m) (i : (M K m).Idx) (j : (M k m).Idx) (h0 : (i 0).val = o + (j 0).val)
    (h1 : (i 1).val = (j 1).val) : putRows o k b g i = g j := by
  have hj : (j 0).val < k := (j 0).isLt
  unfold putRows
  rw [dif_pos (show o ≤ (i 0).val ∧ (i 0).val < o + k by omega)]
  refine congrArg g (funext fun a => Fin.ext ?_)
  match a with
  | ⟨0, _⟩ => exact (congrArg (· - o) h0).trans (Nat.add_sub_cancel_left o _)
  | ⟨1, _⟩ => exact h1

theorem putRows_of_not_mem {o k K m : ℕ} (b : Mat K m) (g : Mat k m) (i : (M K m).Idx) (h : ¬(o ≤ (i 0).val ∧ (i 0).val < o + k)) :
    putRows o k b g i = b i := dif_neg h

/-- Pieces put one under another, read in the `n`-th of them. -/
theorem join_apply {K m k : ℕ} (xs : List ((s : Shape) × (s.Idx → EReal))) (h : Shape.Concatenates (xs.map (·.1)) (M K m) 0) (n : ℕ)
    (hn : n < xs.length) (x : Mat k m) (hx : xs[n] = ⟨M k m, x⟩) (o : ℕ)
    (ho : (((xs.take n).map (·.1)).map fun s => if h : s.rank = (M K m).rank then s.size ((0 : Fin (M K m).rank).cast h.symm) else 0).sum = o)
    (i : (M k m).Idx) (j : (M K m).Idx) (h0 : (j 0).val = o + (i 0).val) (h1 : (j 1).val = (i 1).val) : concatenate (M K m) 0 xs h j = x i := by
  refine concatenate_apply_piece (0 : Fin (M K m).rank) xs h j n hn (M k m) x hx rfl o ho i (fun a ha => ?_) h0.symm
  match a with
  | ⟨0, _⟩ => exact absurd rfl ha
  | ⟨1, _⟩ => exact h1.symm

section Join
variable {K m o k l : ℕ} {b : Mat K m} {g : Mat k m} {x : Mat o m} {y : Mat l m}

/-- A matrix put together again of its upper rows, new ones and its lower rows … -/
theorem join_middle (h : Shape.Concatenates [M o m, M k m, M l m] (M K m) 0) (hK : K = o + (k + l)) (hx : IsBlock b 0 0 x) (hy : IsBlock b (o + k) 0 y) :
    concatenate (M K m) 0 [⟨M o m, x⟩, ⟨M k m, g⟩, ⟨M l m, y⟩] h = putRows o k b g := by
  funext j
  have hj : (j 0).val < K := (j 0).isLt
  by_cases h1 : (j 0).val < o
  · rw [putRows_of_not_mem b g j (by omega)]
    exact (join_apply [⟨M o m, x⟩, ⟨M k m, g⟩, ⟨M l m, y⟩] h 0 (Nat.lt_of_sub_eq_succ (n := 0) (m := 3) rfl) x rfl 0 rfl (ValueIdx.ix2 ⟨(j 0).val, h1⟩ (j 1)) j (Nat.zero_add _).symm rfl).trans
      (hx _ _ (Nat.zero_add _).symm (Nat.zero_add _).symm)
  · by_cases h2 : (j 0).val < o + k
    · have e : (j 0).val = o + ((j 0).val - o) := by omega
      rw [putRows_of_mem b g j (ValueIdx.ix2 ⟨(j 0).val - o, by omega⟩ (j 1)) e rfl]
      exact join_apply [⟨M o m, x⟩, ⟨M k m, g⟩, ⟨M l m, y⟩] h 1 (Nat.lt_of_sub_eq_succ (n := 1) (m := 3) rfl) g rfl o rfl _ j e rfl
    · have e : (j 0).val = o + k + ((j 0).val - (o + k)) := by omega
      rw [putRows_of_not_mem b g j (by omega)]
      exact (join_apply [⟨M o m, x⟩, ⟨M k m, g⟩, ⟨M l m, y⟩] h 2 (Nat.lt_of_sub_eq_succ (n := 2) (m := 3) rfl) y rfl (o + k) rfl (ValueIdx.ix2 ⟨(j 0).val - (o + k), by omega⟩ (j 1)) j e rfl).trans
        (hy _ _ e (Nat.zero_add _).symm)

/-- … of its upper rows and new ones … -/
theorem join_below (h : Shape.Concatenates [M o m, M k m] (M K m) 0) (hK : K = o + k) (hx : IsBlock b 0 0 x) :
    concatenate (M K m) 0 [⟨M o m, x⟩, ⟨M k m, g⟩] h = putRows o k b g := by
  funext j
  have hj : (j 0).val < K := (j 0).isLt
  by_cases h1 : (j 0).val < o
  · rw [putRows_of_not_mem b g j (by omega)]
    exact (join_apply [⟨M o m, x⟩, ⟨M k m, g⟩] h 0 (Nat.lt_of_sub_eq_succ (n := 0) (m := 2) rfl) x rfl 0 rfl (ValueIdx.ix2 ⟨(j 0).val, h1⟩ (j 1)) j (Nat.zero_add _).symm rfl).trans
      (hx _ _ (Nat.zero_add _).symm (Nat.zero_add _).symm)
  · have e : (j 0).val = o + ((j 0).val - o) := by omega
    rw [putRows_of_mem b g j (ValueIdx.ix2 ⟨(j 0).val - o, by omega⟩ (j 1)) e rfl]
    exact join_apply [⟨M o m, x⟩, ⟨M k m, g⟩] h 1 (Nat.lt_of_sub_eq_succ (n := 1) (m := 2) rfl) g rfl o rfl _ j e rfl

/-- … or of new ones and its lower rows. -/
theorem join_above (h : Shape.Concatenates [M k m, M l m] (M K m) 0) (hK : K = k + l) (hy : IsBlock b k 0 y) :
    concatenate (M K m) 0 [⟨M k m, g⟩, ⟨M l m, y⟩] h = putRows 0 k b g := by
  funext j
  have hj : (j 0).val < K := (j 0).isLt
  by_cases h1 : (j 0).val < k
  · rw [putRows_of_mem b g j (ValueIdx.ix2 ⟨(j 0).val, h1⟩ (j 1)) (Nat.zero_add _).symm rfl]
    exact join_apply [⟨M k m, g⟩, ⟨M l m, y⟩] h 0 (Nat.lt_of_sub_eq_succ (n := 0) (m := 2) rfl) g rfl 0 rfl _ j (Nat.zero_add _).symm rfl
  · have e : (j 0).val = k + ((j 0).val - k) := by omega
    rw [putRows_of_not_mem b g j (by omega)]
    exact (join_apply [⟨M k m, g⟩, ⟨M l m, y⟩] h 1 (Nat.lt_of_sub_eq_succ (n := 1) (m := 2) rfl) y rfl k rfl (ValueIdx.ix2 ⟨(j 0).val - k, by omega⟩ (j 1)) j e rfl).trans
      (hy _ _ e (Nat.zero_add _).symm)

end Join

end Cert.Products
-- ==== Proof.InXQkv.lean ====
module

public import proofs.«01_k».proof.Defs
public import proofs.«01_k».proof.Proof.Segment
public import proofs.«01_k».proof.Proof.Gen.InXQkvIdeal
public import proofs.«01_k».proof.Proof.Gen.InXQkvIdeal.Frame
public import proofs.«01_k».proof.Proof.Gen.InXQkvIdeal.Value
public import proofs.«01_k».proof.Proof.Gen.InXQkvReferenceIdeal
public import proofs.«01_k».proof.Proof.Gen.InXQkvReferenceIdeal.Run
public import proofs.«01_k».proof.Proof.Gen.InXQkvReferenceIdeal.Read

@[expose] public section

set_option maxRecDepth 16384

noncomputable section

/-! The input projection: the input gradient that comes through queries, keys and values. -/

namespace Cert.Products.InXQkv

open Cert.InXQkvIdeal Cert.InXQkvIdeal.Gen
open Idealize.ShloMosaic Idealize.ShloMosaic.TcCoe
open Idealize.ShloMosaic.Pipeline (Window)

/-- The segment's rows of the weight. -/
def rows (w : Mat 12320 1024) : Mat 3072 1024 := cutRows 0 3072 (by omega) w

/-- Which block of each array a point of the grid holds. -/
theorem idx_val : ∀ t : Fin cfg0.N, win0_0.index t = ![t.val / 3, t.val % 3] ∧ win0_1.index t = ![0 + t.val % 3, 0] ∧ win0_2.index t = ![t.val / 3, 0] :=
  (by decide +kernel : ∀ t : Fin grid0.N, _)

section Point
variable (c : Dev nD) (i : grid0.Coords) (a : Memref sig .tc .vmem S1024x1024 .bf16) (ha : a.IsWhole) (b : Memref sig .tc .vmem S1024x1024 .bf16) (hb : b.IsWhole)
  (o : Memref sig .tc .vmem S1024x1024 .f32) (ho : o.IsWhole) (s : Memref sig .tc .vmem S1024x1024 .f32) (hs : s.IsWhole)
  (x y : Vec Ideal S1024x1024 .bf16) (acc : Vec Ideal S1024x1024 .f32) (j : S1024x1024.Idx)

/-- The first product is put by … -/
theorem first (h0 : cond0_0 i) (h1 : ¬cond0_1 i) (h2 : ¬cond0_2 i) : sout0_A_0 c i a ha b hb o ho s hs h0 h1 h2 x y = mul 1024 1024 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S1024x1024) hz, shapeCast_self]
  exact plain_eq 1024 1024 1024 none x y

/-- … the second is added to it … -/
theorem mid (h0 : ¬cond0_0 i) (h1 : cond0_1 i) (h2 : ¬cond0_2 i) :
    sout0_B_0 c i a ha b hb o ho s hs h0 h1 h2 x y acc j = (acc j : EReal) + mul 1024 1024 1024 x y j := by
  unfold sout0_B_0
  rw [View.read_writes_eq_canon _ _ _ (scover0_B_0 c i a ha b hb o ho s hs h0 h1 h2 x y acc)]
  unfold kernelRun0_B
  dsimp only
  rw [View.canon_unit_zero hz]
  unfold k0_pay3 k0_pay1
  simp only [View.readAt_eq_ld, ha.read_unread, hb.read_unread, hs.read_unread, View.ld_unit_zero (S := S1024x1024) hz, shapeCast_self]
  exact congrArg (fun p : Mat 1024 1024 => (acc j : EReal) + p j) (plain_eq 1024 1024 1024 none x y)

/-- … and with the third the sum is put out. -/
theorem last (h0 : ¬cond0_0 i) (h1 : ¬cond0_1 i) (h2 : cond0_2 i) :
    out0_C_2 c i a ha b hb o ho s hs h0 h1 h2 x y acc j = (acc j : EReal) + mul 1024 1024 1024 x y j := by
  unfold out0_C_2
  rw [View.read_writes_eq_canon _ _ _ (cover0_C_2 c i a ha b hb o ho s hs h0 h1 h2 x y acc)]
  unfold kernelRun0_C
  dsimp only
  rw [View.canon_unit_zero hz]
  unfold k0_pay4 k0_pay1
  simp only [View.readAt_eq_ld, ha.read_unread, hb.read_unread, hs.read_unread, View.ld_unit_zero (S := S1024x1024) hz, shapeCast_self]
  exact congrArg (fun p : Mat 1024 1024 => (acc j : EReal) + p j) (plain_eq 1024 1024 1024 none x y)

end Point

section
variable (m : (ℓ : Loc nD τ sig) → Buf (Elt Ideal) ℓ) (c : Dev nD)

theorem blk0 (t : Fin cfg0.N) : IsBlock (V m c main_arg0 : Mat 4096 3072) (1024 * (t.val / 3)) (1024 * (t.val % 3)) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 3)) (1024 * 0) (X0_1 m c t : Mat 1024 1024) := by
  have h : IsBlock (V m c main_arg1 : Mat 12320 1024) (1024 * (0 + t.val % 3)) (1024 * 0) (X0_1 m c t : Mat 1024 1024) :=
    isBlock_of (fun j => (win0_1.rect t).emb fun a => ⟨(j a).val, (win0_1.moved_iff _ j).mp (moved0_1 t j) a⟩) (fun j => dif_pos (moved0_1 t j))
      (fun j => (Window.rect_emb_val win0_1 t _ 0).trans (congrArg (· + (j 0).val) (congrArg (· * 1024) (congrFun (idx_val t).2.1 0))))
      (fun j => (Window.rect_emb_val win0_1 t _ 1).trans (congrArg (· + (j 1).val) (congrArg (· * 1024) (congrFun (idx_val t).2.1 1))))
  rw [Nat.mul_add] at h
  exact isBlock_cutRows _ h

/-- What a point that writes back puts out: a block of rows of the product. -/
theorem out (t : Fin cfg0.N) (ht : t.val % 3 = 2) :
    IsBlock (mul 4096 3072 1024 (V m c main_arg0) (rows (V m c main_arg1))) (1024 * (t.val / 3)) (1024 * 0) ((outsAt0 m c t.val t.isLt).1 : Mat 1024 1024) := by
  refine threes (T := cfg0.N) (fun t => iblk m c 0 t) (fun t => X0_1 m c t) (fun t => (outsAt0 m c t.val t.isLt).2) (fun t => (outsAt0 m c t.val t.isLt).1)
    (blk0 m c) (blk1 m c) ?_ ?_ ?_ t ht
  · intro u hu
    rw [outsAt0_A m c u hu (by omega) (by omega)]
    dsimp only
    rw [first]
  · intro u hu hp j
    rw [outsAt0_B m c u (by omega) hu (by omega)]
    dsimp only
    rw [mid]
  · intro u hu hp j
    rw [outsAt0_C m c u (by omega) (by omega) hu]
    dsimp only
    rw [last]

/-- The array after the run. -/
theorem final : (dats m 0 c).arrAt 2 cfg0.N = (mul 4096 3072 1024 (V m c main_arg0) (rows (V m c main_arg1)) : Mat 4096 1024) := by
  refine (dats m 0 c).arrAt_eq_of_cover 2 _ (fun t hf => ?_) fun i => (Value.covered_iff2 i).2 ⟨Nat.zero_le _, (i 0).isLt, Nat.zero_le _, (i 1).isLt⟩
  refine (Value.flushed2 m c t).trans (funext fun y => ?_)
  refine out m c t ((flush0_2 t).mp hf) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.InXQkvReferenceIdeal.Read in
/-- The reference's product. -/
theorem ref_eq (d : Mat 4096 3072) (w : Mat 12320 1024) : val_main_v6 (F := Ideal) d w = mul 4096 3072 1024 d (rows w) := by
  funext i
  refine (val_main_v6_apply d w i).trans (Finset.sum_congr rfl fun k _ => ?_)
  rw [val_main_v2_apply (F := Ideal), val_main_v3_apply (F := Ideal), val_main_v1_apply (F := Ideal), val_main_v0_apply (F := Ideal)]
  refine congrArg₂ (fun p q : EReal => p * q) (congrArg d ?_) (congrArg w ?_) <;>
  · funext r
    apply Fin.ext
    match r with
    | ⟨0, _⟩ => simp [ValueIdx.ix2]
    | ⟨1, _⟩ => rfl

/-- The kernel's result is the reference's. -/
theorem values : Cert.algebraic_InXQkvIdeal_InXQkvReferenceIdeal := by
  intro m ρ m' ρ' _ hm
  refine ⟨fun c => mul 4096 3072 1024 (V m c main_arg0) (rows (V m c main_arg1)), ?_, ?_⟩
  · exact (θ_run defs _ _).mono (fun r h c => ⟨(h c).1.trans (final m c), (h c).2⟩) (Value.run_blocks m ρ)
  · refine (θ_run Cert.InXQkvReferenceIdeal.defs _ _).mono (fun r h c => ⟨(h c).1.trans ?_, (h c).2⟩) (Cert.InXQkvReferenceIdeal.Value.run m' ρ')
    refine (Cert.InXQkvReferenceIdeal.Read.val_main_v6_eq (F := Ideal) _ _).trans ((ref_eq _ _).trans ?_)
    exact congrArg₂ (fun p q => mul 4096 3072 1024 p (rows q)) (hm c).1 (hm c).2

theorem frame_ref : Cert.quiescent_InXQkvReferenceIdeal := fun m ρ _ =>
  (θ_run Cert.InXQkvReferenceIdeal.defs _ _).mono (fun r h => ⟨fun c => (h c).2, sem_eq_zero_of_no_sems (by decide) r.2⟩) (Cert.InXQkvReferenceIdeal.Value.run m ρ)

end Cert.Products.InXQkv
-- ==== Proof.InXZ.lean ====
module

public import proofs.«01_k».proof.Defs
public import proofs.«01_k».proof.Proof.Segment
public import proofs.«01_k».proof.Proof.Gen.InXZIdeal
public import proofs.«01_k».proof.Proof.Gen.InXZIdeal.Frame
public import proofs.«01_k».proof.Proof.Gen.InXZIdeal.Value
public import proofs.«01_k».proof.Proof.Gen.InXZReferenceIdeal
public import proofs.«01_k».proof.Proof.Gen.InXZReferenceIdeal.Run
public import proofs.«01_k».proof.Proof.Gen.InXZReferenceIdeal.Read

@[expose] public section

set_option maxRecDepth 16384

noncomputable section

/-! The input projection: the input gradient that comes through the state-space layer's gate. -/

namespace Cert.Products.InXZ

open Cert.InXZIdeal Cert.InXZIdeal.Gen
open Idealize.ShloMosaic Idealize.ShloMosaic.TcCoe
open Idealize.ShloMosaic.Pipeline (Window)

/-- The segment's rows of the weight. -/
def rows (w : Mat 12320 1024) : Mat 2048 1024 := cutRows 3072 2048 (by omega) w

/-- Which block of each array a point of the grid holds. -/
theorem idx_val : ∀ t : Fin cfg0.N, win0_0.index t = ![t.val / 2, t.val % 2] ∧ win0_1.index t = ![3 + t.val % 2, 0] ∧ win0_2.index t = ![t.val / 2, 0] :=
  (by decide +kernel : ∀ t : Fin grid0.N, _)

section Point
variable (c : Dev nD) (i : grid0.Coords) (a : Memref sig .tc .vmem S1024x1024 .bf16) (ha : a.IsWhole) (b : Memref sig .tc .vmem S1024x1024 .bf16) (hb : b.IsWhole)
  (o : Memref sig .tc .vmem S1024x1024 .f32) (ho : o.IsWhole) (s : Memref sig .tc .vmem S1024x1024 .f32) (hs : s.IsWhole)
  (x y : Vec Ideal S1024x1024 .bf16) (acc : Vec Ideal S1024x1024 .f32) (j : S1024x1024.Idx)

/-- The first product is put by … -/
theorem first (h0 : cond0_0 i) (h1 : ¬cond0_1 i) (h2 : ¬cond0_2 i) : sout0_A_0 c i a ha b hb o ho s hs h0 h1 h2 x y = mul 1024 1024 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S1024x1024) hz, shapeCast_self]
  exact plain_eq 1024 1024 1024 none x y

/-- … and with the second the sum is put out. -/
theorem last (h0 : ¬cond0_0 i) (h1 : ¬cond0_1 i) (h2 : cond0_2 i) :
    out0_B_2 c i a ha b hb o ho s hs h0 h1 h2 x y acc j = (acc j : EReal) + mul 1024 1024 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S1024x1024) hz, shapeCast_self]
  exact congrArg (fun p : Mat 1024 1024 => (acc j : EReal) + p j) (plain_eq 1024 1024 1024 none x y)

end Point

section
variable (m : (ℓ : Loc nD τ sig) → Buf (Elt Ideal) ℓ) (c : Dev nD)

theorem blk0 (t : Fin cfg0.N) : IsBlock (V m c main_arg0 : Mat 4096 2048) (1024 * (t.val / 2)) (1024 * (t.val % 2)) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 2)) (1024 * 0) (X0_1 m c t : Mat 1024 1024) := by
  have h : IsBlock (V m c main_arg1 : Mat 12320 1024) (1024 * (3 + t.val % 2)) (1024 * 0) (X0_1 m c t : Mat 1024 1024) :=
    isBlock_of (fun j => (win0_1.rect t).emb fun a => ⟨(j a).val, (win0_1.moved_iff _ j).mp (moved0_1 t j) a⟩) (fun j => dif_pos (moved0_1 t j))
      (fun j => (Window.rect_emb_val win0_1 t _ 0).trans (congrArg (· + (j 0).val) (congrArg (· * 1024) (congrFun (idx_val t).2.1 0))))
      (fun j => (Window.rect_emb_val win0_1 t _ 1).trans (congrArg (· + (j 1).val) (congrArg (· * 1024) (congrFun (idx_val t).2.1 1))))
  rw [Nat.mul_add] at h
  exact isBlock_cutRows _ h

/-- What a point that writes back puts out: a block of rows of the product. -/
theorem out (t : Fin cfg0.N) (ht : t.val % 2 = 1) :
    IsBlock (mul 4096 2048 1024 (V m c main_arg0) (rows (V m c main_arg1))) (1024 * (t.val / 2)) (1024 * 0) ((outsAt0 m c t.val t.isLt).1 : Mat 1024 1024) := by
  refine twos (T := cfg0.N) (fun t => iblk m c 0 t) (fun t => X0_1 m c t) (fun t => (outsAt0 m c t.val t.isLt).2) (fun t => (outsAt0 m c t.val t.isLt).1)
    (blk0 m c) (blk1 m c) ?_ ?_ t ht
  · intro u hu
    rw [outsAt0_A m c u hu (by omega)]
    dsimp only
    rw [first]
  · intro u hu hp j
    rw [outsAt0_B m c u (by omega) hu]
    dsimp only
    rw [last]

/-- The array after the run. -/
theorem final : (dats m 0 c).arrAt 2 cfg0.N = (mul 4096 2048 1024 (V m c main_arg0) (rows (V m c main_arg1)) : Mat 4096 1024) := by
  refine (dats m 0 c).arrAt_eq_of_cover 2 _ (fun t hf => ?_) fun i => (Value.covered_iff2 i).2 ⟨Nat.zero_le _, (i 0).isLt, Nat.zero_le _, (i 1).isLt⟩
  refine (Value.flushed2 m c t).trans (funext fun y => ?_)
  refine out m c t ((flush0_2 t).mp hf) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.InXZReferenceIdeal.Read in
/-- The reference's product. -/
theorem ref_eq (d : Mat 4096 2048) (w : Mat 12320 1024) : val_main_v6 (F := Ideal) d w = mul 4096 2048 1024 d (rows w) := by
  funext i
  refine (val_main_v6_apply d w i).trans (Finset.sum_congr rfl fun k _ => ?_)
  rw [val_main_v2_apply (F := Ideal), val_main_v3_apply (F := Ideal), val_main_v1_apply (F := Ideal), val_main_v0_apply (F := Ideal)]
  refine congrArg₂ (fun p q : EReal => p * q) (congrArg d ?_) (congrArg w ?_) <;>
  · funext r
    apply Fin.ext
    match r with
    | ⟨0, _⟩ => simp [ValueIdx.ix2]
    | ⟨1, _⟩ => rfl

/-- The kernel's result is the reference's. -/
theorem values : Cert.algebraic_InXZIdeal_InXZReferenceIdeal := by
  intro m ρ m' ρ' _ hm
  refine ⟨fun c => mul 4096 2048 1024 (V m c main_arg0) (rows (V m c main_arg1)), ?_, ?_⟩
  · exact (θ_run defs _ _).mono (fun r h c => ⟨(h c).1.trans (final m c), (h c).2⟩) (Value.run_blocks m ρ)
  · refine (θ_run Cert.InXZReferenceIdeal.defs _ _).mono (fun r h c => ⟨(h c).1.trans ?_, (h c).2⟩) (Cert.InXZReferenceIdeal.Value.run m' ρ')
    refine (Cert.InXZReferenceIdeal.Read.val_main_v6_eq (F := Ideal) _ _).trans ((ref_eq _ _).trans ?_)
    exact congrArg₂ (fun p q => mul 4096 2048 1024 p (rows q)) (hm c).1 (hm c).2

theorem frame_ref : Cert.quiescent_InXZReferenceIdeal := fun m ρ _ =>
  (θ_run Cert.InXZReferenceIdeal.defs _ _).mono (fun r h => ⟨fun c => (h c).2, sem_eq_zero_of_no_sems (by decide) r.2⟩) (Cert.InXZReferenceIdeal.Value.run m ρ)

end Cert.Products.InXZ
-- ==== Proof.InXXbc.lean ====
module

public import proofs.«01_k».proof.Defs
public import proofs.«01_k».proof.Proof.Segment
public import proofs.«01_k».proof.Proof.Gen.InXXbcIdeal
public import proofs.«01_k».proof.Proof.Gen.InXXbcIdeal.Frame
public import proofs.«01_k».proof.Proof.Gen.InXXbcIdeal.Value
public import proofs.«01_k».proof.Proof.Gen.InXXbcReferenceIdeal
public import proofs.«01_k».proof.Proof.Gen.InXXbcReferenceIdeal.Run
public import proofs.«01_k».proof.Proof.Gen.InXXbcReferenceIdeal.Read

@[expose] public section

set_option maxRecDepth 16384

noncomputable section

/-! The input projection: the input gradient that comes through the convolved inputs. -/

namespace Cert.Products.InXXbc

open Cert.InXXbcIdeal Cert.InXXbcIdeal.Gen
open Idealize.ShloMosaic Idealize.ShloMosaic.TcCoe
open Idealize.ShloMosaic.Pipeline (Window)

/-- The segment's rows of the weight. -/
def rows (w : Mat 12320 1024) : Mat 3072 1024 := cutRows 5120 3072 (by omega) w

/-- Which block of each array a point of the grid holds. -/
theorem idx_val : ∀ t : Fin cfg0.N, win0_0.index t = ![t.val / 3, t.val % 3] ∧ win0_1.index t = ![5 + t.val % 3, 0] ∧ win0_2.index t = ![t.val / 3, 0] :=
  (by decide +kernel : ∀ t : Fin grid0.N, _)

section Point
variable (c : Dev nD) (i : grid0.Coords) (a : Memref sig .tc .vmem S1024x1024 .bf16) (ha : a.IsWhole) (b : Memref sig .tc .vmem S1024x1024 .bf16) (hb : b.IsWhole)
  (o : Memref sig .tc .vmem S1024x1024 .f32) (ho : o.IsWhole) (s : Memref sig .tc .vmem S1024x1024 .f32) (hs : s.IsWhole)
  (x y : Vec Ideal S1024x1024 .bf16) (acc : Vec Ideal S1024x1024 .f32) (j : S1024x1024.Idx)

/-- The first product is put by … -/
theorem first (h0 : cond0_0 i) (h1 : ¬cond0_1 i) (h2 : ¬cond0_2 i) : sout0_A_0 c i a ha b hb o ho s hs h0 h1 h2 x y = mul 1024 1024 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S1024x1024) hz, shapeCast_self]
  exact plain_eq 1024 1024 1024 none x y

/-- … the second is added to it … -/
theorem mid (h0 : ¬cond0_0 i) (h1 : cond0_1 i) (h2 : ¬cond0_2 i) :
    sout0_B_0 c i a ha b hb o ho s hs h0 h1 h2 x y acc j = (acc j : EReal) + mul 1024 1024 1024 x y j := by
  unfold sout0_B_0
  rw [View.read_writes_eq_canon _ _ _ (scover0_B_0 c i a ha b hb o ho s hs h0 h1 h2 x y acc)]
  unfold kernelRun0_B
  dsimp only
  rw [View.canon_unit_zero hz]
  unfold k0_pay3 k0_pay1
  simp only [View.readAt_eq_ld, ha.read_unread, hb.read_unread, hs.read_unread, View.ld_unit_zero (S := S1024x1024) hz, shapeCast_self]
  exact congrArg (fun p : Mat 1024 1024 => (acc j : EReal) + p j) (plain_eq 1024 1024 1024 none x y)

/-- … and with the third the sum is put out. -/
theorem last (h0 : ¬cond0_0 i) (h1 : ¬cond0_1 i) (h2 : cond0_2 i) :
    out0_C_2 c i a ha b hb o ho s hs h0 h1 h2 x y acc j = (acc j : EReal) + mul 1024 1024 1024 x y j := by
  unfold out0_C_2
  rw [View.read_writes_eq_canon _ _ _ (cover0_C_2 c i a ha b hb o ho s hs h0 h1 h2 x y acc)]
  unfold kernelRun0_C
  dsimp only
  rw [View.canon_unit_zero hz]
  unfold k0_pay4 k0_pay1
  simp only [View.readAt_eq_ld, ha.read_unread, hb.read_unread, hs.read_unread, View.ld_unit_zero (S := S1024x1024) hz, shapeCast_self]
  exact congrArg (fun p : Mat 1024 1024 => (acc j : EReal) + p j) (plain_eq 1024 1024 1024 none x y)

end Point

section
variable (m : (ℓ : Loc nD τ sig) → Buf (Elt Ideal) ℓ) (c : Dev nD)

theorem blk0 (t : Fin cfg0.N) : IsBlock (V m c main_arg0 : Mat 4096 3072) (1024 * (t.val / 3)) (1024 * (t.val % 3)) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 3)) (1024 * 0) (X0_1 m c t : Mat 1024 1024) := by
  have h : IsBlock (V m c main_arg1 : Mat 12320 1024) (1024 * (5 + t.val % 3)) (1024 * 0) (X0_1 m c t : Mat 1024 1024) :=
    isBlock_of (fun j => (win0_1.rect t).emb fun a => ⟨(j a).val, (win0_1.moved_iff _ j).mp (moved0_1 t j) a⟩) (fun j => dif_pos (moved0_1 t j))
      (fun j => (Window.rect_emb_val win0_1 t _ 0).trans (congrArg (· + (j 0).val) (congrArg (· * 1024) (congrFun (idx_val t).2.1 0))))
      (fun j => (Window.rect_emb_val win0_1 t _ 1).trans (congrArg (· + (j 1).val) (congrArg (· * 1024) (congrFun (idx_val t).2.1 1))))
  rw [Nat.mul_add] at h
  exact isBlock_cutRows _ h

/-- What a point that writes back puts out: a block of rows of the product. -/
theorem out (t : Fin cfg0.N) (ht : t.val % 3 = 2) :
    IsBlock (mul 4096 3072 1024 (V m c main_arg0) (rows (V m c main_arg1))) (1024 * (t.val / 3)) (1024 * 0) ((outsAt0 m c t.val t.isLt).1 : Mat 1024 1024) := by
  refine threes (T := cfg0.N) (fun t => iblk m c 0 t) (fun t => X0_1 m c t) (fun t => (outsAt0 m c t.val t.isLt).2) (fun t => (outsAt0 m c t.val t.isLt).1)
    (blk0 m c) (blk1 m c) ?_ ?_ ?_ t ht
  · intro u hu
    rw [outsAt0_A m c u hu (by omega) (by omega)]
    dsimp only
    rw [first]
  · intro u hu hp j
    rw [outsAt0_B m c u (by omega) hu (by omega)]
    dsimp only
    rw [mid]
  · intro u hu hp j
    rw [outsAt0_C m c u (by omega) (by omega) hu]
    dsimp only
    rw [last]

/-- The array after the run. -/
theorem final : (dats m 0 c).arrAt 2 cfg0.N = (mul 4096 3072 1024 (V m c main_arg0) (rows (V m c main_arg1)) : Mat 4096 1024) := by
  refine (dats m 0 c).arrAt_eq_of_cover 2 _ (fun t hf => ?_) fun i => (Value.covered_iff2 i).2 ⟨Nat.zero_le _, (i 0).isLt, Nat.zero_le _, (i 1).isLt⟩
  refine (Value.flushed2 m c t).trans (funext fun y => ?_)
  refine out m c t ((flush0_2 t).mp hf) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.InXXbcReferenceIdeal.Read in
/-- The reference's product. -/
theorem ref_eq (d : Mat 4096 3072) (w : Mat 12320 1024) : val_main_v6 (F := Ideal) d w = mul 4096 3072 1024 d (rows w) := by
  funext i
  refine (val_main_v6_apply d w i).trans (Finset.sum_congr rfl fun k _ => ?_)
  rw [val_main_v2_apply (F := Ideal), val_main_v3_apply (F := Ideal), val_main_v1_apply (F := Ideal), val_main_v0_apply (F := Ideal)]
  refine congrArg₂ (fun p q : EReal => p * q) (congrArg d ?_) (congrArg w ?_) <;>
  · funext r
    apply Fin.ext
    match r with
    | ⟨0, _⟩ => simp [ValueIdx.ix2]
    | ⟨1, _⟩ => rfl

/-- The kernel's result is the reference's. -/
theorem values : Cert.algebraic_InXXbcIdeal_InXXbcReferenceIdeal := by
  intro m ρ m' ρ' _ hm
  refine ⟨fun c => mul 4096 3072 1024 (V m c main_arg0) (rows (V m c main_arg1)), ?_, ?_⟩
  · exact (θ_run defs _ _).mono (fun r h c => ⟨(h c).1.trans (final m c), (h c).2⟩) (Value.run_blocks m ρ)
  · refine (θ_run Cert.InXXbcReferenceIdeal.defs _ _).mono (fun r h c => ⟨(h c).1.trans ?_, (h c).2⟩) (Cert.InXXbcReferenceIdeal.Value.run m' ρ')
    refine (Cert.InXXbcReferenceIdeal.Read.val_main_v6_eq (F := Ideal) _ _).trans ((ref_eq _ _).trans ?_)
    exact congrArg₂ (fun p q => mul 4096 3072 1024 p (rows q)) (hm c).1 (hm c).2

theorem frame_ref : Cert.quiescent_InXXbcReferenceIdeal := fun m ρ _ =>
  (θ_run Cert.InXXbcReferenceIdeal.defs _ _).mono (fun r h => ⟨fun c => (h c).2, sem_eq_zero_of_no_sems (by decide) r.2⟩) (Cert.InXXbcReferenceIdeal.Value.run m ρ)

end Cert.Products.InXXbc
-- ==== Proof.InXMq.lean ====
module

public import proofs.«01_k».proof.Defs
public import proofs.«01_k».proof.Proof.Segment
public import proofs.«01_k».proof.Proof.Gen.InXMqIdeal
public import proofs.«01_k».proof.Proof.Gen.InXMqIdeal.Frame
public import proofs.«01_k».proof.Proof.Gen.InXMqIdeal.Value
public import proofs.«01_k».proof.Proof.Gen.InXMqReferenceIdeal
public import proofs.«01_k».proof.Proof.Gen.InXMqReferenceIdeal.Run
public import proofs.«01_k».proof.Proof.Gen.InXMqReferenceIdeal.Read

@[expose] public section

set_option maxRecDepth 16384

noncomputable section

/-! The input projection: the input gradient that comes through the memory queries. -/

namespace Cert.Products.InXMq

open Cert.InXMqIdeal Cert.InXMqIdeal.Gen
open Idealize.ShloMosaic Idealize.ShloMosaic.TcCoe
open Idealize.ShloMosaic.Pipeline (Window)

/-- The segment's rows of the weight. -/
def rows (w : Mat 4096 1024) : Mat 1024 1024 := cutRows 0 1024 (by omega) w

/-- Which block of each array a point of the grid holds. -/
theorem idx_val : ∀ t : Fin cfg0.N, win0_0.index t = ![t.val, 0] ∧ win0_1.index t = ![0, 0] ∧ win0_2.index t = ![t.val, 0] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .f32) (ho : o.IsWhole) (s : Memref sig .tc .vmem S8x128 .f32) (hs : s.IsWhole) (x y : Vec Ideal S1024x1024 .bf16) :
    out0_A_2 c i a ha b hb o ho s hs x y = mul 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact plain_eq 1024 1024 1024 none x y

section
variable (m : (ℓ : Loc nD τ sig) → Buf (Elt Ideal) ℓ) (c : Dev nD)

theorem blk0 (t : Fin cfg0.N) : IsBlock (V m c main_arg0 : Mat 4096 1024) (1024 * t.val) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * 0) (1024 * 0) (iblk m c 1 t : Mat 1024 1024) := by
  have h : IsBlock (V m c main_arg1 : Mat 4096 1024) (1024 * 0) (1024 * 0) (iblk m c 1 t : Mat 1024 1024) :=
    isBlock_of _ (fun _ => rfl) (fun j => (Window.rect_emb_val win0_1 t j 0).trans (congrArg (· + (j 0).val) (congrArg (· * 1024) (congrFun (idx_val t).2.1 0))))
      (fun j => (Window.rect_emb_val win0_1 t j 1).trans (congrArg (· + (j 1).val) (congrArg (· * 1024) (congrFun (idx_val t).2.1 1))))
  exact isBlock_cutRows _ h

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := lt_of_lt_of_eq (b := 4) (by omega) N_0.symm
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  show win0_2.index ⟨(i 0).val / 1024, ht⟩ a * S1024x1024.size a ≤ (i a).val ∧ (i a).val < win0_2.index ⟨(i 0).val / 1024, ht⟩ a * S1024x1024.size a + S1024x1024.size a
  rw [(idx_val ⟨(i 0).val / 1024, ht⟩).2.2]
  match a with
  | ⟨0, _⟩ => exact mem_block i rfl (Nat.div_eq_of_lt h1) 0
  | ⟨1, _⟩ => exact mem_block i rfl (Nat.div_eq_of_lt h1) 1

/-- The array after the run. -/
theorem final : (dats m 0 c).arrAt 2 cfg0.N = (mul 4096 1024 1024 (V m c main_arg0) (rows (V m c main_arg1)) : Mat 4096 1024) := by
  refine (dats m 0 c).arrAt_eq_of_cover 2 _ (fun t hf => ?_) cover
  refine (Value.flushed2_A m c t).trans (funext fun y => ?_)
  rw [point]
  refine mul_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.InXMqReferenceIdeal.Read in
/-- The reference's product. -/
theorem ref_eq (d : Mat 4096 1024) (w : Mat 4096 1024) : val_main_v6 (F := Ideal) d w = mul 4096 1024 1024 d (rows w) := by
  funext i
  refine (val_main_v6_apply d w i).trans (Finset.sum_congr rfl fun k _ => ?_)
  rw [val_main_v2_apply (F := Ideal), val_main_v3_apply (F := Ideal), val_main_v1_apply (F := Ideal), val_main_v0_apply (F := Ideal)]
  refine congrArg₂ (fun p q : EReal => p * q) (congrArg d ?_) (congrArg w ?_) <;>
  · funext r
    apply Fin.ext
    match r with
    | ⟨0, _⟩ => simp [ValueIdx.ix2]
    | ⟨1, _⟩ => rfl

/-- The kernel's result is the reference's. -/
theorem values : Cert.algebraic_InXMqIdeal_InXMqReferenceIdeal := by
  intro m ρ m' ρ' _ hm
  refine ⟨fun c => mul 4096 1024 1024 (V m c main_arg0) (rows (V m c main_arg1)), ?_, ?_⟩
  · exact (θ_run defs _ _).mono (fun r h c => ⟨(h c).1.trans (final m c), (h c).2⟩) (Value.run_blocks m ρ)
  · refine (θ_run Cert.InXMqReferenceIdeal.defs _ _).mono (fun r h c => ⟨(h c).1.trans ?_, (h c).2⟩) (Cert.InXMqReferenceIdeal.Value.run m' ρ')
    refine (Cert.InXMqReferenceIdeal.Read.val_main_v6_eq (F := Ideal) _ _).trans ((ref_eq _ _).trans ?_)
    exact congrArg₂ (fun p q => mul 4096 1024 1024 p (rows q)) (hm c).1 (hm c).2

theorem frame_ref : Cert.quiescent_InXMqReferenceIdeal := fun m ρ _ =>
  (θ_run Cert.InXMqReferenceIdeal.defs _ _).mono (fun r h => ⟨fun c => (h c).2, sem_eq_zero_of_no_sems (by decide) r.2⟩) (Cert.InXMqReferenceIdeal.Value.run m ρ)

end Cert.Products.InXMq
-- ==== Proof.InXGl.lean ====
module

public import proofs.«01_k».proof.Defs
public import proofs.«01_k».proof.Proof.Segment
public import proofs.«01_k».proof.Proof.Gen.InXGlIdeal
public import proofs.«01_k».proof.Proof.Gen.InXGlIdeal.Frame
public import proofs.«01_k».proof.Proof.Gen.InXGlIdeal.Value
public import proofs.«01_k».proof.Proof.Gen.InXGlReferenceIdeal
public import proofs.«01_k».proof.Proof.Gen.InXGlReferenceIdeal.Run
public import proofs.«01_k».proof.Proof.Gen.InXGlReferenceIdeal.Read

@[expose] public section

set_option maxRecDepth 16384

noncomputable section

/-! The input projection: the input gradient that comes through the gates. -/

namespace Cert.Products.InXGl

open Cert.InXGlIdeal Cert.InXGlIdeal.Gen
open Idealize.ShloMosaic Idealize.ShloMosaic.TcCoe
open Idealize.ShloMosaic.Pipeline (Window)

/-- The segment's rows of the weight. -/
def rows (w : Mat 4096 1024) : Mat 3072 1024 := cutRows 1024 3072 (by omega) w

/-- Which block of each array a point of the grid holds. -/
theorem idx_val : ∀ t : Fin cfg0.N, win0_0.index t = ![t.val / 3, t.val % 3] ∧ win0_1.index t = ![1 + t.val % 3, 0] ∧ win0_2.index t = ![t.val / 3, 0] :=
  (by decide +kernel : ∀ t : Fin grid0.N, _)

section Point
variable (c : Dev nD) (i : grid0.Coords) (a : Memref sig .tc .vmem S1024x1024 .bf16) (ha : a.IsWhole) (b : Memref sig .tc .vmem S1024x1024 .bf16) (hb : b.IsWhole)
  (o : Memref sig .tc .vmem S1024x1024 .f32) (ho : o.IsWhole) (s : Memref sig .tc .vmem S1024x1024 .f32) (hs : s.IsWhole)
  (x y : Vec Ideal S1024x1024 .bf16) (acc : Vec Ideal S1024x1024 .f32) (j : S1024x1024.Idx)

/-- The first product is put by … -/
theorem first (h0 : cond0_0 i) (h1 : ¬cond0_1 i) (h2 : ¬cond0_2 i) : sout0_A_0 c i a ha b hb o ho s hs h0 h1 h2 x y = mul 1024 1024 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S1024x1024) hz, shapeCast_self]
  exact plain_eq 1024 1024 1024 none x y

/-- … the second is added to it … -/
theorem mid (h0 : ¬cond0_0 i) (h1 : cond0_1 i) (h2 : ¬cond0_2 i) :
    sout0_B_0 c i a ha b hb o ho s hs h0 h1 h2 x y acc j = (acc j : EReal) + mul 1024 1024 1024 x y j := by
  unfold sout0_B_0
  rw [View.read_writes_eq_canon _ _ _ (scover0_B_0 c i a ha b hb o ho s hs h0 h1 h2 x y acc)]
  unfold kernelRun0_B
  dsimp only
  rw [View.canon_unit_zero hz]
  unfold k0_pay3 k0_pay1
  simp only [View.readAt_eq_ld, ha.read_unread, hb.read_unread, hs.read_unread, View.ld_unit_zero (S := S1024x1024) hz, shapeCast_self]
  exact congrArg (fun p : Mat 1024 1024 => (acc j : EReal) + p j) (plain_eq 1024 1024 1024 none x y)

/-- … and with the third the sum is put out. -/
theorem last (h0 : ¬cond0_0 i) (h1 : ¬cond0_1 i) (h2 : cond0_2 i) :
    out0_C_2 c i a ha b hb o ho s hs h0 h1 h2 x y acc j = (acc j : EReal) + mul 1024 1024 1024 x y j := by
  unfold out0_C_2
  rw [View.read_writes_eq_canon _ _ _ (cover0_C_2 c i a ha b hb o ho s hs h0 h1 h2 x y acc)]
  unfold kernelRun0_C
  dsimp only
  rw [View.canon_unit_zero hz]
  unfold k0_pay4 k0_pay1
  simp only [View.readAt_eq_ld, ha.read_unread, hb.read_unread, hs.read_unread, View.ld_unit_zero (S := S1024x1024) hz, shapeCast_self]
  exact congrArg (fun p : Mat 1024 1024 => (acc j : EReal) + p j) (plain_eq 1024 1024 1024 none x y)

end Point

section
variable (m : (ℓ : Loc nD τ sig) → Buf (Elt Ideal) ℓ) (c : Dev nD)

theorem blk0 (t : Fin cfg0.N) : IsBlock (V m c main_arg0 : Mat 4096 3072) (1024 * (t.val / 3)) (1024 * (t.val % 3)) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 3)) (1024 * 0) (iblk m c 1 t : Mat 1024 1024) := by
  have h : IsBlock (V m c main_arg1 : Mat 4096 1024) (1024 * (1 + t.val % 3)) (1024 * 0) (iblk m c 1 t : Mat 1024 1024) :=
    isBlock_of _ (fun _ => rfl) (fun j => (Window.rect_emb_val win0_1 t j 0).trans (congrArg (· + (j 0).val) (congrArg (· * 1024) (congrFun (idx_val t).2.1 0))))
      (fun j => (Window.rect_emb_val win0_1 t j 1).trans (congrArg (· + (j 1).val) (congrArg (· * 1024) (congrFun (idx_val t).2.1 1))))
  rw [Nat.mul_add] at h
  exact isBlock_cutRows _ h

/-- What a point that writes back puts out: a block of rows of the product. -/
theorem out (t : Fin cfg0.N) (ht : t.val % 3 = 2) :
    IsBlock (mul 4096 3072 1024 (V m c main_arg0) (rows (V m c main_arg1))) (1024 * (t.val / 3)) (1024 * 0) ((outsAt0 m c t.val t.isLt).1 : Mat 1024 1024) := by
  refine threes (T := cfg0.N) (fun t => iblk m c 0 t) (fun t => iblk m c 1 t) (fun t => (outsAt0 m c t.val t.isLt).2) (fun t => (outsAt0 m c t.val t.isLt).1)
    (blk0 m c) (blk1 m c) ?_ ?_ ?_ t ht
  · intro u hu
    rw [outsAt0_A m c u hu (by omega) (by omega)]
    dsimp only
    rw [first]
  · intro u hu hp j
    rw [outsAt0_B m c u (by omega) hu (by omega)]
    dsimp only
    rw [mid]
  · intro u hu hp j
    rw [outsAt0_C m c u (by omega) (by omega) hu]
    dsimp only
    rw [last]

/-- The array after the run. -/
theorem final : (dats m 0 c).arrAt 2 cfg0.N = (mul 4096 3072 1024 (V m c main_arg0) (rows (V m c main_arg1)) : Mat 4096 1024) := by
  refine (dats m 0 c).arrAt_eq_of_cover 2 _ (fun t hf => ?_) fun i => (Value.covered_iff2 i).2 ⟨Nat.zero_le _, (i 0).isLt, Nat.zero_le _, (i 1).isLt⟩
  refine (Value.flushed2 m c t).trans (funext fun y => ?_)
  refine out m c t ((flush0_2 t).mp hf) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.InXGlReferenceIdeal.Read in
/-- The reference's product. -/
theorem ref_eq (d : Mat 4096 3072) (w : Mat 4096 1024) : val_main_v6 (F := Ideal) d w = mul 4096 3072 1024 d (rows w) := by
  funext i
  refine (val_main_v6_apply d w i).trans (Finset.sum_congr rfl fun k _ => ?_)
  rw [val_main_v2_apply (F := Ideal), val_main_v3_apply (F := Ideal), val_main_v1_apply (F := Ideal), val_main_v0_apply (F := Ideal)]
  refine congrArg₂ (fun p q : EReal => p * q) (congrArg d ?_) (congrArg w ?_) <;>
  · funext r
    apply Fin.ext
    match r with
    | ⟨0, _⟩ => simp [ValueIdx.ix2]
    | ⟨1, _⟩ => rfl

/-- The kernel's result is the reference's. -/
theorem values : Cert.algebraic_InXGlIdeal_InXGlReferenceIdeal := by
  intro m ρ m' ρ' _ hm
  refine ⟨fun c => mul 4096 3072 1024 (V m c main_arg0) (rows (V m c main_arg1)), ?_, ?_⟩
  · exact (θ_run defs _ _).mono (fun r h c => ⟨(h c).1.trans (final m c), (h c).2⟩) (Value.run_blocks m ρ)
  · refine (θ_run Cert.InXGlReferenceIdeal.defs _ _).mono (fun r h c => ⟨(h c).1.trans ?_, (h c).2⟩) (Cert.InXGlReferenceIdeal.Value.run m' ρ')
    refine (Cert.InXGlReferenceIdeal.Read.val_main_v6_eq (F := Ideal) _ _).trans ((ref_eq _ _).trans ?_)
    exact congrArg₂ (fun p q => mul 4096 3072 1024 p (rows q)) (hm c).1 (hm c).2

theorem frame_ref : Cert.quiescent_InXGlReferenceIdeal := fun m ρ _ =>
  (θ_run Cert.InXGlReferenceIdeal.defs _ _).mono (fun r h => ⟨fun c => (h c).2, sem_eq_zero_of_no_sems (by decide) r.2⟩) (Cert.InXGlReferenceIdeal.Value.run m ρ)

end Cert.Products.InXGl
-- ==== Proof.InWQkv.lean ====
module

public import proofs.«01_k».proof.Defs
public import proofs.«01_k».proof.Proof.Segment
public import proofs.«01_k».proof.Proof.Gen.InWQkvIdeal
public import proofs.«01_k».proof.Proof.Gen.InWQkvIdeal.Frame
public import proofs.«01_k».proof.Proof.Gen.InWQkvIdeal.Value
public import proofs.«01_k».proof.Proof.Gen.InWQkvReferenceIdeal
public import proofs.«01_k».proof.Proof.Gen.InWQkvReferenceIdeal.Run
public import proofs.«01_k».proof.Proof.Gen.InWQkvReferenceIdeal.Read

@[expose] public section

set_option maxRecDepth 16384

noncomputable section

/-! The weight gradient of the queries, keys and values: its rows of the gradient's buffer are set, the others kept. -/

namespace Cert.Products.InWQkv

open Cert.InWQkvIdeal Cert.InWQkvIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![0 + t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 3072) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What a point leaves in its block of the result. -/
theorem out (t : Fin cfg0.N) (ht : t.val % 2 = 1) :
    IsBlock (tmul 3072 4096 1024 (V m c main_arg0) (V m c main_arg1)) (1024 * (t.val / 2)) (1024 * 0) ((outsAt0 m c t.val t.isLt).1 : Mat 1024 1024) := by
  refine columns (T := cfg0.N) (fun t => iblk m c 0 t) (fun t => iblk m c 1 t) (fun t => (outsAt0 m c t.val t.isLt).2) (fun t => (outsAt0 m c t.val t.isLt).1)
    (blk0 m c) (blk1 m c) ?_ ?_ t ht
  · intro u hu
    rw [outsAt0_A m c u hu (by omega)]
    dsimp only
    rw [first]
  · intro u hu hp j
    rw [outsAt0_B m c u (by omega) hu]
    dsimp only
    rw [second]

/-- The buffer with the product in its rows. -/
def result : Mat 8192 1024 := putRows 0 3072 (V m c main_v0) (tmul 3072 4096 1024 (V m c main_arg0) (V m c main_arg1))

/-- What a point writes back: a block of the result. -/
theorem flushed (t : Fin cfg0.N) (hf : (cfg0.win 2).flush t = true) :
    (dats m 0 c).flushed 2 t = ((cfg0.win 2).blk t).view.read (Elt Ideal) (result m c) := by
  have ht : t.val % 2 = 1 := (flush0_2 t).mp hf
  refine (Value.flushed2 m c t).trans (funext fun y => ?_)
  have hN : t.val < 6 := lt_of_lt_of_eq t.isLt N_0
  have hy : (((cfg0.win 2).xinj (grid0.coords t) y : (Cert.SbBwd.M 1024 1024).Idx) 0).val < 1024 := Fin.isLt _
  refine (out m c t ht ((cfg0.win 2).xinj (grid0.coords t) y)
    (ValueIdx.ix2 ⟨1024 * (t.val / 2) + ((cfg0.win 2).xinj (grid0.coords t) y 0).val, by omega⟩ ((cfg0.win 2).xinj (grid0.coords t) y 1)) rfl (Nat.zero_add _).symm).trans ?_
  refine (putRows_of_mem _ _ _ _ ?_ ?_).symm
  · refine (Window.rect_emb_val win0_2 t y 0).trans ?_
    rw [(idx_val t).2.2]
    show (0 + t.val / 2) * 1024 + (y 0).val = 0 + (1024 * (t.val / 2) + (y 0).val)
    omega
  · refine (Window.rect_emb_val win0_2 t y 1).trans ?_
    rw [(idx_val t).2.2]
    exact (congrArg (· + (y 1).val) (Nat.zero_mul 1024)).trans (Nat.zero_add _)

/-- Which places of the result a point writes. -/
theorem mem_blk (t : Fin cfg0.N) (i : S8192x1024.Idx) : i ∈ ((cfg0.win 2).blk t).view.set ↔ (i 0).val / 1024 = 0 + t.val / 2 := by
  show i ∈ ((View.whole main_v0).slice (win0_2.rect t)).set ↔ _
  rw [View.set_slice_whole, Rect.mem_set_unit]
  have h1 : (i 1).val < 1024 := (i 1).isLt
  constructor
  · intro h
    have h0 : win0_2.index t 0 * 1024 ≤ (i 0).val ∧ (i 0).val < win0_2.index t 0 * 1024 + 1024 := h 0
    rw [(idx_val t).2.2] at h0
    have h0 : (0 + t.val / 2) * 1024 ≤ (i 0).val ∧ (i 0).val < (0 + t.val / 2) * 1024 + 1024 := h0
    omega
  · intro h a
    show win0_2.index t a * S1024x1024.size a ≤ (i a).val ∧ (i a).val < win0_2.index t a * S1024x1024.size a + S1024x1024.size a
    rw [(idx_val t).2.2]
    match a with
    | ⟨0, _⟩ => exact mem_block i h (Nat.div_eq_of_lt h1) 0
    | ⟨1, _⟩ => exact mem_block i h (Nat.div_eq_of_lt h1) 1

/-- The array after the run. -/
theorem final : (dats m 0 c).arrAt 2 cfg0.N = result m c := by
  funext i
  by_cases h : 0 ≤ (i 0).val ∧ (i 0).val < 0 + 3072
  · obtain ⟨t, ho, hq⟩ : ∃ t : Fin cfg0.N, t.val % 2 = 1 ∧ (i 0).val / 1024 = 0 + t.val / 2 := by
      have ht : 2 * ((i 0).val / 1024 - 0) + 1 < cfg0.N := lt_of_lt_of_eq (b := 6) (by omega) N_0.symm
      exact ⟨⟨_, ht⟩, by show (2 * ((i 0).val / 1024 - 0) + 1) % 2 = 1; omega, by show _ = 0 + (2 * ((i 0).val / 1024 - 0) + 1) / 2; omega⟩
    exact (dats m 0 c).arrAt_apply_of_mem 2 _ (flushed m c) cfg0.N t i t.isLt ((flush0_2 t).mpr ho) ((mem_blk t i).mpr hq)
  · refine (Value.entry2 m c i fun t _ hi => h ?_).trans (putRows_of_not_mem _ _ i h).symm
    have hq := (mem_blk t i).mp hi
    have hN : t.val < 6 := lt_of_lt_of_eq t.isLt N_0
    omega

end

section
open Cert.InWQkvReferenceIdeal.Read

/-- The reference's product. -/
theorem product_eq (d : Mat 4096 3072) (u : Mat 4096 1024) : val_main_v7 (F := Ideal) d u = tmul 3072 4096 1024 d u := by
  funext i
  refine (val_main_v7_apply (F := Ideal) d u i).trans ((val_main_v6_apply (F := Ideal) d u _).trans ((val_main_v5_apply d u _).trans (Finset.sum_congr rfl fun k _ => ?_)))
  rw [val_main_v0_apply (F := Ideal), val_main_v1_apply (F := Ideal)]
  refine congrArg₂ (fun p q : EReal => p * q) (congrArg d ?_) (congrArg u ?_) <;>
  · funext r
    match r with
    | ⟨0, _⟩ => rfl
    | ⟨1, _⟩ => rfl

/-- The reference's rows below the segment are the buffer's. -/
theorem below (b : Mat 8192 1024) : IsBlock b 3072 0 (val_main_v8 (F := Ideal) b : Mat 5120 1024) :=
  isBlock_at idx_main_v8 (fun i => val_main_v8_apply (F := Ideal) b i) (fun i => rfl) (fun i => (Nat.zero_add _).symm)

/-- The reference puts the product in its rows of the buffer. -/
theorem ref_eq (d : Mat 4096 3072) (u : Mat 4096 1024) (b : Mat 8192 1024) :
    val_main_v9 (F := Ideal) d u b = putRows 0 3072 b (tmul 3072 4096 1024 d u) := by
  have hx := below b
  unfold val_main_v9
  rw [product_eq]
  generalize val_main_v8 (F := Ideal) b = x at hx ⊢
  exact join_above _ rfl hx

end

/-- The kernel's result is the reference's. -/
theorem values : Cert.algebraic_InWQkvIdeal_InWQkvReferenceIdeal := by
  intro m ρ m' ρ' _ hm
  refine ⟨fun c => result m c, ?_, ?_⟩
  · exact (θ_run defs _ _).mono (fun r h c => ⟨(h c).1.trans (final m c), (h c).2⟩) (Value.run_blocks m ρ)
  · refine (θ_run Cert.InWQkvReferenceIdeal.defs _ _).mono (fun r h c => ⟨(h c).1.trans ?_, (h c).2⟩) (Cert.InWQkvReferenceIdeal.Value.run m' ρ')
    refine (Cert.InWQkvReferenceIdeal.Read.val_main_v9_eq (F := Ideal) _ _ _).symm.trans ?_
    rw [(hm c).1, (hm c).2.1, (hm c).2.2]
    exact ref_eq _ _ _

theorem frame_ref : Cert.quiescent_InWQkvReferenceIdeal := fun m ρ _ =>
  (θ_run Cert.InWQkvReferenceIdeal.defs _ _).mono (fun r h => ⟨fun c => (h c).2, sem_eq_zero_of_no_sems (by decide) r.2⟩) (Cert.InWQkvReferenceIdeal.Value.run m ρ)

end Cert.Products.InWQkv
-- ==== Proof.InWZ.lean ====
module

public import proofs.«01_k».proof.Defs
public import proofs.«01_k».proof.Proof.Segment
public import proofs.«01_k».proof.Proof.Gen.InWZIdeal
public import proofs.«01_k».proof.Proof.Gen.InWZIdeal.Frame
public import proofs.«01_k».proof.Proof.Gen.InWZIdeal.Value
public import proofs.«01_k».proof.Proof.Gen.InWZReferenceIdeal
public import proofs.«01_k».proof.Proof.Gen.InWZReferenceIdeal.Run
public import proofs.«01_k».proof.Proof.Gen.InWZReferenceIdeal.Read

@[expose] public section

set_option maxRecDepth 16384

noncomputable section

/-! The weight gradient of the state-space layer's gate: its rows of the gradient's buffer are set, the others kept. -/

namespace Cert.Products.InWZ

open Cert.InWZIdeal Cert.InWZIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![3 + t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 2048) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What a point leaves in its block of the result. -/
theorem out (t : Fin cfg0.N) (ht : t.val % 2 = 1) :
    IsBlock (tmul 2048 4096 1024 (V m c main_arg0) (V m c main_arg1)) (1024 * (t.val / 2)) (1024 * 0) ((outsAt0 m c t.val t.isLt).1 : Mat 1024 1024) := by
  refine columns (T := cfg0.N) (fun t => iblk m c 0 t) (fun t => iblk m c 1 t) (fun t => (outsAt0 m c t.val t.isLt).2) (fun t => (outsAt0 m c t.val t.isLt).1)
    (blk0 m c) (blk1 m c) ?_ ?_ t ht
  · intro u hu
    rw [outsAt0_A m c u hu (by omega)]
    dsimp only
    rw [first]
  · intro u hu hp j
    rw [outsAt0_B m c u (by omega) hu]
    dsimp only
    rw [second]

/-- The buffer with the product in its rows. -/
def result : Mat 8192 1024 := putRows 3072 2048 (V m c main_v0) (tmul 2048 4096 1024 (V m c main_arg0) (V m c main_arg1))

/-- What a point writes back: a block of the result. -/
theorem flushed (t : Fin cfg0.N) (hf : (cfg0.win 2).flush t = true) :
    (dats m 0 c).flushed 2 t = ((cfg0.win 2).blk t).view.read (Elt Ideal) (result m c) := by
  have ht : t.val % 2 = 1 := (flush0_2 t).mp hf
  refine (Value.flushed2 m c t).trans (funext fun y => ?_)
  have hN : t.val < 4 := lt_of_lt_of_eq t.isLt N_0
  have hy : (((cfg0.win 2).xinj (grid0.coords t) y : (Cert.SbBwd.M 1024 1024).Idx) 0).val < 1024 := Fin.isLt _
  refine (out m c t ht ((cfg0.win 2).xinj (grid0.coords t) y)
    (ValueIdx.ix2 ⟨1024 * (t.val / 2) + ((cfg0.win 2).xinj (grid0.coords t) y 0).val, by omega⟩ ((cfg0.win 2).xinj (grid0.coords t) y 1)) rfl (Nat.zero_add _).symm).trans ?_
  refine (putRows_of_mem _ _ _ _ ?_ ?_).symm
  · refine (Window.rect_emb_val win0_2 t y 0).trans ?_
    rw [(idx_val t).2.2]
    show (3 + t.val / 2) * 1024 + (y 0).val = 3072 + (1024 * (t.val / 2) + (y 0).val)
    omega
  · refine (Window.rect_emb_val win0_2 t y 1).trans ?_
    rw [(idx_val t).2.2]
    exact (congrArg (· + (y 1).val) (Nat.zero_mul 1024)).trans (Nat.zero_add _)

/-- Which places of the result a point writes. -/
theorem mem_blk (t : Fin cfg0.N) (i : S8192x1024.Idx) : i ∈ ((cfg0.win 2).blk t).view.set ↔ (i 0).val / 1024 = 3 + t.val / 2 := by
  show i ∈ ((View.whole main_v0).slice (win0_2.rect t)).set ↔ _
  rw [View.set_slice_whole, Rect.mem_set_unit]
  have h1 : (i 1).val < 1024 := (i 1).isLt
  constructor
  · intro h
    have h0 : win0_2.index t 0 * 1024 ≤ (i 0).val ∧ (i 0).val < win0_2.index t 0 * 1024 + 1024 := h 0
    rw [(idx_val t).2.2] at h0
    have h0 : (3 + t.val / 2) * 1024 ≤ (i 0).val ∧ (i 0).val < (3 + t.val / 2) * 1024 + 1024 := h0
    omega
  · intro h a
    show win0_2.index t a * S1024x1024.size a ≤ (i a).val ∧ (i a).val < win0_2.index t a * S1024x1024.size a + S1024x1024.size a
    rw [(idx_val t).2.2]
    match a with
    | ⟨0, _⟩ => exact mem_block i h (Nat.div_eq_of_lt h1) 0
    | ⟨1, _⟩ => exact mem_block i h (Nat.div_eq_of_lt h1) 1

/-- The array after the run. -/
theorem final : (dats m 0 c).arrAt 2 cfg0.N = result m c := by
  funext i
  by_cases h : 3072 ≤ (i 0).val ∧ (i 0).val < 3072 + 2048
  · obtain ⟨t, ho, hq⟩ : ∃ t : Fin cfg0.N, t.val % 2 = 1 ∧ (i 0).val / 1024 = 3 + t.val / 2 := by
      have ht : 2 * ((i 0).val / 1024 - 3) + 1 < cfg0.N := lt_of_lt_of_eq (b := 4) (by omega) N_0.symm
      exact ⟨⟨_, ht⟩, by show (2 * ((i 0).val / 1024 - 3) + 1) % 2 = 1; omega, by show _ = 3 + (2 * ((i 0).val / 1024 - 3) + 1) / 2; omega⟩
    exact (dats m 0 c).arrAt_apply_of_mem 2 _ (flushed m c) cfg0.N t i t.isLt ((flush0_2 t).mpr ho) ((mem_blk t i).mpr hq)
  · refine (Value.entry2 m c i fun t _ hi => h ?_).trans (putRows_of_not_mem _ _ i h).symm
    have hq := (mem_blk t i).mp hi
    have hN : t.val < 4 := lt_of_lt_of_eq t.isLt N_0
    omega

end

section
open Cert.InWZReferenceIdeal.Read

/-- The reference's product. -/
theorem product_eq (d : Mat 4096 2048) (u : Mat 4096 1024) : val_main_v8 (F := Ideal) d u = tmul 2048 4096 1024 d u := by
  funext i
  refine (val_main_v8_apply (F := Ideal) d u i).trans ((val_main_v7_apply (F := Ideal) d u _).trans ((val_main_v6_apply d u _).trans (Finset.sum_congr rfl fun k _ => ?_)))
  rw [val_main_v1_apply (F := Ideal), val_main_v2_apply (F := Ideal)]
  refine congrArg₂ (fun p q : EReal => p * q) (congrArg d ?_) (congrArg u ?_) <;>
  · funext r
    match r with
    | ⟨0, _⟩ => rfl
    | ⟨1, _⟩ => rfl

/-- The reference's rows above the segment … -/
theorem above (b : Mat 8192 1024) : IsBlock b 0 0 (val_main_v0 (F := Ideal) b : Mat 3072 1024) :=
  isBlock_at idx_main_v0 (fun i => val_main_v0_apply (F := Ideal) b i) (fun i => (Nat.zero_add _).symm) (fun i => (Nat.zero_add _).symm)

/-- … and below it are the buffer's. -/
theorem below (b : Mat 8192 1024) : IsBlock b (3072 + 2048) 0 (val_main_v9 (F := Ideal) b : Mat 3072 1024) :=
  isBlock_at idx_main_v9 (fun i => val_main_v9_apply (F := Ideal) b i) (fun i => rfl) (fun i => (Nat.zero_add _).symm)

/-- The reference puts the product in its rows of the buffer. -/
theorem ref_eq (d : Mat 4096 2048) (u : Mat 4096 1024) (b : Mat 8192 1024) :
    val_main_v10 (F := Ideal) d u b = putRows 3072 2048 b (tmul 2048 4096 1024 d u) := by
  have hx := above b
  have hy := below b
  unfold val_main_v10
  rw [product_eq]
  generalize val_main_v0 (F := Ideal) b = x at hx ⊢
  generalize val_main_v9 (F := Ideal) b = y at hy ⊢
  exact join_middle _ rfl hx hy

end

/-- The kernel's result is the reference's. -/
theorem values : Cert.algebraic_InWZIdeal_InWZReferenceIdeal := by
  intro m ρ m' ρ' _ hm
  refine ⟨fun c => result m c, ?_, ?_⟩
  · exact (θ_run defs _ _).mono (fun r h c => ⟨(h c).1.trans (final m c), (h c).2⟩) (Value.run_blocks m ρ)
  · refine (θ_run Cert.InWZReferenceIdeal.defs _ _).mono (fun r h c => ⟨(h c).1.trans ?_, (h c).2⟩) (Cert.InWZReferenceIdeal.Value.run m' ρ')
    refine (Cert.InWZReferenceIdeal.Read.val_main_v10_eq (F := Ideal) _ _ _).symm.trans ?_
    rw [(hm c).1, (hm c).2.1, (hm c).2.2]
    exact ref_eq _ _ _

theorem frame_ref : Cert.quiescent_InWZReferenceIdeal := fun m ρ _ =>
  (θ_run Cert.InWZReferenceIdeal.defs _ _).mono (fun r h => ⟨fun c => (h c).2, sem_eq_zero_of_no_sems (by decide) r.2⟩) (Cert.InWZReferenceIdeal.Value.run m ρ)

end Cert.Products.InWZ
-- ==== Proof.InWXbc.lean ====
module

public import proofs.«01_k».proof.Defs
public import proofs.«01_k».proof.Proof.Segment
public import proofs.«01_k».proof.Proof.Gen.InWXbcIdeal
public import proofs.«01_k».proof.Proof.Gen.InWXbcIdeal.Frame
public import proofs.«01_k».proof.Proof.Gen.InWXbcIdeal.Value
public import proofs.«01_k».proof.Proof.Gen.InWXbcReferenceIdeal
public import proofs.«01_k».proof.Proof.Gen.InWXbcReferenceIdeal.Run
public import proofs.«01_k».proof.Proof.Gen.InWXbcReferenceIdeal.Read

@[expose] public section

set_option maxRecDepth 16384

noncomputable section

/-! The weight gradient of the convolution's inputs: its rows of the gradient's buffer are set, the others kept. -/

namespace Cert.Products.InWXbc

open Cert.InWXbcIdeal Cert.InWXbcIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![5 + t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 3072) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What a point leaves in its block of the result. -/
theorem out (t : Fin cfg0.N) (ht : t.val % 2 = 1) :
    IsBlock (tmul 3072 4096 1024 (V m c main_arg0) (V m c main_arg1)) (1024 * (t.val / 2)) (1024 * 0) ((outsAt0 m c t.val t.isLt).1 : Mat 1024 1024) := by
  refine columns (T := cfg0.N) (fun t => iblk m c 0 t) (fun t => iblk m c 1 t) (fun t => (outsAt0 m c t.val t.isLt).2) (fun t => (outsAt0 m c t.val t.isLt).1)
    (blk0 m c) (blk1 m c) ?_ ?_ t ht
  · intro u hu
    rw [outsAt0_A m c u hu (by omega)]
    dsimp only
    rw [first]
  · intro u hu hp j
    rw [outsAt0_B m c u (by omega) hu]
    dsimp only
    rw [second]

/-- The buffer with the product in its rows. -/
def result : Mat 8192 1024 := putRows 5120 3072 (V m c main_v0) (tmul 3072 4096 1024 (V m c main_arg0) (V m c main_arg1))

/-- What a point writes back: a block of the result. -/
theorem flushed (t : Fin cfg0.N) (hf : (cfg0.win 2).flush t = true) :
    (dats m 0 c).flushed 2 t = ((cfg0.win 2).blk t).view.read (Elt Ideal) (result m c) := by
  have ht : t.val % 2 = 1 := (flush0_2 t).mp hf
  refine (Value.flushed2 m c t).trans (funext fun y => ?_)
  have hN : t.val < 6 := lt_of_lt_of_eq t.isLt N_0
  have hy : (((cfg0.win 2).xinj (grid0.coords t) y : (Cert.SbBwd.M 1024 1024).Idx) 0).val < 1024 := Fin.isLt _
  refine (out m c t ht ((cfg0.win 2).xinj (grid0.coords t) y)
    (ValueIdx.ix2 ⟨1024 * (t.val / 2) + ((cfg0.win 2).xinj (grid0.coords t) y 0).val, by omega⟩ ((cfg0.win 2).xinj (grid0.coords t) y 1)) rfl (Nat.zero_add _).symm).trans ?_
  refine (putRows_of_mem _ _ _ _ ?_ ?_).symm
  · refine (Window.rect_emb_val win0_2 t y 0).trans ?_
    rw [(idx_val t).2.2]
    show (5 + t.val / 2) * 1024 + (y 0).val = 5120 + (1024 * (t.val / 2) + (y 0).val)
    omega
  · refine (Window.rect_emb_val win0_2 t y 1).trans ?_
    rw [(idx_val t).2.2]
    exact (congrArg (· + (y 1).val) (Nat.zero_mul 1024)).trans (Nat.zero_add _)

/-- Which places of the result a point writes. -/
theorem mem_blk (t : Fin cfg0.N) (i : S8192x1024.Idx) : i ∈ ((cfg0.win 2).blk t).view.set ↔ (i 0).val / 1024 = 5 + t.val / 2 := by
  show i ∈ ((View.whole main_v0).slice (win0_2.rect t)).set ↔ _
  rw [View.set_slice_whole, Rect.mem_set_unit]
  have h1 : (i 1).val < 1024 := (i 1).isLt
  constructor
  · intro h
    have h0 : win0_2.index t 0 * 1024 ≤ (i 0).val ∧ (i 0).val < win0_2.index t 0 * 1024 + 1024 := h 0
    rw [(idx_val t).2.2] at h0
    have h0 : (5 + t.val / 2) * 1024 ≤ (i 0).val ∧ (i 0).val < (5 + t.val / 2) * 1024 + 1024 := h0
    omega
  · intro h a
    show win0_2.index t a * S1024x1024.size a ≤ (i a).val ∧ (i a).val < win0_2.index t a * S1024x1024.size a + S1024x1024.size a
    rw [(idx_val t).2.2]
    match a with
    | ⟨0, _⟩ => exact mem_block i h (Nat.div_eq_of_lt h1) 0
    | ⟨1, _⟩ => exact mem_block i h (Nat.div_eq_of_lt h1) 1

/-- The array after the run. -/
theorem final : (dats m 0 c).arrAt 2 cfg0.N = result m c := by
  funext i
  by_cases h : 5120 ≤ (i 0).val ∧ (i 0).val < 5120 + 3072
  · obtain ⟨t, ho, hq⟩ : ∃ t : Fin cfg0.N, t.val % 2 = 1 ∧ (i 0).val / 1024 = 5 + t.val / 2 := by
      have ht : 2 * ((i 0).val / 1024 - 5) + 1 < cfg0.N := lt_of_lt_of_eq (b := 6) (by omega) N_0.symm
      exact ⟨⟨_, ht⟩, by show (2 * ((i 0).val / 1024 - 5) + 1) % 2 = 1; omega, by show _ = 5 + (2 * ((i 0).val / 1024 - 5) + 1) / 2; omega⟩
    exact (dats m 0 c).arrAt_apply_of_mem 2 _ (flushed m c) cfg0.N t i t.isLt ((flush0_2 t).mpr ho) ((mem_blk t i).mpr hq)
  · refine (Value.entry2 m c i fun t _ hi => h ?_).trans (putRows_of_not_mem _ _ i h).symm
    have hq := (mem_blk t i).mp hi
    have hN : t.val < 6 := lt_of_lt_of_eq t.isLt N_0
    omega

end

section
open Cert.InWXbcReferenceIdeal.Read

/-- The reference's product. -/
theorem product_eq (d : Mat 4096 3072) (u : Mat 4096 1024) : val_main_v8 (F := Ideal) d u = tmul 3072 4096 1024 d u := by
  funext i
  refine (val_main_v8_apply (F := Ideal) d u i).trans ((val_main_v7_apply (F := Ideal) d u _).trans ((val_main_v6_apply d u _).trans (Finset.sum_congr rfl fun k _ => ?_)))
  rw [val_main_v1_apply (F := Ideal), val_main_v2_apply (F := Ideal)]
  refine congrArg₂ (fun p q : EReal => p * q) (congrArg d ?_) (congrArg u ?_) <;>
  · funext r
    match r with
    | ⟨0, _⟩ => rfl
    | ⟨1, _⟩ => rfl

/-- The reference's rows above the segment are the buffer's. -/
theorem above (b : Mat 8192 1024) : IsBlock b 0 0 (val_main_v0 (F := Ideal) b : Mat 5120 1024) :=
  isBlock_at idx_main_v0 (fun i => val_main_v0_apply (F := Ideal) b i) (fun i => (Nat.zero_add _).symm) (fun i => (Nat.zero_add _).symm)

/-- The reference puts the product in its rows of the buffer. -/
theorem ref_eq (d : Mat 4096 3072) (u : Mat 4096 1024) (b : Mat 8192 1024) :
    val_main_v9 (F := Ideal) d u b = putRows 5120 3072 b (tmul 3072 4096 1024 d u) := by
  have hx := above b
  unfold val_main_v9
  rw [product_eq]
  generalize val_main_v0 (F := Ideal) b = x at hx ⊢
  exact join_below _ rfl hx

end

/-- The kernel's result is the reference's. -/
theorem values : Cert.algebraic_InWXbcIdeal_InWXbcReferenceIdeal := by
  intro m ρ m' ρ' _ hm
  refine ⟨fun c => result m c, ?_, ?_⟩
  · exact (θ_run defs _ _).mono (fun r h c => ⟨(h c).1.trans (final m c), (h c).2⟩) (Value.run_blocks m ρ)
  · refine (θ_run Cert.InWXbcReferenceIdeal.defs _ _).mono (fun r h c => ⟨(h c).1.trans ?_, (h c).2⟩) (Cert.InWXbcReferenceIdeal.Value.run m' ρ')
    refine (Cert.InWXbcReferenceIdeal.Read.val_main_v9_eq (F := Ideal) _ _ _).symm.trans ?_
    rw [(hm c).1, (hm c).2.1, (hm c).2.2]
    exact ref_eq _ _ _

theorem frame_ref : Cert.quiescent_InWXbcReferenceIdeal := fun m ρ _ =>
  (θ_run Cert.InWXbcReferenceIdeal.defs _ _).mono (fun r h => ⟨fun c => (h c).2, sem_eq_zero_of_no_sems (by decide) r.2⟩) (Cert.InWXbcReferenceIdeal.Value.run m ρ)

end Cert.Products.InWXbc
-- ==== Proof.InWMq.lean ====
module

public import proofs.«01_k».proof.Defs
public import proofs.«01_k».proof.Proof.Segment
public import proofs.«01_k».proof.Proof.Gen.InWMqIdeal
public import proofs.«01_k».proof.Proof.Gen.InWMqIdeal.Frame
public import proofs.«01_k».proof.Proof.Gen.InWMqIdeal.Value
public import proofs.«01_k».proof.Proof.Gen.InWMqReferenceIdeal
public import proofs.«01_k».proof.Proof.Gen.InWMqReferenceIdeal.Run
public import proofs.«01_k».proof.Proof.Gen.InWMqReferenceIdeal.Read

@[expose] public section

set_option maxRecDepth 16384

noncomputable section

/-! The weight gradient of the memory queries: its rows of the gradient's buffer are set, the others kept. -/

namespace Cert.Products.InWMq

open Cert.InWMqIdeal Cert.InWMqIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![0 + t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 1024) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What a point leaves in its block of the result. -/
theorem out (t : Fin cfg0.N) (ht : t.val % 2 = 1) :
    IsBlock (tmul 1024 4096 1024 (V m c main_arg0) (V m c main_arg1)) (1024 * (t.val / 2)) (1024 * 0) ((outsAt0 m c t.val t.isLt).1 : Mat 1024 1024) := by
  refine columns (T := cfg0.N) (fun t => iblk m c 0 t) (fun t => iblk m c 1 t) (fun t => (outsAt0 m c t.val t.isLt).2) (fun t => (outsAt0 m c t.val t.isLt).1)
    (blk0 m c) (blk1 m c) ?_ ?_ t ht
  · intro u hu
    rw [outsAt0_A m c u hu (by omega)]
    dsimp only
    rw [first]
  · intro u hu hp j
    rw [outsAt0_B m c u (by omega) hu]
    dsimp only
    rw [second]

/-- The buffer with the product in its rows. -/
def result : Mat 4096 1024 := putRows 0 1024 (V m c main_v0) (tmul 1024 4096 1024 (V m c main_arg0) (V m c main_arg1))

/-- What a point writes back: a block of the result. -/
theorem flushed (t : Fin cfg0.N) (hf : (cfg0.win 2).flush t = true) :
    (dats m 0 c).flushed 2 t = ((cfg0.win 2).blk t).view.read (Elt Ideal) (result m c) := by
  have ht : t.val % 2 = 1 := (flush0_2 t).mp hf
  refine (Value.flushed2 m c t).trans (funext fun y => ?_)
  have hN : t.val < 2 := lt_of_lt_of_eq t.isLt N_0
  have hy : (((cfg0.win 2).xinj (grid0.coords t) y : (Cert.SbBwd.M 1024 1024).Idx) 0).val < 1024 := Fin.isLt _
  refine (out m c t ht ((cfg0.win 2).xinj (grid0.coords t) y)
    (ValueIdx.ix2 ⟨1024 * (t.val / 2) + ((cfg0.win 2).xinj (grid0.coords t) y 0).val, by omega⟩ ((cfg0.win 2).xinj (grid0.coords t) y 1)) rfl (Nat.zero_add _).symm).trans ?_
  refine (putRows_of_mem _ _ _ _ ?_ ?_).symm
  · refine (Window.rect_emb_val win0_2 t y 0).trans ?_
    rw [(idx_val t).2.2]
    show (0 + t.val / 2) * 1024 + (y 0).val = 0 + (1024 * (t.val / 2) + (y 0).val)
    omega
  · refine (Window.rect_emb_val win0_2 t y 1).trans ?_
    rw [(idx_val t).2.2]
    exact (congrArg (· + (y 1).val) (Nat.zero_mul 1024)).trans (Nat.zero_add _)

/-- Which places of the result a point writes. -/
theorem mem_blk (t : Fin cfg0.N) (i : S4096x1024.Idx) : i ∈ ((cfg0.win 2).blk t).view.set ↔ (i 0).val / 1024 = 0 + t.val / 2 := by
  show i ∈ ((View.whole main_v0).slice (win0_2.rect t)).set ↔ _
  rw [View.set_slice_whole, Rect.mem_set_unit]
  have h1 : (i 1).val < 1024 := (i 1).isLt
  constructor
  · intro h
    have h0 : win0_2.index t 0 * 1024 ≤ (i 0).val ∧ (i 0).val < win0_2.index t 0 * 1024 + 1024 := h 0
    rw [(idx_val t).2.2] at h0
    have h0 : (0 + t.val / 2) * 1024 ≤ (i 0).val ∧ (i 0).val < (0 + t.val / 2) * 1024 + 1024 := h0
    omega
  · intro h a
    show win0_2.index t a * S1024x1024.size a ≤ (i a).val ∧ (i a).val < win0_2.index t a * S1024x1024.size a + S1024x1024.size a
    rw [(idx_val t).2.2]
    match a with
    | ⟨0, _⟩ => exact mem_block i h (Nat.div_eq_of_lt h1) 0
    | ⟨1, _⟩ => exact mem_block i h (Nat.div_eq_of_lt h1) 1

/-- The array after the run. -/
theorem final : (dats m 0 c).arrAt 2 cfg0.N = result m c := by
  funext i
  by_cases h : 0 ≤ (i 0).val ∧ (i 0).val < 0 + 1024
  · obtain ⟨t, ho, hq⟩ : ∃ t : Fin cfg0.N, t.val % 2 = 1 ∧ (i 0).val / 1024 = 0 + t.val / 2 := by
      have ht : 2 * ((i 0).val / 1024 - 0) + 1 < cfg0.N := lt_of_lt_of_eq (b := 2) (by omega) N_0.symm
      exact ⟨⟨_, ht⟩, by show (2 * ((i 0).val / 1024 - 0) + 1) % 2 = 1; omega, by show _ = 0 + (2 * ((i 0).val / 1024 - 0) + 1) / 2; omega⟩
    exact (dats m 0 c).arrAt_apply_of_mem 2 _ (flushed m c) cfg0.N t i t.isLt ((flush0_2 t).mpr ho) ((mem_blk t i).mpr hq)
  · refine (Value.entry2 m c i fun t _ hi => h ?_).trans (putRows_of_not_mem _ _ i h).symm
    have hq := (mem_blk t i).mp hi
    have hN : t.val < 2 := lt_of_lt_of_eq t.isLt N_0
    omega

end

section
open Cert.InWMqReferenceIdeal.Read

/-- The reference's product. -/
theorem product_eq (d : Mat 4096 1024) (u : Mat 4096 1024) : val_main_v7 (F := Ideal) d u = tmul 1024 4096 1024 d u := by
  funext i
  refine (val_main_v7_apply (F := Ideal) d u i).trans ((val_main_v6_apply (F := Ideal) d u _).trans ((val_main_v5_apply d u _).trans (Finset.sum_congr rfl fun k _ => ?_)))
  rw [val_main_v0_apply (F := Ideal), val_main_v1_apply (F := Ideal)]
  refine congrArg₂ (fun p q : EReal => p * q) (congrArg d ?_) (congrArg u ?_) <;>
  · funext r
    match r with
    | ⟨0, _⟩ => rfl
    | ⟨1, _⟩ => rfl

/-- The reference's rows below the segment are the buffer's. -/
theorem below (b : Mat 4096 1024) : IsBlock b 1024 0 (val_main_v8 (F := Ideal) b : Mat 3072 1024) :=
  isBlock_at idx_main_v8 (fun i => val_main_v8_apply (F := Ideal) b i) (fun i => rfl) (fun i => (Nat.zero_add _).symm)

/-- The reference puts the product in its rows of the buffer. -/
theorem ref_eq (d : Mat 4096 1024) (u : Mat 4096 1024) (b : Mat 4096 1024) :
    val_main_v9 (F := Ideal) d u b = putRows 0 1024 b (tmul 1024 4096 1024 d u) := by
  have hx := below b
  unfold val_main_v9
  rw [product_eq]
  generalize val_main_v8 (F := Ideal) b = x at hx ⊢
  exact join_above _ rfl hx

end

/-- The kernel's result is the reference's. -/
theorem values : Cert.algebraic_InWMqIdeal_InWMqReferenceIdeal := by
  intro m ρ m' ρ' _ hm
  refine ⟨fun c => result m c, ?_, ?_⟩
  · exact (θ_run defs _ _).mono (fun r h c => ⟨(h c).1.trans (final m c), (h c).2⟩) (Value.run_blocks m ρ)
  · refine (θ_run Cert.InWMqReferenceIdeal.defs _ _).mono (fun r h c => ⟨(h c).1.trans ?_, (h c).2⟩) (Cert.InWMqReferenceIdeal.Value.run m' ρ')
    refine (Cert.InWMqReferenceIdeal.Read.val_main_v9_eq (F := Ideal) _ _ _).symm.trans ?_
    rw [(hm c).1, (hm c).2.1, (hm c).2.2]
    exact ref_eq _ _ _

theorem frame_ref : Cert.quiescent_InWMqReferenceIdeal := fun m ρ _ =>
  (θ_run Cert.InWMqReferenceIdeal.defs _ _).mono (fun r h => ⟨fun c => (h c).2, sem_eq_zero_of_no_sems (by decide) r.2⟩) (Cert.InWMqReferenceIdeal.Value.run m ρ)

end Cert.Products.InWMq
-- ==== Proof.InWGl.lean ====
module

public import proofs.«01_k».proof.Defs
public import proofs.«01_k».proof.Proof.Segment
public import proofs.«01_k».proof.Proof.Gen.InWGlIdeal
public import proofs.«01_k».proof.Proof.Gen.InWGlIdeal.Frame
public import proofs.«01_k».proof.Proof.Gen.InWGlIdeal.Value
public import proofs.«01_k».proof.Proof.Gen.InWGlReferenceIdeal
public import proofs.«01_k».proof.Proof.Gen.InWGlReferenceIdeal.Run
public import proofs.«01_k».proof.Proof.Gen.InWGlReferenceIdeal.Read

@[expose] public section

set_option maxRecDepth 16384

noncomputable section

/-! The weight gradient of the gates: its rows of the gradient's buffer are set, the others kept. -/

namespace Cert.Products.InWGl

open Cert.InWGlIdeal Cert.InWGlIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![1 + t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 3072) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What a point leaves in its block of the result. -/
theorem out (t : Fin cfg0.N) (ht : t.val % 2 = 1) :
    IsBlock (tmul 3072 4096 1024 (V m c main_arg0) (V m c main_arg1)) (1024 * (t.val / 2)) (1024 * 0) ((outsAt0 m c t.val t.isLt).1 : Mat 1024 1024) := by
  refine columns (T := cfg0.N) (fun t => iblk m c 0 t) (fun t => iblk m c 1 t) (fun t => (outsAt0 m c t.val t.isLt).2) (fun t => (outsAt0 m c t.val t.isLt).1)
    (blk0 m c) (blk1 m c) ?_ ?_ t ht
  · intro u hu
    rw [outsAt0_A m c u hu (by omega)]
    dsimp only
    rw [first]
  · intro u hu hp j
    rw [outsAt0_B m c u (by omega) hu]
    dsimp only
    rw [second]

/-- The buffer with the product in its rows. -/
def result : Mat 4096 1024 := putRows 1024 3072 (V m c main_v0) (tmul 3072 4096 1024 (V m c main_arg0) (V m c main_arg1))

/-- What a point writes back: a block of the result. -/
theorem flushed (t : Fin cfg0.N) (hf : (cfg0.win 2).flush t = true) :
    (dats m 0 c).flushed 2 t = ((cfg0.win 2).blk t).view.read (Elt Ideal) (result m c) := by
  have ht : t.val % 2 = 1 := (flush0_2 t).mp hf
  refine (Value.flushed2 m c t).trans (funext fun y => ?_)
  have hN : t.val < 6 := lt_of_lt_of_eq t.isLt N_0
  have hy : (((cfg0.win 2).xinj (grid0.coords t) y : (Cert.SbBwd.M 1024 1024).Idx) 0).val < 1024 := Fin.isLt _
  refine (out m c t ht ((cfg0.win 2).xinj (grid0.coords t) y)
    (ValueIdx.ix2 ⟨1024 * (t.val / 2) + ((cfg0.win 2).xinj (grid0.coords t) y 0).val, by omega⟩ ((cfg0.win 2).xinj (grid0.coords t) y 1)) rfl (Nat.zero_add _).symm).trans ?_
  refine (putRows_of_mem _ _ _ _ ?_ ?_).symm
  · refine (Window.rect_emb_val win0_2 t y 0).trans ?_
    rw [(idx_val t).2.2]
    show (1 + t.val / 2) * 1024 + (y 0).val = 1024 + (1024 * (t.val / 2) + (y 0).val)
    omega
  · refine (Window.rect_emb_val win0_2 t y 1).trans ?_
    rw [(idx_val t).2.2]
    exact (congrArg (· + (y 1).val) (Nat.zero_mul 1024)).trans (Nat.zero_add _)

/-- Which places of the result a point writes. -/
theorem mem_blk (t : Fin cfg0.N) (i : S4096x1024.Idx) : i ∈ ((cfg0.win 2).blk t).view.set ↔ (i 0).val / 1024 = 1 + t.val / 2 := by
  show i ∈ ((View.whole main_v0).slice (win0_2.rect t)).set ↔ _
  rw [View.set_slice_whole, Rect.mem_set_unit]
  have h1 : (i 1).val < 1024 := (i 1).isLt
  constructor
  · intro h
    have h0 : win0_2.index t 0 * 1024 ≤ (i 0).val ∧ (i 0).val < win0_2.index t 0 * 1024 + 1024 := h 0
    rw [(idx_val t).2.2] at h0
    have h0 : (1 + t.val / 2) * 1024 ≤ (i 0).val ∧ (i 0).val < (1 + t.val / 2) * 1024 + 1024 := h0
    omega
  · intro h a
    show win0_2.index t a * S1024x1024.size a ≤ (i a).val ∧ (i a).val < win0_2.index t a * S1024x1024.size a + S1024x1024.size a
    rw [(idx_val t).2.2]
    match a with
    | ⟨0, _⟩ => exact mem_block i h (Nat.div_eq_of_lt h1) 0
    | ⟨1, _⟩ => exact mem_block i h (Nat.div_eq_of_lt h1) 1

/-- The array after the run. -/
theorem final : (dats m 0 c).arrAt 2 cfg0.N = result m c := by
  funext i
  by_cases h : 1024 ≤ (i 0).val ∧ (i 0).val < 1024 + 3072
  · obtain ⟨t, ho, hq⟩ : ∃ t : Fin cfg0.N, t.val % 2 = 1 ∧ (i 0).val / 1024 = 1 + t.val / 2 := by
      have ht : 2 * ((i 0).val / 1024 - 1) + 1 < cfg0.N := lt_of_lt_of_eq (b := 6) (by omega) N_0.symm
      exact ⟨⟨_, ht⟩, by show (2 * ((i 0).val / 1024 - 1) + 1) % 2 = 1; omega, by show _ = 1 + (2 * ((i 0).val / 1024 - 1) + 1) / 2; omega⟩
    exact (dats m 0 c).arrAt_apply_of_mem 2 _ (flushed m c) cfg0.N t i t.isLt ((flush0_2 t).mpr ho) ((mem_blk t i).mpr hq)
  · refine (Value.entry2 m c i fun t _ hi => h ?_).trans (putRows_of_not_mem _ _ i h).symm
    have hq := (mem_blk t i).mp hi
    have hN : t.val < 6 := lt_of_lt_of_eq t.isLt N_0
    omega

end

section
open Cert.InWGlReferenceIdeal.Read

/-- The reference's product. -/
theorem product_eq (d : Mat 4096 3072) (u : Mat 4096 1024) : val_main_v8 (F := Ideal) d u = tmul 3072 4096 1024 d u := by
  funext i
  refine (val_main_v8_apply (F := Ideal) d u i).trans ((val_main_v7_apply (F := Ideal) d u _).trans ((val_main_v6_apply d u _).trans (Finset.sum_congr rfl fun k _ => ?_)))
  rw [val_main_v1_apply (F := Ideal), val_main_v2_apply (F := Ideal)]
  refine congrArg₂ (fun p q : EReal => p * q) (congrArg d ?_) (congrArg u ?_) <;>
  · funext r
    match r with
    | ⟨0, _⟩ => rfl
    | ⟨1, _⟩ => rfl

/-- The reference's rows above the segment are the buffer's. -/
theorem above (b : Mat 4096 1024) : IsBlock b 0 0 (val_main_v0 (F := Ideal) b : Mat 1024 1024) :=
  isBlock_at idx_main_v0 (fun i => val_main_v0_apply (F := Ideal) b i) (fun i => (Nat.zero_add _).symm) (fun i => (Nat.zero_add _).symm)

/-- The reference puts the product in its rows of the buffer. -/
theorem ref_eq (d : Mat 4096 3072) (u : Mat 4096 1024) (b : Mat 4096 1024) :
    val_main_v9 (F := Ideal) d u b = putRows 1024 3072 b (tmul 3072 4096 1024 d u) := by
  have hx := above b
  unfold val_main_v9
  rw [product_eq]
  generalize val_main_v0 (F := Ideal) b = x at hx ⊢
  exact join_below _ rfl hx

end

/-- The kernel's result is the reference's. -/
theorem values : Cert.algebraic_InWGlIdeal_InWGlReferenceIdeal := by
  intro m ρ m' ρ' _ hm
  refine ⟨fun c => result m c, ?_, ?_⟩
  · exact (θ_run defs _ _).mono (fun r h c => ⟨(h c).1.trans (final m c), (h c).2⟩) (Value.run_blocks m ρ)
  · refine (θ_run Cert.InWGlReferenceIdeal.defs _ _).mono (fun r h c => ⟨(h c).1.trans ?_, (h c).2⟩) (Cert.InWGlReferenceIdeal.Value.run m' ρ')
    refine (Cert.InWGlReferenceIdeal.Read.val_main_v9_eq (F := Ideal) _ _ _).symm.trans ?_
    rw [(hm c).1, (hm c).2.1, (hm c).2.2]
    exact ref_eq _ _ _

theorem frame_ref : Cert.quiescent_InWGlReferenceIdeal := fun m ρ _ =>
  (θ_run Cert.InWGlReferenceIdeal.defs _ _).mono (fun r h => ⟨fun c => (h c).2, sem_eq_zero_of_no_sems (by decide) r.2⟩) (Cert.InWGlReferenceIdeal.Value.run m ρ)

end Cert.Products.InWGl
-- ==== Proof.InQkv.lean ====
module

public import proofs.«01_k».proof.Defs
public import proofs.«01_k».proof.Proof.Segment
public import proofs.«01_k».proof.Proof.Gen.InQkvIdeal
public import proofs.«01_k».proof.Proof.Gen.InQkvIdeal.Frame
public import proofs.«01_k».proof.Proof.Gen.InQkvIdeal.Value
public import proofs.«01_k».proof.Proof.Gen.InQkvReferenceIdeal
public import proofs.«01_k».proof.Proof.Gen.InQkvReferenceIdeal.Run
public import proofs.«01_k».proof.Proof.Gen.InQkvReferenceIdeal.Read

@[expose] public section

set_option maxRecDepth 16384

noncomputable section

/-! The input projection: queries, keys and values. -/

namespace Cert.Products.InQkv

open Cert.InQkvIdeal Cert.InQkvIdeal.Gen
open Idealize.ShloMosaic Idealize.ShloMosaic.TcCoe
open Idealize.ShloMosaic.Pipeline (Window)

/-- The segment's rows of the weight. -/
def rows (w : Mat 12320 1024) : Mat 3072 1024 := cutRows 0 3072 (by omega) w

/-- Which block of each array a point of the grid holds. -/
theorem idx_val : ∀ t : Fin cfg0.N, win0_0.index t = ![t.val / 3, 0] ∧ win0_1.index t = ![0 + t.val % 3, 0] ∧ win0_2.index t = ![t.val / 3, t.val % 3] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .bf16) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq (φ := .bf16) (ψ := .bf16) 1024 1024 1024 none x y

section
variable (m : (ℓ : Loc nD τ sig) → Buf (Elt Ideal) ℓ) (c : Dev nD)

theorem blk0 (t : Fin cfg0.N) : IsBlock (V m c main_arg0 : Mat 4096 1024) (1024 * (t.val / 3)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 3)) (1024 * 0) (X0_1 m c t : Mat 1024 1024) := by
  have h : IsBlock (V m c main_arg1 : Mat 12320 1024) (1024 * (0 + t.val % 3)) (1024 * 0) (X0_1 m c t : Mat 1024 1024) :=
    isBlock_of (fun j => (win0_1.rect t).emb fun a => ⟨(j a).val, (win0_1.moved_iff _ j).mp (moved0_1 t j) a⟩) (fun j => dif_pos (moved0_1 t j))
      (fun j => (Window.rect_emb_val win0_1 t _ 0).trans (congrArg (· + (j 0).val) (congrArg (· * 1024) (congrFun (idx_val t).2.1 0))))
      (fun j => (Window.rect_emb_val win0_1 t _ 1).trans (congrArg (· + (j 1).val) (congrArg (· * 1024) (congrFun (idx_val t).2.1 1))))
  rw [Nat.mul_add] at h
  exact isBlock_cutRows _ h

theorem cover (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  obtain ⟨t, hq, hr⟩ : ∃ t : Fin cfg0.N, (i 0).val / 1024 = t.val / 3 ∧ (i 1).val / 1024 = t.val % 3 := by
    have ht : 3 * ((i 0).val / 1024) + (i 1).val / 1024 < cfg0.N := lt_of_lt_of_eq (b := 12) (by omega) N_0.symm
    exact ⟨⟨3 * ((i 0).val / 1024) + (i 1).val / 1024, ht⟩, by show _ = (3 * ((i 0).val / 1024) + (i 1).val / 1024) / 3; omega, by show _ = (3 * ((i 0).val / 1024) + (i 1).val / 1024) % 3; omega⟩
  refine ⟨t, flush0_2 _, ?_⟩
  show i ∈ ((View.whole main_v0).slice (win0_2.rect t)).set
  rw [View.set_slice_whole, Rect.mem_set_unit]
  intro a
  show win0_2.index t a * S1024x1024.size a ≤ (i a).val ∧ (i a).val < win0_2.index t a * S1024x1024.size a + S1024x1024.size a
  rw [(idx_val t).2.2]
  match a with
  | ⟨0, _⟩ => exact mem_block i hq hr 0
  | ⟨1, _⟩ => exact mem_block i hq hr 1

/-- The array after the run. -/
theorem final : (dats m 0 c).arrAt 2 cfg0.N = (mulT 4096 1024 3072 (V m c main_arg0) (rows (V m c main_arg1)) : Mat 4096 3072) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.mul_comm _ 1024)

end

open Cert.InQkvReferenceIdeal.Read in
/-- The reference's product. -/
theorem ref_eq (u : Mat 4096 1024) (w : Mat 12320 1024) : val_main_v5 (F := Ideal) u w = mulT 4096 1024 3072 u (rows w) := by
  funext i
  refine (val_main_v5_apply (F := Ideal) u w i).trans ?_
  refine (val_main_v4_apply u w i).trans (Finset.sum_congr rfl fun k _ => ?_)
  rw [val_main_v1_apply (F := Ideal), val_main_v3_apply (F := Ideal), val_main_v2_apply (F := Ideal), val_main_v0_apply (F := Ideal)]
  refine congrArg₂ (fun p q : EReal => p * q) (congrArg u ?_) (congrArg w ?_) <;>
  · funext r
    apply Fin.ext
    match r with
    | ⟨0, _⟩ => simp [ValueIdx.ix2]
    | ⟨1, _⟩ => rfl

/-- The kernel's result is the reference's. -/
theorem values : Cert.algebraic_InQkvIdeal_InQkvReferenceIdeal := by
  intro m ρ m' ρ' _ hm
  refine ⟨fun c => mulT 4096 1024 3072 (V m c main_arg0) (rows (V m c main_arg1)), ?_, ?_⟩
  · exact (θ_run defs _ _).mono (fun r h c => ⟨(h c).1.trans (final m c), (h c).2⟩) (Value.run_blocks m ρ)
  · refine (θ_run Cert.InQkvReferenceIdeal.defs _ _).mono (fun r h c => ⟨(h c).1.trans ?_, (h c).2⟩) (Cert.InQkvReferenceIdeal.Value.run m' ρ')
    refine (Cert.InQkvReferenceIdeal.Read.val_main_v5_eq (F := Ideal) _ _).trans ((ref_eq _ _).trans ?_)
    exact congrArg₂ (fun p q => mulT 4096 1024 3072 p (rows q)) (hm c).1 (hm c).2

theorem frame_ref : Cert.quiescent_InQkvReferenceIdeal := fun m ρ _ =>
  (θ_run Cert.InQkvReferenceIdeal.defs _ _).mono (fun r h => ⟨fun c => (h c).2, sem_eq_zero_of_no_sems (by decide) r.2⟩) (Cert.InQkvReferenceIdeal.Value.run m ρ)

end Cert.Products.InQkv
-- ==== Proof.InZ.lean ====
module

public import proofs.«01_k».proof.Defs
public import proofs.«01_k».proof.Proof.Segment
public import proofs.«01_k».proof.Proof.Gen.InZIdeal
public import proofs.«01_k».proof.Proof.Gen.InZIdeal.Frame
public import proofs.«01_k».proof.Proof.Gen.InZIdeal.Value
public import proofs.«01_k».proof.Proof.Gen.InZReferenceIdeal
public import proofs.«01_k».proof.Proof.Gen.InZReferenceIdeal.Run
public import proofs.«01_k».proof.Proof.Gen.InZReferenceIdeal.Read

@[expose] public section

set_option maxRecDepth 16384

noncomputable section

/-! The input projection: the state-space layer's gate. -/

namespace Cert.Products.InZ

open Cert.InZIdeal Cert.InZIdeal.Gen
open Idealize.ShloMosaic Idealize.ShloMosaic.TcCoe
open Idealize.ShloMosaic.Pipeline (Window)

/-- The segment's rows of the weight. -/
def rows (w : Mat 12320 1024) : Mat 2048 1024 := cutRows 3072 2048 (by omega) w

/-- Which block of each array a point of the grid holds. -/
theorem idx_val : ∀ t : Fin cfg0.N, win0_0.index t = ![t.val / 2, 0] ∧ win0_1.index t = ![3 + t.val % 2, 0] ∧ win0_2.index t = ![t.val / 2, t.val % 2] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .f32) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq 1024 1024 1024 none x y

section
variable (m : (ℓ : Loc nD τ sig) → Buf (Elt Ideal) ℓ) (c : Dev nD)

theorem blk0 (t : Fin cfg0.N) : IsBlock (V m c main_arg0 : Mat 4096 1024) (1024 * (t.val / 2)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 2)) (1024 * 0) (X0_1 m c t : Mat 1024 1024) := by
  have h : IsBlock (V m c main_arg1 : Mat 12320 1024) (1024 * (3 + t.val % 2)) (1024 * 0) (X0_1 m c t : Mat 1024 1024) :=
    isBlock_of (fun j => (win0_1.rect t).emb fun a => ⟨(j a).val, (win0_1.moved_iff _ j).mp (moved0_1 t j) a⟩) (fun j => dif_pos (moved0_1 t j))
      (fun j => (Window.rect_emb_val win0_1 t _ 0).trans (congrArg (· + (j 0).val) (congrArg (· * 1024) (congrFun (idx_val t).2.1 0))))
      (fun j => (Window.rect_emb_val win0_1 t _ 1).trans (congrArg (· + (j 1).val) (congrArg (· * 1024) (congrFun (idx_val t).2.1 1))))
  rw [Nat.mul_add] at h
  exact isBlock_cutRows _ h

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, hq, hr⟩ : ∃ t : Fin cfg0.N, (i 0).val / 1024 = t.val / 2 ∧ (i 1).val / 1024 = t.val % 2 := by
    have ht : 2 * ((i 0).val / 1024) + (i 1).val / 1024 < cfg0.N := lt_of_lt_of_eq (b := 8) (by omega) N_0.symm
    exact ⟨⟨2 * ((i 0).val / 1024) + (i 1).val / 1024, ht⟩, by show _ = (2 * ((i 0).val / 1024) + (i 1).val / 1024) / 2; omega, by show _ = (2 * ((i 0).val / 1024) + (i 1).val / 1024) % 2; omega⟩
  refine ⟨t, flush0_2 _, ?_⟩
  show i ∈ ((View.whole main_v0).slice (win0_2.rect t)).set
  rw [View.set_slice_whole, Rect.mem_set_unit]
  intro a
  show win0_2.index t a * S1024x1024.size a ≤ (i a).val ∧ (i a).val < win0_2.index t a * S1024x1024.size a + S1024x1024.size a
  rw [(idx_val t).2.2]
  match a with
  | ⟨0, _⟩ => exact mem_block i hq hr 0
  | ⟨1, _⟩ => exact mem_block i hq hr 1

/-- The array after the run. -/
theorem final : (dats m 0 c).arrAt 2 cfg0.N = (mulT 4096 1024 2048 (V m c main_arg0) (rows (V m c main_arg1)) : Mat 4096 2048) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.mul_comm _ 1024)

end

open Cert.InZReferenceIdeal.Read in
/-- The reference's product. -/
theorem ref_eq (u : Mat 4096 1024) (w : Mat 12320 1024) : val_main_v4 (F := Ideal) u w = mulT 4096 1024 2048 u (rows w) := by
  funext i
  refine (val_main_v4_apply u w i).trans (Finset.sum_congr rfl fun k _ => ?_)
  rw [val_main_v1_apply (F := Ideal), val_main_v3_apply (F := Ideal), val_main_v2_apply (F := Ideal), val_main_v0_apply (F := Ideal)]
  refine congrArg₂ (fun p q : EReal => p * q) (congrArg u ?_) (congrArg w ?_) <;>
  · funext r
    apply Fin.ext
    match r with
    | ⟨0, _⟩ => simp [ValueIdx.ix2]
    | ⟨1, _⟩ => rfl

/-- The kernel's result is the reference's. -/
theorem values : Cert.algebraic_InZIdeal_InZReferenceIdeal := by
  intro m ρ m' ρ' _ hm
  refine ⟨fun c => mulT 4096 1024 2048 (V m c main_arg0) (rows (V m c main_arg1)), ?_, ?_⟩
  · exact (θ_run defs _ _).mono (fun r h c => ⟨(h c).1.trans (final m c), (h c).2⟩) (Value.run_blocks m ρ)
  · refine (θ_run Cert.InZReferenceIdeal.defs _ _).mono (fun r h c => ⟨(h c).1.trans ?_, (h c).2⟩) (Cert.InZReferenceIdeal.Value.run m' ρ')
    refine (Cert.InZReferenceIdeal.Read.val_main_v4_eq (F := Ideal) _ _).trans ((ref_eq _ _).trans ?_)
    exact congrArg₂ (fun p q => mulT 4096 1024 2048 p (rows q)) (hm c).1 (hm c).2

theorem frame_ref : Cert.quiescent_InZReferenceIdeal := fun m ρ _ =>
  (θ_run Cert.InZReferenceIdeal.defs _ _).mono (fun r h => ⟨fun c => (h c).2, sem_eq_zero_of_no_sems (by decide) r.2⟩) (Cert.InZReferenceIdeal.Value.run m ρ)

end Cert.Products.InZ
-- ==== Proof.InXbc.lean ====
module

public import proofs.«01_k».proof.Defs
public import proofs.«01_k».proof.Proof.Segment
public import proofs.«01_k».proof.Proof.Gen.InXbcIdeal
public import proofs.«01_k».proof.Proof.Gen.InXbcIdeal.Frame
public import proofs.«01_k».proof.Proof.Gen.InXbcIdeal.Value
public import proofs.«01_k».proof.Proof.Gen.InXbcReferenceIdeal
public import proofs.«01_k».proof.Proof.Gen.InXbcReferenceIdeal.Run
public import proofs.«01_k».proof.Proof.Gen.InXbcReferenceIdeal.Read

@[expose] public section

set_option maxRecDepth 16384

noncomputable section

/-! The input projection: the convolution's inputs. -/

namespace Cert.Products.InXbc

open Cert.InXbcIdeal Cert.InXbcIdeal.Gen
open Idealize.ShloMosaic Idealize.ShloMosaic.TcCoe
open Idealize.ShloMosaic.Pipeline (Window)

/-- The segment's rows of the weight. -/
def rows (w : Mat 12320 1024) : Mat 3072 1024 := cutRows 5120 3072 (by omega) w

/-- Which block of each array a point of the grid holds. -/
theorem idx_val : ∀ t : Fin cfg0.N, win0_0.index t = ![t.val / 3, 0] ∧ win0_1.index t = ![5 + t.val % 3, 0] ∧ win0_2.index t = ![t.val / 3, t.val % 3] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .f32) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq 1024 1024 1024 none x y

section
variable (m : (ℓ : Loc nD τ sig) → Buf (Elt Ideal) ℓ) (c : Dev nD)

theorem blk0 (t : Fin cfg0.N) : IsBlock (V m c main_arg0 : Mat 4096 1024) (1024 * (t.val / 3)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 3)) (1024 * 0) (X0_1 m c t : Mat 1024 1024) := by
  have h : IsBlock (V m c main_arg1 : Mat 12320 1024) (1024 * (5 + t.val % 3)) (1024 * 0) (X0_1 m c t : Mat 1024 1024) :=
    isBlock_of (fun j => (win0_1.rect t).emb fun a => ⟨(j a).val, (win0_1.moved_iff _ j).mp (moved0_1 t j) a⟩) (fun j => dif_pos (moved0_1 t j))
      (fun j => (Window.rect_emb_val win0_1 t _ 0).trans (congrArg (· + (j 0).val) (congrArg (· * 1024) (congrFun (idx_val t).2.1 0))))
      (fun j => (Window.rect_emb_val win0_1 t _ 1).trans (congrArg (· + (j 1).val) (congrArg (· * 1024) (congrFun (idx_val t).2.1 1))))
  rw [Nat.mul_add] at h
  exact isBlock_cutRows _ h

theorem cover (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  obtain ⟨t, hq, hr⟩ : ∃ t : Fin cfg0.N, (i 0).val / 1024 = t.val / 3 ∧ (i 1).val / 1024 = t.val % 3 := by
    have ht : 3 * ((i 0).val / 1024) + (i 1).val / 1024 < cfg0.N := lt_of_lt_of_eq (b := 12) (by omega) N_0.symm
    exact ⟨⟨3 * ((i 0).val / 1024) + (i 1).val / 1024, ht⟩, by show _ = (3 * ((i 0).val / 1024) + (i 1).val / 1024) / 3; omega, by show _ = (3 * ((i 0).val / 1024) + (i 1).val / 1024) % 3; omega⟩
  refine ⟨t, flush0_2 _, ?_⟩
  show i ∈ ((View.whole main_v0).slice (win0_2.rect t)).set
  rw [View.set_slice_whole, Rect.mem_set_unit]
  intro a
  show win0_2.index t a * S1024x1024.size a ≤ (i a).val ∧ (i a).val < win0_2.index t a * S1024x1024.size a + S1024x1024.size a
  rw [(idx_val t).2.2]
  match a with
  | ⟨0, _⟩ => exact mem_block i hq hr 0
  | ⟨1, _⟩ => exact mem_block i hq hr 1

/-- The array after the run. -/
theorem final : (dats m 0 c).arrAt 2 cfg0.N = (mulT 4096 1024 3072 (V m c main_arg0) (rows (V m c main_arg1)) : Mat 4096 3072) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.mul_comm _ 1024)

end

open Cert.InXbcReferenceIdeal.Read in
/-- The reference's product. -/
theorem ref_eq (u : Mat 4096 1024) (w : Mat 12320 1024) : val_main_v4 (F := Ideal) u w = mulT 4096 1024 3072 u (rows w) := by
  funext i
  refine (val_main_v4_apply u w i).trans (Finset.sum_congr rfl fun k _ => ?_)
  rw [val_main_v1_apply (F := Ideal), val_main_v3_apply (F := Ideal), val_main_v2_apply (F := Ideal), val_main_v0_apply (F := Ideal)]
  refine congrArg₂ (fun p q : EReal => p * q) (congrArg u ?_) (congrArg w ?_) <;>
  · funext r
    apply Fin.ext
    match r with
    | ⟨0, _⟩ => simp [ValueIdx.ix2]
    | ⟨1, _⟩ => rfl

/-- The kernel's result is the reference's. -/
theorem values : Cert.algebraic_InXbcIdeal_InXbcReferenceIdeal := by
  intro m ρ m' ρ' _ hm
  refine ⟨fun c => mulT 4096 1024 3072 (V m c main_arg0) (rows (V m c main_arg1)), ?_, ?_⟩
  · exact (θ_run defs _ _).mono (fun r h c => ⟨(h c).1.trans (final m c), (h c).2⟩) (Value.run_blocks m ρ)
  · refine (θ_run Cert.InXbcReferenceIdeal.defs _ _).mono (fun r h c => ⟨(h c).1.trans ?_, (h c).2⟩) (Cert.InXbcReferenceIdeal.Value.run m' ρ')
    refine (Cert.InXbcReferenceIdeal.Read.val_main_v4_eq (F := Ideal) _ _).trans ((ref_eq _ _).trans ?_)
    exact congrArg₂ (fun p q => mulT 4096 1024 3072 p (rows q)) (hm c).1 (hm c).2

theorem frame_ref : Cert.quiescent_InXbcReferenceIdeal := fun m ρ _ =>
  (θ_run Cert.InXbcReferenceIdeal.defs _ _).mono (fun r h => ⟨fun c => (h c).2, sem_eq_zero_of_no_sems (by decide) r.2⟩) (Cert.InXbcReferenceIdeal.Value.run m ρ)

end Cert.Products.InXbc
-- ==== Proof.InMq.lean ====
module

public import proofs.«01_k».proof.Defs
public import proofs.«01_k».proof.Proof.Segment
public import proofs.«01_k».proof.Proof.Gen.InMqIdeal
public import proofs.«01_k».proof.Proof.Gen.InMqIdeal.Frame
public import proofs.«01_k».proof.Proof.Gen.InMqIdeal.Value
public import proofs.«01_k».proof.Proof.Gen.InMqReferenceIdeal
public import proofs.«01_k».proof.Proof.Gen.InMqReferenceIdeal.Run
public import proofs.«01_k».proof.Proof.Gen.InMqReferenceIdeal.Read

@[expose] public section

set_option maxRecDepth 16384

noncomputable section

/-! The input projection: the memory queries. -/

namespace Cert.Products.InMq

open Cert.InMqIdeal Cert.InMqIdeal.Gen
open Idealize.ShloMosaic Idealize.ShloMosaic.TcCoe
open Idealize.ShloMosaic.Pipeline (Window)

/-- The segment's rows of the weight. -/
def rows (w : Mat 4096 1024) : Mat 1024 1024 := cutRows 0 1024 (by omega) w

/-- Which block of each array a point of the grid holds. -/
theorem idx_val : ∀ t : Fin cfg0.N, win0_0.index t = ![t.val, 0] ∧ win0_1.index t = ![0 + 0, 0] ∧ win0_2.index t = ![t.val, 0] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .bf16) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq (φ := .bf16) (ψ := .bf16) 1024 1024 1024 none x y

section
variable (m : (ℓ : Loc nD τ sig) → Buf (Elt Ideal) ℓ) (c : Dev nD)

theorem blk0 (t : Fin cfg0.N) : IsBlock (V m c main_arg0 : Mat 4096 1024) (1024 * (t.val)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (0)) (1024 * 0) (iblk m c 1 t : Mat 1024 1024) := by
  have h : IsBlock (V m c main_arg1 : Mat 4096 1024) (1024 * (0 + 0)) (1024 * 0) (iblk m c 1 t : Mat 1024 1024) :=
    isBlock_of _ (fun _ => rfl) (fun j => (Window.rect_emb_val win0_1 t j 0).trans (congrArg (· + (j 0).val) (congrArg (· * 1024) (congrFun (idx_val t).2.1 0))))
      (fun j => (Window.rect_emb_val win0_1 t j 1).trans (congrArg (· + (j 1).val) (congrArg (· * 1024) (congrFun (idx_val t).2.1 1))))
  rw [Nat.mul_add] at h
  exact isBlock_cutRows _ h

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  obtain ⟨t, hq, hr⟩ : ∃ t : Fin cfg0.N, (i 0).val / 1024 = t.val ∧ (i 1).val / 1024 = 0 := by
    have ht : (i 0).val / 1024 < cfg0.N := lt_of_lt_of_eq (b := 4) (by omega) N_0.symm
    exact ⟨⟨(i 0).val / 1024, ht⟩, by show _ = ((i 0).val / 1024); omega, by show _ = 0; omega⟩
  refine ⟨t, flush0_2 _, ?_⟩
  show i ∈ ((View.whole main_v0).slice (win0_2.rect t)).set
  rw [View.set_slice_whole, Rect.mem_set_unit]
  intro a
  show win0_2.index t a * S1024x1024.size a ≤ (i a).val ∧ (i a).val < win0_2.index t a * S1024x1024.size a + S1024x1024.size a
  rw [(idx_val t).2.2]
  match a with
  | ⟨0, _⟩ => exact mem_block i hq hr 0
  | ⟨1, _⟩ => exact mem_block i hq hr 1

/-- The array after the run. -/
theorem final : (dats m 0 c).arrAt 2 cfg0.N = (mulT 4096 1024 1024 (V m c main_arg0) (rows (V m c main_arg1)) : Mat 4096 1024) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.mul_comm _ 1024)

end

open Cert.InMqReferenceIdeal.Read in
/-- The reference's product. -/
theorem ref_eq (u : Mat 4096 1024) (w : Mat 4096 1024) : val_main_v5 (F := Ideal) u w = mulT 4096 1024 1024 u (rows w) := by
  funext i
  refine (val_main_v5_apply (F := Ideal) u w i).trans ?_
  refine (val_main_v4_apply u w i).trans (Finset.sum_congr rfl fun k _ => ?_)
  rw [val_main_v1_apply (F := Ideal), val_main_v3_apply (F := Ideal), val_main_v2_apply (F := Ideal), val_main_v0_apply (F := Ideal)]
  refine congrArg₂ (fun p q : EReal => p * q) (congrArg u ?_) (congrArg w ?_) <;>
  · funext r
    apply Fin.ext
    match r with
    | ⟨0, _⟩ => simp [ValueIdx.ix2]
    | ⟨1, _⟩ => rfl

/-- The kernel's result is the reference's. -/
theorem values : Cert.algebraic_InMqIdeal_InMqReferenceIdeal := by
  intro m ρ m' ρ' _ hm
  refine ⟨fun c => mulT 4096 1024 1024 (V m c main_arg0) (rows (V m c main_arg1)), ?_, ?_⟩
  · exact (θ_run defs _ _).mono (fun r h c => ⟨(h c).1.trans (final m c), (h c).2⟩) (Value.run_blocks m ρ)
  · refine (θ_run Cert.InMqReferenceIdeal.defs _ _).mono (fun r h c => ⟨(h c).1.trans ?_, (h c).2⟩) (Cert.InMqReferenceIdeal.Value.run m' ρ')
    refine (Cert.InMqReferenceIdeal.Read.val_main_v5_eq (F := Ideal) _ _).trans ((ref_eq _ _).trans ?_)
    exact congrArg₂ (fun p q => mulT 4096 1024 1024 p (rows q)) (hm c).1 (hm c).2

theorem frame_ref : Cert.quiescent_InMqReferenceIdeal := fun m ρ _ =>
  (θ_run Cert.InMqReferenceIdeal.defs _ _).mono (fun r h => ⟨fun c => (h c).2, sem_eq_zero_of_no_sems (by decide) r.2⟩) (Cert.InMqReferenceIdeal.Value.run m ρ)

end Cert.Products.InMq
-- ==== Proof.InGl.lean ====
module

public import proofs.«01_k».proof.Defs
public import proofs.«01_k».proof.Proof.Segment
public import proofs.«01_k».proof.Proof.Gen.InGlIdeal
public import proofs.«01_k».proof.Proof.Gen.InGlIdeal.Frame
public import proofs.«01_k».proof.Proof.Gen.InGlIdeal.Value
public import proofs.«01_k».proof.Proof.Gen.InGlReferenceIdeal
public import proofs.«01_k».proof.Proof.Gen.InGlReferenceIdeal.Run
public import proofs.«01_k».proof.Proof.Gen.InGlReferenceIdeal.Read

@[expose] public section

set_option maxRecDepth 16384

noncomputable section

/-! The input projection: the gates. -/

namespace Cert.Products.InGl

open Cert.InGlIdeal Cert.InGlIdeal.Gen
open Idealize.ShloMosaic Idealize.ShloMosaic.TcCoe
open Idealize.ShloMosaic.Pipeline (Window)

/-- The segment's rows of the weight. -/
def rows (w : Mat 4096 1024) : Mat 3072 1024 := cutRows 1024 3072 (by omega) w

/-- Which block of each array a point of the grid holds. -/
theorem idx_val : ∀ t : Fin cfg0.N, win0_0.index t = ![t.val / 3, 0] ∧ win0_1.index t = ![1 + t.val % 3, 0] ∧ win0_2.index t = ![t.val / 3, t.val % 3] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .f32) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq 1024 1024 1024 none x y

section
variable (m : (ℓ : Loc nD τ sig) → Buf (Elt Ideal) ℓ) (c : Dev nD)

theorem blk0 (t : Fin cfg0.N) : IsBlock (V m c main_arg0 : Mat 4096 1024) (1024 * (t.val / 3)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (rows (V m c main_arg1)) (1024 * (t.val % 3)) (1024 * 0) (iblk m c 1 t : Mat 1024 1024) := by
  have h : IsBlock (V m c main_arg1 : Mat 4096 1024) (1024 * (1 + t.val % 3)) (1024 * 0) (iblk m c 1 t : Mat 1024 1024) :=
    isBlock_of _ (fun _ => rfl) (fun j => (Window.rect_emb_val win0_1 t j 0).trans (congrArg (· + (j 0).val) (congrArg (· * 1024) (congrFun (idx_val t).2.1 0))))
      (fun j => (Window.rect_emb_val win0_1 t j 1).trans (congrArg (· + (j 1).val) (congrArg (· * 1024) (congrFun (idx_val t).2.1 1))))
  rw [Nat.mul_add] at h
  exact isBlock_cutRows _ h

theorem cover (i : S4096x3072.Idx) : ∃ t : Fin cfg0.N, (cfg0.win 2).flush t = true ∧ i ∈ ((cfg0.win 2).blk t).view.set := by
  have h0 : (i 0).val < 4096 := (i 0).isLt
  have h1 : (i 1).val < 3072 := (i 1).isLt
  obtain ⟨t, hq, hr⟩ : ∃ t : Fin cfg0.N, (i 0).val / 1024 = t.val / 3 ∧ (i 1).val / 1024 = t.val % 3 := by
    have ht : 3 * ((i 0).val / 1024) + (i 1).val / 1024 < cfg0.N := lt_of_lt_of_eq (b := 12) (by omega) N_0.symm
    exact ⟨⟨3 * ((i 0).val / 1024) + (i 1).val / 1024, ht⟩, by show _ = (3 * ((i 0).val / 1024) + (i 1).val / 1024) / 3; omega, by show _ = (3 * ((i 0).val / 1024) + (i 1).val / 1024) % 3; omega⟩
  refine ⟨t, flush0_2 _, ?_⟩
  show i ∈ ((View.whole main_v0).slice (win0_2.rect t)).set
  rw [View.set_slice_whole, Rect.mem_set_unit]
  intro a
  show win0_2.index t a * S1024x1024.size a ≤ (i a).val ∧ (i a).val < win0_2.index t a * S1024x1024.size a + S1024x1024.size a
  rw [(idx_val t).2.2]
  match a with
  | ⟨0, _⟩ => exact mem_block i hq hr 0
  | ⟨1, _⟩ => exact mem_block i hq hr 1

/-- The array after the run. -/
theorem final : (dats m 0 c).arrAt 2 cfg0.N = (mulT 4096 1024 3072 (V m c main_arg0) (rows (V m c main_arg1)) : Mat 4096 3072) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.mul_comm _ 1024)

end

open Cert.InGlReferenceIdeal.Read in
/-- The reference's product. -/
theorem ref_eq (u : Mat 4096 1024) (w : Mat 4096 1024) : val_main_v4 (F := Ideal) u w = mulT 4096 1024 3072 u (rows w) := by
  funext i
  refine (val_main_v4_apply u w i).trans (Finset.sum_congr rfl fun k _ => ?_)
  rw [val_main_v1_apply (F := Ideal), val_main_v3_apply (F := Ideal), val_main_v2_apply (F := Ideal), val_main_v0_apply (F := Ideal)]
  refine congrArg₂ (fun p q : EReal => p * q) (congrArg u ?_) (congrArg w ?_) <;>
  · funext r
    apply Fin.ext
    match r with
    | ⟨0, _⟩ => simp [ValueIdx.ix2]
    | ⟨1, _⟩ => rfl

/-- The kernel's result is the reference's. -/
theorem values : Cert.algebraic_InGlIdeal_InGlReferenceIdeal := by
  intro m ρ m' ρ' _ hm
  refine ⟨fun c => mulT 4096 1024 3072 (V m c main_arg0) (rows (V m c main_arg1)), ?_, ?_⟩
  · exact (θ_run defs _ _).mono (fun r h c => ⟨(h c).1.trans (final m c), (h c).2⟩) (Value.run_blocks m ρ)
  · refine (θ_run Cert.InGlReferenceIdeal.defs _ _).mono (fun r h c => ⟨(h c).1.trans ?_, (h c).2⟩) (Cert.InGlReferenceIdeal.Value.run m' ρ')
    refine (Cert.InGlReferenceIdeal.Read.val_main_v4_eq (F := Ideal) _ _).trans ((ref_eq _ _).trans ?_)
    exact congrArg₂ (fun p q => mulT 4096 1024 3072 p (rows q)) (hm c).1 (hm c).2

theorem frame_ref : Cert.quiescent_InGlReferenceIdeal := fun m ρ _ =>
  (θ_run Cert.InGlReferenceIdeal.defs _ _).mono (fun r h => ⟨fun c => (h c).2, sem_eq_zero_of_no_sems (by decide) r.2⟩) (Cert.InGlReferenceIdeal.Value.run m ρ)

end Cert.Products.InGl
-- ==== Proof.OutX.lean ====
module

public import proofs.«01_k».proof.Defs
public import proofs.«01_k».proof.Proof.Segment
public import proofs.«01_k».proof.Proof.Gen.OutXIdeal
public import proofs.«01_k».proof.Proof.Gen.OutXIdeal.Frame
public import proofs.«01_k».proof.Proof.Gen.OutXIdeal.Value
public import proofs.«01_k».proof.Proof.Gen.OutXReferenceIdeal
public import proofs.«01_k».proof.Proof.Gen.OutXReferenceIdeal.Run
public import proofs.«01_k».proof.Proof.Gen.OutXReferenceIdeal.Read

@[expose] public section

set_option maxRecDepth 16384

noncomputable section

/-! The input gradient of the output projections with a weight of 1024 rows. -/

namespace Cert.Products.OutX

open Cert.OutXIdeal Cert.OutXIdeal.Gen
open Idealize.ShloMosaic Idealize.ShloMosaic.TcCoe
open Idealize.ShloMosaic.Pipeline (Window)

/-- Which block of each array a point of the grid holds. -/
theorem idx_val : ∀ t : Fin cfg0.N, win0_0.index t = ![t.val, 0] ∧ win0_1.index t = ![0, 0] ∧ win0_2.index t = ![t.val, 0] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .f32) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq 1024 1024 1024 none x y

section
variable (m : (ℓ : Loc nD τ sig) → Buf (Elt Ideal) ℓ) (c : Dev nD)

theorem blk0 (t : Fin cfg0.N) : IsBlock (V m c main_arg0 : Mat 4096 1024) (1024 * t.val) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 1024 1024) (1024 * 0) (1024 * 0) (iblk m c 1 t : Mat 1024 1024) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 1024) (congrFun (idx_val t).2.1 1))))

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := lt_of_lt_of_eq (b := 4) (by omega) N_0.symm
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  show win0_2.index ⟨(i 0).val / 1024, ht⟩ a * S1024x1024.size a ≤ (i a).val ∧ (i a).val < win0_2.index ⟨(i 0).val / 1024, ht⟩ a * S1024x1024.size a + S1024x1024.size a
  rw [(idx_val ⟨(i 0).val / 1024, ht⟩).2.2]
  match a with
  | ⟨0, _⟩ => exact mem_block i rfl (Nat.div_eq_of_lt h1) 0
  | ⟨1, _⟩ => exact mem_block i rfl (Nat.div_eq_of_lt h1) 1

/-- The array after the run. -/
theorem final : (dats m 0 c).arrAt 2 cfg0.N = (mulT 4096 1024 1024 (V m c main_arg0) (V m c main_arg1) : Mat 4096 1024) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.OutXReferenceIdeal.Read in
/-- The reference's product. -/
theorem ref_eq (d : Mat 4096 1024) (w : Mat 1024 1024) : val_main_v4 (F := Ideal) d w = mulT 4096 1024 1024 d w := by
  funext i
  refine (val_main_v4_apply d w i).trans (Finset.sum_congr rfl fun k _ => ?_)
  rw [val_main_v0_apply (F := Ideal), val_main_v1_apply (F := Ideal)]
  refine congrArg₂ (fun p q : EReal => p * q) (congrArg d ?_) (congrArg w ?_) <;>
  · funext r
    match r with
    | ⟨0, _⟩ => rfl
    | ⟨1, _⟩ => rfl

/-- The kernel's result is the reference's. -/
theorem values : Cert.algebraic_OutXIdeal_OutXReferenceIdeal := by
  intro m ρ m' ρ' _ hm
  refine ⟨fun c => mulT 4096 1024 1024 (V m c main_arg0) (V m c main_arg1), ?_, ?_⟩
  · exact (θ_run defs _ _).mono (fun r h c => ⟨(h c).1.trans (final m c), (h c).2⟩) (Value.run_blocks m ρ)
  · refine (θ_run Cert.OutXReferenceIdeal.defs _ _).mono (fun r h c => ⟨(h c).1.trans ?_, (h c).2⟩) (Cert.OutXReferenceIdeal.Value.run m' ρ')
    refine (Cert.OutXReferenceIdeal.Read.val_main_v4_eq (F := Ideal) _ _).trans ((ref_eq _ _).trans ?_)
    exact congrArg₂ (fun p q => mulT 4096 1024 1024 p q) (hm c).1 (hm c).2

theorem frame_ref : Cert.quiescent_OutXReferenceIdeal := fun m ρ _ =>
  (θ_run Cert.OutXReferenceIdeal.defs _ _).mono (fun r h => ⟨fun c => (h c).2, sem_eq_zero_of_no_sems (by decide) r.2⟩) (Cert.OutXReferenceIdeal.Value.run m ρ)

end Cert.Products.OutX
-- ==== Proof.OutW.lean ====
module

public import proofs.«01_k».proof.Defs
public import proofs.«01_k».proof.Proof.Products
public import proofs.«01_k».proof.Proof.Gen.OutWIdeal
public import proofs.«01_k».proof.Proof.Gen.OutWIdeal.Frame
public import proofs.«01_k».proof.Proof.Gen.OutWIdeal.Value
public import proofs.«01_k».proof.Proof.Gen.OutWReferenceIdeal
public import proofs.«01_k».proof.Proof.Gen.OutWReferenceIdeal.Run
public import proofs.«01_k».proof.Proof.Gen.OutWReferenceIdeal.Read

@[expose] public section

set_option maxRecDepth 16384

noncomputable section

/-! The weight gradient of the output projections with a weight of 1024 rows. -/

namespace Cert.Products.OutW

open Cert.OutWIdeal Cert.OutWIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 1024) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What an even point leaves to the next. -/
theorem kept (u : Fin cfg0.N) (hu : u.val % 2 = 0) : (outsAt0 m c u.val u.isLt).2 = tmul 1024 2048 1024 (iblk m c 0 u) (iblk m c 1 u) := by
  rw [outsAt0_A m c u hu (by omega)]
  dsimp only
  rw [first]

/-- What a point writes back: a block of the product. -/
theorem flushed (t : Fin cfg0.N) (hf : (cfg0.win 2).flush t = true) :
    (dats m 0 c).flushed 2 t = ((cfg0.win 2).blk t).view.read (Elt Ideal) (tmul 1024 4096 1024 (V m c main_arg0) (V m c main_arg1) : Mat 1024 1024) := by
  have ht : t.val % 2 = 1 := (flush0_2 t).mp hf
  have hp : t.val - 1 < cfg0.N := Nat.lt_of_le_of_lt (Nat.sub_le _ _) t.isLt
  have e1 : (t.val - 1) % 2 = 0 := by omega
  have e2 : (t.val - 1) / 2 = t.val / 2 := by omega
  have x0 := blk0 m c ⟨t.val - 1, hp⟩
  have y0 := blk1 m c ⟨t.val - 1, hp⟩
  have x1 := blk0 m c t
  have y1 := blk1 m c t
  simp only [e1, e2] at x0 y0
  rw [ht] at x1 y1
  refine (Value.flushed2_B m c t (by omega) ht).trans (funext fun y => ?_)
  refine (second c _ _ _ _ _ _ _ _ _ _ _ _ _ _ _ ((cfg0.win 2).xinj (grid0.coords t) y)).trans ?_
  refine (congrArg (· + _) (congrFun (kept m c ⟨t.val - 1, hp⟩ e1) _)).trans ?_
  refine tmul_halves x0 x1 y0 y1 _ _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

/-- The array after the run. -/
theorem final : (dats m 0 c).arrAt 2 cfg0.N = (tmul 1024 4096 1024 (V m c main_arg0) (V m c main_arg1) : Mat 1024 1024) :=
  (dats m 0 c).arrAt_eq_of_cover 2 _ (flushed m c) fun i => (Value.covered_iff2 i).2 ⟨Nat.zero_le _, (i 0).isLt, Nat.zero_le _, (i 1).isLt⟩

end

/-- The reference's product, with its factors in the other order. -/
theorem ref_eq (a : Mat 4096 1024) (d : Mat 4096 1024) : Cert.OutWReferenceIdeal.Read.val_main_v5 (F := Ideal) a d = tmul 1024 4096 1024 a d := by
  funext i
  refine (Cert.OutWReferenceIdeal.Read.val_main_v5_apply (F := Ideal) a d i).trans ((Cert.OutWReferenceIdeal.Read.val_main_v4_apply a d _).trans ?_)
  refine Finset.sum_congr rfl fun k _ => ?_
  refine (congrArg₂ (· * ·) (Cert.OutWReferenceIdeal.Read.val_main_v1_apply (F := Ideal) d _) (Cert.OutWReferenceIdeal.Read.val_main_v0_apply (F := Ideal) a _)).trans ?_
  refine (mul_comm _ _).trans (congrArg₂ (· * ·) (congrArg a ?_) (congrArg d ?_)) <;>
  · funext r
    match r with
    | ⟨0, _⟩ => rfl
    | ⟨1, _⟩ => rfl

/-- The kernel's result is the reference's. -/
theorem values : Cert.algebraic_OutWIdeal_OutWReferenceIdeal := by
  intro m ρ m' ρ' _ hm
  refine ⟨fun c => tmul 1024 4096 1024 (V m c main_arg0) (V m c main_arg1), ?_, ?_⟩
  · exact (θ_run defs _ _).mono (fun r h c => ⟨(h c).1.trans (final m c), (h c).2⟩) (Value.run_blocks m ρ)
  · refine (θ_run Cert.OutWReferenceIdeal.defs _ _).mono (fun r h c => ⟨(h c).1.trans ?_, (h c).2⟩) (Cert.OutWReferenceIdeal.Value.run m' ρ')
    refine (Cert.OutWReferenceIdeal.Read.val_main_v5_eq (F := Ideal) _ _).symm.trans ((congrArg₂ _ (hm c).1 (hm c).2).trans ((ref_eq _ _).trans ?_))
    rfl

theorem frame_ref : Cert.quiescent_OutWReferenceIdeal := fun m ρ _ =>
  (θ_run Cert.OutWReferenceIdeal.defs _ _).mono (fun r h => ⟨fun c => (h c).2, sem_eq_zero_of_no_sems (by decide) r.2⟩) (Cert.OutWReferenceIdeal.Value.run m ρ)

end Cert.Products.OutW
-- ==== Proof.MemOutX.lean ====
module

public import proofs.«01_k».proof.Defs
public import proofs.«01_k».proof.Proof.Segment
public import proofs.«01_k».proof.Proof.Gen.MemOutXIdeal
public import proofs.«01_k».proof.Proof.Gen.MemOutXIdeal.Frame
public import proofs.«01_k».proof.Proof.Gen.MemOutXIdeal.Value
public import proofs.«01_k».proof.Proof.Gen.MemOutXReferenceIdeal
public import proofs.«01_k».proof.Proof.Gen.MemOutXReferenceIdeal.Run
public import proofs.«01_k».proof.Proof.Gen.MemOutXReferenceIdeal.Read

@[expose] public section

set_option maxRecDepth 16384

noncomputable section

/-! The input gradient of the memory attention's output projection, which is kept in bfloat16. -/

namespace Cert.Products.MemOutX

open Cert.MemOutXIdeal Cert.MemOutXIdeal.Gen
open Idealize.ShloMosaic Idealize.ShloMosaic.TcCoe
open Idealize.ShloMosaic.Pipeline (Window)

/-- Which block of each array a point of the grid holds. -/
theorem idx_val : ∀ t : Fin cfg0.N, win0_0.index t = ![t.val, 0] ∧ win0_1.index t = ![0, 0] ∧ win0_2.index t = ![t.val, 0] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .bf16) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq (φ := .bf16) (ψ := .bf16) 1024 1024 1024 none x y

section
variable (m : (ℓ : Loc nD τ sig) → Buf (Elt Ideal) ℓ) (c : Dev nD)

theorem blk0 (t : Fin cfg0.N) : IsBlock (V m c main_arg0 : Mat 4096 1024) (1024 * t.val) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 1024 1024) (1024 * 0) (1024 * 0) (iblk m c 1 t : Mat 1024 1024) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 1024) (congrFun (idx_val t).2.1 1))))

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := lt_of_lt_of_eq (b := 4) (by omega) N_0.symm
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  show win0_2.index ⟨(i 0).val / 1024, ht⟩ a * S1024x1024.size a ≤ (i a).val ∧ (i a).val < win0_2.index ⟨(i 0).val / 1024, ht⟩ a * S1024x1024.size a + S1024x1024.size a
  rw [(idx_val ⟨(i 0).val / 1024, ht⟩).2.2]
  match a with
  | ⟨0, _⟩ => exact mem_block i rfl (Nat.div_eq_of_lt h1) 0
  | ⟨1, _⟩ => exact mem_block i rfl (Nat.div_eq_of_lt h1) 1

/-- The array after the run. -/
theorem final : (dats m 0 c).arrAt 2 cfg0.N = (mulT 4096 1024 1024 (V m c main_arg0) (V m c main_arg1) : Mat 4096 1024) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.MemOutXReferenceIdeal.Read in
/-- The reference's product. -/
theorem ref_eq (d : Mat 4096 1024) (w : Mat 1024 1024) : val_main_v5 (F := Ideal) d w = mulT 4096 1024 1024 d w := by
  funext i
  refine (val_main_v5_apply (F := Ideal) d w i).trans <| (val_main_v4_apply d w _).trans (Finset.sum_congr rfl fun k _ => ?_)
  rw [val_main_v0_apply (F := Ideal), val_main_v1_apply (F := Ideal)]
  refine congrArg₂ (fun p q : EReal => p * q) (congrArg d ?_) (congrArg w ?_) <;>
  · funext r
    match r with
    | ⟨0, _⟩ => rfl
    | ⟨1, _⟩ => rfl

/-- The kernel's result is the reference's. -/
theorem values : Cert.algebraic_MemOutXIdeal_MemOutXReferenceIdeal := by
  intro m ρ m' ρ' _ hm
  refine ⟨fun c => mulT 4096 1024 1024 (V m c main_arg0) (V m c main_arg1), ?_, ?_⟩
  · exact (θ_run defs _ _).mono (fun r h c => ⟨(h c).1.trans (final m c), (h c).2⟩) (Value.run_blocks m ρ)
  · refine (θ_run Cert.MemOutXReferenceIdeal.defs _ _).mono (fun r h c => ⟨(h c).1.trans ?_, (h c).2⟩) (Cert.MemOutXReferenceIdeal.Value.run m' ρ')
    refine (Cert.MemOutXReferenceIdeal.Read.val_main_v5_eq (F := Ideal) _ _).trans ((ref_eq _ _).trans ?_)
    exact congrArg₂ (fun p q => mulT 4096 1024 1024 p q) (hm c).1 (hm c).2

theorem frame_ref : Cert.quiescent_MemOutXReferenceIdeal := fun m ρ _ =>
  (θ_run Cert.MemOutXReferenceIdeal.defs _ _).mono (fun r h => ⟨fun c => (h c).2, sem_eq_zero_of_no_sems (by decide) r.2⟩) (Cert.MemOutXReferenceIdeal.Value.run m ρ)

end Cert.Products.MemOutX
-- ==== Proof.SsdOutX.lean ====
module

public import proofs.«01_k».proof.Defs
public import proofs.«01_k».proof.Proof.Segment
public import proofs.«01_k».proof.Proof.Gen.SsdOutXIdeal
public import proofs.«01_k».proof.Proof.Gen.SsdOutXIdeal.Frame
public import proofs.«01_k».proof.Proof.Gen.SsdOutXIdeal.Value
public import proofs.«01_k».proof.Proof.Gen.SsdOutXReferenceIdeal
public import proofs.«01_k».proof.Proof.Gen.SsdOutXReferenceIdeal.Run
public import proofs.«01_k».proof.Proof.Gen.SsdOutXReferenceIdeal.Read

@[expose] public section

set_option maxRecDepth 16384

noncomputable section

/-! The input gradient of the state-space layer's output projection. -/

namespace Cert.Products.SsdOutX

open Cert.SsdOutXIdeal Cert.SsdOutXIdeal.Gen
open Idealize.ShloMosaic Idealize.ShloMosaic.TcCoe
open Idealize.ShloMosaic.Pipeline (Window)

/-- Which block of each array a point of the grid holds. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .f32) (ho : o.IsWhole) (s : Memref sig .tc .vmem S8x128 .f32) (hs : s.IsWhole) (x y : Vec Ideal S1024x1024 .bf16) :
    out0_A_2 c i a ha b hb o ho s hs x y = mulT 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact transposedRhs_eq 1024 1024 1024 none x y

section
variable (m : (ℓ : Loc nD τ sig) → Buf (Elt Ideal) ℓ) (c : Dev nD)

theorem blk0 (t : Fin cfg0.N) : IsBlock (V m c main_arg0 : Mat 4096 1024) (1024 * (t.val / 2)) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 2048 1024) (1024 * (t.val % 2)) (1024 * 0) (iblk m c 1 t : Mat 1024 1024) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 1024) (congrFun (idx_val t).2.1 1))))

theorem cover (i : S4096x2048.Idx) : ∃ t : Fin cfg0.N, (cfg0.win 2).flush t = true ∧ i ∈ ((cfg0.win 2).blk t).view.set := by
  have h0 : (i 0).val < 4096 := (i 0).isLt
  have h1 : (i 1).val < 2048 := (i 1).isLt
  obtain ⟨t, hq, hr⟩ : ∃ t : Fin cfg0.N, (i 0).val / 1024 = t.val / 2 ∧ (i 1).val / 1024 = t.val % 2 := by
    have ht : 2 * ((i 0).val / 1024) + (i 1).val / 1024 < cfg0.N := lt_of_lt_of_eq (b := 8) (by omega) N_0.symm
    exact ⟨⟨2 * ((i 0).val / 1024) + (i 1).val / 1024, ht⟩, by show _ = (2 * ((i 0).val / 1024) + (i 1).val / 1024) / 2; omega, by show _ = (2 * ((i 0).val / 1024) + (i 1).val / 1024) % 2; omega⟩
  refine ⟨t, flush0_2 _, ?_⟩
  show i ∈ ((View.whole main_v0).slice (win0_2.rect t)).set
  rw [View.set_slice_whole, Rect.mem_set_unit]
  intro a
  show win0_2.index t a * S1024x1024.size a ≤ (i a).val ∧ (i a).val < win0_2.index t a * S1024x1024.size a + S1024x1024.size a
  rw [(idx_val t).2.2]
  match a with
  | ⟨0, _⟩ => exact mem_block i hq hr 0
  | ⟨1, _⟩ => exact mem_block i hq hr 1

/-- The array after the run. -/
theorem final : (dats m 0 c).arrAt 2 cfg0.N = (mulT 4096 1024 2048 (V m c main_arg0) (V m c main_arg1) : Mat 4096 2048) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.mul_comm _ 1024)

end

open Cert.SsdOutXReferenceIdeal.Read in
/-- The reference's product. -/
theorem ref_eq (d : Mat 4096 1024) (w : Mat 2048 1024) : val_main_v4 (F := Ideal) d w = mulT 4096 1024 2048 d w := by
  funext i
  refine (val_main_v4_apply d w i).trans (Finset.sum_congr rfl fun k _ => ?_)
  rw [val_main_v0_apply (F := Ideal), val_main_v1_apply (F := Ideal)]
  refine congrArg₂ (fun p q : EReal => p * q) (congrArg d ?_) (congrArg w ?_) <;>
  · funext r
    match r with
    | ⟨0, _⟩ => rfl
    | ⟨1, _⟩ => rfl

/-- The kernel's result is the reference's. -/
theorem values : Cert.algebraic_SsdOutXIdeal_SsdOutXReferenceIdeal := by
  intro m ρ m' ρ' _ hm
  refine ⟨fun c => mulT 4096 1024 2048 (V m c main_arg0) (V m c main_arg1), ?_, ?_⟩
  · exact (θ_run defs _ _).mono (fun r h c => ⟨(h c).1.trans (final m c), (h c).2⟩) (Value.run_blocks m ρ)
  · refine (θ_run Cert.SsdOutXReferenceIdeal.defs _ _).mono (fun r h c => ⟨(h c).1.trans ?_, (h c).2⟩) (Cert.SsdOutXReferenceIdeal.Value.run m' ρ')
    refine (Cert.SsdOutXReferenceIdeal.Read.val_main_v4_eq (F := Ideal) _ _).trans ((ref_eq _ _).trans ?_)
    exact congrArg₂ (fun p q => mulT 4096 1024 2048 p q) (hm c).1 (hm c).2

theorem frame_ref : Cert.quiescent_SsdOutXReferenceIdeal := fun m ρ _ =>
  (θ_run Cert.SsdOutXReferenceIdeal.defs _ _).mono (fun r h => ⟨fun c => (h c).2, sem_eq_zero_of_no_sems (by decide) r.2⟩) (Cert.SsdOutXReferenceIdeal.Value.run m ρ)

end Cert.Products.SsdOutX
-- ==== Proof.SsdOutW.lean ====
module

public import proofs.«01_k».proof.Defs
public import proofs.«01_k».proof.Proof.Products
public import proofs.«01_k».proof.Proof.Gen.SsdOutWIdeal
public import proofs.«01_k».proof.Proof.Gen.SsdOutWIdeal.Frame
public import proofs.«01_k».proof.Proof.Gen.SsdOutWIdeal.Value
public import proofs.«01_k».proof.Proof.Gen.SsdOutWReferenceIdeal
public import proofs.«01_k».proof.Proof.Gen.SsdOutWReferenceIdeal.Run
public import proofs.«01_k».proof.Proof.Gen.SsdOutWReferenceIdeal.Read

@[expose] public section

set_option maxRecDepth 16384

noncomputable section

/-! The weight gradient of the state-space layer's output projection. -/

namespace Cert.Products.SsdOutW

open Cert.SsdOutWIdeal Cert.SsdOutWIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The first half of the sum is put by. -/
theorem first (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : cond0_0 i) (h1 : ¬cond0_1 i) (h2 : ¬cond0_2 i) (x y : Vec Ideal S2048x1024 .bf16) :
    sout0_A_0 c i a ha b hb o ho s hs h0 h1 h2 x y = tmul 1024 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x1024) hz, shapeCast_self]
  exact rows_eq 1024 2048 1024 none dot_S2048x1024_S2048x1024_S1024x1024_0_0_1_1_n_n.wf x y

/-- The second half is added to it. -/
theorem second (c : Dev nD) (i : grid0.Coords) (a : Memref sig .tc .vmem S2048x1024 .bf16) (ha : a.IsWhole) (b : Memref sig .tc .vmem S2048x1024 .bf16) (hb : b.IsWhole)
    (o : Memref sig .tc .vmem S1024x1024 .f32) (ho : o.IsWhole) (s : Memref sig .tc .vmem S1024x1024 .f32) (hs : s.IsWhole)
    (h0 : ¬cond0_0 i) (h1 : ¬cond0_1 i) (h2 : cond0_2 i) (x y : Vec Ideal S2048x1024 .bf16) (acc : Vec Ideal S1024x1024 .f32) (j : S1024x1024.Idx) :
    out0_B_2 c i a ha b hb o ho s hs h0 h1 h2 x y acc j = (acc j : EReal) + tmul 1024 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x1024) hz, View.ld_unit_zero (S := S1024x1024) hz, shapeCast_self]
  exact congrArg (fun p : Mat 1024 1024 => (acc j : EReal) + p j) (rows_eq 1024 2048 1024 none dot_S2048x1024_S2048x1024_S1024x1024_0_0_1_1_n_n.wf x y)

section
variable (m : (ℓ : Loc nD τ sig) → Buf (Elt Ideal) ℓ) (c : Dev nD)

theorem blk0 (t : Fin cfg0.N) : IsBlock (V m c main_arg0 : Mat 4096 2048) (2048 * (t.val % 2)) (1024 * (t.val / 2)) (iblk m c 0 t : Mat 2048 1024) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What an even point leaves to the next. -/
theorem kept (u : Fin cfg0.N) (hu : u.val % 2 = 0) : (outsAt0 m c u.val u.isLt).2 = tmul 1024 2048 1024 (iblk m c 0 u) (iblk m c 1 u) := by
  rw [outsAt0_A m c u hu (by omega)]
  dsimp only
  rw [first]

/-- What a point writes back: a block of the product. -/
theorem flushed (t : Fin cfg0.N) (hf : (cfg0.win 2).flush t = true) :
    (dats m 0 c).flushed 2 t = ((cfg0.win 2).blk t).view.read (Elt Ideal) (tmul 2048 4096 1024 (V m c main_arg0) (V m c main_arg1) : Mat 2048 1024) := by
  have ht : t.val % 2 = 1 := (flush0_2 t).mp hf
  have hp : t.val - 1 < cfg0.N := Nat.lt_of_le_of_lt (Nat.sub_le _ _) t.isLt
  have e1 : (t.val - 1) % 2 = 0 := by omega
  have e2 : (t.val - 1) / 2 = t.val / 2 := by omega
  have x0 := blk0 m c ⟨t.val - 1, hp⟩
  have y0 := blk1 m c ⟨t.val - 1, hp⟩
  have x1 := blk0 m c t
  have y1 := blk1 m c t
  simp only [e1, e2] at x0 y0
  rw [ht] at x1 y1
  refine (Value.flushed2_B m c t (by omega) ht).trans (funext fun y => ?_)
  refine (second c _ _ _ _ _ _ _ _ _ _ _ _ _ _ _ ((cfg0.win 2).xinj (grid0.coords t) y)).trans ?_
  refine (congrArg (· + _) (congrFun (kept m c ⟨t.val - 1, hp⟩ e1) _)).trans ?_
  refine tmul_halves x0 x1 y0 y1 _ _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

/-- The array after the run. -/
theorem final : (dats m 0 c).arrAt 2 cfg0.N = (tmul 2048 4096 1024 (V m c main_arg0) (V m c main_arg1) : Mat 2048 1024) :=
  (dats m 0 c).arrAt_eq_of_cover 2 _ (flushed m c) fun i => (Value.covered_iff2 i).2 ⟨Nat.zero_le _, (i 0).isLt, Nat.zero_le _, (i 1).isLt⟩

end

/-- The reference's product, with its factors in the other order. -/
theorem ref_eq (a : Mat 4096 2048) (d : Mat 4096 1024) : Cert.SsdOutWReferenceIdeal.Read.val_main_v5 (F := Ideal) a d = tmul 2048 4096 1024 a d := by
  funext i
  refine (Cert.SsdOutWReferenceIdeal.Read.val_main_v5_apply (F := Ideal) a d i).trans ((Cert.SsdOutWReferenceIdeal.Read.val_main_v4_apply a d _).trans ?_)
  refine Finset.sum_congr rfl fun k _ => ?_
  refine (congrArg₂ (· * ·) (Cert.SsdOutWReferenceIdeal.Read.val_main_v1_apply (F := Ideal) d _) (Cert.SsdOutWReferenceIdeal.Read.val_main_v0_apply (F := Ideal) a _)).trans ?_
  refine (mul_comm _ _).trans (congrArg₂ (· * ·) (congrArg a ?_) (congrArg d ?_)) <;>
  · funext r
    match r with
    | ⟨0, _⟩ => rfl
    | ⟨1, _⟩ => rfl

/-- The kernel's result is the reference's. -/
theorem values : Cert.algebraic_SsdOutWIdeal_SsdOutWReferenceIdeal := by
  intro m ρ m' ρ' _ hm
  refine ⟨fun c => tmul 2048 4096 1024 (V m c main_arg0) (V m c main_arg1), ?_, ?_⟩
  · exact (θ_run defs _ _).mono (fun r h c => ⟨(h c).1.trans (final m c), (h c).2⟩) (Value.run_blocks m ρ)
  · refine (θ_run Cert.SsdOutWReferenceIdeal.defs _ _).mono (fun r h c => ⟨(h c).1.trans ?_, (h c).2⟩) (Cert.SsdOutWReferenceIdeal.Value.run m' ρ')
    refine (Cert.SsdOutWReferenceIdeal.Read.val_main_v5_eq (F := Ideal) _ _).symm.trans ((congrArg₂ _ (hm c).1 (hm c).2).trans ((ref_eq _ _).trans ?_))
    rfl

theorem frame_ref : Cert.quiescent_SsdOutWReferenceIdeal := fun m ρ _ =>
  (θ_run Cert.SsdOutWReferenceIdeal.defs _ _).mono (fun r h => ⟨fun c => (h c).2, sem_eq_zero_of_no_sems (by decide) r.2⟩) (Cert.SsdOutWReferenceIdeal.Value.run m ρ)

end Cert.Products.SsdOutW
-- ==== Proof.Out.lean ====
module

public import proofs.«01_k».proof.Defs
public import proofs.«01_k».proof.Proof.Segment
public import proofs.«01_k».proof.Proof.Gen.OutIdeal
public import proofs.«01_k».proof.Proof.Gen.OutIdeal.Frame
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read

@[expose] public section

set_option maxRecDepth 16384

noncomputable section

/-! The output projections with a weight of 1024 rows. -/

namespace Cert.Products.Out

open Cert.OutIdeal Cert.OutIdeal.Gen
open Idealize.ShloMosaic Idealize.ShloMosaic.TcCoe
open Idealize.ShloMosaic.Pipeline (Window)

/-- Which block of each array a point of the grid holds. -/
theorem idx_val : ∀ t : Fin cfg0.N, win0_0.index t = ![t.val, 0] ∧ win0_1.index t = ![0, 0] ∧ win0_2.index t = ![t.val, 0] :=
  (by decide +kernel : ∀ t : Fin grid0.N, _)

/-- One point's product. -/
theorem point (c : Dev nD) (i : grid0.Coords) (a : Memref sig .tc .vmem S1024x1024 .bf16) (ha : a.IsWhole) (b : Memref sig .tc .vmem S1024x1024 .bf16) (hb : b.IsWhole)
    (o : Memref sig .tc .vmem S1024x1024 .f32) (ho : o.IsWhole) (s : Memref sig .tc .vmem S8x128 .f32) (hs : s.IsWhole) (x y : Vec Ideal S1024x1024 .bf16) :
    out0_A_2 c i a ha b hb o ho s hs x y = mul 1024 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, shapeCast_self]
  exact plain_eq 1024 1024 1024 none x y

section
variable (m : (ℓ : Loc nD τ sig) → Buf (Elt Ideal) ℓ) (c : Dev nD)

theorem blk0 (t : Fin cfg0.N) : IsBlock (V m c main_arg0 : Mat 4096 1024) (1024 * t.val) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 1024 1024) (1024 * 0) (1024 * 0) (iblk m c 1 t : Mat 1024 1024) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 1024) (congrFun (idx_val t).2.1 1))))

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := lt_of_lt_of_eq (b := 4) (by omega) N_0.symm
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  show win0_2.index ⟨(i 0).val / 1024, ht⟩ a * S1024x1024.size a ≤ (i a).val ∧ (i a).val < win0_2.index ⟨(i 0).val / 1024, ht⟩ a * S1024x1024.size a + S1024x1024.size a
  rw [(idx_val ⟨(i 0).val / 1024, ht⟩).2.2]
  match a with
  | ⟨0, _⟩ => exact mem_block i rfl (Nat.div_eq_of_lt h1) 0
  | ⟨1, _⟩ => exact mem_block i rfl (Nat.div_eq_of_lt h1) 1

/-- The array after the run. -/
theorem final : (dats m 0 c).arrAt 2 cfg0.N = (mul 4096 1024 1024 (V m c main_arg0) (V m c main_arg1) : Mat 4096 1024) := by
  refine (dats m 0 c).arrAt_eq_of_cover 2 _ (fun t hf => ?_) cover
  refine (Value.flushed2_A m c t).trans (funext fun y => ?_)
  rw [point]
  refine mul_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.OutReferenceIdeal.Read in
/-- The reference's product. -/
theorem ref_eq (x : Mat 4096 1024) (w : Mat 1024 1024) : val_main_v2 (F := Ideal) x w = mul 4096 1024 1024 x w := by
  funext i
  refine (val_main_v2_apply x w i).trans (Finset.sum_congr rfl fun k _ => ?_)
  rw [val_main_v0_apply (F := Ideal), val_main_v1_apply (F := Ideal)]
  refine congrArg₂ (fun p q : EReal => p * q) (congrArg x ?_) (congrArg w ?_) <;>
  · funext r
    match r with
    | ⟨0, _⟩ => rfl
    | ⟨1, _⟩ => rfl

/-- The kernel's result is the reference's. -/
theorem values : Cert.algebraic_OutIdeal_OutReferenceIdeal := by
  intro m ρ m' ρ' _ hm
  refine ⟨fun c => mul 4096 1024 1024 (V m c main_arg0) (V m c main_arg1), ?_, ?_⟩
  · exact (θ_run defs _ _).mono (fun r h c => ⟨(h c).1.trans (final m c), (h c).2⟩) (Value.run_blocks m ρ)
  · refine (θ_run Cert.OutReferenceIdeal.defs _ _).mono (fun r h c => ⟨(h c).1.trans ?_, (h c).2⟩) (Cert.OutReferenceIdeal.Value.run m' ρ')
    refine (Cert.OutReferenceIdeal.Read.val_main_v2_eq (F := Ideal) _ _).trans ((ref_eq _ _).trans ?_)
    exact congrArg₂ (fun p q => mul 4096 1024 1024 p q) (hm c).1 (hm c).2

theorem frame_ref : Cert.quiescent_OutReferenceIdeal := fun m ρ _ =>
  (θ_run Cert.OutReferenceIdeal.defs _ _).mono (fun r h => ⟨fun c => (h c).2, sem_eq_zero_of_no_sems (by decide) r.2⟩) (Cert.OutReferenceIdeal.Value.run m ρ)

end Cert.Products.Out
-- ==== Proof.SsdOut.lean ====
module

public import proofs.«01_k».proof.Defs
public import proofs.«01_k».proof.Proof.Segment
public import proofs.«01_k».proof.Proof.Gen.SsdOutIdeal
public import proofs.«01_k».proof.Proof.Gen.SsdOutIdeal.Frame
public import proofs.«01_k».proof.Proof.Gen.SsdOutIdeal.Value
public import proofs.«01_k».proof.Proof.Gen.SsdOutReferenceIdeal
public import proofs.«01_k».proof.Proof.Gen.SsdOutReferenceIdeal.Run
public import proofs.«01_k».proof.Proof.Gen.SsdOutReferenceIdeal.Read

@[expose] public section

set_option maxRecDepth 16384

noncomputable section

/-! The output projection of the state-space layer. -/

namespace Cert.Products.SsdOut

open Cert.SsdOutIdeal Cert.SsdOutIdeal.Gen
open Idealize.ShloMosaic Idealize.ShloMosaic.TcCoe
open Idealize.ShloMosaic.Pipeline (Window)

/-- Which block of each array a point of the grid holds. -/
theorem idx_val : ∀ t : Fin cfg0.N, win0_0.index t = ![t.val, 0] ∧ win0_1.index t = ![0, 0] ∧ win0_2.index t = ![t.val, 0] :=
  (by decide +kernel : ∀ t : Fin grid0.N, _)

/-- One point's product. -/
theorem point (c : Dev nD) (i : grid0.Coords) (a : Memref sig .tc .vmem S1024x2048 .bf16) (ha : a.IsWhole) (b : Memref sig .tc .vmem S2048x1024 .bf16) (hb : b.IsWhole)
    (o : Memref sig .tc .vmem S1024x1024 .f32) (ho : o.IsWhole) (s : Memref sig .tc .vmem S8x128 .f32) (hs : s.IsWhole) (x : Vec Ideal S1024x2048 .bf16) (y : Vec Ideal S2048x1024 .bf16) :
    out0_A_2 c i a ha b hb o ho s hs x y = mul 1024 2048 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x2048) hz, View.ld_unit_zero (S := S2048x1024) hz, shapeCast_self]
  exact plain_eq 1024 2048 1024 none x y

section
variable (m : (ℓ : Loc nD τ sig) → Buf (Elt Ideal) ℓ) (c : Dev nD)

theorem blk0 (t : Fin cfg0.N) : IsBlock (V m c main_arg0 : Mat 4096 2048) (1024 * t.val) (2048 * 0) (iblk m c 0 t : Mat 1024 2048) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 2048) (congrFun (idx_val t).1 1))))

theorem blk1 (t : Fin cfg0.N) : IsBlock (V m c main_arg1 : Mat 2048 1024) (2048 * 0) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := lt_of_lt_of_eq (b := 4) (by omega) N_0.symm
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  show win0_2.index ⟨(i 0).val / 1024, ht⟩ a * S1024x1024.size a ≤ (i a).val ∧ (i a).val < win0_2.index ⟨(i 0).val / 1024, ht⟩ a * S1024x1024.size a + S1024x1024.size a
  rw [(idx_val ⟨(i 0).val / 1024, ht⟩).2.2]
  match a with
  | ⟨0, _⟩ => exact mem_block i rfl (Nat.div_eq_of_lt h1) 0
  | ⟨1, _⟩ => exact mem_block i rfl (Nat.div_eq_of_lt h1) 1

/-- The array after the run. -/
theorem final : (dats m 0 c).arrAt 2 cfg0.N = (mul 4096 2048 1024 (V m c main_arg0) (V m c main_arg1) : Mat 4096 1024) := by
  refine (dats m 0 c).arrAt_eq_of_cover 2 _ (fun t hf => ?_) cover
  refine (Value.flushed2_A m c t).trans (funext fun y => ?_)
  rw [point]
  refine mul_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.SsdOutReferenceIdeal.Read in
/-- The reference's product. -/
theorem ref_eq (x : Mat 4096 2048) (w : Mat 2048 1024) : val_main_v2 (F := Ideal) x w = mul 4096 2048 1024 x w := by
  funext i
  refine (val_main_v2_apply x w i).trans (Finset.sum_congr rfl fun k _ => ?_)
  rw [val_main_v0_apply (F := Ideal), val_main_v1_apply (F := Ideal)]
  refine congrArg₂ (fun p q : EReal => p * q) (congrArg x ?_) (congrArg w ?_) <;>
  · funext r
    match r with
    | ⟨0, _⟩ => rfl
    | ⟨1, _⟩ => rfl

/-- The kernel's result is the reference's. -/
theorem values : Cert.algebraic_SsdOutIdeal_SsdOutReferenceIdeal := by
  intro m ρ m' ρ' _ hm
  refine ⟨fun c => mul 4096 2048 1024 (V m c main_arg0) (V m c main_arg1), ?_, ?_⟩
  · exact (θ_run defs _ _).mono (fun r h c => ⟨(h c).1.trans (final m c), (h c).2⟩) (Value.run_blocks m ρ)
  · refine (θ_run Cert.SsdOutReferenceIdeal.defs _ _).mono (fun r h c => ⟨(h c).1.trans ?_, (h c).2⟩) (Cert.SsdOutReferenceIdeal.Value.run m' ρ')
    refine (Cert.SsdOutReferenceIdeal.Read.val_main_v2_eq (F := Ideal) _ _).trans ((ref_eq _ _).trans ?_)
    exact congrArg₂ (fun p q => mul 4096 2048 1024 p q) (hm c).1 (hm c).2

theorem frame_ref : Cert.quiescent_SsdOutReferenceIdeal := fun m ρ _ =>
  (θ_run Cert.SsdOutReferenceIdeal.defs _ _).mono (fun r h => ⟨fun c => (h c).2, sem_eq_zero_of_no_sems (by decide) r.2⟩) (Cert.SsdOutReferenceIdeal.Value.run m ρ)

end Cert.Products.SsdOut
-- ==== Proof.MemKvX.lean ====
module

public import proofs.«01_k».proof.Defs
public import proofs.«01_k».proof.Proof.Segment
public import proofs.«01_k».proof.Proof.Gen.MemKvXIdeal
public import proofs.«01_k».proof.Proof.Gen.MemKvXIdeal.Frame
public import proofs.«01_k».proof.Proof.Gen.MemKvXIdeal.Value
public import proofs.«01_k».proof.Proof.Gen.MemKvXReferenceIdeal
public import proofs.«01_k».proof.Proof.Gen.MemKvXReferenceIdeal.Run
public import proofs.«01_k».proof.Proof.Gen.MemKvXReferenceIdeal.Read

@[expose] public section

set_option maxRecDepth 16384

noncomputable section

/-! The input gradient of the memory's projection to keys and values. -/

namespace Cert.Products.MemKvX

open Cert.MemKvXIdeal Cert.MemKvXIdeal.Gen
open Idealize.ShloMosaic Idealize.ShloMosaic.TcCoe
open Idealize.ShloMosaic.Pipeline (Window)

/-- Which block of each array a point of the grid holds. -/
theorem idx_val : ∀ t : Fin cfg0.N, win0_0.index t = ![0, 0] ∧ win0_1.index t = ![0, 0] ∧ win0_2.index t = ![0, 0] :=
  (by decide +kernel : ∀ t : Fin grid0.N, _)

/-- One point's product. -/
theorem point (c : Dev nD) (i : grid0.Coords) (a : Memref sig .tc .vmem S256x2048 .bf16) (ha : a.IsWhole) (b : Memref sig .tc .vmem S1024x2048 .bf16) (hb : b.IsWhole)
    (o : Memref sig .tc .vmem S256x1024 .f32) (ho : o.IsWhole) (s : Memref sig .tc .vmem S8x128 .f32) (hs : s.IsWhole) (x : Vec Ideal S256x2048 .bf16) (y : Vec Ideal S1024x2048 .bf16) :
    out0_A_2 c i a ha b hb o ho s hs x y = mulT 256 2048 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S256x2048) hz, View.ld_unit_zero (S := S1024x2048) hz, shapeCast_self]
  exact transposedRhs_eq 256 2048 1024 none x y

section
variable (m : (ℓ : Loc nD τ sig) → Buf (Elt Ideal) ℓ) (c : Dev nD)

theorem blk0 (t : Fin cfg0.N) : IsBlock (V m c main_arg0 : Mat 256 2048) (256 * 0) (2048 * 0) (iblk m c 0 t : Mat 256 2048) :=
  isBlock_of _ (fun _ => rfl) (fun i => (Window.rect_emb_val win0_0 t i 0).trans (congrArg (· + (i 0).val) (congrArg (· * 256) (congrFun (idx_val t).1 0))))
    (fun i => (Window.rect_emb_val win0_0 t i 1).trans (congrArg (· + (i 1).val) (congrArg (· * 2048) (congrFun (idx_val t).1 1))))

theorem blk1 (t : Fin cfg0.N) : IsBlock (V m c main_arg1 : Mat 1024 2048) (1024 * 0) (2048 * 0) (iblk m c 1 t : Mat 1024 2048) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 2048) (congrFun (idx_val t).2.1 1))))

theorem cover (i : S256x1024.Idx) : ∃ t : Fin cfg0.N, (cfg0.win 2).flush t = true ∧ i ∈ ((cfg0.win 2).blk t).view.set := by
  have h0 : (i 0).val < 256 := (i 0).isLt
  have h1 : (i 1).val < 1024 := (i 1).isLt
  have ht : 0 < cfg0.N := lt_of_lt_of_eq (b := 1) (by omega) N_0.symm
  refine ⟨⟨0, ht⟩, flush0_2 _, ?_⟩
  show i ∈ ((View.whole main_v0).slice (win0_2.rect ⟨0, ht⟩)).set
  rw [View.set_slice_whole, Rect.mem_set_unit]
  intro a
  show win0_2.index ⟨0, ht⟩ a * S256x1024.size a ≤ (i a).val ∧ (i a).val < win0_2.index ⟨0, ht⟩ a * S256x1024.size a + S256x1024.size a
  rw [(idx_val ⟨0, ht⟩).2.2]
  match a with
  | ⟨0, _⟩ =>
    show 0 * 256 ≤ (i 0).val ∧ (i 0).val < 0 * 256 + 256
    omega
  | ⟨1, _⟩ => exact mem_block i (Nat.div_eq_of_lt (by omega)) (Nat.div_eq_of_lt h1) 1

/-- The array after the run. -/
theorem final : (dats m 0 c).arrAt 2 cfg0.N = (mulT 256 2048 1024 (V m c main_arg0) (V m c main_arg1) : Mat 256 1024) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.zero_mul 256)
  · refine (Window.rect_emb_val win0_2 t y 1).trans ?_
    rw [(idx_val t).2.2]
    exact congrArg (· + (y 1).val) (Nat.zero_mul 1024)

end

open Cert.MemKvXReferenceIdeal.Read in
/-- The reference's product. -/
theorem ref_eq (d : Mat 256 2048) (w : Mat 1024 2048) : val_main_v4 (F := Ideal) d w = mulT 256 2048 1024 d w := by
  funext i
  refine (val_main_v4_apply d w i).trans (Finset.sum_congr rfl fun k _ => ?_)
  rw [val_main_v0_apply (F := Ideal), val_main_v1_apply (F := Ideal)]
  refine congrArg₂ (fun p q : EReal => p * q) (congrArg d ?_) (congrArg w ?_) <;>
  · funext r
    match r with
    | ⟨0, _⟩ => rfl
    | ⟨1, _⟩ => rfl

/-- The kernel's result is the reference's. -/
theorem values : Cert.algebraic_MemKvXIdeal_MemKvXReferenceIdeal := by
  intro m ρ m' ρ' _ hm
  refine ⟨fun c => mulT 256 2048 1024 (V m c main_arg0) (V m c main_arg1), ?_, ?_⟩
  · exact (θ_run defs _ _).mono (fun r h c => ⟨(h c).1.trans (final m c), (h c).2⟩) (Value.run_blocks m ρ)
  · refine (θ_run Cert.MemKvXReferenceIdeal.defs _ _).mono (fun r h c => ⟨(h c).1.trans ?_, (h c).2⟩) (Cert.MemKvXReferenceIdeal.Value.run m' ρ')
    refine (Cert.MemKvXReferenceIdeal.Read.val_main_v4_eq (F := Ideal) _ _).trans ((ref_eq _ _).trans ?_)
    exact congrArg₂ (fun p q => mulT 256 2048 1024 p q) (hm c).1 (hm c).2

theorem frame_ref : Cert.quiescent_MemKvXReferenceIdeal := fun m ρ _ =>
  (θ_run Cert.MemKvXReferenceIdeal.defs _ _).mono (fun r h => ⟨fun c => (h c).2, sem_eq_zero_of_no_sems (by decide) r.2⟩) (Cert.MemKvXReferenceIdeal.Value.run m ρ)

end Cert.Products.MemKvX
-- ==== Proof.MemKvW.lean ====
module

public import proofs.«01_k».proof.Defs
public import proofs.«01_k».proof.Proof.Segment
public import proofs.«01_k».proof.Proof.Gen.MemKvWIdeal
public import proofs.«01_k».proof.Proof.Gen.MemKvWIdeal.Frame
public import proofs.«01_k».proof.Proof.Gen.MemKvWIdeal.Value
public import proofs.«01_k».proof.Proof.Gen.MemKvWReferenceIdeal
public import proofs.«01_k».proof.Proof.Gen.MemKvWReferenceIdeal.Run
public import proofs.«01_k».proof.Proof.Gen.MemKvWReferenceIdeal.Read

@[expose] public section

set_option maxRecDepth 16384

noncomputable section

/-! The weight gradient of the memory's projection to keys and values. -/

namespace Cert.Products.MemKvW

open Cert.MemKvWIdeal Cert.MemKvWIdeal.Gen
open Idealize.ShloMosaic Idealize.ShloMosaic.TcCoe
open Idealize.ShloMosaic.Pipeline (Window)

/-- The same for columns with columns. -/
theorem tmul_block {N L K n m r c : ℕ} {a : Mat K N} {b : Mat K L} {x : Mat K n} {y : Mat K m} (hx : IsBlock a 0 r x) (hy : IsBlock b 0 c y) :
    IsBlock (tmul N K L a b) r c (tmul n K m x y) := fun i j h0 h1 =>
  Finset.sum_congr rfl fun d _ => congrArg₂ (· * ·) (hx _ _ (Nat.zero_add _).symm h0) (hy _ _ (Nat.zero_add _).symm h1)

/-- Which block of each array a point of the grid holds. -/
theorem idx_val : ∀ t : Fin cfg0.N, win0_0.index t = ![0, 0] ∧ win0_1.index t = ![0, t.val] ∧ win0_2.index t = ![0, t.val] :=
  (by decide +kernel : ∀ t : Fin grid0.N, _)

/-- One point's product. -/
theorem point (c : Dev nD) (i : grid0.Coords) (a : Memref sig .tc .vmem S256x1024 .bf16) (ha : a.IsWhole) (b : Memref sig .tc .vmem S256x1024 .bf16) (hb : b.IsWhole)
    (o : Memref sig .tc .vmem S1024x1024 .f32) (ho : o.IsWhole) (s : Memref sig .tc .vmem S8x128 .f32) (hs : s.IsWhole) (x y : Vec Ideal S256x1024 .bf16) :
    out0_A_2 c i a ha b hb o ho s hs x y = tmul 1024 256 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S256x1024) hz, shapeCast_self]
  exact rows_eq 1024 256 1024 none dot_S256x1024_S256x1024_S1024x1024_0_0_1_1_n_n.wf x y

section
variable (m : (ℓ : Loc nD τ sig) → Buf (Elt Ideal) ℓ) (c : Dev nD)

theorem blk0 (t : Fin cfg0.N) : IsBlock (V m c main_arg0 : Mat 256 1024) (256 * 0) (1024 * 0) (iblk m c 0 t : Mat 256 1024) :=
  isBlock_of _ (fun _ => rfl) (fun i => (Window.rect_emb_val win0_0 t i 0).trans (congrArg (· + (i 0).val) (congrArg (· * 256) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 256 2048) (256 * 0) (1024 * t.val) (iblk m c 1 t : Mat 256 1024) :=
  isBlock_of _ (fun _ => rfl) (fun i => (Window.rect_emb_val win0_1 t i 0).trans (congrArg (· + (i 0).val) (congrArg (· * 256) (congrFun (idx_val t).2.1 0))))
    (fun i => (Window.rect_emb_val win0_1 t i 1).trans (congrArg (· + (i 1).val) (congrArg (· * 1024) (congrFun (idx_val t).2.1 1))))

theorem cover (i : S1024x2048.Idx) : ∃ t : Fin cfg0.N, (cfg0.win 2).flush t = true ∧ i ∈ ((cfg0.win 2).blk t).view.set := by
  have h0 : (i 0).val < 1024 := (i 0).isLt
  have h1 : (i 1).val < 2048 := (i 1).isLt
  have ht : (i 1).val / 1024 < cfg0.N := lt_of_lt_of_eq (b := 2) (by omega) N_0.symm
  refine ⟨⟨(i 1).val / 1024, ht⟩, flush0_2 _, ?_⟩
  show i ∈ ((View.whole main_v0).slice (win0_2.rect ⟨(i 1).val / 1024, ht⟩)).set
  rw [View.set_slice_whole, Rect.mem_set_unit]
  intro a
  show win0_2.index ⟨(i 1).val / 1024, ht⟩ a * S1024x1024.size a ≤ (i a).val ∧ (i a).val < win0_2.index ⟨(i 1).val / 1024, ht⟩ a * S1024x1024.size a + S1024x1024.size a
  rw [(idx_val ⟨(i 1).val / 1024, ht⟩).2.2]
  match a with
  | ⟨0, _⟩ => exact mem_block i (Nat.div_eq_of_lt h0) rfl 0
  | ⟨1, _⟩ => exact mem_block i (Nat.div_eq_of_lt h0) rfl 1

/-- The array after the run. -/
theorem final : (dats m 0 c).arrAt 2 cfg0.N = (tmul 1024 256 2048 (V m c main_arg0) (V m c main_arg1) : Mat 1024 2048) := by
  refine (dats m 0 c).arrAt_eq_of_cover 2 _ (fun t hf => ?_) cover
  refine (Value.flushed2_A m c t).trans (funext fun y => ?_)
  rw [point]
  refine tmul_block (r := 1024 * 0) (blk0 m c t) (blk1 m c t) ((cfg0.win 2).xinj (grid0.coords t) y) _ ?_ ?_
  · refine (Window.rect_emb_val win0_2 t y 0).trans ?_
    rw [(idx_val t).2.2]
    exact congrArg (· + (y 0).val) (Nat.zero_mul 1024)
  · refine (Window.rect_emb_val win0_2 t y 1).trans ?_
    rw [(idx_val t).2.2]
    exact congrArg (· + (y 1).val) (Nat.mul_comm _ 1024)

end

/-- The reference's product, with its factors in the other order. -/
theorem ref_eq (a : Mat 256 1024) (d : Mat 256 2048) : Cert.MemKvWReferenceIdeal.Read.val_main_v5 (F := Ideal) a d = tmul 1024 256 2048 a d := by
  funext i
  refine (Cert.MemKvWReferenceIdeal.Read.val_main_v5_apply (F := Ideal) a d i).trans ((Cert.MemKvWReferenceIdeal.Read.val_main_v4_apply a d _).trans ?_)
  refine Finset.sum_congr rfl fun k _ => ?_
  refine (congrArg₂ (· * ·) (Cert.MemKvWReferenceIdeal.Read.val_main_v1_apply (F := Ideal) d _) (Cert.MemKvWReferenceIdeal.Read.val_main_v0_apply (F := Ideal) a _)).trans ?_
  refine (mul_comm _ _).trans (congrArg₂ (· * ·) (congrArg a ?_) (congrArg d ?_)) <;>
  · funext r
    match r with
    | ⟨0, _⟩ => rfl
    | ⟨1, _⟩ => rfl

/-- The kernel's result is the reference's. -/
theorem values : Cert.algebraic_MemKvWIdeal_MemKvWReferenceIdeal := by
  intro m ρ m' ρ' _ hm
  refine ⟨fun c => tmul 1024 256 2048 (V m c main_arg0) (V m c main_arg1), ?_, ?_⟩
  · exact (θ_run defs _ _).mono (fun r h c => ⟨(h c).1.trans (final m c), (h c).2⟩) (Value.run_blocks m ρ)
  · refine (θ_run Cert.MemKvWReferenceIdeal.defs _ _).mono (fun r h c => ⟨(h c).1.trans ?_, (h c).2⟩) (Cert.MemKvWReferenceIdeal.Value.run m' ρ')
    refine (Cert.MemKvWReferenceIdeal.Read.val_main_v5_eq (F := Ideal) _ _).symm.trans ((congrArg₂ _ (hm c).1 (hm c).2).trans ((ref_eq _ _).trans ?_))
    rfl

theorem frame_ref : Cert.quiescent_MemKvWReferenceIdeal := fun m ρ _ =>
  (θ_run Cert.MemKvWReferenceIdeal.defs _ _).mono (fun r h => ⟨fun c => (h c).2, sem_eq_zero_of_no_sems (by decide) r.2⟩) (Cert.MemKvWReferenceIdeal.Value.run m ρ)

end Cert.Products.MemKvW
-- ==== Proof.MemKv.lean ====
module

public import proofs.«01_k».proof.Defs
public import proofs.«01_k».proof.Proof.Segment
public import proofs.«01_k».proof.Proof.Gen.MemKvIdeal
public import proofs.«01_k».proof.Proof.Gen.MemKvIdeal.Frame
public import proofs.«01_k».proof.Proof.Gen.MemKvIdeal.Value
public import proofs.«01_k».proof.Proof.Gen.MemKvReferenceIdeal
public import proofs.«01_k».proof.Proof.Gen.MemKvReferenceIdeal.Run
public import proofs.«01_k».proof.Proof.Gen.MemKvReferenceIdeal.Read

@[expose] public section

set_option maxRecDepth 16384

noncomputable section

/-! The memory's projection to keys and values, which is kept in bfloat16. -/

namespace Cert.Products.MemKv

open Cert.MemKvIdeal Cert.MemKvIdeal.Gen
open Idealize.ShloMosaic Idealize.ShloMosaic.TcCoe
open Idealize.ShloMosaic.Pipeline (Window)

/-- Which block of each array a point of the grid holds. -/
theorem idx_val : ∀ t : Fin cfg0.N, win0_0.index t = ![0, 0] ∧ win0_1.index t = ![0, t.val] ∧ win0_2.index t = ![0, t.val] :=
  (by decide +kernel : ∀ t : Fin grid0.N, _)

/-- One point's product. -/
theorem point (c : Dev nD) (i : grid0.Coords) (a : Memref sig .tc .vmem S256x1024 .bf16) (ha : a.IsWhole) (b : Memref sig .tc .vmem S1024x1024 .bf16) (hb : b.IsWhole)
    (o : Memref sig .tc .vmem S256x1024 .bf16) (ho : o.IsWhole) (s : Memref sig .tc .vmem S8x128 .f32) (hs : s.IsWhole) (x : Vec Ideal S256x1024 .bf16) (y : Vec Ideal S1024x1024 .bf16) :
    out0_A_2 c i a ha b hb o ho s hs x y = mul 256 1024 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S256x1024) hz, View.ld_unit_zero (S := S1024x1024) hz, shapeCast_self]
  exact plain_eq (φ := .bf16) (ψ := .bf16) 256 1024 1024 none x y

section
variable (m : (ℓ : Loc nD τ sig) → Buf (Elt Ideal) ℓ) (c : Dev nD)

theorem blk0 (t : Fin cfg0.N) : IsBlock (V m c main_arg0 : Mat 256 1024) (256 * 0) (1024 * 0) (iblk m c 0 t : Mat 256 1024) :=
  isBlock_of _ (fun _ => rfl) (fun i => (Window.rect_emb_val win0_0 t i 0).trans (congrArg (· + (i 0).val) (congrArg (· * 256) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 1024 2048) (1024 * 0) (1024 * t.val) (iblk m c 1 t : Mat 1024 1024) :=
  isBlock_of _ (fun _ => rfl) (fun i => (Window.rect_emb_val win0_1 t i 0).trans (congrArg (· + (i 0).val) (congrArg (· * 1024) (congrFun (idx_val t).2.1 0))))
    (fun i => (Window.rect_emb_val win0_1 t i 1).trans (congrArg (· + (i 1).val) (congrArg (· * 1024) (congrFun (idx_val t).2.1 1))))

theorem cover (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  have ht : (i 1).val / 1024 < cfg0.N := lt_of_lt_of_eq (b := 2) (by omega) N_0.symm
  refine ⟨⟨(i 1).val / 1024, ht⟩, flush0_2 _, ?_⟩
  show i ∈ ((View.whole main_v0).slice (win0_2.rect ⟨(i 1).val / 1024, ht⟩)).set
  rw [View.set_slice_whole, Rect.mem_set_unit]
  intro a
  show win0_2.index ⟨(i 1).val / 1024, ht⟩ a * S256x1024.size a ≤ (i a).val ∧ (i a).val < win0_2.index ⟨(i 1).val / 1024, ht⟩ a * S256x1024.size a + S256x1024.size a
  rw [(idx_val ⟨(i 1).val / 1024, ht⟩).2.2]
  match a with
  | ⟨0, _⟩ =>
    show 0 * 256 ≤ (i 0).val ∧ (i 0).val < 0 * 256 + 256
    omega
  | ⟨1, _⟩ => exact mem_block i (Nat.div_eq_of_lt (by omega)) rfl 1

/-- The array after the run. -/
theorem final : (dats m 0 c).arrAt 2 cfg0.N = (mul 256 1024 2048 (V m c main_arg0) (V m c main_arg1) : Mat 256 2048) := by
  refine (dats m 0 c).arrAt_eq_of_cover 2 _ (fun t hf => ?_) cover
  refine (Value.flushed2_A m c t).trans (funext fun y => ?_)
  rw [point]
  refine mul_block (blk0 m c t) (blk1 m c t) ((cfg0.win 2).xinj (grid0.coords t) y) _ ?_ ?_
  · refine (Window.rect_emb_val win0_2 t y 0).trans ?_
    rw [(idx_val t).2.2]
    exact congrArg (· + (y 0).val) (Nat.zero_mul 256)
  · refine (Window.rect_emb_val win0_2 t y 1).trans ?_
    rw [(idx_val t).2.2]
    exact congrArg (· + (y 1).val) (Nat.mul_comm _ 1024)

end

open Cert.MemKvReferenceIdeal.Read in
/-- The reference's product. -/
theorem ref_eq (x : Mat 256 1024) (w : Mat 1024 2048) : val_main_v3 (F := Ideal) x w = mul 256 1024 2048 x w := by
  funext i
  refine (val_main_v3_apply (F := Ideal) x w i).trans <| (val_main_v2_apply x w _).trans (Finset.sum_congr rfl fun k _ => ?_)
  rw [val_main_v0_apply (F := Ideal), val_main_v1_apply (F := Ideal)]
  refine congrArg₂ (fun p q : EReal => p * q) (congrArg x ?_) (congrArg w ?_) <;>
  · funext r
    match r with
    | ⟨0, _⟩ => rfl
    | ⟨1, _⟩ => rfl

/-- The kernel's result is the reference's. -/
theorem values : Cert.algebraic_MemKvIdeal_MemKvReferenceIdeal := by
  intro m ρ m' ρ' _ hm
  refine ⟨fun c => mul 256 1024 2048 (V m c main_arg0) (V m c main_arg1), ?_, ?_⟩
  · exact (θ_run defs _ _).mono (fun r h c => ⟨(h c).1.trans (final m c), (h c).2⟩) (Value.run_blocks m ρ)
  · refine (θ_run Cert.MemKvReferenceIdeal.defs _ _).mono (fun r h c => ⟨(h c).1.trans ?_, (h c).2⟩) (Cert.MemKvReferenceIdeal.Value.run m' ρ')
    refine (Cert.MemKvReferenceIdeal.Read.val_main_v3_eq (F := Ideal) _ _).trans ((ref_eq _ _).trans ?_)
    exact congrArg₂ (fun p q => mul 256 1024 2048 p q) (hm c).1 (hm c).2

theorem frame_ref : Cert.quiescent_MemKvReferenceIdeal := fun m ρ _ =>
  (θ_run Cert.MemKvReferenceIdeal.defs _ _).mono (fun r h => ⟨fun c => (h c).2, sem_eq_zero_of_no_sems (by decide) r.2⟩) (Cert.MemKvReferenceIdeal.Value.run m ρ)

end Cert.Products.MemKv
-- ==== Proof.InXDt.lean ====
module

public import proofs.«01_k».proof.Defs
public import proofs.«01_k».proof.Proof.Segment
public import proofs.«01_k».proof.Proof.Gen.InXDtIdeal
public import proofs.«01_k».proof.Proof.Gen.InXDtIdeal.Frame
public import proofs.«01_k».proof.Proof.Gen.InXDtIdeal.Value
public import proofs.«01_k».proof.Proof.Gen.InXDtReferenceIdeal
public import proofs.«01_k».proof.Proof.Gen.InXDtReferenceIdeal.Run
public import proofs.«01_k».proof.Proof.Gen.InXDtReferenceIdeal.Read

@[expose] public section

set_option maxRecDepth 16384

noncomputable section

/-! The input gradient of the input projection's step-size columns, padded to 128. -/

namespace Cert.Products.InXDt

open Cert.InXDtIdeal Cert.InXDtIdeal.Gen
open Idealize.ShloMosaic Idealize.ShloMosaic.TcCoe
open Idealize.ShloMosaic.Pipeline (Window)

/-- Which block of each array a point of the grid holds. -/
theorem idx_val : ∀ t : Fin cfg0.N, win0_0.index t = ![t.val, 0] ∧ win0_1.index t = ![0, 0] ∧ win0_2.index t = ![t.val, 0] :=
  (by decide +kernel : ∀ t : Fin grid0.N, _)

/-- One point's product. -/
theorem point (c : Dev nD) (i : grid0.Coords) (a : Memref sig .tc .vmem S1024x128 .bf16) (ha : a.IsWhole) (b : Memref sig .tc .vmem S128x1024 .bf16) (hb : b.IsWhole)
    (o : Memref sig .tc .vmem S1024x1024 .f32) (ho : o.IsWhole) (s : Memref sig .tc .vmem S8x128 .f32) (hs : s.IsWhole) (x : Vec Ideal S1024x128 .bf16) (y : Vec Ideal S128x1024 .bf16) :
    out0_A_2 c i a ha b hb o ho s hs x y = mul 1024 128 1024 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x128) hz, View.ld_unit_zero (S := S128x1024) hz, shapeCast_self]
  exact plain_eq 1024 128 1024 none x y

section
variable (m : (ℓ : Loc nD τ sig) → Buf (Elt Ideal) ℓ) (c : Dev nD)

theorem blk0 (t : Fin cfg0.N) : IsBlock (V m c main_arg0 : Mat 4096 128) (1024 * t.val) (128 * 0) (iblk m c 0 t : Mat 1024 128) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 128) (congrFun (idx_val t).1 1))))

theorem blk1 (t : Fin cfg0.N) : IsBlock (V m c main_arg1 : Mat 128 1024) (128 * 0) (1024 * 0) (iblk m c 1 t : Mat 128 1024) :=
  isBlock_of _ (fun _ => rfl) (fun i => (Window.rect_emb_val win0_1 t i 0).trans (congrArg (· + (i 0).val) (congrArg (· * 128) (congrFun (idx_val t).2.1 0))))
    (fun i => (Window.rect_emb_val win0_1 t i 1).trans (congrArg (· + (i 1).val) (congrArg (· * 1024) (congrFun (idx_val t).2.1 1))))

theorem cover (i : S4096x1024.Idx) : ∃ t : Fin cfg0.N, (cfg0.win 2).flush t = true ∧ i ∈ ((cfg0.win 2).blk t).view.set := by
  have h0 : (i 0).val < 4096 := (i 0).isLt
  have h1 : (i 1).val < 1024 := (i 1).isLt
  have ht : (i 0).val / 1024 < cfg0.N := lt_of_lt_of_eq (b := 4) (by omega) N_0.symm
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  show win0_2.index ⟨(i 0).val / 1024, ht⟩ a * S1024x1024.size a ≤ (i a).val ∧ (i a).val < win0_2.index ⟨(i 0).val / 1024, ht⟩ a * S1024x1024.size a + S1024x1024.size a
  rw [(idx_val ⟨(i 0).val / 1024, ht⟩).2.2]
  match a with
  | ⟨0, _⟩ => exact mem_block i rfl (Nat.div_eq_of_lt h1) 0
  | ⟨1, _⟩ => exact mem_block i rfl (Nat.div_eq_of_lt h1) 1

/-- The array after the run. -/
theorem final : (dats m 0 c).arrAt 2 cfg0.N = (mul 4096 128 1024 (V m c main_arg0) (V m c main_arg1) : Mat 4096 1024) := by
  refine (dats m 0 c).arrAt_eq_of_cover 2 _ (fun t hf => ?_) cover
  refine (Value.flushed2_A m c t).trans (funext fun y => ?_)
  rw [point]
  refine mul_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 1024)

end

open Cert.InXDtReferenceIdeal.Read in
/-- The reference's product. -/
theorem ref_eq (x : Mat 4096 128) (w : Mat 128 1024) : val_main_v5 (F := Ideal) x w = mul 4096 128 1024 x w := by
  funext i
  refine (val_main_v5_apply x w i).trans (Finset.sum_congr rfl fun k _ => ?_)
  rw [val_main_v1_apply (F := Ideal), val_main_v2_apply (F := Ideal), val_main_v0_apply (F := Ideal)]
  refine congrArg₂ (fun p q : EReal => p * q) (congrArg x ?_) (congrArg w ?_) <;>
  · funext r
    match r with
    | ⟨0, _⟩ => rfl
    | ⟨1, _⟩ => rfl

/-- The kernel's result is the reference's. -/
theorem values : Cert.algebraic_InXDtIdeal_InXDtReferenceIdeal := by
  intro m ρ m' ρ' _ hm
  refine ⟨fun c => mul 4096 128 1024 (V m c main_arg0) (V m c main_arg1), ?_, ?_⟩
  · exact (θ_run defs _ _).mono (fun r h c => ⟨(h c).1.trans (final m c), (h c).2⟩) (Value.run_blocks m ρ)
  · refine (θ_run Cert.InXDtReferenceIdeal.defs _ _).mono (fun r h c => ⟨(h c).1.trans ?_, (h c).2⟩) (Cert.InXDtReferenceIdeal.Value.run m' ρ')
    refine (Cert.InXDtReferenceIdeal.Read.val_main_v5_eq (F := Ideal) _ _).trans ((ref_eq _ _).trans ?_)
    exact congrArg₂ (fun p q => mul 4096 128 1024 p q) (hm c).1 (hm c).2

theorem frame_ref : Cert.quiescent_InXDtReferenceIdeal := fun m ρ _ =>
  (θ_run Cert.InXDtReferenceIdeal.defs _ _).mono (fun r h => ⟨fun c => (h c).2, sem_eq_zero_of_no_sems (by decide) r.2⟩) (Cert.InXDtReferenceIdeal.Value.run m ρ)

end Cert.Products.InXDt
-- ==== Proof.InWDt.lean ====
module

public import proofs.«01_k».proof.Defs
public import proofs.«01_k».proof.Proof.Products
public import proofs.«01_k».proof.Proof.Gen.InWDtIdeal
public import proofs.«01_k».proof.Proof.Gen.InWDtIdeal.Frame
public import proofs.«01_k».proof.Proof.Gen.InWDtIdeal.Value
public import proofs.«01_k».proof.Proof.Gen.InWDtReferenceIdeal
public import proofs.«01_k».proof.Proof.Gen.InWDtReferenceIdeal.Run
public import proofs.«01_k».proof.Proof.Gen.InWDtReferenceIdeal.Read

@[expose] public section

set_option maxRecDepth 16384

noncomputable section

/-! The weight gradient of the input projection's step-size columns, padded to 128. -/

namespace Cert.Products.InWDt

open Cert.InWDtIdeal Cert.InWDtIdeal.Gen
open Idealize.ShloMosaic Idealize.ShloMosaic.TcCoe
open Idealize.ShloMosaic.Pipeline (Window)

/-- Which block of each array a point of the grid holds. -/
theorem idx_val : ∀ t : Fin cfg0.N, win0_0.index t = ![t.val % 2, t.val / 2] ∧ win0_1.index t = ![t.val % 2, 0] ∧ win0_2.index t = ![t.val / 2, 0] :=
  (by decide +kernel : ∀ t : Fin grid0.N, _)

/-- The first half of the sum is put by. -/
theorem first (c : Dev nD) (i : grid0.Coords) (a : Memref sig .tc .vmem S2048x128 .bf16) (ha : a.IsWhole) (b : Memref sig .tc .vmem S2048x1024 .bf16) (hb : b.IsWhole)
    (o : Memref sig .tc .vmem S128x1024 .f32) (ho : o.IsWhole) (s : Memref sig .tc .vmem S128x1024 .f32) (hs : s.IsWhole)
    (h0 : cond0_0 i) (h1 : ¬cond0_1 i) (h2 : ¬cond0_2 i) (x : Vec Ideal S2048x128 .bf16) (y : Vec Ideal S2048x1024 .bf16) :
    sout0_A_0 c i a ha b hb o ho s hs h0 h1 h2 x y = tmul 128 2048 1024 x y := by
  unfold sout0_A_0
  rw [View.read_writes_eq_canon _ _ _ (scover0_A_0 c i a ha b hb o ho s hs h0 h1 h2 x y)]
  unfold kernelRun0_A
  dsimp only
  rw [View.canon_unit_zero hz]
  unfold k0_pay2 k0_pay1
  simp only [View.readAt_eq_ld, ha.read_unread, hb.read_unread, View.ld_unit_zero (S := S2048x128) hz, View.ld_unit_zero (S := S2048x1024) hz, shapeCast_self]
  exact rows_eq 128 2048 1024 none dot_S2048x128_S2048x1024_S128x1024_0_0_1_1_n_n.wf x y

/-- The second half is added to it. -/
theorem second (c : Dev nD) (i : grid0.Coords) (a : Memref sig .tc .vmem S2048x128 .bf16) (ha : a.IsWhole) (b : Memref sig .tc .vmem S2048x1024 .bf16) (hb : b.IsWhole)
    (o : Memref sig .tc .vmem S128x1024 .f32) (ho : o.IsWhole) (s : Memref sig .tc .vmem S128x1024 .f32) (hs : s.IsWhole)
    (h0 : ¬cond0_0 i) (h1 : ¬cond0_1 i) (h2 : cond0_2 i) (x : Vec Ideal S2048x128 .bf16) (y : Vec Ideal S2048x1024 .bf16) (acc : Vec Ideal S128x1024 .f32) (j : S128x1024.Idx) :
    out0_B_2 c i a ha b hb o ho s hs h0 h1 h2 x y acc j = (acc j : EReal) + tmul 128 2048 1024 x y j := by
  unfold out0_B_2
  rw [View.read_writes_eq_canon _ _ _ (cover0_B_2 c i a ha b hb o ho s hs h0 h1 h2 x y acc)]
  unfold kernelRun0_B
  dsimp only
  rw [View.canon_unit_zero hz]
  unfold k0_pay4 k0_pay1
  simp only [View.readAt_eq_ld, ha.read_unread, hb.read_unread, hs.read_unread, View.ld_unit_zero (S := S2048x128) hz, View.ld_unit_zero (S := S2048x1024) hz, View.ld_unit_zero (S := S128x1024) hz, shapeCast_self]
  exact congrArg (fun p : Mat 128 1024 => (acc j : EReal) + p j) (rows_eq 128 2048 1024 none dot_S2048x128_S2048x1024_S128x1024_0_0_1_1_n_n.wf x y)

section
variable (m : (ℓ : Loc nD τ sig) → Buf (Elt Ideal) ℓ) (c : Dev nD)

theorem blk0 (t : Fin cfg0.N) : IsBlock (V m c main_arg0 : Mat 4096 128) (2048 * (t.val % 2)) (128 * (t.val / 2)) (iblk m c 0 t : Mat 2048 128) :=
  isBlock_of _ (fun _ => rfl) (fun i => (Window.rect_emb_val win0_0 t i 0).trans (congrArg (· + (i 0).val) (congrArg (· * 2048) (congrFun (idx_val t).1 0))))
    (fun i => (Window.rect_emb_val win0_0 t i 1).trans (congrArg (· + (i 1).val) (congrArg (· * 128) (congrFun (idx_val t).1 1))))

theorem blk1 (t : Fin cfg0.N) : IsBlock (V m c main_arg1 : Mat 4096 1024) (2048 * (t.val % 2)) (1024 * 0) (iblk m c 1 t : Mat 2048 1024) :=
  isBlock_of _ (fun _ => rfl) (fun i => (Window.rect_emb_val win0_1 t i 0).trans (congrArg (· + (i 0).val) (congrArg (· * 2048) (congrFun (idx_val t).2.1 0))))
    (fun i => (Window.rect_emb_val win0_1 t i 1).trans (congrArg (· + (i 1).val) (congrArg (· * 1024) (congrFun (idx_val t).2.1 1))))

/-- What an even point leaves to the next. -/
theorem kept (u : Fin cfg0.N) (hu : u.val % 2 = 0) : (outsAt0 m c u.val u.isLt).2 = tmul 128 2048 1024 (iblk m c 0 u) (iblk m c 1 u) := by
  rw [outsAt0_A m c u hu (by omega)]
  dsimp only
  rw [first]

/-- What a point writes back: a block of the product. -/
theorem flushed (t : Fin cfg0.N) (hf : (cfg0.win 2).flush t = true) :
    (dats m 0 c).flushed 2 t = ((cfg0.win 2).blk t).view.read (Elt Ideal) (tmul 128 4096 1024 (V m c main_arg0) (V m c main_arg1) : Mat 128 1024) := by
  have ht : t.val % 2 = 1 := (flush0_2 t).mp hf
  have hp : t.val - 1 < cfg0.N := Nat.lt_of_le_of_lt (Nat.sub_le _ _) t.isLt
  have e1 : (t.val - 1) % 2 = 0 := by omega
  have e2 : (t.val - 1) / 2 = t.val / 2 := by omega
  have x0 := blk0 m c ⟨t.val - 1, hp⟩
  have y0 := blk1 m c ⟨t.val - 1, hp⟩
  have x1 := blk0 m c t
  have y1 := blk1 m c t
  simp only [e1, e2] at x0 y0
  rw [ht] at x1 y1
  refine (Value.flushed2_B m c t (by omega) ht).trans (funext fun y => ?_)
  refine (second c _ _ _ _ _ _ _ _ _ _ _ _ _ _ _ ((cfg0.win 2).xinj (grid0.coords t) y)).trans ?_
  refine (congrArg (· + _) (congrFun (kept m c ⟨t.val - 1, hp⟩ e1) _)).trans ?_
  refine tmul_halves x0 x1 y0 y1 _ _ ?_ ?_
  · refine (Window.rect_emb_val win0_2 t y 0).trans ?_
    rw [(idx_val t).2.2]
    exact congrArg (· + (y 0).val) (Nat.mul_comm _ 128)
  · refine (Window.rect_emb_val win0_2 t y 1).trans ?_
    rw [(idx_val t).2.2]
    exact congrArg (· + (y 1).val) (Nat.zero_mul 1024)

/-- The array after the run. -/
theorem final : (dats m 0 c).arrAt 2 cfg0.N = (tmul 128 4096 1024 (V m c main_arg0) (V m c main_arg1) : Mat 128 1024) :=
  (dats m 0 c).arrAt_eq_of_cover 2 _ (flushed m c) fun i => (Value.covered_iff2 i).2 ⟨Nat.zero_le _, (i 0).isLt, Nat.zero_le _, (i 1).isLt⟩

end

open Cert.InWDtReferenceIdeal.Read in
/-- The reference's product. -/
theorem ref_eq (d : Mat 4096 128) (u : Mat 4096 1024) : val_main_v7 (F := Ideal) d u = tmul 128 4096 1024 d u := by
  funext i
  refine (val_main_v7_apply (F := Ideal) d u i).trans ((val_main_v6_apply (F := Ideal) d u _).trans ((val_main_v5_apply d u _).trans (Finset.sum_congr rfl fun k _ => ?_)))
  rw [val_main_v0_apply (F := Ideal), val_main_v1_apply (F := Ideal)]
  refine congrArg₂ (fun p q : EReal => p * q) (congrArg d ?_) (congrArg u ?_) <;>
  · funext r
    match r with
    | ⟨0, _⟩ => rfl
    | ⟨1, _⟩ => rfl

/-- The kernel's result is the reference's. -/
theorem values : Cert.algebraic_InWDtIdeal_InWDtReferenceIdeal := by
  intro m ρ m' ρ' _ hm
  refine ⟨fun c => tmul 128 4096 1024 (V m c main_arg0) (V m c main_arg1), ?_, ?_⟩
  · exact (θ_run defs _ _).mono (fun r h c => ⟨(h c).1.trans (final m c), (h c).2⟩) (Value.run_blocks m ρ)
  · refine (θ_run Cert.InWDtReferenceIdeal.defs _ _).mono (fun r h c => ⟨(h c).1.trans ?_, (h c).2⟩) (Cert.InWDtReferenceIdeal.Value.run m' ρ')
    refine (Cert.InWDtReferenceIdeal.Read.val_main_v7_eq (F := Ideal) _ _).symm.trans ((congrArg₂ _ (hm c).1 (hm c).2).trans ((ref_eq _ _).trans ?_))
    rfl

theorem frame_ref : Cert.quiescent_InWDtReferenceIdeal := fun m ρ _ =>
  (θ_run Cert.InWDtReferenceIdeal.defs _ _).mono (fun r h => ⟨fun c => (h c).2, sem_eq_zero_of_no_sems (by decide) r.2⟩) (Cert.InWDtReferenceIdeal.Value.run m ρ)

end Cert.Products.InWDt
-- ==== Proof.InDt.lean ====
module

public import proofs.«01_k».proof.Defs
public import proofs.«01_k».proof.Proof.Segment
public import proofs.«01_k».proof.Proof.Gen.InDtIdeal
public import proofs.«01_k».proof.Proof.Gen.InDtIdeal.Frame
public import proofs.«01_k».proof.Proof.Gen.InDtIdeal.Value
public import proofs.«01_k».proof.Proof.Gen.InDtReferenceIdeal
public import proofs.«01_k».proof.Proof.Gen.InDtReferenceIdeal.Run
public import proofs.«01_k».proof.Proof.Gen.InDtReferenceIdeal.Read

@[expose] public section

set_option maxRecDepth 16384

noncomputable section

/-! The forward product of the input projection's step-size columns, padded to 128. -/

namespace Cert.Products.InDt

open Cert.InDtIdeal Cert.InDtIdeal.Gen
open Idealize.ShloMosaic Idealize.ShloMosaic.TcCoe
open Idealize.ShloMosaic.Pipeline (Window)

/-- Which block of each array a point of the grid holds. -/
theorem idx_val : ∀ t : Fin cfg0.N, win0_0.index t = ![t.val, 0] ∧ win0_1.index t = ![0, 0] ∧ win0_2.index t = ![t.val, 0] :=
  (by decide +kernel : ∀ t : Fin grid0.N, _)

/-- One point's product. -/
theorem point (c : Dev nD) (i : grid0.Coords) (a : Memref sig .tc .vmem S1024x1024 .bf16) (ha : a.IsWhole) (b : Memref sig .tc .vmem S128x1024 .bf16) (hb : b.IsWhole)
    (o : Memref sig .tc .vmem S1024x128 .f32) (ho : o.IsWhole) (s : Memref sig .tc .vmem S8x128 .f32) (hs : s.IsWhole) (x : Vec Ideal S1024x1024 .bf16) (y : Vec Ideal S128x1024 .bf16) :
    out0_A_2 c i a ha b hb o ho s hs x y = mulT 1024 1024 128 x y := by
  unfold out0_A_2
  rw [View.read_writes_eq_canon _ _ _ (cover0_A_2 c i a ha b hb o ho s hs x y)]
  unfold kernelRun0_A
  dsimp only
  rw [View.canon_unit_zero hz]
  unfold k0_pay1
  simp only [View.readAt_eq_ld, ha.read_unread, hb.read_unread, View.ld_unit_zero (S := S1024x1024) hz, View.ld_unit_zero (S := S128x1024) hz, shapeCast_self]
  exact transposedRhs_eq 1024 1024 128 none x y

section
variable (m : (ℓ : Loc nD τ sig) → Buf (Elt Ideal) ℓ) (c : Dev nD)

theorem blk0 (t : Fin cfg0.N) : IsBlock (V m c main_arg0 : Mat 4096 1024) (1024 * t.val) (1024 * 0) (iblk m c 0 t : Mat 1024 1024) :=
  isBlock_of _ (fun _ => rfl) (fun i => (Window.rect_emb_val win0_0 t i 0).trans (congrArg (· + (i 0).val) (congrArg (· * 1024) (congrFun (idx_val t).1 0))))
    (fun i => (Window.rect_emb_val win0_0 t i 1).trans (congrArg (· + (i 1).val) (congrArg (· * 1024) (congrFun (idx_val t).1 1))))

theorem blk1 (t : Fin cfg0.N) : IsBlock (V m c main_arg1 : Mat 128 1024) (128 * 0) (1024 * 0) (iblk m c 1 t : Mat 128 1024) :=
  isBlock_of _ (fun _ => rfl) (fun i => (Window.rect_emb_val win0_1 t i 0).trans (congrArg (· + (i 0).val) (congrArg (· * 128) (congrFun (idx_val t).2.1 0))))
    (fun i => (Window.rect_emb_val win0_1 t i 1).trans (congrArg (· + (i 1).val) (congrArg (· * 1024) (congrFun (idx_val t).2.1 1))))

theorem cover (i : S4096x128.Idx) : ∃ t : Fin cfg0.N, (cfg0.win 2).flush t = true ∧ i ∈ ((cfg0.win 2).blk t).view.set := by
  have h0 : (i 0).val < 4096 := (i 0).isLt
  have h1 : (i 1).val < 128 := (i 1).isLt
  have ht : (i 0).val / 1024 < cfg0.N := lt_of_lt_of_eq (b := 4) (by omega) N_0.symm
  refine ⟨⟨(i 0).val / 1024, ht⟩, flush0_2 _, ?_⟩
  show i ∈ ((View.whole main_v0).slice (win0_2.rect ⟨(i 0).val / 1024, ht⟩)).set
  rw [View.set_slice_whole, Rect.mem_set_unit]
  intro a
  show win0_2.index ⟨(i 0).val / 1024, ht⟩ a * S1024x128.size a ≤ (i a).val ∧ (i a).val < win0_2.index ⟨(i 0).val / 1024, ht⟩ a * S1024x128.size a + S1024x128.size a
  rw [(idx_val ⟨(i 0).val / 1024, ht⟩).2.2]
  match a with
  | ⟨0, _⟩ => exact mem_block i rfl (Nat.div_eq_of_lt (by omega)) 0
  | ⟨1, _⟩ =>
    show 0 * 128 ≤ (i 1).val ∧ (i 1).val < 0 * 128 + 128
    omega

/-- The array after the run. -/
theorem final : (dats m 0 c).arrAt 2 cfg0.N = (mulT 4096 1024 128 (V m c main_arg0) (V m c main_arg1) : Mat 4096 128) := by
  refine (dats m 0 c).arrAt_eq_of_cover 2 _ (fun t hf => ?_) cover
  refine (Value.flushed2_A m c t).trans (funext fun y => ?_)
  rw [point]
  refine mulT_block (blk0 m c t) (blk1 m c t) ((cfg0.win 2).xinj (grid0.coords t) y) _ ?_ ?_
  · refine (Window.rect_emb_val win0_2 t y 0).trans ?_
    rw [(idx_val t).2.2]
    exact congrArg (· + (y 0).val) (Nat.mul_comm _ 1024)
  · refine (Window.rect_emb_val win0_2 t y 1).trans ?_
    rw [(idx_val t).2.2]
    exact congrArg (· + (y 1).val) (Nat.zero_mul 128)

end

open Cert.InDtReferenceIdeal.Read in
/-- The reference's product. -/
theorem ref_eq (d : Mat 4096 1024) (w : Mat 128 1024) : val_main_v3 (F := Ideal) d w = mulT 4096 1024 128 d w := by
  funext i
  refine (val_main_v3_apply d w i).trans (Finset.sum_congr rfl fun k _ => ?_)
  rw [val_main_v0_apply (F := Ideal), val_main_v2_apply (F := Ideal), val_main_v1_apply (F := Ideal)]
  refine congrArg₂ (fun p q : EReal => p * q) (congrArg d ?_) (congrArg w ?_) <;>
  · funext r
    match r with
    | ⟨0, _⟩ => rfl
    | ⟨1, _⟩ => rfl

/-- The kernel's result is the reference's. -/
theorem values : Cert.algebraic_InDtIdeal_InDtReferenceIdeal := by
  intro m ρ m' ρ' _ hm
  refine ⟨fun c => mulT 4096 1024 128 (V m c main_arg0) (V m c main_arg1), ?_, ?_⟩
  · exact (θ_run defs _ _).mono (fun r h c => ⟨(h c).1.trans (final m c), (h c).2⟩) (Value.run_blocks m ρ)
  · refine (θ_run Cert.InDtReferenceIdeal.defs _ _).mono (fun r h c => ⟨(h c).1.trans ?_, (h c).2⟩) (Cert.InDtReferenceIdeal.Value.run m' ρ')
    refine (Cert.InDtReferenceIdeal.Read.val_main_v3_eq (F := Ideal) _ _).trans ((ref_eq _ _).trans ?_)
    exact congrArg₂ (fun p q => mulT 4096 1024 128 p q) (hm c).1 (hm c).2

theorem frame_ref : Cert.quiescent_InDtReferenceIdeal := fun m ρ _ =>
  (θ_run Cert.InDtReferenceIdeal.defs _ _).mono (fun r h => ⟨fun c => (h c).2, sem_eq_zero_of_no_sems (by decide) r.2⟩) (Cert.InDtReferenceIdeal.Value.run m ρ)

end Cert.Products.InDt
-- ==== Proof.MemFwd.lean ====
module

public import proofs.«01_k».proof.Defs
public import Idealize.ShloMosaic.Lib.KernelVsHost
public import proofs.«01_k».proof.Proof.Segment
public import proofs.«01_k».proof.Proof.Gen.MemFwdIdeal
public import proofs.«01_k».proof.Proof.Gen.MemFwdIdeal.Frame
public import proofs.«01_k».proof.Proof.Gen.MemFwdIdeal.Value
public import proofs.«01_k».proof.Proof.Gen.MemFwdReferenceIdeal
public import proofs.«01_k».proof.Proof.Gen.MemFwdReferenceIdeal.Run
public import proofs.«01_k».proof.Proof.Gen.MemFwdReferenceIdeal.Read

@[expose] public section

set_option maxRecDepth 16384

noncomputable section

/-! The memory attention: each row's weights over the memory's places, and the values weighted by them. -/

namespace Cert.Products.MemFwd

open Cert.MemFwdIdeal Cert.MemFwdIdeal.Gen
open Cert.SbBwd (M)
open Idealize.ShloMosaic Idealize.ShloMosaic.TcCoe
open Idealize.ShloMosaic.Pipeline (Window)

/-- What a maximum starts from. -/
abbrev low : EReal := FloatOps.ofBits (F := Ideal) .f32 0xFF800000#32

/-- The factor of the scores. -/
abbrev factor : EReal := FloatOps.ofBits (F := Ideal) .f32 0x3D800000#32

/-- The largest score of a row. -/
def top (f : Fin 256 → EReal) : EReal := (Finset.univ : Finset (Fin 256)).fold max low f

/-- The exponential of a score less the largest. -/
def power (f : Fin 256 → EReal) (d : Fin 256) : EReal := FloatOps.hostUnary (F := Ideal) (φ := .f32) .exp (f d - top f)

/-- The weight of a place of the memory. -/
def weight (f : Fin 256 → EReal) (d : Fin 256) : EReal := Ideal.div (power f d) (∑ l, power f l)

/-- A row's scores, from its query and the keys. -/
def score (q : Fin 256 → EReal) (k : Fin 256 → Fin 256 → EReal) (d : Fin 256) : EReal := (∑ e, q e * k d e) * factor

/-- One place of the result: a column of the values, weighted. -/
def att (q : Fin 256 → EReal) (k : Fin 256 → Fin 256 → EReal) (v : Fin 256 → EReal) : EReal := ∑ d, weight (score q k) d * v d

theorem low_max_top (f : Fin 256 → EReal) : max low (top f) = top f :=
  max_eq_right ((Finset.le_fold_max (b := low) (f := f) (s := Finset.univ) low).2 (Or.inl le_rfl))

/-- A column spread over a row's places. -/
theorem spread_apply (x : FVec Ideal S512 .f32) (i : S512x256.Idx) :
    broadcastTo S512x256 (shapeCast S512x1 x shapeCasts_S512_S512x1) broadcasts_S512x1_S512x256 i = x (ValueIdx.ix1 (i 0)) := by
  rw [broadcastTo_apply _ broadcasts_S512x1_S512x256 i (ValueIdx.ix2 (i 0) 0)]
  · refine shapeCast_apply _ shapeCasts_S512_S512x1 _ _ ?_
    rw [Shape.rowMajor_val_one, Shape.rowMajor_val_two]
    show (i 0).val = (i 0).val * 1 + 0
    omega
  · intro a
    match a with
    | ⟨0, _⟩ => rfl
    | ⟨1, _⟩ => rfl

/-- A row's largest entry … -/
theorem rowTop (x : FVec Ideal S512x256 .f32) (h : (M 512 256).Reduces [1] S512) (hφ : FKind.Formats .f32)
    (ha : 0xFF800000#32 = FKind.maximumf.neutral .f32 hφ) (r : Fin 512) :
    multiReduction .maximumf [1] S512 x 0xFF800000#32 h hφ ha (ValueIdx.ix1 r) = top fun d => x (ValueIdx.ix2 r d) := by
  refine (Ideal.multiReduction_maximumf_single x _ h hφ ha _).trans ?_
  refine congrArg (fun f => (Finset.univ : Finset (Fin 256)).fold max low f) (funext fun d => congrArg x (funext fun a => Fin.ext ?_))
  match a with
  | ⟨0, _⟩ => rfl
  | ⟨1, _⟩ => rfl

/-- … and its sum. -/
theorem rowSum (x : FVec Ideal S512x256 .f32) (h : (M 512 256).Reduces [1] S512) (hφ : FKind.Formats .f32)
    (ha : 0x00000000#32 = FKind.add.neutral .f32 hφ) (r : Fin 512) :
    multiReduction .add [1] S512 x 0x00000000#32 h hφ ha (ValueIdx.ix1 r) = ∑ d : Fin 256, x (ValueIdx.ix2 r d) := by
  refine (Ideal.multiReduction_add_single x _ h hφ ha _).trans (Finset.sum_congr rfl fun d _ => congrArg x (funext fun a => Fin.ext ?_))
  match a with
  | ⟨0, _⟩ => rfl
  | ⟨1, _⟩ => rfl

/-- The kernel's weights, from the scores. -/
theorem weight_eq (s : FVec Ideal S512x256 .f32) (i : S512x256.Idx) :
    divf (exp (subf s (broadcastTo S512x256 (shapeCast S512x1 (multiReduction .maximumf [1] S512 s 0xFF800000#32 reduces_S512x256_S512 (.inl rfl) rfl) shapeCasts_S512_S512x1) broadcasts_S512x1_S512x256)))
      (broadcastTo S512x256 (shapeCast S512x1 (multiReduction .add [1] S512 (exp (subf s (broadcastTo S512x256 (shapeCast S512x1 (multiReduction .maximumf [1] S512 s 0xFF800000#32 reduces_S512x256_S512 (.inl rfl) rfl) shapeCasts_S512_S512x1) broadcasts_S512x1_S512x256))) 0x00000000#32 reduces_S512x256_S512 (.inl rfl) rfl) shapeCasts_S512_S512x1) broadcasts_S512x1_S512x256) i
      = weight (fun d => s (ValueIdx.ix2 (i 0) d)) (i 1) := by
  have e : ∀ j : S512x256.Idx, exp (subf s (broadcastTo S512x256 (shapeCast S512x1 (multiReduction .maximumf [1] S512 s 0xFF800000#32 reduces_S512x256_S512 (.inl rfl) rfl) shapeCasts_S512_S512x1) broadcasts_S512x1_S512x256)) j
      = power (fun d => s (ValueIdx.ix2 (j 0) d)) (j 1) := by
    intro j
    have hs : s j = s (ValueIdx.ix2 (j 0) (j 1)) := congrArg s (ValueIdx.eq_ix2 j)
    have ht := (spread_apply _ j).trans (rowTop s reduces_S512x256_S512 (.inl rfl) rfl (j 0))
    exact congrArg₂ (fun p q : EReal => FloatOps.hostUnary (F := Ideal) (φ := .f32) .exp (p - q)) hs ht
  refine congrArg₂ Ideal.div (e i) ((spread_apply _ i).trans ((rowSum _ reduces_S512x256_S512 (.inl rfl) rfl (i 0)).trans (Finset.sum_congr rfl fun d _ => e _)))

/-- One point's result. -/
theorem point (x : Vec Ideal S512x256 .bf16) (y z : Vec Ideal S256x256 .bf16) (i : S512x256.Idx) :
    out0_3 x y z i = att (fun e => x (ValueIdx.ix2 (i 0) e)) (fun d e => y (ValueIdx.ix2 d e)) (fun d => z (ValueIdx.ix2 d (i 1))) := by
  unfold out0_3
  rw [View.canon_unit_zero hz]
  unfold k0_pay1
  dsimp only
  rw [View.ld_unit_zero (S := S512x256) hz, View.ld_unit_zero (S := S256x256) hz, View.ld_unit_zero (S := S256x256) hz]
  refine (congrFun (plain_eq (φ := .bf16) (ψ := .bf16) 512 256 256 none _ z) i).trans (Finset.sum_congr rfl fun d _ => congrArg (· * _) ?_)
  refine (weight_eq _ (ValueIdx.ix2 (i 0) d)).trans ?_
  refine congrArg (fun f => weight f d) (funext fun l => ?_)
  exact congrArg (· * factor) (congrFun (transposedRhs_eq (φ := .bf16) (ψ := .bf16) 512 256 256 none x y) (ValueIdx.ix2 (i 0) l))

/-- The whole attention: four heads of 256 columns, the keys in the first 1024 columns and the values in the others. -/
def whole (a : Mat 4096 1024) (b : Mat 256 2048) : Mat 4096 1024 := fun j =>
  have h1 : (j 1).val < 1024 := (j 1).isLt
  att (fun e => a (ValueIdx.ix2 (j 0) ⟨256 * ((j 1).val / 256) + e.val, by omega⟩))
    (fun d e => b (ValueIdx.ix2 d ⟨256 * ((j 1).val / 256) + e.val, by omega⟩)) (fun d => b (ValueIdx.ix2 d ⟨1024 + (j 1).val, by omega⟩))

/-- Which block of each array a point of the grid holds. -/
theorem idx_val : ∀ t : Fin cfg0.N, win0_0.index t = ![t.val % 8, t.val / 8] ∧ win0_1.index t = ![0, t.val / 8]
    ∧ win0_2.index t = ![0, 4 + t.val / 8] ∧ win0_3.index t = ![t.val % 8, t.val / 8] :=
  (by decide +kernel : ∀ t : Fin grid0.N, _)

section
variable (m : (ℓ : Loc nD τ sig) → Buf (Elt Ideal) ℓ) (c : Dev nD)

theorem blk0 (t : Fin cfg0.N) : IsBlock (V m c main_arg0 : Mat 4096 1024) (512 * (t.val % 8)) (256 * (t.val / 8)) (iblk m c 0 t : Mat 512 256) :=
  isBlock_of _ (fun _ => rfl) (fun i => (Window.rect_emb_val win0_0 t i 0).trans (congrArg (· + (i 0).val) (congrArg (· * 512) (congrFun (idx_val t).1 0))))
    (fun i => (Window.rect_emb_val win0_0 t i 1).trans (congrArg (· + (i 1).val) (congrArg (· * 256) (congrFun (idx_val t).1 1))))

theorem blk1 (t : Fin cfg0.N) : IsBlock (V m c main_arg1 : Mat 256 2048) (256 * 0) (256 * (t.val / 8)) (iblk m c 1 t : Mat 256 256) :=
  isBlock_of _ (fun _ => rfl) (fun i => (Window.rect_emb_val win0_1 t i 0).trans (congrArg (· + (i 0).val) (congrArg (· * 256) (congrFun (idx_val t).2.1 0))))
    (fun i => (Window.rect_emb_val win0_1 t i 1).trans (congrArg (· + (i 1).val) (congrArg (· * 256) (congrFun (idx_val t).2.1 1))))

theorem blk2 (t : Fin cfg0.N) : IsBlock (V m c main_arg1 : Mat 256 2048) (256 * 0) (256 * (4 + t.val / 8)) (iblk m c 2 t : Mat 256 256) :=
  isBlock_of _ (fun _ => rfl) (fun i => (Window.rect_emb_val win0_2 t i 0).trans (congrArg (· + (i 0).val) (congrArg (· * 256) (congrFun (idx_val t).2.2.1 0))))
    (fun i => (Window.rect_emb_val win0_2 t i 1).trans (congrArg (· + (i 1).val) (congrArg (· * 256) (congrFun (idx_val t).2.2.1 1))))

theorem cover (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have ht : 8 * ((i 1).val / 256) + (i 0).val / 512 < cfg0.N := lt_of_lt_of_eq (b := 32) (by omega) N_0.symm
  refine ⟨⟨8 * ((i 1).val / 256) + (i 0).val / 512, ht⟩, flush0_3 _, ?_⟩
  show i ∈ ((View.whole main_v0).slice (win0_3.rect ⟨8 * ((i 1).val / 256) + (i 0).val / 512, ht⟩)).set
  rw [View.set_slice_whole, Rect.mem_set_unit]
  intro a
  show win0_3.index ⟨8 * ((i 1).val / 256) + (i 0).val / 512, ht⟩ a * S512x256.size a ≤ (i a).val ∧ (i a).val < win0_3.index ⟨8 * ((i 1).val / 256) + (i 0).val / 512, ht⟩ a * S512x256.size a + S512x256.size a
  rw [(idx_val ⟨8 * ((i 1).val / 256) + (i 0).val / 512, ht⟩).2.2.2]
  match a with
  | ⟨0, _⟩ =>
    show (8 * ((i 1).val / 256) + (i 0).val / 512) % 8 * 512 ≤ (i 0).val ∧ (i 0).val < (8 * ((i 1).val / 256) + (i 0).val / 512) % 8 * 512 + 512
    omega
  | ⟨1, _⟩ =>
    show (8 * ((i 1).val / 256) + (i 0).val / 512) / 8 * 256 ≤ (i 1).val ∧ (i 1).val < (8 * ((i 1).val / 256) + (i 0).val / 512) / 8 * 256 + 256
    omega

/-- A point's result is its block of the whole attention. -/
theorem att_block {a : Mat 4096 1024} {b : Mat 256 2048} {x : Mat 512 256} {y z : Mat 256 256} {r h : ℕ} (hx : IsBlock a r (256 * h) x)
    (hy : IsBlock b (256 * 0) (256 * h) y) (hv : IsBlock b (256 * 0) (256 * (4 + h)) z) :
    IsBlock (whole a b) r (256 * h) (out0_3 (F := Ideal) x y z : Mat 512 256) := by
  intro i j h0 h1
  have hi : (i 1).val < 256 := (i 1).isLt
  have e : (j 1).val / 256 = h := by omega
  refine (point x y z i).trans ?_
  unfold whole
  dsimp only
  have eq : (fun e : Fin 256 => x (ValueIdx.ix2 (i 0) e)) = fun e : Fin 256 => a (ValueIdx.ix2 (j 0) ⟨256 * ((j 1).val / 256) + e.val, by have := (j 1).isLt; have : (j 1).val < 1024 := (j 1).isLt; omega⟩) :=
    funext fun d => hx _ _ h0 (congrArg (fun k => 256 * k + d.val) e)
  have ek : (fun d e : Fin 256 => y (ValueIdx.ix2 d e)) = fun d e : Fin 256 => b (ValueIdx.ix2 d ⟨256 * ((j 1).val / 256) + e.val, by have : (j 1).val < 1024 := (j 1).isLt; omega⟩) :=
    funext fun d => funext fun l => hy _ _ (Nat.zero_add _).symm (congrArg (fun k => 256 * k + l.val) e)
  have ev : (fun d : Fin 256 => z (ValueIdx.ix2 d (i 1))) = fun d : Fin 256 => b (ValueIdx.ix2 d ⟨1024 + (j 1).val, by have : (j 1).val < 1024 := (j 1).isLt; omega⟩) :=
    funext fun d => hv _ _ (Nat.zero_add _).symm (by show 1024 + (j 1).val = 256 * (4 + h) + (i 1).val; omega)
  rw [eq, ek, ev]

/-- The array after the run. -/
theorem final : (dats m 0 c).arrAt 3 cfg0.N = (whole (V m c main_arg0) (V m c main_arg1) : Mat 4096 1024) := by
  refine (dats m 0 c).arrAt_eq_of_cover 3 _ (fun t hf => ?_) cover
  refine (Value.flushed3 m c t).trans (funext fun y => ?_)
  refine att_block (blk0 m c t) (blk1 m c t) (blk2 m c t) ((cfg0.win 3).xinj (grid0.coords t) y) _ ?_ ?_
  · refine (Window.rect_emb_val win0_3 t y 0).trans ?_
    rw [(idx_val t).2.2.2]
    exact congrArg (· + (y 0).val) (Nat.mul_comm _ 512)
  · refine (Window.rect_emb_val win0_3 t y 1).trans ?_
    rw [(idx_val t).2.2.2]
    exact congrArg (· + (y 1).val) (Nat.mul_comm _ 256)

end

section Reference
open Cert.MemFwdReferenceIdeal Cert.MemFwdReferenceIdeal.Read
variable (x : Mat 4096 1024) (w : Mat 256 2048)

/-- The reference's scores. -/
theorem ref_score (h : Fin 4) (r : Fin 4096) (d : Fin 256) : val_main_v9 (F := Ideal) x w (ValueIdx.ix3 h r d)
    = score (fun e => x (ValueIdx.ix2 r ⟨256 * h.val + e.val, by omega⟩)) (fun d e => w (ValueIdx.ix2 d ⟨256 * h.val + e.val, by omega⟩)) d := by
  rw [val_main_v9_apply (F := Ideal), val_main_v8_apply (F := Ideal), val_main_cst_apply (F := Ideal), val_main_v7_apply x w]
  refine congrArg (· * factor) (Finset.sum_congr rfl fun e _ => ?_)
  rw [val_main_v4_apply (F := Ideal), val_main_v0_apply (F := Ideal), val_main_v5_apply (F := Ideal), val_main_v2_apply (F := Ideal), val_main_v1_apply (F := Ideal)]
  refine congrArg₂ (fun p q : EReal => p * q) (congrArg x (funext fun a => Fin.ext ?_)) (congrArg w (funext fun a => Fin.ext ?_))
  · match a with
    | ⟨0, _⟩ => show ((r.val * 4 + h.val) * 256 + e.val) / 1024 = r.val; omega
    | ⟨1, _⟩ => show ((r.val * 4 + h.val) * 256 + e.val) % 1024 = 256 * h.val + e.val; omega
  · match a with
    | ⟨0, _⟩ => show ((d.val * 4 + h.val) * 256 + e.val) / 1024 = d.val; omega
    | ⟨1, _⟩ => show ((d.val * 4 + h.val) * 256 + e.val) % 1024 = 256 * h.val + e.val; omega

/-- The host's largest entry of a row. -/
theorem hostTop (y : FVec Ideal S4x4096x256 .f32) (h : Fin 4) (r : Fin 4096) :
    Host.reduce (FloatOps.maximumf (F := Ideal) (φ := .f32)) y (constant S_ .f32 0xFF800000#32) Cert.MemFwdReferenceIdeal.Gen.reducesTo_S4x4096x256_S4x4096_d2
      Cert.MemFwdReferenceIdeal.Gen.h_S_ (ValueIdx.ix2 h r) = top fun d => y (ValueIdx.ix3 h r d) := by
  have hr : S4x4096x256.Reduces [2] S4x4096 := by decide
  rw [hostReduce_maximumf_eq_multiReduction y 0xFF800000#32 Cert.MemFwdReferenceIdeal.Gen.reducesTo_S4x4096x256_S4x4096_d2 Cert.MemFwdReferenceIdeal.Gen.h_S_ hr (.inl rfl) rfl]
  refine (Ideal.multiReduction_maximumf_single y _ hr (.inl rfl) rfl _).trans ?_
  refine congrArg (fun f => (Finset.univ : Finset (Fin 256)).fold max low f) (funext fun d => congrArg y (funext fun a => Fin.ext ?_))
  match a with
  | ⟨0, _⟩ => rfl
  | ⟨1, _⟩ => rfl
  | ⟨2, _⟩ => rfl

/-- The reference's largest score of a row. -/
theorem ref_top (h : Fin 4) (r : Fin 4096) : val_main_v12 (F := Ideal) x w (ValueIdx.ix2 h r) = top fun d => val_main_v9 (F := Ideal) x w (ValueIdx.ix3 h r d) := by
  rw [val_main_v12_apply (F := Ideal), val_main_v11_apply (F := Ideal), val_main_cst_1_apply (F := Ideal)]
  refine Eq.trans (congrArg (max low) ?_) (low_max_top _)
  unfold val_main_v10 val_main_cst_0
  exact hostTop _ h r

theorem ref_power (h : Fin 4) (r : Fin 4096) (d : Fin 256) :
    val_main_v16 (F := Ideal) x w (ValueIdx.ix3 h r d) = power (fun d => val_main_v9 (F := Ideal) x w (ValueIdx.ix3 h r d)) d := by
  rw [val_main_v16_apply (F := Ideal), val_main_v15_apply (F := Ideal), val_main_v14_apply (F := Ideal), val_main_v13_apply (F := Ideal)]
  have e : idx_main_v13 (idx_main_v14 (ValueIdx.ix3 h r d)) = ValueIdx.ix2 h r := by
    funext a
    match a with
    | ⟨0, _⟩ => rfl
    | ⟨1, _⟩ => rfl
  rw [e, ref_top x w h r]
  rfl

theorem ref_weight (h : Fin 4) (r : Fin 4096) (d : Fin 256) :
    val_main_v20 (F := Ideal) x w (ValueIdx.ix3 h r d) = weight (fun d => val_main_v9 (F := Ideal) x w (ValueIdx.ix3 h r d)) d := by
  rw [val_main_v20_apply (F := Ideal), val_main_v19_apply (F := Ideal), val_main_v18_apply (F := Ideal), val_main_v17_apply x w, ref_power x w h r d]
  refine congrArg (Ideal.div _) ((congrArg (· + _) Ideal.ofBits_zero_f32).trans ((zero_add _).trans (Finset.sum_congr rfl fun l _ => ?_)))
  have e : idx_main_v17 (idx_main_v18 (idx_main_v19 (ValueIdx.ix3 h r d))) l = ValueIdx.ix3 h r l := by
    funext a
    match a with
    | ⟨0, _⟩ => rfl
    | ⟨1, _⟩ => rfl
    | ⟨2, _⟩ => rfl
  rw [e]
  exact ref_power x w h r l

/-- The reference's result. -/
theorem ref_eq : val_main_v24 (F := Ideal) x w = whole x w := by
  funext i
  have h0 : (i 0).val < 4096 := (i 0).isLt
  have h1 : (i 1).val < 1024 := (i 1).isLt
  unfold whole att
  dsimp only
  rw [val_main_v24_apply (F := Ideal), val_main_v23_apply (F := Ideal), val_main_v22_apply (F := Ideal)]
  refine (val_main_v21_apply x w _).trans (Finset.sum_congr rfl fun d _ => ?_)
  refine (mul_comm _ _).trans (congrArg₂ (fun p q : EReal => p * q) ?_ ?_)
  · refine (congrArg (val_main_v20 (F := Ideal) x w) (?_ : _ = ValueIdx.ix3 (⟨(i 1).val / 256, by omega⟩ : Fin 4) (i 0) d)).trans ((ref_weight x w _ _ _).trans ?_)
    · funext a
      apply Fin.ext
      match a with
      | ⟨0, _⟩ => show ((i 0).val * 1024 + (i 1).val) / 256 % 4 = (i 1).val / 256; omega
      | ⟨1, _⟩ => show ((i 0).val * 1024 + (i 1).val) / 1024 = (i 0).val; omega
      | ⟨2, _⟩ => rfl
    · exact congrArg (fun f => weight f d) (funext fun l => ref_score x w _ _ l)
  · rw [val_main_v6_apply (F := Ideal), val_main_v3_apply (F := Ideal), val_main_v1_apply (F := Ideal)]
    refine congrArg w (funext fun a => Fin.ext ?_)
    match a with
    | ⟨0, _⟩ => show ((d.val * 4 + ((i 0).val * 1024 + (i 1).val) / 256 % 4) * 256 + ((i 0).val * 1024 + (i 1).val) % 256) / 1024 = d.val; omega
    | ⟨1, _⟩ => show 1024 + ((d.val * 4 + ((i 0).val * 1024 + (i 1).val) / 256 % 4) * 256 + ((i 0).val * 1024 + (i 1).val) % 256) % 1024 = 1024 + (i 1).val; omega

end Reference

/-- The kernel's result is the reference's. -/
theorem values : Cert.algebraic_MemFwdIdeal_MemFwdReferenceIdeal := by
  intro m ρ m' ρ' _ hm
  refine ⟨fun c => whole (V m c main_arg0) (V m c main_arg1), ?_, ?_⟩
  · exact (θ_run defs _ _).mono (fun r h c => ⟨(h c).1.trans (final m c), (h c).2⟩) (Value.run_blocks m ρ)
  · refine (θ_run Cert.MemFwdReferenceIdeal.defs _ _).mono (fun r h c => ⟨(h c).1.trans ?_, (h c).2⟩) (Cert.MemFwdReferenceIdeal.Value.run m' ρ')
    refine (Cert.MemFwdReferenceIdeal.Read.val_main_v24_eq (F := Ideal) _ _).trans ((ref_eq _ _).trans ?_)
    exact congrArg₂ (fun p q => whole p q) (hm c).1 (hm c).2

theorem frame_ref : Cert.quiescent_MemFwdReferenceIdeal := fun m ρ _ =>
  (θ_run Cert.MemFwdReferenceIdeal.defs _ _).mono (fun r h => ⟨fun c => (h c).2, sem_eq_zero_of_no_sems (by decide) r.2⟩) (Cert.MemFwdReferenceIdeal.Value.run m ρ)

end Cert.Products.MemFwd
-- ==== Proof.FwdModel.lean ====
module

public import proofs.«01_k».proof.Proof.Full

@[expose] public section

noncomputable section

/-! The forward pass of stick-breaking attention over the real numbers: the keys are taken from the last to the first, so what is
    carried are the sums over the keys from `k` on. The weights are those of the backward pass. -/

namespace Cert.SbFwd

open Cert.SbBwd
open Idealize.ShloMosaic Idealize.ShloMosaic.ValueIdx
open Finset (range)

section Model
variable {F : FTy → Type} [FloatOps F] {n o : ℕ}

/-- The weights before the mask. -/
def mV (hg : Geo n) (gt : FVec F (M 256 256) .bf16) (lb lk : FVec F (M n 256) .f32) (cf : FVec F (M n 1) .f32) : FVec F (M n 256) .f32 :=
  exp (addf (addf lb (broadcastTo (M n 256) cf hg.bc)) (mSplit lk gt))

/-- The weights of a block that lies before every query row, -/
def iV (hg : Geo n) (gt : FVec F (M 256 256) .bf16) (qs : FVec F (M n 128) .bf16) (cf : FVec F (M n 1) .f32) (kb : FVec F (M 256 128) .bf16) :
    FVec F (M n 256) .f32 := mV hg gt (mLb (mZ qs kb)) (subf (mLb (mZ qs kb)) (mZ qs kb)) cf
/-- and of the block that starts at the first of the query rows. -/
def dV (hg : Geo n) (gt : FVec F (M 256 256) .bf16) (qs : FVec F (M n 128) .bf16) (cf : FVec F (M n 1) .f32) (kb : FVec F (M 256 128) .bf16) :
    FVec F (M n 256) .f32 := mKeep hg (mV hg gt (mLb (mZ qs kb)) (dLk hg qs kb) cf)

/-- The result after a block of the diagonal. -/
def fY (hg : Geo n) (hc : Cut n o) (gt : FVec F (M 256 256) .bf16) (qs : FVec F (M 2048 128) .bf16) (cf : FVec F (M 2048 1) .f32)
    (y : FVec F (M 2048 128) .f32) (kb vb : FVec F (M 256 128) .bf16) : FVec F (M 2048 128) .f32 :=
  put hc y (mDq (low hc y) (truncf .bf16 (dV hg gt (low hc qs) (low1 hc cf) kb) (by decide)) vb)

end Model

/-- The triangle of ones below the diagonal. -/
def triGt : (M 256 256).Idx → EReal := up2 256 256 fun r c => if c < r then 1 else 0

theorem sum_gt (x : ℕ → ℝ) {c : ℕ} (h : c < 256) :
    ∑ d ∈ range 256, x d * (if c < d then 1 else 0) = ∑ d ∈ range 256, x d - ∑ d ∈ range (c + 1), x d := by
  rw [← sum_le x h, ← Finset.sum_sub_distrib]
  refine Finset.sum_congr rfl fun d _ => ?_
  by_cases hd : c < d
  · rw [if_pos hd, if_neg (by omega)]; ring
  · rw [if_neg hd, if_pos (by omega)]; ring

/-- The weights of a block. -/
def rV (P : ℕ → ℕ → Bool) (Z : ℕ → ℕ → ℝ) (CF : ℕ → ℝ) (r c : ℕ) : ℝ :=
  if P r c then Real.exp (-SP (-Z r c) + CF r + (∑ d ∈ range 256, rLk P Z r d - ∑ d ∈ range (c + 1), rLk P Z r d)) else 0

section Values
variable {n : ℕ} (hg : Geo n) (Q K : ℕ → ℕ → ℝ) (CF : ℕ → ℝ)

theorem mV_up2 (lb lk : ℕ → ℕ → ℝ) :
    mV (F := Ideal) hg triGt (up2 n 256 lb) (up2 n 256 lk) (up2 n 1 fun r _ => CF r)
      = up2 n 256 fun r c => Real.exp (lb r c + CF r + (∑ d ∈ range 256, lk r d - ∑ d ∈ range (c + 1), lk r d)) := by
  unfold mV triGt
  rw [mSplit_up2, spread_up2, addf_up2, addf_up2, exp_up2]
  exact up2_congr fun r _ c hc => by rw [sum_gt _ hc]

theorem iV_up2 : iV (F := Ideal) hg triGt (up2 n 128 Q) (up2 n 1 fun r _ => CF r) (up2 256 128 K) = up2 n 256 (rV always (rZ Q K) CF) := by
  unfold iV
  rw [iLk_up2, mZ_up2, mLb_up2, mV_up2]; rfl
theorem dV_up2 (hn : n < 2 ^ 31) : dV (F := Ideal) hg triGt (up2 n 128 Q) (up2 n 1 fun r _ => CF r) (up2 256 128 K)
    = up2 n 256 (rV before (rZ Q K) CF) := by
  unfold dV
  rw [dLk_up2 hg Q K hn, mZ_up2, mLb_up2, mV_up2, mKeep_up2 hg hn]; rfl

end Values

section Head
variable (Q K V : ℕ → ℕ → ℝ)

/-- The two carried sums over the keys from `k` on. -/
def uCF (k t : ℕ) : ℝ := sLT Q K t - sCF Q K k t
def uY (k t d : ℕ) : ℝ := ∑ j ∈ range 4096, gW (hZ Q K) t j * V j d - ∑ j ∈ range k, gW (hZ Q K) t j * V j d

theorem uCF_stop {k k' t : ℕ} (h : k ≤ k') (ht : t ≤ k) : uCF Q K k' t = uCF Q K k t := by
  unfold uCF
  rw [sCF_stop Q K h ht]
theorem uY_stop {k k' t d : ℕ} (h : k ≤ k') (ht : t ≤ k) : uY Q K V k' t d = uY Q K V k t d := by
  obtain ⟨m, rfl⟩ := Nat.exists_eq_add_of_le h
  unfold uY
  rw [sum_add_range, Finset.sum_eq_zero (s := range m) (fun c _ => by rw [gW_of_le (by omega), zero_mul]), add_zero]
theorem uCF_end {k t : ℕ} (hk : k ≤ 4096) (ht : t ≤ k) : uCF Q K k t = 0 := by
  rw [← uCF_stop Q K hk ht]
  exact sub_self _
theorem uY_end {k t d : ℕ} (hk : k ≤ 4096) (ht : t ≤ k) : uY Q K V k t d = 0 := by
  rw [← uY_stop Q K V hk ht]
  exact sub_self _
theorem uCF_zero (t : ℕ) : uCF Q K 0 t = sLT Q K t := sub_zero _
theorem uY_zero (t d : ℕ) : uY Q K V 0 t d = ∑ j ∈ range 4096, gW (hZ Q K) t j * V j d := sub_zero _

theorem uCF_step (k t : ℕ) : uCF Q K (k + 256) t + ∑ c ∈ range 256, gLK (hZ Q K) t (k + c) = uCF Q K k t := by
  unfold uCF sCF
  rw [sum_add_range]; ring
theorem uY_step (k t d : ℕ) : uY Q K V (k + 256) t d + ∑ c ∈ range 256, gW (hZ Q K) t (k + c) * V (k + c) d = uY Q K V k t d := by
  unfold uY
  rw [sum_add_range]; ring

/-- A block's weights are the entries of the matrix of weights. -/
theorem rV_eq {P : ℕ → ℕ → Bool} {z : ℕ → ℕ → ℝ} {CF : ℕ → ℝ} {t k r : ℕ} (hP : ∀ c < 256, P r c = decide (k + c < t))
    (hz : ∀ c < 256, z r c = hZ Q K t (k + c)) (hCF : CF r = uCF Q K (k + 256) t) {c : ℕ} (hc : c < 256) : rV P z CF r c = gW (hZ Q K) t (k + c) := by
  unfold rV gW
  have h : ∀ m ≤ 256, ∑ d ∈ range m, rLk P z r d = ∑ d ∈ range m, gLK (hZ Q K) t (k + d) := fun m hm =>
    Finset.sum_congr rfl fun d h => rLk_eq hP hz (by have := Finset.mem_range.1 h; omega)
  have e : -SP (-z r c) + CF r + (∑ d ∈ range 256, rLk P z r d - ∑ d ∈ range (c + 1), rLk P z r d)
      = -SP (-hZ Q K t (k + c)) + ∑ j ∈ range 4096, gLK (hZ Q K) t j - ∑ j ∈ range (k + c + 1), gLK (hZ Q K) t j := by
    rw [h 256 le_rfl, h (c + 1) (by omega), hCF, hz c hc, Nat.add_assoc k c 1, sum_add_range _ k (c + 1)]
    unfold uCF sCF sLT
    rw [sum_add_range _ k 256]; ring
  rw [e, hP c hc]; simp only [decide_eq_true_eq]

variable {n : ℕ} (hg : Geo n)

theorem sum_from_uCF (t k : ℕ) :
    mSum (F := Ideal) hg (from1 n t (uCF Q K (k + 256))) (up2 n 256 fun r c => gLK (hZ Q K) (t + r) (k + c)) = from1 n t (uCF Q K k) := by
  unfold from1
  rw [mSum_up2 hg (fun r => uCF Q K (k + 256) (t + r))]
  exact up2_congr fun r _ c _ => uCF_step Q K k (t + r)
theorem y_from (t k : ℕ) :
    mDq (F := Ideal) (n := n) (from2 n 128 t (uY Q K V (k + 256))) (up2 n 256 fun r c => gW (hZ Q K) (t + r) (k + c)) (from2 256 128 k V)
      = from2 n 128 t (uY Q K V k) := by
  unfold from2
  rw [mDq_up2]
  exact up2_congr fun r _ c _ => uY_step Q K V k (t + r) c

/-- The weights of a block before all the rows. -/
theorem iV_from {t k : ℕ} (hk : k + 256 ≤ t) : iV (F := Ideal) hg triGt (from2 n 128 t Q) (from1 n t (uCF Q K (k + 256))) (from2 256 128 k K)
    = up2 n 256 fun r c => gW (hZ Q K) (t + r) (k + c) := by
  unfold from2 from1
  rw [iV_up2 hg _ _ (fun r => uCF Q K (k + 256) (t + r))]
  exact up2_congr fun r _ c hc => rV_eq Q K (fun c hc => always_iff hk hc) (fun c _ => rfl) rfl hc
/-- The weights of a block that starts at the first row. -/
theorem dV_from {t : ℕ} (hn : n ≤ 2048) : dV (F := Ideal) hg triGt (from2 n 128 t Q) (from1 n t (uCF Q K (t + 256))) (from2 256 128 t K)
    = up2 n 256 fun r c => gW (hZ Q K) (t + r) (t + c) := by
  unfold from2 from1
  rw [dV_up2 hg _ _ (fun r => uCF Q K (t + 256) (t + r)) (by omega)]
  exact up2_congr fun r _ c hc => rV_eq Q K (fun c _ => before_iff) (fun c _ => rfl) rfl hc

/-! The block that starts at row `T + o`, for all 2048 rows from `T` on. -/

variable {o : ℕ} (hc : Cut n o) (T : ℕ)

theorem fCF_down : fCF (F := Ideal) hg hc (from2 2048 128 T Q) (from1 2048 T (uCF Q K (T + o + 256))) (from2 256 128 (T + o) K)
    = from1 2048 T (uCF Q K (T + o)) := by
  unfold fCF
  rw [low1_from, low_from, dLk_from Q K hg (by have := hc.on; omega), sum_from_uCF, put1_from hc T _ _ fun t ht => uCF_stop Q K (by omega) (by omega)]
theorem fY_down : fY (F := Ideal) hg hc triGt (from2 2048 128 T Q) (from1 2048 T (uCF Q K (T + o + 256))) (from2 2048 128 T (uY Q K V (T + o + 256)))
      (from2 256 128 (T + o) K) (from2 256 128 (T + o) V)
    = from2 2048 128 T (uY Q K V (T + o)) := by
  unfold fY
  rw [low1_from, low_from, low_from, dV_from Q K hg (by have := hc.on; omega), truncf_up2, y_from,
    put_from hc T _ _ fun t ht d => uY_stop Q K V (by omega) (by omega)]

end Head

end Cert.SbFwd
-- ==== Proof.FwdRun.lean ====
module

public import proofs.«01_k».proof.Proof.Gen.FwdIdeal.Loops
public import proofs.«01_k».proof.Proof.Gen.FwdIdeal.Frame
public import Idealize.ShloMosaic.Lib.LoopRemainder
public import Idealize.ShloMosaic.Lib.VecWindow

@[expose] public section

set_option maxRecDepth 16384

noncomputable section

namespace Cert.SbFwd

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄K" => MT nD τ sig Unit (Elt F) ℕ (UR sig nD τ) ℕ

/-- What one head's pass touches: the key and value blocks it reads, the row sums' block it writes. -/
abbrev HeadRes (c : Dev nD) (arg3 : Memref sig .tc .vmem S4096x128 .bf16) (arg4 : Memref sig .tc .vmem S4096x128 .bf16)
    (arg6 : Memref sig .tc .vmem S2x2048x1 .f32)
    (X3 : BufTy.Contents (Elt F) arg3.view.ty) (X4 : BufTy.Contents (Elt F) arg4.view.ty) (f6 : BufTy.Contents (Elt F) arg6.view.ty) : sProp 𝕄K :=
  iprop((arg3.view.loc (c : Thread nD τ) ↦[arg3.view.set]{fullShare} X3) ∗ (arg4.view.loc (c : Thread nD τ) ↦[arg4.view.set]{fullShare} X4)
    ∗ (arg6.view.loc (c : Thread nD τ) ↦[arg6.view.set]{fullShare} f6))

section Body

variable (c : Dev nD) (i : grid0.Coords)
  (arg2 : Memref sig .tc .vmem S2048x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S2048x128 .bf16) (harg5 : arg5.IsWhole)
  (arg6 : Memref sig .tc .vmem S2x2048x1 .f32) (harg6 : arg6.IsWhole)
  (v0 : BitVec 32) (v1 : Vec F S2048x128 .bf16)
  (X3 : BufTy.Contents (Elt F) arg3.view.ty) (X4 : BufTy.Contents (Elt F) arg4.view.ty)

set_option maxHeartbeats 4000000 in
/-- One head's pass, run once at a symbolic head: what it yields and what it writes into the row sums' block. -/
@[irreducible] def headTrip (k : Fin k0_t1_loop.trips) :
    Σ' (R : FVec F S2048x128 .f32 → FVec F S2048x128 .f32),
      { L6 : FVec F S2048x128 .f32 → List (View.Piece (Elt F) S2x2048x1 .f32) //
        ∀ (E : Set ℕ) (acc : FVec F S2048x128 .f32) (f6 : BufTy.Contents (Elt F) arg6.view.ty),
          HeadRes (F := F) c arg3 arg4 arg6 X3 X4 f6
          ⊢ wp frame (wpE (defs₀ (F := F)) Variants.none (c : Thread nD τ) none) E (k0_t1_body (F := F) i arg2 harg2 arg3 harg3 arg4 harg4 arg5 harg5 arg6 harg6 v0 v1 k acc)
            (fun yld => iprop(⌜yld = R acc⌝ ∗ HeadRes (F := F) c arg3 arg4 arg6 X3 X4 (arg6.view.writes (Elt F) f6 (L6 acc)))) } := by
  refine ⟨?_, ?_, fun E acc f6 => ?run⟩
  case run =>
    unfold k0_t1_body
    iintro ⟨H3, H4, H6⟩
    sl_exec_parts
    sl_step
    sl_close

variable (G6 : BufTy.Contents (Elt F) arg6.view.ty)

/-- One head's contribution to the state: the new result and the pieces written into the row sums. -/
@[irreducible] def headStep (k : ℕ) (prev : FVec F S2048x128 .f32 × List (View.Piece (Elt F) S2x2048x1 .f32)) :
    FVec F S2048x128 .f32 × List (View.Piece (Elt F) S2x2048x1 .f32) :=
  if h : k < k0_t1_loop.trips then
    ((headTrip c i arg2 harg2 arg3 harg3 arg4 harg4 arg5 harg5 arg6 harg6 v0 v1 X3 X4 ⟨k, h⟩).1 prev.1, (headTrip c i arg2 harg2 arg3 harg3 arg4 harg4 arg5 harg5 arg6 harg6 v0 v1 X3 X4 ⟨k, h⟩).2.1 prev.1 ++ prev.2)
  else prev

/-- The state before head `k`: the result so far, and the pieces the earlier heads wrote. -/
def headSt (init : FVec F S2048x128 .f32) : ℕ → FVec F S2048x128 .f32 × List (View.Piece (Elt F) S2x2048x1 .f32)
  | 0 => (init, [])
  | k + 1 => headStep c i arg2 harg2 arg3 harg3 arg4 harg4 arg5 harg5 arg6 harg6 v0 v1 X3 X4 k (headSt init k)

theorem headSt_succ (init : FVec F S2048x128 .f32) (k : Fin k0_t1_loop.trips) :
    headSt c i arg2 harg2 arg3 harg3 arg4 harg4 arg5 harg5 arg6 harg6 v0 v1 X3 X4 init (k.val + 1) =
      ((headTrip c i arg2 harg2 arg3 harg3 arg4 harg4 arg5 harg5 arg6 harg6 v0 v1 X3 X4 k).1 (headSt c i arg2 harg2 arg3 harg3 arg4 harg4 arg5 harg5 arg6 harg6 v0 v1 X3 X4 init k.val).1,
       (headTrip c i arg2 harg2 arg3 harg3 arg4 harg4 arg5 harg5 arg6 harg6 v0 v1 X3 X4 k).2.1 (headSt c i arg2 harg2 arg3 harg3 arg4 harg4 arg5 harg5 arg6 harg6 v0 v1 X3 X4 init k.val).1 ++ (headSt c i arg2 harg2 arg3 harg3 arg4 harg4 arg5 harg5 arg6 harg6 v0 v1 X3 X4 init k.val).2) := by
  rw [headSt.eq_2]; unfold headStep; exact dif_pos k.isLt

/-- Before the first head the result is the initial one. -/
theorem headSt_zero (init : FVec F S2048x128 .f32) : init = (headSt c i arg2 harg2 arg3 harg3 arg4 harg4 arg5 harg5 arg6 harg6 v0 v1 X3 X4 init 0).1 := rfl

set_option warn.classDefReducibility false in
/-- The loop over the two heads: before head `k` the row sums' block holds what the earlier heads wrote. -/
@[sl_loop] def loopInv_heads (init : FVec F S2048x128 .f32) :
    LoopInvTy_k0_t1 (F := F) Unit ℕ (UR sig nD τ) ℕ Variants.none c none Set.univ i arg2 harg2 arg3 harg3 arg4 harg4 arg5 harg5 arg6 harg6 v0 v1 init where
  inv k acc := iprop((arg3.view.loc (c : Thread nD τ) ↦[arg3.view.set]{fullShare} X3) ∗ (arg4.view.loc (c : Thread nD τ) ↦[arg4.view.set]{fullShare} X4)
    ∗ (∃ f, (arg6.view.loc (c : Thread nD τ) ↦[arg6.view.set]{fullShare} f) ∗ ⌜f = arg6.view.writes (Elt F) G6 (headSt c i arg2 harg2 arg3 harg3 arg4 harg4 arg5 harg5 arg6 harg6 v0 v1 X3 X4 init k).2⌝)
    ∗ ⌜acc = (headSt c i arg2 harg2 arg3 harg3 arg4 harg4 arg5 harg5 arg6 harg6 v0 v1 X3 X4 init k).1⌝)
  step k acc := by
    iintro ⟨H3, H4, ⟨%f6, H6, %h6⟩, %hacc⟩
    subst hacc
    iapply (wp_wand_r Idealize.ShloMosaic.frame (wpE (defs₀ (F := F)) Variants.none (c : Thread nD τ) none) Set.univ)
    isplitl [H3 H4 H6]
    · iapply ((headTrip c i arg2 harg2 arg3 harg3 arg4 harg4 arg5 harg5 arg6 harg6 v0 v1 X3 X4 k).2.2 Set.univ (headSt c i arg2 harg2 arg3 harg3 arg4 harg4 arg5 harg5 arg6 harg6 v0 v1 X3 X4 init k.val).1 f6)
      isplitl [H3]; · iexact H3
      isplitl [H4]; · iexact H4
      iexact H6
    · iintro %yld ⟨%hres, H3, H4, H6⟩
      isplitl [H3]; · iexact H3
      isplitl [H4]; · iexact H4
      simp only [headSt_succ]
      isplitl [H6]
      · iexists _; isplitl [H6]; · iexact H6
        ipureintro; rw [h6, ← View.writes_append]
      ipureintro; rw [hres]

end Body

/-! ## The body at a grid point -/

section BodyRun

variable (c : Dev nD) (i : grid0.Coords)
  (arg2 : Memref sig .tc .vmem S2048x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S2048x128 .bf16) (harg5 : arg5.IsWhole)
  (arg6 : Memref sig .tc .vmem S2x2048x1 .f32) (harg6 : arg6.IsWhole)
  (x2 : Vec F S2048x128 .bf16) (x3 : Vec F S4096x128 .bf16) (x4 : Vec F S4096x128 .bf16)

/-- The two results' buffers, and the inputs' at their blocks. -/
abbrev BodyRes (f5 : BufTy.Contents (Elt F) arg5.view.ty) (f6 : BufTy.Contents (Elt F) arg6.view.ty) : sProp 𝕄K :=
  iprop((arg2.view.loc (c : Thread nD τ) ↦[arg2.view.set]{fullShare} harg2.unread x2) ∗ (arg3.view.loc (c : Thread nD τ) ↦[arg3.view.set]{fullShare} harg3.unread x3)
    ∗ (arg4.view.loc (c : Thread nD τ) ↦[arg4.view.set]{fullShare} harg4.unread x4)
    ∗ (arg5.view.loc (c : Thread nD τ) ↦[arg5.view.set]{fullShare} f5) ∗ (arg6.view.loc (c : Thread nD τ) ↦[arg6.view.set]{fullShare} f6))

/-- The state after both heads. -/
def heads := headSt c i arg2 harg2 arg3 harg3 arg4 harg4 arg5 harg5 arg6 harg6 (Scalar.muli (BitVec.ofNat 32 (i 1).val) 2048#32) x2 (harg3.unread x3) (harg4.unread x4) (k0_pay4 (F := F)) k0_t1_loop.trips

/-- The result the body leaves. -/
def out5 : Vec F S2048x128 .bf16 := k0_pay17 (heads c i arg2 harg2 arg3 harg3 arg4 harg4 arg5 harg5 arg6 harg6 x2 x3 x4).1

/-- The row sums the body leaves in a block that held `f6`. -/
def out6 (f6 : BufTy.Contents (Elt F) arg6.view.ty) : BufTy.Contents (Elt F) arg6.view.ty := arg6.view.writes (Elt F) f6 (heads c i arg2 harg2 arg3 harg3 arg4 harg4 arg5 harg5 arg6 harg6 x2 x3 x4).2

set_option maxHeartbeats 4000000 in
/-- The body at a grid point. -/
theorem body_run (f5 : BufTy.Contents (Elt F) arg5.view.ty) (f6 : BufTy.Contents (Elt F) arg6.view.ty) :
    BodyRes c arg2 harg2 arg3 harg3 arg4 harg4 arg5 arg6 x2 x3 x4 f5 f6
    ⊢ wp frame (wpE (defs₀ (F := F)) Variants.none (c : Thread nD τ) none) Set.univ (cc0_sb_fwd (F := F) i arg2 harg2 arg3 harg3 arg4 harg4 arg5 harg5 arg6 harg6)
      (fun _ => BodyRes c arg2 harg2 arg3 harg3 arg4 harg4 arg5 arg6 x2 x3 x4 (harg5.unread (out5 c i arg2 harg2 arg3 harg3 arg4 harg4 arg5 harg5 arg6 harg6 x2 x3 x4)) (out6 c i arg2 harg2 arg3 harg3 arg4 harg4 arg5 harg5 arg6 harg6 x2 x3 x4 f6)) := by
  have e2 : View.readAt (Elt F) arg2.view (Rect.unit ![0, 0] S2048x128.size inb_S2048x128_S2048x128_0_0).toLoadRect (harg2.unread x2) = x2 := by
    rw [View.readAt_full, harg2.read_unread]
  simp only [cc0_sb_fwd_eq_skeleton]; unfold cc0_sb_fwd_skel
  iintro ⟨H2, H3, H4, H5, H6⟩
  sl_exec
  sl_step
  isplitl [H2]; · iexact H2
  isplitl [H3]; · iexact H3
  isplitl [H4]; · iexact H4
  isplitl [H5]
  · rw [← harg5.eq_unread (View.read_writes_full arg5.view f5 inb_S2048x128_S2048x128_0_0 (out5 c i arg2 harg2 arg3 harg3 arg4 harg4 arg5 harg5 arg6 harg6 x2 x3 x4) [])]
    iexact H5
  iexact H6

end BodyRun

end Cert.SbFwd

end
-- ==== Proof.FwdBlocks.lean ====
module

public import proofs.«01_k».proof.Proof.FwdModel
public import proofs.«01_k».proof.Proof.FwdRun
public import proofs.«01_k».proof.Proof.Consts

@[expose] public section

set_option maxRecDepth 16384

noncomputable section

/-! One head's pass of the forward call: each step over a block of keys in the terms of the model, and where the blocks start. -/

namespace Cert.SbFwd

open Cert.SbBwd (Geo Cut geo cut mZ mLb mSum mDq dLk fCF geo)
open Cert.FwdIdeal Cert.FwdIdeal.Gen
open Idealize.ShloMosaic Idealize.ShloMosaic.ValueIdx
open Finset (range)

/-! ## Where the blocks start -/

theorem qb_cases (i : grid0.Coords) : (i 1).val = 0 ∨ (i 1).val = 1 := by
  have h : (i 1).val < 2 := (i 1).isLt
  omega

/-- The blocks before the query block. -/
theorem t2_trips (i : grid0.Coords) : (k0_t2_loop i).trips = 8 * (i 1).val := by
  unfold k0_t2_loop
  rcases qb_cases i with h | h <;> rw [h] <;> decide

theorem off1_inb (i : grid0.Coords) (dd : ℕ) (h : dd < 8) : ∀ a, k0_off1 i (BitVec.ofNat 32 (256 * dd)) a + S256x128.size a ≤ S4096x128.size a :=
  k0_off1_inb i ⟨dd, h⟩

/-- The `n`-th of the earlier blocks, from the last to the first, starts at row `256 (8 a - 1 - n)`. -/
theorem off2_eq : ∀ (i : grid0.Coords) (n : Fin (k0_t2_loop i).trips), k0_off2 i n = ![256 * (8 * (i 1).val - 1 - n.val), 0] := by
  decide +kernel

/-- What one head's pass is run at: the point of the grid, the kernel's arguments, the values it has read and the head. -/
structure Env (F : FTy → Type) [FloatOps F] where
  c : Dev nD
  i : grid0.Coords
  arg2 : Memref sig .tc .vmem S2048x128 .bf16
  harg2 : arg2.IsWhole
  arg3 : Memref sig .tc .vmem S4096x128 .bf16
  harg3 : arg3.IsWhole
  arg4 : Memref sig .tc .vmem S4096x128 .bf16
  harg4 : arg4.IsWhole
  arg5 : Memref sig .tc .vmem S2048x128 .bf16
  harg5 : arg5.IsWhole
  arg6 : Memref sig .tc .vmem S2x2048x1 .f32
  harg6 : arg6.IsWhole
  v0 : BitVec 32
  v1 : Vec F S2048x128 .bf16
  X3 : BufTy.Contents (Elt F) arg3.view.ty
  X4 : BufTy.Contents (Elt F) arg4.view.ty
  k : Fin k0_t1_loop.trips

namespace Env
variable {F : FTy → Type} [FloatOps F] (e : Env F)

/-- The pass itself. -/
abbrev trip := headTrip e.c e.i e.arg2 e.harg2 e.arg3 e.harg3 e.arg4 e.harg4 e.arg5 e.harg5 e.arg6 e.harg6 e.v0 e.v1 e.X3 e.X4 e.k

/-- The head's lanes and its queries. -/
def lane : IVec S1x128 1 := k0_pay18 k0_pay2 0#32 1#32 e.k
def qs : FVec F S2048x128 .bf16 := k0_pay19 (k0_pay1 e.v1) k0_pay2 0#32 1#32 e.k

/-- Keys and values of block `dd` of the diagonal. -/
def kb (dd : ℕ) (h : dd < 8) : FVec F S256x128 .bf16 :=
  View.readAt (Elt F) e.arg3.view (Rect.unit (s := S4096x128) (k0_off1 e.i (BitVec.ofNat 32 (256 * dd))) S256x128.size (off1_inb e.i dd h)).toLoadRect e.X3
def vb (dd : ℕ) (h : dd < 8) : FVec F S256x128 .bf16 :=
  View.readAt (Elt F) e.arg4.view (Rect.unit (s := S4096x128) (k0_off1 e.i (BitVec.ofNat 32 (256 * dd))) S256x128.size (off1_inb e.i dd h)).toLoadRect e.X4

/-- A column, or a result, the pass has found, at this run. -/
def on1 (f : (i : grid0.Coords) → (arg3 : Memref sig .tc .vmem S4096x128 .bf16) → (v1 : Vec F S2048x128 .bf16)
    → (X3 : BufTy.Contents (Elt F) arg3.view.ty) → (k : Fin k0_t1_loop.trips) → FVec F S2048x1 .f32) : FVec F S2048x1 .f32 :=
  f e.i e.arg3 e.v1 e.X3 e.k
def on (f : (i : grid0.Coords) → (arg3 : Memref sig .tc .vmem S4096x128 .bf16) → (arg4 : Memref sig .tc .vmem S4096x128 .bf16)
    → (v1 : Vec F S2048x128 .bf16) → (X3 : BufTy.Contents (Elt F) arg3.view.ty) → (X4 : BufTy.Contents (Elt F) arg4.view.ty)
    → (k : Fin k0_t1_loop.trips) → FVec F S2048x128 .f32) : FVec F S2048x128 .f32 :=
  f e.i e.arg3 e.arg4 e.v1 e.X3 e.X4 e.k

/-- The carried sum and the result over the keys from block `dd` of the diagonal on. -/
def cf : ℕ → FVec F S2048x1 .f32
  | 0 => e.on1 headTrip.sl.r_57
  | 1 => e.on1 headTrip.sl.r_53
  | 2 => e.on1 headTrip.sl.r_45
  | 3 => e.on1 headTrip.sl.r_37
  | 4 => e.on1 headTrip.sl.r_30
  | 5 => e.on1 headTrip.sl.r_23
  | 6 => e.on1 headTrip.sl.r_15
  | 7 => e.on1 headTrip.sl.r_6
  | _ => k0_pay20
def y : ℕ → FVec F S2048x128 .f32
  | 0 => e.on headTrip.sl.r_58
  | 1 => e.on headTrip.sl.r_54
  | 2 => e.on headTrip.sl.r_46
  | 3 => e.on headTrip.sl.r_38
  | 4 => e.on headTrip.sl.r_31
  | 5 => e.on headTrip.sl.r_24
  | 6 => e.on headTrip.sl.r_16
  | 7 => e.on headTrip.sl.r_7
  | _ => k0_pay21

/-- The shapes for all 2048 rows. -/
theorem geo0 : Geo 2048 := geo 0 (by decide)

/-! The later blocks of the diagonal, which the rows from `256 dd` on see, and the first, which every row sees. -/

theorem cf_down : ∀ (dd : ℕ) (h : 1 ≤ dd ∧ dd < 8), e.cf dd = fCF (geo dd h.2) (cut dd h) e.qs (e.cf (dd + 1)) (e.kb dd h.2)
  | 1, _ => rfl
  | 2, _ => rfl
  | 3, _ => rfl
  | 4, _ => rfl
  | 5, _ => rfl
  | 6, _ => rfl
  | 7, _ => rfl
theorem y_down : ∀ (dd : ℕ) (h : 1 ≤ dd ∧ dd < 8), e.y dd
    = fY (geo dd h.2) (cut dd h) k0_pay3 e.qs (e.cf (dd + 1)) (e.y (dd + 1)) (e.kb dd h.2) (e.vb dd h.2)
  | 1, _ => rfl
  | 2, _ => rfl
  | 3, _ => rfl
  | 4, _ => rfl
  | 5, _ => rfl
  | 6, _ => rfl
  | 7, _ => rfl
theorem cf_first : e.cf 0 = mSum geo0 (e.cf 1) (dLk geo0 e.qs (e.kb 0 (by decide))) := rfl
theorem y_first : e.y 0 = mDq (e.y 1)
    (truncf .bf16 (dV geo0 k0_pay3 e.qs (e.cf 1) (e.kb 0 (by decide)) : FVec F (Cert.SbBwd.M 2048 256) .f32) (by decide)) (e.vb 0 (by decide)) := rfl

/-! The blocks before the diagonal. -/

/-- The loop's state after `n` of them. -/
def st (n : ℕ) := st_k0_t2 Variants.none e.c none e.i e.arg2 e.harg2 e.arg3 e.harg3 e.arg4 e.harg4 e.arg5 e.harg5 e.arg6 e.harg6
  (headTrip.sl.r_1 e.v1 e.k) e.X3 e.X4 (e.cf 0, e.y 0) n

section
variable (n : Fin (k0_t2_loop e.i).trips)

/-- Keys and values of the `n`-th. -/
def kbi : FVec F S256x128 .bf16 :=
  View.readAt (Elt F) e.arg3.view (Rect.unit (s := S4096x128) (k0_off2 e.i n) S256x128.size (k0_off2_inb e.i n)).toLoadRect e.X3
def vbi : FVec F S256x128 .bf16 :=
  View.readAt (Elt F) e.arg4.view (Rect.unit (s := S4096x128) (k0_off2 e.i n) S256x128.size (k0_off2_inb e.i n)).toLoadRect e.X4

/-- One more of them. -/
theorem st_succ : e.st (n.val + 1)
    = (mSum geo0 (e.st n).1 (subf (mLb (mZ e.qs (e.kbi n))) (mZ e.qs (e.kbi n))),
       mDq (e.st n).2 (truncf .bf16 (iV geo0 k0_pay3 e.qs (e.st n).1 (e.kbi n) : FVec F (Cert.SbBwd.M 2048 256) .f32) (by decide)) (e.vbi n)) := by
  unfold st
  rw [st_k0_t2_succ]
  unfold tripR_k0_t2 trip_k0_t2
  rfl
end

/-! What the pass as a whole finds. -/

theorem trip_y (acc : FVec F S2048x128 .f32) : e.trip.1 acc = k0_pay16 acc e.lane (e.st (k0_t2_loop e.i).trips).2 := by
  unfold trip headTrip; rfl
theorem trip_lt (acc : FVec F S2048x128 .f32) : e.trip.2.1 acc
    = [⟨Rect.unit (s := S2x2048x1) (k0_off4 e.k) S1x2048x1.size (k0_off4_inb e.k), k0_pay15 (e.st (k0_t2_loop e.i).trips).1⟩] := by
  unfold trip headTrip; rfl

end Env
end Cert.SbFwd
-- ==== Proof.FwdFrameRun.lean ====
module

public import proofs.«01_k».proof.Proof.FwdRun
public import Idealize.ShloMosaic.Lib.Claim

@[expose] public section

set_option maxRecDepth 16384

noncomputable section

/-! The attention's forward call over its grid: every execution ends, with each result's array at what the points leave. -/

namespace Cert.SbFwd

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄K" => MT nD τ sig Unit (Elt F) ℕ (UR sig nD τ) ℕ

/-! What the two heads store covers the block of row sums. -/

section Cover
variable (c : Dev nD) (i : grid0.Coords)
  (arg2 : Memref sig .tc .vmem S2048x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S2048x128 .bf16) (harg5 : arg5.IsWhole)
  (arg6 : Memref sig .tc .vmem S2x2048x1 .f32) (harg6 : arg6.IsWhole)

theorem off4_eq (k : Fin k0_t1_loop.trips) : k0_off4 k = ![k.val, 0, 0] := by
  have hk : k.val = 0 ∨ k.val = 1 := by have h : k.val < 2 := k.isLt; omega
  obtain ⟨k, hk'⟩ := k
  rcases hk with rfl | rfl <;> rfl

theorem heads_two : k0_t1_loop.trips = 2 := by decide

/-- Head `k`'s store takes every place of its row sums. -/
theorem mem_off4 (k : Fin k0_t1_loop.trips) (y : S2x2048x1.Idx) (h : (y 0).val = k.val) :
    y ∈ (Rect.unit (s := S2x2048x1) (k0_off4 k) S1x2048x1.size (k0_off4_inb k)).set := by
  rw [Rect.mem_set_unit, off4_eq]
  intro a
  fin_cases a
  · show k.val ≤ (y 0).val ∧ (y 0).val < k.val + 1
    omega
  · show 0 ≤ (y 1).val ∧ (y 1).val < 0 + 2048
    have : (y 1).val < 2048 := (y 1).isLt
    omega
  · show 0 ≤ (y 2).val ∧ (y 2).val < 0 + 1
    have : (y 2).val < 1 := (y 2).isLt
    omega

/-- One head's pass stores every place of its row sums. -/
theorem trip_piece (v0 : BitVec 32) (v1 : Vec F S2048x128 .bf16) (X3 : BufTy.Contents (Elt F) arg3.view.ty) (X4 : BufTy.Contents (Elt F) arg4.view.ty)
    (k : Fin k0_t1_loop.trips) (y : S2x2048x1.Idx) (h : (y 0).val = k.val) (acc : FVec F S2048x128 .f32) :
    ∃ p ∈ (headTrip c i arg2 harg2 arg3 harg3 arg4 harg4 arg5 harg5 arg6 harg6 v0 v1 X3 X4 k).2.1 acc, y ∈ p.1.set := by
  obtain ⟨w, hw⟩ : ∃ w, (headTrip c i arg2 harg2 arg3 harg3 arg4 harg4 arg5 harg5 arg6 harg6 v0 v1 X3 X4 k).2.1 acc = [⟨Rect.unit (s := S2x2048x1) (k0_off4 k) S1x2048x1.size (k0_off4_inb k), w⟩] := by
    unfold headTrip
    exact ⟨_, rfl⟩
  rw [hw]
  exact ⟨_, List.mem_singleton.2 rfl, mem_off4 k y h⟩

/-- Before head `n` every place of the earlier heads' row sums is stored. -/
theorem headSt_cover (v0 : BitVec 32) (v1 : Vec F S2048x128 .bf16) (X3 : BufTy.Contents (Elt F) arg3.view.ty) (X4 : BufTy.Contents (Elt F) arg4.view.ty)
    (init : FVec F S2048x128 .f32) (y : S2x2048x1.Idx) (n : ℕ) (hn : n ≤ k0_t1_loop.trips) (hy : (y 0).val < n) :
    ∃ p ∈ (headSt c i arg2 harg2 arg3 harg3 arg4 harg4 arg5 harg5 arg6 harg6 v0 v1 X3 X4 init n).2, y ∈ p.1.set := by
  induction n with
  | zero => exact absurd hy (Nat.not_lt_zero _)
  | succ n ih =>
    have hs : headSt c i arg2 harg2 arg3 harg3 arg4 harg4 arg5 harg5 arg6 harg6 v0 v1 X3 X4 init (n + 1) = _ := headSt_succ c i arg2 harg2 arg3 harg3 arg4 harg4 arg5 harg5 arg6 harg6 v0 v1 X3 X4 init ⟨n, hn⟩
    rw [hs]
    by_cases h : (y 0).val = n
    · obtain ⟨p, hp, hm⟩ := trip_piece c i arg2 harg2 arg3 harg3 arg4 harg4 arg5 harg5 arg6 harg6 v0 v1 X3 X4 ⟨n, hn⟩ y h (headSt c i arg2 harg2 arg3 harg3 arg4 harg4 arg5 harg5 arg6 harg6 v0 v1 X3 X4 init n).1
      exact ⟨p, List.mem_append_left _ hp, hm⟩
    · obtain ⟨p, hp, hm⟩ := ih (by omega) (by omega)
      exact ⟨p, List.mem_append_right _ hp, hm⟩

theorem heads_cover (x2 : Vec F S2048x128 .bf16) (x3 : Vec F S4096x128 .bf16) (x4 : Vec F S4096x128 .bf16) (y : S2x2048x1.Idx) :
    ∃ p ∈ (heads c i arg2 harg2 arg3 harg3 arg4 harg4 arg5 harg5 arg6 harg6 x2 x3 x4).2, y ∈ p.1.set :=
  headSt_cover c i arg2 harg2 arg3 harg3 arg4 harg4 arg5 harg5 arg6 harg6 _ _ _ _ _ y _ le_rfl (by rw [heads_two]; exact (y 0).isLt)

end Cover

variable (m : (ℓ : Loc nD τ sig) → Buf (Elt F) ℓ) (ρ : Dev nD → PrngReg)

/-- The attention's result at point `t`. -/
def o5 (c : Dev nD) (t : Fin cfg0.N) : Vec F S2048x128 .bf16 :=
  out5 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t)
/-- The row sums at point `t`, over a block that held zeros. -/
def o6 (c : Dev nD) (t : Fin cfg0.N) : Vec F S2x2048x1 .f32 :=
  (win0_4.stage (cfg0.slots t 4)).view.read (Elt F) (out6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t)
    ((hstage0_4 ((cfg0.slots t 4).cast nbuf0_4)).unread (broadcast S2x2048x1 (Scalar.ofBits .f32 0x00000000#32))))

/-- They are the same over any block. -/
theorem o6_eq (c : Dev nD) (t : Fin cfg0.N) (f6 : BufTy.Contents (Elt F) (win0_4.stage (cfg0.slots t 4)).view.ty) :
    (win0_4.stage (cfg0.slots t 4)).view.read (Elt F) (out6 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t) f6) = o6 m c t := by
  unfold o6 out6
  exact View.read_writes_of_cover _ _ _ _ _ (heads_cover c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) _ _ _)

/-- The pipeline's proof data: inputs at their blocks, the two results at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => o5 m c t
    | ⟨4, _⟩ => o6 m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = o5 m c t := by dsimp only [dats]
theorem after0_4 (c : Dev nD) (t : Fin cfg0.N) : (dats m 0 c).after 4 t = o6 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A whole memref owned at `X` is its buffer held at the contents that read `X`. -/
theorem owns_elim {c : Dev nD} {sp : Space} {s : Shape} {e : EltTy} {M : Memref sig .tc sp s e} (h : M.IsWhole) (X : Vec F s e) :
    (owns (c : Thread nD τ) M fullShare X : sProp 𝕄K) ⊢ (M.view.loc (c : Thread nD τ) ↦[M.view.set]{fullShare} h.unread X) := by
  unfold owns
  iintro ⟨%f, %hf, H⟩
  rw [h.eq_unread hf]
  iexact H

/-- A memref's buffer held at contents that read `X` is the memref owned at `X`. -/
theorem owns_intro {c : Dev nD} {sp : Space} {s : Shape} {e : EltTy} {M : Memref sig .tc sp s e} (f : BufTy.Contents (Elt F) M.view.ty) (X : Vec F s e)
    (hf : M.view.read (Elt F) f = X) : (M.view.loc (c : Thread nD τ) ↦[M.view.set]{fullShare} f : sProp 𝕄K) ⊢ owns (c : Thread nD τ) M fullShare X := by
  unfold owns
  iintro H
  iexists _; isplitr; swap; · iexact H
  ipureintro; exact hf

/-- What the body is called with at point `t`, -/
def bodyPre (c : Dev nD) (t : Fin cfg0.N) : sProp 𝕄K :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄K :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  simp only [before0_0, before0_1, before0_2]
  iintro ⟨HΦ, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [H0 H1 H2 H3 H4]
  · iapply (body_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (iblk m c 0 t) (iblk m c 1 t) (iblk m c 2 t) _ _)
    isplitl [H0]; · iapply (owns_elim (hstage0_0 ((cfg0.slots t 0).cast nbuf0_0)) _); iexact H0
    isplitl [H1]; · iapply (owns_elim (hstage0_1 ((cfg0.slots t 1).cast nbuf0_1)) _); iexact H1
    isplitl [H2]; · iapply (owns_elim (hstage0_2 ((cfg0.slots t 2).cast nbuf0_2)) _); iexact H2
    isplitl [H3]; · iapply (owns_elim (hstage0_3 ((cfg0.slots t 3).cast nbuf0_3)) _); iexact H3
    iapply (owns_elim (hstage0_4 ((cfg0.slots t 4).cast nbuf0_4)) _); iexact H4
  · iintro %_ ⟨H0, H1, H2, H3, H4⟩
    isplitl [HΦ]; · iexact HΦ
    isplitl [Ho]; · iexact Ho
    isplitl [H0]; · iapply (owns_intro _ _ ((hstage0_0 ((cfg0.slots t 0).cast nbuf0_0)).read_unread _)); iexact H0
    isplitl [H1]; · iapply (owns_intro _ _ ((hstage0_1 ((cfg0.slots t 1).cast nbuf0_1)).read_unread _)); iexact H1
    isplitl [H2]; · iapply (owns_intro _ _ ((hstage0_2 ((cfg0.slots t 2).cast nbuf0_2)).read_unread _)); iexact H2
    isplitl [H3]; · iapply (owns_intro _ _ ((hstage0_3 ((cfg0.slots t 3).cast nbuf0_3)).read_unread _)); iexact H3
    iapply (owns_intro _ _ (o6_eq m c t _)); iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found by unifying the conclusion with this one, which takes unfolding plain definitions
-- in a metavariable's type
set_option backward.isDefEq.respectTransparency.types false in
/-- Every execution of the program ends, with every array at what the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The argument ends as it began, and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.SbFwd

end
-- ==== Proof.FwdHead.lean ====
module

public import proofs.«01_k».proof.Proof.FwdBlocks
public import proofs.«01_k».proof.Proof.FwdFrameRun
public import proofs.«01_k».proof.Proof.Whole
public import Idealize.ShloMosaic.Lib.ValueLayout

@[expose] public section

set_option maxRecDepth 16384

noncomputable section

/-! What one head's pass of the forward call computes, over the real numbers: the blocks of the diagonal from the last to the first, then
    the loop over the earlier blocks; and what the passes of the two heads leave. -/

namespace Cert.SbFwd

open Cert.SbBwd
open Cert.FwdIdeal Cert.FwdIdeal.Gen
open Idealize.ShloMosaic Idealize.ShloMosaic.ValueIdx
open Finset (range)

theorem pay3_eq : k0_pay3 (F := Ideal) = triGt := by
  funext i
  have h0 := idx2_lt0 i
  have h1 := idx2_lt1 i
  show (((BitVec.setWidth 32 (BitVec.ofBool (BitVec.slt (iota .tc S256x256 32 [1] iota_S256x256_d1_w32 i)
    (iota .tc S256x256 32 [0] iota_S256x256_d0_w32 i)))).toInt : ℝ) : EReal) = _
  rw [iota_single_apply, iota_single_apply]
  show (((BitVec.setWidth 32 (BitVec.ofBool (BitVec.slt (BitVec.ofNat 32 (i 1).val) (BitVec.ofNat 32 (i 0).val)))).toInt : ℝ) : EReal) = _
  rw [slt_small (by omega) (by omega), bit_value]
  rfl

theorem lanes_eq (k : Fin k0_t1_loop.trips) : k0_pay18 k0_pay2 0#32 1#32 k = bits2 1 128 (laneOf k.val) := Cert.SbBwd.lane_eq ⟨k.val, k.isLt⟩

/-- The weighted sum of the values, over all keys. -/
def yF (Q K V : ℕ → ℕ → ℝ) (t d : ℕ) : ℝ := ∑ j ∈ range 4096, gW (hZ Q K) t j * V j d

namespace Env

/-- What the pass starts from, as matrices of real numbers. -/
structure Holds (e : Env Ideal) (T : ℕ) (Q K V : ℕ → ℕ → ℝ) : Prop where
  t : T = 2048 * (e.i 1).val
  qs : e.qs = from2 2048 128 T Q
  k : e.arg3.view.read (Elt Ideal) e.X3 = up2 4096 128 K
  v : e.arg4.view.read (Elt Ideal) e.X4 = up2 4096 128 V

section
variable {e : Env Ideal} {T : ℕ} {Q K V : ℕ → ℕ → ℝ} (h : Holds e T Q K V)
include h

theorem off1_val (dd : ℕ) (hd : dd < 8) : k0_off1 e.i (BitVec.ofNat 32 (256 * dd)) = ![T + 256 * dd, 0] :=
  (k0_off1_eq e.i ⟨dd, hd⟩).trans (by rw [h.t])
theorem kb_val (dd : ℕ) (hd : dd < 8) : e.kb dd hd = from2 256 128 (T + 256 * dd) K := load_rows16 _ _ (off1_val h dd hd) _ _ h.k
theorem vb_val (dd : ℕ) (hd : dd < 8) : e.vb dd hd = from2 256 128 (T + 256 * dd) V := load_rows16 _ _ (off1_val h dd hd) _ _ h.v

/-- What is known of the keys from `k` on. -/
structure At (T : ℕ) (Q K V : ℕ → ℕ → ℝ) (k : ℕ) (cf : FVec Ideal (M 2048 1) .f32) (y : FVec Ideal (M 2048 128) .f32) : Prop where
  cf : cf = from1 2048 T (uCF Q K k)
  y : y = from2 2048 128 T (uY Q K V k)

/-! The blocks of the diagonal. -/

theorem at_end : At T Q K V (T + 256 * 8) (e.cf 8) (e.y 8) := by
  have ht : T + 256 * 8 ≤ 4096 := by have ht := h.t; rcases qb_cases e.i with h | h <;> omega
  refine ⟨?_, ?_⟩
  · refine (bzero_up2 (n := 2048) (m := 1)).trans (up2_congr fun r hr c _ => ?_)
    exact (uCF_end Q K ht (by omega)).symm
  · refine (bzero_up2 (n := 2048) (m := 128)).trans (up2_congr fun r hr c _ => ?_)
    exact (uY_end Q K V ht (by omega)).symm

theorem at_later (x : ℕ) (hx : x ≤ 7) : At T Q K V (T + 256 * (8 - x)) (e.cf (8 - x)) (e.y (8 - x)) := by
  induction x with
  | zero => exact at_end h
  | succ x ih =>
    obtain ⟨hcf, hy⟩ := ih (by omega)
    obtain ⟨dd, hdd⟩ : ∃ dd, dd = 8 - (x + 1) := ⟨_, rfl⟩
    have hd : 1 ≤ dd ∧ dd < 8 := by omega
    rw [show 8 - x = dd + 1 by omega] at hcf hy
    rw [← hdd]
    refine ⟨?_, ?_⟩
    · rw [cf_down e dd hd, kb_val h, hcf, h.qs]
      exact fCF_down Q K _ (cut dd hd) T
    · rw [y_down e dd hd, kb_val h, vb_val h, hcf, hy, h.qs, pay3_eq]
      exact fY_down Q K V _ (cut dd hd) T

theorem at_first : At T Q K V T (e.cf 0) (e.y 0) := by
  obtain ⟨hcf, hy⟩ : At T Q K V (T + 256) (e.cf 1) (e.y 1) := at_later h 7 le_rfl
  have hkb : e.kb 0 (by decide) = from2 256 128 T K := kb_val h 0 (by decide)
  have hvb : e.vb 0 (by decide) = from2 256 128 T V := vb_val h 0 (by decide)
  refine ⟨?_, ?_⟩
  · rw [cf_first, hkb, h.qs, hcf]
    refine (congrArg (mSum (F := Ideal) geo0 _) (dLk_from Q K geo0 le_rfl)).trans ?_
    exact sum_from_uCF Q K geo0 T T
  · rw [y_first, hkb, hvb, h.qs, hcf, hy, pay3_eq]
    refine (congrArg (fun w => mDq (F := Ideal) (n := 2048) _ (truncf .bf16 w _) _) (dV_from Q K geo0 le_rfl)).trans ?_
    rw [truncf_up2]
    exact y_from Q K V T T

/-! The blocks before the diagonal. -/

theorem kbi_val (n : Fin (k0_t2_loop e.i).trips) : e.kbi n = from2 256 128 (256 * (8 * (e.i 1).val - 1 - n.val)) K :=
  load_rows16 _ _ (off2_eq e.i n) _ _ h.k
theorem vbi_val (n : Fin (k0_t2_loop e.i).trips) : e.vbi n = from2 256 128 (256 * (8 * (e.i 1).val - 1 - n.val)) V :=
  load_rows16 _ _ (off2_eq e.i n) _ _ h.v

theorem at_before (n : ℕ) (hn : n ≤ (k0_t2_loop e.i).trips) : At T Q K V (256 * (8 * (e.i 1).val - n)) (e.st n).1 (e.st n).2 := by
  induction n with
  | zero =>
    have e0 : 256 * (8 * (e.i 1).val - 0) = T := by rw [h.t]; omega
    rw [e0]
    exact at_first h
  | succ n ih =>
    have hn' := hn
    rw [t2_trips] at hn'
    obtain ⟨hcf, hy⟩ := ih (by omega)
    obtain ⟨k, hk⟩ : ∃ k, k = 256 * (8 * (e.i 1).val - 1 - n) := ⟨_, rfl⟩
    have hkT : k + 256 ≤ T := by rw [h.t]; omega
    rw [show 256 * (8 * (e.i 1).val - n) = k + 256 by omega] at hcf hy
    rw [show 256 * (8 * (e.i 1).val - (n + 1)) = k by omega]
    have hs := e.st_succ ⟨n, hn⟩
    have hkb : e.kbi ⟨n, hn⟩ = from2 256 128 k K := (kbi_val h ⟨n, hn⟩).trans (by rw [hk])
    have hvb : e.vbi ⟨n, hn⟩ = from2 256 128 k V := (vbi_val h ⟨n, hn⟩).trans (by rw [hk])
    rw [hkb, hvb, h.qs, pay3_eq] at hs
    rw [hs]
    refine ⟨?_, ?_⟩
    · show mSum (F := Ideal) geo0 (e.st n).1 (subf _ _) = _
      rw [hcf, iLk_from Q K hkT]
      exact sum_from_uCF Q K geo0 T k
    · show mDq (F := Ideal) (e.st n).2 (truncf .bf16 (iV geo0 triGt _ (e.st n).1 _) _) _ = _
      rw [hcf, hy, iV_from Q K geo0 hkT, truncf_up2]
      exact y_from Q K V T k

/-! The pass as a whole. -/

theorem st_val : (e.st (k0_t2_loop e.i).trips).1 = from1 2048 T (sLT Q K) ∧ (e.st (k0_t2_loop e.i).trips).2 = from2 2048 128 T (yF Q K V) := by
  obtain ⟨hcf, hy⟩ := at_before h _ le_rfl
  rw [show 256 * (8 * (e.i 1).val - (k0_t2_loop e.i).trips) = 0 by rw [t2_trips]; omega] at hcf hy
  exact ⟨hcf.trans (up2_congr fun r _ c _ => uCF_zero Q K _), hy.trans (up2_congr fun r _ c _ => uY_zero Q K V _ _)⟩

theorem trip_y_val (A : ℕ → ℕ → ℝ) {acc : FVec Ideal (M 2048 128) .f32} (ha : acc = up2 2048 128 A) :
    e.trip.1 acc = up2 2048 128 fun r d => if d / 64 = e.k.val then yF Q K V (T + r) d else A r d := by
  rw [trip_y, (st_val h).2, ha]
  unfold lane
  rw [lanes_eq]
  unfold k0_pay16
  rw [Cert.SbBwd.shapeCast_self]
  refine (congrArg (fun p => select p (from2 2048 128 T (yF Q K V)) (up2 2048 128 A)) (spreadRow_bits2 _ _)).trans ?_
  refine (select_up2 _ _ _).trans (up2_congr fun r _ c _ => ?_)
  unfold laneOf
  simp only [decide_eq_true_eq]

theorem pay15_val (x : S1x2048x1.Idx) : k0_pay15 (e.st (k0_t2_loop e.i).trips).1 x = ((sLT Q K (T + (x 1).val) : ℝ) : EReal) := by
  rw [(st_val h).1]
  have h0 : (x 0).val < 1 := (x 0).isLt
  have h1 : (x 1).val < 2048 := (x 1).isLt
  have h2 : (x 2).val < 1 := (x 2).isLt
  have hx := shapeCast_ab_1ab_apply (from1 2048 T (sLT Q K)) shapeCasts_S2048x1_S1x2048x1 (⟨(x 0).val, h0⟩ : Fin 1) (⟨(x 1).val, h1⟩ : Fin 2048) (⟨(x 2).val, h2⟩ : Fin 1)
  refine Eq.trans ?_ hx
  exact congrArg (shapeCast S1x2048x1 (from1 2048 T (sLT Q K)) shapeCasts_S2048x1_S1x2048x1) (ValueIdx.eq_ix3 x)

end

/-! ## The two heads -/

/-- The same point at head `k`. -/
@[reducible] def at_ (e : Env Ideal) (k : Fin k0_t1_loop.trips) : Env Ideal := { e with k := k }

/-- The state before head `n`. -/
def hst (e : Env Ideal) (n : ℕ) := headSt e.c e.i e.arg2 e.harg2 e.arg3 e.harg3 e.arg4 e.harg4 e.arg5 e.harg5 e.arg6 e.harg6 e.v0 e.v1 e.X3 e.X4
  (k0_pay4 (F := Ideal)) n

/-- What a point of the grid starts from, as matrices of real numbers. -/
structure Point (e : Env Ideal) (T : ℕ) (Q K V : ℕ → ℕ → ℝ) : Prop where
  t : T = 2048 * (e.i 1).val
  v1 : e.v1 = from2 2048 128 T Q
  k : e.arg3.view.read (Elt Ideal) e.X3 = up2 4096 128 K
  v : e.arg4.view.read (Elt Ideal) e.X4 = up2 4096 128 V

section
variable {e : Env Ideal} {T : ℕ} {Q K V : ℕ → ℕ → ℝ} (h : Point e T Q K V)
include h

theorem holds_at (k : Fin k0_t1_loop.trips) : Holds (e.at_ k) T (qh k.val Q) K V where
  t := h.t
  qs := by
    show k0_pay19 (k0_pay1 e.v1) k0_pay2 0#32 1#32 k = _
    unfold k0_pay19
    rw [lanes_eq]
    have e1 : k0_pay1 e.v1 = from2 2048 128 T fun t d => Q t d * (1 / 8) := by
      refine (congrArg₂ (mulf (F := Ideal) (φ := .bf16)) h.v1 beighth16_up2).trans ?_
      exact mulf_up2 _ _
    rw [e1]
    exact select_lanes _ _ _ _ _
  k := h.k
  v := h.v

/-- The state before head `n` of the two: the earlier heads' lanes of the result, and their row sums. -/
theorem hst_val (f6 : e.arg6.view.ty.Contents (Elt Ideal)) (n : ℕ) (hn : n ≤ 2) :
    (e.hst n).1 = up2 2048 128 (fun r d => if d / 64 < n then yF (qh (d / 64) Q) K V (T + r) d else 0)
    ∧ ∀ x : S2x2048x1.Idx, (x 0).val < n → e.arg6.view.read (Elt Ideal) (e.arg6.view.writes (Elt Ideal) f6 (e.hst n).2) x
        = ((sLT (qh (x 0).val Q) K (T + (x 1).val) : ℝ) : EReal) := by
  induction n with
  | zero =>
    refine ⟨(bzero_up2 (n := 2048) (m := 128)).trans (up2_congr fun r _ d _ => ?_), fun x hx => absurd hx (Nat.not_lt_zero _)⟩
    rw [if_neg (Nat.not_lt_zero _)]
  | succ n ih =>
    obtain ⟨hy, hl⟩ := ih (by omega)
    have hk := holds_at h ⟨n, hn⟩
    have hs : e.hst (n + 1) = _ := headSt_succ e.c e.i e.arg2 e.harg2 e.arg3 e.harg3 e.arg4 e.harg4 e.arg5 e.harg5 e.arg6 e.harg6 e.v0 e.v1 e.X3 e.X4
      (k0_pay4 (F := Ideal)) ⟨n, hn⟩
    rw [hs]
    refine ⟨?_, fun x hx => ?_⟩
    · refine (trip_y_val hk _ hy).trans (up2_congr fun r _ d _ => ?_)
      show (if d / 64 = n then yF (qh n Q) K V (T + r) d else _) = _
      by_cases hd : d / 64 = n
      · rw [if_pos hd, if_pos (by omega), hd]
      · rw [if_neg hd]
        by_cases hd' : d / 64 < n
        · rw [if_pos hd', if_pos (by omega)]
        · rw [if_neg hd', if_neg (by omega)]
    · have hx1 : (x 1).val < 2048 := (x 1).isLt
      have hx2 : (x 2).val < 1 := (x 2).isLt
      show e.arg6.view.read _ (e.arg6.view.writes _ _ ((e.at_ ⟨n, hn⟩).trip.2.1 _ ++ (e.hst n).2)) x = _
      rw [trip_lt, List.singleton_append]
      by_cases hxn : (x 0).val = n
      · refine (View.read_writes_cons_unit_of_mem e.arg6.view f6 _ _ _ x
          (ValueIdx.ix3 (0 : Fin 1) (⟨(x 1).val, hx1⟩ : Fin 2048) (⟨(x 2).val, hx2⟩ : Fin 1)) (off4_eq ⟨n, hn⟩) fun a => ?_).trans ?_
        · match a with
          | 0 => exact hxn
          | 1 => exact (Nat.zero_add _).symm
          | 2 => exact (Nat.zero_add _).symm
        · rw [hxn]
          exact pay15_val hk _
      · refine (View.read_writes_cons_unit_of_not_mem e.arg6.view f6 _ _ _ x (off4_eq ⟨n, hn⟩) 0 (Or.inl ?_)).trans (hl x (by omega))
        show (x 0).val < n
        omega

end
end Env
end Cert.SbFwd
-- ==== Proof.FwdGrid.lean ====
module

public import proofs.«01_k».proof.Proof.FwdHead
public import Idealize.ShloMosaic.Lib.Pipeline.ValueKit

@[expose] public section

set_option maxRecDepth 16384

noncomputable section

/-! The two results of the forward call over its grid: what every point leaves, and the arrays after the last. -/

namespace Cert.SbFwd

open Cert.SbBwd (M up2 from2 up2_congr cols qh ZZ LT gW scores row_sums)
open Cert.FwdIdeal Cert.FwdIdeal.Gen
open Idealize.ShloMosaic Idealize.ShloMosaic.TcCoe
open Idealize.ShloMosaic.Pipeline (Dat Cfg Window)
open Finset (range)

/-- The attention's result: column `c`, which is of head `c / 64`, of the weights times the values. -/
def YY (x : ℕ → ℕ → ℝ) (t c : ℕ) : ℝ := ∑ j ∈ range 4096, gW (ZZ x (c / 64)) t j * x j (2048 + c)

theorem idx_val : ∀ t : Fin cfg0.N, win0_0.index t = ![t.val % 2, t.val / 2] ∧ win0_1.index t = ![0, 8 + t.val / 2] ∧ win0_2.index t = ![0, 16 + t.val / 2]
    ∧ win0_3.index t = ![t.val % 2, t.val / 2] ∧ win0_4.index t = ![t.val / 2, t.val % 2, 0] :=
  (by decide +kernel : ∀ t : Fin grid0.N, _)

theorem coord_val : ∀ t : Fin cfg0.N, (grid0.coords t 1).val = t.val % 2 := (by decide +kernel : ∀ t : Fin grid0.N, _)

section
variable {m : (ℓ : Loc nD τ sig) → Buf (Elt Ideal) ℓ} {c : Dev nD} {x : ℕ → ℕ → ℝ}
  (h : ∀ j : S4096x3072.Idx, V m c main_arg0 j = ((x (j 0).val (j 1).val : ℝ) : EReal)) (t : Fin cfg0.N)
include h

theorem iblk0 : iblk m c 0 t = from2 2048 128 (2048 * (t.val % 2)) (cols (128 * (t.val / 2)) x) := by
  funext j
  refine (h _).trans (congrArg (fun r : ℝ => (r : EReal)) (congrArg₂ x ?_ ?_))
  · refine (Window.rect_emb_val win0_0 t j 0).trans ?_
    rw [(idx_val t).1]
    exact congrArg (· + (j 0).val) (Nat.mul_comm _ _)
  · refine (Window.rect_emb_val win0_0 t j 1).trans ?_
    rw [(idx_val t).1]
    exact congrArg (· + (j 1).val) (Nat.mul_comm _ _)
theorem iblk1 : iblk m c 1 t = up2 4096 128 (cols (1024 + 128 * (t.val / 2)) x) := by
  funext j
  refine (h _).trans (congrArg (fun r : ℝ => (r : EReal)) (congrArg₂ x ?_ ?_))
  · refine (Window.rect_emb_val win0_1 t j 0).trans ?_
    rw [(idx_val t).2.1]
    show 0 * 4096 + (j 0).val = _
    rw [Nat.zero_mul, Nat.zero_add]
  · refine (Window.rect_emb_val win0_1 t j 1).trans ?_
    rw [(idx_val t).2.1]
    show (8 + t.val / 2) * 128 + (j 1).val = 1024 + 128 * (t.val / 2) + (j 1).val
    ring
theorem iblk2 : iblk m c 2 t = up2 4096 128 (cols (2048 + 128 * (t.val / 2)) x) := by
  funext j
  refine (h _).trans (congrArg (fun r : ℝ => (r : EReal)) (congrArg₂ x ?_ ?_))
  · refine (Window.rect_emb_val win0_2 t j 0).trans ?_
    rw [(idx_val t).2.2.1]
    show 0 * 4096 + (j 0).val = _
    rw [Nat.zero_mul, Nat.zero_add]
  · refine (Window.rect_emb_val win0_2 t j 1).trans ?_
    rw [(idx_val t).2.2.1]
    show (16 + t.val / 2) * 128 + (j 1).val = 2048 + 128 * (t.val / 2) + (j 1).val
    ring
end

/-- The two heads' passes at point `t`. -/
def envAt (m : (ℓ : Loc nD τ sig) → Buf (Elt Ideal) ℓ) (c : Dev nD) (t : Fin cfg0.N) : Env Ideal where
  c := c
  i := grid0.coords t
  arg2 := win0_0.stage (cfg0.slots t 0)
  harg2 := hstage0_0 ((cfg0.slots t 0).cast nbuf0_0)
  arg3 := win0_1.stage (cfg0.slots t 1)
  harg3 := hstage0_1 ((cfg0.slots t 1).cast nbuf0_1)
  arg4 := win0_2.stage (cfg0.slots t 2)
  harg4 := hstage0_2 ((cfg0.slots t 2).cast nbuf0_2)
  arg5 := win0_3.stage (cfg0.slots t 3)
  harg5 := hstage0_3 ((cfg0.slots t 3).cast nbuf0_3)
  arg6 := win0_4.stage (cfg0.slots t 4)
  harg6 := hstage0_4 ((cfg0.slots t 4).cast nbuf0_4)
  v0 := Scalar.muli (BitVec.ofNat 32 (grid0.coords t 1).val) 2048#32
  v1 := iblk m c 0 t
  X3 := (hstage0_1 ((cfg0.slots t 1).cast nbuf0_1)).unread (iblk m c 1 t)
  X4 := (hstage0_2 ((cfg0.slots t 2).cast nbuf0_2)).unread (iblk m c 2 t)
  k := ⟨0, by decide⟩

theorem o5_at (m : (ℓ : Loc nD τ sig) → Buf (Elt Ideal) ℓ) (c : Dev nD) (t : Fin cfg0.N) :
    o5 m c t = k0_pay17 ((envAt m c t).hst k0_t1_loop.trips).1 := rfl
theorem o6_at (m : (ℓ : Loc nD τ sig) → Buf (Elt Ideal) ℓ) (c : Dev nD) (t : Fin cfg0.N) :
    o6 m c t = (envAt m c t).arg6.view.read (Elt Ideal) ((envAt m c t).arg6.view.writes (Elt Ideal)
      ((hstage0_4 ((cfg0.slots t 4).cast nbuf0_4)).unread (broadcast S2x2048x1 (Scalar.ofBits (F := Ideal) .f32 0x00000000#32)))
      ((envAt m c t).hst k0_t1_loop.trips).2) := rfl

section
variable {m : (ℓ : Loc nD τ sig) → Buf (Elt Ideal) ℓ} {c : Dev nD} {x : ℕ → ℕ → ℝ}
  (h : ∀ j : S4096x3072.Idx, V m c main_arg0 j = ((x (j 0).val (j 1).val : ℝ) : EReal)) (t : Fin cfg0.N)
include h

/-- The matrices of point `t`. -/
theorem point_at : Env.Point (envAt m c t) (2048 * (t.val % 2)) (cols (128 * (t.val / 2)) x) (cols (1024 + 128 * (t.val / 2)) x)
    (cols (2048 + 128 * (t.val / 2)) x) where
  t := by rw [← coord_val t]; rfl
  v1 := iblk0 h t
  k := ((hstage0_1 ((cfg0.slots t 1).cast nbuf0_1)).read_unread _).trans (iblk1 h t)
  v := ((hstage0_2 ((cfg0.slots t 2).cast nbuf0_2)).read_unread _).trans (iblk2 h t)

theorem o5_val : o5 m c t = up2 2048 128 fun r d => YY x (2048 * (t.val % 2) + r) (128 * (t.val / 2) + d) := by
  rw [o5_at, heads_two]
  have e := (Env.hst_val (point_at h t) ((hstage0_4 ((cfg0.slots t 4).cast nbuf0_4)).unread (broadcast S2x2048x1 (Scalar.ofBits (F := Ideal) .f32 0x00000000#32))) 2 le_rfl).1
  refine Eq.trans (b := ((envAt m c t).hst 2).1) rfl (e.trans (up2_congr fun r _ d hd => ?_))
  rw [if_pos (by omega)]
  unfold yF YY
  rw [scores x _ (by omega), show (128 * (t.val / 2) + d) / 64 = 2 * (t.val / 2) + d / 64 by omega]
  refine Finset.sum_congr rfl fun j _ => ?_
  unfold cols
  rw [Nat.add_assoc]
theorem o6_val (j : S2x2048x1.Idx) : o6 m c t j = ((LT x (2 * (t.val / 2) + (j 0).val) (2048 * (t.val % 2) + (j 1).val) : ℝ) : EReal) := by
  have hj : (j 0).val < 2 := (j 0).isLt
  rw [o6_at, heads_two]
  exact ((Env.hst_val (point_at h t) _ 2 le_rfl).2 j hj).trans (congrArg (fun r : ℝ => (r : EReal)) (row_sums x _ hj _))

/-! The arrays after the last point. -/

theorem final3 : (dats m 0 c).arrAt 3 (cfgs 0).N = fun j => ((YY x (j 0).val (j 1).val : ℝ) : EReal) := by
  refine (dats m 0 c).arrAt_eq_of_covers 3 _ (by decide +kernel) fun t hf j => ?_
  blk_simp
  rw [after0_3, o5_val h t]
  refine congrArg (fun r : ℝ => (r : EReal)) (congrArg₂ (YY x) (Eq.symm ?_) (Eq.symm ?_)) <;> rw [(idx_val t).2.2.2.1]
  · show t.val % 2 * 2048 + (j 0).val = _
    rw [Nat.mul_comm]
  · show t.val / 2 * 128 + (j 1).val = _
    rw [Nat.mul_comm]
theorem final4 : (dats m 0 c).arrAt 4 (cfgs 0).N = fun j => ((LT x (j 0).val (j 1).val : ℝ) : EReal) := by
  refine (dats m 0 c).arrAt_eq_of_covers 4 _ (by decide +kernel) fun t hf j => ?_
  blk_simp
  rw [after0_4]
  refine (o6_val h t j).trans (congrArg (fun r : ℝ => (r : EReal)) (congrArg₂ (LT x) (Eq.symm ?_) (Eq.symm ?_))) <;> rw [(idx_val t).2.2.2.2]
  · show t.val / 2 * 2 + (j 0).val = _
    rw [Nat.mul_comm]
  · show t.val % 2 * 2048 + (j 1).val = _
    rw [Nat.mul_comm]
end

end Cert.SbFwd
-- ==== Proof.FwdRef.lean ====
module

public import proofs.«01_k».proof.Proof.FwdGrid
public import proofs.«01_k».proof.Proof.Host
public import proofs.«01_k».proof.Proof.Gen.FwdReferenceIdeal.Run
public import proofs.«01_k».proof.Proof.Gen.Pre_forward_finite

@[expose] public section

set_option maxRecDepth 16384

noncomputable section

/-! The forward call's reference, in the stages of the gradients' reference; what the precondition says of the argument. -/

namespace Cert.SbFwd

open Cert.SbBwd (up2 up2_congr up3 entries up2_entries lt_top_of_bit rowSums rowSums_up LT gW ZZ dot_up3 truncf_up2)
open Idealize.ShloMosaic Idealize.ShloMosaic.TcCoe
open Finset (range)

namespace Ref
open Cert.FwdReferenceIdeal Cert.FwdReferenceIdeal.Gen

/-- The weights times the values, the heads side by side. -/
def ys (a : FVec Ideal S4096x3072 .bf16) : FVec Ideal S4096x1024 .f32 :=
  Cert.SbBwd.Ref.unheads (Host.dotGeneral (F := Ideal) dot_S16x4096x4096_S16x4096x64_S16x4096x64_2_1_1_2_0_0 none (Cert.SbBwd.Ref.ws a) (Cert.SbBwd.Ref.vs a))

section
variable (m : (ℓ : Loc nD τ sig) → Buf (Elt Ideal) ℓ) (c : Dev nD)
theorem res0_eq : Value.res_main_v32 m c
    = truncf .bf16 (ys (m ((c.tc : Thread nD τ).loc main_arg0))) bitsLt_bf16_f32 := rfl
theorem res1_eq : Value.res_main_v51 m c = rowSums (Cert.SbBwd.Ref.lk (m ((c.tc : Thread nD τ).loc main_arg0))) := rfl
end

variable (x : ℕ → ℕ → ℝ)

theorem ys_up : ys (up2 4096 3072 x) = up2 4096 1024 (YY x) := by
  unfold ys
  rw [Cert.SbBwd.Ref.ws_up, Cert.SbBwd.Ref.vs_up]
  refine (congrArg Cert.SbBwd.Ref.unheads (dot_up3 _ _ _ _)).trans ((Cert.SbBwd.Ref.unheads_up _).trans (up2_congr fun t _ e _ => ?_))
  unfold YY
  rw [Cert.SbBwd.Ref.lane]
theorem res0_up : truncf (F := Ideal) .bf16 (ys (up2 4096 3072 x)) bitsLt_bf16_f32 = up2 4096 1024 (YY x) := by
  rw [ys_up]
  exact truncf_up2 _ _
theorem res1_up : rowSums (Cert.SbBwd.Ref.lk (up2 4096 3072 x)) = up3 16 4096 1 fun h t _ => LT x h t :=
  (congrArg rowSums (Cert.SbBwd.Ref.lk_up x)).trans (rowSums_up _)

end Ref

open Cert.FwdIdeal Cert.FwdIdeal.Gen

variable (m : (ℓ : Loc nD τ sig) → Buf (Elt Ideal) ℓ)

/-- The argument of device `c` as real numbers. -/
def xs (c : Dev nD) : ℕ → ℕ → ℝ := entries (n := 4096) (m := 3072) (m ((c.tc : Thread nD τ).loc main_arg0))

variable {m}

theorem arg_real (h : Cert.Pre_FwdIdeal_forward_finite (hPre_forward_finite := Cert.Pre_forward_finite.Gen.facts) m) (c : Dev nD) :
    m ((c.tc : Thread nD τ).loc main_arg0) = up2 4096 3072 (xs m c) := by
  have e := congrFun (h c) (fun a => a.elim0)
  unfold Cert.Pre_forward_finite.fn at e
  dsimp only at e
  refine up2_entries _ fun i => ?_
  exact lt_top_of_bit (φ := .f32) _ _ i (Host.reduce_andi_all _ _ _ _ _ e i)

theorem reads (h : Cert.Pre_FwdIdeal_forward_finite (hPre_forward_finite := Cert.Pre_forward_finite.Gen.facts) m) (c : Dev nD) (j : S4096x3072.Idx) :
    V m c main_arg0 j = ((xs m c (j 0).val (j 1).val : ℝ) : EReal) :=
  congrFun ((V_main_arg0 m c).trans (arg_real h c)) j

end Cert.SbFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.FrameRun
public import proofs.«01_k».proof.Proof.Host
public import proofs.«01_k».proof.Proof.Gen.Pre_finite
public import proofs.«01_k».proof.Proof.DownX
public import proofs.«01_k».proof.Proof.DownW
public import proofs.«01_k».proof.Proof.UpX
public import proofs.«01_k».proof.Proof.UpW
public import proofs.«01_k».proof.Proof.Up
public import proofs.«01_k».proof.Proof.Down
public import proofs.«01_k».proof.Proof.Gen.Down
public import proofs.«01_k».proof.Proof.Gen.Down.Frame
public import proofs.«01_k».proof.Proof.Gen.DownX
public import proofs.«01_k».proof.Proof.Gen.DownX.Frame
public import proofs.«01_k».proof.Proof.Gen.DownW
public import proofs.«01_k».proof.Proof.Gen.DownW.Frame
public import proofs.«01_k».proof.Proof.Gen.UpX
public import proofs.«01_k».proof.Proof.Gen.UpX.Frame
public import proofs.«01_k».proof.Proof.Gen.UpW
public import proofs.«01_k».proof.Proof.Gen.UpW.Frame
public import proofs.«01_k».proof.Proof.Gen.Up
public import proofs.«01_k».proof.Proof.Gen.Up.Frame
public import proofs.«01_k».proof.Proof.InXQkv
public import proofs.«01_k».proof.Proof.InXZ
public import proofs.«01_k».proof.Proof.InXXbc
public import proofs.«01_k».proof.Proof.InXMq
public import proofs.«01_k».proof.Proof.InXGl
public import proofs.«01_k».proof.Proof.InWQkv
public import proofs.«01_k».proof.Proof.InWZ
public import proofs.«01_k».proof.Proof.InWXbc
public import proofs.«01_k».proof.Proof.InWMq
public import proofs.«01_k».proof.Proof.InWGl
public import proofs.«01_k».proof.Proof.InQkv
public import proofs.«01_k».proof.Proof.InZ
public import proofs.«01_k».proof.Proof.InXbc
public import proofs.«01_k».proof.Proof.InMq
public import proofs.«01_k».proof.Proof.InGl
public import proofs.«01_k».proof.Proof.OutX
public import proofs.«01_k».proof.Proof.OutW
public import proofs.«01_k».proof.Proof.MemOutX
public import proofs.«01_k».proof.Proof.SsdOutX
public import proofs.«01_k».proof.Proof.SsdOutW
public import proofs.«01_k».proof.Proof.Out
public import proofs.«01_k».proof.Proof.SsdOut
public import proofs.«01_k».proof.Proof.MemKvX
public import proofs.«01_k».proof.Proof.MemKvW
public import proofs.«01_k».proof.Proof.MemKv
public import proofs.«01_k».proof.Proof.InXDt
public import proofs.«01_k».proof.Proof.InWDt
public import proofs.«01_k».proof.Proof.InDt
public import proofs.«01_k».proof.Proof.MemFwd
public import proofs.«01_k».proof.Proof.Gen.InXQkv
public import proofs.«01_k».proof.Proof.Gen.InXQkv.Frame
public import proofs.«01_k».proof.Proof.Gen.InXZ
public import proofs.«01_k».proof.Proof.Gen.InXZ.Frame
public import proofs.«01_k».proof.Proof.Gen.InXXbc
public import proofs.«01_k».proof.Proof.Gen.InXXbc.Frame
public import proofs.«01_k».proof.Proof.Gen.InXMq
public import proofs.«01_k».proof.Proof.Gen.InXMq.Frame
public import proofs.«01_k».proof.Proof.Gen.InXGl
public import proofs.«01_k».proof.Proof.Gen.InXGl.Frame
public import proofs.«01_k».proof.Proof.Gen.InWQkv
public import proofs.«01_k».proof.Proof.Gen.InWQkv.Frame
public import proofs.«01_k».proof.Proof.Gen.InWZ
public import proofs.«01_k».proof.Proof.Gen.InWZ.Frame
public import proofs.«01_k».proof.Proof.Gen.InWXbc
public import proofs.«01_k».proof.Proof.Gen.InWXbc.Frame
public import proofs.«01_k».proof.Proof.Gen.InWMq
public import proofs.«01_k».proof.Proof.Gen.InWMq.Frame
public import proofs.«01_k».proof.Proof.Gen.InWGl
public import proofs.«01_k».proof.Proof.Gen.InWGl.Frame
public import proofs.«01_k».proof.Proof.Gen.InQkv
public import proofs.«01_k».proof.Proof.Gen.InQkv.Frame
public import proofs.«01_k».proof.Proof.Gen.InZ
public import proofs.«01_k».proof.Proof.Gen.InZ.Frame
public import proofs.«01_k».proof.Proof.Gen.InXbc
public import proofs.«01_k».proof.Proof.Gen.InXbc.Frame
public import proofs.«01_k».proof.Proof.Gen.InMq
public import proofs.«01_k».proof.Proof.Gen.InMq.Frame
public import proofs.«01_k».proof.Proof.Gen.InGl
public import proofs.«01_k».proof.Proof.Gen.InGl.Frame
public import proofs.«01_k».proof.Proof.Gen.OutX
public import proofs.«01_k».proof.Proof.Gen.OutX.Frame
public import proofs.«01_k».proof.Proof.Gen.OutW
public import proofs.«01_k».proof.Proof.Gen.OutW.Frame
public import proofs.«01_k».proof.Proof.Gen.MemOutX
public import proofs.«01_k».proof.Proof.Gen.MemOutX.Frame
public import proofs.«01_k».proof.Proof.Gen.SsdOutX
public import proofs.«01_k».proof.Proof.Gen.SsdOutX.Frame
public import proofs.«01_k».proof.Proof.Gen.SsdOutW
public import proofs.«01_k».proof.Proof.Gen.SsdOutW.Frame
public import proofs.«01_k».proof.Proof.Gen.Out
public import proofs.«01_k».proof.Proof.Gen.Out.Frame
public import proofs.«01_k».proof.Proof.Gen.SsdOut
public import proofs.«01_k».proof.Proof.Gen.SsdOut.Frame
public import proofs.«01_k».proof.Proof.Gen.MemKvX
public import proofs.«01_k».proof.Proof.Gen.MemKvX.Frame
public import proofs.«01_k».proof.Proof.Gen.MemKvW
public import proofs.«01_k».proof.Proof.Gen.MemKvW.Frame
public import proofs.«01_k».proof.Proof.Gen.MemKv
public import proofs.«01_k».proof.Proof.Gen.MemKv.Frame
public import proofs.«01_k».proof.Proof.Gen.InXDt
public import proofs.«01_k».proof.Proof.Gen.InXDt.Frame
public import proofs.«01_k».proof.Proof.Gen.InWDt
public import proofs.«01_k».proof.Proof.Gen.InWDt.Frame
public import proofs.«01_k».proof.Proof.Gen.InDt
public import proofs.«01_k».proof.Proof.Gen.InDt.Frame
public import proofs.«01_k».proof.Proof.Gen.MemFwd
public import proofs.«01_k».proof.Proof.Gen.MemFwd.Frame
public import proofs.«01_k».proof.Proof.Gen.Fwd
public import proofs.«01_k».proof.Proof.Gen.FwdIdeal
public import proofs.«01_k».proof.Proof.Gen.FwdIdeal.Frame
public import proofs.«01_k».proof.Proof.Gen.FwdIdeal.Loops
public import proofs.«01_k».proof.Proof.Gen.FwdReferenceIdeal
public import proofs.«01_k».proof.Proof.Gen.FwdReferenceIdeal.Run
public import proofs.«01_k».proof.Proof.Gen.Pre_forward_finite
public import proofs.«01_k».proof.Proof.FwdRef
public import Idealize.ShloMosaic.Adequacy
public import Idealize.ShloMosaic.Init

@[expose] public section

noncomputable section

namespace Cert.Proof

open Idealize.ShloMosaic Idealize.SL.Sem

/-- The two prints of the kernel have the same body table. -/
theorem defs₀_eq : Cert.Kernel.defs₀ (F := Bits) = Cert.KernelIdeal.defs₀ (F := Bits) := by
  unfold Cert.Kernel.defs₀ Cert.KernelIdeal.defs₀
  congr 1
  funext l x
  match l, x with
  | 0, (t, s) => rfl

theorem defs_eq : Cert.Kernel.defs (F := Bits) = Cert.KernelIdeal.defs (F := Bits) := by
  show Pipeline.defs _ Cert.Kernel.defs₀ = Pipeline.defs _ Cert.KernelIdeal.defs₀
  rw [defs₀_eq]; rfl

set_option maxHeartbeats 4000000 in
/-- … and the same host line. -/
theorem main_eq : Cert.Kernel.main (F := Bits) = Cert.KernelIdeal.main (F := Bits) := by
  funext c
  unfold Cert.Kernel.main Cert.KernelIdeal.main
  rfl

/-- The kernel as printed: the same run, its floats being bit patterns. -/
theorem frame_kernel : Cert.quiescent_Kernel := by
  intro m ρ _
  rw [defs_eq, main_eq]
  exact (θ_run Cert.KernelIdeal.defs _ _).mono (fun _ h => h) (Cert.SbBwd.frame_run (F := Bits) m ρ)

theorem frame_kernelIdeal : Cert.quiescent_KernelIdeal := fun m ρ _ => Cert.SbBwd.frame_run m ρ

theorem frame_referenceIdeal : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run m ρ)

theorem frame_kernelIdeal_finite : Cert.quiescent_KernelIdeal_pre_finite (hPre_finite := Cert.Pre_finite.Gen.facts) := fun m ρ _ =>
  frame_kernelIdeal m ρ trivial

theorem frame_referenceIdeal_finite : Cert.quiescent_ReferenceIdeal_pre_finite (hPre_finite := Cert.Pre_finite.Gen.facts) := fun m ρ _ =>
  frame_referenceIdeal m ρ trivial

section
open Cert.KernelIdeal Cert.KernelIdeal.Gen Cert.SbBwd Idealize.ShloMosaic.TcCoe

/-- From real arguments the kernel leaves the three gradients. -/
theorem kernel_run (m : (ℓ : Loc nD τ sig) → Buf (Elt Ideal) ℓ) (ρ : Dev nD → PrngReg) (h : Cert.Pre_KernelIdeal_finite (hPre_finite := Cert.Pre_finite.Gen.facts) m) :
    θ_run defs (onTc (τ := τ) (main (F := Ideal))) ⟨m, fun _ => 0, ρ⟩ (fun r => ∀ c : Dev nD,
      r.2.mem ((c.tc : Thread nD τ).loc main_v23_0) = up2 4096 1024 (DQ (xs m c) (ys m c))
      ∧ r.2.mem ((c.tc : Thread nD τ).loc main_v23_1) = up2 4096 1024 (DK (xs m c) (ys m c))
      ∧ r.2.mem ((c.tc : Thread nD τ).loc main_v23_2) = up2 4096 1024 (DV (xs m c) (ys m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨(hr.1.1.out_eq c 5).trans (final5 (reads m h c)), (hr.1.1.out_eq c 6).trans (final6 (reads m h c)),
    (hr.1.1.out_eq c 7).trans (final7 (reads m h c)), (hr.2.1 c).1, (hr.2.1 c).2⟩)
    (Idealize.ShloMosaic.θ_run_and (run_main m ρ) (frame_run m ρ))

end

/-- From equal real arguments the kernel and the reference end with equal results. -/
theorem values : Cert.algebraic_KernelIdeal_ReferenceIdeal_pre_finite (hPre_finite := Cert.Pre_finite.Gen.facts) := by
  intro m ρ m' ρ' h hm
  refine ⟨fun c => Cert.SbBwd.up2 4096 1024 (Cert.SbBwd.DQ (Cert.SbBwd.xs m c) (Cert.SbBwd.ys m c)),
    fun c => Cert.SbBwd.up2 4096 1024 (Cert.SbBwd.DK (Cert.SbBwd.xs m c) (Cert.SbBwd.ys m c)),
    fun c => Cert.SbBwd.up2 4096 1024 (Cert.SbBwd.DV (Cert.SbBwd.xs m c) (Cert.SbBwd.ys m c)), kernel_run m ρ h, ?_⟩
  refine (θ_run Cert.ReferenceIdeal.defs _ _).mono (fun r hr c => ?_) (Cert.ReferenceIdeal.Value.run m' ρ')
  have a0 := (hm c).1.trans (Cert.SbBwd.args_real h c).1
  have a1 := (hm c).2.trans (Cert.SbBwd.args_real h c).2
  obtain ⟨h0, h1, h2, h3⟩ := hr c
  exact ⟨h0.trans ((Cert.SbBwd.Ref.res0_eq m' c).trans ((congrArg₂ Cert.SbBwd.Ref.dqs a0 a1).trans (Cert.SbBwd.Ref.dqs_up _ _))),
    h1.trans ((Cert.SbBwd.Ref.res1_eq m' c).trans ((congrArg₂ Cert.SbBwd.Ref.dks a0 a1).trans (Cert.SbBwd.Ref.dks_up _ _))),
    h2.trans ((Cert.SbBwd.Ref.res2_eq m' c).trans ((congrArg₂ Cert.SbBwd.Ref.dvs a0 a1).trans (Cert.SbBwd.Ref.dvs_up _ _))), h3⟩

/-! The attention's forward call. -/

theorem fwd_defs₀_eq : Cert.Fwd.defs₀ (F := Bits) = Cert.FwdIdeal.defs₀ (F := Bits) := by
  unfold Cert.Fwd.defs₀ Cert.FwdIdeal.defs₀
  congr 1
  funext l x
  match l, x with
  | 0, (t, s) => rfl

theorem fwd_defs_eq : Cert.Fwd.defs (F := Bits) = Cert.FwdIdeal.defs (F := Bits) := by
  show Pipeline.defs _ Cert.Fwd.defs₀ = Pipeline.defs _ Cert.FwdIdeal.defs₀
  rw [fwd_defs₀_eq]; rfl

theorem fwd_main_eq : Cert.Fwd.main (F := Bits) = Cert.FwdIdeal.main (F := Bits) := by
  funext c
  unfold Cert.Fwd.main Cert.FwdIdeal.main
  rfl

theorem frame_fwd : Cert.quiescent_Fwd := by
  intro m ρ _
  rw [fwd_defs_eq, fwd_main_eq]
  exact (θ_run Cert.FwdIdeal.defs _ _).mono (fun _ h => h) (Cert.SbFwd.frame_run (F := Bits) m ρ)

theorem frame_fwdIdeal : Cert.quiescent_FwdIdeal := fun m ρ _ => Cert.SbFwd.frame_run m ρ

theorem frame_fwdReferenceIdeal : Cert.quiescent_FwdReferenceIdeal := fun m ρ _ =>
  (θ_run Cert.FwdReferenceIdeal.defs _ _).mono (fun r h => ⟨fun c => (h c).2.2,
    Idealize.ShloMosaic.sem_eq_zero_of_no_sems (by decide) r.2⟩) (Cert.FwdReferenceIdeal.Value.run m ρ)

theorem frame_fwdIdeal_finite : Cert.quiescent_FwdIdeal_pre_forward_finite (hPre_forward_finite := Cert.Pre_forward_finite.Gen.facts) :=
  fun m ρ _ => frame_fwdIdeal m ρ trivial

theorem frame_fwdReferenceIdeal_finite :
    Cert.quiescent_FwdReferenceIdeal_pre_forward_finite (hPre_forward_finite := Cert.Pre_forward_finite.Gen.facts) := fun m ρ _ =>
  frame_fwdReferenceIdeal m ρ trivial

section
open Cert.FwdIdeal Cert.FwdIdeal.Gen Cert.SbFwd Cert.SbBwd Idealize.ShloMosaic.TcCoe

/-- From a real argument the forward call leaves the attention's result and each row's sum. -/
theorem forward_run (m : (ℓ : Loc nD τ sig) → Buf (Elt Ideal) ℓ) (ρ : Dev nD → PrngReg)
    (h : Cert.Pre_FwdIdeal_forward_finite (hPre_forward_finite := Cert.Pre_forward_finite.Gen.facts) m) :
    θ_run defs (onTc (τ := τ) (main (F := Ideal))) ⟨m, fun _ => 0, ρ⟩ (fun r => ∀ c : Dev nD,
      r.2.mem ((c.tc : Thread nD τ).loc main_v0_0) = up2 4096 1024 (YY (Cert.SbFwd.xs m c))
      ∧ r.2.mem ((c.tc : Thread nD τ).loc main_v0_1) = up3 16 4096 1 (fun h t _ => LT (Cert.SbFwd.xs m c) h t)
      ∧ r.2.mem ((c.tc : Thread nD τ).loc main_arg0) = m ((c.tc : Thread nD τ).loc main_arg0)) :=
  (θ_run defs _ _).mono (fun r hr c => ⟨(hr.1.1.out_eq c 3).trans (Cert.SbFwd.final3 (Cert.SbFwd.reads h c)),
    (hr.1.1.out_eq c 4).trans (Cert.SbFwd.final4 (Cert.SbFwd.reads h c)), hr.2.1 c⟩)
    (Idealize.ShloMosaic.θ_run_and (Cert.SbFwd.run_main m ρ) (Cert.SbFwd.frame_run m ρ))

end

theorem fwd_values : Cert.algebraic_FwdIdeal_FwdReferenceIdeal_pre_forward_finite (hPre_forward_finite := Cert.Pre_forward_finite.Gen.facts) := by
  intro m ρ m' ρ' h hm
  refine ⟨fun c => Cert.SbBwd.up2 4096 1024 (Cert.SbFwd.YY (Cert.SbFwd.xs m c)),
    fun c => Cert.SbBwd.up3 16 4096 1 fun h t _ => Cert.SbBwd.LT (Cert.SbFwd.xs m c) h t, forward_run m ρ h, ?_⟩
  refine (θ_run Cert.FwdReferenceIdeal.defs _ _).mono (fun r hr c => ?_) (Cert.FwdReferenceIdeal.Value.run m' ρ')
  have a0 := (hm c).trans (Cert.SbFwd.arg_real h c)
  obtain ⟨h0, h1, h2⟩ := hr c
  refine ⟨h0.trans ((Cert.SbFwd.Ref.res0_eq m' c).trans ?_), h1.trans ((Cert.SbFwd.Ref.res1_eq m' c).trans ?_), h2⟩
  · exact (congrArg (fun a => truncf .bf16 (Cert.SbFwd.Ref.ys a) _) a0).trans (Cert.SbFwd.Ref.res0_up _)
  · exact (congrArg (fun a => Cert.SbBwd.rowSums (Cert.SbBwd.Ref.lk a)) a0).trans (Cert.SbFwd.Ref.res1_up _)

theorem claim : Cert.Claim := ⟨Cert.Kernel.Gen.facts, Cert.KernelIdeal.Gen.facts, Cert.ReferenceIdeal.Gen.facts,
  Cert.DownX.Gen.facts, Cert.DownXIdeal.Gen.facts, Cert.DownXReferenceIdeal.Gen.facts,
  Cert.DownW.Gen.facts, Cert.DownWIdeal.Gen.facts, Cert.DownWReferenceIdeal.Gen.facts,
  Cert.UpX.Gen.facts, Cert.UpXIdeal.Gen.facts, Cert.UpXReferenceIdeal.Gen.facts,
  Cert.UpW.Gen.facts, Cert.UpWIdeal.Gen.facts, Cert.UpWReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.InXQkv.Gen.facts, Cert.InXQkvIdeal.Gen.facts, Cert.InXQkvReferenceIdeal.Gen.facts,
  Cert.InXZ.Gen.facts, Cert.InXZIdeal.Gen.facts, Cert.InXZReferenceIdeal.Gen.facts,
  Cert.InXXbc.Gen.facts, Cert.InXXbcIdeal.Gen.facts, Cert.InXXbcReferenceIdeal.Gen.facts,
  Cert.InXMq.Gen.facts, Cert.InXMqIdeal.Gen.facts, Cert.InXMqReferenceIdeal.Gen.facts,
  Cert.InXGl.Gen.facts, Cert.InXGlIdeal.Gen.facts, Cert.InXGlReferenceIdeal.Gen.facts,
  Cert.InWQkv.Gen.facts, Cert.InWQkvIdeal.Gen.facts, Cert.InWQkvReferenceIdeal.Gen.facts,
  Cert.InWZ.Gen.facts, Cert.InWZIdeal.Gen.facts, Cert.InWZReferenceIdeal.Gen.facts,
  Cert.InWXbc.Gen.facts, Cert.InWXbcIdeal.Gen.facts, Cert.InWXbcReferenceIdeal.Gen.facts,
  Cert.InWMq.Gen.facts, Cert.InWMqIdeal.Gen.facts, Cert.InWMqReferenceIdeal.Gen.facts,
  Cert.InWGl.Gen.facts, Cert.InWGlIdeal.Gen.facts, Cert.InWGlReferenceIdeal.Gen.facts,
  Cert.InQkv.Gen.facts, Cert.InQkvIdeal.Gen.facts, Cert.InQkvReferenceIdeal.Gen.facts,
  Cert.InZ.Gen.facts, Cert.InZIdeal.Gen.facts, Cert.InZReferenceIdeal.Gen.facts,
  Cert.InXbc.Gen.facts, Cert.InXbcIdeal.Gen.facts, Cert.InXbcReferenceIdeal.Gen.facts,
  Cert.InMq.Gen.facts, Cert.InMqIdeal.Gen.facts, Cert.InMqReferenceIdeal.Gen.facts,
  Cert.InGl.Gen.facts, Cert.InGlIdeal.Gen.facts, Cert.InGlReferenceIdeal.Gen.facts,
  Cert.OutX.Gen.facts, Cert.OutXIdeal.Gen.facts, Cert.OutXReferenceIdeal.Gen.facts,
  Cert.OutW.Gen.facts, Cert.OutWIdeal.Gen.facts, Cert.OutWReferenceIdeal.Gen.facts,
  Cert.MemOutX.Gen.facts, Cert.MemOutXIdeal.Gen.facts, Cert.MemOutXReferenceIdeal.Gen.facts,
  Cert.SsdOutX.Gen.facts, Cert.SsdOutXIdeal.Gen.facts, Cert.SsdOutXReferenceIdeal.Gen.facts,
  Cert.SsdOutW.Gen.facts, Cert.SsdOutWIdeal.Gen.facts, Cert.SsdOutWReferenceIdeal.Gen.facts,
  Cert.Out.Gen.facts, Cert.OutIdeal.Gen.facts, Cert.OutReferenceIdeal.Gen.facts,
  Cert.SsdOut.Gen.facts, Cert.SsdOutIdeal.Gen.facts, Cert.SsdOutReferenceIdeal.Gen.facts,
  Cert.MemKvX.Gen.facts, Cert.MemKvXIdeal.Gen.facts, Cert.MemKvXReferenceIdeal.Gen.facts,
  Cert.MemKvW.Gen.facts, Cert.MemKvWIdeal.Gen.facts, Cert.MemKvWReferenceIdeal.Gen.facts,
  Cert.MemKv.Gen.facts, Cert.MemKvIdeal.Gen.facts, Cert.MemKvReferenceIdeal.Gen.facts,
  Cert.InXDt.Gen.facts, Cert.InXDtIdeal.Gen.facts, Cert.InXDtReferenceIdeal.Gen.facts,
  Cert.InWDt.Gen.facts, Cert.InWDtIdeal.Gen.facts, Cert.InWDtReferenceIdeal.Gen.facts,
  Cert.InDt.Gen.facts, Cert.InDtIdeal.Gen.facts, Cert.InDtReferenceIdeal.Gen.facts,
  Cert.MemFwd.Gen.facts, Cert.MemFwdIdeal.Gen.facts, Cert.MemFwdReferenceIdeal.Gen.facts,
  Cert.Fwd.Gen.facts, Cert.FwdIdeal.Gen.facts, Cert.FwdReferenceIdeal.Gen.facts,
  Cert.Pre_finite.Gen.facts, Cert.Pre_forward_finite.Gen.facts,
  frame_kernel, frame_kernelIdeal, frame_kernelIdeal_finite, frame_referenceIdeal, frame_referenceIdeal_finite,
  fun m ρ _ => Cert.DownX.Gen.frame m ρ, fun m ρ _ => Cert.DownXIdeal.Gen.frame m ρ, Cert.Products.DownX.frame_ref,
  fun m ρ _ => Cert.DownW.Gen.frame m ρ, fun m ρ _ => Cert.DownWIdeal.Gen.frame m ρ, Cert.Products.DownW.frame_ref,
  fun m ρ _ => Cert.UpX.Gen.frame m ρ, fun m ρ _ => Cert.UpXIdeal.Gen.frame m ρ, Cert.Products.UpX.frame_ref,
  fun m ρ _ => Cert.UpW.Gen.frame m ρ, fun m ρ _ => Cert.UpWIdeal.Gen.frame m ρ, Cert.Products.UpW.frame_ref,
  fun m ρ _ => Cert.Up.Gen.frame m ρ, fun m ρ _ => Cert.UpIdeal.Gen.frame m ρ, Cert.Products.Up.frame_ref,
  fun m ρ _ => Cert.Down.Gen.frame m ρ, fun m ρ _ => Cert.DownIdeal.Gen.frame m ρ, Cert.Products.Down.frame_ref,
  fun m ρ _ => Cert.InXQkv.Gen.frame m ρ, fun m ρ _ => Cert.InXQkvIdeal.Gen.frame m ρ, Cert.Products.InXQkv.frame_ref,
  fun m ρ _ => Cert.InXZ.Gen.frame m ρ, fun m ρ _ => Cert.InXZIdeal.Gen.frame m ρ, Cert.Products.InXZ.frame_ref,
  fun m ρ _ => Cert.InXXbc.Gen.frame m ρ, fun m ρ _ => Cert.InXXbcIdeal.Gen.frame m ρ, Cert.Products.InXXbc.frame_ref,
  fun m ρ _ => Cert.InXMq.Gen.frame m ρ, fun m ρ _ => Cert.InXMqIdeal.Gen.frame m ρ, Cert.Products.InXMq.frame_ref,
  fun m ρ _ => Cert.InXGl.Gen.frame m ρ, fun m ρ _ => Cert.InXGlIdeal.Gen.frame m ρ, Cert.Products.InXGl.frame_ref,
  fun m ρ _ => Cert.InWQkv.Gen.frame m ρ, fun m ρ _ => Cert.InWQkvIdeal.Gen.frame m ρ, Cert.Products.InWQkv.frame_ref,
  fun m ρ _ => Cert.InWZ.Gen.frame m ρ, fun m ρ _ => Cert.InWZIdeal.Gen.frame m ρ, Cert.Products.InWZ.frame_ref,
  fun m ρ _ => Cert.InWXbc.Gen.frame m ρ, fun m ρ _ => Cert.InWXbcIdeal.Gen.frame m ρ, Cert.Products.InWXbc.frame_ref,
  fun m ρ _ => Cert.InWMq.Gen.frame m ρ, fun m ρ _ => Cert.InWMqIdeal.Gen.frame m ρ, Cert.Products.InWMq.frame_ref,
  fun m ρ _ => Cert.InWGl.Gen.frame m ρ, fun m ρ _ => Cert.InWGlIdeal.Gen.frame m ρ, Cert.Products.InWGl.frame_ref,
  fun m ρ _ => Cert.InQkv.Gen.frame m ρ, fun m ρ _ => Cert.InQkvIdeal.Gen.frame m ρ, Cert.Products.InQkv.frame_ref,
  fun m ρ _ => Cert.InZ.Gen.frame m ρ, fun m ρ _ => Cert.InZIdeal.Gen.frame m ρ, Cert.Products.InZ.frame_ref,
  fun m ρ _ => Cert.InXbc.Gen.frame m ρ, fun m ρ _ => Cert.InXbcIdeal.Gen.frame m ρ, Cert.Products.InXbc.frame_ref,
  fun m ρ _ => Cert.InMq.Gen.frame m ρ, fun m ρ _ => Cert.InMqIdeal.Gen.frame m ρ, Cert.Products.InMq.frame_ref,
  fun m ρ _ => Cert.InGl.Gen.frame m ρ, fun m ρ _ => Cert.InGlIdeal.Gen.frame m ρ, Cert.Products.InGl.frame_ref,
  fun m ρ _ => Cert.OutX.Gen.frame m ρ, fun m ρ _ => Cert.OutXIdeal.Gen.frame m ρ, Cert.Products.OutX.frame_ref,
  fun m ρ _ => Cert.OutW.Gen.frame m ρ, fun m ρ _ => Cert.OutWIdeal.Gen.frame m ρ, Cert.Products.OutW.frame_ref,
  fun m ρ _ => Cert.MemOutX.Gen.frame m ρ, fun m ρ _ => Cert.MemOutXIdeal.Gen.frame m ρ, Cert.Products.MemOutX.frame_ref,
  fun m ρ _ => Cert.SsdOutX.Gen.frame m ρ, fun m ρ _ => Cert.SsdOutXIdeal.Gen.frame m ρ, Cert.Products.SsdOutX.frame_ref,
  fun m ρ _ => Cert.SsdOutW.Gen.frame m ρ, fun m ρ _ => Cert.SsdOutWIdeal.Gen.frame m ρ, Cert.Products.SsdOutW.frame_ref,
  fun m ρ _ => Cert.Out.Gen.frame m ρ, fun m ρ _ => Cert.OutIdeal.Gen.frame m ρ, Cert.Products.Out.frame_ref,
  fun m ρ _ => Cert.SsdOut.Gen.frame m ρ, fun m ρ _ => Cert.SsdOutIdeal.Gen.frame m ρ, Cert.Products.SsdOut.frame_ref,
  fun m ρ _ => Cert.MemKvX.Gen.frame m ρ, fun m ρ _ => Cert.MemKvXIdeal.Gen.frame m ρ, Cert.Products.MemKvX.frame_ref,
  fun m ρ _ => Cert.MemKvW.Gen.frame m ρ, fun m ρ _ => Cert.MemKvWIdeal.Gen.frame m ρ, Cert.Products.MemKvW.frame_ref,
  fun m ρ _ => Cert.MemKv.Gen.frame m ρ, fun m ρ _ => Cert.MemKvIdeal.Gen.frame m ρ, Cert.Products.MemKv.frame_ref,
  fun m ρ _ => Cert.InXDt.Gen.frame m ρ, fun m ρ _ => Cert.InXDtIdeal.Gen.frame m ρ, Cert.Products.InXDt.frame_ref,
  fun m ρ _ => Cert.InWDt.Gen.frame m ρ, fun m ρ _ => Cert.InWDtIdeal.Gen.frame m ρ, Cert.Products.InWDt.frame_ref,
  fun m ρ _ => Cert.InDt.Gen.frame m ρ, fun m ρ _ => Cert.InDtIdeal.Gen.frame m ρ, Cert.Products.InDt.frame_ref,
  fun m ρ _ => Cert.MemFwd.Gen.frame m ρ, fun m ρ _ => Cert.MemFwdIdeal.Gen.frame m ρ, Cert.Products.MemFwd.frame_ref,
  frame_fwd, frame_fwdIdeal, frame_fwdIdeal_finite, frame_fwdReferenceIdeal, frame_fwdReferenceIdeal_finite,
  trivial, values, trivial, Cert.Products.DownX.values, trivial, Cert.Products.DownW.values, trivial, Cert.Products.UpX.values, trivial, Cert.Products.UpW.values, trivial, Cert.Products.Up.values, trivial, Cert.Products.Down.values,
  trivial, Cert.Products.InXQkv.values,
  trivial, Cert.Products.InXZ.values,
  trivial, Cert.Products.InXXbc.values,
  trivial, Cert.Products.InXMq.values,
  trivial, Cert.Products.InXGl.values,
  trivial, Cert.Products.InWQkv.values,
  trivial, Cert.Products.InWZ.values,
  trivial, Cert.Products.InWXbc.values,
  trivial, Cert.Products.InWMq.values,
  trivial, Cert.Products.InWGl.values,
  trivial, Cert.Products.InQkv.values,
  trivial, Cert.Products.InZ.values,
  trivial, Cert.Products.InXbc.values,
  trivial, Cert.Products.InMq.values,
  trivial, Cert.Products.InGl.values,
  trivial, Cert.Products.OutX.values,
  trivial, Cert.Products.OutW.values,
  trivial, Cert.Products.MemOutX.values,
  trivial, Cert.Products.SsdOutX.values,
  trivial, Cert.Products.SsdOutW.values,
  trivial, Cert.Products.Out.values,
  trivial, Cert.Products.SsdOut.values,
  trivial, Cert.Products.MemKvX.values,
  trivial, Cert.Products.MemKvW.values,
  trivial, Cert.Products.MemKv.values,
  trivial, Cert.Products.InXDt.values,
  trivial, Cert.Products.InWDt.values,
  trivial, Cert.Products.InDt.values,
  trivial, Cert.Products.MemFwd.values,
  trivial, fwd_values⟩

end Cert.Proof
